-- ==== Defs.lean ====
def Pre_PreBwd (m : (ℓ : Loc Cert.PreBwd.nD Cert.PreBwd.τ Cert.PreBwd.sig) → Buf (Elt Bits) ℓ) : Prop :=
  True

def Pre_PreBwdIdeal (m : (ℓ : Loc Cert.PreBwdIdeal.nD Cert.PreBwdIdeal.τ Cert.PreBwdIdeal.sig) → Buf (Elt Ideal) ℓ) : Prop :=
  True

def Pre_PreBwdIdeal_finite_pre [hPre_finite_pre : Cert.Pre_finite_pre.Facts] (m : (ℓ : Loc Cert.PreBwdIdeal.nD Cert.PreBwdIdeal.τ Cert.PreBwdIdeal.sig) → Buf (Elt Ideal) ℓ) : Prop :=
  ∀ c : Dev Cert.PreBwdIdeal.nD,
    (Cert.Pre_finite_pre.fn (F := Ideal) (m ((c.tc : Thread Cert.PreBwdIdeal.nD Cert.PreBwdIdeal.τ).loc Cert.PreBwdIdeal.main_arg0)) (m ((c.tc : Thread Cert.PreBwdIdeal.nD Cert.PreBwdIdeal.τ).loc Cert.PreBwdIdeal.main_arg1)) (m ((c.tc : Thread Cert.PreBwdIdeal.nD Cert.PreBwdIdeal.τ).loc Cert.PreBwdIdeal.main_arg2)) (m ((c.tc : Thread Cert.PreBwdIdeal.nD Cert.PreBwdIdeal.τ).loc Cert.PreBwdIdeal.main_arg3)) (m ((c.tc : Thread Cert.PreBwdIdeal.nD Cert.PreBwdIdeal.τ).loc Cert.PreBwdIdeal.main_arg4)) (m ((c.tc : Thread Cert.PreBwdIdeal.nD Cert.PreBwdIdeal.τ).loc Cert.PreBwdIdeal.main_arg5))).1 = (fun _ => 1#1)
    ∧ (Cert.Pre_finite_pre.fn (F := Ideal) (m ((c.tc : Thread Cert.PreBwdIdeal.nD Cert.PreBwdIdeal.τ).loc Cert.PreBwdIdeal.main_arg0)) (m ((c.tc : Thread Cert.PreBwdIdeal.nD Cert.PreBwdIdeal.τ).loc Cert.PreBwdIdeal.main_arg1)) (m ((c.tc : Thread Cert.PreBwdIdeal.nD Cert.PreBwdIdeal.τ).loc Cert.PreBwdIdeal.main_arg2)) (m ((c.tc : Thread Cert.PreBwdIdeal.nD Cert.PreBwdIdeal.τ).loc Cert.PreBwdIdeal.main_arg3)) (m ((c.tc : Thread Cert.PreBwdIdeal.nD Cert.PreBwdIdeal.τ).loc Cert.PreBwdIdeal.main_arg4)) (m ((c.tc : Thread Cert.PreBwdIdeal.nD Cert.PreBwdIdeal.τ).loc Cert.PreBwdIdeal.main_arg5))).2.1 = (fun _ => 1#1)
    ∧ (Cert.Pre_finite_pre.fn (F := Ideal) (m ((c.tc : Thread Cert.PreBwdIdeal.nD Cert.PreBwdIdeal.τ).loc Cert.PreBwdIdeal.main_arg0)) (m ((c.tc : Thread Cert.PreBwdIdeal.nD Cert.PreBwdIdeal.τ).loc Cert.PreBwdIdeal.main_arg1)) (m ((c.tc : Thread Cert.PreBwdIdeal.nD Cert.PreBwdIdeal.τ).loc Cert.PreBwdIdeal.main_arg2)) (m ((c.tc : Thread Cert.PreBwdIdeal.nD Cert.PreBwdIdeal.τ).loc Cert.PreBwdIdeal.main_arg3)) (m ((c.tc : Thread Cert.PreBwdIdeal.nD Cert.PreBwdIdeal.τ).loc Cert.PreBwdIdeal.main_arg4)) (m ((c.tc : Thread Cert.PreBwdIdeal.nD Cert.PreBwdIdeal.τ).loc Cert.PreBwdIdeal.main_arg5))).2.2.1 = (fun _ => 1#1)
    ∧ (Cert.Pre_finite_pre.fn (F := Ideal) (m ((c.tc : Thread Cert.PreBwdIdeal.nD Cert.PreBwdIdeal.τ).loc Cert.PreBwdIdeal.main_arg0)) (m ((c.tc : Thread Cert.PreBwdIdeal.nD Cert.PreBwdIdeal.τ).loc Cert.PreBwdIdeal.main_arg1)) (m ((c.tc : Thread Cert.PreBwdIdeal.nD Cert.PreBwdIdeal.τ).loc Cert.PreBwdIdeal.main_arg2)) (m ((c.tc : Thread Cert.PreBwdIdeal.nD Cert.PreBwdIdeal.τ).loc Cert.PreBwdIdeal.main_arg3)) (m ((c.tc : Thread Cert.PreBwdIdeal.nD Cert.PreBwdIdeal.τ).loc Cert.PreBwdIdeal.main_arg4)) (m ((c.tc : Thread Cert.PreBwdIdeal.nD Cert.PreBwdIdeal.τ).loc Cert.PreBwdIdeal.main_arg5))).2.2.2.1 = (fun _ => 1#1)
    ∧ (Cert.Pre_finite_pre.fn (F := Ideal) (m ((c.tc : Thread Cert.PreBwdIdeal.nD Cert.PreBwdIdeal.τ).loc Cert.PreBwdIdeal.main_arg0)) (m ((c.tc : Thread Cert.PreBwdIdeal.nD Cert.PreBwdIdeal.τ).loc Cert.PreBwdIdeal.main_arg1)) (m ((c.tc : Thread Cert.PreBwdIdeal.nD Cert.PreBwdIdeal.τ).loc Cert.PreBwdIdeal.main_arg2)) (m ((c.tc : Thread Cert.PreBwdIdeal.nD Cert.PreBwdIdeal.τ).loc Cert.PreBwdIdeal.main_arg3)) (m ((c.tc : Thread Cert.PreBwdIdeal.nD Cert.PreBwdIdeal.τ).loc Cert.PreBwdIdeal.main_arg4)) (m ((c.tc : Thread Cert.PreBwdIdeal.nD Cert.PreBwdIdeal.τ).loc Cert.PreBwdIdeal.main_arg5))).2.2.2.2 = (fun _ => 1#1)

def Pre_PreRefIdeal (m : (ℓ : Loc Cert.PreRefIdeal.nD Cert.PreRefIdeal.τ Cert.PreRefIdeal.sig) → Buf (Elt Ideal) ℓ) : Prop :=
  True

def Pre_PreRefIdeal_finite_pre [hPre_finite_pre : Cert.Pre_finite_pre.Facts] (m : (ℓ : Loc Cert.PreRefIdeal.nD Cert.PreRefIdeal.τ Cert.PreRefIdeal.sig) → Buf (Elt Ideal) ℓ) : Prop :=
  ∀ c : Dev Cert.PreRefIdeal.nD,
    (Cert.Pre_finite_pre.fn (F := Ideal) (m ((c.tc : Thread Cert.PreRefIdeal.nD Cert.PreRefIdeal.τ).loc Cert.PreRefIdeal.main_arg0)) (m ((c.tc : Thread Cert.PreRefIdeal.nD Cert.PreRefIdeal.τ).loc Cert.PreRefIdeal.main_arg1)) (m ((c.tc : Thread Cert.PreRefIdeal.nD Cert.PreRefIdeal.τ).loc Cert.PreRefIdeal.main_arg2)) (m ((c.tc : Thread Cert.PreRefIdeal.nD Cert.PreRefIdeal.τ).loc Cert.PreRefIdeal.main_arg3)) (m ((c.tc : Thread Cert.PreRefIdeal.nD Cert.PreRefIdeal.τ).loc Cert.PreRefIdeal.main_arg4)) (m ((c.tc : Thread Cert.PreRefIdeal.nD Cert.PreRefIdeal.τ).loc Cert.PreRefIdeal.main_arg5))).1 = (fun _ => 1#1)
    ∧ (Cert.Pre_finite_pre.fn (F := Ideal) (m ((c.tc : Thread Cert.PreRefIdeal.nD Cert.PreRefIdeal.τ).loc Cert.PreRefIdeal.main_arg0)) (m ((c.tc : Thread Cert.PreRefIdeal.nD Cert.PreRefIdeal.τ).loc Cert.PreRefIdeal.main_arg1)) (m ((c.tc : Thread Cert.PreRefIdeal.nD Cert.PreRefIdeal.τ).loc Cert.PreRefIdeal.main_arg2)) (m ((c.tc : Thread Cert.PreRefIdeal.nD Cert.PreRefIdeal.τ).loc Cert.PreRefIdeal.main_arg3)) (m ((c.tc : Thread Cert.PreRefIdeal.nD Cert.PreRefIdeal.τ).loc Cert.PreRefIdeal.main_arg4)) (m ((c.tc : Thread Cert.PreRefIdeal.nD Cert.PreRefIdeal.τ).loc Cert.PreRefIdeal.main_arg5))).2.1 = (fun _ => 1#1)
    ∧ (Cert.Pre_finite_pre.fn (F := Ideal) (m ((c.tc : Thread Cert.PreRefIdeal.nD Cert.PreRefIdeal.τ).loc Cert.PreRefIdeal.main_arg0)) (m ((c.tc : Thread Cert.PreRefIdeal.nD Cert.PreRefIdeal.τ).loc Cert.PreRefIdeal.main_arg1)) (m ((c.tc : Thread Cert.PreRefIdeal.nD Cert.PreRefIdeal.τ).loc Cert.PreRefIdeal.main_arg2)) (m ((c.tc : Thread Cert.PreRefIdeal.nD Cert.PreRefIdeal.τ).loc Cert.PreRefIdeal.main_arg3)) (m ((c.tc : Thread Cert.PreRefIdeal.nD Cert.PreRefIdeal.τ).loc Cert.PreRefIdeal.main_arg4)) (m ((c.tc : Thread Cert.PreRefIdeal.nD Cert.PreRefIdeal.τ).loc Cert.PreRefIdeal.main_arg5))).2.2.1 = (fun _ => 1#1)
    ∧ (Cert.Pre_finite_pre.fn (F := Ideal) (m ((c.tc : Thread Cert.PreRefIdeal.nD Cert.PreRefIdeal.τ).loc Cert.PreRefIdeal.main_arg0)) (m ((c.tc : Thread Cert.PreRefIdeal.nD Cert.PreRefIdeal.τ).loc Cert.PreRefIdeal.main_arg1)) (m ((c.tc : Thread Cert.PreRefIdeal.nD Cert.PreRefIdeal.τ).loc Cert.PreRefIdeal.main_arg2)) (m ((c.tc : Thread Cert.PreRefIdeal.nD Cert.PreRefIdeal.τ).loc Cert.PreRefIdeal.main_arg3)) (m ((c.tc : Thread Cert.PreRefIdeal.nD Cert.PreRefIdeal.τ).loc Cert.PreRefIdeal.main_arg4)) (m ((c.tc : Thread Cert.PreRefIdeal.nD Cert.PreRefIdeal.τ).loc Cert.PreRefIdeal.main_arg5))).2.2.2.1 = (fun _ => 1#1)
    ∧ (Cert.Pre_finite_pre.fn (F := Ideal) (m ((c.tc : Thread Cert.PreRefIdeal.nD Cert.PreRefIdeal.τ).loc Cert.PreRefIdeal.main_arg0)) (m ((c.tc : Thread Cert.PreRefIdeal.nD Cert.PreRefIdeal.τ).loc Cert.PreRefIdeal.main_arg1)) (m ((c.tc : Thread Cert.PreRefIdeal.nD Cert.PreRefIdeal.τ).loc Cert.PreRefIdeal.main_arg2)) (m ((c.tc : Thread Cert.PreRefIdeal.nD Cert.PreRefIdeal.τ).loc Cert.PreRefIdeal.main_arg3)) (m ((c.tc : Thread Cert.PreRefIdeal.nD Cert.PreRefIdeal.τ).loc Cert.PreRefIdeal.main_arg4)) (m ((c.tc : Thread Cert.PreRefIdeal.nD Cert.PreRefIdeal.τ).loc Cert.PreRefIdeal.main_arg5))).2.2.2.2 = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdIdeal_finite_mix [hPre_finite_mix : Cert.Pre_finite_mix.Facts] (m : (ℓ : Loc Cert.MixBwdIdeal.nD Cert.MixBwdIdeal.τ Cert.MixBwdIdeal.sig) → Buf (Elt Ideal) ℓ) : Prop :=
  ∀ c : Dev Cert.MixBwdIdeal.nD,
    (Cert.Pre_finite_mix.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9))).1 = (fun _ => 1#1)
    ∧ (Cert.Pre_finite_mix.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9))).2.1 = (fun _ => 1#1)
    ∧ (Cert.Pre_finite_mix.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9))).2.2.1 = (fun _ => 1#1)
    ∧ (Cert.Pre_finite_mix.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9))).2.2.2.1 = (fun _ => 1#1)
    ∧ (Cert.Pre_finite_mix.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9))).2.2.2.2.1 = (fun _ => 1#1)
    ∧ (Cert.Pre_finite_mix.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9))).2.2.2.2.2.1 = (fun _ => 1#1)
    ∧ (Cert.Pre_finite_mix.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9))).2.2.2.2.2.2.1 = (fun _ => 1#1)
    ∧ (Cert.Pre_finite_mix.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9))).2.2.2.2.2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.2.2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.2.2.2.2.2.2 = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.2.2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.2.2.2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.2.2.2.2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.2.2.2.2.2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.2.2.2.2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.2.2.2.2.2 = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn [hPre_finite_attn : Cert.Pre_finite_attn.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_MlstmBwd (m : (ℓ : Loc Cert.MlstmBwd.nD Cert.MlstmBwd.τ Cert.MlstmBwd.sig) → Buf (Elt Bits) ℓ) : Prop :=
  True

def Pre_MlstmBwdIdeal (m : (ℓ : Loc Cert.MlstmBwdIdeal.nD Cert.MlstmBwdIdeal.τ Cert.MlstmBwdIdeal.sig) → Buf (Elt Ideal) ℓ) : Prop :=
  True

def Pre_MixedFwd (m : (ℓ : Loc Cert.MixedFwd.nD Cert.MixedFwd.τ Cert.MixedFwd.sig) → Buf (Elt Bits) ℓ) : Prop :=
  True

def Pre_MixedFwdIdeal (m : (ℓ : Loc Cert.MixedFwdIdeal.nD Cert.MixedFwdIdeal.τ Cert.MixedFwdIdeal.sig) → Buf (Elt Ideal) ℓ) : Prop :=
  True

def Pre_MixedRefIdeal (m : (ℓ : Loc Cert.MixedRefIdeal.nD Cert.MixedRefIdeal.τ Cert.MixedRefIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_RotFwd (m : (ℓ : Loc Cert.RotFwd.nD Cert.RotFwd.τ Cert.RotFwd.sig) → Buf (Elt Bits) ℓ) : Prop :=
  True

def Pre_RotFwdIdeal (m : (ℓ : Loc Cert.RotFwdIdeal.nD Cert.RotFwdIdeal.τ Cert.RotFwdIdeal.sig) → Buf (Elt Ideal) ℓ) : Prop :=
  True

def Pre_RotRefIdeal (m : (ℓ : Loc Cert.RotRefIdeal.nD Cert.RotRefIdeal.τ Cert.RotRefIdeal.sig) → Buf (Elt Ideal) ℓ) : Prop :=
  True

def quiescent_PreBwd [hPreBwd : Cert.PreBwd.Facts] : Prop :=
  ∀ (m : (ℓ : Loc Cert.PreBwd.nD Cert.PreBwd.τ Cert.PreBwd.sig) → Buf (Elt Bits) ℓ) (g : Dev Cert.PreBwd.nD → PrngReg), Pre_PreBwd m →
    θ_run (Cert.PreBwd.defs (F := Bits)) (onTc (τ := Cert.PreBwd.τ) (Cert.PreBwd.main (F := Bits))) ⟨m, fun _ => 0, g⟩ (fun r => (∀ c : Dev Cert.PreBwd.nD,
      r.2.mem ((c.tc : Thread Cert.PreBwd.nD Cert.PreBwd.τ).loc Cert.PreBwd.main_arg0) = m ((c.tc : Thread Cert.PreBwd.nD Cert.PreBwd.τ).loc Cert.PreBwd.main_arg0)
      ∧ r.2.mem ((c.tc : Thread Cert.PreBwd.nD Cert.PreBwd.τ).loc Cert.PreBwd.main_arg1) = m ((c.tc : Thread Cert.PreBwd.nD Cert.PreBwd.τ).loc Cert.PreBwd.main_arg1)
      ∧ r.2.mem ((c.tc : Thread Cert.PreBwd.nD Cert.PreBwd.τ).loc Cert.PreBwd.main_arg2) = m ((c.tc : Thread Cert.PreBwd.nD Cert.PreBwd.τ).loc Cert.PreBwd.main_arg2)
      ∧ r.2.mem ((c.tc : Thread Cert.PreBwd.nD Cert.PreBwd.τ).loc Cert.PreBwd.main_arg3) = m ((c.tc : Thread Cert.PreBwd.nD Cert.PreBwd.τ).loc Cert.PreBwd.main_arg3)
      ∧ r.2.mem ((c.tc : Thread Cert.PreBwd.nD Cert.PreBwd.τ).loc Cert.PreBwd.main_arg4) = m ((c.tc : Thread Cert.PreBwd.nD Cert.PreBwd.τ).loc Cert.PreBwd.main_arg4)
      ∧ r.2.mem ((c.tc : Thread Cert.PreBwd.nD Cert.PreBwd.τ).loc Cert.PreBwd.main_arg5) = m ((c.tc : Thread Cert.PreBwd.nD Cert.PreBwd.τ).loc Cert.PreBwd.main_arg5))
      ∧ r.2.sem = fun _ => 0)

def quiescent_PreBwdIdeal [hPreBwdIdeal : Cert.PreBwdIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg), Pre_PreBwdIdeal m →
    θ_run (Cert.PreBwdIdeal.defs (F := Ideal)) (onTc (τ := Cert.PreBwdIdeal.τ) (Cert.PreBwdIdeal.main (F := Ideal))) ⟨m, fun _ => 0, g⟩ (fun r => (∀ c : Dev Cert.PreBwdIdeal.nD,
      r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
      ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
      ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
      ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3)
      ∧ r.2.mem ((c.tc : Thread Cert.PreBwdIdeal.nD Cert.PreBwdIdeal.τ).loc Cert.PreBwdIdeal.main_arg4) = m ((c.tc : Thread Cert.PreBwdIdeal.nD Cert.PreBwdIdeal.τ).loc Cert.PreBwdIdeal.main_arg4)
      ∧ r.2.mem ((c.tc : Thread Cert.PreBwdIdeal.nD Cert.PreBwdIdeal.τ).loc Cert.PreBwdIdeal.main_arg5) = m ((c.tc : Thread Cert.PreBwdIdeal.nD Cert.PreBwdIdeal.τ).loc Cert.PreBwdIdeal.main_arg5))
      ∧ r.2.sem = fun _ => 0)

def quiescent_PreBwdIdeal_pre_finite_pre [hPreBwdIdeal : Cert.PreBwdIdeal.Facts] [hPre_finite_pre : Cert.Pre_finite_pre.Facts] : Prop :=
  ∀ (m : (ℓ : Loc Cert.PreBwdIdeal.nD Cert.PreBwdIdeal.τ Cert.PreBwdIdeal.sig) → Buf (Elt Ideal) ℓ) (g : Dev Cert.PreBwdIdeal.nD → PrngReg), Pre_PreBwdIdeal_finite_pre m →
    θ_run (Cert.PreBwdIdeal.defs (F := Ideal)) (onTc (τ := Cert.PreBwdIdeal.τ) (Cert.PreBwdIdeal.main (F := Ideal))) ⟨m, fun _ => 0, g⟩ (fun r => (∀ c : Dev Cert.PreBwdIdeal.nD,
      r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
      ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
      ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
      ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3)
      ∧ r.2.mem ((c.tc : Thread Cert.PreBwdIdeal.nD Cert.PreBwdIdeal.τ).loc Cert.PreBwdIdeal.main_arg4) = m ((c.tc : Thread Cert.PreBwdIdeal.nD Cert.PreBwdIdeal.τ).loc Cert.PreBwdIdeal.main_arg4)
      ∧ r.2.mem ((c.tc : Thread Cert.PreBwdIdeal.nD Cert.PreBwdIdeal.τ).loc Cert.PreBwdIdeal.main_arg5) = m ((c.tc : Thread Cert.PreBwdIdeal.nD Cert.PreBwdIdeal.τ).loc Cert.PreBwdIdeal.main_arg5))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5))
      ∧ r.2.sem = fun _ => 0)

def quiescent_PreRefIdeal_pre_finite_pre [hPreRefIdeal : Cert.PreRefIdeal.Facts] [hPre_finite_pre : Cert.Pre_finite_pre.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal_finite_pre m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8)
      ∧ r.2.mem ((c.tc : Thread Cert.MixBwd.nD Cert.MixBwd.τ).loc Cert.MixBwd.main_arg9) = m ((c.tc : Thread Cert.MixBwd.nD Cert.MixBwd.τ).loc Cert.MixBwd.main_arg9))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9))
      ∧ r.2.sem = fun _ => 0)

def quiescent_MixBwdIdeal_pre_finite_mix [hMixBwdIdeal : Cert.MixBwdIdeal.Facts] [hPre_finite_mix : Cert.Pre_finite_mix.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal_finite_mix m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_finite_attn [hAttnBwdIdeal : Cert.AttnBwdIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_MlstmBwd [hMlstmBwd : Cert.MlstmBwd.Facts] : Prop :=
  ∀ (m : (ℓ : Loc Cert.MlstmBwd.nD Cert.MlstmBwd.τ Cert.MlstmBwd.sig) → Buf (Elt Bits) ℓ) (g : Dev Cert.MlstmBwd.nD → PrngReg), Pre_MlstmBwd m →
    θ_run (Cert.MlstmBwd.defs (F := Bits)) (onTc (τ := Cert.MlstmBwd.τ) (Cert.MlstmBwd.main (F := Bits))) ⟨m, fun _ => 0, g⟩ (fun r => (∀ c : Dev Cert.MlstmBwd.nD,
      r.2.mem ((c.tc : Thread Cert.MlstmBwd.nD Cert.MlstmBwd.τ).loc Cert.MlstmBwd.main_arg0) = m ((c.tc : Thread Cert.MlstmBwd.nD Cert.MlstmBwd.τ).loc Cert.MlstmBwd.main_arg0)
      ∧ r.2.mem ((c.tc : Thread Cert.MlstmBwd.nD Cert.MlstmBwd.τ).loc Cert.MlstmBwd.main_arg1) = m ((c.tc : Thread Cert.MlstmBwd.nD Cert.MlstmBwd.τ).loc Cert.MlstmBwd.main_arg1)
      ∧ r.2.mem ((c.tc : Thread Cert.MlstmBwd.nD Cert.MlstmBwd.τ).loc Cert.MlstmBwd.main_arg2) = m ((c.tc : Thread Cert.MlstmBwd.nD Cert.MlstmBwd.τ).loc Cert.MlstmBwd.main_arg2)
      ∧ r.2.mem ((c.tc : Thread Cert.MlstmBwd.nD Cert.MlstmBwd.τ).loc Cert.MlstmBwd.main_arg3) = m ((c.tc : Thread Cert.MlstmBwd.nD Cert.MlstmBwd.τ).loc Cert.MlstmBwd.main_arg3)
      ∧ r.2.mem ((c.tc : Thread Cert.MlstmBwd.nD Cert.MlstmBwd.τ).loc Cert.MlstmBwd.main_arg4) = m ((c.tc : Thread Cert.MlstmBwd.nD Cert.MlstmBwd.τ).loc Cert.MlstmBwd.main_arg4)
      ∧ r.2.mem ((c.tc : Thread Cert.MlstmBwd.nD Cert.MlstmBwd.τ).loc Cert.MlstmBwd.main_arg5) = m ((c.tc : Thread Cert.MlstmBwd.nD Cert.MlstmBwd.τ).loc Cert.MlstmBwd.main_arg5)
      ∧ r.2.mem ((c.tc : Thread Cert.MlstmBwd.nD Cert.MlstmBwd.τ).loc Cert.MlstmBwd.main_arg6) = m ((c.tc : Thread Cert.MlstmBwd.nD Cert.MlstmBwd.τ).loc Cert.MlstmBwd.main_arg6)
      ∧ r.2.mem ((c.tc : Thread Cert.MlstmBwd.nD Cert.MlstmBwd.τ).loc Cert.MlstmBwd.main_arg7) = m ((c.tc : Thread Cert.MlstmBwd.nD Cert.MlstmBwd.τ).loc Cert.MlstmBwd.main_arg7)
      ∧ r.2.mem ((c.tc : Thread Cert.MlstmBwd.nD Cert.MlstmBwd.τ).loc Cert.MlstmBwd.main_arg8) = m ((c.tc : Thread Cert.MlstmBwd.nD Cert.MlstmBwd.τ).loc Cert.MlstmBwd.main_arg8))
      ∧ r.2.sem = fun _ => 0)

def quiescent_MlstmBwdIdeal [hMlstmBwdIdeal : Cert.MlstmBwdIdeal.Facts] : Prop :=
  ∀ (m : (ℓ : Loc Cert.MlstmBwdIdeal.nD Cert.MlstmBwdIdeal.τ Cert.MlstmBwdIdeal.sig) → Buf (Elt Ideal) ℓ) (g : Dev Cert.MlstmBwdIdeal.nD → PrngReg), Pre_MlstmBwdIdeal m →
    θ_run (Cert.MlstmBwdIdeal.defs (F := Ideal)) (onTc (τ := Cert.MlstmBwdIdeal.τ) (Cert.MlstmBwdIdeal.main (F := Ideal))) ⟨m, fun _ => 0, g⟩ (fun r => (∀ c : Dev Cert.MlstmBwdIdeal.nD,
      r.2.mem ((c.tc : Thread Cert.MlstmBwdIdeal.nD Cert.MlstmBwdIdeal.τ).loc Cert.MlstmBwdIdeal.main_arg0) = m ((c.tc : Thread Cert.MlstmBwdIdeal.nD Cert.MlstmBwdIdeal.τ).loc Cert.MlstmBwdIdeal.main_arg0)
      ∧ r.2.mem ((c.tc : Thread Cert.MlstmBwdIdeal.nD Cert.MlstmBwdIdeal.τ).loc Cert.MlstmBwdIdeal.main_arg1) = m ((c.tc : Thread Cert.MlstmBwdIdeal.nD Cert.MlstmBwdIdeal.τ).loc Cert.MlstmBwdIdeal.main_arg1)
      ∧ r.2.mem ((c.tc : Thread Cert.MlstmBwdIdeal.nD Cert.MlstmBwdIdeal.τ).loc Cert.MlstmBwdIdeal.main_arg2) = m ((c.tc : Thread Cert.MlstmBwdIdeal.nD Cert.MlstmBwdIdeal.τ).loc Cert.MlstmBwdIdeal.main_arg2)
      ∧ r.2.mem ((c.tc : Thread Cert.MlstmBwdIdeal.nD Cert.MlstmBwdIdeal.τ).loc Cert.MlstmBwdIdeal.main_arg3) = m ((c.tc : Thread Cert.MlstmBwdIdeal.nD Cert.MlstmBwdIdeal.τ).loc Cert.MlstmBwdIdeal.main_arg3)
      ∧ r.2.mem ((c.tc : Thread Cert.MlstmBwdIdeal.nD Cert.MlstmBwdIdeal.τ).loc Cert.MlstmBwdIdeal.main_arg4) = m ((c.tc : Thread Cert.MlstmBwdIdeal.nD Cert.MlstmBwdIdeal.τ).loc Cert.MlstmBwdIdeal.main_arg4)
      ∧ r.2.mem ((c.tc : Thread Cert.MlstmBwdIdeal.nD Cert.MlstmBwdIdeal.τ).loc Cert.MlstmBwdIdeal.main_arg5) = m ((c.tc : Thread Cert.MlstmBwdIdeal.nD Cert.MlstmBwdIdeal.τ).loc Cert.MlstmBwdIdeal.main_arg5)
      ∧ r.2.mem ((c.tc : Thread Cert.MlstmBwdIdeal.nD Cert.MlstmBwdIdeal.τ).loc Cert.MlstmBwdIdeal.main_arg6) = m ((c.tc : Thread Cert.MlstmBwdIdeal.nD Cert.MlstmBwdIdeal.τ).loc Cert.MlstmBwdIdeal.main_arg6)
      ∧ r.2.mem ((c.tc : Thread Cert.MlstmBwdIdeal.nD Cert.MlstmBwdIdeal.τ).loc Cert.MlstmBwdIdeal.main_arg7) = m ((c.tc : Thread Cert.MlstmBwdIdeal.nD Cert.MlstmBwdIdeal.τ).loc Cert.MlstmBwdIdeal.main_arg7)
      ∧ r.2.mem ((c.tc : Thread Cert.MlstmBwdIdeal.nD Cert.MlstmBwdIdeal.τ).loc Cert.MlstmBwdIdeal.main_arg8) = m ((c.tc : Thread Cert.MlstmBwdIdeal.nD Cert.MlstmBwdIdeal.τ).loc Cert.MlstmBwdIdeal.main_arg8))
      ∧ r.2.sem = fun _ => 0)

def quiescent_MixedFwd [hMixedFwd : Cert.MixedFwd.Facts] : Prop :=
  ∀ (m : (ℓ : Loc Cert.MixedFwd.nD Cert.MixedFwd.τ Cert.MixedFwd.sig) → Buf (Elt Bits) ℓ) (g : Dev Cert.MixedFwd.nD → PrngReg), Pre_MixedFwd m →
    θ_run (Cert.MixedFwd.defs (F := Bits)) (onTc (τ := Cert.MixedFwd.τ) (Cert.MixedFwd.main (F := Bits))) ⟨m, fun _ => 0, g⟩ (fun r => (∀ c : Dev Cert.MixedFwd.nD,
      r.2.mem ((c.tc : Thread Cert.MixedFwd.nD Cert.MixedFwd.τ).loc Cert.MixedFwd.main_arg0) = m ((c.tc : Thread Cert.MixedFwd.nD Cert.MixedFwd.τ).loc Cert.MixedFwd.main_arg0)
      ∧ r.2.mem ((c.tc : Thread Cert.MixedFwd.nD Cert.MixedFwd.τ).loc Cert.MixedFwd.main_arg1) = m ((c.tc : Thread Cert.MixedFwd.nD Cert.MixedFwd.τ).loc Cert.MixedFwd.main_arg1)
      ∧ r.2.mem ((c.tc : Thread Cert.MixedFwd.nD Cert.MixedFwd.τ).loc Cert.MixedFwd.main_arg2) = m ((c.tc : Thread Cert.MixedFwd.nD Cert.MixedFwd.τ).loc Cert.MixedFwd.main_arg2)
      ∧ r.2.mem ((c.tc : Thread Cert.MixedFwd.nD Cert.MixedFwd.τ).loc Cert.MixedFwd.main_arg3) = m ((c.tc : Thread Cert.MixedFwd.nD Cert.MixedFwd.τ).loc Cert.MixedFwd.main_arg3)
      ∧ r.2.mem ((c.tc : Thread Cert.MixedFwd.nD Cert.MixedFwd.τ).loc Cert.MixedFwd.main_arg4) = m ((c.tc : Thread Cert.MixedFwd.nD Cert.MixedFwd.τ).loc Cert.MixedFwd.main_arg4)
      ∧ r.2.mem ((c.tc : Thread Cert.MixedFwd.nD Cert.MixedFwd.τ).loc Cert.MixedFwd.main_arg5) = m ((c.tc : Thread Cert.MixedFwd.nD Cert.MixedFwd.τ).loc Cert.MixedFwd.main_arg5)
      ∧ r.2.mem ((c.tc : Thread Cert.MixedFwd.nD Cert.MixedFwd.τ).loc Cert.MixedFwd.main_arg6) = m ((c.tc : Thread Cert.MixedFwd.nD Cert.MixedFwd.τ).loc Cert.MixedFwd.main_arg6)
      ∧ r.2.mem ((c.tc : Thread Cert.MixedFwd.nD Cert.MixedFwd.τ).loc Cert.MixedFwd.main_arg7) = m ((c.tc : Thread Cert.MixedFwd.nD Cert.MixedFwd.τ).loc Cert.MixedFwd.main_arg7)
      ∧ r.2.mem ((c.tc : Thread Cert.MixedFwd.nD Cert.MixedFwd.τ).loc Cert.MixedFwd.main_arg8) = m ((c.tc : Thread Cert.MixedFwd.nD Cert.MixedFwd.τ).loc Cert.MixedFwd.main_arg8))
      ∧ r.2.sem = fun _ => 0)

def quiescent_MixedFwdIdeal [hMixedFwdIdeal : Cert.MixedFwdIdeal.Facts] : Prop :=
  ∀ (m : (ℓ : Loc Cert.MixedFwdIdeal.nD Cert.MixedFwdIdeal.τ Cert.MixedFwdIdeal.sig) → Buf (Elt Ideal) ℓ) (g : Dev Cert.MixedFwdIdeal.nD → PrngReg), Pre_MixedFwdIdeal m →
    θ_run (Cert.MixedFwdIdeal.defs (F := Ideal)) (onTc (τ := Cert.MixedFwdIdeal.τ) (Cert.MixedFwdIdeal.main (F := Ideal))) ⟨m, fun _ => 0, g⟩ (fun r => (∀ c : Dev Cert.MixedFwdIdeal.nD,
      r.2.mem ((c.tc : Thread Cert.MixedFwdIdeal.nD Cert.MixedFwdIdeal.τ).loc Cert.MixedFwdIdeal.main_arg0) = m ((c.tc : Thread Cert.MixedFwdIdeal.nD Cert.MixedFwdIdeal.τ).loc Cert.MixedFwdIdeal.main_arg0)
      ∧ r.2.mem ((c.tc : Thread Cert.MixedFwdIdeal.nD Cert.MixedFwdIdeal.τ).loc Cert.MixedFwdIdeal.main_arg1) = m ((c.tc : Thread Cert.MixedFwdIdeal.nD Cert.MixedFwdIdeal.τ).loc Cert.MixedFwdIdeal.main_arg1)
      ∧ r.2.mem ((c.tc : Thread Cert.MixedFwdIdeal.nD Cert.MixedFwdIdeal.τ).loc Cert.MixedFwdIdeal.main_arg2) = m ((c.tc : Thread Cert.MixedFwdIdeal.nD Cert.MixedFwdIdeal.τ).loc Cert.MixedFwdIdeal.main_arg2)
      ∧ r.2.mem ((c.tc : Thread Cert.MixedFwdIdeal.nD Cert.MixedFwdIdeal.τ).loc Cert.MixedFwdIdeal.main_arg3) = m ((c.tc : Thread Cert.MixedFwdIdeal.nD Cert.MixedFwdIdeal.τ).loc Cert.MixedFwdIdeal.main_arg3)
      ∧ r.2.mem ((c.tc : Thread Cert.MixedFwdIdeal.nD Cert.MixedFwdIdeal.τ).loc Cert.MixedFwdIdeal.main_arg4) = m ((c.tc : Thread Cert.MixedFwdIdeal.nD Cert.MixedFwdIdeal.τ).loc Cert.MixedFwdIdeal.main_arg4)
      ∧ r.2.mem ((c.tc : Thread Cert.MixedFwdIdeal.nD Cert.MixedFwdIdeal.τ).loc Cert.MixedFwdIdeal.main_arg5) = m ((c.tc : Thread Cert.MixedFwdIdeal.nD Cert.MixedFwdIdeal.τ).loc Cert.MixedFwdIdeal.main_arg5)
      ∧ r.2.mem ((c.tc : Thread Cert.MixedFwdIdeal.nD Cert.MixedFwdIdeal.τ).loc Cert.MixedFwdIdeal.main_arg6) = m ((c.tc : Thread Cert.MixedFwdIdeal.nD Cert.MixedFwdIdeal.τ).loc Cert.MixedFwdIdeal.main_arg6)
      ∧ r.2.mem ((c.tc : Thread Cert.MixedFwdIdeal.nD Cert.MixedFwdIdeal.τ).loc Cert.MixedFwdIdeal.main_arg7) = m ((c.tc : Thread Cert.MixedFwdIdeal.nD Cert.MixedFwdIdeal.τ).loc Cert.MixedFwdIdeal.main_arg7)
      ∧ r.2.mem ((c.tc : Thread Cert.MixedFwdIdeal.nD Cert.MixedFwdIdeal.τ).loc Cert.MixedFwdIdeal.main_arg8) = m ((c.tc : Thread Cert.MixedFwdIdeal.nD Cert.MixedFwdIdeal.τ).loc Cert.MixedFwdIdeal.main_arg8))
      ∧ r.2.sem = fun _ => 0)

def quiescent_MixedRefIdeal [hMixedRefIdeal : Cert.MixedRefIdeal.Facts] : Prop :=
  ∀ (m : (ℓ : Loc Cert.MixedRefIdeal.nD Cert.MixedRefIdeal.τ Cert.MixedRefIdeal.sig) → Buf (Elt Ideal) ℓ) (g : Dev Cert.MixedRefIdeal.nD → PrngReg), Pre_MixedRefIdeal m →
    θ_run (Cert.MixedRefIdeal.defs (F := Ideal)) (onTc (τ := Cert.MixedRefIdeal.τ) (Cert.MixedRefIdeal.main (F := Ideal))) ⟨m, fun _ => 0, g⟩ (fun r => (∀ c : Dev Cert.MixedRefIdeal.nD,
      r.2.mem ((c.tc : Thread Cert.MixedRefIdeal.nD Cert.MixedRefIdeal.τ).loc Cert.MixedRefIdeal.main_arg0) = m ((c.tc : Thread Cert.MixedRefIdeal.nD Cert.MixedRefIdeal.τ).loc Cert.MixedRefIdeal.main_arg0)
      ∧ r.2.mem ((c.tc : Thread Cert.MixedRefIdeal.nD Cert.MixedRefIdeal.τ).loc Cert.MixedRefIdeal.main_arg1) = m ((c.tc : Thread Cert.MixedRefIdeal.nD Cert.MixedRefIdeal.τ).loc Cert.MixedRefIdeal.main_arg1)
      ∧ r.2.mem ((c.tc : Thread Cert.MixedRefIdeal.nD Cert.MixedRefIdeal.τ).loc Cert.MixedRefIdeal.main_arg2) = m ((c.tc : Thread Cert.MixedRefIdeal.nD Cert.MixedRefIdeal.τ).loc Cert.MixedRefIdeal.main_arg2)
      ∧ r.2.mem ((c.tc : Thread Cert.MixedRefIdeal.nD Cert.MixedRefIdeal.τ).loc Cert.MixedRefIdeal.main_arg3) = m ((c.tc : Thread Cert.MixedRefIdeal.nD Cert.MixedRefIdeal.τ).loc Cert.MixedRefIdeal.main_arg3)
      ∧ r.2.mem ((c.tc : Thread Cert.MixedRefIdeal.nD Cert.MixedRefIdeal.τ).loc Cert.MixedRefIdeal.main_arg4) = m ((c.tc : Thread Cert.MixedRefIdeal.nD Cert.MixedRefIdeal.τ).loc Cert.MixedRefIdeal.main_arg4)
      ∧ r.2.mem ((c.tc : Thread Cert.MixedRefIdeal.nD Cert.MixedRefIdeal.τ).loc Cert.MixedRefIdeal.main_arg5) = m ((c.tc : Thread Cert.MixedRefIdeal.nD Cert.MixedRefIdeal.τ).loc Cert.MixedRefIdeal.main_arg5)
      ∧ r.2.mem ((c.tc : Thread Cert.MixedRefIdeal.nD Cert.MixedRefIdeal.τ).loc Cert.MixedRefIdeal.main_arg6) = m ((c.tc : Thread Cert.MixedRefIdeal.nD Cert.MixedRefIdeal.τ).loc Cert.MixedRefIdeal.main_arg6)
      ∧ r.2.mem ((c.tc : Thread Cert.MixedRefIdeal.nD Cert.MixedRefIdeal.τ).loc Cert.MixedRefIdeal.main_arg7) = m ((c.tc : Thread Cert.MixedRefIdeal.nD Cert.MixedRefIdeal.τ).loc Cert.MixedRefIdeal.main_arg7)
      ∧ r.2.mem ((c.tc : Thread Cert.MixedRefIdeal.nD Cert.MixedRefIdeal.τ).loc Cert.MixedRefIdeal.main_arg8) = m ((c.tc : Thread Cert.MixedRefIdeal.nD Cert.MixedRefIdeal.τ).loc Cert.MixedRefIdeal.main_arg8))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2)
      ∧ r.2.mem ((c.tc : Thread Cert.ProjFwd.nD Cert.ProjFwd.τ).loc Cert.ProjFwd.main_arg3) = m ((c.tc : Thread Cert.ProjFwd.nD Cert.ProjFwd.τ).loc Cert.ProjFwd.main_arg3))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
      ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_RotFwd [hRotFwd : Cert.RotFwd.Facts] : Prop :=
  ∀ (m : (ℓ : Loc Cert.RotFwd.nD Cert.RotFwd.τ Cert.RotFwd.sig) → Buf (Elt Bits) ℓ) (g : Dev Cert.RotFwd.nD → PrngReg), Pre_RotFwd m →
    θ_run (Cert.RotFwd.defs (F := Bits)) (onTc (τ := Cert.RotFwd.τ) (Cert.RotFwd.main (F := Bits))) ⟨m, fun _ => 0, g⟩ (fun r => (∀ c : Dev Cert.RotFwd.nD,
      r.2.mem ((c.tc : Thread Cert.RotFwd.nD Cert.RotFwd.τ).loc Cert.RotFwd.main_arg0) = m ((c.tc : Thread Cert.RotFwd.nD Cert.RotFwd.τ).loc Cert.RotFwd.main_arg0)
      ∧ r.2.mem ((c.tc : Thread Cert.RotFwd.nD Cert.RotFwd.τ).loc Cert.RotFwd.main_arg1) = m ((c.tc : Thread Cert.RotFwd.nD Cert.RotFwd.τ).loc Cert.RotFwd.main_arg1)
      ∧ r.2.mem ((c.tc : Thread Cert.RotFwd.nD Cert.RotFwd.τ).loc Cert.RotFwd.main_arg2) = m ((c.tc : Thread Cert.RotFwd.nD Cert.RotFwd.τ).loc Cert.RotFwd.main_arg2))
      ∧ r.2.sem = fun _ => 0)

def quiescent_RotFwdIdeal [hRotFwdIdeal : Cert.RotFwdIdeal.Facts] : Prop :=
  ∀ (m : (ℓ : Loc Cert.RotFwdIdeal.nD Cert.RotFwdIdeal.τ Cert.RotFwdIdeal.sig) → Buf (Elt Ideal) ℓ) (g : Dev Cert.RotFwdIdeal.nD → PrngReg), Pre_RotFwdIdeal m →
    θ_run (Cert.RotFwdIdeal.defs (F := Ideal)) (onTc (τ := Cert.RotFwdIdeal.τ) (Cert.RotFwdIdeal.main (F := Ideal))) ⟨m, fun _ => 0, g⟩ (fun r => (∀ c : Dev Cert.RotFwdIdeal.nD,
      r.2.mem ((c.tc : Thread Cert.RotFwdIdeal.nD Cert.RotFwdIdeal.τ).loc Cert.RotFwdIdeal.main_arg0) = m ((c.tc : Thread Cert.RotFwdIdeal.nD Cert.RotFwdIdeal.τ).loc Cert.RotFwdIdeal.main_arg0)
      ∧ r.2.mem ((c.tc : Thread Cert.RotFwdIdeal.nD Cert.RotFwdIdeal.τ).loc Cert.RotFwdIdeal.main_arg1) = m ((c.tc : Thread Cert.RotFwdIdeal.nD Cert.RotFwdIdeal.τ).loc Cert.RotFwdIdeal.main_arg1)
      ∧ r.2.mem ((c.tc : Thread Cert.RotFwdIdeal.nD Cert.RotFwdIdeal.τ).loc Cert.RotFwdIdeal.main_arg2) = m ((c.tc : Thread Cert.RotFwdIdeal.nD Cert.RotFwdIdeal.τ).loc Cert.RotFwdIdeal.main_arg2))
      ∧ r.2.sem = fun _ => 0)

def quiescent_RotRefIdeal [hRotRefIdeal : Cert.RotRefIdeal.Facts] : Prop :=
  ∀ (m : (ℓ : Loc Cert.RotRefIdeal.nD Cert.RotRefIdeal.τ Cert.RotRefIdeal.sig) → Buf (Elt Ideal) ℓ) (g : Dev Cert.RotRefIdeal.nD → PrngReg), Pre_RotRefIdeal m →
    θ_run (Cert.RotRefIdeal.defs (F := Ideal)) (onTc (τ := Cert.RotRefIdeal.τ) (Cert.RotRefIdeal.main (F := Ideal))) ⟨m, fun _ => 0, g⟩ (fun r => (∀ c : Dev Cert.RotRefIdeal.nD,
      r.2.mem ((c.tc : Thread Cert.RotRefIdeal.nD Cert.RotRefIdeal.τ).loc Cert.RotRefIdeal.main_arg0) = m ((c.tc : Thread Cert.RotRefIdeal.nD Cert.RotRefIdeal.τ).loc Cert.RotRefIdeal.main_arg0)
      ∧ r.2.mem ((c.tc : Thread Cert.RotRefIdeal.nD Cert.RotRefIdeal.τ).loc Cert.RotRefIdeal.main_arg1) = m ((c.tc : Thread Cert.RotRefIdeal.nD Cert.RotRefIdeal.τ).loc Cert.RotRefIdeal.main_arg1)
      ∧ r.2.mem ((c.tc : Thread Cert.RotRefIdeal.nD Cert.RotRefIdeal.τ).loc Cert.RotRefIdeal.main_arg2) = m ((c.tc : Thread Cert.RotRefIdeal.nD Cert.RotRefIdeal.τ).loc Cert.RotRefIdeal.main_arg2))
      ∧ r.2.sem = fun _ => 0)

def preserves_PreBwd_PreBwdIdeal : Prop :=
  True

def algebraic_PreBwdIdeal_PreRefIdeal_pre_finite_pre [hPreBwdIdeal : Cert.PreBwdIdeal.Facts] [hPreRefIdeal : Cert.PreRefIdeal.Facts] [hPre_finite_pre : Cert.Pre_finite_pre.Facts] : Prop :=
  ∀ (m : (ℓ : Loc Cert.PreBwdIdeal.nD Cert.PreBwdIdeal.τ Cert.PreBwdIdeal.sig) → Buf (Elt Ideal) ℓ) (g : Dev Cert.PreBwdIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreBwdIdeal_finite_pre m →
    (∀ c : Dev Cert.PreBwdIdeal.nD,
      m' ((c.tc : Thread Cert.PreRefIdeal.nD Cert.PreRefIdeal.τ).loc Cert.PreRefIdeal.main_arg0) = m ((c.tc : Thread Cert.PreBwdIdeal.nD Cert.PreBwdIdeal.τ).loc Cert.PreBwdIdeal.main_arg0)
      ∧ m' ((c.tc : Thread Cert.PreRefIdeal.nD Cert.PreRefIdeal.τ).loc Cert.PreRefIdeal.main_arg1) = m ((c.tc : Thread Cert.PreBwdIdeal.nD Cert.PreBwdIdeal.τ).loc Cert.PreBwdIdeal.main_arg1)
      ∧ m' ((c.tc : Thread Cert.PreRefIdeal.nD Cert.PreRefIdeal.τ).loc Cert.PreRefIdeal.main_arg2) = m ((c.tc : Thread Cert.PreBwdIdeal.nD Cert.PreBwdIdeal.τ).loc Cert.PreBwdIdeal.main_arg2)
      ∧ m' ((c.tc : Thread Cert.PreRefIdeal.nD Cert.PreRefIdeal.τ).loc Cert.PreRefIdeal.main_arg3) = m ((c.tc : Thread Cert.PreBwdIdeal.nD Cert.PreBwdIdeal.τ).loc Cert.PreBwdIdeal.main_arg3)
      ∧ m' ((c.tc : Thread Cert.PreRefIdeal.nD Cert.PreRefIdeal.τ).loc Cert.PreRefIdeal.main_arg4) = m ((c.tc : Thread Cert.PreBwdIdeal.nD Cert.PreBwdIdeal.τ).loc Cert.PreBwdIdeal.main_arg4)
      ∧ m' ((c.tc : Thread Cert.PreRefIdeal.nD Cert.PreRefIdeal.τ).loc Cert.PreRefIdeal.main_arg5) = m ((c.tc : Thread Cert.PreBwdIdeal.nD Cert.PreBwdIdeal.τ).loc Cert.PreBwdIdeal.main_arg5)) →
    ∃ (v0 : (c : Dev Cert.PreBwdIdeal.nD) → Buf (Elt Ideal) ((c.tc : Thread Cert.PreBwdIdeal.nD Cert.PreBwdIdeal.τ).loc Cert.PreBwdIdeal.main_v16_0)) (v1 : (c : Dev Cert.PreBwdIdeal.nD) → Buf (Elt Ideal) ((c.tc : Thread Cert.PreBwdIdeal.nD Cert.PreBwdIdeal.τ).loc Cert.PreBwdIdeal.main_v16_1)),
      θ_run (Cert.PreBwdIdeal.defs (F := Ideal)) (onTc (τ := Cert.PreBwdIdeal.τ) (Cert.PreBwdIdeal.main (F := Ideal))) ⟨m, fun _ => 0, g⟩ (fun r => ∀ c : Dev Cert.PreBwdIdeal.nD,
          r.2.mem ((c.tc : Thread Cert.PreBwdIdeal.nD Cert.PreBwdIdeal.τ).loc Cert.PreBwdIdeal.main_v16_0) = v0 c
          ∧ r.2.mem ((c.tc : Thread Cert.PreBwdIdeal.nD Cert.PreBwdIdeal.τ).loc Cert.PreBwdIdeal.main_v16_1) = v1 c
          ∧ r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
          ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
          ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
          ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3)
          ∧ r.2.mem ((c.tc : Thread Cert.PreBwdIdeal.nD Cert.PreBwdIdeal.τ).loc Cert.PreBwdIdeal.main_arg4) = m ((c.tc : Thread Cert.PreBwdIdeal.nD Cert.PreBwdIdeal.τ).loc Cert.PreBwdIdeal.main_arg4)
          ∧ r.2.mem ((c.tc : Thread Cert.PreBwdIdeal.nD Cert.PreBwdIdeal.τ).loc Cert.PreBwdIdeal.main_arg5) = m ((c.tc : Thread Cert.PreBwdIdeal.nD Cert.PreBwdIdeal.τ).loc Cert.PreBwdIdeal.main_arg5))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v61) = v0 c
          ∧ r.2.mem ((c.tc : Thread Cert.PreRefIdeal.nD Cert.PreRefIdeal.τ).loc Cert.PreRefIdeal.main_v66) = v1 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4)
          ∧ r.2.mem ((c.tc : Thread Cert.PreRefIdeal.nD Cert.PreRefIdeal.τ).loc Cert.PreRefIdeal.main_arg5) = m' ((c.tc : Thread Cert.PreRefIdeal.nD Cert.PreRefIdeal.τ).loc Cert.PreRefIdeal.main_arg5))

def preserves_MixBwd_MixBwdIdeal : Prop :=
  True

def algebraic_MixBwdIdeal_MixRefIdeal_pre_finite_mix [hMixBwdIdeal : Cert.MixBwdIdeal.Facts] [hMixRefIdeal : Cert.MixRefIdeal.Facts] [hPre_finite_mix : Cert.Pre_finite_mix.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixBwdIdeal_finite_mix m →
    (∀ c : Dev Cert.MixBwdIdeal.nD,
      m' ((c.tc : Thread Cert.MixRefIdeal.nD Cert.MixRefIdeal.τ).loc Cert.MixRefIdeal.main_arg0) = m ((c.tc : Thread Cert.MixBwdIdeal.nD Cert.MixBwdIdeal.τ).loc Cert.MixBwdIdeal.main_arg0)
      ∧ m' ((c.tc : Thread Cert.MixRefIdeal.nD Cert.MixRefIdeal.τ).loc Cert.MixRefIdeal.main_arg1) = m ((c.tc : Thread Cert.MixBwdIdeal.nD Cert.MixBwdIdeal.τ).loc Cert.MixBwdIdeal.main_arg1)
      ∧ m' ((c.tc : Thread Cert.MixRefIdeal.nD Cert.MixRefIdeal.τ).loc Cert.MixRefIdeal.main_arg2) = m ((c.tc : Thread Cert.MixBwdIdeal.nD Cert.MixBwdIdeal.τ).loc Cert.MixBwdIdeal.main_arg2)
      ∧ m' ((c.tc : Thread Cert.MixRefIdeal.nD Cert.MixRefIdeal.τ).loc Cert.MixRefIdeal.main_arg3) = m ((c.tc : Thread Cert.MixBwdIdeal.nD Cert.MixBwdIdeal.τ).loc Cert.MixBwdIdeal.main_arg3)
      ∧ m' ((c.tc : Thread Cert.MixRefIdeal.nD Cert.MixRefIdeal.τ).loc Cert.MixRefIdeal.main_arg4) = m ((c.tc : Thread Cert.MixBwdIdeal.nD Cert.MixBwdIdeal.τ).loc Cert.MixBwdIdeal.main_arg4)
      ∧ m' ((c.tc : Thread Cert.MixRefIdeal.nD Cert.MixRefIdeal.τ).loc Cert.MixRefIdeal.main_arg5) = m ((c.tc : Thread Cert.MixBwdIdeal.nD Cert.MixBwdIdeal.τ).loc Cert.MixBwdIdeal.main_arg5)
      ∧ m' ((c.tc : Thread Cert.MixRefIdeal.nD Cert.MixRefIdeal.τ).loc Cert.MixRefIdeal.main_arg6) = m ((c.tc : Thread Cert.MixBwdIdeal.nD Cert.MixBwdIdeal.τ).loc Cert.MixBwdIdeal.main_arg6)
      ∧ m' ((c.tc : Thread Cert.MixRefIdeal.nD Cert.MixRefIdeal.τ).loc Cert.MixRefIdeal.main_arg7) = m ((c.tc : Thread Cert.MixBwdIdeal.nD Cert.MixBwdIdeal.τ).loc Cert.MixBwdIdeal.main_arg7)
      ∧ m' ((c.tc : Thread Cert.MixRefIdeal.nD Cert.MixRefIdeal.τ).loc Cert.MixRefIdeal.main_arg8) = m ((c.tc : Thread Cert.MixBwdIdeal.nD Cert.MixBwdIdeal.τ).loc Cert.MixBwdIdeal.main_arg8)
      ∧ m' ((c.tc : Thread Cert.MixRefIdeal.nD Cert.MixRefIdeal.τ).loc Cert.MixRefIdeal.main_arg9) = m ((c.tc : Thread Cert.MixBwdIdeal.nD Cert.MixBwdIdeal.τ).loc Cert.MixBwdIdeal.main_arg9)) →
    ∃ (v0 : (c : Dev Cert.MixBwdIdeal.nD) → Buf (Elt Ideal) ((c.tc : Thread Cert.MixBwdIdeal.nD Cert.MixBwdIdeal.τ).loc Cert.MixBwdIdeal.main_v10_0)) (v1 : (c : Dev Cert.MixBwdIdeal.nD) → Buf (Elt Ideal) ((c.tc : Thread Cert.MixBwdIdeal.nD Cert.MixBwdIdeal.τ).loc Cert.MixBwdIdeal.main_v10_1)) (v2 : (c : Dev Cert.MixBwdIdeal.nD) → Buf (Elt Ideal) ((c.tc : Thread Cert.MixBwdIdeal.nD Cert.MixBwdIdeal.τ).loc Cert.MixBwdIdeal.main_v10_2)) (v3 : (c : Dev Cert.MixBwdIdeal.nD) → Buf (Elt Ideal) ((c.tc : Thread Cert.MixBwdIdeal.nD Cert.MixBwdIdeal.τ).loc Cert.MixBwdIdeal.main_v10_3)) (v4 : (c : Dev Cert.MixBwdIdeal.nD) → Buf (Elt Ideal) ((c.tc : Thread Cert.MixBwdIdeal.nD Cert.MixBwdIdeal.τ).loc Cert.MixBwdIdeal.main_v10_4)) (v5 : (c : Dev Cert.MixBwdIdeal.nD) → Buf (Elt Ideal) ((c.tc : Thread Cert.MixBwdIdeal.nD Cert.MixBwdIdeal.τ).loc Cert.MixBwdIdeal.main_v10_5)) (v6 : (c : Dev Cert.MixBwdIdeal.nD) → Buf (Elt Ideal) ((c.tc : Thread Cert.MixBwdIdeal.nD Cert.MixBwdIdeal.τ).loc Cert.MixBwdIdeal.main_v10_6)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v10_0) = v0 c
          ∧ r.2.mem ((c.tc : Thread Cert.MixBwdIdeal.nD Cert.MixBwdIdeal.τ).loc Cert.MixBwdIdeal.main_v10_1) = v1 c
          ∧ r.2.mem ((c.tc : Thread Cert.MixBwdIdeal.nD Cert.MixBwdIdeal.τ).loc Cert.MixBwdIdeal.main_v10_2) = v2 c
          ∧ r.2.mem ((c.tc : Thread Cert.MixBwdIdeal.nD Cert.MixBwdIdeal.τ).loc Cert.MixBwdIdeal.main_v10_3) = v3 c
          ∧ r.2.mem ((c.tc : Thread Cert.MixBwdIdeal.nD Cert.MixBwdIdeal.τ).loc Cert.MixBwdIdeal.main_v10_4) = v4 c
          ∧ r.2.mem ((c.tc : Thread Cert.MixBwdIdeal.nD Cert.MixBwdIdeal.τ).loc Cert.MixBwdIdeal.main_v10_5) = v5 c
          ∧ r.2.mem ((c.tc : Thread Cert.MixBwdIdeal.nD Cert.MixBwdIdeal.τ).loc Cert.MixBwdIdeal.main_v10_6) = v6 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
          ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
          ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v93) = v0 c
          ∧ r.2.mem ((c.tc : Thread Cert.MixRefIdeal.nD Cert.MixRefIdeal.τ).loc Cert.MixRefIdeal.main_v94) = v1 c
          ∧ r.2.mem ((c.tc : Thread Cert.MixRefIdeal.nD Cert.MixRefIdeal.τ).loc Cert.MixRefIdeal.main_v95) = v2 c
          ∧ r.2.mem ((c.tc : Thread Cert.MixRefIdeal.nD Cert.MixRefIdeal.τ).loc Cert.MixRefIdeal.main_v97) = v3 c
          ∧ r.2.mem ((c.tc : Thread Cert.MixRefIdeal.nD Cert.MixRefIdeal.τ).loc Cert.MixRefIdeal.main_v98) = v4 c
          ∧ r.2.mem ((c.tc : Thread Cert.MixRefIdeal.nD Cert.MixRefIdeal.τ).loc Cert.MixRefIdeal.main_v87) = v5 c
          ∧ r.2.mem ((c.tc : Thread Cert.MixRefIdeal.nD Cert.MixRefIdeal.τ).loc Cert.MixRefIdeal.main_v92) = v6 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_FfnBwd_FfnBwdIdeal : Prop :=
  True

def algebraic_FfnBwdIdeal_FfnRefIdeal_pre_finite_ffn [hFfnBwdIdeal : Cert.FfnBwdIdeal.Facts] [hFfnRefIdeal : Cert.FfnRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_finite_ffn m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)
      ∧ m' ((c.tc : Thread Cert.FfnRefIdeal.nD Cert.FfnRefIdeal.τ).loc Cert.FfnRefIdeal.main_arg5) = m ((c.tc : Thread Cert.FfnBwdIdeal.nD Cert.FfnBwdIdeal.τ).loc Cert.FfnBwdIdeal.main_arg5)
      ∧ m' ((c.tc : Thread Cert.FfnRefIdeal.nD Cert.FfnRefIdeal.τ).loc Cert.FfnRefIdeal.main_arg6) = m ((c.tc : Thread Cert.FfnBwdIdeal.nD Cert.FfnBwdIdeal.τ).loc Cert.FfnBwdIdeal.main_arg6)) →
    ∃ (v0 : (c : Dev Cert.FfnBwdIdeal.nD) → Buf (Elt Ideal) ((c.tc : Thread Cert.FfnBwdIdeal.nD Cert.FfnBwdIdeal.τ).loc Cert.FfnBwdIdeal.main_v7_0)) (v1 : (c : Dev Cert.FfnBwdIdeal.nD) → Buf (Elt Ideal) ((c.tc : Thread Cert.FfnBwdIdeal.nD Cert.FfnBwdIdeal.τ).loc Cert.FfnBwdIdeal.main_v7_1)) (v2 : (c : Dev Cert.FfnBwdIdeal.nD) → Buf (Elt Ideal) ((c.tc : Thread Cert.FfnBwdIdeal.nD Cert.FfnBwdIdeal.τ).loc Cert.FfnBwdIdeal.main_v7_2)) (v3 : (c : Dev Cert.FfnBwdIdeal.nD) → Buf (Elt Ideal) ((c.tc : Thread Cert.FfnBwdIdeal.nD Cert.FfnBwdIdeal.τ).loc Cert.FfnBwdIdeal.main_v7_3)) (v4 : (c : Dev Cert.FfnBwdIdeal.nD) → Buf (Elt Ideal) ((c.tc : Thread Cert.FfnBwdIdeal.nD Cert.FfnBwdIdeal.τ).loc Cert.FfnBwdIdeal.main_v7_4)) (v5 : (c : Dev Cert.FfnBwdIdeal.nD) → Buf (Elt Ideal) ((c.tc : Thread Cert.FfnBwdIdeal.nD Cert.FfnBwdIdeal.τ).loc Cert.FfnBwdIdeal.main_v7_5)) (v6 : (c : Dev Cert.FfnBwdIdeal.nD) → Buf (Elt Ideal) ((c.tc : Thread Cert.FfnBwdIdeal.nD Cert.FfnBwdIdeal.τ).loc Cert.FfnBwdIdeal.main_v7_6)) (v7 : (c : Dev Cert.FfnBwdIdeal.nD) → Buf (Elt Ideal) ((c.tc : Thread Cert.FfnBwdIdeal.nD Cert.FfnBwdIdeal.τ).loc Cert.FfnBwdIdeal.main_v7_7)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v7_0) = v0 c
          ∧ r.2.mem ((c.tc : Thread Cert.FfnBwdIdeal.nD Cert.FfnBwdIdeal.τ).loc Cert.FfnBwdIdeal.main_v7_1) = v1 c
          ∧ r.2.mem ((c.tc : Thread Cert.FfnBwdIdeal.nD Cert.FfnBwdIdeal.τ).loc Cert.FfnBwdIdeal.main_v7_2) = v2 c
          ∧ r.2.mem ((c.tc : Thread Cert.FfnBwdIdeal.nD Cert.FfnBwdIdeal.τ).loc Cert.FfnBwdIdeal.main_v7_3) = v3 c
          ∧ r.2.mem ((c.tc : Thread Cert.FfnBwdIdeal.nD Cert.FfnBwdIdeal.τ).loc Cert.FfnBwdIdeal.main_v7_4) = v4 c
          ∧ r.2.mem ((c.tc : Thread Cert.FfnBwdIdeal.nD Cert.FfnBwdIdeal.τ).loc Cert.FfnBwdIdeal.main_v7_5) = v5 c
          ∧ r.2.mem ((c.tc : Thread Cert.FfnBwdIdeal.nD Cert.FfnBwdIdeal.τ).loc Cert.FfnBwdIdeal.main_v7_6) = v6 c
          ∧ r.2.mem ((c.tc : Thread Cert.FfnBwdIdeal.nD Cert.FfnBwdIdeal.τ).loc Cert.FfnBwdIdeal.main_v7_7) = v7 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v141) = v0 c
          ∧ r.2.mem ((c.tc : Thread Cert.FfnRefIdeal.nD Cert.FfnRefIdeal.τ).loc Cert.FfnRefIdeal.main_v149) = v1 c
          ∧ r.2.mem ((c.tc : Thread Cert.FfnRefIdeal.nD Cert.FfnRefIdeal.τ).loc Cert.FfnRefIdeal.main_v150) = v2 c
          ∧ r.2.mem ((c.tc : Thread Cert.FfnRefIdeal.nD Cert.FfnRefIdeal.τ).loc Cert.FfnRefIdeal.main_v151) = v3 c
          ∧ r.2.mem ((c.tc : Thread Cert.FfnRefIdeal.nD Cert.FfnRefIdeal.τ).loc Cert.FfnRefIdeal.main_v152) = v4 c
          ∧ r.2.mem ((c.tc : Thread Cert.FfnRefIdeal.nD Cert.FfnRefIdeal.τ).loc Cert.FfnRefIdeal.main_v153) = v5 c
          ∧ r.2.mem ((c.tc : Thread Cert.FfnRefIdeal.nD Cert.FfnRefIdeal.τ).loc Cert.FfnRefIdeal.main_v148) = v6 c
          ∧ r.2.mem ((c.tc : Thread Cert.FfnRefIdeal.nD Cert.FfnRefIdeal.τ).loc Cert.FfnRefIdeal.main_v154) = v7 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_AttnBwd_AttnBwdIdeal : Prop :=
  IdealRules.named_const.Statement Cert.AttnBwdIdeal.κ "mask" .f32 0xF149F2CA#32 ⊥

def algebraic_AttnBwdIdeal_AttnRefIdeal_pre_finite_attn [hAttnBwdIdeal : Cert.AttnBwdIdeal.Facts] [hAttnRefIdeal : Cert.AttnRefIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_finite_attn m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)
      ∧ m' ((c.tc : Thread Cert.AttnRefIdeal.nD Cert.AttnRefIdeal.τ).loc Cert.AttnRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v163)) (v1 : (c : Dev Cert.AttnBwdIdeal.nD) → Buf (Elt Ideal) ((c.tc : Thread Cert.AttnBwdIdeal.nD Cert.AttnBwdIdeal.τ).loc Cert.AttnBwdIdeal.main_v162_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v163) = v0 c
          ∧ r.2.mem ((c.tc : Thread Cert.AttnBwdIdeal.nD Cert.AttnBwdIdeal.τ).loc Cert.AttnBwdIdeal.main_v162_2) = v1 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v260) = v0 c
          ∧ r.2.mem ((c.tc : Thread Cert.AttnRefIdeal.nD Cert.AttnRefIdeal.τ).loc Cert.AttnRefIdeal.main_v263) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_MlstmBwd_MlstmBwdIdeal : Prop :=
  IdealRules.named_const.Statement Cert.MlstmBwdIdeal.κ "mask" .f32 0xF149F2CA#32 ⊥

def preserves_MixedFwd_MixedFwdIdeal : Prop :=
  True

def algebraic_MixedFwdIdeal_MixedRefIdeal [hMixedFwdIdeal : Cert.MixedFwdIdeal.Facts] [hMixedRefIdeal : Cert.MixedRefIdeal.Facts] : Prop :=
  ∀ (m : (ℓ : Loc Cert.MixedFwdIdeal.nD Cert.MixedFwdIdeal.τ Cert.MixedFwdIdeal.sig) → Buf (Elt Ideal) ℓ) (g : Dev Cert.MixedFwdIdeal.nD → PrngReg)
    (m' : (ℓ : Loc Cert.MixedRefIdeal.nD Cert.MixedRefIdeal.τ Cert.MixedRefIdeal.sig) → Buf (Elt Ideal) ℓ) (g' : Dev Cert.MixedRefIdeal.nD → PrngReg), Pre_MixedFwdIdeal m →
    (∀ c : Dev Cert.MixedFwdIdeal.nD,
      m' ((c.tc : Thread Cert.MixedRefIdeal.nD Cert.MixedRefIdeal.τ).loc Cert.MixedRefIdeal.main_arg0) = m ((c.tc : Thread Cert.MixedFwdIdeal.nD Cert.MixedFwdIdeal.τ).loc Cert.MixedFwdIdeal.main_arg0)
      ∧ m' ((c.tc : Thread Cert.MixedRefIdeal.nD Cert.MixedRefIdeal.τ).loc Cert.MixedRefIdeal.main_arg1) = m ((c.tc : Thread Cert.MixedFwdIdeal.nD Cert.MixedFwdIdeal.τ).loc Cert.MixedFwdIdeal.main_arg1)
      ∧ m' ((c.tc : Thread Cert.MixedRefIdeal.nD Cert.MixedRefIdeal.τ).loc Cert.MixedRefIdeal.main_arg2) = m ((c.tc : Thread Cert.MixedFwdIdeal.nD Cert.MixedFwdIdeal.τ).loc Cert.MixedFwdIdeal.main_arg2)
      ∧ m' ((c.tc : Thread Cert.MixedRefIdeal.nD Cert.MixedRefIdeal.τ).loc Cert.MixedRefIdeal.main_arg3) = m ((c.tc : Thread Cert.MixedFwdIdeal.nD Cert.MixedFwdIdeal.τ).loc Cert.MixedFwdIdeal.main_arg3)
      ∧ m' ((c.tc : Thread Cert.MixedRefIdeal.nD Cert.MixedRefIdeal.τ).loc Cert.MixedRefIdeal.main_arg4) = m ((c.tc : Thread Cert.MixedFwdIdeal.nD Cert.MixedFwdIdeal.τ).loc Cert.MixedFwdIdeal.main_arg4)
      ∧ m' ((c.tc : Thread Cert.MixedRefIdeal.nD Cert.MixedRefIdeal.τ).loc Cert.MixedRefIdeal.main_arg5) = m ((c.tc : Thread Cert.MixedFwdIdeal.nD Cert.MixedFwdIdeal.τ).loc Cert.MixedFwdIdeal.main_arg5)
      ∧ m' ((c.tc : Thread Cert.MixedRefIdeal.nD Cert.MixedRefIdeal.τ).loc Cert.MixedRefIdeal.main_arg6) = m ((c.tc : Thread Cert.MixedFwdIdeal.nD Cert.MixedFwdIdeal.τ).loc Cert.MixedFwdIdeal.main_arg6)
      ∧ m' ((c.tc : Thread Cert.MixedRefIdeal.nD Cert.MixedRefIdeal.τ).loc Cert.MixedRefIdeal.main_arg7) = m ((c.tc : Thread Cert.MixedFwdIdeal.nD Cert.MixedFwdIdeal.τ).loc Cert.MixedFwdIdeal.main_arg7)
      ∧ m' ((c.tc : Thread Cert.MixedRefIdeal.nD Cert.MixedRefIdeal.τ).loc Cert.MixedRefIdeal.main_arg8) = m ((c.tc : Thread Cert.MixedFwdIdeal.nD Cert.MixedFwdIdeal.τ).loc Cert.MixedFwdIdeal.main_arg8)) →
    ∃ (v0 : (c : Dev Cert.MixedFwdIdeal.nD) → Buf (Elt Ideal) ((c.tc : Thread Cert.MixedFwdIdeal.nD Cert.MixedFwdIdeal.τ).loc Cert.MixedFwdIdeal.main_v8_0)) (v1 : (c : Dev Cert.MixedFwdIdeal.nD) → Buf (Elt Ideal) ((c.tc : Thread Cert.MixedFwdIdeal.nD Cert.MixedFwdIdeal.τ).loc Cert.MixedFwdIdeal.main_v8_1)) (v2 : (c : Dev Cert.MixedFwdIdeal.nD) → Buf (Elt Ideal) ((c.tc : Thread Cert.MixedFwdIdeal.nD Cert.MixedFwdIdeal.τ).loc Cert.MixedFwdIdeal.main_v8_2)) (v3 : (c : Dev Cert.MixedFwdIdeal.nD) → Buf (Elt Ideal) ((c.tc : Thread Cert.MixedFwdIdeal.nD Cert.MixedFwdIdeal.τ).loc Cert.MixedFwdIdeal.main_v8_3)) (v4 : (c : Dev Cert.MixedFwdIdeal.nD) → Buf (Elt Ideal) ((c.tc : Thread Cert.MixedFwdIdeal.nD Cert.MixedFwdIdeal.τ).loc Cert.MixedFwdIdeal.main_v8_4)),
      θ_run (Cert.MixedFwdIdeal.defs (F := Ideal)) (onTc (τ := Cert.MixedFwdIdeal.τ) (Cert.MixedFwdIdeal.main (F := Ideal))) ⟨m, fun _ => 0, g⟩ (fun r => ∀ c : Dev Cert.MixedFwdIdeal.nD,
          r.2.mem ((c.tc : Thread Cert.MixedFwdIdeal.nD Cert.MixedFwdIdeal.τ).loc Cert.MixedFwdIdeal.main_v8_0) = v0 c
          ∧ r.2.mem ((c.tc : Thread Cert.MixedFwdIdeal.nD Cert.MixedFwdIdeal.τ).loc Cert.MixedFwdIdeal.main_v8_1) = v1 c
          ∧ r.2.mem ((c.tc : Thread Cert.MixedFwdIdeal.nD Cert.MixedFwdIdeal.τ).loc Cert.MixedFwdIdeal.main_v8_2) = v2 c
          ∧ r.2.mem ((c.tc : Thread Cert.MixedFwdIdeal.nD Cert.MixedFwdIdeal.τ).loc Cert.MixedFwdIdeal.main_v8_3) = v3 c
          ∧ r.2.mem ((c.tc : Thread Cert.MixedFwdIdeal.nD Cert.MixedFwdIdeal.τ).loc Cert.MixedFwdIdeal.main_v8_4) = v4 c
          ∧ r.2.mem ((c.tc : Thread Cert.MixedFwdIdeal.nD Cert.MixedFwdIdeal.τ).loc Cert.MixedFwdIdeal.main_arg0) = m ((c.tc : Thread Cert.MixedFwdIdeal.nD Cert.MixedFwdIdeal.τ).loc Cert.MixedFwdIdeal.main_arg0)
          ∧ r.2.mem ((c.tc : Thread Cert.MixedFwdIdeal.nD Cert.MixedFwdIdeal.τ).loc Cert.MixedFwdIdeal.main_arg1) = m ((c.tc : Thread Cert.MixedFwdIdeal.nD Cert.MixedFwdIdeal.τ).loc Cert.MixedFwdIdeal.main_arg1)
          ∧ r.2.mem ((c.tc : Thread Cert.MixedFwdIdeal.nD Cert.MixedFwdIdeal.τ).loc Cert.MixedFwdIdeal.main_arg2) = m ((c.tc : Thread Cert.MixedFwdIdeal.nD Cert.MixedFwdIdeal.τ).loc Cert.MixedFwdIdeal.main_arg2)
          ∧ r.2.mem ((c.tc : Thread Cert.MixedFwdIdeal.nD Cert.MixedFwdIdeal.τ).loc Cert.MixedFwdIdeal.main_arg3) = m ((c.tc : Thread Cert.MixedFwdIdeal.nD Cert.MixedFwdIdeal.τ).loc Cert.MixedFwdIdeal.main_arg3)
          ∧ r.2.mem ((c.tc : Thread Cert.MixedFwdIdeal.nD Cert.MixedFwdIdeal.τ).loc Cert.MixedFwdIdeal.main_arg4) = m ((c.tc : Thread Cert.MixedFwdIdeal.nD Cert.MixedFwdIdeal.τ).loc Cert.MixedFwdIdeal.main_arg4)
          ∧ r.2.mem ((c.tc : Thread Cert.MixedFwdIdeal.nD Cert.MixedFwdIdeal.τ).loc Cert.MixedFwdIdeal.main_arg5) = m ((c.tc : Thread Cert.MixedFwdIdeal.nD Cert.MixedFwdIdeal.τ).loc Cert.MixedFwdIdeal.main_arg5)
          ∧ r.2.mem ((c.tc : Thread Cert.MixedFwdIdeal.nD Cert.MixedFwdIdeal.τ).loc Cert.MixedFwdIdeal.main_arg6) = m ((c.tc : Thread Cert.MixedFwdIdeal.nD Cert.MixedFwdIdeal.τ).loc Cert.MixedFwdIdeal.main_arg6)
          ∧ r.2.mem ((c.tc : Thread Cert.MixedFwdIdeal.nD Cert.MixedFwdIdeal.τ).loc Cert.MixedFwdIdeal.main_arg7) = m ((c.tc : Thread Cert.MixedFwdIdeal.nD Cert.MixedFwdIdeal.τ).loc Cert.MixedFwdIdeal.main_arg7)
          ∧ r.2.mem ((c.tc : Thread Cert.MixedFwdIdeal.nD Cert.MixedFwdIdeal.τ).loc Cert.MixedFwdIdeal.main_arg8) = m ((c.tc : Thread Cert.MixedFwdIdeal.nD Cert.MixedFwdIdeal.τ).loc Cert.MixedFwdIdeal.main_arg8))
      ∧ θ_run (Cert.MixedRefIdeal.defs (F := Ideal)) (onTc (τ := Cert.MixedRefIdeal.τ) (Cert.MixedRefIdeal.main (F := Ideal))) ⟨m', fun _ => 0, g'⟩ (fun r => ∀ c : Dev Cert.MixedRefIdeal.nD,
          r.2.mem ((c.tc : Thread Cert.MixedRefIdeal.nD Cert.MixedRefIdeal.τ).loc Cert.MixedRefIdeal.main_v40) = v0 c
          ∧ r.2.mem ((c.tc : Thread Cert.MixedRefIdeal.nD Cert.MixedRefIdeal.τ).loc Cert.MixedRefIdeal.main_v41) = v1 c
          ∧ r.2.mem ((c.tc : Thread Cert.MixedRefIdeal.nD Cert.MixedRefIdeal.τ).loc Cert.MixedRefIdeal.main_v42) = v2 c
          ∧ r.2.mem ((c.tc : Thread Cert.MixedRefIdeal.nD Cert.MixedRefIdeal.τ).loc Cert.MixedRefIdeal.main_v43) = v3 c
          ∧ r.2.mem ((c.tc : Thread Cert.MixedRefIdeal.nD Cert.MixedRefIdeal.τ).loc Cert.MixedRefIdeal.main_v44) = v4 c
          ∧ r.2.mem ((c.tc : Thread Cert.MixedRefIdeal.nD Cert.MixedRefIdeal.τ).loc Cert.MixedRefIdeal.main_arg0) = m' ((c.tc : Thread Cert.MixedRefIdeal.nD Cert.MixedRefIdeal.τ).loc Cert.MixedRefIdeal.main_arg0)
          ∧ r.2.mem ((c.tc : Thread Cert.MixedRefIdeal.nD Cert.MixedRefIdeal.τ).loc Cert.MixedRefIdeal.main_arg1) = m' ((c.tc : Thread Cert.MixedRefIdeal.nD Cert.MixedRefIdeal.τ).loc Cert.MixedRefIdeal.main_arg1)
          ∧ r.2.mem ((c.tc : Thread Cert.MixedRefIdeal.nD Cert.MixedRefIdeal.τ).loc Cert.MixedRefIdeal.main_arg2) = m' ((c.tc : Thread Cert.MixedRefIdeal.nD Cert.MixedRefIdeal.τ).loc Cert.MixedRefIdeal.main_arg2)
          ∧ r.2.mem ((c.tc : Thread Cert.MixedRefIdeal.nD Cert.MixedRefIdeal.τ).loc Cert.MixedRefIdeal.main_arg3) = m' ((c.tc : Thread Cert.MixedRefIdeal.nD Cert.MixedRefIdeal.τ).loc Cert.MixedRefIdeal.main_arg3)
          ∧ r.2.mem ((c.tc : Thread Cert.MixedRefIdeal.nD Cert.MixedRefIdeal.τ).loc Cert.MixedRefIdeal.main_arg4) = m' ((c.tc : Thread Cert.MixedRefIdeal.nD Cert.MixedRefIdeal.τ).loc Cert.MixedRefIdeal.main_arg4)
          ∧ r.2.mem ((c.tc : Thread Cert.MixedRefIdeal.nD Cert.MixedRefIdeal.τ).loc Cert.MixedRefIdeal.main_arg5) = m' ((c.tc : Thread Cert.MixedRefIdeal.nD Cert.MixedRefIdeal.τ).loc Cert.MixedRefIdeal.main_arg5)
          ∧ r.2.mem ((c.tc : Thread Cert.MixedRefIdeal.nD Cert.MixedRefIdeal.τ).loc Cert.MixedRefIdeal.main_arg6) = m' ((c.tc : Thread Cert.MixedRefIdeal.nD Cert.MixedRefIdeal.τ).loc Cert.MixedRefIdeal.main_arg6)
          ∧ r.2.mem ((c.tc : Thread Cert.MixedRefIdeal.nD Cert.MixedRefIdeal.τ).loc Cert.MixedRefIdeal.main_arg7) = m' ((c.tc : Thread Cert.MixedRefIdeal.nD Cert.MixedRefIdeal.τ).loc Cert.MixedRefIdeal.main_arg7)
          ∧ r.2.mem ((c.tc : Thread Cert.MixedRefIdeal.nD Cert.MixedRefIdeal.τ).loc Cert.MixedRefIdeal.main_arg8) = m' ((c.tc : Thread Cert.MixedRefIdeal.nD Cert.MixedRefIdeal.τ).loc Cert.MixedRefIdeal.main_arg8))

def preserves_ProjFwd_ProjFwdIdeal : Prop :=
  True

def algebraic_ProjFwdIdeal_ProjRefIdeal [hProjFwdIdeal : Cert.ProjFwdIdeal.Facts] [hProjRefIdeal : Cert.ProjRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjFwdIdeal m →
    (∀ c : Dev Cert.ProjFwdIdeal.nD,
      m' ((c.tc : Thread Cert.ProjRefIdeal.nD Cert.ProjRefIdeal.τ).loc Cert.ProjRefIdeal.main_arg0) = m ((c.tc : Thread Cert.ProjFwdIdeal.nD Cert.ProjFwdIdeal.τ).loc Cert.ProjFwdIdeal.main_arg0)
      ∧ m' ((c.tc : Thread Cert.ProjRefIdeal.nD Cert.ProjRefIdeal.τ).loc Cert.ProjRefIdeal.main_arg1) = m ((c.tc : Thread Cert.ProjFwdIdeal.nD Cert.ProjFwdIdeal.τ).loc Cert.ProjFwdIdeal.main_arg1)
      ∧ m' ((c.tc : Thread Cert.ProjRefIdeal.nD Cert.ProjRefIdeal.τ).loc Cert.ProjRefIdeal.main_arg2) = m ((c.tc : Thread Cert.ProjFwdIdeal.nD Cert.ProjFwdIdeal.τ).loc Cert.ProjFwdIdeal.main_arg2)
      ∧ m' ((c.tc : Thread Cert.ProjRefIdeal.nD Cert.ProjRefIdeal.τ).loc Cert.ProjRefIdeal.main_arg3) = m ((c.tc : Thread Cert.ProjFwdIdeal.nD Cert.ProjFwdIdeal.τ).loc Cert.ProjFwdIdeal.main_arg3)) →
    ∃ (v0 : (c : Dev Cert.ProjFwdIdeal.nD) → Buf (Elt Ideal) ((c.tc : Thread Cert.ProjFwdIdeal.nD Cert.ProjFwdIdeal.τ).loc Cert.ProjFwdIdeal.main_v8_0)) (v1 : (c : Dev Cert.ProjFwdIdeal.nD) → Buf (Elt Ideal) ((c.tc : Thread Cert.ProjFwdIdeal.nD Cert.ProjFwdIdeal.τ).loc Cert.ProjFwdIdeal.main_v8_1)) (v2 : (c : Dev Cert.ProjFwdIdeal.nD) → Buf (Elt Ideal) ((c.tc : Thread Cert.ProjFwdIdeal.nD Cert.ProjFwdIdeal.τ).loc Cert.ProjFwdIdeal.main_v8_2)) (v3 : (c : Dev Cert.ProjFwdIdeal.nD) → Buf (Elt Ideal) ((c.tc : Thread Cert.ProjFwdIdeal.nD Cert.ProjFwdIdeal.τ).loc Cert.ProjFwdIdeal.main_v8_3)) (v4 : (c : Dev Cert.ProjFwdIdeal.nD) → Buf (Elt Ideal) ((c.tc : Thread Cert.ProjFwdIdeal.nD Cert.ProjFwdIdeal.τ).loc Cert.ProjFwdIdeal.main_v8_4)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v8_0) = v0 c
          ∧ r.2.mem ((c.tc : Thread Cert.ProjFwdIdeal.nD Cert.ProjFwdIdeal.τ).loc Cert.ProjFwdIdeal.main_v8_1) = v1 c
          ∧ r.2.mem ((c.tc : Thread Cert.ProjFwdIdeal.nD Cert.ProjFwdIdeal.τ).loc Cert.ProjFwdIdeal.main_v8_2) = v2 c
          ∧ r.2.mem ((c.tc : Thread Cert.ProjFwdIdeal.nD Cert.ProjFwdIdeal.τ).loc Cert.ProjFwdIdeal.main_v8_3) = v3 c
          ∧ r.2.mem ((c.tc : Thread Cert.ProjFwdIdeal.nD Cert.ProjFwdIdeal.τ).loc Cert.ProjFwdIdeal.main_v8_4) = v4 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
          ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
          ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v31) = v0 c
          ∧ r.2.mem ((c.tc : Thread Cert.ProjRefIdeal.nD Cert.ProjRefIdeal.τ).loc Cert.ProjRefIdeal.main_v32) = v1 c
          ∧ r.2.mem ((c.tc : Thread Cert.ProjRefIdeal.nD Cert.ProjRefIdeal.τ).loc Cert.ProjRefIdeal.main_v33) = v2 c
          ∧ r.2.mem ((c.tc : Thread Cert.ProjRefIdeal.nD Cert.ProjRefIdeal.τ).loc Cert.ProjRefIdeal.main_v30) = v3 c
          ∧ r.2.mem ((c.tc : Thread Cert.ProjRefIdeal.nD Cert.ProjRefIdeal.τ).loc Cert.ProjRefIdeal.main_v35) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_RotFwd_RotFwdIdeal : Prop :=
  IdealRules.named_const.Statement Cert.RotFwdIdeal.κ "mask" .f32 0xF149F2CA#32 ⊥

def algebraic_RotFwdIdeal_RotRefIdeal [hRotFwdIdeal : Cert.RotFwdIdeal.Facts] [hRotRefIdeal : Cert.RotRefIdeal.Facts] : Prop :=
  ∀ (m : (ℓ : Loc Cert.RotFwdIdeal.nD Cert.RotFwdIdeal.τ Cert.RotFwdIdeal.sig) → Buf (Elt Ideal) ℓ) (g : Dev Cert.RotFwdIdeal.nD → PrngReg)
    (m' : (ℓ : Loc Cert.RotRefIdeal.nD Cert.RotRefIdeal.τ Cert.RotRefIdeal.sig) → Buf (Elt Ideal) ℓ) (g' : Dev Cert.RotRefIdeal.nD → PrngReg), Pre_RotFwdIdeal m →
    (∀ c : Dev Cert.RotFwdIdeal.nD,
      m' ((c.tc : Thread Cert.RotRefIdeal.nD Cert.RotRefIdeal.τ).loc Cert.RotRefIdeal.main_arg0) = m ((c.tc : Thread Cert.RotFwdIdeal.nD Cert.RotFwdIdeal.τ).loc Cert.RotFwdIdeal.main_arg0)
      ∧ m' ((c.tc : Thread Cert.RotRefIdeal.nD Cert.RotRefIdeal.τ).loc Cert.RotRefIdeal.main_arg1) = m ((c.tc : Thread Cert.RotFwdIdeal.nD Cert.RotFwdIdeal.τ).loc Cert.RotFwdIdeal.main_arg1)
      ∧ m' ((c.tc : Thread Cert.RotRefIdeal.nD Cert.RotRefIdeal.τ).loc Cert.RotRefIdeal.main_arg2) = m ((c.tc : Thread Cert.RotFwdIdeal.nD Cert.RotFwdIdeal.τ).loc Cert.RotFwdIdeal.main_arg2)) →
    ∃ (v0 : (c : Dev Cert.RotFwdIdeal.nD) → Buf (Elt Ideal) ((c.tc : Thread Cert.RotFwdIdeal.nD Cert.RotFwdIdeal.τ).loc Cert.RotFwdIdeal.main_v31_1)) (v1 : (c : Dev Cert.RotFwdIdeal.nD) → Buf (Elt Ideal) ((c.tc : Thread Cert.RotFwdIdeal.nD Cert.RotFwdIdeal.τ).loc Cert.RotFwdIdeal.main_v31_2)) (v2 : (c : Dev Cert.RotFwdIdeal.nD) → Buf (Elt Ideal) ((c.tc : Thread Cert.RotFwdIdeal.nD Cert.RotFwdIdeal.τ).loc Cert.RotFwdIdeal.main_v31_3)),
      θ_run (Cert.RotFwdIdeal.defs (F := Ideal)) (onTc (τ := Cert.RotFwdIdeal.τ) (Cert.RotFwdIdeal.main (F := Ideal))) ⟨m, fun _ => 0, g⟩ (fun r => ∀ c : Dev Cert.RotFwdIdeal.nD,
          r.2.mem ((c.tc : Thread Cert.RotFwdIdeal.nD Cert.RotFwdIdeal.τ).loc Cert.RotFwdIdeal.main_v31_1) = v0 c
          ∧ r.2.mem ((c.tc : Thread Cert.RotFwdIdeal.nD Cert.RotFwdIdeal.τ).loc Cert.RotFwdIdeal.main_v31_2) = v1 c
          ∧ r.2.mem ((c.tc : Thread Cert.RotFwdIdeal.nD Cert.RotFwdIdeal.τ).loc Cert.RotFwdIdeal.main_v31_3) = v2 c
          ∧ r.2.mem ((c.tc : Thread Cert.RotFwdIdeal.nD Cert.RotFwdIdeal.τ).loc Cert.RotFwdIdeal.main_arg0) = m ((c.tc : Thread Cert.RotFwdIdeal.nD Cert.RotFwdIdeal.τ).loc Cert.RotFwdIdeal.main_arg0)
          ∧ r.2.mem ((c.tc : Thread Cert.RotFwdIdeal.nD Cert.RotFwdIdeal.τ).loc Cert.RotFwdIdeal.main_arg1) = m ((c.tc : Thread Cert.RotFwdIdeal.nD Cert.RotFwdIdeal.τ).loc Cert.RotFwdIdeal.main_arg1)
          ∧ r.2.mem ((c.tc : Thread Cert.RotFwdIdeal.nD Cert.RotFwdIdeal.τ).loc Cert.RotFwdIdeal.main_arg2) = m ((c.tc : Thread Cert.RotFwdIdeal.nD Cert.RotFwdIdeal.τ).loc Cert.RotFwdIdeal.main_arg2))
      ∧ θ_run (Cert.RotRefIdeal.defs (F := Ideal)) (onTc (τ := Cert.RotRefIdeal.τ) (Cert.RotRefIdeal.main (F := Ideal))) ⟨m', fun _ => 0, g'⟩ (fun r => ∀ c : Dev Cert.RotRefIdeal.nD,
          r.2.mem ((c.tc : Thread Cert.RotRefIdeal.nD Cert.RotRefIdeal.τ).loc Cert.RotRefIdeal.main_v67) = v0 c
          ∧ r.2.mem ((c.tc : Thread Cert.RotRefIdeal.nD Cert.RotRefIdeal.τ).loc Cert.RotRefIdeal.main_v69) = v1 c
          ∧ r.2.mem ((c.tc : Thread Cert.RotRefIdeal.nD Cert.RotRefIdeal.τ).loc Cert.RotRefIdeal.main_v71) = v2 c
          ∧ r.2.mem ((c.tc : Thread Cert.RotRefIdeal.nD Cert.RotRefIdeal.τ).loc Cert.RotRefIdeal.main_arg0) = m' ((c.tc : Thread Cert.RotRefIdeal.nD Cert.RotRefIdeal.τ).loc Cert.RotRefIdeal.main_arg0)
          ∧ r.2.mem ((c.tc : Thread Cert.RotRefIdeal.nD Cert.RotRefIdeal.τ).loc Cert.RotRefIdeal.main_arg1) = m' ((c.tc : Thread Cert.RotRefIdeal.nD Cert.RotRefIdeal.τ).loc Cert.RotRefIdeal.main_arg1)
          ∧ r.2.mem ((c.tc : Thread Cert.RotRefIdeal.nD Cert.RotRefIdeal.τ).loc Cert.RotRefIdeal.main_arg2) = m' ((c.tc : Thread Cert.RotRefIdeal.nD Cert.RotRefIdeal.τ).loc Cert.RotRefIdeal.main_arg2))

def Claim : Prop :=
  ∃ (hPreBwd : Cert.PreBwd.Facts) (hPreBwdIdeal : Cert.PreBwdIdeal.Facts) (hPreRefIdeal : Cert.PreRefIdeal.Facts) (hMixBwd : Cert.MixBwd.Facts) (hMixBwdIdeal : Cert.MixBwdIdeal.Facts) (hMixRefIdeal : Cert.MixRefIdeal.Facts) (hFfnBwd : Cert.FfnBwd.Facts) (hFfnBwdIdeal : Cert.FfnBwdIdeal.Facts) (hFfnRefIdeal : Cert.FfnRefIdeal.Facts) (hAttnBwd : Cert.AttnBwd.Facts) (hAttnBwdIdeal : Cert.AttnBwdIdeal.Facts) (hAttnRefIdeal : Cert.AttnRefIdeal.Facts) (hMlstmBwd : Cert.MlstmBwd.Facts) (hMlstmBwdIdeal : Cert.MlstmBwdIdeal.Facts) (hMixedFwd : Cert.MixedFwd.Facts) (hMixedFwdIdeal : Cert.MixedFwdIdeal.Facts) (hMixedRefIdeal : Cert.MixedRefIdeal.Facts) (hProjFwd : Cert.ProjFwd.Facts) (hProjFwdIdeal : Cert.ProjFwdIdeal.Facts) (hProjRefIdeal : Cert.ProjRefIdeal.Facts) (hRotFwd : Cert.RotFwd.Facts) (hRotFwdIdeal : Cert.RotFwdIdeal.Facts) (hRotRefIdeal : Cert.RotRefIdeal.Facts) (hPre_finite_pre : Cert.Pre_finite_pre.Facts) (hPre_finite_mix : Cert.Pre_finite_mix.Facts) (hPre_finite_ffn : Cert.Pre_finite_ffn.Facts) (hPre_finite_attn : Cert.Pre_finite_attn.Facts),
    quiescent_PreBwd (hPreBwd := hPreBwd)
    ∧ quiescent_PreBwdIdeal (hPreBwdIdeal := hPreBwdIdeal)
    ∧ quiescent_PreBwdIdeal_pre_finite_pre (hPreBwdIdeal := hPreBwdIdeal) (hPre_finite_pre := hPre_finite_pre)
    ∧ quiescent_PreRefIdeal (hPreRefIdeal := hPreRefIdeal)
    ∧ quiescent_PreRefIdeal_pre_finite_pre (hPreRefIdeal := hPreRefIdeal) (hPre_finite_pre := hPre_finite_pre)
    ∧ quiescent_MixBwd (hMixBwd := hMixBwd)
    ∧ quiescent_MixBwdIdeal (hMixBwdIdeal := hMixBwdIdeal)
    ∧ quiescent_MixBwdIdeal_pre_finite_mix (hMixBwdIdeal := hMixBwdIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_AttnBwd (hAttnBwd := hAttnBwd)
    ∧ quiescent_AttnBwdIdeal (hAttnBwdIdeal := hAttnBwdIdeal)
    ∧ quiescent_AttnBwdIdeal_pre_finite_attn (hAttnBwdIdeal := hAttnBwdIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_MlstmBwd (hMlstmBwd := hMlstmBwd)
    ∧ quiescent_MlstmBwdIdeal (hMlstmBwdIdeal := hMlstmBwdIdeal)
    ∧ quiescent_MixedFwd (hMixedFwd := hMixedFwd)
    ∧ quiescent_MixedFwdIdeal (hMixedFwdIdeal := hMixedFwdIdeal)
    ∧ quiescent_MixedRefIdeal (hMixedRefIdeal := hMixedRefIdeal)
    ∧ quiescent_ProjFwd (hProjFwd := hProjFwd)
    ∧ quiescent_ProjFwdIdeal (hProjFwdIdeal := hProjFwdIdeal)
    ∧ quiescent_ProjRefIdeal (hProjRefIdeal := hProjRefIdeal)
    ∧ quiescent_RotFwd (hRotFwd := hRotFwd)
    ∧ quiescent_RotFwdIdeal (hRotFwdIdeal := hRotFwdIdeal)
    ∧ quiescent_RotRefIdeal (hRotRefIdeal := hRotRefIdeal)
    ∧ preserves_PreBwd_PreBwdIdeal
    ∧ algebraic_PreBwdIdeal_PreRefIdeal_pre_finite_pre (hPreBwdIdeal := hPreBwdIdeal) (hPreRefIdeal := hPreRefIdeal) (hPre_finite_pre := hPre_finite_pre)
    ∧ preserves_MixBwd_MixBwdIdeal
    ∧ algebraic_MixBwdIdeal_MixRefIdeal_pre_finite_mix (hMixBwdIdeal := hMixBwdIdeal) (hMixRefIdeal := hMixRefIdeal) (hPre_finite_mix := hPre_finite_mix)
    ∧ preserves_FfnBwd_FfnBwdIdeal
    ∧ algebraic_FfnBwdIdeal_FfnRefIdeal_pre_finite_ffn (hFfnBwdIdeal := hFfnBwdIdeal) (hFfnRefIdeal := hFfnRefIdeal) (hPre_finite_ffn := hPre_finite_ffn)
    ∧ preserves_AttnBwd_AttnBwdIdeal
    ∧ algebraic_AttnBwdIdeal_AttnRefIdeal_pre_finite_attn (hAttnBwdIdeal := hAttnBwdIdeal) (hAttnRefIdeal := hAttnRefIdeal) (hPre_finite_attn := hPre_finite_attn)
    ∧ preserves_MlstmBwd_MlstmBwdIdeal
    ∧ preserves_MixedFwd_MixedFwdIdeal
    ∧ algebraic_MixedFwdIdeal_MixedRefIdeal (hMixedFwdIdeal := hMixedFwdIdeal) (hMixedRefIdeal := hMixedRefIdeal)
    ∧ preserves_ProjFwd_ProjFwdIdeal
    ∧ algebraic_ProjFwdIdeal_ProjRefIdeal (hProjFwdIdeal := hProjFwdIdeal) (hProjRefIdeal := hProjRefIdeal)
    ∧ preserves_RotFwd_RotFwdIdeal
    ∧ algebraic_RotFwdIdeal_RotRefIdeal (hRotFwdIdeal := hRotFwdIdeal) (hRotRefIdeal := hRotRefIdeal)
-- ==== Pre_finite_attn.lean ====
abbrev S8192x768 : Shape := ⟨2, ![8192, 768]⟩
abbrev S8192 : Shape := ⟨1, ![8192]⟩
abbrev S8 : Shape := ⟨1, ![8]⟩
abbrev S8192x512 : Shape := ⟨2, ![8192, 512]⟩
abbrev S_ : Shape := ⟨0, ![]⟩

class Facts : Prop where
  bcast_S_S8192x768 : S_.BroadcastsInDim S8192x768 (![] : Fin 0 → Fin S8192x768.rank)
  bcast_S_S8 : S_.BroadcastsInDim S8 (![] : Fin 0 → Fin S8.rank)
  bcast_S_S8192x512 : S_.BroadcastsInDim S8192x512 (![] : Fin 0 → Fin S8192x512.rank)

variable [Facts]

def fn {F : FTy → Type} [FloatOps F] (main_arg0 : FVec F S8192x768 .f32) (main_arg1 : IVec S8192 32) (main_arg2 : FVec F S8 .f32) (main_arg3 : FVec F S8192x512 .f32) : IVec S8192x768 1 × IVec S8 1 × IVec S8192x512 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_v3 : FVec F S8 .f32 := Host.absf main_arg2
  let main_cst_0 : FVec F S_ .f32 := constant S_ .f32 0x7F800000#32
  let main_v4 : FVec F S8 .f32 := broadcastInDim S8 ![] bcast_S_S8 main_cst_0
  let main_v5 : IVec S8 1 := cmpf .olt main_v3 main_v4
  let main_v6 : FVec F S8192x512 .f32 := Host.absf main_arg3
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  (main_v2, main_v5, main_v8)
-- ==== Pre_finite_ffn.lean ====
abbrev S8192x1024 : Shape := ⟨2, ![8192, 1024]⟩
abbrev S6x1024 : Shape := ⟨2, ![6, 1024]⟩
abbrev S4x1024 : Shape := ⟨2, ![4, 1024]⟩
abbrev S1024x2816 : Shape := ⟨2, ![1024, 2816]⟩
abbrev S2816x1024 : Shape := ⟨2, ![2816, 1024]⟩
abbrev S_ : Shape := ⟨0, ![]⟩
abbrev S1x1024 : Shape := ⟨2, ![1, 1024]⟩
abbrev S1024 : Shape := ⟨1, ![1024]⟩

class Facts : Prop where
  bcast_S_S8192x1024 : S_.BroadcastsInDim S8192x1024 (![] : Fin 0 → Fin S8192x1024.rank)
  slices_S6x1024_S1x1024_3_0 : S6x1024.Slices ![3, 0] S1x1024
  shapeCasts_S1x1024_S1024 : S1x1024.ShapeCasts S1024
  bcast_S_S1024 : S_.BroadcastsInDim S1024 (![] : Fin 0 → Fin S1024.rank)
  slices_S6x1024_S1x1024_4_0 : S6x1024.Slices ![4, 0] S1x1024
  slices_S6x1024_S1x1024_5_0 : S6x1024.Slices ![5, 0] S1x1024
  slices_S4x1024_S1x1024_2_0 : S4x1024.Slices ![2, 0] S1x1024
  slices_S4x1024_S1x1024_3_0 : S4x1024.Slices ![3, 0] S1x1024
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part2 {F : FTy → Type} [FloatOps F] (main_v2 : IVec S8192x1024 1) (main_v5 : IVec S8192x1024 1) (main_v10 : IVec S1024 1) (main_v15 : IVec S1024 1) (main_v20 : IVec S1024 1) (main_v25 : IVec S1024 1) (main_v30 : IVec S1024 1) (main_v33 : IVec S1024x2816 1) (main_v36 : IVec S1024x2816 1) (main_v37 : FVec F S2816x1024 .f32) (main_cst_8 : FVec F S_ .f32) : IVec S8192x1024 1 × IVec S8192x1024 1 × IVec S1024 1 × IVec S1024 1 × IVec S1024 1 × IVec S1024 1 × IVec S1024 1 × IVec S1024x2816 1 × IVec S1024x2816 1 × IVec S2816x1024 1 :=
  let main_v38 : FVec F S2816x1024 .f32 := broadcastInDim S2816x1024 ![] bcast_S_S2816x1024 main_cst_8
  let main_v39 : IVec S2816x1024 1 := cmpf .olt main_v37 main_v38
  (main_v2, main_v5, main_v10, main_v15, main_v20, main_v25, main_v30, main_v33, main_v36, main_v39)

def fn_part1 {F : FTy → Type} [FloatOps F] (main_arg3 : FVec F S4x1024 .f32) (main_arg4 : FVec F S1024x2816 .f32) (main_arg5 : FVec F S1024x2816 .f32) (main_arg6 : FVec F S2816x1024 .f32) (main_v2 : IVec S8192x1024 1) (main_v5 : IVec S8192x1024 1) (main_v10 : IVec S1024 1) (main_v15 : IVec S1024 1) (main_v18 : FVec F S1024 .f32) (main_cst_3 : FVec F S_ .f32) : IVec S8192x1024 1 × IVec S8192x1024 1 × IVec S1024 1 × IVec S1024 1 × IVec S1024 1 × IVec S1024 1 × IVec S1024 1 × IVec S1024x2816 1 × IVec S1024x2816 1 × IVec S2816x1024 1 :=
  let main_v19 : FVec F S1024 .f32 := broadcastInDim S1024 ![] bcast_S_S1024 main_cst_3
  let main_v20 : IVec S1024 1 := cmpf .olt main_v18 main_v19
  let main_v21 : FVec F S1x1024 .f32 := (extractStridedSlice S1x1024 ![2, 0] · slices_S4x1024_S1x1024_2_0) main_arg3
  let main_v22 : FVec F S1024 .f32 := shapeCast S1024 main_v21 shapeCasts_S1x1024_S1024
  let main_v23 : FVec F S1024 .f32 := Host.absf main_v22
  let main_cst_4 : FVec F S_ .f32 := constant S_ .f32 0x7F800000#32
  let main_v24 : FVec F S1024 .f32 := broadcastInDim S1024 ![] bcast_S_S1024 main_cst_4
  let main_v25 : IVec S1024 1 := cmpf .olt main_v23 main_v24
  let main_v26 : FVec F S1x1024 .f32 := (extractStridedSlice S1x1024 ![3, 0] · slices_S4x1024_S1x1024_3_0) main_arg3
  let main_v27 : FVec F S1024 .f32 := shapeCast S1024 main_v26 shapeCasts_S1x1024_S1024
  let main_v28 : FVec F S1024 .f32 := Host.absf main_v27
  let main_cst_5 : FVec F S_ .f32 := constant S_ .f32 0x7F800000#32
  let main_v29 : FVec F S1024 .f32 := broadcastInDim S1024 ![] bcast_S_S1024 main_cst_5
  let main_v30 : IVec S1024 1 := cmpf .olt main_v28 main_v29
  let main_v31 : FVec F S1024x2816 .f32 := Host.absf main_arg4
  let main_cst_6 : FVec F S_ .f32 := constant S_ .f32 0x7F800000#32
  let main_v32 : FVec F S1024x2816 .f32 := broadcastInDim S1024x2816 ![] bcast_S_S1024x2816 main_cst_6
  let main_v33 : IVec S1024x2816 1 := cmpf .olt main_v31 main_v32
  let main_v34 : FVec F S1024x2816 .f32 := Host.absf main_arg5
  let main_cst_7 : FVec F S_ .f32 := constant S_ .f32 0x7F800000#32
  let main_v35 : FVec F S1024x2816 .f32 := broadcastInDim S1024x2816 ![] bcast_S_S1024x2816 main_cst_7
  let main_v36 : IVec S1024x2816 1 := cmpf .olt main_v34 main_v35
  let main_v37 : FVec F S2816x1024 .f32 := Host.absf main_arg6
  let main_cst_8 : FVec F S_ .f32 := constant S_ .f32 0x7F800000#32
  fn_part2 (F := F) main_v2 main_v5 main_v10 main_v15 main_v20 main_v25 main_v30 main_v33 main_v36 main_v37 main_cst_8

def fn {F : FTy → Type} [FloatOps F] (main_arg0 : FVec F S8192x1024 .f32) (main_arg1 : FVec F S8192x1024 .f32) (main_arg2 : FVec F S6x1024 .f32) (main_arg3 : FVec F S4x1024 .f32) (main_arg4 : FVec F S1024x2816 .f32) (main_arg5 : FVec F S1024x2816 .f32) (main_arg6 : FVec F S2816x1024 .f32) : IVec S8192x1024 1 × IVec S8192x1024 1 × IVec S1024 1 × IVec S1024 1 × IVec S1024 1 × IVec S1024 1 × IVec S1024 1 × IVec S1024x2816 1 × IVec S1024x2816 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := (extractStridedSlice S1x1024 ![3, 0] · slices_S6x1024_S1x1024_3_0) main_arg2
  let main_v7 : FVec F S1024 .f32 := shapeCast S1024 main_v6 shapeCasts_S1x1024_S1024
  let main_v8 : FVec F S1024 .f32 := Host.absf main_v7
  let main_cst_1 : FVec F S_ .f32 := constant S_ .f32 0x7F800000#32
  let main_v9 : FVec F S1024 .f32 := broadcastInDim S1024 ![] bcast_S_S1024 main_cst_1
  let main_v10 : IVec S1024 1 := cmpf .olt main_v8 main_v9
  let main_v11 : FVec F S1x1024 .f32 := (extractStridedSlice S1x1024 ![4, 0] · slices_S6x1024_S1x1024_4_0) main_arg2
  let main_v12 : FVec F S1024 .f32 := shapeCast S1024 main_v11 shapeCasts_S1x1024_S1024
  let main_v13 : FVec F S1024 .f32 := Host.absf main_v12
  let main_cst_2 : FVec F S_ .f32 := constant S_ .f32 0x7F800000#32
  let main_v14 : FVec F S1024 .f32 := broadcastInDim S1024 ![] bcast_S_S1024 main_cst_2
  let main_v15 : IVec S1024 1 := cmpf .olt main_v13 main_v14
  let main_v16 : FVec F S1x1024 .f32 := (extractStridedSlice S1x1024 ![5, 0] · slices_S6x1024_S1x1024_5_0) main_arg2
  let main_v17 : FVec F S1024 .f32 := shapeCast S1024 main_v16 shapeCasts_S1x1024_S1024
  let main_v18 : FVec F S1024 .f32 := Host.absf main_v17
  let main_cst_3 : FVec F S_ .f32 := constant S_ .f32 0x7F800000#32
  fn_part1 (F := F) main_arg3 main_arg4 main_arg5 main_arg6 main_v2 main_v5 main_v10 main_v15 main_v18 main_cst_3
-- ==== Pre_finite_mix.lean ====
abbrev S8192x1024 : Shape := ⟨2, ![8192, 1024]⟩
abbrev S8192x512 : Shape := ⟨2, ![8192, 512]⟩
abbrev S8192x2048 : Shape := ⟨2, ![8192, 2048]⟩
abbrev S6x1024 : Shape := ⟨2, ![6, 1024]⟩
abbrev S4x1024 : Shape := ⟨2, ![4, 1024]⟩
abbrev S512x1024 : Shape := ⟨2, ![512, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩

class Facts : Prop where
  bcast_S_S8192x512 : S_.BroadcastsInDim S8192x512 (![] : Fin 0 → Fin S8192x512.rank)
  slices_S6x1024_S1x1024_2_0 : S6x1024.Slices ![2, 0] S1x1024
  shapeCasts_S1x1024_S1024 : S1x1024.ShapeCasts S1024
  bcast_S_S1024 : S_.BroadcastsInDim S1024 (![] : Fin 0 → Fin S1024.rank)
  slices_S4x1024_S1x1024_1_0 : S4x1024.Slices ![1, 0] S1x1024
  bcast_S_S512x1024 : S_.BroadcastsInDim S512x1024 (![] : Fin 0 → Fin S512x1024.rank)
  bcast_S_S1024x1024 : S_.BroadcastsInDim S1024x1024 (![] : Fin 0 → Fin S1024x1024.rank)
  bcast_S_S8192x1024 : S_.BroadcastsInDim S8192x1024 (![] : Fin 0 → Fin S8192x1024.rank)

variable [Facts]

def fn_part1 {F : FTy → Type} [FloatOps F] (main_arg7 : FVec F S512x1024 .f32) (main_arg8 : FVec F S1024x1024 .f32) (main_arg9 : FVec F S8192x1024 .f32) (main_v2 : IVec S8192x512 1) (main_v5 : IVec S8192x512 1) (main_v10 : IVec S1024 1) (main_v15 : IVec S1024 1) (main_v18 : IVec S512x1024 1) : IVec S8192x512 1 × IVec S8192x512 1 × IVec S1024 1 × IVec S1024 1 × IVec S512x1024 1 × IVec S512x1024 1 × IVec S1024x1024 1 × IVec S8192x1024 1 :=
  let main_v19 : FVec F S512x1024 .f32 := Host.absf main_arg7
  let main_cst_4 : FVec F S_ .f32 := constant S_ .f32 0x7F800000#32
  let main_v20 : FVec F S512x1024 .f32 := broadcastInDim S512x1024 ![] bcast_S_S512x1024 main_cst_4
  let main_v21 : IVec S512x1024 1 := cmpf .olt main_v19 main_v20
  let main_v22 : FVec F S1024x1024 .f32 := Host.absf main_arg8
  let main_cst_5 : FVec F S_ .f32 := constant S_ .f32 0x7F800000#32
  let main_v23 : FVec F S1024x1024 .f32 := broadcastInDim S1024x1024 ![] bcast_S_S1024x1024 main_cst_5
  let main_v24 : IVec S1024x1024 1 := cmpf .olt main_v22 main_v23
  let main_v25 : FVec F S8192x1024 .f32 := Host.absf main_arg9
  let main_cst_6 : FVec F S_ .f32 := constant S_ .f32 0x7F800000#32
  let main_v26 : FVec F S8192x1024 .f32 := broadcastInDim S8192x1024 ![] bcast_S_S8192x1024 main_cst_6
  let main_v27 : IVec S8192x1024 1 := cmpf .olt main_v25 main_v26
  (main_v2, main_v5, main_v10, main_v15, main_v18, main_v21, main_v24, main_v27)

def fn {F : FTy → Type} [FloatOps F] (main_arg0 : FVec F S8192x1024 .f32) (main_arg1 : FVec F S8192x512 .f32) (main_arg2 : FVec F S8192x512 .f32) (main_arg3 : FVec F S8192x2048 .f32) (main_arg4 : FVec F S6x1024 .f32) (main_arg5 : FVec F S4x1024 .f32) (main_arg6 : FVec F S512x1024 .f32) (main_arg7 : FVec F S512x1024 .f32) (main_arg8 : FVec F S1024x1024 .f32) (main_arg9 : FVec F S8192x1024 .f32) : IVec S8192x512 1 × IVec S8192x512 1 × IVec S1024 1 × IVec S1024 1 × IVec S512x1024 1 × IVec S512x1024 1 × IVec S1024x1024 1 × IVec S8192x1024 1 :=
  let main_v0 : FVec F S8192x512 .f32 := Host.absf main_arg1
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg2
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S1x1024 .f32 := (extractStridedSlice S1x1024 ![2, 0] · slices_S6x1024_S1x1024_2_0) main_arg4
  let main_v7 : FVec F S1024 .f32 := shapeCast S1024 main_v6 shapeCasts_S1x1024_S1024
  let main_v8 : FVec F S1024 .f32 := Host.absf main_v7
  let main_cst_1 : FVec F S_ .f32 := constant S_ .f32 0x7F800000#32
  let main_v9 : FVec F S1024 .f32 := broadcastInDim S1024 ![] bcast_S_S1024 main_cst_1
  let main_v10 : IVec S1024 1 := cmpf .olt main_v8 main_v9
  let main_v11 : FVec F S1x1024 .f32 := (extractStridedSlice S1x1024 ![1, 0] · slices_S4x1024_S1x1024_1_0) main_arg5
  let main_v12 : FVec F S1024 .f32 := shapeCast S1024 main_v11 shapeCasts_S1x1024_S1024
  let main_v13 : FVec F S1024 .f32 := Host.absf main_v12
  let main_cst_2 : FVec F S_ .f32 := constant S_ .f32 0x7F800000#32
  let main_v14 : FVec F S1024 .f32 := broadcastInDim S1024 ![] bcast_S_S1024 main_cst_2
  let main_v15 : IVec S1024 1 := cmpf .olt main_v13 main_v14
  let main_v16 : FVec F S512x1024 .f32 := Host.absf main_arg6
  let main_cst_3 : FVec F S_ .f32 := constant S_ .f32 0x7F800000#32
  let main_v17 : FVec F S512x1024 .f32 := broadcastInDim S512x1024 ![] bcast_S_S512x1024 main_cst_3
  let main_v18 : IVec S512x1024 1 := cmpf .olt main_v16 main_v17
  fn_part1 (F := F) main_arg7 main_arg8 main_arg9 main_v2 main_v5 main_v10 main_v15 main_v18
-- ==== Pre_finite_pre.lean ====
abbrev S8192x1024 : Shape := ⟨2, ![8192, 1024]⟩
abbrev S6x1024 : Shape := ⟨2, ![6, 1024]⟩
abbrev S4x1024 : Shape := ⟨2, ![4, 1024]⟩
abbrev S1024x4872 : Shape := ⟨2, ![1024, 4872]⟩
abbrev S8192x4872 : Shape := ⟨2, ![8192, 4872]⟩
abbrev S_ : Shape := ⟨0, ![]⟩
abbrev S1x1024 : Shape := ⟨2, ![1, 1024]⟩
abbrev S1024 : Shape := ⟨1, ![1024]⟩

class Facts : Prop where
  bcast_S_S8192x1024 : S_.BroadcastsInDim S8192x1024 (![] : Fin 0 → Fin S8192x1024.rank)
  slices_S6x1024_S1x1024_1_0 : S6x1024.Slices ![1, 0] S1x1024
  shapeCasts_S1x1024_S1024 : S1x1024.ShapeCasts S1024
  bcast_S_S1024 : S_.BroadcastsInDim S1024 (![] : Fin 0 → Fin S1024.rank)
  slices_S4x1024_S1x1024_0_0 : S4x1024.Slices ![0, 0] S1x1024
  bcast_S_S1024x4872 : S_.BroadcastsInDim S1024x4872 (![] : Fin 0 → Fin S1024x4872.rank)
  bcast_S_S8192x4872 : S_.BroadcastsInDim S8192x4872 (![] : Fin 0 → Fin S8192x4872.rank)

variable [Facts]

def fn {F : FTy → Type} [FloatOps F] (main_arg0 : FVec F S8192x1024 .f32) (main_arg1 : FVec F S8192x1024 .f32) (main_arg2 : FVec F S6x1024 .f32) (main_arg3 : FVec F S4x1024 .f32) (main_arg4 : FVec F S1024x4872 .f32) (main_arg5 : FVec F S8192x4872 .f32) : IVec S8192x1024 1 × IVec S1024 1 × IVec S1024 1 × IVec S1024x4872 1 × IVec S8192x4872 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := (extractStridedSlice S1x1024 ![1, 0] · slices_S6x1024_S1x1024_1_0) main_arg2
  let main_v4 : FVec F S1024 .f32 := shapeCast S1024 main_v3 shapeCasts_S1x1024_S1024
  let main_v5 : FVec F S1024 .f32 := Host.absf main_v4
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_v8 : FVec F S1x1024 .f32 := (extractStridedSlice S1x1024 ![0, 0] · slices_S4x1024_S1x1024_0_0) main_arg3
  let main_v9 : FVec F S1024 .f32 := shapeCast S1024 main_v8 shapeCasts_S1x1024_S1024
  let main_v10 : FVec F S1024 .f32 := Host.absf main_v9
  let main_cst_1 : FVec F S_ .f32 := constant S_ .f32 0x7F800000#32
  let main_v11 : FVec F S1024 .f32 := broadcastInDim S1024 ![] bcast_S_S1024 main_cst_1
  let main_v12 : IVec S1024 1 := cmpf .olt main_v10 main_v11
  let main_v13 : FVec F S1024x4872 .f32 := Host.absf main_arg4
  let main_cst_2 : FVec F S_ .f32 := constant S_ .f32 0x7F800000#32
  let main_v14 : FVec F S1024x4872 .f32 := broadcastInDim S1024x4872 ![] bcast_S_S1024x4872 main_cst_2
  let main_v15 : IVec S1024x4872 1 := cmpf .olt main_v13 main_v14
  let main_v16 : FVec F S8192x4872 .f32 := Host.absf main_arg5
  let main_cst_3 : FVec F S_ .f32 := constant S_ .f32 0x7F800000#32
  let main_v17 : FVec F S8192x4872 .f32 := broadcastInDim S8192x4872 ![] bcast_S_S8192x4872 main_cst_3
  let main_v18 : IVec S8192x4872 1 := cmpf .olt main_v16 main_v17
  (main_v2, main_v7, main_v12, main_v15, main_v18)
-- ==== PreBwd.lean ====
abbrev S8192x1024 : Shape := ⟨2, ![8192, 1024]⟩
abbrev S6x1024 : Shape := ⟨2, ![6, 1024]⟩
abbrev S4x1024 : Shape := ⟨2, ![4, 1024]⟩
abbrev S1024x4872 : Shape := ⟨2, ![1024, 4872]⟩
abbrev S8192x4872 : Shape := ⟨2, ![8192, 4872]⟩
abbrev S_ : Shape := ⟨0, ![]⟩
abbrev S16x1024 : Shape := ⟨2, ![16, 1024]⟩
abbrev S1024x120 : Shape := ⟨2, ![1024, 120]⟩
abbrev S1024x2824 : Shape := ⟨2, ![1024, 2824]⟩
abbrev S1024x2048 : Shape := ⟨2, ![1024, 2048]⟩
abbrev S1024x4992 : Shape := ⟨2, ![1024, 4992]⟩
abbrev S8192x120 : Shape := ⟨2, ![8192, 120]⟩
abbrev S8192x768 : Shape := ⟨2, ![8192, 768]⟩
abbrev S8192x2056 : Shape := ⟨2, ![8192, 2056]⟩
abbrev S8192x2176 : Shape := ⟨2, ![8192, 2176]⟩
abbrev S8192x2048 : Shape := ⟨2, ![8192, 2048]⟩
abbrev S8x128 : Shape := ⟨2, ![8, 128]⟩
abbrev S8x1024 : Shape := ⟨2, ![8, 1024]⟩
abbrev S512x768 : Shape := ⟨2, ![512, 768]⟩
abbrev S512x2176 : Shape := ⟨2, ![512, 2176]⟩
abbrev S512x2048 : Shape := ⟨2, ![512, 2048]⟩
abbrev S512x1024 : Shape := ⟨2, ![512, 1024]⟩
abbrev S1024x768 : Shape := ⟨2, ![1024, 768]⟩
abbrev S1024x2176 : Shape := ⟨2, ![1024, 2176]⟩
abbrev S512 : Shape := ⟨1, ![512]⟩
abbrev S512x1 : Shape := ⟨2, ![512, 1]⟩
abbrev S1x1024 : Shape := ⟨2, ![1, 1024]⟩
abbrev S1024 : Shape := ⟨1, ![1024]⟩

abbrev nBuf : Space → Nat
  | .hbm => 28
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S6x1024, .f32⟩
  | .hbm, ⟨3, _⟩ => ⟨S4x1024, .f32⟩
  | .hbm, ⟨4, _⟩ => ⟨S1024x4872, .f32⟩
  | .hbm, ⟨5, _⟩ => ⟨S8192x4872, .f32⟩
  | .hbm, ⟨6, _⟩ => ⟨S_, .f32⟩
  | .hbm, ⟨7, _⟩ => ⟨S6x1024, .f32⟩
  | .hbm, ⟨8, _⟩ => ⟨S16x1024, .f32⟩
  | .hbm, ⟨9, _⟩ => ⟨S_, .f32⟩
  | .hbm, ⟨10, _⟩ => ⟨S1024x120, .f32⟩
  | .hbm, ⟨11, _⟩ => ⟨S1024x2824, .f32⟩
  | .hbm, ⟨12, _⟩ => ⟨S1024x2048, .f32⟩
  | .hbm, ⟨13, _⟩ => ⟨S1024x4992, .f32⟩
  | .hbm, ⟨14, _⟩ => ⟨S1024x4992, .bf16⟩
  | .hbm, ⟨15, _⟩ => ⟨S_, .f32⟩
  | .hbm, ⟨16, _⟩ => ⟨S8192x120, .f32⟩
  | .hbm, ⟨17, _⟩ => ⟨S8192x768, .f32⟩
  | .hbm, ⟨18, _⟩ => ⟨S8192x768, .bf16⟩
  | .hbm, ⟨19, _⟩ => ⟨S8192x2056, .f32⟩
  | .hbm, ⟨20, _⟩ => ⟨S8192x2176, .f32⟩
  | .hbm, ⟨21, _⟩ => ⟨S8192x2176, .bf16⟩
  | .hbm, ⟨22, _⟩ => ⟨S8192x2048, .f32⟩
  | .hbm, ⟨23, _⟩ => ⟨S8192x2048, .bf16⟩
  | .hbm, ⟨24, _⟩ => ⟨S_, .f32⟩
  | .hbm, ⟨25, _⟩ => ⟨S8x128, .f32⟩
  | .hbm, ⟨26, _⟩ => ⟨S8192x1024, .f32⟩
  | .hbm, ⟨27, _⟩ => ⟨S8x1024, .f32⟩
  | .local _ .vmem, ⟨0, _⟩ => ⟨S512x768, .bf16⟩
  | .local _ .vmem, ⟨1, _⟩ => ⟨S512x768, .bf16⟩
  | .local _ .vmem, ⟨2, _⟩ => ⟨S512x2176, .bf16⟩
  | .local _ .vmem, ⟨3, _⟩ => ⟨S512x2176, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S16x1024, .f32⟩
  | .local _ .vmem, ⟨11, _⟩ => ⟨S1024x4992, .bf16⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4992 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PreRefIdeal.lean ====
abbrev S8192x1024 : Shape := ⟨2, ![8192, 1024]⟩
abbrev S6x1024 : Shape := ⟨2, ![6, 1024]⟩
abbrev S4x1024 : Shape := ⟨2, ![4, 1024]⟩
abbrev S1024x4872 : Shape := ⟨2, ![1024, 4872]⟩
abbrev S8192x4872 : Shape := ⟨2, ![8192, 4872]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S5x1024 : Shape := ⟨2, ![5, 1024]⟩
abbrev S8x1024 : Shape := ⟨2, ![8, 1024]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S6x1024, .f32⟩
  | .hbm, ⟨3, _⟩ => ⟨S4x1024, .f32⟩
  | .hbm, ⟨4, _⟩ => ⟨S1024x4872, .f32⟩
  | .hbm, ⟨5, _⟩ => ⟨S8192x4872, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x4872, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S5x1024, .f32⟩
  | .hbm, ⟨87, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]
-- ==== MixBwd.lean ====
abbrev S8192x1024 : Shape := ⟨2, ![8192, 1024]⟩
abbrev S8192x512 : Shape := ⟨2, ![8192, 512]⟩
abbrev S8192x2048 : Shape := ⟨2, ![8192, 2048]⟩
abbrev S6x1024 : Shape := ⟨2, ![6, 1024]⟩
abbrev S4x1024 : Shape := ⟨2, ![4, 1024]⟩
abbrev S512x1024 : Shape := ⟨2, ![512, 1024]⟩
abbrev S1024x1024 : Shape := ⟨2, ![1024, 1024]⟩
abbrev S_ : Shape := ⟨0, ![]⟩
abbrev S16x1024 : Shape := ⟨2, ![16, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩
abbrev S8x128 : Shape := ⟨2, ![8, 128]⟩
abbrev S8x1024 : Shape := ⟨2, ![8, 1024]⟩
abbrev S1024 : Shape := ⟨1, ![1024]⟩

abbrev nBuf : Space → Nat
  | .hbm => 33
  | .vmem => 49
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x2048, .f32⟩
  | .hbm, ⟨4, _⟩ => ⟨S6x1024, .f32⟩
  | .hbm, ⟨5, _⟩ => ⟨S4x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8192x1024, .f32⟩
  | .hbm, ⟨10, _⟩ => ⟨S_, .f32⟩
  | .hbm, ⟨11, _⟩ => ⟨S6x1024, .f32⟩
  | .hbm, ⟨12, _⟩ => ⟨S16x1024, .f32⟩
  | .hbm, ⟨13, _⟩ => ⟨S8192x2048, .bf16⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S8192x512, .bf16⟩
  | .hbm, ⟨18, _⟩ => ⟨S8192x512, .bf16⟩
  | .hbm, ⟨19, _⟩ => ⟨S8192x1024, .f32⟩
  | .hbm, ⟨20, _⟩ => ⟨S8192x1024, .bf16⟩
  | .hbm, ⟨21, _⟩ => ⟨S8192x1024, .bf16⟩
  | .hbm, ⟨22, _⟩ => ⟨S8192x1024, .bf16⟩
  | .hbm, ⟨23, _⟩ => ⟨S8192x1024, .bf16⟩
  | .hbm, ⟨24, _⟩ => ⟨S_, .f32⟩
  | .hbm, ⟨25, _⟩ => ⟨S8x128, .f32⟩
  | .hbm, ⟨26, _⟩ => ⟨S8192x1024, .bf16⟩
  | .hbm, ⟨27, _⟩ => ⟨S8192x1024, .bf16⟩
  | .hbm, ⟨28, _⟩ => ⟨S8192x1024, .bf16⟩
  | .hbm, ⟨29, _⟩ => ⟨S8192x2048, .bf16⟩
  | .hbm, ⟨30, _⟩ => ⟨S8192x512, .bf16⟩
  | .hbm, ⟨31, _⟩ => ⟨S8192x512, .f32⟩
  | .hbm, ⟨32, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S16x1024, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x2048, .bf16⟩
  | .local _ .vmem, ⟨31, _⟩ => ⟨S512x2048, .bf16⟩
  | .local _ .vmem, ⟨32, _⟩ => ⟨S16x1024, .f32⟩
  | .local _ .vmem, ⟨33, _⟩ => ⟨S512x1024, .bf16⟩
  | .local _ .vmem, ⟨34, _⟩ => ⟨S512x1024, .bf16⟩
  | .local _ .vmem, ⟨35, _⟩ => ⟨S1024x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | .local _ .vmem, ⟨42, _⟩ => ⟨S512x2048, .bf16⟩
  | .local _ .vmem, ⟨43, _⟩ => ⟨S512x2048, .bf16⟩
  | .local _ .vmem, ⟨44, _⟩ => ⟨S512x512, .bf16⟩
  | .local _ .vmem, ⟨45, _⟩ => ⟨S512x512, .bf16⟩
  | .local _ .vmem, ⟨46, _⟩ => ⟨S512x512, .f32⟩
  | .local _ .vmem, ⟨47, _⟩ => ⟨S512x512, .f32⟩
  | .local _ .vmem, ⟨48, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev main_cst_0 : Ref sig .tc := ⟨.hbm, 24, rfl⟩
abbrev main_v9 : Ref sig .tc := ⟨.hbm, 25, rfl⟩
abbrev main_v10_0 : Ref sig .tc := ⟨.hbm, 26, rfl⟩
abbrev main_v10_1 : Ref sig .tc := ⟨.hbm, 27, rfl⟩
abbrev main_v10_2 : Ref sig .tc := ⟨.hbm, 28, rfl⟩
abbrev main_v10_3 : Ref sig .tc := ⟨.hbm, 29, rfl⟩
abbrev main_v10_4 : Ref sig .tc := ⟨.hbm, 30, rfl⟩
abbrev main_v10_5 : Ref sig .tc := ⟨.hbm, 31, rfl⟩
abbrev main_v10_6 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg6_0 : Ref sig .tc := ⟨.vmem, 33, rfl⟩
abbrev cc1_stg7_0 : Ref sig .tc := ⟨.vmem, 34, rfl⟩
abbrev cc1_stg8_0 : Ref sig .tc := ⟨.vmem, 35, rfl⟩
abbrev cc1_stg9_0 : Ref sig .tc := ⟨.vmem, 36, rfl⟩
abbrev cc1_stg9_1 : Ref sig .tc := ⟨.vmem, 37, rfl⟩
abbrev cc1_stg10_0 : Ref sig .tc := ⟨.vmem, 38, rfl⟩
abbrev cc1_stg10_1 : Ref sig .tc := ⟨.vmem, 39, rfl⟩
abbrev cc1_stg11_0 : Ref sig .tc := ⟨.vmem, 40, rfl⟩
abbrev cc1_stg11_1 : Ref sig .tc := ⟨.vmem, 41, rfl⟩
abbrev cc1_stg12_0 : Ref sig .tc := ⟨.vmem, 42, rfl⟩
abbrev cc1_stg12_1 : Ref sig .tc := ⟨.vmem, 43, rfl⟩
abbrev cc1_stg13_0 : Ref sig .tc := ⟨.vmem, 44, rfl⟩
abbrev cc1_stg13_1 : Ref sig .tc := ⟨.vmem, 45, rfl⟩
abbrev cc1_stg14_0 : Ref sig .tc := ⟨.vmem, 46, rfl⟩
abbrev cc1_stg14_1 : Ref sig .tc := ⟨.vmem, 47, rfl⟩
abbrev cc1_stg15_0 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem6_0 : DmaSem sig := 33
abbrev cc1_sem7_0 : DmaSem sig := 34
abbrev cc1_sem8_0 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44
abbrev cc1_sem13_1 : DmaSem sig := 45
abbrev cc1_sem14_0 : DmaSem sig := 46
abbrev cc1_sem14_1 : DmaSem sig := 47
abbrev cc1_sem15_0 : DmaSem sig := 48

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S16x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x2048 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x512 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x512 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 1 → Memref sig .tc .vmem S8x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]
-- ==== MixRefIdeal.lean ====
abbrev S8192x1024 : Shape := ⟨2, ![8192, 1024]⟩
abbrev S8192x512 : Shape := ⟨2, ![8192, 512]⟩
abbrev S8192x2048 : Shape := ⟨2, ![8192, 2048]⟩
abbrev S6x1024 : Shape := ⟨2, ![6, 1024]⟩
abbrev S4x1024 : Shape := ⟨2, ![4, 1024]⟩
abbrev S512x1024 : Shape := ⟨2, ![512, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S8192 : Shape := ⟨1, ![8192]⟩
abbrev S8192x1 : Shape := ⟨2, ![8192, 1]⟩
abbrev S8x1024 : Shape := ⟨2, ![8, 1024]⟩

abbrev nBuf : Space → Nat
  | .hbm => 128
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x2048, .f32⟩
  | .hbm, ⟨4, _⟩ => ⟨S6x1024, .f32⟩
  | .hbm, ⟨5, _⟩ => ⟨S4x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S8192x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S1024, .f32⟩
  | .hbm, ⟨89, _⟩ => ⟨S8192x1024, .f32⟩
  | .hbm, ⟨90, _⟩ => ⟨S_, .f32⟩
  | .hbm, ⟨91, _⟩ => ⟨S8192, .f32⟩
  | .hbm, ⟨92, _⟩ => ⟨S8192x1, .f32⟩
  | .hbm, ⟨93, _⟩ => ⟨S8192x1024, .f32⟩
  | .hbm, ⟨94, _⟩ => ⟨S8192x1024, .f32⟩
  | .hbm, ⟨95, _⟩ => ⟨S8192x1, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S_, .f32⟩
  | .hbm, ⟨100, _⟩ => ⟨S8192, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S_, .f32⟩
  | .hbm, ⟨107, _⟩ => ⟨S1024, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x512, .f32⟩
  | .hbm, ⟨116, _⟩ => ⟨S8192x512, .f32⟩
  | .hbm, ⟨117, _⟩ => ⟨S1x1024, .f32⟩
  | .hbm, ⟨118, _⟩ => ⟨S1x1024, .f32⟩
  | .hbm, ⟨119, _⟩ => ⟨S_, .f32⟩
  | .hbm, ⟨120, _⟩ => ⟨S6x1024, .f32⟩
  | .hbm, ⟨121, _⟩ => ⟨S8x1024, .f32⟩
  | .hbm, ⟨122, _⟩ => ⟨S8192x1024, .bf16⟩
  | .hbm, ⟨123, _⟩ => ⟨S8192x1024, .bf16⟩
  | .hbm, ⟨124, _⟩ => ⟨S8192x1024, .bf16⟩
  | .hbm, ⟨125, _⟩ => ⟨S8192x2048, .f32⟩
  | .hbm, ⟨126, _⟩ => ⟨S8192x2048, .bf16⟩
  | .hbm, ⟨127, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_cst_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_v72 : Ref sig .tc := ⟨.hbm, 98, rfl⟩
abbrev main_cst_15 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_16 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_17 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩

abbrev nD : Nat := 1
abbrev τ : Topo := Topo.v7x

variable {F : FTy → Type} [FloatOps F]
-- ==== FfnBwd.lean ====
abbrev S8192x1024 : Shape := ⟨2, ![8192, 1024]⟩
abbrev S6x1024 : Shape := ⟨2, ![6, 1024]⟩
abbrev S4x1024 : Shape := ⟨2, ![4, 1024]⟩
abbrev S1024x2816 : Shape := ⟨2, ![1024, 2816]⟩
abbrev S2816x1024 : Shape := ⟨2, ![2816, 1024]⟩
abbrev S_ : Shape := ⟨0, ![]⟩
abbrev S16x1024 : Shape := ⟨2, ![16, 1024]⟩
abbrev S8192x2816 : Shape := ⟨2, ![8192, 2816]⟩
abbrev S8x1024 : Shape := ⟨2, ![8, 1024]⟩
abbrev S8x128 : Shape := ⟨2, ![8, 128]⟩
abbrev S256x1024 : Shape := ⟨2, ![256, 1024]⟩
abbrev S256x2816 : Shape := ⟨2, ![256, 2816]⟩
abbrev S3 : Shape := ⟨1, ![3]⟩
abbrev S1 : Shape := ⟨1, ![1]⟩
abbrev S256 : Shape := ⟨1, ![256]⟩
abbrev S256x1 : Shape := ⟨2, ![256, 1]⟩
abbrev S1x1024 : Shape := ⟨2, ![1, 1024]⟩
abbrev S1x256x1024 : Shape := ⟨3, ![1, 256, 1024]⟩
abbrev S1x1x1 : Shape := ⟨3, ![1, 1, 1]⟩
abbrev S1024 : Shape := ⟨1, ![1024]⟩

abbrev nBuf : Space → Nat
  | .hbm => 23
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S6x1024, .f32⟩
  | .hbm, ⟨3, _⟩ => ⟨S4x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S_, .f32⟩
  | .hbm, ⟨8, _⟩ => ⟨S6x1024, .f32⟩
  | .hbm, ⟨9, _⟩ => ⟨S16x1024, .f32⟩
  | .hbm, ⟨10, _⟩ => ⟨S2816x1024, .f32⟩
  | .hbm, ⟨11, _⟩ => ⟨S2816x1024, .bf16⟩
  | .hbm, ⟨12, _⟩ => ⟨S2816x1024, .f32⟩
  | .hbm, ⟨13, _⟩ => ⟨S2816x1024, .bf16⟩
  | .hbm, ⟨14, _⟩ => ⟨S2816x1024, .bf16⟩
  | .hbm, ⟨15, _⟩ => ⟨S8192x1024, .f32⟩
  | .hbm, ⟨16, _⟩ => ⟨S8192x1024, .bf16⟩
  | .hbm, ⟨17, _⟩ => ⟨S8192x2816, .bf16⟩
  | .hbm, ⟨18, _⟩ => ⟨S8192x2816, .bf16⟩
  | .hbm, ⟨19, _⟩ => ⟨S8192x2816, .bf16⟩
  | .hbm, ⟨20, _⟩ => ⟨S8192x1024, .bf16⟩
  | .hbm, ⟨21, _⟩ => ⟨S8x1024, .f32⟩
  | .hbm, ⟨22, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S16x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x1024, .bf16⟩
  | .local _ .vmem, ⟨16, _⟩ => ⟨S256x1024, .bf16⟩
  | .local _ .vmem, ⟨17, _⟩ => ⟨S8x1024, .f32⟩
  | .local _ .vmem, ⟨18, _⟩ => ⟨S8x128, .f32⟩
  | .local _ .vmem, ⟨19, _⟩ => ⟨S2816x1024, .bf16⟩
  | .local _ .vmem, ⟨20, _⟩ => ⟨S2816x1024, .bf16⟩
  | .local _ .vmem, ⟨21, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev main_v7_6 : Ref sig .tc := ⟨.hbm, 21, rfl⟩
abbrev main_v7_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnRefIdeal.lean ====
abbrev S8192x1024 : Shape := ⟨2, ![8192, 1024]⟩
abbrev S6x1024 : Shape := ⟨2, ![6, 1024]⟩
abbrev S4x1024 : Shape := ⟨2, ![4, 1024]⟩
abbrev S1024x2816 : Shape := ⟨2, ![1024, 2816]⟩
abbrev S2816x1024 : Shape := ⟨2, ![2816, 1024]⟩
abbrev S_ : Shape := ⟨0, ![]⟩
abbrev S8192x2816 : Shape := ⟨2, ![8192, 2816]⟩
abbrev S1x1024 : Shape := ⟨2, ![1, 1024]⟩
abbrev S1024 : Shape := ⟨1, ![1024]⟩
abbrev S8192 : Shape := ⟨1, ![8192]⟩
abbrev S8192x1 : Shape := ⟨2, ![8192, 1]⟩
abbrev S3x1024 : Shape := ⟨2, ![3, 1024]⟩
abbrev S8x1024 : Shape := ⟨2, ![8, 1024]⟩
abbrev S8x128 : Shape := ⟨2, ![8, 128]⟩

abbrev nBuf : Space → Nat
  | .hbm => 213
  | .vmem => 0
  | .smem => 0
  | _ => 0

abbrev hbmTy0_0 (i : Nat) : BufTy := match i % 128 with
  | 0 => ⟨S8192x1024, .f32⟩
  | 1 => ⟨S8192x1024, .f32⟩
  | 2 => ⟨S6x1024, .f32⟩
  | 3 => ⟨S4x1024, .f32⟩
  | 4 => ⟨S1024x2816, .f32⟩
  | 5 => ⟨S1024x2816, .f32⟩
  | 6 => ⟨S2816x1024, .f32⟩
  | 7 => ⟨S_, .f32⟩
  | 8 => ⟨S8192x2816, .f32⟩
  | 9 => ⟨S1x1024, .f32⟩
  | 10 => ⟨S1024, .f32⟩
  | 11 => ⟨S1x1024, .f32⟩
  | 12 => ⟨S1024, .f32⟩
  | 13 => ⟨S1x1024, .f32⟩
  | 14 => ⟨S1024, .f32⟩
  | 15 => ⟨S1x1024, .f32⟩
  | 16 => ⟨S1024, .f32⟩
  | 17 => ⟨S1x1024, .f32⟩
  | 18 => ⟨S1024, .f32⟩
  | 19 => ⟨S_, .f32⟩
  | 20 => ⟨S8192x1024, .f32⟩
  | 21 => ⟨S8192x1024, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x1, .f32⟩
  | 32 => ⟨S8192x1, .f32⟩
  | 33 => ⟨S_, .f32⟩
  | 34 => ⟨S8192x1, .f32⟩
  | 35 => ⟨S8192x1, .f32⟩
  | 36 => ⟨S8192x1024, .f32⟩
  | 37 => ⟨S8192x1024, .f32⟩
  | 38 => ⟨S1x1024, .f32⟩
  | 39 => ⟨S8192x1024, .f32⟩
  | 40 => ⟨S8192x1024, .f32⟩
  | 41 => ⟨S1x1024, .f32⟩
  | 42 => ⟨S_, .f32⟩
  | 43 => ⟨S1x1024, .f32⟩
  | 44 => ⟨S1x1024, .f32⟩
  | 45 => ⟨S8192x1024, .f32⟩
  | 46 => ⟨S8192x1024, .f32⟩
  | 47 => ⟨S1x1024, .f32⟩
  | 48 => ⟨S8192x1024, .f32⟩
  | 49 => ⟨S8192x1024, .f32⟩
  | 50 => ⟨S8192x2816, .f32⟩
  | 51 => ⟨S8192x2816, .f32⟩
  | 52 => ⟨S8192x2816, .f32⟩
  | 53 => ⟨S8192x2816, .f32⟩
  | 54 => ⟨S_, .f32⟩
  | 55 => ⟨S8192x2816, .f32⟩
  | 56 => ⟨S8192x2816, .f32⟩
  | 57 => ⟨S_, .f32⟩
  | 58 => ⟨S8192x2816, .f32⟩
  | 59 => ⟨S8192x2816, .f32⟩
  | 60 => ⟨S_, .f32⟩
  | 61 => ⟨S8192x2816, .f32⟩
  | 62 => ⟨S8192x2816, .f32⟩
  | 63 => ⟨S8192x2816, .f32⟩
  | 64 => ⟨S8192x2816, .f32⟩
  | 65 => ⟨S8192x2816, .f32⟩
  | 66 => ⟨S8192x2816, .f32⟩
  | 67 => ⟨S8192x2816, .f32⟩
  | 68 => ⟨S8192x1024, .f32⟩
  | 69 => ⟨S8192x1024, .f32⟩
  | 70 => ⟨S1x1024, .f32⟩
  | 71 => ⟨S8192x1024, .f32⟩
  | 72 => ⟨S_, .f32⟩
  | 73 => ⟨S8192, .f32⟩
  | 74 => ⟨S8192x1, .f32⟩
  | 75 => ⟨S_, .f32⟩
  | 76 => ⟨S8192x1, .f32⟩
  | 77 => ⟨S8192x1, .f32⟩
  | 78 => ⟨S_, .f32⟩
  | 79 => ⟨S8192x1, .f32⟩
  | 80 => ⟨S8192x1, .f32⟩
  | 81 => ⟨S8192x1, .f32⟩
  | 82 => ⟨S8192x1, .f32⟩
  | 83 => ⟨S_, .f32⟩
  | 84 => ⟨S8192x1, .f32⟩
  | 85 => ⟨S8192x1, .f32⟩
  | 86 => ⟨S8192x1024, .f32⟩
  | 87 => ⟨S8192x1024, .f32⟩
  | 88 => ⟨S1x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S_, .f32⟩
  | 97 => ⟨S8192x1024, .f32⟩
  | 98 => ⟨S8192x1024, .f32⟩
  | 99 => ⟨S_, .f32⟩
  | 100 => ⟨S8192, .f32⟩
  | 101 => ⟨S_, .f32⟩
  | 102 => ⟨S8192, .f32⟩
  | 103 => ⟨S8192, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S8192, .f32⟩
  | 112 => ⟨S_, .f32⟩
  | 113 => ⟨S8192, .f32⟩
  | 114 => ⟨S8192, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S_, .f32⟩
  | 121 => ⟨S1024, .f32⟩
  | 122 => ⟨S1x1024, .f32⟩
  | 123 => ⟨S8192x1024, .f32⟩
  | 124 => ⟨S_, .f32⟩
  | 125 => ⟨S1024, .f32⟩
  | 126 => ⟨S1x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S_, .f32⟩
  | 2 => ⟨S1024, .f32⟩
  | 3 => ⟨S8192x1024, .f32⟩
  | 4 => ⟨S_, .f32⟩
  | 5 => ⟨S8192, .f32⟩
  | 6 => ⟨S8192x1, .f32⟩
  | 7 => ⟨S8192x1024, .f32⟩
  | 8 => ⟨S8192x1024, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S_, .f32⟩
  | 21 => ⟨S1024, .f32⟩
  | 22 => ⟨S8192x2816, .f32⟩
  | 23 => ⟨S8192x2816, .f32⟩
  | 24 => ⟨S8192x2816, .f32⟩
  | 25 => ⟨S8192x1024, .f32⟩
  | 26 => ⟨S8192x2816, .f32⟩
  | 27 => ⟨S8192x2816, .f32⟩
  | 28 => ⟨S8192x2816, .f32⟩
  | 29 => ⟨S8192x2816, .f32⟩
  | 30 => ⟨S8192x1024, .f32⟩
  | 31 => ⟨S8192x1024, .f32⟩
  | 32 => ⟨S_, .f32⟩
  | 33 => ⟨S1024, .f32⟩
  | 34 => ⟨S1x1024, .f32⟩
  | 35 => ⟨S_, .f32⟩
  | 36 => ⟨S1024, .f32⟩
  | 37 => ⟨S8192x1024, .f32⟩
  | 38 => ⟨S_, .f32⟩
  | 39 => ⟨S1024, .f32⟩
  | 40 => ⟨S1x1024, .f32⟩
  | 41 => ⟨S8192x1024, .f32⟩
  | 42 => ⟨S8192x1024, .f32⟩
  | 43 => ⟨S_, .f32⟩
  | 44 => ⟨S1024, .f32⟩
  | 45 => ⟨S8192x1024, .f32⟩
  | 46 => ⟨S_, .f32⟩
  | 47 => ⟨S1024, .f32⟩
  | 48 => ⟨S1x1024, .f32⟩
  | 49 => ⟨S8192x1024, .f32⟩
  | 50 => ⟨S8192x1024, .f32⟩
  | 51 => ⟨S_, .f32⟩
  | 52 => ⟨S1024, .f32⟩
  | 53 => ⟨S8192x1024, .f32⟩
  | 54 => ⟨S_, .f32⟩
  | 55 => ⟨S8192, .f32⟩
  | 56 => ⟨S8192x1, .f32⟩
  | 57 => ⟨S8192x1024, .f32⟩
  | 58 => ⟨S8192x1024, .f32⟩
  | 59 => ⟨S8192x1024, .f32⟩
  | 60 => ⟨S8192x1, .f32⟩
  | 61 => ⟨S_, .f32⟩
  | 62 => ⟨S8192x1, .f32⟩
  | 63 => ⟨S8192x1, .f32⟩
  | 64 => ⟨S_, .f32⟩
  | 65 => ⟨S8192, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S1x1024, .f32⟩
  | 72 => ⟨S1x1024, .f32⟩
  | 73 => ⟨S1x1024, .f32⟩
  | 74 => ⟨S1x1024, .f32⟩
  | 75 => ⟨S1x1024, .f32⟩
  | 76 => ⟨S_, .f32⟩
  | 77 => ⟨S3x1024, .f32⟩
  | 78 => ⟨S8x1024, .f32⟩
  | 79 => ⟨S8192x1024, .bf16⟩
  | 80 => ⟨S8192x2816, .bf16⟩
  | 81 => ⟨S8192x2816, .bf16⟩
  | 82 => ⟨S8192x2816, .bf16⟩
  | 83 => ⟨S8192x1024, .bf16⟩
  | 84 => ⟨S8x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_v38_2 : Ref sig .tc := ⟨.hbm, 59, rfl⟩
abbrev main_call0_cst_1 : Ref sig .tc := ⟨.hbm, 60, rfl⟩
abbrev main_call0_v6 : Ref sig .tc := ⟨.hbm, 61, rfl⟩
abbrev main_call0_v7 : Ref sig .tc := ⟨.hbm, 62, rfl⟩
abbrev main_v38_1 : Ref sig .tc := ⟨.hbm, 63, rfl⟩
abbrev main_v38_0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_10 : Ref sig .tc := ⟨.hbm, 96, rfl⟩
abbrev main_v66 : Ref sig .tc := ⟨.hbm, 97, rfl⟩
abbrev main_v67 : Ref sig .tc := ⟨.hbm, 98, rfl⟩
abbrev main_cst_11 : Ref sig .tc := ⟨.hbm, 99, rfl⟩
abbrev main_v68 : Ref sig .tc := ⟨.hbm, 100, rfl⟩
abbrev main_cst_12 : Ref sig .tc := ⟨.hbm, 101, rfl⟩
abbrev main_v69 : Ref sig .tc := ⟨.hbm, 102, rfl⟩
abbrev main_v70 : Ref sig .tc := ⟨.hbm, 103, rfl⟩
abbrev main_cst_13 : Ref sig .tc := ⟨.hbm, 104, rfl⟩
abbrev main_v71 : Ref sig .tc := ⟨.hbm, 105, rfl⟩
abbrev main_cst_14 : Ref sig .tc := ⟨.hbm, 106, rfl⟩
abbrev main_v72 : Ref sig .tc := ⟨.hbm, 107, rfl⟩
abbrev main_cst_15 : Ref sig .tc := ⟨.hbm, 108, rfl⟩
abbrev main_cst_16 : Ref sig .tc := ⟨.hbm, 109, rfl⟩
abbrev main_v73 : Ref sig .tc := ⟨.hbm, 110, rfl⟩
abbrev main_v74 : Ref sig .tc := ⟨.hbm, 111, rfl⟩
abbrev main_cst_17 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_18 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_19 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_20 : Ref sig .tc := ⟨.hbm, 129, rfl⟩
abbrev main_v89 : Ref sig .tc := ⟨.hbm, 130, rfl⟩
abbrev main_v90 : Ref sig .tc := ⟨.hbm, 131, rfl⟩
abbrev main_cst_21 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_22 : Ref sig .tc := ⟨.hbm, 138, rfl⟩
abbrev main_v96 : Ref sig .tc := ⟨.hbm, 139, rfl⟩
abbrev main_v97 : Ref sig .tc := ⟨.hbm, 140, rfl⟩
abbrev main_cst_23 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_24 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_call1_v0 : Ref sig .tc := ⟨.hbm, 154, rfl⟩
abbrev main_call1_v1 : Ref sig .tc := ⟨.hbm, 155, rfl⟩
abbrev main_call1_v2 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_25 : Ref sig .tc := ⟨.hbm, 160, rfl⟩
abbrev main_v112 : Ref sig .tc := ⟨.hbm, 161, rfl⟩
abbrev main_v113 : Ref sig .tc := ⟨.hbm, 162, rfl⟩
abbrev main_cst_26 : Ref sig .tc := ⟨.hbm, 163, rfl⟩
abbrev main_v114 : Ref sig .tc := ⟨.hbm, 164, rfl⟩
abbrev main_v115 : Ref sig .tc := ⟨.hbm, 165, rfl⟩
abbrev main_cst_27 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_cst_28 : Ref sig .tc := ⟨.hbm, 171, rfl⟩
abbrev main_v120 : Ref sig .tc := ⟨.hbm, 172, rfl⟩
abbrev main_v121 : Ref sig .tc := ⟨.hbm, 173, rfl⟩
abbrev main_cst_29 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_cst_30 : Ref sig .tc := ⟨.hbm, 179, rfl⟩
abbrev main_v126 : Ref sig .tc := ⟨.hbm, 180, rfl⟩
abbrev main_v127 : Ref sig .tc := ⟨.hbm, 181, rfl⟩
abbrev main_cst_31 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_cst_32 : Ref sig .tc := ⟨.hbm, 189, rfl⟩
abbrev main_v134 : Ref sig .tc := ⟨.hbm, 190, rfl⟩
abbrev main_v135 : Ref sig .tc := ⟨.hbm, 191, rfl⟩
abbrev main_cst_33 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_cst_34 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩

abbrev nD : Nat := 1
abbrev τ : Topo := Topo.v7x

variable {F : FTy → Type} [FloatOps F]
-- ==== AttnBwd.lean ====
abbrev S8192x768 : Shape := ⟨2, ![8192, 768]⟩
abbrev S8192 : Shape := ⟨1, ![8192]⟩
abbrev S8 : Shape := ⟨1, ![8]⟩
abbrev S8192x512 : Shape := ⟨2, ![8192, 512]⟩
abbrev S8192x8x64 : Shape := ⟨3, ![8192, 8, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x8x32 : Shape := ⟨3, ![8192, 8, 32]⟩
abbrev S8192x128 : Shape := ⟨2, ![8192, 128]⟩
abbrev S8192x2x64 : Shape := ⟨3, ![8192, 2, 64]⟩
abbrev S8192x2x32 : Shape := ⟨3, ![8192, 2, 32]⟩
abbrev S64x128x2x4x64 : Shape := ⟨5, ![64, 128, 2, 4, 64]⟩
abbrev S64x128x2x64 : Shape := ⟨4, ![64, 128, 2, 64]⟩
abbrev S1x128x2x64 : Shape := ⟨4, ![1, 128, 2, 64]⟩
abbrev S63x128x2x64 : Shape := ⟨4, ![63, 128, 2, 64]⟩
abbrev S64x256x2x64 : Shape := ⟨4, ![64, 256, 2, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S64x128x256 : Shape := ⟨3, ![64, 128, 256]⟩
abbrev S64x1x1x128x256 : Shape := ⟨5, ![64, 1, 1, 128, 256]⟩
abbrev S64x2x256x128x4 : Shape := ⟨5, ![64, 2, 256, 128, 4]⟩
abbrev S64x2x4x128x256 : Shape := ⟨5, ![64, 2, 4, 128, 256]⟩
abbrev S2x4 : Shape := ⟨2, ![2, 4]⟩
abbrev S1x2x4x1 : Shape := ⟨4, ![1, 2, 4, 1]⟩
abbrev S64x2x4x128 : Shape := ⟨4, ![64, 2, 4, 128]⟩
abbrev S64x2x4x128x1 : Shape := ⟨5, ![64, 2, 4, 128, 1]⟩
abbrev S64x128x2x4 : Shape := ⟨4, ![64, 128, 2, 4]⟩
abbrev S8192x8 : Shape := ⟨2, ![8192, 8]⟩
abbrev S8192x120 : Shape := ⟨2, ![8192, 120]⟩
abbrev S1x8192x1x32 : Shape := ⟨4, ![1, 8192, 1, 32]⟩
abbrev S1x8192x4x32 : Shape := ⟨4, ![1, 8192, 4, 32]⟩
abbrev S1x64 : Shape := ⟨2, ![1, 64]⟩
abbrev S2x64 : Shape := ⟨2, ![2, 64]⟩
abbrev S1x128 : Shape := ⟨2, ![1, 128]⟩
abbrev S128x768 : Shape := ⟨2, ![128, 768]⟩
abbrev S8x128 : Shape := ⟨2, ![8, 128]⟩
abbrev S128x512 : Shape := ⟨2, ![128, 512]⟩
abbrev S128x128 : Shape := ⟨2, ![128, 128]⟩
abbrev S256x128 : Shape := ⟨2, ![256, 128]⟩
abbrev S512x128 : Shape := ⟨2, ![512, 128]⟩
abbrev S1024x128 : Shape := ⟨2, ![1024, 128]⟩
abbrev S1024x1 : Shape := ⟨2, ![1024, 1]⟩
abbrev S512x256 : Shape := ⟨2, ![512, 256]⟩
abbrev S1024x256 : Shape := ⟨2, ![1024, 256]⟩
abbrev S1024 : Shape := ⟨1, ![1024]⟩
abbrev S1 : Shape := ⟨1, ![1]⟩
abbrev S1x128x1 : Shape := ⟨3, ![1, 128, 1]⟩
abbrev S1x1x1 : Shape := ⟨3, ![1, 1, 1]⟩

abbrev nBuf : Space → Nat
  | .hbm => 195
  | .vmem => 29
  | .smem => 1
  | _ => 0

abbrev hbmTy0_0 (i : Nat) : BufTy := match i % 128 with
  | 0 => ⟨S8192x768, .f32⟩
  | 1 => ⟨S8192, .i32⟩
  | 2 => ⟨S8, .f32⟩
  | 3 => ⟨S8192x512, .f32⟩
  | 4 => ⟨S8192x512, .f32⟩
  | 5 => ⟨S8192x8x64, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S8192, .f32⟩
  | 17 => ⟨S8192x1, .f32⟩
  | 18 => ⟨S1x32, .f32⟩
  | 19 => ⟨S8192x32, .f32⟩
  | 20 => ⟨S8192x32, .f32⟩
  | 21 => ⟨S8192x32, .f32⟩
  | 22 => ⟨S8192x32, .f32⟩
  | 23 => ⟨S8192x1x32, .f32⟩
  | 24 => ⟨S8192x32, .f32⟩
  | 25 => ⟨S8192x1x32, .f32⟩
  | 26 => ⟨S8192x8x32, .f32⟩
  | 27 => ⟨S8192x8x32, .f32⟩
  | 28 => ⟨S8192x8x32, .f32⟩
  | 29 => ⟨S8192x8x32, .f32⟩
  | 30 => ⟨S8192x8x32, .f32⟩
  | 31 => ⟨S8192x8x32, .f32⟩
  | 32 => ⟨S8192x8x32, .f32⟩
  | 33 => ⟨S8192x8x32, .f32⟩
  | 34 => ⟨S8192x8x32, .f32⟩
  | 35 => ⟨S8192x8x32, .f32⟩
  | 36 => ⟨S8192x8x32, .f32⟩
  | 37 => ⟨S8192x8x32, .f32⟩
  | 38 => ⟨S8192x8x64, .f32⟩
  | 39 => ⟨S_, .f32⟩
  | 40 => ⟨S8192x8x64, .f32⟩
  | 41 => ⟨S8192x8x64, .f32⟩
  | 42 => ⟨S8192x128, .f32⟩
  | 43 => ⟨S8192x2x64, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S8192, .f32⟩
  | 55 => ⟨S8192x1, .f32⟩
  | 56 => ⟨S1x32, .f32⟩
  | 57 => ⟨S8192x32, .f32⟩
  | 58 => ⟨S8192x32, .f32⟩
  | 59 => ⟨S8192x32, .f32⟩
  | 60 => ⟨S8192x32, .f32⟩
  | 61 => ⟨S8192x1x32, .f32⟩
  | 62 => ⟨S8192x32, .f32⟩
  | 63 => ⟨S8192x1x32, .f32⟩
  | 64 => ⟨S8192x2x32, .f32⟩
  | 65 => ⟨S8192x2x32, .f32⟩
  | 66 => ⟨S8192x2x32, .f32⟩
  | 67 => ⟨S8192x2x32, .f32⟩
  | 68 => ⟨S8192x2x32, .f32⟩
  | 69 => ⟨S8192x2x32, .f32⟩
  | 70 => ⟨S8192x2x32, .f32⟩
  | 71 => ⟨S8192x2x32, .f32⟩
  | 72 => ⟨S8192x2x32, .f32⟩
  | 73 => ⟨S8192x2x32, .f32⟩
  | 74 => ⟨S8192x2x32, .f32⟩
  | 75 => ⟨S8192x2x32, .f32⟩
  | 76 => ⟨S8192x2x64, .f32⟩
  | 77 => ⟨S64x128x2x4x64, .f32⟩
  | 78 => ⟨S64x128x2x64, .f32⟩
  | 79 => ⟨S1x128x2x64, .f32⟩
  | 80 => ⟨S_, .f32⟩
  | 81 => ⟨S1x128x2x64, .f32⟩
  | 82 => ⟨S63x128x2x64, .f32⟩
  | 83 => ⟨S64x128x2x64, .f32⟩
  | 84 => ⟨S64x256x2x64, .f32⟩
  | 85 => ⟨S128, .i32⟩
  | 86 => ⟨S128x1, .i32⟩
  | 87 => ⟨S256, .i32⟩
  | 88 => ⟨S1x256, .i32⟩
  | 89 => ⟨S128x256, .i32⟩
  | 90 => ⟨S128x256, .i32⟩
  | 91 => ⟨S128x256, .i1⟩
  | 92 => ⟨S_, .i32⟩
  | 93 => ⟨S128x1, .i32⟩
  | 94 => ⟨S128x1, .i32⟩
  | 95 => ⟨S128x256, .i32⟩
  | 96 => ⟨S128x256, .i32⟩
  | 97 => ⟨S128x256, .i1⟩
  | 98 => ⟨S128x256, .i1⟩
  | 99 => ⟨S1x128x256, .i1⟩
  | 100 => ⟨S64, .i32⟩
  | 101 => ⟨S64x1x1, .i32⟩
  | 102 => ⟨S_, .i32⟩
  | 103 => ⟨S64x1x1, .i32⟩
  | 104 => ⟨S64x1x1, .i1⟩
  | 105 => ⟨S1x1x256, .i32⟩
  | 106 => ⟨S_, .i32⟩
  | 107 => ⟨S1x1x256, .i32⟩
  | 108 => ⟨S1x1x256, .i1⟩
  | 109 => ⟨S64x1x256, .i1⟩
  | 110 => ⟨S64x1x256, .i1⟩
  | 111 => ⟨S64x1x256, .i1⟩
  | 112 => ⟨S64x128x256, .i1⟩
  | 113 => ⟨S64x128x256, .i1⟩
  | 114 => ⟨S64x128x256, .i1⟩
  | 115 => ⟨S64x1x1x128x256, .i1⟩
  | 116 => ⟨S64x2x256x128x4, .f32⟩
  | 117 => ⟨S64x2x4x128x256, .f32⟩
  | 118 => ⟨S_, .f32⟩
  | 119 => ⟨S_, .f32⟩
  | 120 => ⟨S64x2x4x128x256, .i1⟩
  | 121 => ⟨S64x2x4x128x256, .f32⟩
  | 122 => ⟨S64x2x4x128x256, .f32⟩
  | 123 => ⟨S2x4, .f32⟩
  | 124 => ⟨S1x2x4x1, .f32⟩
  | 125 => ⟨S_, .f32⟩
  | 126 => ⟨S64x2x4x128, .f32⟩
  | 127 => ⟨S64x2x4x128, .f32⟩
  | _ => ⟨S8192x768, .f32⟩

abbrev hbmTy0_1 (i : Nat) : BufTy := match i % 128 with
  | 0 => ⟨S64x2x4x128, .f32⟩
  | 1 => ⟨S64x2x4x128x1, .f32⟩
  | 2 => ⟨S64x2x4x128x256, .f32⟩
  | 3 => ⟨S64x2x4x128x256, .f32⟩
  | 4 => ⟨S64x2x4x128x256, .f32⟩
  | 5 => ⟨S_, .f32⟩
  | 6 => ⟨S64x2x4x128, .f32⟩
  | 7 => ⟨S64x2x4x128, .f32⟩
  | 8 => ⟨S64x2x4x128, .f32⟩
  | 9 => ⟨S64x2x4x128, .f32⟩
  | 10 => ⟨S64x2x4x128, .f32⟩
  | 11 => ⟨S64x2x4x128, .f32⟩
  | 12 => ⟨S64x2x4x128, .f32⟩
  | 13 => ⟨S64x128x2x4, .f32⟩
  | 14 => ⟨S8192x8, .f32⟩
  | 15 => ⟨S_, .f32⟩
  | 16 => ⟨S8192x120, .f32⟩
  | 17 => ⟨S8192x128, .f32⟩
  | 18 => ⟨S8192x512, .f32⟩
  | 19 => ⟨S8192x512, .bf16⟩
  | 20 => ⟨S8192x128, .f32⟩
  | 21 => ⟨S8192x128, .bf16⟩
  | 22 => ⟨S8192x128, .f32⟩
  | 23 => ⟨S8192x128, .bf16⟩
  | 24 => ⟨S32, .f32⟩
  | 25 => ⟨S_, .f32⟩
  | 26 => ⟨S32, .f32⟩
  | 27 => ⟨S32, .f32⟩
  | 28 => ⟨S_, .f32⟩
  | 29 => ⟨S32, .f32⟩
  | 30 => ⟨S32, .f32⟩
  | 31 => ⟨S_, .f32⟩
  | 32 => ⟨S32, .f32⟩
  | 33 => ⟨S32, .f32⟩
  | 34 => ⟨S8192, .f32⟩
  | 35 => ⟨S8192x1, .f32⟩
  | 36 => ⟨S1x32, .f32⟩
  | 37 => ⟨S8192x32, .f32⟩
  | 38 => ⟨S8192x32, .f32⟩
  | 39 => ⟨S8192x32, .f32⟩
  | 40 => ⟨S8192x32, .f32⟩
  | 41 => ⟨S1x8192x1x32, .f32⟩
  | 42 => ⟨S1x8192x4x32, .f32⟩
  | 43 => ⟨S8192x128, .f32⟩
  | 44 => ⟨S_, .f32⟩
  | 45 => ⟨S32, .f32⟩
  | 46 => ⟨S32, .f32⟩
  | 47 => ⟨S_, .f32⟩
  | 48 => ⟨S32, .f32⟩
  | 49 => ⟨S64, .f32⟩
  | 50 => ⟨S1x64, .f32⟩
  | 51 => ⟨S2x64, .f32⟩
  | 52 => ⟨S128, .f32⟩
  | 53 => ⟨S8192x32, .f32⟩
  | 54 => ⟨S1x8192x1x32, .f32⟩
  | 55 => ⟨S1x8192x4x32, .f32⟩
  | 56 => ⟨S8192x128, .f32⟩
  | 57 => ⟨S1x128, .f32⟩
  | 58 => ⟨S8192x128, .f32⟩
  | 59 => ⟨S8192x128, .f32⟩
  | 60 => ⟨S8192x512, .bf16⟩
  | 61 => ⟨S8192x768, .bf16⟩
  | 62 => ⟨S128x768, .bf16⟩
  | 63 => ⟨S8x128, .f32⟩
  | 64 => ⟨S_, .i32⟩
  | 65 => ⟨S_, .i32⟩
  | 66 => ⟨S8192x768, .bf16⟩
  | _ => ⟨S8192x768, .f32⟩

abbrev hbmTy (i : Nat) : BufTy := match i / 128 with
  | 0 => hbmTy0_0 i
  | 1 => hbmTy0_1 i
  | _ => ⟨S8192x768, .f32⟩

abbrev bufTy : (tb : Table) → Fin (tcTables nBuf tb) → BufTy
  | .hbm, ⟨i, _⟩ => hbmTy i
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x768, .bf16⟩
  | .local _ .vmem, ⟨23, _⟩ => ⟨S128x768, .bf16⟩
  | .local _ .vmem, ⟨24, _⟩ => ⟨S128x768, .bf16⟩
  | .local _ .vmem, ⟨25, _⟩ => ⟨S8x128, .f32⟩
  | .local _ .vmem, ⟨26, _⟩ => ⟨S128x128, .f32⟩
  | .local _ .vmem, ⟨27, _⟩ => ⟨S128x128, .f32⟩
  | .local _ .vmem, ⟨28, _⟩ => ⟨S128x512, .bf16⟩
  | .local _ .smem, ⟨0, _⟩ => ⟨S8, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst_6 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_c : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_c_7 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_c_8 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_cst_9 : Ref sig .tc := ⟨.hbm, 118, rfl⟩
abbrev main_call0_v0 : Ref sig .tc := ⟨.hbm, 119, rfl⟩
abbrev main_call0_v1 : Ref sig .tc := ⟨.hbm, 120, rfl⟩
abbrev main_call0_v2 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_cst_10 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_cst_11 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_cst_12 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_cst_13 : Ref sig .tc := ⟨.hbm, 153, rfl⟩
abbrev main_v131 : Ref sig .tc := ⟨.hbm, 154, rfl⟩
abbrev main_v132 : Ref sig .tc := ⟨.hbm, 155, rfl⟩
abbrev main_cst_14 : Ref sig .tc := ⟨.hbm, 156, rfl⟩
abbrev main_v133 : Ref sig .tc := ⟨.hbm, 157, rfl⟩
abbrev main_v134 : Ref sig .tc := ⟨.hbm, 158, rfl⟩
abbrev main_cst_15 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_cst_16 : Ref sig .tc := ⟨.hbm, 172, rfl⟩
abbrev main_v147 : Ref sig .tc := ⟨.hbm, 173, rfl⟩
abbrev main_v148 : Ref sig .tc := ⟨.hbm, 174, rfl⟩
abbrev main_cst_17 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162_0 : Ref sig .tc := ⟨.hbm, 189, rfl⟩
abbrev main_v162_1 : Ref sig .tc := ⟨.hbm, 190, rfl⟩
abbrev main_v162_2 : Ref sig .tc := ⟨.hbm, 191, rfl⟩
abbrev main_c_18 : Ref sig .tc := ⟨.hbm, 192, rfl⟩
abbrev main_c_19 : Ref sig .tc := ⟨.hbm, 193, rfl⟩
abbrev main_v163 : Ref sig .tc := ⟨.hbm, 194, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S128x768 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== AttnBwdIdeal.lean ====
variable {F : FTy → Type} [FloatOps F] [Named F]
def κ : String → Option EReal := fun
  | "mask" => some ⊥
  | _ => none
-- ==== AttnRefIdeal.lean ====
abbrev S8192x768 : Shape := ⟨2, ![8192, 768]⟩
abbrev S8192 : Shape := ⟨1, ![8192]⟩
abbrev S8 : Shape := ⟨1, ![8]⟩
abbrev S8192x512 : Shape := ⟨2, ![8192, 512]⟩
abbrev S8192x8x64 : Shape := ⟨3, ![8192, 8, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x8x32 : Shape := ⟨3, ![8192, 8, 32]⟩
abbrev S8192x128 : Shape := ⟨2, ![8192, 128]⟩
abbrev S8192x2x64 : Shape := ⟨3, ![8192, 2, 64]⟩
abbrev S8192x2x32 : Shape := ⟨3, ![8192, 2, 32]⟩
abbrev S64x128x2x4x64 : Shape := ⟨5, ![64, 128, 2, 4, 64]⟩
abbrev S64x128x2x64 : Shape := ⟨4, ![64, 128, 2, 64]⟩
abbrev S1x128x2x64 : Shape := ⟨4, ![1, 128, 2, 64]⟩
abbrev S63x128x2x64 : Shape := ⟨4, ![63, 128, 2, 64]⟩
abbrev S64x256x2x64 : Shape := ⟨4, ![64, 256, 2, 64]⟩
abbrev S64x2x256x128x4 : Shape := ⟨5, ![64, 2, 256, 128, 4]⟩
abbrev S64x2x4x128x256 : Shape := ⟨5, ![64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S64x1x1x128x256 : Shape := ⟨5, ![64, 1, 1, 128, 256]⟩
abbrev S2x4 : Shape := ⟨2, ![2, 4]⟩
abbrev S1x2x4x1x1 : Shape := ⟨5, ![1, 2, 4, 1, 1]⟩
abbrev S64x2x4x128 : Shape := ⟨4, ![64, 2, 4, 128]⟩
abbrev S64x2x4x128x1 : Shape := ⟨5, ![64, 2, 4, 128, 1]⟩
abbrev S64x2x64x4x128 : Shape := ⟨5, ![64, 2, 64, 4, 128]⟩
abbrev S64x2x64x256 : Shape := ⟨4, ![64, 2, 64, 256]⟩
abbrev S2x4x1 : Shape := ⟨3, ![2, 4, 1]⟩
abbrev S64x2x128x4x64 : Shape := ⟨5, ![64, 2, 128, 4, 64]⟩
abbrev S64x2x256x64 : Shape := ⟨4, ![64, 2, 256, 64]⟩
abbrev S1x128 : Shape := ⟨2, ![1, 128]⟩
abbrev S8x128 : Shape := ⟨2, ![8, 128]⟩

abbrev nBuf : Space → Nat
  | .hbm => 320
  | .vmem => 0
  | .smem => 0
  | _ => 0

abbrev hbmTy0_0 (i : Nat) : BufTy := match i % 128 with
  | 0 => ⟨S8192x768, .f32⟩
  | 1 => ⟨S8192, .i32⟩
  | 2 => ⟨S8, .f32⟩
  | 3 => ⟨S8192x512, .f32⟩
  | 4 => ⟨S8192x512, .f32⟩
  | 5 => ⟨S8192x8x64, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S8192, .f32⟩
  | 17 => ⟨S8192x1, .f32⟩
  | 18 => ⟨S1x32, .f32⟩
  | 19 => ⟨S8192x32, .f32⟩
  | 20 => ⟨S8192x32, .f32⟩
  | 21 => ⟨S8192x32, .f32⟩
  | 22 => ⟨S8192x32, .f32⟩
  | 23 => ⟨S8192x1x32, .f32⟩
  | 24 => ⟨S8192x32, .f32⟩
  | 25 => ⟨S8192x1x32, .f32⟩
  | 26 => ⟨S8192x8x32, .f32⟩
  | 27 => ⟨S8192x8x32, .f32⟩
  | 28 => ⟨S8192x8x32, .f32⟩
  | 29 => ⟨S8192x8x32, .f32⟩
  | 30 => ⟨S8192x8x32, .f32⟩
  | 31 => ⟨S8192x8x32, .f32⟩
  | 32 => ⟨S8192x8x32, .f32⟩
  | 33 => ⟨S8192x8x32, .f32⟩
  | 34 => ⟨S8192x8x32, .f32⟩
  | 35 => ⟨S8192x8x32, .f32⟩
  | 36 => ⟨S8192x8x32, .f32⟩
  | 37 => ⟨S8192x8x32, .f32⟩
  | 38 => ⟨S8192x8x64, .f32⟩
  | 39 => ⟨S8192x128, .f32⟩
  | 40 => ⟨S8192x2x64, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S8192, .f32⟩
  | 52 => ⟨S8192x1, .f32⟩
  | 53 => ⟨S1x32, .f32⟩
  | 54 => ⟨S8192x32, .f32⟩
  | 55 => ⟨S8192x32, .f32⟩
  | 56 => ⟨S8192x32, .f32⟩
  | 57 => ⟨S8192x32, .f32⟩
  | 58 => ⟨S8192x1x32, .f32⟩
  | 59 => ⟨S8192x32, .f32⟩
  | 60 => ⟨S8192x1x32, .f32⟩
  | 61 => ⟨S8192x2x32, .f32⟩
  | 62 => ⟨S8192x2x32, .f32⟩
  | 63 => ⟨S8192x2x32, .f32⟩
  | 64 => ⟨S8192x2x32, .f32⟩
  | 65 => ⟨S8192x2x32, .f32⟩
  | 66 => ⟨S8192x2x32, .f32⟩
  | 67 => ⟨S8192x2x32, .f32⟩
  | 68 => ⟨S8192x2x32, .f32⟩
  | 69 => ⟨S8192x2x32, .f32⟩
  | 70 => ⟨S8192x2x32, .f32⟩
  | 71 => ⟨S8192x2x32, .f32⟩
  | 72 => ⟨S8192x2x32, .f32⟩
  | 73 => ⟨S8192x2x64, .f32⟩
  | 74 => ⟨S8192x128, .f32⟩
  | 75 => ⟨S8192x2x64, .f32⟩
  | 76 => ⟨S64x128x2x4x64, .f32⟩
  | 77 => ⟨S_, .f32⟩
  | 78 => ⟨S64x128x2x4x64, .f32⟩
  | 79 => ⟨S64x128x2x4x64, .f32⟩
  | 80 => ⟨S64x128x2x64, .f32⟩
  | 81 => ⟨S_, .f32⟩
  | 82 => ⟨S1x128x2x64, .f32⟩
  | 83 => ⟨S63x128x2x64, .f32⟩
  | 84 => ⟨S64x128x2x64, .f32⟩
  | 85 => ⟨S_, .f32⟩
  | 86 => ⟨S1x128x2x64, .f32⟩
  | 87 => ⟨S64x256x2x64, .f32⟩
  | 88 => ⟨S64x128x2x64, .f32⟩
  | 89 => ⟨S_, .f32⟩
  | 90 => ⟨S1x128x2x64, .f32⟩
  | 91 => ⟨S63x128x2x64, .f32⟩
  | 92 => ⟨S64x128x2x64, .f32⟩
  | 93 => ⟨S_, .f32⟩
  | 94 => ⟨S1x128x2x64, .f32⟩
  | 95 => ⟨S64x256x2x64, .f32⟩
  | 96 => ⟨S64x2x256x128x4, .f32⟩
  | 97 => ⟨S64x2x4x128x256, .f32⟩
  | 98 => ⟨S128, .i32⟩
  | 99 => ⟨S128x1, .i32⟩
  | 100 => ⟨S256, .i32⟩
  | 101 => ⟨S1x256, .i32⟩
  | 102 => ⟨S_, .i32⟩
  | 103 => ⟨S1x256, .i32⟩
  | 104 => ⟨S1x256, .i32⟩
  | 105 => ⟨S128x256, .i32⟩
  | 106 => ⟨S128x256, .i32⟩
  | 107 => ⟨S128x256, .i1⟩
  | 108 => ⟨S128x256, .i32⟩
  | 109 => ⟨S128x256, .i32⟩
  | 110 => ⟨S128x256, .i32⟩
  | 111 => ⟨S_, .i32⟩
  | 112 => ⟨S128x256, .i32⟩
  | 113 => ⟨S128x256, .i1⟩
  | 114 => ⟨S128x256, .i1⟩
  | 115 => ⟨S64, .i32⟩
  | 116 => ⟨S64x1x1, .i32⟩
  | 117 => ⟨S1x128x256, .i1⟩
  | 118 => ⟨S_, .i32⟩
  | 119 => ⟨S64x1x1, .i32⟩
  | 120 => ⟨S64x1x1, .i1⟩
  | 121 => ⟨S1x1x256, .i32⟩
  | 122 => ⟨S_, .i32⟩
  | 123 => ⟨S1x1x256, .i32⟩
  | 124 => ⟨S1x1x256, .i1⟩
  | 125 => ⟨S64x1x256, .i1⟩
  | 126 => ⟨S64x1x256, .i1⟩
  | 127 => ⟨S64x1x256, .i1⟩
  | _ => ⟨S8192x768, .f32⟩

abbrev hbmTy0_1 (i : Nat) : BufTy := match i % 128 with
  | 0 => ⟨S64x128x256, .i1⟩
  | 1 => ⟨S64x128x256, .i1⟩
  | 2 => ⟨S64x128x256, .i1⟩
  | 3 => ⟨S64x1x1x128x256, .i1⟩
  | 4 => ⟨S_, .f32⟩
  | 5 => ⟨S_, .f32⟩
  | 6 => ⟨S64x2x4x128x256, .i1⟩
  | 7 => ⟨S64x2x4x128x256, .f32⟩
  | 8 => ⟨S64x2x4x128x256, .f32⟩
  | 9 => ⟨S_, .f32⟩
  | 10 => ⟨S64x2x4x128x256, .f32⟩
  | 11 => ⟨S2x4, .f32⟩
  | 12 => ⟨S1x2x4x1x1, .f32⟩
  | 13 => ⟨S_, .f32⟩
  | 14 => ⟨S64x2x4x128, .f32⟩
  | 15 => ⟨S64x2x4x128x1, .f32⟩
  | 16 => ⟨S64x2x4x128x256, .f32⟩
  | 17 => ⟨S64x2x4x128x256, .i1⟩
  | 18 => ⟨S64x2x4x128x256, .f32⟩
  | 19 => ⟨S_, .f32⟩
  | 20 => ⟨S64x2x4x128, .f32⟩
  | 21 => ⟨S64x2x4x128x1, .f32⟩
  | 22 => ⟨S64x2x4x128x1, .f32⟩
  | 23 => ⟨S64x2x4x128x1, .f32⟩
  | 24 => ⟨S64x2x4x128x1, .f32⟩
  | 25 => ⟨S64x2x4x128x1, .i1⟩
  | 26 => ⟨S64x2x4x128x1, .f32⟩
  | 27 => ⟨S64x2x4x128x1, .i1⟩
  | 28 => ⟨S_, .f32⟩
  | 29 => ⟨S64x2x4x128x1, .f32⟩
  | 30 => ⟨S_, .f32⟩
  | 31 => ⟨S64x2x4x128x1, .f32⟩
  | 32 => ⟨S_, .f32⟩
  | 33 => ⟨S64x2x4x128x1, .f32⟩
  | 34 => ⟨S64x2x4x128x1, .f32⟩
  | 35 => ⟨S64x2x4x128x1, .f32⟩
  | 36 => ⟨S64x2x4x128x1, .f32⟩
  | 37 => ⟨S64x2x4x128x1, .i1⟩
  | 38 => ⟨S64x2x4x128x1, .f32⟩
  | 39 => ⟨S64x2x4x128x1, .i1⟩
  | 40 => ⟨S_, .f32⟩
  | 41 => ⟨S64x2x4x128x1, .f32⟩
  | 42 => ⟨S_, .f32⟩
  | 43 => ⟨S64x2x4x128x1, .f32⟩
  | 44 => ⟨S_, .f32⟩
  | 45 => ⟨S64x2x4x128x1, .f32⟩
  | 46 => ⟨S64x2x4x128x1, .f32⟩
  | 47 => ⟨S64x2x4x128x1, .f32⟩
  | 48 => ⟨S64x2x4x128x256, .f32⟩
  | 49 => ⟨S64x2x4x128x256, .f32⟩
  | 50 => ⟨S64x2x4x128x256, .f32⟩
  | 51 => ⟨S_, .f32⟩
  | 52 => ⟨S64x2x4x128, .f32⟩
  | 53 => ⟨S64x2x4x128x1, .f32⟩
  | 54 => ⟨S64x2x4x128x1, .f32⟩
  | 55 => ⟨S64x2x4x128x1, .f32⟩
  | 56 => ⟨S64x2x4x128x1, .f32⟩
  | 57 => ⟨S64x2x4x128x1, .f32⟩
  | 58 => ⟨S64x2x4x128x256, .f32⟩
  | 59 => ⟨S64x2x4x128x256, .f32⟩
  | 60 => ⟨S64x2x4x128x1, .f32⟩
  | 61 => ⟨S_, .f32⟩
  | 62 => ⟨S64x2x4x128x1, .f32⟩
  | 63 => ⟨S64x2x4x128x1, .f32⟩
  | 64 => ⟨S64x2x64x4x128, .f32⟩
  | 65 => ⟨S64x128x2x4x64, .f32⟩
  | 66 => ⟨S8192x512, .f32⟩
  | 67 => ⟨S64x128x2x4x64, .f32⟩
  | 68 => ⟨S64x2x64x4x128, .f32⟩
  | 69 => ⟨S64x2x4x128x256, .f32⟩
  | 70 => ⟨S64x2x64x256, .f32⟩
  | 71 => ⟨S64x256x2x64, .f32⟩
  | 72 => ⟨S64x2x4x128x256, .f32⟩
  | 73 => ⟨S64x2x4x128x256, .f32⟩
  | 74 => ⟨S64x2x4x128x256, .f32⟩
  | 75 => ⟨S_, .f32⟩
  | 76 => ⟨S64x2x4x128, .f32⟩
  | 77 => ⟨S64x2x4x128x1, .f32⟩
  | 78 => ⟨S64x2x4x128x1, .f32⟩
  | 79 => ⟨S64x2x4x128x256, .f32⟩
  | 80 => ⟨S64x2x4x128x256, .f32⟩
  | 81 => ⟨S64x2x4x128x1, .f32⟩
  | 82 => ⟨S_, .f32⟩
  | 83 => ⟨S2x4x1, .f32⟩
  | 84 => ⟨S1x2x4x1x1, .f32⟩
  | 85 => ⟨S64x2x4x128x1, .f32⟩
  | 86 => ⟨S_, .f32⟩
  | 87 => ⟨S64x2x4x128, .f32⟩
  | 88 => ⟨S64x2x4x128x256, .f32⟩
  | 89 => ⟨S64x2x4x128x256, .f32⟩
  | 90 => ⟨S64x2x4x128x256, .f32⟩
  | 91 => ⟨S64x2x4x128x256, .f32⟩
  | 92 => ⟨S_, .f32⟩
  | 93 => ⟨S64x2x4x128, .f32⟩
  | 94 => ⟨S64x2x4x128x1, .f32⟩
  | 95 => ⟨S64x2x4x128x1, .f32⟩
  | 96 => ⟨S64x2x4x128x1, .f32⟩
  | 97 => ⟨S_, .f32⟩
  | 98 => ⟨S2x4x1, .f32⟩
  | 99 => ⟨S1x2x4x1x1, .f32⟩
  | 100 => ⟨S1x2x4x1x1, .f32⟩
  | 101 => ⟨S64x2x4x128x1, .f32⟩
  | 102 => ⟨S_, .f32⟩
  | 103 => ⟨S64x2x4x128, .f32⟩
  | 104 => ⟨S64x2x4x128, .f32⟩
  | 105 => ⟨S64x2x4x128x256, .f32⟩
  | 106 => ⟨S64x2x4x128x256, .f32⟩
  | 107 => ⟨S64x2x4x128x256, .f32⟩
  | 108 => ⟨S_, .f32⟩
  | 109 => ⟨S2x4, .f32⟩
  | 110 => ⟨S8, .f32⟩
  | 111 => ⟨S_, .f32⟩
  | 112 => ⟨S64x2x4x128x256, .f32⟩
  | 113 => ⟨S64x2x4x128x256, .f32⟩
  | 114 => ⟨S64x2x256x128x4, .f32⟩
  | 115 => ⟨S64x2x128x4x64, .f32⟩
  | 116 => ⟨S64x128x2x4x64, .f32⟩
  | 117 => ⟨S64x2x256x64, .f32⟩
  | 118 => ⟨S64x256x2x64, .f32⟩
  | 119 => ⟨S64x128x2x64, .f32⟩
  | 120 => ⟨S64x128x2x64, .f32⟩
  | 121 => ⟨S1x128x2x64, .f32⟩
  | 122 => ⟨S63x128x2x64, .f32⟩
  | 123 => ⟨S_, .f32⟩
  | 124 => ⟨S64x128x2x64, .f32⟩
  | 125 => ⟨S64x128x2x64, .f32⟩
  | 126 => ⟨S8192x2x64, .f32⟩
  | 127 => ⟨S64x128x2x64, .f32⟩
  | _ => ⟨S8192x768, .f32⟩

abbrev hbmTy0_2 (i : Nat) : BufTy := match i % 128 with
  | 0 => ⟨S64x128x2x64, .f32⟩
  | 1 => ⟨S1x128x2x64, .f32⟩
  | 2 => ⟨S63x128x2x64, .f32⟩
  | 3 => ⟨S_, .f32⟩
  | 4 => ⟨S64x128x2x64, .f32⟩
  | 5 => ⟨S64x128x2x64, .f32⟩
  | 6 => ⟨S8192x2x64, .f32⟩
  | 7 => ⟨S_, .f32⟩
  | 8 => ⟨S64x128x2x4x64, .f32⟩
  | 9 => ⟨S64x128x2x4x64, .f32⟩
  | 10 => ⟨S8192x8x64, .f32⟩
  | 11 => ⟨S8192x128, .f32⟩
  | 12 => ⟨S_, .f32⟩
  | 13 => ⟨S8192x768, .f32⟩
  | 14 => ⟨S8192x2x32, .f32⟩
  | 15 => ⟨S8192x2x32, .f32⟩
  | 16 => ⟨S8192x2x32, .f32⟩
  | 17 => ⟨S8192x2x32, .f32⟩
  | 18 => ⟨S8192x2x32, .f32⟩
  | 19 => ⟨S8192x2x32, .f32⟩
  | 20 => ⟨S8192x2x32, .f32⟩
  | 21 => ⟨S8192x2x32, .f32⟩
  | 22 => ⟨S8192x2x32, .f32⟩
  | 23 => ⟨S8192x2x32, .f32⟩
  | 24 => ⟨S8192x2x32, .f32⟩
  | 25 => ⟨S8192x2x32, .f32⟩
  | 26 => ⟨S8192x2x32, .f32⟩
  | 27 => ⟨S_, .f32⟩
  | 28 => ⟨S8192x2x64, .f32⟩
  | 29 => ⟨S_, .f32⟩
  | 30 => ⟨S8192x2x64, .f32⟩
  | 31 => ⟨S8192x2x64, .f32⟩
  | 32 => ⟨S8192x128, .f32⟩
  | 33 => ⟨S_, .f32⟩
  | 34 => ⟨S8192x768, .f32⟩
  | 35 => ⟨S8192x768, .f32⟩
  | 36 => ⟨S8192x8x32, .f32⟩
  | 37 => ⟨S8192x8x32, .f32⟩
  | 38 => ⟨S8192x8x32, .f32⟩
  | 39 => ⟨S8192x8x32, .f32⟩
  | 40 => ⟨S8192x8x32, .f32⟩
  | 41 => ⟨S8192x8x32, .f32⟩
  | 42 => ⟨S8192x8x32, .f32⟩
  | 43 => ⟨S8192x8x32, .f32⟩
  | 44 => ⟨S8192x8x32, .f32⟩
  | 45 => ⟨S8192x8x32, .f32⟩
  | 46 => ⟨S8192x8x32, .f32⟩
  | 47 => ⟨S8192x8x32, .f32⟩
  | 48 => ⟨S8192x8x32, .f32⟩
  | 49 => ⟨S_, .f32⟩
  | 50 => ⟨S8192x8x64, .f32⟩
  | 51 => ⟨S_, .f32⟩
  | 52 => ⟨S8192x8x64, .f32⟩
  | 53 => ⟨S8192x8x64, .f32⟩
  | 54 => ⟨S8192x512, .f32⟩
  | 55 => ⟨S_, .f32⟩
  | 56 => ⟨S8192x768, .f32⟩
  | 57 => ⟨S8192x768, .f32⟩
  | 58 => ⟨S8192x768, .bf16⟩
  | 59 => ⟨S_, .i32⟩
  | 60 => ⟨S_, .f32⟩
  | 61 => ⟨S128, .f32⟩
  | 62 => ⟨S1x128, .f32⟩
  | 63 => ⟨S8x128, .f32⟩
  | _ => ⟨S8192x768, .f32⟩

abbrev hbmTy (i : Nat) : BufTy := match i / 128 with
  | 0 => hbmTy0_0 i
  | 1 => hbmTy0_1 i
  | 2 => hbmTy0_2 i
  | _ => ⟨S8192x768, .f32⟩

abbrev bufTy : (tb : Table) → Fin (tcTables nBuf tb) → BufTy
  | .hbm, ⟨i, _⟩ => hbmTy i
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_5 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_6 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_7 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_8 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_9 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_c : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_c_10 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_c_11 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_c_12 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_cst_13 : Ref sig .tc := ⟨.hbm, 132, rfl⟩
abbrev main_call0_v0 : Ref sig .tc := ⟨.hbm, 133, rfl⟩
abbrev main_v113_1 : Ref sig .tc := ⟨.hbm, 134, rfl⟩
abbrev main_call0_v2 : Ref sig .tc := ⟨.hbm, 135, rfl⟩
abbrev main_v113_0 : Ref sig .tc := ⟨.hbm, 136, rfl⟩
abbrev main_call0_cst : Ref sig .tc := ⟨.hbm, 137, rfl⟩
abbrev main_v113_2 : Ref sig .tc := ⟨.hbm, 138, rfl⟩
abbrev main_v114 : Ref sig .tc := ⟨.hbm, 139, rfl⟩
abbrev main_v115 : Ref sig .tc := ⟨.hbm, 140, rfl⟩
abbrev main_cst_14 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_15 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_cst_16 : Ref sig .tc := ⟨.hbm, 156, rfl⟩
abbrev main_v129 : Ref sig .tc := ⟨.hbm, 157, rfl⟩
abbrev main_cst_17 : Ref sig .tc := ⟨.hbm, 158, rfl⟩
abbrev main_v130 : Ref sig .tc := ⟨.hbm, 159, rfl⟩
abbrev main_cst_18 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_19 : Ref sig .tc := ⟨.hbm, 168, rfl⟩
abbrev main_v138 : Ref sig .tc := ⟨.hbm, 169, rfl⟩
abbrev main_cst_20 : Ref sig .tc := ⟨.hbm, 170, rfl⟩
abbrev main_v139 : Ref sig .tc := ⟨.hbm, 171, rfl⟩
abbrev main_cst_21 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_cst_22 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_cst_23 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_cst_24 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_cst_25 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_cst_26 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_cst_27 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_cst_28 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_cst_29 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_cst_30 : Ref sig .tc := ⟨.hbm, 236, rfl⟩
abbrev main_v195 : Ref sig .tc := ⟨.hbm, 237, rfl⟩
abbrev main_v196 : Ref sig .tc := ⟨.hbm, 238, rfl⟩
abbrev main_call1_cst : Ref sig .tc := ⟨.hbm, 239, rfl⟩
abbrev main_call1_v0 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_cst_31 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_cst_32 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_cst_33 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_cst_34 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_cst_35 : Ref sig .tc := ⟨.hbm, 283, rfl⟩
abbrev main_v235 : Ref sig .tc := ⟨.hbm, 284, rfl⟩
abbrev main_cst_36 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_cst_37 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_v245 : Ref sig .tc := ⟨.hbm, 296, rfl⟩
abbrev main_v246 : Ref sig .tc := ⟨.hbm, 297, rfl⟩
abbrev main_v247 : Ref sig .tc := ⟨.hbm, 298, rfl⟩
abbrev main_v248 : Ref sig .tc := ⟨.hbm, 299, rfl⟩
abbrev main_v249 : Ref sig .tc := ⟨.hbm, 300, rfl⟩
abbrev main_v250 : Ref sig .tc := ⟨.hbm, 301, rfl⟩
abbrev main_v251 : Ref sig .tc := ⟨.hbm, 302, rfl⟩
abbrev main_v252 : Ref sig .tc := ⟨.hbm, 303, rfl⟩
abbrev main_v253 : Ref sig .tc := ⟨.hbm, 304, rfl⟩
abbrev main_cst_38 : Ref sig .tc := ⟨.hbm, 305, rfl⟩
abbrev main_v254 : Ref sig .tc := ⟨.hbm, 306, rfl⟩
abbrev main_cst_39 : Ref sig .tc := ⟨.hbm, 307, rfl⟩
abbrev main_v255 : Ref sig .tc := ⟨.hbm, 308, rfl⟩
abbrev main_v256 : Ref sig .tc := ⟨.hbm, 309, rfl⟩
abbrev main_v257 : Ref sig .tc := ⟨.hbm, 310, rfl⟩
abbrev main_cst_40 : Ref sig .tc := ⟨.hbm, 311, rfl⟩
abbrev main_v258 : Ref sig .tc := ⟨.hbm, 312, rfl⟩
abbrev main_v259 : Ref sig .tc := ⟨.hbm, 313, rfl⟩
abbrev main_v260 : Ref sig .tc := ⟨.hbm, 314, rfl⟩
abbrev main_c_41 : Ref sig .tc := ⟨.hbm, 315, rfl⟩
abbrev main_call2_v0 : Ref sig .tc := ⟨.hbm, 316, rfl⟩
abbrev main_v261 : Ref sig .tc := ⟨.hbm, 317, rfl⟩
abbrev main_v262 : Ref sig .tc := ⟨.hbm, 318, rfl⟩
abbrev main_v263 : Ref sig .tc := ⟨.hbm, 319, rfl⟩

abbrev nD : Nat := 1
abbrev τ : Topo := Topo.v7x

variable {F : FTy → Type} [FloatOps F]
-- ==== MlstmBwd.lean ====
abbrev S8192x2048 : Shape := ⟨2, ![8192, 2048]⟩
abbrev S8192x8 : Shape := ⟨2, ![8192, 8]⟩
abbrev S4x1024 : Shape := ⟨2, ![4, 1024]⟩
abbrev S1024 : Shape := ⟨1, ![1024]⟩
abbrev S8 : Shape := ⟨1, ![8]⟩
abbrev S512 : Shape := ⟨1, ![512]⟩
abbrev S8192x512 : Shape := ⟨2, ![8192, 512]⟩
abbrev S64x4x128x128 : Shape := ⟨4, ![64, 4, 128, 128]⟩
abbrev S64x8x128 : Shape := ⟨3, ![64, 8, 128]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S8x512 : Shape := ⟨2, ![8, 512]⟩
abbrev S1 : Shape := ⟨1, ![1]⟩
abbrev S2 : Shape := ⟨1, ![2]⟩
abbrev S8192x120 : Shape := ⟨2, ![8192, 120]⟩
abbrev S8192x128 : Shape := ⟨2, ![8192, 128]⟩
abbrev S8192x1024 : Shape := ⟨2, ![8192, 1024]⟩
abbrev S8195x1024 : Shape := ⟨2, ![8195, 1024]⟩
abbrev S8192x2176 : Shape := ⟨2, ![8192, 2176]⟩
abbrev S128x2048 : Shape := ⟨2, ![128, 2048]⟩
abbrev S128x1024 : Shape := ⟨2, ![128, 1024]⟩
abbrev S128x128 : Shape := ⟨2, ![128, 128]⟩
abbrev S128x512 : Shape := ⟨2, ![128, 512]⟩
abbrev S1x4x128x128 : Shape := ⟨4, ![1, 4, 128, 128]⟩
abbrev S1x8x128 : Shape := ⟨3, ![1, 8, 128]⟩
abbrev S128x2176 : Shape := ⟨2, ![128, 2176]⟩
abbrev S4x128x128 : Shape := ⟨3, ![4, 128, 128]⟩
abbrev S8x128 : Shape := ⟨2, ![8, 128]⟩
abbrev S1x128 : Shape := ⟨2, ![1, 128]⟩
abbrev S128x1 : Shape := ⟨2, ![128, 1]⟩
abbrev S1x1x128x128 : Shape := ⟨4, ![1, 1, 128, 128]⟩
abbrev S512x1 : Shape := ⟨2, ![512, 1]⟩
abbrev S128 : Shape := ⟨1, ![128]⟩
abbrev S512x128 : Shape := ⟨2, ![512, 128]⟩
abbrev S1x1 : Shape := ⟨2, ![1, 1]⟩
abbrev S1x128x128 : Shape := ⟨3, ![1, 128, 128]⟩
abbrev S1x1x1 : Shape := ⟨3, ![1, 1, 1]⟩
abbrev S1x1x128 : Shape := ⟨3, ![1, 1, 128]⟩
abbrev S4x128 : Shape := ⟨2, ![4, 128]⟩
abbrev S1x512 : Shape := ⟨2, ![1, 512]⟩
abbrev S120x512 : Shape := ⟨2, ![120, 512]⟩

abbrev nBuf : Space → Nat
  | .hbm => 64
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S8192x8, .f32⟩
  | .hbm, ⟨2, _⟩ => ⟨S4x1024, .f32⟩
  | .hbm, ⟨3, _⟩ => ⟨S1024, .f32⟩
  | .hbm, ⟨4, _⟩ => ⟨S8, .f32⟩
  | .hbm, ⟨5, _⟩ => ⟨S512, .f32⟩
  | .hbm, ⟨6, _⟩ => ⟨S8192x512, .f32⟩
  | .hbm, ⟨7, _⟩ => ⟨S64x4x128x128, .f32⟩
  | .hbm, ⟨8, _⟩ => ⟨S64x8x128, .f32⟩
  | .hbm, ⟨9, _⟩ => ⟨S1x1024, .f32⟩
  | .hbm, ⟨10, _⟩ => ⟨S_, .f32⟩
  | .hbm, ⟨11, _⟩ => ⟨S3x1024, .f32⟩
  | .hbm, ⟨12, _⟩ => ⟨S8x1024, .f32⟩
  | .hbm, ⟨13, _⟩ => ⟨S_, .f32⟩
  | .hbm, ⟨14, _⟩ => ⟨S8x512, .f32⟩
  | .hbm, ⟨15, _⟩ => ⟨S_, .i32⟩
  | .hbm, ⟨16, _⟩ => ⟨S1, .i32⟩
  | .hbm, ⟨17, _⟩ => ⟨S8x512, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S8x512, .f32⟩
  | .hbm, ⟨24, _⟩ => ⟨S_, .f32⟩
  | .hbm, ⟨25, _⟩ => ⟨S8192x120, .f32⟩
  | .hbm, ⟨26, _⟩ => ⟨S8192x128, .f32⟩
  | .hbm, ⟨27, _⟩ => ⟨S8192x1024, .f32⟩
  | .hbm, ⟨28, _⟩ => ⟨S_, .f32⟩
  | .hbm, ⟨29, _⟩ => ⟨S3x1024, .f32⟩
  | .hbm, ⟨30, _⟩ => ⟨S8195x1024, .f32⟩
  | .hbm, ⟨31, _⟩ => ⟨S8192x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x2176, .bf16⟩
  | .hbm, ⟨62, _⟩ => ⟨S8x1024, .f32⟩
  | .hbm, ⟨63, _⟩ => ⟨S8x512, .f32⟩
  | .local _ .vmem, ⟨0, _⟩ => ⟨S128x2048, .f32⟩
  | .local _ .vmem, ⟨1, _⟩ => ⟨S128x2048, .f32⟩
  | .local _ .vmem, ⟨2, _⟩ => ⟨S128x1024, .f32⟩
  | .local _ .vmem, ⟨3, _⟩ => ⟨S128x1024, .f32⟩
  | .local _ .vmem, ⟨4, _⟩ => ⟨S128x128, .f32⟩
  | .local _ .vmem, ⟨5, _⟩ => ⟨S128x128, .f32⟩
  | .local _ .vmem, ⟨6, _⟩ => ⟨S8x1024, .f32⟩
  | .local _ .vmem, ⟨7, _⟩ => ⟨S8x512, .f32⟩
  | .local _ .vmem, ⟨8, _⟩ => ⟨S128x512, .f32⟩
  | .local _ .vmem, ⟨9, _⟩ => ⟨S128x512, .f32⟩
  | .local _ .vmem, ⟨10, _⟩ => ⟨S1x4x128x128, .f32⟩
  | .local _ .vmem, ⟨11, _⟩ => ⟨S1x4x128x128, .f32⟩
  | .local _ .vmem, ⟨12, _⟩ => ⟨S1x8x128, .f32⟩
  | .local _ .vmem, ⟨13, _⟩ => ⟨S1x8x128, .f32⟩
  | .local _ .vmem, ⟨14, _⟩ => ⟨S128x2176, .bf16⟩
  | .local _ .vmem, ⟨15, _⟩ => ⟨S128x2176, .bf16⟩
  | .local _ .vmem, ⟨16, _⟩ => ⟨S8x1024, .f32⟩
  | .local _ .vmem, ⟨17, _⟩ => ⟨S8x512, .f32⟩
  | .local _ .vmem, ⟨18, _⟩ => ⟨S4x128x128, .f32⟩
  | .local _ .vmem, ⟨19, _⟩ => ⟨S8x128, .f32⟩
  | .local _ .vmem, ⟨20, _⟩ => ⟨S8x1024, .f32⟩
  | .local _ .vmem, ⟨21, _⟩ => ⟨S128x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45_0 : Ref sig .tc := ⟨.hbm, 61, rfl⟩
abbrev main_v45_1 : Ref sig .tc := ⟨.hbm, 62, rfl⟩
abbrev main_v45_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_6 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2176 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MlstmBwdIdeal.lean ====
variable {F : FTy → Type} [FloatOps F] [Named F]
def κ : String → Option EReal := fun
  | "mask" => some ⊥
  | _ => none
-- ==== MixedFwd.lean ====
abbrev S8192x1024 : Shape := ⟨2, ![8192, 1024]⟩
abbrev S8192x512 : Shape := ⟨2, ![8192, 512]⟩
abbrev S8192x2048 : Shape := ⟨2, ![8192, 2048]⟩
abbrev S6x1024 : Shape := ⟨2, ![6, 1024]⟩
abbrev S4x1024 : Shape := ⟨2, ![4, 1024]⟩
abbrev S512x1024 : Shape := ⟨2, ![512, 1024]⟩
abbrev S1024x1024 : Shape := ⟨2, ![1024, 1024]⟩
abbrev S_ : Shape := ⟨0, ![]⟩
abbrev S16x1024 : Shape := ⟨2, ![16, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 23
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x2048, .f32⟩
  | .hbm, ⟨4, _⟩ => ⟨S6x1024, .f32⟩
  | .hbm, ⟨5, _⟩ => ⟨S4x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S_, .f32⟩
  | .hbm, ⟨10, _⟩ => ⟨S6x1024, .f32⟩
  | .hbm, ⟨11, _⟩ => ⟨S16x1024, .f32⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S8192x512, .bf16⟩
  | .hbm, ⟨16, _⟩ => ⟨S8192x512, .bf16⟩
  | .hbm, ⟨17, _⟩ => ⟨S8192x2048, .bf16⟩
  | .hbm, ⟨18, _⟩ => ⟨S8192x1024, .f32⟩
  | .hbm, ⟨19, _⟩ => ⟨S8192x1024, .bf16⟩
  | .hbm, ⟨20, _⟩ => ⟨S8192x1024, .bf16⟩
  | .hbm, ⟨21, _⟩ => ⟨S8192x1024, .bf16⟩
  | .hbm, ⟨22, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S16x1024, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixedRefIdeal.lean ====
abbrev S8192x1024 : Shape := ⟨2, ![8192, 1024]⟩
abbrev S8192x512 : Shape := ⟨2, ![8192, 512]⟩
abbrev S8192x2048 : Shape := ⟨2, ![8192, 2048]⟩
abbrev S6x1024 : Shape := ⟨2, ![6, 1024]⟩
abbrev S4x1024 : Shape := ⟨2, ![4, 1024]⟩
abbrev S512x1024 : Shape := ⟨2, ![512, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S8192 : Shape := ⟨1, ![8192]⟩
abbrev S8192x1 : Shape := ⟨2, ![8192, 1]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x2048, .f32⟩
  | .hbm, ⟨4, _⟩ => ⟨S6x1024, .f32⟩
  | .hbm, ⟨5, _⟩ => ⟨S4x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S1x1024, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S8192x1024, .bf16⟩
  | .hbm, ⟨59, _⟩ => ⟨S8192x1024, .bf16⟩
  | .hbm, ⟨60, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== ProjFwd.lean ====
abbrev S8192x1024 : Shape := ⟨2, ![8192, 1024]⟩
abbrev S6x1024 : Shape := ⟨2, ![6, 1024]⟩
abbrev S4x1024 : Shape := ⟨2, ![4, 1024]⟩
abbrev S1024x4872 : Shape := ⟨2, ![1024, 4872]⟩
abbrev S_ : Shape := ⟨0, ![]⟩
abbrev S16x1024 : Shape := ⟨2, ![16, 1024]⟩
abbrev S1024x120 : Shape := ⟨2, ![1024, 120]⟩
abbrev S1024x2824 : Shape := ⟨2, ![1024, 2824]⟩
abbrev S1024x2048 : Shape := ⟨2, ![1024, 2048]⟩
abbrev S1024x4992 : Shape := ⟨2, ![1024, 4992]⟩
abbrev S8x128 : Shape := ⟨2, ![8, 128]⟩
abbrev S8192x768 : Shape := ⟨2, ![8192, 768]⟩
abbrev S8192x2048 : Shape := ⟨2, ![8192, 2048]⟩
abbrev S8192x128 : Shape := ⟨2, ![8192, 128]⟩
abbrev S512x1024 : Shape := ⟨2, ![512, 1024]⟩
abbrev S512x768 : Shape := ⟨2, ![512, 768]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S1x1024 : Shape := ⟨2, ![1, 1024]⟩
abbrev S1024x768 : Shape := ⟨2, ![1024, 768]⟩
abbrev S1024x128 : Shape := ⟨2, ![1024, 128]⟩

abbrev nBuf : Space → Nat
  | .hbm => 20
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S4x1024, .f32⟩
  | .hbm, ⟨3, _⟩ => ⟨S1024x4872, .f32⟩
  | .hbm, ⟨4, _⟩ => ⟨S_, .f32⟩
  | .hbm, ⟨5, _⟩ => ⟨S6x1024, .f32⟩
  | .hbm, ⟨6, _⟩ => ⟨S16x1024, .f32⟩
  | .hbm, ⟨7, _⟩ => ⟨S_, .f32⟩
  | .hbm, ⟨8, _⟩ => ⟨S1024x120, .f32⟩
  | .hbm, ⟨9, _⟩ => ⟨S1024x2824, .f32⟩
  | .hbm, ⟨10, _⟩ => ⟨S1024x2048, .f32⟩
  | .hbm, ⟨11, _⟩ => ⟨S1024x4992, .f32⟩
  | .hbm, ⟨12, _⟩ => ⟨S1024x4992, .bf16⟩
  | .hbm, ⟨13, _⟩ => ⟨S_, .f32⟩
  | .hbm, ⟨14, _⟩ => ⟨S8x128, .f32⟩
  | .hbm, ⟨15, _⟩ => ⟨S8192x1024, .bf16⟩
  | .hbm, ⟨16, _⟩ => ⟨S8192x768, .f32⟩
  | .hbm, ⟨17, _⟩ => ⟨S8192x2048, .f32⟩
  | .hbm, ⟨18, _⟩ => ⟨S8192x128, .f32⟩
  | .hbm, ⟨19, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S1024x4992, .bf16⟩
  | .local _ .vmem, ⟨4, _⟩ => ⟨S512x1024, .bf16⟩
  | .local _ .vmem, ⟨5, _⟩ => ⟨S512x1024, .bf16⟩
  | .local _ .vmem, ⟨6, _⟩ => ⟨S512x768, .f32⟩
  | .local _ .vmem, ⟨7, _⟩ => ⟨S512x768, .f32⟩
  | .local _ .vmem, ⟨8, _⟩ => ⟨S512x2048, .f32⟩
  | .local _ .vmem, ⟨9, _⟩ => ⟨S512x2048, .f32⟩
  | .local _ .vmem, ⟨10, _⟩ => ⟨S512x128, .f32⟩
  | .local _ .vmem, ⟨11, _⟩ => ⟨S512x128, .f32⟩
  | .local _ .vmem, ⟨12, _⟩ => ⟨S512x2048, .bf16⟩
  | .local _ .vmem, ⟨13, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4992 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjRefIdeal.lean ====
abbrev S8192x1024 : Shape := ⟨2, ![8192, 1024]⟩
abbrev S6x1024 : Shape := ⟨2, ![6, 1024]⟩
abbrev S4x1024 : Shape := ⟨2, ![4, 1024]⟩
abbrev S1024x4872 : Shape := ⟨2, ![1024, 4872]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4872 : Shape := ⟨2, ![8192, 4872]⟩
abbrev S8192x8 : Shape := ⟨2, ![8192, 8]⟩
abbrev S8192x120 : Shape := ⟨2, ![8192, 120]⟩
abbrev S8192x128 : Shape := ⟨2, ![8192, 128]⟩
abbrev S8192x768 : Shape := ⟨2, ![8192, 768]⟩
abbrev S8192x2048 : Shape := ⟨2, ![8192, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S4x1024, .f32⟩
  | .hbm, ⟨3, _⟩ => ⟨S1024x4872, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x4872, .f32⟩
  | .hbm, ⟨36, _⟩ => ⟨S8192x8, .f32⟩
  | .hbm, ⟨37, _⟩ => ⟨S_, .f32⟩
  | .hbm, ⟨38, _⟩ => ⟨S8192x120, .f32⟩
  | .hbm, ⟨39, _⟩ => ⟨S8192x128, .f32⟩
  | .hbm, ⟨40, _⟩ => ⟨S8192x1024, .bf16⟩
  | .hbm, ⟨41, _⟩ => ⟨S8192x768, .f32⟩
  | .hbm, ⟨42, _⟩ => ⟨S8192x2048, .f32⟩
  | .hbm, ⟨43, _⟩ => ⟨S8192x2048, .f32⟩
  | .hbm, ⟨44, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== RotFwd.lean ====
abbrev S8192x768 : Shape := ⟨2, ![8192, 768]⟩
abbrev S8192 : Shape := ⟨1, ![8192]⟩
abbrev S8 : Shape := ⟨1, ![8]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S8192x512 : Shape := ⟨2, ![8192, 512]⟩
abbrev S128x768 : Shape := ⟨2, ![128, 768]⟩
abbrev S128x256 : Shape := ⟨2, ![128, 256]⟩
abbrev S128x128 : Shape := ⟨2, ![128, 128]⟩
abbrev S128x512 : Shape := ⟨2, ![128, 512]⟩
abbrev S256x128 : Shape := ⟨2, ![256, 128]⟩
abbrev S512x128 : Shape := ⟨2, ![512, 128]⟩
abbrev S512x256 : Shape := ⟨2, ![512, 256]⟩
abbrev S1024x256 : Shape := ⟨2, ![1024, 256]⟩
abbrev S1024 : Shape := ⟨1, ![1024]⟩
abbrev S1024x1 : Shape := ⟨2, ![1024, 1]⟩
abbrev S128x1 : Shape := ⟨2, ![128, 1]⟩
abbrev S1 : Shape := ⟨1, ![1]⟩
abbrev S1024x128 : Shape := ⟨2, ![1024, 128]⟩

abbrev nBuf : Space → Nat
  | .hbm => 44
  | .vmem => 22
  | .smem => 1
  | _ => 0

abbrev bufTy : (tb : Table) → Fin (tcTables nBuf tb) → BufTy
  | .hbm, ⟨0, _⟩ => ⟨S8192x768, .f32⟩
  | .hbm, ⟨1, _⟩ => ⟨S8192, .i32⟩
  | .hbm, ⟨2, _⟩ => ⟨S8, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S8192, .f32⟩
  | .hbm, ⟨14, _⟩ => ⟨S8192x1, .f32⟩
  | .hbm, ⟨15, _⟩ => ⟨S1x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S1x8192x1x32, .f32⟩
  | .hbm, ⟨21, _⟩ => ⟨S1x8192x4x32, .f32⟩
  | .hbm, ⟨22, _⟩ => ⟨S8192x128, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S64, .f32⟩
  | .hbm, ⟨29, _⟩ => ⟨S1x64, .f32⟩
  | .hbm, ⟨30, _⟩ => ⟨S2x64, .f32⟩
  | .hbm, ⟨31, _⟩ => ⟨S128, .f32⟩
  | .hbm, ⟨32, _⟩ => ⟨S8192x32, .f32⟩
  | .hbm, ⟨33, _⟩ => ⟨S1x8192x1x32, .f32⟩
  | .hbm, ⟨34, _⟩ => ⟨S1x8192x4x32, .f32⟩
  | .hbm, ⟨35, _⟩ => ⟨S8192x128, .f32⟩
  | .hbm, ⟨36, _⟩ => ⟨S1x128, .f32⟩
  | .hbm, ⟨37, _⟩ => ⟨S8192x128, .f32⟩
  | .hbm, ⟨38, _⟩ => ⟨S8192x128, .f32⟩
  | .hbm, ⟨39, _⟩ => ⟨S8192x512, .bf16⟩
  | .hbm, ⟨40, _⟩ => ⟨S8192x512, .bf16⟩
  | .hbm, ⟨41, _⟩ => ⟨S8192x128, .bf16⟩
  | .hbm, ⟨42, _⟩ => ⟨S8192x128, .bf16⟩
  | .hbm, ⟨43, _⟩ => ⟨S8192x128, .f32⟩
  | .local _ .vmem, ⟨0, _⟩ => ⟨S128x768, .f32⟩
  | .local _ .vmem, ⟨1, _⟩ => ⟨S128x768, .f32⟩
  | .local _ .vmem, ⟨2, _⟩ => ⟨S128x256, .f32⟩
  | .local _ .vmem, ⟨3, _⟩ => ⟨S128x256, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x512, .bf16⟩
  | .local _ .vmem, ⟨13, _⟩ => ⟨S128x512, .bf16⟩
  | .local _ .vmem, ⟨14, _⟩ => ⟨S128x512, .bf16⟩
  | .local _ .vmem, ⟨15, _⟩ => ⟨S128x512, .bf16⟩
  | .local _ .vmem, ⟨16, _⟩ => ⟨S128x128, .bf16⟩
  | .local _ .vmem, ⟨17, _⟩ => ⟨S128x128, .bf16⟩
  | .local _ .vmem, ⟨18, _⟩ => ⟨S128x128, .bf16⟩
  | .local _ .vmem, ⟨19, _⟩ => ⟨S128x128, .bf16⟩
  | .local _ .vmem, ⟨20, _⟩ => ⟨S128x128, .f32⟩
  | .local _ .vmem, ⟨21, _⟩ => ⟨S128x128, .f32⟩
  | .local _ .smem, ⟨0, _⟩ => ⟨S8, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31_0 : Ref sig .tc := ⟨.hbm, 39, rfl⟩
abbrev main_v31_1 : Ref sig .tc := ⟨.hbm, 40, rfl⟩
abbrev main_v31_2 : Ref sig .tc := ⟨.hbm, 41, rfl⟩
abbrev main_v31_3 : Ref sig .tc := ⟨.hbm, 42, rfl⟩
abbrev main_v31_4 : Ref sig .tc := ⟨.hbm, 43, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  ![v1.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RotFwdIdeal.lean ====
variable {F : FTy → Type} [FloatOps F] [Named F]
def κ : String → Option EReal := fun
  | "mask" => some ⊥
  | _ => none
-- ==== RotRefIdeal.lean ====
abbrev S8192x768 : Shape := ⟨2, ![8192, 768]⟩
abbrev S8192 : Shape := ⟨1, ![8192]⟩
abbrev S8 : Shape := ⟨1, ![8]⟩
abbrev S8192x512 : Shape := ⟨2, ![8192, 512]⟩
abbrev S8192x8x64 : Shape := ⟨3, ![8192, 8, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x8x32 : Shape := ⟨3, ![8192, 8, 32]⟩
abbrev S8192x128 : Shape := ⟨2, ![8192, 128]⟩
abbrev S8192x2x64 : Shape := ⟨3, ![8192, 2, 64]⟩
abbrev S8192x2x32 : Shape := ⟨3, ![8192, 2, 32]⟩

abbrev nBuf : Space → Nat
  | .hbm => 82
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192, .i32⟩
  | .hbm, ⟨2, _⟩ => ⟨S8, .f32⟩
  | .hbm, ⟨3, _⟩ => ⟨S8192x512, .f32⟩
  | .hbm, ⟨4, _⟩ => ⟨S8192x8x64, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S8192, .f32⟩
  | .hbm, ⟨16, _⟩ => ⟨S8192x1, .f32⟩
  | .hbm, ⟨17, _⟩ => ⟨S1x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x1x32, .f32⟩
  | .hbm, ⟨23, _⟩ => ⟨S8192x32, .f32⟩
  | .hbm, ⟨24, _⟩ => ⟨S8192x1x32, .f32⟩
  | .hbm, ⟨25, _⟩ => ⟨S8192x8x32, .f32⟩
  | .hbm, ⟨26, _⟩ => ⟨S8192x8x32, .f32⟩
  | .hbm, ⟨27, _⟩ => ⟨S8192x8x32, .f32⟩
  | .hbm, ⟨28, _⟩ => ⟨S8192x8x32, .f32⟩
  | .hbm, ⟨29, _⟩ => ⟨S8192x8x32, .f32⟩
  | .hbm, ⟨30, _⟩ => ⟨S8192x8x32, .f32⟩
  | .hbm, ⟨31, _⟩ => ⟨S8192x8x32, .f32⟩
  | .hbm, ⟨32, _⟩ => ⟨S8192x8x32, .f32⟩
  | .hbm, ⟨33, _⟩ => ⟨S8192x8x32, .f32⟩
  | .hbm, ⟨34, _⟩ => ⟨S8192x8x32, .f32⟩
  | .hbm, ⟨35, _⟩ => ⟨S8192x8x32, .f32⟩
  | .hbm, ⟨36, _⟩ => ⟨S8192x8x32, .f32⟩
  | .hbm, ⟨37, _⟩ => ⟨S8192x8x64, .f32⟩
  | .hbm, ⟨38, _⟩ => ⟨S_, .f32⟩
  | .hbm, ⟨39, _⟩ => ⟨S8192x8x64, .f32⟩
  | .hbm, ⟨40, _⟩ => ⟨S8192x8x64, .f32⟩
  | .hbm, ⟨41, _⟩ => ⟨S8192x128, .f32⟩
  | .hbm, ⟨42, _⟩ => ⟨S8192x2x64, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S8192, .f32⟩
  | .hbm, ⟨54, _⟩ => ⟨S8192x1, .f32⟩
  | .hbm, ⟨55, _⟩ => ⟨S1x32, .f32⟩
  | .hbm, ⟨56, _⟩ => ⟨S8192x32, .f32⟩
  | .hbm, ⟨57, _⟩ => ⟨S8192x32, .f32⟩
  | .hbm, ⟨58, _⟩ => ⟨S8192x32, .f32⟩
  | .hbm, ⟨59, _⟩ => ⟨S8192x32, .f32⟩
  | .hbm, ⟨60, _⟩ => ⟨S8192x1x32, .f32⟩
  | .hbm, ⟨61, _⟩ => ⟨S8192x32, .f32⟩
  | .hbm, ⟨62, _⟩ => ⟨S8192x1x32, .f32⟩
  | .hbm, ⟨63, _⟩ => ⟨S8192x2x32, .f32⟩
  | .hbm, ⟨64, _⟩ => ⟨S8192x2x32, .f32⟩
  | .hbm, ⟨65, _⟩ => ⟨S8192x2x32, .f32⟩
  | .hbm, ⟨66, _⟩ => ⟨S8192x2x32, .f32⟩
  | .hbm, ⟨67, _⟩ => ⟨S8192x2x32, .f32⟩
  | .hbm, ⟨68, _⟩ => ⟨S8192x2x32, .f32⟩
  | .hbm, ⟨69, _⟩ => ⟨S8192x2x32, .f32⟩
  | .hbm, ⟨70, _⟩ => ⟨S8192x2x32, .f32⟩
  | .hbm, ⟨71, _⟩ => ⟨S8192x2x32, .f32⟩
  | .hbm, ⟨72, _⟩ => ⟨S8192x2x32, .f32⟩
  | .hbm, ⟨73, _⟩ => ⟨S8192x2x32, .f32⟩
  | .hbm, ⟨74, _⟩ => ⟨S8192x2x32, .f32⟩
  | .hbm, ⟨75, _⟩ => ⟨S8192x2x64, .f32⟩
  | .hbm, ⟨76, _⟩ => ⟨S8192x512, .f32⟩
  | .hbm, ⟨77, _⟩ => ⟨S8192x512, .bf16⟩
  | .hbm, ⟨78, _⟩ => ⟨S8192x128, .f32⟩
  | .hbm, ⟨79, _⟩ => ⟨S8192x128, .bf16⟩
  | .hbm, ⟨80, _⟩ => ⟨S8192x128, .f32⟩
  | .hbm, ⟨81, _⟩ => ⟨S8192x128, .bf16⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩

abbrev nD : Nat := 1
abbrev τ : Topo := Topo.v7x

variable {F : FTy → Type} [FloatOps F]
-- ==== Proof.RealArith.lean ====
/- Real numbers inside the extended reals: what is needed to move an expression over finite values into `ℝ`,
   and the two identities about the root mean square norm that the gradients rest on. No program is named here. -/
module

public import Idealize.ShloMosaic.Lib.Pointwise
public import Idealize.ShloMosaic.PureOps.Ideal.Laws

@[expose] public section

noncomputable section

namespace Cert.RealArith

open Idealize.ShloMosaic

/-- A finite sum of reals, taken in the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- An extended real whose absolute value is below the top is a real. -/
theorem exists_real {a : EReal} (h : max a (-a) < ⊤) : ∃ r : ℝ, a = (r : EReal) := by
  induction a with
  | bot => simp at h
  | top => simp at h
  | coe r => exact ⟨r, rfl⟩

/-! ## Constants -/

theorem c_1024 : Ideal.ofBits .f32 0x44800000#32 = ((1024 : ℝ) : EReal) := by
  simp [Ideal.ofBits, Ideal.ieee, -EReal.coe_mul]; norm_num
theorem c_one : Ideal.ofBits .f32 0x3F800000#32 = ((1 : ℝ) : EReal) := by
  simp [Ideal.ofBits, Ideal.ieee, -EReal.coe_mul]; norm_num
theorem c_neg_half : Ideal.ofBits .f32 0xBF000000#32 = ((-(1 / 2) : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_1024th : Ideal.ofBits .f32 0x3A800000#32 = ((1 / 1024 : ℝ) : EReal) := by
  simp [Ideal.ofBits, Ideal.ieee, -EReal.coe_mul]; norm_num
theorem c_2048th : Ideal.ofBits .f32 0x3A000000#32 = ((1 / 2048 : ℝ) : EReal) := by
  simp [Ideal.ofBits, Ideal.ieee, -EReal.coe_mul]; norm_num
/-- The small number the norms add before the root. -/
def eps : ℝ := 8796093 / 2 ^ 43
theorem eps_pos : 0 < eps := by norm_num [eps]
theorem c_eps : Ideal.ofBits .f32 0x358637BD#32 = (eps : EReal) := by
  simp [Ideal.ofBits, Ideal.ieee, -EReal.coe_mul, eps]; norm_num
theorem c_top : Ideal.ofBits .f32 0x7F800000#32 = ⊤ := by
  simp [Ideal.ofBits, Ideal.ieee]

theorem div_real {y : ℝ} (h : y ≠ 0) (x : ℝ) : Ideal.div (x : EReal) (y : EReal) = ((x / y : ℝ) : EReal) := by
  rw [Ideal.div_coe h, ← EReal.coe_mul]; congr 1; ring

theorem rsqrt_real {v : ℝ} (h : 0 < v) : Ideal.rsqrt (v : EReal) = (((Real.sqrt v)⁻¹ : ℝ) : EReal) := by
  rw [Ideal.rsqrt_coe, if_neg (not_lt.mpr h.le), if_neg h.ne']

/-- The logistic function, as the kernels write it. -/
def sigm (v : EReal) : EReal := Ideal.div 1 (1 + Ideal.exp (0 - v))

/-- It is real at every argument. -/
theorem sigm_real (v : EReal) : ∃ r : ℝ, sigm v = (r : EReal) := by
  unfold sigm
  induction v with
  | bot =>
    refine ⟨0, ?_⟩
    rw [show (0 : EReal) - ⊥ = ⊤ by simp, Ideal.exp_top, ← EReal.coe_one, EReal.coe_add_top]
    simp [Ideal.div]
  | top => exact ⟨1, by simp [Ideal.div]⟩
  | coe v =>
    refine ⟨1 / (1 + Real.exp (0 - v)), ?_⟩
    rw [← EReal.coe_zero, ← EReal.coe_sub, Ideal.exp_coe, ← EReal.coe_one, ← EReal.coe_add, div_real (by positivity)]

/-! ## The root mean square norm -/

variable {n : ℕ}

/-- The mean of the squares plus `eps`. -/
def msq (x : Fin n → ℝ) (N : ℝ) : ℝ := (∑ k, x k * x k) / N + eps

theorem msq_pos (x : Fin n → ℝ) {N : ℝ} (hN : 0 < N) : 0 < msq x N :=
  add_pos_of_nonneg_of_pos (div_nonneg (Finset.sum_nonneg fun k _ => mul_self_nonneg _) hN.le) eps_pos

/-- The reciprocal root. -/
def inv (x : Fin n → ℝ) (N : ℝ) : ℝ := (Real.sqrt (msq x N))⁻¹

theorem inv_cube (x : Fin n → ℝ) {N : ℝ} (hN : 0 < N) : inv x N * inv x N * inv x N = inv x N / msq x N := by
  have h := msq_pos x hN
  have hs : Real.sqrt (msq x N) * Real.sqrt (msq x N) = msq x N := Real.mul_self_sqrt h.le
  have : inv x N * inv x N = (msq x N)⁻¹ := by rw [inv, ← mul_inv, hs]
  rw [this, div_eq_mul_inv, mul_comm]

/-- The gradient of the norm, written with the normalised row on one side and as the derivative of the root on the other. -/
theorem rms_grad (x d : Fin n → ℝ) {N : ℝ} (hN : 0 < N) (j : Fin n) :
    inv x N * (d j - x j * inv x N * ((∑ k, d k * (x k * inv x N)) / N))
      = d j * inv x N + x j * ((∑ k, x k * d k) * (-(1 / 2) * (inv x N / msq x N)) / N)
        + (∑ k, x k * d k) * (-(1 / 2) * (inv x N / msq x N)) / N * x j := by
  have e : ∑ k, d k * (x k * inv x N) = inv x N * ∑ k, x k * d k := by
    rw [Finset.mul_sum]; exact Finset.sum_congr rfl fun k _ => by ring
  rw [← inv_cube x hN, e]; ring

/-- The reciprocal root of the mean of the squares, over the extended reals, as both programs spell it at rows of 1024. -/
def invE (x : Fin 1024 → EReal) : EReal :=
  Ideal.rsqrt (Ideal.div (∑ k, x k * x k) (Ideal.ofBits .f32 0x44800000#32) + Ideal.ofBits .f32 0x358637BD#32)

theorem msqE_real (x : Fin 1024 → ℝ) :
    Ideal.div (∑ k, (x k : EReal) * (x k : EReal)) (Ideal.ofBits .f32 0x44800000#32) + Ideal.ofBits .f32 0x358637BD#32
      = ((msq x 1024 : ℝ) : EReal) := by
  simp only [← EReal.coe_mul, c_1024, c_eps]
  rw [coe_sum, div_real (by norm_num), ← EReal.coe_add, msq]

theorem invE_real (x : Fin 1024 → ℝ) : invE (fun k => (x k : EReal)) = ((inv x 1024 : ℝ) : EReal) := by
  rw [invE, msqE_real, rsqrt_real (msq_pos x (by norm_num)), inv]

/-- What the norm's derivative puts on a row, as the references spell it: the sum `T` of the row against its cotangent. -/
def rootTerm (x : Fin 1024 → EReal) (T : EReal) : EReal :=
  Ideal.div (T * (Ideal.ofBits .f32 0xBF000000#32 * Ideal.div (invE x)
    (Ideal.div (∑ k, x k * x k) (Ideal.ofBits .f32 0x44800000#32) + Ideal.ofBits .f32 0x358637BD#32)))
    (Ideal.ofBits .f32 0x44800000#32)

theorem rootTerm_real (x : Fin 1024 → ℝ) (T : ℝ) :
    rootTerm (fun k => (x k : EReal)) T = ((T * (-(1 / 2) * (inv x 1024 / msq x 1024)) / 1024 : ℝ) : EReal) := by
  rw [rootTerm, invE_real, msqE_real, c_neg_half, c_1024, div_real (msq_pos x (by norm_num)).ne', ← EReal.coe_mul, ← EReal.coe_mul,
    div_real (by norm_num)]

/-! ## Real values -/

/-- A value that is a real number. -/
def IsR (a : EReal) : Prop := ∃ r : ℝ, a = (r : EReal)

theorem IsR.add {a b : EReal} : IsR a → IsR b → IsR (a + b)
  | ⟨r, hr⟩, ⟨s, hs⟩ => ⟨r + s, by rw [hr, hs, EReal.coe_add]⟩
theorem IsR.sub {a b : EReal} : IsR a → IsR b → IsR (a - b)
  | ⟨r, hr⟩, ⟨s, hs⟩ => ⟨r - s, by rw [hr, hs, EReal.coe_sub]⟩
theorem IsR.mul {a b : EReal} : IsR a → IsR b → IsR (a * b)
  | ⟨r, hr⟩, ⟨s, hs⟩ => ⟨r * s, by rw [hr, hs, EReal.coe_mul]⟩
theorem IsR.sum {ι : Type} [Fintype ι] {f : ι → EReal} (h : ∀ i, IsR (f i)) : IsR (∑ i, f i) := by
  choose r hr using h
  exact ⟨∑ i, r i, by simp only [hr, coe_sum]⟩
theorem IsR.one : IsR 1 := ⟨1, rfl⟩
theorem IsR.sigm (v : EReal) : IsR (sigm v) := sigm_real v
theorem IsR.invE {x : Fin 1024 → EReal} (h : ∀ k, IsR (x k)) : IsR (invE x) := by
  choose r hr using h
  rw [show x = fun k => (r k : EReal) from funext hr]
  exact ⟨_, invE_real r⟩

end Cert.RealArith

end
-- ==== Proof.Finite.lean ====
module

public import proofs.«01_k».proof.Proof.RealArith
public import Idealize.ShloMosaic.Adequacy

/-! The comparison `|a| < ∞` of a predicate, read over the extended reals: where it is true, the
    number is a real one. -/

@[expose] public section

noncomputable section

namespace Cert.Finite

open Idealize.ShloMosaic

/-- An array whose every `|a| < ∞` is true holds real numbers. -/
theorem exists_reals {S : Shape} (x : FVec Ideal S .f32)
    (bc : (⟨0, ![]⟩ : Shape).BroadcastsInDim S (![] : Fin 0 → Fin S.rank))
    (h : cmpf .olt (Host.absf x) (broadcastInDim S ![] bc (constant (F := Ideal) ⟨0, ![]⟩ .f32 0x7F800000#32)) = fun _ => 1#1) :
    ∃ r : S.Idx → ℝ, ∀ i, x i = ((r i : ℝ) : EReal) := by
  have key : ∀ i, ∃ r : ℝ, x i = (r : EReal) := fun i => by
    have hi : Ideal.cmp .olt (max (x i : EReal) (-(x i : EReal))) (Ideal.ofBits .f32 0x7F800000#32) = 1#1 := congrFun h i
    rw [RealArith.c_top] at hi
    exact RealArith.exists_real ((Ideal.cmp_olt_eq_one _ _).mp hi)
  choose r hr using key
  exact ⟨r, hr⟩

/-- A row cut out of a matrix of 1024 columns and read as a vector. -/
theorem row_at {n : ℕ} (r : ℕ) (hr : r < n) (x : FVec Ideal ⟨2, ![n, 1024]⟩ .f32) (hs : (⟨2, ![n, 1024]⟩ : Shape).Slices ![r, 0] ⟨2, ![1, 1024]⟩)
    (hc : (⟨2, ![1, 1024]⟩ : Shape).ShapeCasts ⟨1, ![1024]⟩) (j : Fin 1024) :
    shapeCast ⟨1, ![1024]⟩ (extractStridedSlice ⟨2, ![1, 1024]⟩ ![r, 0] x hs) hc (ix1 j) = x (ix2 ⟨r, hr⟩ j) := by
  pointwise []
  rw [Shape.Idx.norm_def]
  refine congrArg x (funext fun a => Fin.ext ?_)
  match a with
  | ⟨0, _⟩ => exact Nat.add_zero r
  | ⟨1, _⟩ => exact Nat.zero_add j.val

end Cert.Finite

end
-- ==== Proof.Pre.Blocks.lean ====
/- What the blocks of the pre-norm's gradient kernel hold, as functions of the arguments. -/
module

public import proofs.«01_k».proof.Proof.Gen.PreBwdIdeal.Value
public import Idealize.ShloMosaic.Lib.Pipeline.ValueKit
public import Idealize.ShloMosaic.Lib.Claim
public import Idealize.ShloMosaic.Lib.StableHlo.ReadAt
public import proofs.«01_k».proof.Proof.RealArith

@[expose] public section

set_option maxRecDepth 16384

noncomputable section

open Idealize.ShloMosaic Idealize.ShloMosaic.TcCoe Idealize.SL.Sem
open Idealize.ShloMosaic.Pipeline (Dat)

namespace Cert.PreBwdIdeal.Val

open Cert.PreBwdIdeal Cert.PreBwdIdeal.Gen

variable (m : (ℓ : Loc nD τ sig) → Buf (Elt Ideal) ℓ)

/-- The arguments, typed: the rows of `x`, of the modulation, of the gains, of the weight and of the cotangent. -/
abbrev X (c : Dev nD) : FVec Ideal S8192x1024 .f32 := m ((c : Thread nD τ).loc main_arg0)
abbrev D1 (c : Dev nD) : FVec Ideal S8192x1024 .f32 := m ((c : Thread nD τ).loc main_arg1)
abbrev Md (c : Dev nD) : FVec Ideal S6x1024 .f32 := m ((c : Thread nD τ).loc main_arg2)
abbrev Gn (c : Dev nD) : FVec Ideal S4x1024 .f32 := m ((c : Thread nD τ).loc main_arg3)
abbrev W (c : Dev nD) : FVec Ideal S1024x4872 .f32 := m ((c : Thread nD τ).loc main_arg4)
abbrev Ct (c : Dev nD) : FVec Ideal S8192x4872 .f32 := m ((c : Thread nD τ).loc main_arg5)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![0, 0] ∧ t.val < 16 :=
  (by decide +kernel : ∀ t : Fin grid0.N, _)

theorem lt16 (t : Fin cfg0.N) : t.val < 16 := (idx t).2.2.2.2.2.2.2.2.2

/-- Row `i` of point `t`'s blocks is this row of the arrays. -/
abbrev row (t : Fin cfg0.N) (i : Fin 512) : Fin 8192 := ⟨t.val * 512 + i.val, by have := lt16 t; omega⟩

theorem blk3 (c : Dev nD) (t : Fin cfg0.N) (i : Fin 512) (j : Fin 1024) :
    (iblk m c 3 t : FVec Ideal S512x1024 .f32) (ix2 i j) = X m c (ix2 (row t i) j) := by
  blk_ext [iblk, V, idx t]

theorem blk4 (c : Dev nD) (t : Fin cfg0.N) (i : Fin 512) (j : Fin 1024) :
    (iblk m c 4 t : FVec Ideal S512x1024 .f32) (ix2 i j) = D1 m c (ix2 (row t i) j) := by
  blk_ext [iblk, V, idx t]

/-- The arrays the call is given, each entry of them. -/
theorem ent0 (c : Dev nD) (i : Fin 8192) (j : Fin 768) :
    (V m c main_v9 : FVec Ideal S8192x768 .bf16) (ix2 i j) = Ct m c (ix2 i ⟨j.val, by omega⟩) := by
  unfold V
  after_reads_at

theorem ent1 (c : Dev nD) (i : Fin 8192) (j : Fin 2176) :
    (V m c main_v12 : FVec Ideal S8192x2176 .bf16) (ix2 i j)
      = if h : j.val < 2056 then Ct m c (ix2 i ⟨768 + j.val, by omega⟩) else 0 := by
  unfold V
  after_reads_at
  after_reads_at

theorem ent2 (c : Dev nD) (i : Fin 8192) (j : Fin 2048) :
    (V m c main_v14 : FVec Ideal S8192x2048 .bf16) (ix2 i j) = Ct m c (ix2 i ⟨2824 + j.val, by omega⟩) := by
  unfold V
  after_reads_at

theorem ent6 (c : Dev nD) (i : Fin 1024) (j : Fin 4992) :
    (V m c main_v6 : FVec Ideal S1024x4992 .bf16) (ix2 i j)
      = if h : j.val < 2824 then W m c (ix2 i ⟨j.val, by omega⟩) else
        if h' : j.val < 2944 then 0 else W m c (ix2 i ⟨j.val - 120, by omega⟩) := by
  unfold V
  after_reads_at
  after_reads_at
  by_cases h1 : j.val < 2824
  · simp only [dif_pos h1]
  · by_cases h2 : j.val < 2944
    · have h3 : j.val - 2824 < 120 := by omega
      simp [h1, h2, h3]
    · have h3 : ¬ j.val - 2824 < 120 := by omega
      simp only [dif_neg h1, dif_neg h2, dif_neg h3]
      exact congrArg (W m c) (congrArg (ix2 i) (Fin.ext (show 2824 + (j.val - 2824 - 120) = j.val - 120 by omega)))

theorem ent5_mod (c : Dev nD) (i : Fin 6) (j : Fin 1024) :
    (V m c main_v1 : FVec Ideal S16x1024 .f32) (ix2 ⟨i.val, by omega⟩ j) = Md m c (ix2 i j) := by
  unfold V
  after_reads_at

theorem ent5_gain (c : Dev nD) (i : Fin 4) (j : Fin 1024) :
    (V m c main_v1 : FVec Ideal S16x1024 .f32) (ix2 ⟨6 + i.val, by omega⟩ j) = Gn m c (ix2 i j) := by
  unfold V
  after_reads_at

theorem blk0 (c : Dev nD) (t : Fin cfg0.N) (i : Fin 512) (j : Fin 768) :
    (iblk m c 0 t : FVec Ideal S512x768 .bf16) (ix2 i j) = Ct m c (ix2 (row t i) ⟨j.val, by omega⟩) := by
  rw [← ent0]
  blk_ext [iblk, V, idx t]

theorem blk1 (c : Dev nD) (t : Fin cfg0.N) (i : Fin 512) (j : Fin 2176) :
    (iblk m c 1 t : FVec Ideal S512x2176 .bf16) (ix2 i j)
      = if h : j.val < 2056 then Ct m c (ix2 (row t i) ⟨768 + j.val, by omega⟩) else 0 := by
  rw [← ent1]
  blk_ext [iblk, V, idx t]

theorem blk2 (c : Dev nD) (t : Fin cfg0.N) (i : Fin 512) (j : Fin 2048) :
    (iblk m c 2 t : FVec Ideal S512x2048 .bf16) (ix2 i j) = Ct m c (ix2 (row t i) ⟨2824 + j.val, by omega⟩) := by
  rw [← ent2]
  blk_ext [iblk, V, idx t]

theorem blk5 (c : Dev nD) (t : Fin cfg0.N) (i : Fin 16) (j : Fin 1024) :
    (iblk m c 5 t : FVec Ideal S16x1024 .f32) (ix2 i j) = (V m c main_v1 : FVec Ideal S16x1024 .f32) (ix2 i j) := by
  blk_ext [iblk, V, idx t]

theorem blk6 (c : Dev nD) (t : Fin cfg0.N) (i : Fin 1024) (j : Fin 4992) :
    (iblk m c 6 t : FVec Ideal S1024x4992 .bf16) (ix2 i j) = (V m c main_v6 : FVec Ideal S1024x4992 .bf16) (ix2 i j) := by
  blk_ext [iblk, V, idx t]

end Cert.PreBwdIdeal.Val

end
-- ==== Proof.RowPieces.lean ====
/- A window of rows whose rows are written and read back one at a time: what it holds, and what a load reads. -/
module

public import Idealize.ShloMosaic.Lib.Pipeline.ValueKit
public import Idealize.ShloMosaic.Lib.WritesUnit
public import Idealize.ShloMosaic.Lib.Pointwise

@[expose] public section

noncomputable section

open Idealize.ShloMosaic

namespace Cert.RowPieces

variable {R n : Nat} {Val : EltTy → Type} {sig : RefSig} {κ : Kind} {sp : Space} {e : EltTy}

/-- The place of a row's entry in the window. -/
theorem row_emb (o : Nat) (inb : ∀ a, (![o, 0] : Fin 2 → Nat) a + (![1, n] : Fin 2 → Nat) a ≤ (⟨2, ![R, n]⟩ : Shape).size a)
    (i : Fin R) (hi : i.val = o) (j : Fin n) :
    (Rect.unit (s := (⟨2, ![R, n]⟩ : Shape)) ![o, 0] ![1, n] inb).emb (ix2 (0 : Fin 1) j) = ix2 i j := by
  funext a; apply Fin.ext
  fin_cases a
  · show o + 1 * 0 = i.val; omega
  · show 0 + 1 * j.val = j.val; omega

theorem row_not_mem (o : Nat) (inb : ∀ a, (![o, 0] : Fin 2 → Nat) a + (![1, n] : Fin 2 → Nat) a ≤ (⟨2, ![R, n]⟩ : Shape).size a)
    (i : Fin R) (hi : ¬ i.val = o) (j : Fin n) :
    (ix2 i j : (⟨2, ![R, n]⟩ : Shape).Idx) ∉ (Rect.unit (s := (⟨2, ![R, n]⟩ : Shape)) ![o, 0] ![1, n] inb).set := by
  intro hm
  obtain ⟨k, hk, he⟩ := (LoadRect.mem_set _).mp hm (0 : Fin 2)
  have hk1 : k < 1 := hk
  have he' : i.val = o + 1 * k := he
  omega

/-- The newest piece is one row: there its contents, elsewhere the older pieces'. -/
theorem canon_row [∀ e, Nonempty (Val e)] (o : Nat)
    (inb : ∀ a, (![o, 0] : Fin 2 → Nat) a + (![1, n] : Fin 2 → Nat) a ≤ (⟨2, ![R, n]⟩ : Shape).size a)
    (w : (Rect.unit (s := (⟨2, ![R, n]⟩ : Shape)) ![o, 0] ![1, n] inb).shape.Idx → Val e) (L : List (View.Piece Val (⟨2, ![R, n]⟩ : Shape) e))
    (i : Fin R) (j : Fin n) :
    View.canon ((⟨Rect.unit (s := (⟨2, ![R, n]⟩ : Shape)) ![o, 0] ![1, n] inb, w⟩ : View.Piece Val (⟨2, ![R, n]⟩ : Shape) e) :: L) (ix2 i j)
      = if i.val = o then w (ix2 (0 : Fin 1) j) else View.canon L (ix2 i j) := by
  by_cases hi : i.val = o
  · rw [if_pos hi, ← row_emb o inb i hi j]
    exact View.canon_cons_emb _ w L _
  · rw [if_neg hi]
    exact View.canon_cons_of_not_mem _ L (row_not_mem o inb i hi j)

/-- The newest piece is the whole window. -/
theorem canon_whole [∀ e, Nonempty (Val e)]
    (inb : ∀ a, (![0, 0] : Fin 2 → Nat) a + (![R, n] : Fin 2 → Nat) a ≤ (⟨2, ![R, n]⟩ : Shape).size a)
    (w : (⟨2, ![R, n]⟩ : Shape).Idx → Val e) (L : List (View.Piece Val (⟨2, ![R, n]⟩ : Shape) e)) :
    View.canon ((⟨Rect.unit (s := (⟨2, ![R, n]⟩ : Shape)) ![0, 0] ![R, n] inb, w⟩ : View.Piece Val (⟨2, ![R, n]⟩ : Shape) e) :: L) = w :=
  View.canon_cons_unit_zero (by funext a; fin_cases a <;> rfl) inb w L

/-- The same over a buffer that held something before. -/
theorem writes_row (v : View sig κ sp (⟨2, ![R, n]⟩ : Shape) e) (f : v.ty.Contents Val) (o : Nat)
    (inb : ∀ a, (![o, 0] : Fin 2 → Nat) a + (![1, n] : Fin 2 → Nat) a ≤ (⟨2, ![R, n]⟩ : Shape).size a)
    (w : (Rect.unit (s := (⟨2, ![R, n]⟩ : Shape)) ![o, 0] ![1, n] inb).shape.Idx → Val e) (L : List (View.Piece Val (⟨2, ![R, n]⟩ : Shape) e))
    (i : Fin R) (j : Fin n) :
    v.read Val (v.writes Val f ((⟨Rect.unit (s := (⟨2, ![R, n]⟩ : Shape)) ![o, 0] ![1, n] inb, w⟩ : View.Piece Val (⟨2, ![R, n]⟩ : Shape) e) :: L)) (ix2 i j)
      = if i.val = o then w (ix2 (0 : Fin 1) j) else v.read Val (v.writes Val f L) (ix2 i j) := by
  by_cases hi : i.val = o
  · rw [if_pos hi, ← row_emb o inb i hi j]
    exact View.read_writes_cons_emb _ _ _ _ _ _
  · rw [if_neg hi]
    have hy := row_not_mem o inb i hi j
    rw [← Rect.map_emb_univ] at hy
    rw [View.writes_cons]
    exact View.read_slice_write_of_not_mem _ _ _ _ hy

/-- A row read back reads what the pieces left there. -/
theorem readCov_row [∀ e, Nonempty (Val e)] (v : View sig κ sp (⟨2, ![R, n]⟩ : Shape) e) (L : List (View.Piece Val (⟨2, ![R, n]⟩ : Shape) e)) (o : Nat)
    (inb : ∀ a, (![o, 0] : Fin 2 → Nat) a + (![1, n] : Fin 2 → Nat) a ≤ (⟨2, ![R, n]⟩ : Shape).size a) (ho : o < R) (j : Fin n) :
    v.readCov L (Rect.unit (s := (⟨2, ![R, n]⟩ : Shape)) ![o, 0] ![1, n] inb).toLoadRect (ix2 (0 : Fin 1) j)
      = View.canon L (ix2 ⟨o, ho⟩ j) := by
  rw [View.readCov_eq_canon']
  exact congrArg (View.canon L) (row_emb o inb ⟨o, ho⟩ rfl j)

/-- A row of a block. -/
theorem ld_row (X : (⟨2, ![R, n]⟩ : Shape).Idx → Val e) (o : Nat)
    (inb : ∀ a, (![o, 0] : Fin 2 → Nat) a + (![1, n] : Fin 2 → Nat) a ≤ (⟨2, ![R, n]⟩ : Shape).size a) (ho : o < R) (j : Fin n) :
    View.ld X (Rect.unit (s := (⟨2, ![R, n]⟩ : Shape)) ![o, 0] ![1, n] inb) (ix2 (0 : Fin 1) j) = X (ix2 ⟨o, ho⟩ j) :=
  congrArg X (row_emb o inb ⟨o, ho⟩ rfl j)

/-- Some columns of a block. -/
theorem ld_cols {q : Nat} (X : (⟨2, ![R, n]⟩ : Shape).Idx → Val e) (o : Nat)
    (inb : ∀ a, (![0, o] : Fin 2 → Nat) a + (![R, q] : Fin 2 → Nat) a ≤ (⟨2, ![R, n]⟩ : Shape).size a) (i : Fin R) (j : Fin q) (ho : o + j.val < n) :
    View.ld X (Rect.unit (s := (⟨2, ![R, n]⟩ : Shape)) ![0, o] ![R, q] inb) (ix2 i j) = X (ix2 i ⟨o + j.val, ho⟩) := by
  refine congrArg X ?_
  funext a; apply Fin.ext
  fin_cases a
  · show 0 + 1 * i.val = i.val; omega
  · show o + 1 * j.val = o + j.val; omega
/-- An index with these two coordinates. -/
theorem ix2_of {q : (⟨2, ![R, n]⟩ : Shape).Idx} {a : Fin R} {b : Fin n} (h0 : (q 0).val = a.val) (h1 : (q 1).val = b.val) : q = ix2 a b :=
  (eq_ix2 q).trans (congrArg₂ ix2 (Fin.ext h0) (Fin.ext h1))

/-- A function of two coordinates, at the coordinates of such an index. -/
theorem at_ix2 {α : Type} (f : Fin R → Fin n → α) {q : (⟨2, ![R, n]⟩ : Shape).Idx} {a : Fin R} {b : Fin n} (h : q = ix2 a b) :
    f a b = f (q 0) (q 1) := by
  subst h; rfl

theorem cols_emb {q : Nat} (o : Nat) (inb : ∀ a, (![0, o] : Fin 2 → Nat) a + (![R, q] : Fin 2 → Nat) a ≤ (⟨2, ![R, n]⟩ : Shape).size a)
    (i : Fin R) (j : Fin n) (k : Fin q) (hk : j.val = o + k.val) :
    (Rect.unit (s := (⟨2, ![R, n]⟩ : Shape)) ![0, o] ![R, q] inb).emb (ix2 i k) = ix2 i j := by
  refine ix2_of ?_ ?_
  · show 0 + 1 * i.val = i.val; omega
  · show o + 1 * k.val = j.val; omega

/-- The newest piece is some columns: there its contents, elsewhere the older pieces'. -/
theorem canon_cols [∀ e, Nonempty (Val e)] {q : Nat} (o : Nat)
    (inb : ∀ a, (![0, o] : Fin 2 → Nat) a + (![R, q] : Fin 2 → Nat) a ≤ (⟨2, ![R, n]⟩ : Shape).size a)
    (w : (Rect.unit (s := (⟨2, ![R, n]⟩ : Shape)) ![0, o] ![R, q] inb).shape.Idx → Val e) (L : List (View.Piece Val (⟨2, ![R, n]⟩ : Shape) e))
    (i : Fin R) (j : Fin n) :
    View.canon ((⟨Rect.unit (s := (⟨2, ![R, n]⟩ : Shape)) ![0, o] ![R, q] inb, w⟩ : View.Piece Val (⟨2, ![R, n]⟩ : Shape) e) :: L) (ix2 i j)
      = if h : o ≤ j.val ∧ j.val < o + q then w (ix2 i ⟨j.val - o, by omega⟩) else View.canon L (ix2 i j) := by
  by_cases h : o ≤ j.val ∧ j.val < o + q
  · rw [dif_pos h, ← cols_emb o inb i j ⟨j.val - o, by omega⟩ (show j.val = o + (j.val - o) by omega)]
    exact View.canon_cons_emb _ w L _
  · rw [dif_neg h]
    refine View.canon_cons_of_not_mem _ L fun hm => h ?_
    obtain ⟨k, hk, he⟩ := (LoadRect.mem_set _).mp hm (1 : Fin 2)
    have hk1 : k < q := hk
    have he' : j.val = o + 1 * k := he
    omega

end Cert.RowPieces

end
-- ==== Proof.Pre.Value.lean ====
/- What the pre-norm's gradient kernel leaves in its two results. -/
module

public import proofs.«01_k».proof.Proof.Pre.Blocks
public import proofs.«01_k».proof.Proof.RowPieces

@[expose] public section

set_option maxRecDepth 16384

noncomputable section

open Idealize.ShloMosaic Idealize.ShloMosaic.TcCoe Idealize.SL.Sem
open Idealize.ShloMosaic.Pipeline (Dat)

namespace Cert.PreBwdIdeal.Val

open Cert.PreBwdIdeal Cert.PreBwdIdeal.Gen Cert.RowPieces Cert.RealArith

variable (m : (ℓ : Loc nD τ sig) → Buf (Elt Ideal) ℓ)

/-! ## The body's values at an index -/

theorem pay3_at (a : Vec Ideal S512x768 .bf16) (b : Vec Ideal S1024x768 .bf16) (c : Vec Ideal S512x2176 .bf16) (d : Vec Ideal S1024x2176 .bf16)
    (e : Vec Ideal S512x2048 .bf16) (f : Vec Ideal S1024x2048 .bf16) (i : Fin 512) (j : Fin 1024) :
    k0_pay3 a b c d e f (ix2 i j) = ∑ k, a (ix2 i k) * b (ix2 j k) + ∑ k, c (ix2 i k) * d (ix2 j k) + ∑ k, e (ix2 i k) * f (ix2 j k) := by
  pointwise [k0_pay3]

theorem pay5_at (x : Vec Ideal S512x1024 .f32) (i : Fin 512) (j : Fin 1024) :
    k0_pay5 x (ix2 i j) = x (ix2 i j) * invE fun k => x (ix2 i k) := by
  pointwise [k0_pay5, k0_pay4]
  rfl

theorem pay7_at (dh xh : FVec Ideal S512x1024 .f32) (b g : Vec Ideal S1x1024 .f32) (j : Fin 1024) :
    k0_pay7 dh xh (k0_pay6 b) g (ix2 0 j) = b (ix2 0 j) + ∑ i, dh (ix2 i j) * (xh (ix2 i j) * g (ix2 0 j)) := by
  pointwise [k0_pay7, k0_pay6]

theorem pay8_at (dh : FVec Ideal S512x1024 .f32) (b : Vec Ideal S1x1024 .f32) (j : Fin 1024) :
    k0_pay8 dh b (ix2 0 j) = b (ix2 0 j) + ∑ i, dh (ix2 i j) := by
  pointwise [k0_pay8]

theorem pay10_at (dh xh : FVec Ideal S512x1024 .f32) (s b : Vec Ideal S1x1024 .f32) (j : Fin 1024) :
    k0_pay10 dh xh s b (ix2 0 j) = b (ix2 0 j) + ∑ i, dh (ix2 i j) * (1 + s (ix2 0 j)) * xh (ix2 i j) := by
  pointwise [k0_pay10, k0_pay9]

theorem pay2_at (i : Fin 8) (j : Fin 1024) : k0_pay2 (F := Ideal) (ix2 i j) = 0 := by
  pointwise [k0_pay2]

theorem pay1_at (x : Vec Ideal S512x1024 .f32) (dh xh : FVec Ideal S512x1024 .f32) (s g : Vec Ideal S1x1024 .f32) (d1 : Vec Ideal S512x1024 .f32)
    (i : Fin 512) (j : Fin 1024) :
    k0_pay1 (k0_pay4 x) xh (k0_pay11 dh s g) d1 (k0_pay12 dh xh s g) (ix2 i j)
      = d1 (ix2 i j) + (invE fun k => x (ix2 i k)) * (dh (ix2 i j) * (1 + s (ix2 0 j)) * g (ix2 0 j)
        - xh (ix2 i j) * Ideal.div (∑ k, dh (ix2 i k) * (1 + s (ix2 0 k)) * g (ix2 0 k) * xh (ix2 i k)) (Ideal.ofBits .f32 0x44800000#32)) := by
  pointwise [k0_pay1, k0_pay4, k0_pay11, k0_pay12, k0_pay9]
  rfl

/-! ## The gradient of the projection's input -/

/-- The gradient with respect to the modulated rows. -/
def DH (c : Dev nD) (i : Fin 8192) (j : Fin 1024) : EReal := ∑ k : Fin 4872, Ct m c (ix2 i k) * W m c (ix2 j k)
/-- The normalised rows. -/
def XH (c : Dev nD) (i : Fin 8192) (j : Fin 1024) : EReal := X m c (ix2 i j) * invE fun k => X m c (ix2 i k)

/-- A sum over the columns, cut at 768 and 2824. -/
theorem sum_cut (f : Fin 4872 → EReal) :
    ∑ k, f k = ∑ k : Fin 768, f ⟨k.val, by omega⟩ + ∑ k : Fin 2056, f ⟨768 + k.val, by omega⟩ + ∑ k : Fin 2048, f ⟨2824 + k.val, by omega⟩ := by
  rw [show ∑ k, f k = ∑ k : Fin (768 + 2056 + 2048), f k from rfl, Fin.sum_univ_add, Fin.sum_univ_add]
  rfl

/-- Columns of zeros add nothing. -/
theorem sum_pad (f : Fin 2056 → EReal) :
    ∑ k : Fin 2176, (if h : k.val < 2056 then f ⟨k.val, h⟩ else 0) = ∑ k, f k := by
  rw [show ∑ k : Fin 2176, (if h : k.val < 2056 then f ⟨k.val, h⟩ else 0)
      = ∑ k : Fin (2056 + 120), (if h : k.val < 2056 then f ⟨k.val, h⟩ else 0) from rfl, Fin.sum_univ_add]
  simp

/-- What point `t` computes for the gradient of the modulated rows. -/
abbrev dhb (c : Dev nD) (t : Fin cfg0.N) : FVec Ideal S512x1024 .f32 :=
  k0_pay3 (iblk m c 0 t) (View.ld (iblk m c 6 t) (Rect.unit ![0, 0] ![1024, 768] inb_S1024x4992_S1024x768_0_0)) (iblk m c 1 t)
    (View.ld (iblk m c 6 t) (Rect.unit ![0, 768] ![1024, 2176] inb_S1024x4992_S1024x2176_0_768)) (iblk m c 2 t)
    (View.ld (iblk m c 6 t) (Rect.unit ![0, 2944] ![1024, 2048] inb_S1024x4992_S1024x2048_0_2944))

theorem w_lo (c : Dev nD) (t : Fin cfg0.N) (j : Fin 1024) (k : Fin 768) :
    View.ld (iblk m c 6 t : FVec Ideal S1024x4992 .bf16) (Rect.unit ![0, 0] ![1024, 768] inb_S1024x4992_S1024x768_0_0) (ix2 j k)
      = W m c (ix2 j ⟨k.val, by omega⟩) := by
  refine (ld_cols (iblk m c 6 t : FVec Ideal S1024x4992 .bf16) 0 inb_S1024x4992_S1024x768_0_0 j k (by omega)).trans ?_
  rw [blk6, ent6, dif_pos (show 0 + k.val < 2824 by omega)]
  exact congrArg (W m c) (congrArg (ix2 j) (Fin.ext (show 0 + k.val = k.val by omega)))

theorem w_mid (c : Dev nD) (t : Fin cfg0.N) (j : Fin 1024) (k : Fin 2176) (hk : k.val < 2056) :
    View.ld (iblk m c 6 t : FVec Ideal S1024x4992 .bf16) (Rect.unit ![0, 768] ![1024, 2176] inb_S1024x4992_S1024x2176_0_768) (ix2 j k)
      = W m c (ix2 j ⟨768 + k.val, by omega⟩) := by
  refine (ld_cols (iblk m c 6 t : FVec Ideal S1024x4992 .bf16) 768 inb_S1024x4992_S1024x2176_0_768 j k (by omega)).trans ?_
  rw [blk6, ent6, dif_pos (show 768 + k.val < 2824 by omega)]

theorem w_hi (c : Dev nD) (t : Fin cfg0.N) (j : Fin 1024) (k : Fin 2048) :
    View.ld (iblk m c 6 t : FVec Ideal S1024x4992 .bf16) (Rect.unit ![0, 2944] ![1024, 2048] inb_S1024x4992_S1024x2048_0_2944) (ix2 j k)
      = W m c (ix2 j ⟨2824 + k.val, by omega⟩) := by
  refine (ld_cols (iblk m c 6 t : FVec Ideal S1024x4992 .bf16) 2944 inb_S1024x4992_S1024x2048_0_2944 j k (by omega)).trans ?_
  rw [blk6, ent6, dif_neg (show ¬ 2944 + k.val < 2824 by omega), dif_neg (show ¬ 2944 + k.val < 2944 by omega)]
  exact congrArg (W m c) (congrArg (ix2 j) (Fin.ext (show 2944 + k.val - 120 = 2824 + k.val by omega)))

theorem dhb_at (c : Dev nD) (t : Fin cfg0.N) (i : Fin 512) (j : Fin 1024) : dhb m c t (ix2 i j) = DH m c (row t i) j := by
  refine (pay3_at _ _ _ _ _ _ i j).trans ?_
  rw [DH, sum_cut]
  refine congrArg₂ (· + ·) (congrArg₂ (· + ·) ?_ ?_) ?_
  · exact Finset.sum_congr rfl fun k _ => congrArg₂ (· * ·) (blk0 m c t i k) (w_lo m c t j k)
  · refine Eq.trans ?_ (sum_pad fun k => Ct m c (ix2 (row t i) ⟨768 + k.val, by omega⟩) * W m c (ix2 j ⟨768 + k.val, by omega⟩))
    refine Finset.sum_congr rfl fun k _ => ?_
    by_cases hk : k.val < 2056
    · rw [dif_pos hk, w_mid m c t j k hk, blk1, dif_pos hk]
    · rw [dif_neg hk, blk1, dif_neg hk, zero_mul]
  · exact Finset.sum_congr rfl fun k _ => congrArg₂ (· * ·) (blk2 m c t i k) (w_hi m c t j k)

theorem xh_at (c : Dev nD) (t : Fin cfg0.N) (i : Fin 512) (j : Fin 1024) :
    k0_pay5 (iblk m c 3 t) (ix2 i j) = XH m c (row t i) j := by
  refine (pay5_at _ i j).trans ?_
  simp only [blk3]
  rfl

theorem s_at (c : Dev nD) (t : Fin cfg0.N) (j : Fin 1024) :
    View.ld (iblk m c 5 t : FVec Ideal S16x1024 .f32) (Rect.unit ![1, 0] ![1, 1024] inb_S16x1024_S1x1024_1_0) (ix2 0 j) = Md m c (ix2 1 j) := by
  refine (ld_row (iblk m c 5 t : FVec Ideal S16x1024 .f32) 1 inb_S16x1024_S1x1024_1_0 (by omega) j).trans ?_
  rw [blk5]
  exact ent5_mod m c 1 j

theorem g_at (c : Dev nD) (t : Fin cfg0.N) (j : Fin 1024) :
    View.ld (iblk m c 5 t : FVec Ideal S16x1024 .f32) (Rect.unit ![6, 0] ![1, 1024] inb_S16x1024_S1x1024_6_0) (ix2 0 j) = Gn m c (ix2 0 j) := by
  refine (ld_row (iblk m c 5 t : FVec Ideal S16x1024 .f32) 6 inb_S16x1024_S1x1024_6_0 (by omega) j).trans ?_
  rw [blk5]
  exact ent5_gain m c 0 j

/-! ## The first result -/

/-- The gradient with respect to the normalised rows. -/
def DX (c : Dev nD) (i : Fin 8192) (j : Fin 1024) : EReal := DH m c i j * (1 + Md m c (ix2 1 j)) * Gn m c (ix2 0 j)

/-- The gradient of the rows, as the kernel computes it. -/
def out7 (c : Dev nD) (i : Fin 8192) (j : Fin 1024) : EReal :=
  D1 m c (ix2 i j) + (invE fun k => X m c (ix2 i k)) * (DX m c i j
    - XH m c i j * Ideal.div (∑ k, DX m c i k * XH m c i k) (Ideal.ofBits .f32 0x44800000#32))

theorem pt7 (c : Dev nD) (t : Fin cfg0.N) (i : Fin 512) (j : Fin 1024) :
    (outsAt0 m c t.val t.isLt).1 (ix2 i j) = out7 m c (row t i) j := by
  by_cases h : t.val % 16 = 0
  · rw [outsAt0_A m c t h]
    frame_out
    refine (pay1_at _ (dhb m c t) _ _ _ _ i j).trans ?_
    simp only [dhb_at, xh_at, s_at, g_at, blk3, blk4]
    rfl
  · rw [outsAt0_B m c t h]
    frame_out
    refine (pay1_at _ (dhb m c t) _ _ _ _ i j).trans ?_
    simp only [dhb_at, xh_at, s_at, g_at, blk3, blk4]
    rfl

theorem final7 (c : Dev nD) : (dats m 0 c).arrAt 7 cfg0.N = (fun q => out7 m c (q 0) (q 1) : FVec Ideal S8192x1024 .f32) := by
  refine (dats m 0 c).arrAt_eq_of_covers 7 _ (by decide +kernel) fun t hf y => ?_
  blk_simp
  rw [after0_7]
  refine (congrArg _ (ix2_eta y).symm).trans ((pt7 m c t _ _).trans ?_)
  have e : (win0_7.blk t).view.emb y = ix2 (row t (y 0)) (y 1) := by
    funext a; apply Fin.ext
    fin_cases a
    · show win0_7.index t 0 * 512 + 1 * (y 0).val = t.val * 512 + (y 0).val
      rw [(idx t).2.2.2.2.2.2.2.1]; simp
    · show win0_7.index t 1 * 1024 + 1 * (y 1).val = (y 1).val
      rw [(idx t).2.2.2.2.2.2.2.1]; simp
  exact (congrArg (fun q => out7 m c (q 0) (q 1)) e).symm

/-! ## The second result -/

/-- What row `i` of point `t`'s block adds to entry (r, j) of the second result. -/
def add8 (c : Dev nD) (r : Fin 8) (j : Fin 1024) (i : Fin 8192) : EReal :=
  if r.val = 2 then DH m c i j * (1 + Md m c (ix2 1 j)) * XH m c i j
  else if r.val = 1 then DH m c i j
  else if r.val = 0 then DH m c i j * (XH m c i j * Gn m c (ix2 0 j))
  else 0

theorem row2 (c : Dev nD) (t : Fin cfg0.N) (j : Fin 1024) (b : Vec Ideal S1x1024 .f32) :
    k0_pay10 (dhb m c t) (k0_pay5 (iblk m c 3 t)) (View.ld (iblk m c 5 t) (Rect.unit ![1, 0] ![1, 1024] inb_S16x1024_S1x1024_1_0)) b (ix2 0 j)
      = b (ix2 0 j) + ∑ i, add8 m c 2 j (row t i) := by
  refine (pay10_at _ _ _ _ j).trans (congrArg (b (ix2 0 j) + ·) (Finset.sum_congr rfl fun i _ => ?_))
  rw [dhb_at, xh_at, s_at]
  exact (if_pos rfl).symm

theorem row1 (c : Dev nD) (t : Fin cfg0.N) (j : Fin 1024) (b : Vec Ideal S1x1024 .f32) :
    k0_pay8 (dhb m c t) b (ix2 0 j) = b (ix2 0 j) + ∑ i, add8 m c 1 j (row t i) := by
  refine (pay8_at _ _ j).trans (congrArg (b (ix2 0 j) + ·) (Finset.sum_congr rfl fun i _ => ?_))
  rw [dhb_at]
  exact ((if_neg (by decide)).trans (if_pos rfl)).symm

theorem row0 (c : Dev nD) (t : Fin cfg0.N) (j : Fin 1024) (b : Vec Ideal S1x1024 .f32) :
    k0_pay7 (dhb m c t) (k0_pay5 (iblk m c 3 t)) (k0_pay6 b) (View.ld (iblk m c 5 t) (Rect.unit ![6, 0] ![1, 1024] inb_S16x1024_S1x1024_6_0)) (ix2 0 j)
      = b (ix2 0 j) + ∑ i, add8 m c 0 j (row t i) := by
  refine (pay7_at _ _ _ _ j).trans (congrArg (b (ix2 0 j) + ·) (Finset.sum_congr rfl fun i _ => ?_))
  rw [dhb_at, xh_at, g_at]
  exact ((if_neg (by decide)).trans ((if_neg (by decide)).trans (if_pos rfl))).symm

theorem row_rest (c : Dev nD) (t : Fin cfg0.N) (r : Fin 8) (j : Fin 1024) (h2 : ¬ r.val = 2) (h1 : ¬ r.val = 1) (h0 : ¬ r.val = 0) :
    ∑ i : Fin 512, add8 m c r j (row t i) = 0 :=
  Finset.sum_eq_zero fun i _ => by rw [add8, if_neg h2, if_neg h1, if_neg h0]

theorem pt8_A (c : Dev nD) (t : Fin cfg0.N) (h : t.val % 16 = 0) (r : Fin 8) (j : Fin 1024) :
    (outsAt0 m c t.val t.isLt).2 (ix2 r j) = 0 + ∑ i, add8 m c r j (row t i) := by
  rw [outsAt0_A m c t h]
  frame_out
  rw [canon_row 2 inb_S8x1024_S1x1024_2_0, canon_row 1 inb_S8x1024_S1x1024_1_0, canon_row 0 inb_S8x1024_S1x1024_0_0,
    canon_whole inb_S8x1024_S8x1024_0_0]
  by_cases h2 : r.val = 2
  · obtain rfl : r = 2 := Fin.ext h2
    refine (if_pos rfl).trans ((row2 m c t j _).trans (congrArg (· + _) ?_))
    rw [readCov_row _ _ 2 inb_S8x1024_S1x1024_2_0 (by omega), canon_row 1 inb_S8x1024_S1x1024_1_0, canon_row 0 inb_S8x1024_S1x1024_0_0,
      canon_whole inb_S8x1024_S8x1024_0_0]
    exact (if_neg (show ¬ (2 : ℕ) = 1 by decide)).trans ((if_neg (show ¬ (2 : ℕ) = 0 by decide)).trans (pay2_at _ j))
  · rw [if_neg h2]
    by_cases h1 : r.val = 1
    · obtain rfl : r = 1 := Fin.ext h1
      refine (if_pos rfl).trans ((row1 m c t j _).trans (congrArg (· + _) ?_))
      rw [readCov_row _ _ 1 inb_S8x1024_S1x1024_1_0 (by omega), canon_row 0 inb_S8x1024_S1x1024_0_0,
        canon_whole inb_S8x1024_S8x1024_0_0]
      exact (if_neg (show ¬ (1 : ℕ) = 0 by decide)).trans (pay2_at _ j)
    · rw [if_neg h1]
      by_cases h0 : r.val = 0
      · obtain rfl : r = 0 := Fin.ext h0
        refine (if_pos rfl).trans ((row0 m c t j _).trans (congrArg (· + _) ?_))
        rw [readCov_row _ _ 0 inb_S8x1024_S1x1024_0_0 (by omega), canon_whole inb_S8x1024_S8x1024_0_0]
        exact pay2_at _ j
      · rw [if_neg h0, row_rest m c t r j h2 h1 h0, add_zero]
        exact pay2_at _ j

theorem pt8_B (c : Dev nD) (t : Fin cfg0.N) (h : ¬ t.val % 16 = 0) (r : Fin 8) (j : Fin 1024) :
    (outsAt0 m c t.val t.isLt).2 (ix2 r j)
      = (outsAt0 m c (t.val - 1) (Nat.lt_of_le_of_lt (Nat.sub_le _ _) t.isLt)).2 (ix2 r j) + ∑ i, add8 m c r j (row t i) := by
  rw [outsAt0_B m c t h]
  frame_out
  rw [writes_row _ _ 2 inb_S8x1024_S1x1024_2_0, writes_row _ _ 1 inb_S8x1024_S1x1024_1_0, writes_row _ _ 0 inb_S8x1024_S1x1024_0_0]
  by_cases h2 : r.val = 2
  · obtain rfl : r = 2 := Fin.ext h2
    refine (if_pos rfl).trans ((row2 m c t j _).trans (congrArg (· + _) ?_))
    exact ld_row _ 2 inb_S8x1024_S1x1024_2_0 (by omega) j
  · rw [if_neg h2]
    by_cases h1 : r.val = 1
    · obtain rfl : r = 1 := Fin.ext h1
      refine (if_pos rfl).trans ((row1 m c t j _).trans (congrArg (· + _) ?_))
      exact ld_row _ 1 inb_S8x1024_S1x1024_1_0 (by omega) j
    · rw [if_neg h1]
      by_cases h0 : r.val = 0
      · obtain rfl : r = 0 := Fin.ext h0
        refine (if_pos rfl).trans ((row0 m c t j _).trans (congrArg (· + _) ?_))
        exact ld_row _ 0 inb_S8x1024_S1x1024_0_0 (by omega) j
      · rw [if_neg h0, row_rest m c t r j h2 h1 h0, add_zero, View.writes_nil]
        exact congrFun ((hs0_8 t).read_unread _) _

theorem final8 (c : Dev nD) :
    (dats m 0 c).arrAt 8 cfg0.N = (fun q => ∑ i, add8 m c (q 0) (q 1) i : FVec Ideal S8x1024 .f32) := by
  refine (dats m 0 c).arrAt_eq_of_after_last 8 t0_15 (by decide +kernel) _ fun q => ?_
  blk_simp
  rw [after0_8]
  have key := Pipeline.eq_sum_fin_of_reset_step_apply_last (fun n h => (outsAt0 m c n h).2) 16 (fun _ => 0)
    (fun t q => ∑ i, add8 m c (q 0) (q 1) (row t i))
    (fun t h q => by rw [show q = ix2 (q 0) (q 1) from (ix2_eta q).symm]; exact pt8_A m c t h _ _)
    (fun t h q => by rw [show q = ix2 (q 0) (q 1) from (ix2_eta q).symm]; exact pt8_B m c t h _ _) (le_of_eq N_0) t0_15 rfl
  refine (key q).trans ?_
  rw [zero_add]
  refine (Fin.sum_points_lanes_congr (A := 1) (L := 8192) 16 (g := fun _ l => add8 m c (q 0) (q 1) l) (fun t k ha hl => ?_) N_0).trans
    (Fin.sum_univ_one _)
  refine congrArg (add8 m c (q 0) (q 1)) (Fin.ext ?_)
  show t.val * 512 + k.val = t.val % 16 * 512 + k.val
  rw [Nat.mod_eq_of_lt (lt16 t)]

end Cert.PreBwdIdeal.Val

end
-- ==== Proof.Pre.Reference.lean ====
module

public import proofs.«01_k».proof.Proof.Gen.PreRefIdeal.Read
public import proofs.«01_k».proof.Proof.Pre.Value

/-! The reference's two results at an index, and that they are the kernel's. -/

@[expose] public section

set_option maxRecDepth 16384

noncomputable section

namespace Cert.PreRefIdeal.Val

open Idealize.ShloMosaic Idealize.ShloMosaic.TcCoe Idealize.SL.Sem Cert.PreRefIdeal Cert.PreRefIdeal.Read Cert.RealArith

variable (x0 x1 : FVec Ideal S8192x1024 .f32) (x2 : FVec Ideal S6x1024 .f32) (x3 : FVec Ideal S4x1024 .f32)
  (x4 : FVec Ideal S1024x4872 .f32) (x5 : FVec Ideal S8192x4872 .f32)

theorem v31_at (i : Fin 8192) (j : Fin 1024) : val_main_v31 (F := Ideal) x4 x5 (ix2 i j) = ∑ k, x5 (ix2 i k) * x4 (ix2 j k) := by
  pointwise [val_main_v31]

theorem v12_at (i : Fin 8192) (j : Fin 1) : val_main_v12 (F := Ideal) x0 (ix2 i j)
    = Ideal.div (∑ k, x0 (ix2 i k) * x0 (ix2 i k)) (Ideal.ofBits .f32 0x44800000#32) + Ideal.ofBits .f32 0x358637BD#32 := by
  pointwise [val_main_v6, val_main_v7, val_main_v8, val_main_v9, val_main_v10, val_main_v11, val_main_v12, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13]

theorem v13_at (i : Fin 8192) (j : Fin 1) : val_main_v13 (F := Ideal) x0 (ix2 i j) = invE fun k => x0 (ix2 i k) := by
  pointwise [val_main_v13, v12_at]
  rfl

theorem v45_at (i : Fin 8192) (j : Fin 1024) : val_main_v45 (F := Ideal) x2 x3 x4 x5 (ix2 i j)
    = (∑ k, x5 (ix2 i k) * x4 (ix2 j k)) * (1 + x2 (ix2 1 j)) * x3 (ix2 0 j) := by
  pointwise [val_main_v2, val_main_v3, val_main_v4, val_main_v5, val_main_v19, val_main_v20, val_main_v22, val_main_v23, val_main_v24, val_main_v25, val_main_v31, val_main_v38, val_main_v39, val_main_v44, val_main_v45, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13]

theorem v61_at (i : Fin 8192) (j : Fin 1024) : val_main_v61 (F := Ideal) x0 x1 x2 x3 x4 x5 (ix2 i j)
    = x1 (ix2 i j) + val_main_v45 (F := Ideal) x2 x3 x4 x5 (ix2 i j) * (invE fun k => x0 (ix2 i k))
      + x0 (ix2 i j) * rootTerm (fun k => x0 (ix2 i k)) (∑ k, x0 (ix2 i k) * val_main_v45 (F := Ideal) x2 x3 x4 x5 (ix2 i k))
      + rootTerm (fun k => x0 (ix2 i k)) (∑ k, x0 (ix2 i k) * val_main_v45 (F := Ideal) x2 x3 x4 x5 (ix2 i k)) * x0 (ix2 i j) := by
  pointwise [v13_at, v12_at, val_main_v14, val_main_v15, val_main_v16, val_main_v47, val_main_v48, val_main_v49, val_main_v50, val_main_v51, val_main_v52, val_main_v53, val_main_v54, val_main_v55, val_main_v56, val_main_v57, val_main_v58, val_main_v59, val_main_v60, val_main_v61, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13]
  rw [Fin.sum_univ_one]
  rfl

theorem v40_at (j : Fin 1024) : val_main_v40 (F := Ideal) x0 x3 x4 x5 (ix1 j)
    = ∑ i, x0 (ix2 i j) * (invE fun k => x0 (ix2 i k)) * x3 (ix2 0 j) * ∑ k, x5 (ix2 i k) * x4 (ix2 j k) := by
  pointwise [val_main_v4, val_main_v5, val_main_v17, val_main_v18, val_main_v19, val_main_v20, val_main_v21, val_main_v31, val_main_v35, val_main_v36, val_main_v37, val_main_v40, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, v13_at]
  exact Fin.sum_univ_one _

theorem v34_at (j : Fin 1024) : val_main_v34 (F := Ideal) x4 x5 (ix1 j) = ∑ i, ∑ k, x5 (ix2 i k) * x4 (ix2 j k) := by
  pointwise [val_main_v31, val_main_v32, val_main_v33, val_main_v34, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13]
  exact Fin.sum_univ_one _

theorem v46_at (j : Fin 1024) : val_main_v46 (F := Ideal) x0 x2 x4 x5 (ix1 j)
    = ∑ i, x0 (ix2 i j) * (invE fun k => x0 (ix2 i k)) * ((∑ k, x5 (ix2 i k) * x4 (ix2 j k)) * (1 + x2 (ix2 1 j))) := by
  pointwise [val_main_v2, val_main_v3, val_main_v17, val_main_v18, val_main_v22, val_main_v23, val_main_v24, val_main_v31, val_main_v38, val_main_v39, val_main_v41, val_main_v42, val_main_v43, val_main_v46, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, v13_at]
  exact Fin.sum_univ_one _

/-- The small results, row by row. -/
theorem v66_at (r : Fin 8) (j : Fin 1024) : val_main_v66 (F := Ideal) x0 x2 x3 x4 x5 (ix2 r j)
    = if r.val = 2 then val_main_v46 (F := Ideal) x0 x2 x4 x5 (ix1 j)
      else if r.val = 1 then val_main_v34 (F := Ideal) x4 x5 (ix1 j)
      else if r.val = 0 then val_main_v40 (F := Ideal) x0 x3 x4 x5 (ix1 j) else 0 := by
  unfold val_main_v66
  fin_cases r
  all_goals
    simp
    pointwise [val_main_v62, val_main_v63, val_main_v64, val_main_v65, val_main_cst_13]

/-! ## The kernel's results are the reference's -/

section Agree

open Cert.PreBwdIdeal.Val (X D1 Md Gn W Ct DH DX XH out7 add8)

variable (m : (ℓ : Loc Cert.PreBwdIdeal.nD Cert.PreBwdIdeal.τ Cert.PreBwdIdeal.sig) → Buf (Elt Ideal) ℓ) (c : Dev Cert.PreBwdIdeal.nD)

theorem v45_DX (i : Fin 8192) (j : Fin 1024) :
    val_main_v45 (F := Ideal) (Md m c) (Gn m c) (W m c) (Ct m c) (ix2 i j) = DX m c i j := v45_at _ _ _ _ i j

/-- At real arguments the gradient of the rows is the reference's. -/
theorem v61_eq {x : Fin 8192 → Fin 1024 → ℝ} {s g : Fin 1024 → ℝ} {w : Fin 1024 → Fin 4872 → ℝ} {ct : Fin 8192 → Fin 4872 → ℝ}
    (hx : ∀ i j, X m c (ix2 i j) = (x i j : EReal)) (hs : ∀ j, Md m c (ix2 1 j) = (s j : EReal)) (hg : ∀ j, Gn m c (ix2 0 j) = (g j : EReal))
    (hw : ∀ j k, W m c (ix2 j k) = (w j k : EReal)) (hc : ∀ i k, Ct m c (ix2 i k) = (ct i k : EReal)) (i : Fin 8192) (j : Fin 1024) :
    out7 m c i j = val_main_v61 (F := Ideal) (X m c) (D1 m c) (Md m c) (Gn m c) (W m c) (Ct m c) (ix2 i j) := by
  rw [v61_at]
  simp only [v45_DX]
  obtain ⟨d, hd⟩ : ∃ d : Fin 1024 → ℝ, ∀ k, DX m c i k = (d k : EReal) := ⟨fun k => (∑ l, ct i l * w k l) * (1 + s k) * g k, fun k => by
    unfold DX DH
    simp only [hs, hg, hw, hc, ← EReal.coe_mul]
    rw [coe_sum, ← EReal.coe_one, ← EReal.coe_add, ← EReal.coe_mul, ← EReal.coe_mul]⟩
  unfold out7 XH
  simp only [hd, hx, invE_real]
  simp only [← EReal.coe_mul, coe_sum]
  rw [c_1024, div_real (by norm_num), rootTerm_real, add_assoc, add_assoc]
  simp only [← EReal.coe_mul, ← EReal.coe_add, ← EReal.coe_sub]
  rw [rms_grad _ d (by norm_num)]
  congr 2
  ring

/-- The sums over the rows are the reference's. -/
theorem v66_eq (r : Fin 8) (j : Fin 1024) :
    ∑ i, add8 m c r j i = val_main_v66 (F := Ideal) (X m c) (Md m c) (Gn m c) (W m c) (Ct m c) (ix2 r j) := by
  rw [v66_at, v46_at, v34_at, v40_at]
  unfold add8 DH XH
  split
  · exact Finset.sum_congr rfl fun i _ => mul_comm _ _
  split
  · rfl
  split
  · exact Finset.sum_congr rfl fun i _ => mul_comm _ _
  · exact Finset.sum_const_zero

end Agree

end Cert.PreRefIdeal.Val

end
-- ==== Proof.Pre.Claim.lean ====
/- The pre-norm's gradient: the two programs agree. -/
module

public import proofs.«01_k».proof.Defs
public import proofs.«01_k».proof.Proof.Gen.PreRefIdeal.Run
public import proofs.«01_k».proof.Proof.Gen.Pre_finite_pre
public import proofs.«01_k».proof.Proof.Finite
public import proofs.«01_k».proof.Proof.Pre.Reference

@[expose] public section

set_option maxRecDepth 16384

noncomputable section

namespace Cert.Proof.Pre

open Idealize.ShloMosaic Idealize.SL.Sem

section
open Cert.PreRefIdeal Cert.PreRefIdeal.Read

/-- The reference leaves its results' stages. -/
theorem ref_run (m : (ℓ : Loc Cert.PreRefIdeal.nD Cert.PreRefIdeal.τ Cert.PreRefIdeal.sig) → Buf (Elt Ideal) ℓ) (ρ : Dev Cert.PreRefIdeal.nD → PrngReg) :
    θ_run (Cert.PreRefIdeal.defs (F := Ideal)) (onTc (τ := Cert.PreRefIdeal.τ) (Cert.PreRefIdeal.main (F := Ideal))) ⟨m, fun _ => 0, ρ⟩ fun r => ∀ c : Dev Cert.PreRefIdeal.nD,
      r.2.mem ((c.tc : Thread nD τ).loc main_v61) = val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v66) = val_main_v66 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun _ h c => ⟨(h c).1.trans (val_main_v61_eq m c), (h c).2.1.trans (val_main_v66_eq _ _ _ _ _), (h c).2.2⟩)
    (Cert.PreRefIdeal.Value.run m ρ)

end

theorem frame_reference : Cert.quiescent_PreRefIdeal := fun m ρ _ =>
  (θ_run Cert.PreRefIdeal.defs _ _).mono (fun r h => ⟨fun c => (h c).2.2, sem_eq_zero_of_no_sems (by decide) r.2⟩)
    (Cert.PreRefIdeal.Value.run (F := Ideal) m ρ)

theorem algebraic : Cert.algebraic_PreBwdIdeal_PreRefIdeal_pre_finite_pre := by
  pair_intro
  · run_from Cert.PreBwdIdeal.Value.run_blocks m g
  · run_from ref_run m' g'
    · rw [Cert.PreBwdIdeal.Val.final7]
      obtain ⟨h0, h1, h2, h3, h4⟩ := hpre c
      obtain ⟨x, hx⟩ := Cert.Finite.exists_reals _ _ h0
      obtain ⟨s, hs⟩ := Cert.Finite.exists_reals _ _ h1
      obtain ⟨g, hg⟩ := Cert.Finite.exists_reals _ _ h2
      obtain ⟨w, hw⟩ := Cert.Finite.exists_reals _ _ h3
      obtain ⟨ct, hc⟩ := Cert.Finite.exists_reals _ _ h4
      funext q
      exact (congrArg _ (ix2_eta q).symm).trans (Cert.PreRefIdeal.Val.v61_eq m c (fun i j => hx (ix2 i j))
        (fun j => (Cert.Finite.row_at 1 (by omega) _ _ _ j).symm.trans (hs (ix1 j))) (fun j => (Cert.Finite.row_at 0 (by omega) _ _ _ j).symm.trans (hg (ix1 j)))
        (fun j k => hw (ix2 j k)) (fun i k => hc (ix2 i k)) (q 0) (q 1)).symm
    · rw [Cert.PreBwdIdeal.Val.final8]
      funext q
      exact (congrArg _ (ix2_eta q).symm).trans (Cert.PreRefIdeal.Val.v66_eq m c (q 0) (q 1)).symm

end Cert.Proof.Pre

end
-- ==== Proof.Mix.Value.lean ====
/- What the mixing layer's gradient kernel leaves in its seven results, from the arrays it is given. -/
module

public import proofs.«01_k».proof.Proof.Gen.MixBwdIdeal.Frame
public import Idealize.ShloMosaic.Lib.Pipeline.ValueKit
public import Idealize.ShloMosaic.Lib.Claim
public import Idealize.ShloMosaic.Lib.StableHlo.ReadAt
public import proofs.«01_k».proof.Proof.RealArith
public import proofs.«01_k».proof.Proof.RowPieces

@[expose] public section

set_option maxRecDepth 16384

noncomputable section

open Idealize.ShloMosaic Idealize.ShloMosaic.TcCoe Idealize.SL.Sem
open Idealize.ShloMosaic.Pipeline (Dat)

namespace Cert.MixBwdIdeal.Val

open Cert.MixBwdIdeal Cert.MixBwdIdeal.Gen Cert.RowPieces Cert.RealArith

/-! ## The body's values at an index -/

theorem pay1_at (a b : FVec Ideal S512x1024 .bf16) (i : Fin 512) (j : Fin 512) :
    k1_pay1 a b (ix2 i j) = ∑ k, a (ix2 i k) * b (ix2 j k) := by
  pointwise [k1_pay1]

theorem pay2_at (i : Fin 8) (j : Fin 1024) : k1_pay2 (F := Ideal) (ix2 i j) = 0 := by
  pointwise [k1_pay2]

theorem pay4_at (x : Vec Ideal S512x1024 .bf16) (i : Fin 512) : k1_pay4 x (ix2 i 0) = invE fun k => x (ix2 i k) := by
  pointwise [k1_pay4, k1_pay3]
  rfl

theorem pay5_at (x : Vec Ideal S512x1024 .bf16) (i : Fin 512) (j : Fin 1024) :
    k1_pay5 x (ix2 i j) = x (ix2 i j) * invE fun k => x (ix2 i k) := by
  pointwise [k1_pay5, k1_pay4, k1_pay3]
  rfl

theorem pay6_at (d : Vec Ideal S512x1024 .f32) (x : Vec Ideal S512x1024 .bf16) (b g : Vec Ideal S1x1024 .f32) (j : Fin 1024) :
    k1_pay6 d x b g (ix2 0 j) = b (ix2 0 j) + ∑ i, d (ix2 i j) * (k1_pay5 x (ix2 i j) * g (ix2 0 j)) := by
  pointwise [k1_pay6]

theorem pay7_at (d : Vec Ideal S512x1024 .f32) (g : Vec Ideal S1x1024 .f32) (i : Fin 512) (j : Fin 1024) :
    k1_pay7 d g (ix2 i j) = d (ix2 i j) * g (ix2 0 j) := by
  pointwise [k1_pay7]

theorem pay10_at (d : Vec Ideal S512x1024 .f32) (x : Vec Ideal S512x1024 .bf16) (b g : Vec Ideal S1x1024 .f32) (j : Fin 1024) :
    k1_pay10 (k1_pay8 b) (k1_pay9 d x g) (ix2 0 j) = b (ix2 0 j) + ∑ i, d (ix2 i j) * g (ix2 0 j) * k1_pay5 x (ix2 i j) := by
  pointwise [k1_pay10, k1_pay8, k1_pay9, k1_pay7]

theorem pay11_at (r : FVec Ideal S512x1 .f32) (xh dn : FVec Ideal S512x1024 .f32) (g : Vec Ideal S1x1024 .f32) (i : Fin 512) (j : Fin 1024) :
    k1_pay11 r xh dn g (ix2 i j) = r (ix2 i 0) * (dn (ix2 i j) * g (ix2 0 j)
      - xh (ix2 i j) * Ideal.div (∑ k, dn (ix2 i k) * g (ix2 0 k) * xh (ix2 i k)) (Ideal.ofBits .f32 0x44800000#32)) := by
  pointwise [k1_pay11]

theorem pay12_at (r : FVec Ideal S512x1 .f32) (xh dn : FVec Ideal S512x1024 .f32) (g : Vec Ideal S1x1024 .f32) (w : Vec Ideal S1024x1024 .bf16)
    (i : Fin 512) (j : Fin 1024) :
    k1_pay12 r xh dn g w (ix2 i j) = ∑ k, k1_pay11 r xh dn g (ix2 i k) * w (ix2 j k) := by
  pointwise [k1_pay12]

theorem pay13_at (x : Vec Ideal S512x1024 .bf16) (i : Fin 512) (j : Fin 1024) : k1_pay13 x (ix2 i j) = sigm (x (ix2 i j)) := by
  pointwise [k1_pay13, sigm]

theorem pay15_at (x : Vec Ideal S512x1024 .bf16) (i : Fin 512) (j : Fin 1024) :
    k1_pay15 (k1_pay14 x) (Scalar.ofBits .f32 0x3F800000#32) (ix2 i j) = sigm (x (ix2 i j)) := by
  pointwise [k1_pay15, k1_pay14, sigm]

theorem pay16_at (a b : FVec Ideal S512x1024 .f32) (i : Fin 512) (j : Fin 1024) : k1_pay16 a b (ix2 i j) = a (ix2 i j) * b (ix2 i j) := by
  pointwise [k1_pay16]

theorem pay17_at (a e : FVec Ideal S512x1024 .f32) (o : Ideal .f32) (i : Fin 512) (j : Fin 1024) :
    k1_pay17 a e o (ix2 i j) = a (ix2 i j) * k1_pay15 e o (ix2 i j) := by
  pointwise [k1_pay17]

theorem pay18_at (a s : FVec Ideal S512x1024 .f32) (p : Vec Ideal S512x1024 .bf16) (i : Fin 512) (j : Fin 1024) :
    k1_pay18 a s p (ix2 i j) = a (ix2 i j) * p (ix2 i j) * (s (ix2 i j) * (1 - s (ix2 i j))) := by
  pointwise [k1_pay18]

theorem pay19_at (a e : FVec Ideal S512x1024 .f32) (o : Ideal .f32) (p : Vec Ideal S512x1024 .bf16) (i : Fin 512) (j : Fin 1024) :
    k1_pay19 a e o p (ix2 i j) = a (ix2 i j) * p (ix2 i j) * (k1_pay15 e o (ix2 i j) * (1 - k1_pay15 e o (ix2 i j))) := by
  pointwise [k1_pay19]

theorem pay20_at (a s : FVec Ideal S512x1024 .f32) (w : Vec Ideal S512x1024 .bf16) (i : Fin 512) (j : Fin 512) :
    k1_pay20 a s w (ix2 i j) = ∑ k, a (ix2 i k) * s (ix2 i k) * w (ix2 j k) := by
  pointwise [k1_pay20, k1_pay16]

/-! ## The arrays the kernel is given -/

variable (V : (c : Dev nD) → (b : Ref Cert.MixBwdIdeal.sig .tc) → Buf (Elt Ideal) ((c : Thread nD τ).loc b))

abbrev D1 (c : Dev nD) : FVec Ideal S8192x1024 .f32 := V c main_arg9
abbrev MX (c : Dev nD) : FVec Ideal S8192x1024 .bf16 := V c main_v8_2
abbrev PA (c : Dev nD) : FVec Ideal S8192x1024 .bf16 := V c main_v8_3
abbrev PB (c : Dev nD) : FVec Ideal S8192x1024 .bf16 := V c main_v8_4
abbrev PG (c : Dev nD) : FVec Ideal S8192x2048 .bf16 := V c main_v2
abbrev VC (c : Dev nD) : FVec Ideal S16x1024 .f32 := V c main_v1
abbrev WA (c : Dev nD) : FVec Ideal S512x1024 .bf16 := V c main_v3
abbrev WB (c : Dev nD) : FVec Ideal S512x1024 .bf16 := V c main_v4
abbrev WO (c : Dev nD) : FVec Ideal S1024x1024 .bf16 := V c main_v5

theorem idx1 : ∀ t : Fin cfg1.N, win1_0.index t = ![t.val, 0] ∧ win1_1.index t = ![t.val, 0] ∧ win1_2.index t = ![t.val, 0]
    ∧ win1_3.index t = ![t.val, 0] ∧ win1_4.index t = ![t.val, 0] ∧ win1_5.index t = ![0, 0] ∧ win1_6.index t = ![0, 0]
    ∧ win1_7.index t = ![0, 0] ∧ win1_8.index t = ![0, 0] ∧ win1_9.index t = ![t.val, 0] ∧ win1_10.index t = ![t.val, 0]
    ∧ win1_11.index t = ![t.val, 0] ∧ win1_12.index t = ![t.val, 0] ∧ win1_13.index t = ![t.val, 0] ∧ win1_14.index t = ![t.val, 0]
    ∧ t.val < 16 :=
  (by decide +kernel : ∀ t : Fin grid1.N, _)

theorem lt16 (t : Fin cfg1.N) : t.val < 16 := lt_of_lt_of_eq t.isLt N_1

/-- Row `i` of point `t`'s blocks is this row of the arrays. -/
abbrev row (t : Fin cfg1.N) (i : Fin 512) : Fin 8192 := ⟨t.val * 512 + i.val, by have := lt16 t; omega⟩

theorem blk0 (c : Dev nD) (t : Fin cfg1.N) (i : Fin 512) (j : Fin 1024) :
    (iblk1 V c 0 t : FVec Ideal S512x1024 .f32) (ix2 i j) = D1 V c (ix2 (row t i) j) := by
  blk_ext [iblk1, idx1 t]
theorem blk1 (c : Dev nD) (t : Fin cfg1.N) (i : Fin 512) (j : Fin 1024) :
    (iblk1 V c 1 t : FVec Ideal S512x1024 .bf16) (ix2 i j) = MX V c (ix2 (row t i) j) := by
  blk_ext [iblk1, idx1 t]
theorem blk2 (c : Dev nD) (t : Fin cfg1.N) (i : Fin 512) (j : Fin 1024) :
    (iblk1 V c 2 t : FVec Ideal S512x1024 .bf16) (ix2 i j) = PA V c (ix2 (row t i) j) := by
  blk_ext [iblk1, idx1 t]
theorem blk3 (c : Dev nD) (t : Fin cfg1.N) (i : Fin 512) (j : Fin 1024) :
    (iblk1 V c 3 t : FVec Ideal S512x1024 .bf16) (ix2 i j) = PB V c (ix2 (row t i) j) := by
  blk_ext [iblk1, idx1 t]
theorem blk4 (c : Dev nD) (t : Fin cfg1.N) (i : Fin 512) (j : Fin 2048) :
    (iblk1 V c 4 t : FVec Ideal S512x2048 .bf16) (ix2 i j) = PG V c (ix2 (row t i) j) := by
  blk_ext [iblk1, idx1 t]
theorem blk5 (c : Dev nD) (t : Fin cfg1.N) (i : Fin 16) (j : Fin 1024) :
    (iblk1 V c 5 t : FVec Ideal S16x1024 .f32) (ix2 i j) = VC V c (ix2 i j) := by
  blk_ext [iblk1, idx1 t]
theorem blk6 (c : Dev nD) (t : Fin cfg1.N) (i : Fin 512) (j : Fin 1024) :
    (iblk1 V c 6 t : FVec Ideal S512x1024 .bf16) (ix2 i j) = WA V c (ix2 i j) := by
  blk_ext [iblk1, idx1 t]
theorem blk7 (c : Dev nD) (t : Fin cfg1.N) (i : Fin 512) (j : Fin 1024) :
    (iblk1 V c 7 t : FVec Ideal S512x1024 .bf16) (ix2 i j) = WB V c (ix2 i j) := by
  blk_ext [iblk1, idx1 t]
theorem blk8 (c : Dev nD) (t : Fin cfg1.N) (i : Fin 1024) (j : Fin 1024) :
    (iblk1 V c 8 t : FVec Ideal S1024x1024 .bf16) (ix2 i j) = WO V c (ix2 i j) := by
  blk_ext [iblk1, idx1 t]

/-! ## The results, each entry as a function of the arrays -/

/-- The normalised rows of the mixed heads. -/
def XH (c : Dev nD) (i : Fin 8192) (j : Fin 1024) : EReal := MX V c (ix2 i j) * invE fun k => MX V c (ix2 i k)
/-- The gradient past the gate. -/
def DN (c : Dev nD) (i : Fin 8192) (j : Fin 1024) : EReal := D1 V c (ix2 i j) * VC V c (ix2 2 j)
/-- The gradient of the mixed heads. -/
def DMX (c : Dev nD) (i : Fin 8192) (j : Fin 1024) : EReal :=
  (invE fun k => MX V c (ix2 i k)) * (DN V c i j * VC V c (ix2 7 j)
    - XH V c i j * Ideal.div (∑ k, DN V c i k * VC V c (ix2 7 k) * XH V c i k) (Ideal.ofBits .f32 0x44800000#32))
/-- The gradient of the merged branches. -/
def DMG (c : Dev nD) (i : Fin 8192) (j : Fin 1024) : EReal := ∑ k, DMX V c i k * WO V c (ix2 j k)
/-- The gradients of the two branches' projections. -/
def DPA (c : Dev nD) (i : Fin 8192) (j : Fin 1024) : EReal := DMG V c i j * sigm (PG V c (ix2 i ⟨j.val, by omega⟩))
def DPB (c : Dev nD) (i : Fin 8192) (j : Fin 1024) : EReal := DMG V c i j * sigm (PG V c (ix2 i ⟨1024 + j.val, by omega⟩))
/-- The gradients of the two gates. -/
def DGA (c : Dev nD) (i : Fin 8192) (j : Fin 1024) : EReal :=
  DMG V c i j * PA V c (ix2 i j) * (sigm (PG V c (ix2 i ⟨j.val, by omega⟩)) * (1 - sigm (PG V c (ix2 i ⟨j.val, by omega⟩))))
def DGB (c : Dev nD) (i : Fin 8192) (j : Fin 1024) : EReal :=
  DMG V c i j * PB V c (ix2 i j) * (sigm (PG V c (ix2 i ⟨1024 + j.val, by omega⟩)) * (1 - sigm (PG V c (ix2 i ⟨1024 + j.val, by omega⟩))))
def DG (c : Dev nD) (i : Fin 8192) (j : Fin 2048) : EReal :=
  if h : j.val < 1024 then DGA V c i ⟨j.val, h⟩ else DGB V c i ⟨j.val - 1024, by omega⟩
/-- The gradients of the two branches. -/
def DYA (c : Dev nD) (i : Fin 8192) (j : Fin 512) : EReal := ∑ k, DPA V c i k * WA V c (ix2 j k)
def DYM (c : Dev nD) (i : Fin 8192) (j : Fin 512) : EReal := ∑ k, DPB V c i k * WB V c (ix2 j k)
/-- What row `i` adds to entry (r, j) of the last result. -/
def add (c : Dev nD) (r : Fin 8) (j : Fin 1024) (i : Fin 8192) : EReal :=
  if r.val = 1 then DN V c i j * XH V c i j
  else if r.val = 0 then D1 V c (ix2 i j) * (XH V c i j * VC V c (ix2 7 j))
  else 0

/-! ## What a point computes -/

abbrev gate (c : Dev nD) (t : Fin cfg1.N) : Vec Ideal S1x1024 .f32 :=
  View.ld (iblk1 V c 5 t) (Rect.unit ![2, 0] ![1, 1024] inb_S16x1024_S1x1024_2_0)
abbrev gain (c : Dev nD) (t : Fin cfg1.N) : Vec Ideal S1x1024 .f32 :=
  View.ld (iblk1 V c 5 t) (Rect.unit ![7, 0] ![1, 1024] inb_S16x1024_S1x1024_7_0)
abbrev ga (c : Dev nD) (t : Fin cfg1.N) : Vec Ideal S512x1024 .bf16 :=
  View.ld (iblk1 V c 4 t) (Rect.unit ![0, 0] ![512, 1024] inb_S512x2048_S512x1024_0_0)
abbrev gb (c : Dev nD) (t : Fin cfg1.N) : Vec Ideal S512x1024 .bf16 :=
  View.ld (iblk1 V c 4 t) (Rect.unit ![0, 1024] ![512, 1024] inb_S512x2048_S512x1024_0_1024)
abbrev dmg (c : Dev nD) (t : Fin cfg1.N) : FVec Ideal S512x1024 .f32 :=
  k1_pay12 (k1_pay4 (iblk1 V c 1 t)) (k1_pay5 (iblk1 V c 1 t)) (k1_pay7 (iblk1 V c 0 t) (gate V c t)) (gain V c t) (iblk1 V c 8 t)

theorem gate_at (c : Dev nD) (t : Fin cfg1.N) (j : Fin 1024) : gate V c t (ix2 0 j) = VC V c (ix2 2 j) :=
  (ld_row (iblk1 V c 5 t : FVec Ideal S16x1024 .f32) 2 inb_S16x1024_S1x1024_2_0 (by omega) j).trans (blk5 V c t 2 j)
theorem gain_at (c : Dev nD) (t : Fin cfg1.N) (j : Fin 1024) : gain V c t (ix2 0 j) = VC V c (ix2 7 j) :=
  (ld_row (iblk1 V c 5 t : FVec Ideal S16x1024 .f32) 7 inb_S16x1024_S1x1024_7_0 (by omega) j).trans (blk5 V c t 7 j)
theorem ga_at (c : Dev nD) (t : Fin cfg1.N) (i : Fin 512) (j : Fin 1024) : ga V c t (ix2 i j) = PG V c (ix2 (row t i) ⟨j.val, by omega⟩) := by
  refine (ld_cols (iblk1 V c 4 t : FVec Ideal S512x2048 .bf16) 0 inb_S512x2048_S512x1024_0_0 i j (by omega)).trans ((blk4 V c t i _).trans ?_)
  exact congrArg (PG V c) (congrArg (ix2 _) (Fin.ext (Nat.zero_add j.val)))
theorem gb_at (c : Dev nD) (t : Fin cfg1.N) (i : Fin 512) (j : Fin 1024) :
    gb V c t (ix2 i j) = PG V c (ix2 (row t i) ⟨1024 + j.val, by omega⟩) :=
  (ld_cols (iblk1 V c 4 t : FVec Ideal S512x2048 .bf16) 1024 inb_S512x2048_S512x1024_0_1024 i j (by omega)).trans (blk4 V c t i _)

theorem xh_at (c : Dev nD) (t : Fin cfg1.N) (i : Fin 512) (j : Fin 1024) : k1_pay5 (iblk1 V c 1 t) (ix2 i j) = XH V c (row t i) j := by
  refine (pay5_at _ i j).trans ?_
  simp only [blk1]
  rfl
theorem dn_at (c : Dev nD) (t : Fin cfg1.N) (i : Fin 512) (j : Fin 1024) :
    k1_pay7 (iblk1 V c 0 t) (gate V c t) (ix2 i j) = DN V c (row t i) j := by
  refine (pay7_at _ _ i j).trans ?_
  rw [blk0, gate_at]
  rfl
theorem dmx_at (c : Dev nD) (t : Fin cfg1.N) (i : Fin 512) (j : Fin 1024) :
    k1_pay11 (k1_pay4 (iblk1 V c 1 t)) (k1_pay5 (iblk1 V c 1 t)) (k1_pay7 (iblk1 V c 0 t) (gate V c t)) (gain V c t) (ix2 i j)
      = DMX V c (row t i) j := by
  refine (pay11_at _ _ _ _ i j).trans ?_
  simp only [xh_at, dn_at, gain_at]
  rw [pay4_at]
  simp only [blk1]
  rfl
theorem dmg_at (c : Dev nD) (t : Fin cfg1.N) (i : Fin 512) (j : Fin 1024) : dmg V c t (ix2 i j) = DMG V c (row t i) j := by
  refine (pay12_at _ _ _ _ _ i j).trans ?_
  simp only [dmx_at, blk8]
  rfl
theorem sa_at (c : Dev nD) (t : Fin cfg1.N) (i : Fin 512) (j : Fin 1024) :
    k1_pay13 (ga V c t) (ix2 i j) = sigm (PG V c (ix2 (row t i) ⟨j.val, by omega⟩)) :=
  (pay13_at _ i j).trans (congrArg sigm (ga_at V c t i j))
theorem sb_at (c : Dev nD) (t : Fin cfg1.N) (i : Fin 512) (j : Fin 1024) :
    k1_pay15 (k1_pay14 (gb V c t)) (Scalar.ofBits .f32 0x3F800000#32) (ix2 i j) = sigm (PG V c (ix2 (row t i) ⟨1024 + j.val, by omega⟩)) :=
  (pay15_at _ i j).trans (congrArg sigm (gb_at V c t i j))

end Cert.MixBwdIdeal.Val

end
-- ==== Proof.Mix.Results.lean ====
/- The seven arrays the mixing layer's gradient kernel leaves. -/
module

public import proofs.«01_k».proof.Proof.Mix.Value

@[expose] public section

set_option maxRecDepth 16384

noncomputable section

open Idealize.ShloMosaic Idealize.ShloMosaic.TcCoe Idealize.SL.Sem
open Idealize.ShloMosaic.Pipeline (Dat)

namespace Cert.MixBwdIdeal.Val

open Cert.MixBwdIdeal Cert.MixBwdIdeal.Gen Cert.RowPieces Cert.RealArith

variable (V : (c : Dev nD) → (b : Ref Cert.MixBwdIdeal.sig .tc) → Buf (Elt Ideal) ((c : Thread nD τ).loc b))

/-! ## The results written whole at every point -/

theorem pt9 (c : Dev nD) (t : Fin cfg1.N) (i : Fin 512) (j : Fin 1024) : (outsAt1 V c t.val t.isLt).1 (ix2 i j) = DMX V c (row t i) j := by
  by_cases h : t.val % 16 = 0
  on_goal 1 => rw [outsAt1_A V c t h]
  on_goal 2 => rw [outsAt1_B V c t h]
  all_goals
    frame_out
    exact dmx_at V c t i j

theorem pt10 (c : Dev nD) (t : Fin cfg1.N) (i : Fin 512) (j : Fin 1024) : (outsAt1 V c t.val t.isLt).2.1 (ix2 i j) = DPA V c (row t i) j := by
  by_cases h : t.val % 16 = 0
  on_goal 1 => rw [outsAt1_A V c t h]
  on_goal 2 => rw [outsAt1_B V c t h]
  all_goals
    frame_out
    exact (pay16_at _ _ i j).trans (congrArg₂ (· * ·) (dmg_at V c t i j) (sa_at V c t i j))

theorem dpb_at (c : Dev nD) (t : Fin cfg1.N) (i : Fin 512) (j : Fin 1024) :
    k1_pay17 (dmg V c t) (k1_pay14 (gb V c t)) (Scalar.ofBits .f32 0x3F800000#32) (ix2 i j) = DPB V c (row t i) j :=
  (pay17_at _ _ _ i j).trans (congrArg₂ (· * ·) (dmg_at V c t i j) (sb_at V c t i j))

theorem pt11 (c : Dev nD) (t : Fin cfg1.N) (i : Fin 512) (j : Fin 1024) : (outsAt1 V c t.val t.isLt).2.2.1 (ix2 i j) = DPB V c (row t i) j := by
  by_cases h : t.val % 16 = 0
  on_goal 1 => rw [outsAt1_A V c t h]
  on_goal 2 => rw [outsAt1_B V c t h]
  all_goals
    frame_out
    exact dpb_at V c t i j

theorem dga_at (c : Dev nD) (t : Fin cfg1.N) (i : Fin 512) (j : Fin 1024) :
    k1_pay18 (dmg V c t) (k1_pay13 (ga V c t)) (iblk1 V c 2 t) (ix2 i j) = DGA V c (row t i) j := by
  refine (pay18_at _ _ _ i j).trans ?_
  rw [dmg_at, sa_at, blk2]
  rfl

theorem dgb_at (c : Dev nD) (t : Fin cfg1.N) (i : Fin 512) (j : Fin 1024) :
    k1_pay19 (dmg V c t) (k1_pay14 (gb V c t)) (Scalar.ofBits .f32 0x3F800000#32) (iblk1 V c 3 t) (ix2 i j) = DGB V c (row t i) j := by
  refine (pay19_at _ _ _ _ i j).trans ?_
  rw [dmg_at, sb_at, blk3]
  rfl

theorem pt12 (c : Dev nD) (t : Fin cfg1.N) (i : Fin 512) (j : Fin 2048) : (outsAt1 V c t.val t.isLt).2.2.2.1 (ix2 i j) = DG V c (row t i) j := by
  by_cases h : t.val % 16 = 0
  on_goal 1 => rw [outsAt1_A V c t h]
  on_goal 2 => rw [outsAt1_B V c t h]
  all_goals
    frame_out
    rw [canon_cols 1024 inb_S512x2048_S512x1024_0_1024, canon_cols 0 inb_S512x2048_S512x1024_0_0]
    unfold DG
    by_cases hj : j.val < 1024
    · rw [dif_neg (by omega), dif_pos (by omega), dif_pos hj]
      exact dga_at V c t i ⟨j.val, hj⟩
    · rw [dif_pos (by omega), dif_neg hj]
      exact dgb_at V c t i ⟨j.val - 1024, by omega⟩

theorem pt13 (c : Dev nD) (t : Fin cfg1.N) (i : Fin 512) (j : Fin 512) : (outsAt1 V c t.val t.isLt).2.2.2.2.1 (ix2 i j) = DYA V c (row t i) j := by
  by_cases h : t.val % 16 = 0
  on_goal 1 => rw [outsAt1_A V c t h]
  on_goal 2 => rw [outsAt1_B V c t h]
  all_goals
    frame_out
    refine (pay20_at (dmg V c t) (k1_pay13 (ga V c t)) _ i j).trans ?_
    simp only [dmg_at, sa_at, blk6]
    rfl

theorem pt14 (c : Dev nD) (t : Fin cfg1.N) (i : Fin 512) (j : Fin 512) : (outsAt1 V c t.val t.isLt).2.2.2.2.2.1 (ix2 i j) = DYM V c (row t i) j := by
  by_cases h : t.val % 16 = 0
  on_goal 1 => rw [outsAt1_A V c t h]
  on_goal 2 => rw [outsAt1_B V c t h]
  all_goals
    frame_out
    refine (pay1_at (k1_pay17 (dmg V c t) (k1_pay14 (gb V c t)) (Scalar.ofBits .f32 0x3F800000#32)) _ i j).trans ?_
    simp only [dpb_at, blk7]
    rfl

/-! The final array of each of them. -/

theorem final9 (c : Dev nD) : (dat1 V c).arrAt 9 cfg1.N = (fun q => DMX V c (q 0) (q 1) : FVec Ideal S8192x1024 .bf16) := by
  refine (dat1 V c).arrAt_eq_of_covers 9 _ (by decide +kernel) fun t hf y => ?_
  blk_simp
  rw [after1_9]
  refine (congrArg _ (ix2_eta y).symm).trans ((pt9 V c t _ _).trans ?_)
  have e : (win1_9.blk t).view.emb y = ix2 (row t (y 0)) (y 1) := by
    refine ix2_of ?_ ?_
    · show win1_9.index t 0 * 512 + 1 * (y 0).val = t.val * 512 + (y 0).val
      simp [idx1 t]
    · show win1_9.index t 1 * 1024 + 1 * (y 1).val = (y 1).val
      simp [idx1 t]
  exact at_ix2 (DMX V c) e

theorem final10 (c : Dev nD) : (dat1 V c).arrAt 10 cfg1.N = (fun q => DPA V c (q 0) (q 1) : FVec Ideal S8192x1024 .bf16) := by
  refine (dat1 V c).arrAt_eq_of_covers 10 _ (by decide +kernel) fun t hf y => ?_
  blk_simp
  rw [after1_10]
  refine (congrArg _ (ix2_eta y).symm).trans ((pt10 V c t _ _).trans ?_)
  have e : (win1_10.blk t).view.emb y = ix2 (row t (y 0)) (y 1) := by
    refine ix2_of ?_ ?_
    · show win1_10.index t 0 * 512 + 1 * (y 0).val = t.val * 512 + (y 0).val
      simp [idx1 t]
    · show win1_10.index t 1 * 1024 + 1 * (y 1).val = (y 1).val
      simp [idx1 t]
  exact at_ix2 (DPA V c) e

theorem final11 (c : Dev nD) : (dat1 V c).arrAt 11 cfg1.N = (fun q => DPB V c (q 0) (q 1) : FVec Ideal S8192x1024 .bf16) := by
  refine (dat1 V c).arrAt_eq_of_covers 11 _ (by decide +kernel) fun t hf y => ?_
  blk_simp
  rw [after1_11]
  refine (congrArg _ (ix2_eta y).symm).trans ((pt11 V c t _ _).trans ?_)
  have e : (win1_11.blk t).view.emb y = ix2 (row t (y 0)) (y 1) := by
    refine ix2_of ?_ ?_
    · show win1_11.index t 0 * 512 + 1 * (y 0).val = t.val * 512 + (y 0).val
      simp [idx1 t]
    · show win1_11.index t 1 * 1024 + 1 * (y 1).val = (y 1).val
      simp [idx1 t]
  exact at_ix2 (DPB V c) e

theorem final12 (c : Dev nD) : (dat1 V c).arrAt 12 cfg1.N = (fun q => DG V c (q 0) (q 1) : FVec Ideal S8192x2048 .bf16) := by
  refine (dat1 V c).arrAt_eq_of_covers 12 _ (by decide +kernel) fun t hf y => ?_
  blk_simp
  rw [after1_12]
  refine (congrArg _ (ix2_eta y).symm).trans ((pt12 V c t _ _).trans ?_)
  have e : (win1_12.blk t).view.emb y = ix2 (row t (y 0)) (y 1) := by
    refine ix2_of ?_ ?_
    · show win1_12.index t 0 * 512 + 1 * (y 0).val = t.val * 512 + (y 0).val
      simp [idx1 t]
    · show win1_12.index t 1 * 2048 + 1 * (y 1).val = (y 1).val
      simp [idx1 t]
  exact at_ix2 (DG V c) e

theorem final13 (c : Dev nD) : (dat1 V c).arrAt 13 cfg1.N = (fun q => DYA V c (q 0) (q 1) : FVec Ideal S8192x512 .bf16) := by
  refine (dat1 V c).arrAt_eq_of_covers 13 _ (by decide +kernel) fun t hf y => ?_
  blk_simp
  rw [after1_13]
  refine (congrArg _ (ix2_eta y).symm).trans ((pt13 V c t _ _).trans ?_)
  have e : (win1_13.blk t).view.emb y = ix2 (row t (y 0)) (y 1) := by
    refine ix2_of ?_ ?_
    · show win1_13.index t 0 * 512 + 1 * (y 0).val = t.val * 512 + (y 0).val
      simp [idx1 t]
    · show win1_13.index t 1 * 512 + 1 * (y 1).val = (y 1).val
      simp [idx1 t]
  exact at_ix2 (DYA V c) e

theorem final14 (c : Dev nD) : (dat1 V c).arrAt 14 cfg1.N = (fun q => DYM V c (q 0) (q 1) : FVec Ideal S8192x512 .f32) := by
  refine (dat1 V c).arrAt_eq_of_covers 14 _ (by decide +kernel) fun t hf y => ?_
  blk_simp
  rw [after1_14]
  refine (congrArg _ (ix2_eta y).symm).trans ((pt14 V c t _ _).trans ?_)
  have e : (win1_14.blk t).view.emb y = ix2 (row t (y 0)) (y 1) := by
    refine ix2_of ?_ ?_
    · show win1_14.index t 0 * 512 + 1 * (y 0).val = t.val * 512 + (y 0).val
      simp [idx1 t]
    · show win1_14.index t 1 * 512 + 1 * (y 1).val = (y 1).val
      simp [idx1 t]
  exact at_ix2 (DYM V c) e

/-! ## The sums over all rows -/

theorem row1 (c : Dev nD) (t : Fin cfg1.N) (j : Fin 1024) (b : Vec Ideal S1x1024 .f32) :
    k1_pay10 (k1_pay8 b) (k1_pay9 (iblk1 V c 0 t) (iblk1 V c 1 t) (gate V c t)) (ix2 0 j) = b (ix2 0 j) + ∑ i, add V c 1 j (row t i) := by
  refine (pay10_at _ _ _ _ j).trans (congrArg (b (ix2 0 j) + ·) (Finset.sum_congr rfl fun i _ => ?_))
  rw [xh_at, blk0, gate_at]
  exact (if_pos rfl).symm

theorem row0 (c : Dev nD) (t : Fin cfg1.N) (j : Fin 1024) (b : Vec Ideal S1x1024 .f32) :
    k1_pay6 (iblk1 V c 0 t) (iblk1 V c 1 t) b (gain V c t) (ix2 0 j) = b (ix2 0 j) + ∑ i, add V c 0 j (row t i) := by
  refine (pay6_at _ _ _ _ j).trans (congrArg (b (ix2 0 j) + ·) (Finset.sum_congr rfl fun i _ => ?_))
  rw [xh_at, blk0, gain_at]
  exact ((if_neg (by decide)).trans (if_pos rfl)).symm

theorem row_rest (c : Dev nD) (t : Fin cfg1.N) (r : Fin 8) (j : Fin 1024) (h1 : ¬ r.val = 1) (h0 : ¬ r.val = 0) :
    ∑ i : Fin 512, add V c r j (row t i) = 0 :=
  Finset.sum_eq_zero fun i _ => by rw [add, if_neg h1, if_neg h0]

theorem pt15_A (c : Dev nD) (t : Fin cfg1.N) (h : t.val % 16 = 0) (r : Fin 8) (j : Fin 1024) :
    (outsAt1 V c t.val t.isLt).2.2.2.2.2.2 (ix2 r j) = 0 + ∑ i, add V c r j (row t i) := by
  rw [outsAt1_A V c t h]
  frame_out
  rw [canon_row 1 inb_S8x1024_S1x1024_1_0, canon_row 0 inb_S8x1024_S1x1024_0_0, canon_whole inb_S8x1024_S8x1024_0_0]
  by_cases h1 : r.val = 1
  · obtain rfl : r = 1 := Fin.ext h1
    refine (if_pos rfl).trans ((row1 V c t j _).trans (congrArg (· + _) ?_))
    rw [readCov_row _ _ 1 inb_S8x1024_S1x1024_1_0 (by omega), canon_row 0 inb_S8x1024_S1x1024_0_0, canon_whole inb_S8x1024_S8x1024_0_0]
    exact (if_neg (show ¬ (1 : ℕ) = 0 by decide)).trans (pay2_at _ j)
  · rw [if_neg h1]
    by_cases h0 : r.val = 0
    · obtain rfl : r = 0 := Fin.ext h0
      refine (if_pos rfl).trans ((row0 V c t j _).trans (congrArg (· + _) ?_))
      rw [readCov_row _ _ 0 inb_S8x1024_S1x1024_0_0 (by omega), canon_whole inb_S8x1024_S8x1024_0_0]
      exact pay2_at _ j
    · rw [if_neg h0, row_rest V c t r j h1 h0, add_zero]
      exact pay2_at _ j

theorem pt15_B (c : Dev nD) (t : Fin cfg1.N) (h : ¬ t.val % 16 = 0) (r : Fin 8) (j : Fin 1024) :
    (outsAt1 V c t.val t.isLt).2.2.2.2.2.2 (ix2 r j)
      = (outsAt1 V c (t.val - 1) (Nat.lt_of_le_of_lt (Nat.sub_le _ _) t.isLt)).2.2.2.2.2.2 (ix2 r j) + ∑ i, add V c r j (row t i) := by
  rw [outsAt1_B V c t h]
  frame_out
  rw [writes_row _ _ 1 inb_S8x1024_S1x1024_1_0, writes_row _ _ 0 inb_S8x1024_S1x1024_0_0]
  by_cases h1 : r.val = 1
  · obtain rfl : r = 1 := Fin.ext h1
    refine (if_pos rfl).trans ((row1 V c t j _).trans (congrArg (· + _) ?_))
    exact ld_row _ 1 inb_S8x1024_S1x1024_1_0 (by omega) j
  · rw [if_neg h1]
    by_cases h0 : r.val = 0
    · obtain rfl : r = 0 := Fin.ext h0
      refine (if_pos rfl).trans ((row0 V c t j _).trans (congrArg (· + _) ?_))
      exact ld_row _ 0 inb_S8x1024_S1x1024_0_0 (by omega) j
    · rw [if_neg h0, row_rest V c t r j h1 h0, add_zero, View.writes_nil]
      exact congrFun ((hs1_15 t).read_unread _) _

theorem final15 (c : Dev nD) : (dat1 V c).arrAt 15 cfg1.N = (fun q => ∑ i, add V c (q 0) (q 1) i : FVec Ideal S8x1024 .f32) := by
  refine (dat1 V c).arrAt_eq_of_after_last 15 t1_15 (by decide +kernel) _ fun q => ?_
  blk_simp
  rw [after1_15]
  have key := Pipeline.eq_sum_fin_of_reset_step_apply_last (fun n h => (outsAt1 V c n h).2.2.2.2.2.2) 16 (fun _ => 0)
    (fun t q => ∑ i, add V c (q 0) (q 1) (row t i))
    (fun t h q => by rw [show q = ix2 (q 0) (q 1) from (ix2_eta q).symm]; exact pt15_A V c t h _ _)
    (fun t h q => by rw [show q = ix2 (q 0) (q 1) from (ix2_eta q).symm]; exact pt15_B V c t h _ _) (le_of_eq N_1) t1_15 rfl
  refine (key q).trans ?_
  rw [zero_add]
  refine (Fin.sum_points_lanes_congr (A := 1) (L := 8192) 16 (g := fun _ l => add V c (q 0) (q 1) l) (fun t k ha hl => ?_) N_1).trans
    (Fin.sum_univ_one _)
  refine congrArg (add V c (q 0) (q 1)) (Fin.ext ?_)
  show t.val * 512 + k.val = t.val % 16 * 512 + k.val
  rw [Nat.mod_eq_of_lt (lt16 t)]

end Cert.MixBwdIdeal.Val

end
-- ==== Proof.Mix.Forward.lean ====
/- What the mixing layer's forward call leaves for its gradient call, and what the gradient call is given. -/
module

public import proofs.«01_k».proof.Proof.Mix.Value

@[expose] public section

set_option maxRecDepth 16384

noncomputable section

open Idealize.ShloMosaic Idealize.ShloMosaic.TcCoe Idealize.SL.Sem
open Idealize.ShloMosaic.Pipeline (Dat)

namespace Cert.MixBwdIdeal.Val

open Cert.MixBwdIdeal Cert.MixBwdIdeal.Gen Cert.RowPieces Cert.RealArith

/-! ## The forward body's values at an index -/

theorem f_pay6_at (a : Vec Ideal S512x512 .bf16) (w : Vec Ideal S512x1024 .bf16) (i : Fin 512) (j : Fin 1024) :
    k0_pay6 a w (ix2 i j) = ∑ k, a (ix2 i k) * w (ix2 k j) := by
  pointwise [k0_pay6]

theorem f_pay7_at (a : Vec Ideal S512x512 .bf16) (w : Vec Ideal S512x1024 .bf16) (i : Fin 512) (j : Fin 1024) :
    k0_pay7 a w (ix2 i j) = ∑ k, a (ix2 i k) * w (ix2 k j) := by
  pointwise [k0_pay7]

theorem f_pay8_at (a : Vec Ideal S512x512 .bf16) (w : Vec Ideal S512x1024 .bf16) (b : Vec Ideal S512x512 .bf16) (v : Vec Ideal S512x1024 .bf16)
    (g h : Vec Ideal S512x1024 .bf16) (i : Fin 512) (j : Fin 1024) :
    k0_pay8 a w b v g h (ix2 i j) = sigm (g (ix2 i j)) * k0_pay6 a w (ix2 i j) + sigm (h (ix2 i j)) * k0_pay7 b v (ix2 i j) := by
  pointwise [k0_pay8, sigm]

theorem f_pay3_at (a : FVec Ideal S512x1024 .bf16) (w : FVec Ideal S1024x1024 .bf16) (i : Fin 512) (j : Fin 1024) :
    k0_pay3 a (k0_pay9 w) (constant S512x1024 .f32 0x00000000#32) (ix2 i j) = ∑ k, a (ix2 i k) * w (ix2 k j) := by
  pointwise [k0_pay3, k0_pay1, k0_pay9]

/-! ## The forward call's blocks and results, from the arrays it is given -/

section Region

variable (V : (c : Dev nD) → (b : Ref Cert.MixBwdIdeal.sig .tc) → Buf (Elt Ideal) ((c : Thread nD τ).loc b))

abbrev YA (c : Dev nD) : FVec Ideal S8192x512 .bf16 := V c main_v6
abbrev YM (c : Dev nD) : FVec Ideal S8192x512 .bf16 := V c main_v7

theorem idx0 : ∀ t : Fin cfg0.N, win0_1.index t = ![t.val, 0] ∧ win0_2.index t = ![t.val, 0] ∧ win0_3.index t = ![t.val, 0]
    ∧ win0_5.index t = ![0, 0] ∧ win0_6.index t = ![0, 0] ∧ win0_7.index t = ![0, 0] ∧ win0_10.index t = ![t.val, 0]
    ∧ win0_11.index t = ![t.val, 0] ∧ win0_12.index t = ![t.val, 0] :=
  (by decide +kernel : ∀ t : Fin grid0.N, _)

theorem f_lt16 (t : Fin cfg0.N) : t.val < 16 := lt_of_lt_of_eq t.isLt N_0

/-- Row `i` of point `t`'s blocks is this row of the arrays. -/
abbrev frow (t : Fin cfg0.N) (i : Fin 512) : Fin 8192 := ⟨t.val * 512 + i.val, by have := f_lt16 t; omega⟩

theorem f_blk1 (c : Dev nD) (t : Fin cfg0.N) (i : Fin 512) (j : Fin 512) :
    (iblk0 V c 1 t : FVec Ideal S512x512 .bf16) (ix2 i j) = YA V c (ix2 (frow t i) j) := by
  blk_ext [iblk0, idx0 t]
theorem f_blk2 (c : Dev nD) (t : Fin cfg0.N) (i : Fin 512) (j : Fin 512) :
    (iblk0 V c 2 t : FVec Ideal S512x512 .bf16) (ix2 i j) = YM V c (ix2 (frow t i) j) := by
  blk_ext [iblk0, idx0 t]
theorem f_blk3 (c : Dev nD) (t : Fin cfg0.N) (i : Fin 512) (j : Fin 2048) :
    (iblk0 V c 3 t : FVec Ideal S512x2048 .bf16) (ix2 i j) = PG V c (ix2 (frow t i) j) := by
  blk_ext [iblk0, idx0 t]
theorem f_blk5 (c : Dev nD) (t : Fin cfg0.N) (i : Fin 512) (j : Fin 1024) :
    (iblk0 V c 5 t : FVec Ideal S512x1024 .bf16) (ix2 i j) = WA V c (ix2 i j) := by
  blk_ext [iblk0, idx0 t]
theorem f_blk6 (c : Dev nD) (t : Fin cfg0.N) (i : Fin 512) (j : Fin 1024) :
    (iblk0 V c 6 t : FVec Ideal S512x1024 .bf16) (ix2 i j) = WB V c (ix2 i j) := by
  blk_ext [iblk0, idx0 t]
theorem f_blk7 (c : Dev nD) (t : Fin cfg0.N) (i : Fin 1024) (j : Fin 1024) :
    (iblk0 V c 7 t : FVec Ideal S1024x1024 .bf16) (ix2 i j) = WO V c (ix2 i j) := by
  blk_ext [iblk0, idx0 t]

/-- The two branches' projections, what the gates mix of them, and the mixed heads. -/
def FA (c : Dev nD) (i : Fin 8192) (j : Fin 1024) : EReal := ∑ k, YA V c (ix2 i k) * WA V c (ix2 k j)
def FB (c : Dev nD) (i : Fin 8192) (j : Fin 1024) : EReal := ∑ k, YM V c (ix2 i k) * WB V c (ix2 k j)
def FG (c : Dev nD) (i : Fin 8192) (j : Fin 1024) : EReal :=
  sigm (PG V c (ix2 i ⟨j.val, by omega⟩)) * FA V c i j + sigm (PG V c (ix2 i ⟨1024 + j.val, by omega⟩)) * FB V c i j
def FM (c : Dev nD) (i : Fin 8192) (j : Fin 1024) : EReal := ∑ k, FG V c i k * WO V c (ix2 k j)

theorem fa_at (c : Dev nD) (t : Fin cfg0.N) (i : Fin 512) (j : Fin 1024) :
    k0_pay6 (iblk0 V c 1 t) (iblk0 V c 5 t) (ix2 i j) = FA V c (frow t i) j := by
  refine (f_pay6_at _ _ i j).trans ?_
  simp only [f_blk1, f_blk5]
  rfl
theorem fb_at (c : Dev nD) (t : Fin cfg0.N) (i : Fin 512) (j : Fin 1024) :
    k0_pay7 (iblk0 V c 2 t) (iblk0 V c 6 t) (ix2 i j) = FB V c (frow t i) j := by
  refine (f_pay7_at _ _ i j).trans ?_
  simp only [f_blk2, f_blk6]
  rfl

theorem f_ga_at (c : Dev nD) (t : Fin cfg0.N) (i : Fin 512) (j : Fin 1024) :
    View.ld (iblk0 V c 3 t : FVec Ideal S512x2048 .bf16) (Rect.unit ![0, 0] ![512, 1024] inb_S512x2048_S512x1024_0_0) (ix2 i j)
      = PG V c (ix2 (frow t i) ⟨j.val, by omega⟩) := by
  refine (ld_cols (iblk0 V c 3 t : FVec Ideal S512x2048 .bf16) 0 inb_S512x2048_S512x1024_0_0 i j (by omega)).trans ((f_blk3 V c t i _).trans ?_)
  exact congrArg (PG V c) (congrArg (ix2 _) (Fin.ext (Nat.zero_add j.val)))
theorem f_gb_at (c : Dev nD) (t : Fin cfg0.N) (i : Fin 512) (j : Fin 1024) :
    View.ld (iblk0 V c 3 t : FVec Ideal S512x2048 .bf16) (Rect.unit ![0, 1024] ![512, 1024] inb_S512x2048_S512x1024_0_1024) (ix2 i j)
      = PG V c (ix2 (frow t i) ⟨1024 + j.val, by omega⟩) :=
  (ld_cols (iblk0 V c 3 t : FVec Ideal S512x2048 .bf16) 1024 inb_S512x2048_S512x1024_0_1024 i j (by omega)).trans (f_blk3 V c t i _)

theorem final0_11 (c : Dev nD) : (dat0 V c).arrAt 11 cfg0.N = (fun q => FA V c (q 0) (q 1) : FVec Ideal S8192x1024 .bf16) := by
  refine (dat0 V c).arrAt_eq_of_covers 11 _ (by decide +kernel) fun t hf y => ?_
  blk_simp
  rw [after0_11]
  frame_out
  refine (congrArg _ (ix2_eta y).symm).trans ((fa_at V c t _ _).trans ?_)
  refine at_ix2 (FA V c) (ix2_of (a := frow t (y 0)) (b := y 1) ?_ ?_)
  · show win0_11.index t 0 * 512 + 1 * (y 0).val = t.val * 512 + (y 0).val
    simp [idx0 t]
  · show win0_11.index t 1 * 1024 + 1 * (y 1).val = (y 1).val
    simp [idx0 t]

theorem final0_12 (c : Dev nD) : (dat0 V c).arrAt 12 cfg0.N = (fun q => FB V c (q 0) (q 1) : FVec Ideal S8192x1024 .bf16) := by
  refine (dat0 V c).arrAt_eq_of_covers 12 _ (by decide +kernel) fun t hf y => ?_
  blk_simp
  rw [after0_12]
  frame_out
  refine (congrArg _ (ix2_eta y).symm).trans ((fb_at V c t _ _).trans ?_)
  refine at_ix2 (FB V c) (ix2_of (a := frow t (y 0)) (b := y 1) ?_ ?_)
  · show win0_12.index t 0 * 512 + 1 * (y 0).val = t.val * 512 + (y 0).val
    simp [idx0 t]
  · show win0_12.index t 1 * 1024 + 1 * (y 1).val = (y 1).val
    simp [idx0 t]

theorem fg_at (c : Dev nD) (t : Fin cfg0.N) (i : Fin 512) (j : Fin 1024) :
    k0_pay8 (iblk0 V c 1 t) (iblk0 V c 5 t) (iblk0 V c 2 t) (iblk0 V c 6 t)
      (View.ld (iblk0 V c 3 t : FVec Ideal S512x2048 .bf16) (Rect.unit ![0, 0] ![512, 1024] inb_S512x2048_S512x1024_0_0))
      (View.ld (iblk0 V c 3 t : FVec Ideal S512x2048 .bf16) (Rect.unit ![0, 1024] ![512, 1024] inb_S512x2048_S512x1024_0_1024)) (ix2 i j)
      = FG V c (frow t i) j := by
  refine (f_pay8_at _ _ _ _ _ _ i j).trans ?_
  rw [fa_at, fb_at, f_ga_at, f_gb_at]
  rfl

theorem fm_at (c : Dev nD) (t : Fin cfg0.N) (i : Fin 512) (j : Fin 1024) :
    out0_10 (iblk0 V c 0 t) (iblk0 V c 1 t) (iblk0 V c 2 t) (iblk0 V c 3 t) (iblk0 V c 4 t) (iblk0 V c 5 t) (iblk0 V c 6 t)
      (iblk0 V c 7 t) (ix2 i j) = FM V c (frow t i) j := by
  frame_out
  unfold k0_pay10 k0_pay11 k0_pay12
  simp (disch := decide) only [View.ld_unit_lit']
  refine (f_pay3_at _ _ i j).trans ?_
  exact Finset.sum_congr rfl fun k _ => congrArg₂ (· * ·) (fg_at V c t i k) (f_blk7 V c t k j)

theorem final0_10 (c : Dev nD) : (dat0 V c).arrAt 10 cfg0.N = (fun q => FM V c (q 0) (q 1) : FVec Ideal S8192x1024 .bf16) := by
  refine (dat0 V c).arrAt_eq_of_covers 10 _ (by decide +kernel) fun t hf y => ?_
  blk_simp
  rw [after0_10]
  refine (congrArg _ (ix2_eta y).symm).trans ((fm_at V c t _ _).trans ?_)
  refine at_ix2 (FM V c) (ix2_of (a := frow t (y 0)) (b := y 1) ?_ ?_)
  · show win0_10.index t 0 * 512 + 1 * (y 0).val = t.val * 512 + (y 0).val
    simp [idx0 t]
  · show win0_10.index t 1 * 1024 + 1 * (y 1).val = (y 1).val
    simp [idx0 t]

end Region

end Cert.MixBwdIdeal.Val

end
-- ==== Proof.Mix.Reference.lean ====
module

public import proofs.«01_k».proof.Proof.Gen.MixRefIdeal.Read
public import proofs.«01_k».proof.Proof.Mix.Value

/-! The reference's results for the mixing layer at an index. -/

@[expose] public section

set_option maxRecDepth 16384

noncomputable section

namespace Cert.MixRefIdeal.Val

open Idealize.ShloMosaic Idealize.ShloMosaic.TcCoe Idealize.SL.Sem Cert.MixRefIdeal Cert.MixRefIdeal.Read Cert.RealArith

variable (x1 x2 : FVec Ideal S8192x512 .f32) (x3 : FVec Ideal S8192x2048 .f32) (x4 : FVec Ideal S6x1024 .f32) (x5 : FVec Ideal S4x1024 .f32)
  (x6 x7 : FVec Ideal S512x1024 .f32) (x8 : FVec Ideal S1024x1024 .f32) (x9 : FVec Ideal S8192x1024 .f32)

theorem v8_at (i : Fin 8192) (j : Fin 1024) : val_main_v8 (F := Ideal) x1 x6 (ix2 i j) = ∑ k, x1 (ix2 i k) * x6 (ix2 k j) := by
  pointwise [val_main_v7, val_main_v8, val_main_v2, val_main_cst]

theorem v10_at (i : Fin 8192) (j : Fin 1024) : val_main_v10 (F := Ideal) x2 x7 (ix2 i j) = ∑ k, x2 (ix2 i k) * x7 (ix2 k j) := by
  pointwise [val_main_v9, val_main_v10, val_main_v2, val_main_cst]

theorem v16_at (i : Fin 8192) (j : Fin 1024) : val_main_v16 (F := Ideal) x3 (ix2 i j) = sigm (x3 (ix2 i ⟨j.val, by omega⟩)) := by
  pointwise [val_main_v0, val_main_v11, val_main_v12, val_main_v13, val_main_v14, val_main_v15, val_main_v16, val_main_cst_0, val_main_cst_1, sigm, zero_sub]

theorem v26_at (i : Fin 8192) (j : Fin 1024) : val_main_v26 (F := Ideal) x3 (ix2 i j) = sigm (x3 (ix2 i ⟨1024 + j.val, by omega⟩)) := by
  pointwise [val_main_v1, val_main_v21, val_main_v22, val_main_v23, val_main_v24, val_main_v25, val_main_v26, val_main_cst_3, val_main_cst_4, sigm, zero_sub]

theorem v31_at (i : Fin 8192) (j : Fin 1024) : val_main_v31 (F := Ideal) x1 x2 x3 x6 x7 (ix2 i j)
    = sigm (x3 (ix2 i ⟨j.val, by omega⟩)) * val_main_v8 (F := Ideal) x1 x6 (ix2 i j)
      + sigm (x3 (ix2 i ⟨1024 + j.val, by omega⟩)) * val_main_v10 (F := Ideal) x2 x7 (ix2 i j) := by
  pointwise [val_main_v20, val_main_v30, val_main_v31, v16_at, v26_at]

theorem v33_at (i : Fin 8192) (j : Fin 1024) : val_main_v33 (F := Ideal) x1 x2 x3 x6 x7 x8 (ix2 i j)
    = ∑ k, val_main_v31 (F := Ideal) x1 x2 x3 x6 x7 (ix2 i k) * x8 (ix2 k j) := by
  pointwise [val_main_v32, val_main_v33, val_main_v2, val_main_cst]

theorem v41_at (i : Fin 8192) (j : Fin 1) : val_main_v41 (F := Ideal) x1 x2 x3 x6 x7 x8 (ix2 i j)
    = Ideal.div (∑ k, val_main_v33 (F := Ideal) x1 x2 x3 x6 x7 x8 (ix2 i k) * val_main_v33 (F := Ideal) x1 x2 x3 x6 x7 x8 (ix2 i k)) (Ideal.ofBits .f32 0x44800000#32)
      + Ideal.ofBits .f32 0x358637BD#32 := by
  pointwise [val_main_v35, val_main_v36, val_main_v37, val_main_v38, val_main_v39, val_main_v40, val_main_v41, val_main_cst_6, val_main_cst_7, val_main_cst_8]

theorem v42_at (i : Fin 8192) (j : Fin 1) : val_main_v42 (F := Ideal) x1 x2 x3 x6 x7 x8 (ix2 i j)
    = invE fun k => val_main_v33 (F := Ideal) x1 x2 x3 x6 x7 x8 (ix2 i k) := by
  pointwise [val_main_v42, v41_at]
  rfl

theorem v63_at (i : Fin 8192) (j : Fin 1024) : val_main_v63 (F := Ideal) x4 x5 x9 (ix2 i j)
    = x4 (ix2 2 j) * x9 (ix2 i j) * x5 (ix2 1 j) := by
  pointwise [val_main_v3, val_main_v4, val_main_v5, val_main_v6, val_main_v34, val_main_v48, val_main_v54, val_main_v55, val_main_v62, val_main_v63]

theorem v78_at (i : Fin 8192) (j : Fin 1024) : val_main_v78 (F := Ideal) x1 x2 x3 x4 x5 x6 x7 x8 x9 (ix2 i j)
    = val_main_v63 (F := Ideal) x4 x5 x9 (ix2 i j) * (invE fun k => val_main_v33 (F := Ideal) x1 x2 x3 x6 x7 x8 (ix2 i k))
      + val_main_v33 (F := Ideal) x1 x2 x3 x6 x7 x8 (ix2 i j) * rootTerm (fun k => val_main_v33 (F := Ideal) x1 x2 x3 x6 x7 x8 (ix2 i k)) (∑ k, val_main_v33 (F := Ideal) x1 x2 x3 x6 x7 x8 (ix2 i k) * val_main_v63 (F := Ideal) x4 x5 x9 (ix2 i k))
      + rootTerm (fun k => val_main_v33 (F := Ideal) x1 x2 x3 x6 x7 x8 (ix2 i k)) (∑ k, val_main_v33 (F := Ideal) x1 x2 x3 x6 x7 x8 (ix2 i k) * val_main_v63 (F := Ideal) x4 x5 x9 (ix2 i k)) * val_main_v33 (F := Ideal) x1 x2 x3 x6 x7 x8 (ix2 i j) := by
  pointwise [v42_at, v41_at, val_main_v43, val_main_v44, val_main_v45, val_main_v65, val_main_v66, val_main_v67, val_main_v68, val_main_v69, val_main_v70, val_main_v71, val_main_v72, val_main_v73, val_main_v74, val_main_v75, val_main_v76, val_main_v77, val_main_v78, val_main_cst_9, val_main_cst_13, val_main_cst_14, val_main_cst_15]
  rw [Fin.sum_univ_one]
  rfl

theorem v80_at (i : Fin 8192) (j : Fin 1024) : val_main_v80 (F := Ideal) x1 x2 x3 x4 x5 x6 x7 x8 x9 (ix2 i j)
    = ∑ k, val_main_v78 (F := Ideal) x1 x2 x3 x4 x5 x6 x7 x8 x9 (ix2 i k) * x8 (ix2 j k) := by
  pointwise [val_main_v80]

theorem v84_at (i : Fin 8192) (j : Fin 1024) : val_main_v84 (F := Ideal) x1 x2 x3 x4 x5 x6 x7 x8 x9 (ix2 i j)
    = sigm (x3 (ix2 i ⟨j.val, by omega⟩)) * val_main_v80 (F := Ideal) x1 x2 x3 x4 x5 x6 x7 x8 x9 (ix2 i j) := by
  pointwise [val_main_v84, v16_at]

theorem v81_at (i : Fin 8192) (j : Fin 1024) : val_main_v81 (F := Ideal) x1 x2 x3 x4 x5 x6 x7 x8 x9 (ix2 i j)
    = sigm (x3 (ix2 i ⟨1024 + j.val, by omega⟩)) * val_main_v80 (F := Ideal) x1 x2 x3 x4 x5 x6 x7 x8 x9 (ix2 i j) := by
  pointwise [val_main_v81, v26_at]

theorem v86_at (i : Fin 8192) (j : Fin 1024) : val_main_v86 (F := Ideal) x1 x2 x3 x4 x5 x6 x7 x8 x9 (ix2 i j)
    = val_main_v80 (F := Ideal) x1 x2 x3 x4 x5 x6 x7 x8 x9 (ix2 i j) * val_main_v8 (F := Ideal) x1 x6 (ix2 i j)
      * (sigm (x3 (ix2 i ⟨j.val, by omega⟩)) * (1 - sigm (x3 (ix2 i ⟨j.val, by omega⟩)))) := by
  pointwise [val_main_v86, val_main_v85, val_main_v19, val_main_v18, val_main_v17, val_main_cst_2, v16_at]

theorem v83_at (i : Fin 8192) (j : Fin 1024) : val_main_v83 (F := Ideal) x1 x2 x3 x4 x5 x6 x7 x8 x9 (ix2 i j)
    = val_main_v80 (F := Ideal) x1 x2 x3 x4 x5 x6 x7 x8 x9 (ix2 i j) * val_main_v10 (F := Ideal) x2 x7 (ix2 i j)
      * (sigm (x3 (ix2 i ⟨1024 + j.val, by omega⟩)) * (1 - sigm (x3 (ix2 i ⟨1024 + j.val, by omega⟩)))) := by
  pointwise [val_main_v83, val_main_v82, val_main_v29, val_main_v28, val_main_v27, val_main_cst_5, v26_at]

theorem v97_at (i : Fin 8192) (j : Fin 2048) : val_main_v97 (F := Ideal) x1 x2 x3 x4 x5 x6 x7 x8 x9 (ix2 i j)
    = if h : j.val < 1024 then val_main_v86 (F := Ideal) x1 x2 x3 x4 x5 x6 x7 x8 x9 (ix2 i ⟨j.val, h⟩)
      else val_main_v83 (F := Ideal) x1 x2 x3 x4 x5 x6 x7 x8 x9 (ix2 i ⟨j.val - 1024, by omega⟩) := by
  pointwise [val_main_v97, val_main_v96]

theorem v98_at (i : Fin 8192) (j : Fin 512) : val_main_v98 (F := Ideal) x1 x2 x3 x4 x5 x6 x7 x8 x9 (ix2 i j)
    = ∑ k, val_main_v84 (F := Ideal) x1 x2 x3 x4 x5 x6 x7 x8 x9 (ix2 i k) * x6 (ix2 j k) := by
  pointwise [val_main_v98, val_main_v88]

theorem v87_at (i : Fin 8192) (j : Fin 512) : val_main_v87 (F := Ideal) x1 x2 x3 x4 x5 x6 x7 x8 x9 (ix2 i j)
    = ∑ k, val_main_v81 (F := Ideal) x1 x2 x3 x4 x5 x6 x7 x8 x9 (ix2 i k) * x7 (ix2 j k) := by
  pointwise [val_main_v87]

theorem v79_at (j : Fin 1024) : val_main_v79 (F := Ideal) x1 x2 x3 x5 x6 x7 x8 x9 (ix1 j)
    = ∑ i, x9 (ix2 i j) * (val_main_v33 (F := Ideal) x1 x2 x3 x6 x7 x8 (ix2 i j) * (invE fun k => val_main_v33 (F := Ideal) x1 x2 x3 x6 x7 x8 (ix2 i k)) * x5 (ix2 1 j)) := by
  pointwise [v42_at, val_main_v5, val_main_v6, val_main_v46, val_main_v47, val_main_v48, val_main_v49, val_main_v50, val_main_v56, val_main_v57, val_main_v58, val_main_v79, val_main_cst_10, val_main_cst_16]
  exact Fin.sum_univ_one _

theorem v64_at (j : Fin 1024) : val_main_v64 (F := Ideal) x1 x2 x3 x4 x6 x7 x8 x9 (ix1 j)
    = ∑ i, val_main_v33 (F := Ideal) x1 x2 x3 x6 x7 x8 (ix2 i j) * (invE fun k => val_main_v33 (F := Ideal) x1 x2 x3 x6 x7 x8 (ix2 i k)) * (x4 (ix2 2 j) * x9 (ix2 i j)) := by
  pointwise [v42_at, val_main_v3, val_main_v4, val_main_v34, val_main_v46, val_main_v47, val_main_v54, val_main_v55, val_main_v59, val_main_v60, val_main_v61, val_main_v64, val_main_cst_11, val_main_cst_12]
  exact Fin.sum_univ_one _

/-- The small results, row by row. -/
theorem v92_at (r : Fin 8) (j : Fin 1024) : val_main_v92 (F := Ideal) x1 x2 x3 x4 x5 x6 x7 x8 x9 (ix2 r j)
    = if r.val = 1 then val_main_v64 (F := Ideal) x1 x2 x3 x4 x6 x7 x8 x9 (ix1 j)
      else if r.val = 0 then val_main_v79 (F := Ideal) x1 x2 x3 x5 x6 x7 x8 x9 (ix1 j) else 0 := by
  unfold val_main_v92
  fin_cases r
  all_goals
    simp
    pointwise [val_main_v89, val_main_v90, val_main_v91, val_main_cst_17]

end Cert.MixRefIdeal.Val

end
-- ==== Proof.Mix.Agree.lean ====
/- The mixing layer's gradient: the kernel's seven arrays are the reference's, entry by entry. -/
module

public import proofs.«01_k».proof.Proof.Mix.Results
public import proofs.«01_k».proof.Proof.Mix.Forward
public import proofs.«01_k».proof.Proof.Mix.Reference

@[expose] public section

set_option maxRecDepth 16384

noncomputable section

open Idealize.ShloMosaic Idealize.ShloMosaic.TcCoe Idealize.SL.Sem

namespace Cert.MixBwdIdeal.Val

open Cert.MixBwdIdeal Cert.MixBwdIdeal.Gen Cert.RealArith Cert.MixRefIdeal.Read Cert.MixRefIdeal.Val

variable (m : (ℓ : Loc nD τ Cert.MixBwdIdeal.sig) → Buf (Elt Ideal) ℓ) (ρ : Dev nD → PrngReg) (c : Dev nD)

/-! ## The arguments, and what the two regions are given of them -/

abbrev A1 : FVec Ideal S8192x512 .f32 := m ((c.tc : Thread nD τ).loc main_arg1)
abbrev A2 : FVec Ideal S8192x512 .f32 := m ((c.tc : Thread nD τ).loc main_arg2)
abbrev A3 : FVec Ideal S8192x2048 .f32 := m ((c.tc : Thread nD τ).loc main_arg3)
abbrev A4 : FVec Ideal S6x1024 .f32 := m ((c.tc : Thread nD τ).loc main_arg4)
abbrev A5 : FVec Ideal S4x1024 .f32 := m ((c.tc : Thread nD τ).loc main_arg5)
abbrev A6 : FVec Ideal S512x1024 .f32 := m ((c.tc : Thread nD τ).loc main_arg6)
abbrev A7 : FVec Ideal S512x1024 .f32 := m ((c.tc : Thread nD τ).loc main_arg7)
abbrev A8 : FVec Ideal S1024x1024 .f32 := m ((c.tc : Thread nD τ).loc main_arg8)
abbrev A9 : FVec Ideal S8192x1024 .f32 := m ((c.tc : Thread nD τ).loc main_arg9)

theorem in_ya (i : Fin 8192) (j : Fin 512) : YA (V1 m ρ) c (ix2 i j) = A1 m c (ix2 i j) := by after_reads_at
theorem in_ym (i : Fin 8192) (j : Fin 512) : YM (V1 m ρ) c (ix2 i j) = A2 m c (ix2 i j) := by after_reads_at
theorem in_pg (i : Fin 8192) (j : Fin 2048) : PG (V1 m ρ) c (ix2 i j) = A3 m c (ix2 i j) := by after_reads_at
theorem in_gate (j : Fin 1024) : VC (V1 m ρ) c (ix2 2 j) = A4 m c (ix2 2 j) := by after_reads_at
theorem in_gain (j : Fin 1024) : VC (V1 m ρ) c (ix2 7 j) = A5 m c (ix2 1 j) := by after_reads_at
theorem in_wa (i : Fin 512) (j : Fin 1024) : WA (V1 m ρ) c (ix2 i j) = A6 m c (ix2 i j) := by after_reads_at
theorem in_wb (i : Fin 512) (j : Fin 1024) : WB (V1 m ρ) c (ix2 i j) = A7 m c (ix2 i j) := by after_reads_at
theorem in_wo (i : Fin 1024) (j : Fin 1024) : WO (V1 m ρ) c (ix2 i j) = A8 m c (ix2 i j) := by after_reads_at

/-- The second region finds an input of the first as that one found it. -/
theorem keep (r : Ref Cert.MixBwdIdeal.sig .tc) (h1 : r ∉ hostOps1_W) (h0 : ∀ w : Fin cfg0.W, Pipeline.arrRef spec0 w = r → (cfg0.win w).isOut = false) :
    V3 m ρ c r = V1 m ρ c r := (W3_of m ρ c r h1).trans (W2_of m ρ c r h0)

theorem bk_pg : PG (V3 m ρ) c = PG (V1 m ρ) c := keep m ρ c main_v2 (by decide) (by decide +kernel)
theorem bk_vc : VC (V3 m ρ) c = VC (V1 m ρ) c := keep m ρ c main_v1 (by decide) (by decide +kernel)
theorem bk_wa : WA (V3 m ρ) c = WA (V1 m ρ) c := keep m ρ c main_v3 (by decide) (by decide +kernel)
theorem bk_wb : WB (V3 m ρ) c = WB (V1 m ρ) c := keep m ρ c main_v4 (by decide) (by decide +kernel)
theorem bk_wo : WO (V3 m ρ) c = WO (V1 m ρ) c := keep m ρ c main_v5 (by decide) (by decide +kernel)
theorem bk_d1 : D1 (V3 m ρ) c = A9 m c := W3_args m ρ c main_arg9 (by decide)
theorem bk_mx (i : Fin 8192) (j : Fin 1024) : MX (V3 m ρ) c (ix2 i j) = FM (V1 m ρ) c i j :=
  congrFun (((W3_of m ρ c main_v8_2 (by decide)).trans (W2_arr m ρ c 10)).trans (final0_10 (V1 m ρ) c)) (ix2 i j)
theorem bk_pa (i : Fin 8192) (j : Fin 1024) : PA (V3 m ρ) c (ix2 i j) = FA (V1 m ρ) c i j :=
  congrFun (((W3_of m ρ c main_v8_3 (by decide)).trans (W2_arr m ρ c 11)).trans (final0_11 (V1 m ρ) c)) (ix2 i j)
theorem bk_pb (i : Fin 8192) (j : Fin 1024) : PB (V3 m ρ) c (ix2 i j) = FB (V1 m ρ) c i j :=
  congrFun (((W3_of m ρ c main_v8_4 (by decide)).trans (W2_arr m ρ c 12)).trans (final0_12 (V1 m ρ) c)) (ix2 i j)

/-! ## The saved arrays are the reference's stages -/

theorem pa_ref (i : Fin 8192) (j : Fin 1024) : PA (V3 m ρ) c (ix2 i j) = val_main_v8 (F := Ideal) (A1 m c) (A6 m c) (ix2 i j) := by
  rw [bk_pa, v8_at, FA]
  exact Finset.sum_congr rfl fun k _ => by rw [in_ya, in_wa]
theorem pb_ref (i : Fin 8192) (j : Fin 1024) : PB (V3 m ρ) c (ix2 i j) = val_main_v10 (F := Ideal) (A2 m c) (A7 m c) (ix2 i j) := by
  rw [bk_pb, v10_at, FB]
  exact Finset.sum_congr rfl fun k _ => by rw [in_ym, in_wb]
theorem mx_ref (i : Fin 8192) (j : Fin 1024) :
    MX (V3 m ρ) c (ix2 i j) = val_main_v33 (F := Ideal) (A1 m c) (A2 m c) (A3 m c) (A6 m c) (A7 m c) (A8 m c) (ix2 i j) := by
  rw [bk_mx, v33_at, FM]
  refine Finset.sum_congr rfl fun k _ => ?_
  rw [v31_at, FG, in_wo, in_pg, in_pg, ← pa_ref m ρ, ← pb_ref m ρ, bk_pa, bk_pb]

theorem dn_ref (i : Fin 8192) (j : Fin 1024) :
    DN (V3 m ρ) c i j * VC (V3 m ρ) c (ix2 7 j) = val_main_v63 (F := Ideal) (A4 m c) (A5 m c) (A9 m c) (ix2 i j) := by
  rw [v63_at, DN, bk_d1, bk_vc, in_gate, in_gain, mul_comm (A9 m c (ix2 i j))]

/-! ## The results -/

/-- What the gradient is taken at holds real numbers. -/
structure Reals : Prop where
  a1 : ∃ r : S8192x512.Idx → ℝ, ∀ i, A1 m c i = (r i : EReal)
  a2 : ∃ r : S8192x512.Idx → ℝ, ∀ i, A2 m c i = (r i : EReal)
  a4 : ∃ r : Fin 1024 → ℝ, ∀ j, A4 m c (ix2 2 j) = (r j : EReal)
  a5 : ∃ r : Fin 1024 → ℝ, ∀ j, A5 m c (ix2 1 j) = (r j : EReal)
  a6 : ∃ r : S512x1024.Idx → ℝ, ∀ i, A6 m c i = (r i : EReal)
  a7 : ∃ r : S512x1024.Idx → ℝ, ∀ i, A7 m c i = (r i : EReal)
  a8 : ∃ r : S1024x1024.Idx → ℝ, ∀ i, A8 m c i = (r i : EReal)
  a9 : ∃ r : S8192x1024.Idx → ℝ, ∀ i, A9 m c i = (r i : EReal)

variable {m c} (H : Reals m c)
include H

/-- The mixed heads are then real. -/
theorem mx_real (i : Fin 8192) : ∃ r : Fin 1024 → ℝ, ∀ j, MX (V3 m ρ) c (ix2 i j) = (r j : EReal) := by
  obtain ⟨r1, h1⟩ := H.a1
  obtain ⟨r2, h2⟩ := H.a2
  obtain ⟨r6, h6⟩ := H.a6
  obtain ⟨r7, h7⟩ := H.a7
  obtain ⟨r8, h8⟩ := H.a8
  choose s hs using fun v => sigm_real v
  refine ⟨fun j => ∑ k : Fin 1024, (s (A3 m c (ix2 i ⟨k.val, by omega⟩)) * (∑ l, r1 (ix2 i l) * r6 (ix2 l k))
    + s (A3 m c (ix2 i ⟨1024 + k.val, by omega⟩)) * (∑ l, r2 (ix2 i l) * r7 (ix2 l k))) * r8 (ix2 k j), fun j => ?_⟩
  rw [mx_ref, v33_at, ← coe_sum]
  refine Finset.sum_congr rfl fun k _ => ?_
  rw [v31_at, v8_at, v10_at, h8, hs, hs]
  simp only [h1, h2, h6, h7, ← EReal.coe_mul, coe_sum]
  rw [← EReal.coe_add, ← EReal.coe_mul]

/-- The gradient of the mixed heads. -/
theorem dmx_ref (i : Fin 8192) (j : Fin 1024) : DMX (V3 m ρ) c i j
    = val_main_v78 (F := Ideal) (A1 m c) (A2 m c) (A3 m c) (A4 m c) (A5 m c) (A6 m c) (A7 m c) (A8 m c) (A9 m c) (ix2 i j) := by
  rw [v78_at]
  simp only [← mx_ref m ρ]
  simp only [← dn_ref m ρ]
  obtain ⟨x, hx⟩ := mx_real ρ H i
  obtain ⟨d, hd⟩ : ∃ d : Fin 1024 → ℝ, ∀ k, DN (V3 m ρ) c i k * VC (V3 m ρ) c (ix2 7 k) = (d k : EReal) := by
    obtain ⟨r4, h4⟩ := H.a4
    obtain ⟨r5, h5⟩ := H.a5
    obtain ⟨r9, h9⟩ := H.a9
    refine ⟨fun k => r4 k * r9 (ix2 i k) * r5 k, fun k => ?_⟩
    rw [dn_ref, v63_at, h4, h5, h9, ← EReal.coe_mul, ← EReal.coe_mul]
  unfold DMX XH
  simp only [hd, hx, invE_real]
  simp only [← EReal.coe_mul, coe_sum]
  rw [c_1024, div_real (by norm_num), rootTerm_real]
  simp only [← EReal.coe_mul, ← EReal.coe_add, ← EReal.coe_sub]
  rw [rms_grad _ d (by norm_num)]

theorem dmg_ref (i : Fin 8192) (j : Fin 1024) : DMG (V3 m ρ) c i j
    = val_main_v80 (F := Ideal) (A1 m c) (A2 m c) (A3 m c) (A4 m c) (A5 m c) (A6 m c) (A7 m c) (A8 m c) (A9 m c) (ix2 i j) := by
  rw [v80_at, DMG, bk_wo]
  exact Finset.sum_congr rfl fun k _ => by rw [dmx_ref ρ H, in_wo]

theorem dpa_ref (i : Fin 8192) (j : Fin 1024) : DPA (V3 m ρ) c i j
    = val_main_v84 (F := Ideal) (A1 m c) (A2 m c) (A3 m c) (A4 m c) (A5 m c) (A6 m c) (A7 m c) (A8 m c) (A9 m c) (ix2 i j) := by
  rw [v84_at, DPA, dmg_ref ρ H, bk_pg, in_pg, mul_comm]

theorem dpb_ref (i : Fin 8192) (j : Fin 1024) : DPB (V3 m ρ) c i j
    = val_main_v81 (F := Ideal) (A1 m c) (A2 m c) (A3 m c) (A4 m c) (A5 m c) (A6 m c) (A7 m c) (A8 m c) (A9 m c) (ix2 i j) := by
  rw [v81_at, DPB, dmg_ref ρ H, bk_pg, in_pg, mul_comm]

theorem dg_ref (i : Fin 8192) (j : Fin 2048) : DG (V3 m ρ) c i j
    = val_main_v97 (F := Ideal) (A1 m c) (A2 m c) (A3 m c) (A4 m c) (A5 m c) (A6 m c) (A7 m c) (A8 m c) (A9 m c) (ix2 i j) := by
  rw [v97_at, DG]
  split
  · rw [DGA, v86_at, dmg_ref ρ H, bk_pg, in_pg, pa_ref]
  · rw [DGB, v83_at, dmg_ref ρ H, bk_pg, in_pg, pb_ref]

theorem dya_ref (i : Fin 8192) (j : Fin 512) : DYA (V3 m ρ) c i j
    = val_main_v98 (F := Ideal) (A1 m c) (A2 m c) (A3 m c) (A4 m c) (A5 m c) (A6 m c) (A7 m c) (A8 m c) (A9 m c) (ix2 i j) := by
  rw [v98_at, DYA, bk_wa]
  exact Finset.sum_congr rfl fun k _ => by rw [dpa_ref ρ H, in_wa]

theorem dym_ref (i : Fin 8192) (j : Fin 512) : DYM (V3 m ρ) c i j
    = val_main_v87 (F := Ideal) (A1 m c) (A2 m c) (A3 m c) (A4 m c) (A5 m c) (A6 m c) (A7 m c) (A8 m c) (A9 m c) (ix2 i j) := by
  rw [v87_at, DYM, bk_wb]
  exact Finset.sum_congr rfl fun k _ => by rw [dpb_ref ρ H, in_wb]

omit H in
theorem add_ref (r : Fin 8) (j : Fin 1024) : ∑ i, add (V3 m ρ) c r j i
    = val_main_v92 (F := Ideal) (A1 m c) (A2 m c) (A3 m c) (A4 m c) (A5 m c) (A6 m c) (A7 m c) (A8 m c) (A9 m c) (ix2 r j) := by
  rw [v92_at, v64_at, v79_at]
  simp only [← mx_ref m ρ]
  unfold add XH DN
  rw [bk_d1, bk_vc, in_gate, in_gain]
  split
  · exact Finset.sum_congr rfl fun i _ => by rw [mul_comm, mul_comm (A4 m c (ix2 2 j))]
  split
  · rfl
  · exact Finset.sum_const_zero

end Cert.MixBwdIdeal.Val

end
-- ==== Proof.Mix.Run.lean ====
/- The run of the mixing layer's forward and gradient calls: what every buffer of the core holds at the end, and with it the gradient call's results.
   The program is two kernel regions with host operations between; the launch is followed from the boundary contents the frame states. -/
module

public import proofs.«01_k».proof.Proof.Gen.MixBwdIdeal.Frame

@[expose] public section

set_option maxRecDepth 16384

noncomputable section

namespace Cert.MixBwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixBwdIdeal Cert.MixBwdIdeal.Gen

variable {F : FTy → Type} [FloatOps F]
variable (m : (ℓ : Loc nD τ sig) → Buf (Elt F) ℓ) (ρ : Dev nD → PrngReg)

set_option backward.isDefEq.respectTransparency.types false in
/-- Every buffer the core keeps ends at the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c]) (by simp only [segs, Pipeline.Seg.pipes_host, Pipeline.Seg.pipes_region, Pipeline.Seg.pipes_nil]; decide)
    (O₀ := 0) (hL := fun _ _ => rfl) (G := fun _ => iprop(emp)) (u₀ := initOf (Pipeline.cells cfgs cellOf_inj) (Pipeline.launchToks cfgs cellOf_inj))
    (hu₀ := by
      have he : (BI.emp : sProp (MT nD τ sig Unit (Elt F) ℕ (UR sig nD τ) ℕ)) ⊢ bigSep Finset.univ (fun _ : Dev nD => (BI.emp : sProp (MT nD τ sig Unit (Elt F) ℕ (UR sig nD τ) ℕ))) := by rw [BI.bigSep_emp_const]
      have hu : (ownU (initOf (Pipeline.cells cfgs cellOf_inj) (Pipeline.launchToks cfgs cellOf_inj)) : sProp (MT nD τ sig Unit (Elt F) ℕ (UR sig nD τ) ℕ))
        ⊢ BI.own (emb₁ (initOf (Pipeline.cells cfgs cellOf_inj) (Pipeline.launchToks cfgs cellOf_inj))) := .rfl
      iintro Hu
      imodintro
      isplitl [Hu]
      · iapply hu; iexact Hu
      iapply he; iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := Pipeline.initEach L lv fun c => by
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W4 m ρ c b)
    (hfin := fun c s => by
      iintro ⟨⟨Hh, -⟩, HSI⟩
      unfold StableHlo.held
      imodintro
      iapply (pointsTo_read_all (Pipeline.ucRefs τ sig) (fun b => ((c : Thread nD τ).1, b)) (W4 m ρ c) s)
      isplitl [Hh] <;> iassumption)
    (hQ := fun s h _ => h)

/-- The arguments end as launched. -/
theorem arg_kept {s : MemSt nD τ sig (Elt F)} {c : Dev nD} (h : ∀ b ∈ Pipeline.ucRefs τ sig, s.mem ((c : Thread nD τ).1, b) = W4 m ρ c b)
    (a : Ref sig .tc) (ha : a ∈ argRefs) : s.mem ((c : Thread nD τ).loc a) = m ((c : Thread nD τ).loc a) :=
  (h _ (mem_uc a ((by decide : ∀ a ∈ argRefs, ¬ (Proc.devRef .tc a : DevRef τ sig).isScoped) a ha))).trans (W4_args m ρ c a ha)

/-- Every weakly fair execution ends with the gradient call's arrays at what its write-backs leave and the arguments as launched. -/
theorem run_blocks : θ_run defs (onTc (τ := τ) (main (F := F))) ⟨m, fun _ => 0, ρ⟩ fun r => ∀ c : Dev nD,
    r.2.mem ((c : Thread nD τ).loc main_v10_0) = (dat1 (V3 m ρ) c).arrAt 9 cfg1.N
    ∧ r.2.mem ((c : Thread nD τ).loc main_v10_1) = (dat1 (V3 m ρ) c).arrAt 10 cfg1.N
    ∧ r.2.mem ((c : Thread nD τ).loc main_v10_2) = (dat1 (V3 m ρ) c).arrAt 11 cfg1.N
    ∧ r.2.mem ((c : Thread nD τ).loc main_v10_3) = (dat1 (V3 m ρ) c).arrAt 12 cfg1.N
    ∧ r.2.mem ((c : Thread nD τ).loc main_v10_4) = (dat1 (V3 m ρ) c).arrAt 13 cfg1.N
    ∧ r.2.mem ((c : Thread nD τ).loc main_v10_5) = (dat1 (V3 m ρ) c).arrAt 14 cfg1.N
    ∧ r.2.mem ((c : Thread nD τ).loc main_v10_6) = (dat1 (V3 m ρ) c).arrAt 15 cfg1.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9) :=
  (θ_run defs _ _).mono (fun _ h c =>
    ⟨(h c _ (mem_uc main_v10_0 (by decide))).trans (W4_arr m ρ c 9), (h c _ (mem_uc main_v10_1 (by decide))).trans (W4_arr m ρ c 10),
      (h c _ (mem_uc main_v10_2 (by decide))).trans (W4_arr m ρ c 11), (h c _ (mem_uc main_v10_3 (by decide))).trans (W4_arr m ρ c 12),
      (h c _ (mem_uc main_v10_4 (by decide))).trans (W4_arr m ρ c 13), (h c _ (mem_uc main_v10_5 (by decide))).trans (W4_arr m ρ c 14),
      (h c _ (mem_uc main_v10_6 (by decide))).trans (W4_arr m ρ c 15),
      arg_kept m ρ (h c) main_arg0 (by decide), arg_kept m ρ (h c) main_arg1 (by decide), arg_kept m ρ (h c) main_arg2 (by decide), arg_kept m ρ (h c) main_arg3 (by decide), arg_kept m ρ (h c) main_arg4 (by decide),
      arg_kept m ρ (h c) main_arg5 (by decide), arg_kept m ρ (h c) main_arg6 (by decide), arg_kept m ρ (h c) main_arg7 (by decide), arg_kept m ρ (h c) main_arg8 (by decide), arg_kept m ρ (h c) main_arg9 (by decide)⟩)
    (run_all m ρ)

end Cert.MixBwdIdeal.Run

end
-- ==== Proof.Mix.Claim.lean ====
/- The mixing layer's gradient: the two programs agree. -/
module

public import proofs.«01_k».proof.Defs
public import proofs.«01_k».proof.Proof.Gen.MixRefIdeal.Run
public import proofs.«01_k».proof.Proof.Gen.Pre_finite_mix
public import proofs.«01_k».proof.Proof.Finite
public import proofs.«01_k».proof.Proof.Mix.Agree
public import proofs.«01_k».proof.Proof.Mix.Run

@[expose] public section

set_option maxRecDepth 16384

noncomputable section

namespace Cert.Proof.Mix

open Idealize.ShloMosaic Idealize.SL.Sem

section
open Cert.MixRefIdeal Cert.MixRefIdeal.Read

variable (m : (ℓ : Loc Cert.MixRefIdeal.nD Cert.MixRefIdeal.τ Cert.MixRefIdeal.sig) → Buf (Elt Ideal) ℓ)

/-- The reference's arguments, as one application of a stage to them. -/
abbrev atArgs {α : Type} (f : FVec Ideal S8192x512 .f32 → FVec Ideal S8192x512 .f32 → FVec Ideal S8192x2048 .f32 → FVec Ideal S6x1024 .f32
    → FVec Ideal S4x1024 .f32 → FVec Ideal S512x1024 .f32 → FVec Ideal S512x1024 .f32 → FVec Ideal S1024x1024 .f32 → FVec Ideal S8192x1024 .f32 → α)
    (c : Dev Cert.MixRefIdeal.nD) : α :=
  f (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The reference leaves its results' stages. -/
theorem ref_run (ρ : Dev Cert.MixRefIdeal.nD → PrngReg) :
    θ_run (Cert.MixRefIdeal.defs (F := Ideal)) (onTc (τ := Cert.MixRefIdeal.τ) (Cert.MixRefIdeal.main (F := Ideal))) ⟨m, fun _ => 0, ρ⟩ fun r => ∀ c : Dev Cert.MixRefIdeal.nD,
      r.2.mem ((c.tc : Thread nD τ).loc main_v93) = atArgs m (val_main_v93 (F := Ideal)) c
      ∧ r.2.mem ((c.tc : Thread nD τ).loc main_v94) = atArgs m (val_main_v94 (F := Ideal)) c
      ∧ r.2.mem ((c.tc : Thread nD τ).loc main_v95) = atArgs m (val_main_v95 (F := Ideal)) c
      ∧ r.2.mem ((c.tc : Thread nD τ).loc main_v97) = atArgs m (val_main_v97 (F := Ideal)) c
      ∧ r.2.mem ((c.tc : Thread nD τ).loc main_v98) = atArgs m (val_main_v98 (F := Ideal)) c
      ∧ r.2.mem ((c.tc : Thread nD τ).loc main_v87) = atArgs m (val_main_v87 (F := Ideal)) c
      ∧ r.2.mem ((c.tc : Thread nD τ).loc main_v92) = atArgs m (val_main_v92 (F := Ideal)) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun _ h c => by
    obtain ⟨r93, r94, r95, r97, r98, r87, r92, ha⟩ := h c
    exact ⟨r93.trans (val_main_v93_eq m c), r94.trans (val_main_v94_eq m c), r95.trans (val_main_v95_eq m c), r97.trans (val_main_v97_eq m c), r98.trans (val_main_v98_eq m c), r87.trans (val_main_v87_eq m c), r92.trans (val_main_v92_eq m c), ha⟩)
    (Cert.MixRefIdeal.Value.run m ρ)

end

theorem frame_reference : Cert.quiescent_MixRefIdeal := fun m ρ _ =>
  (θ_run Cert.MixRefIdeal.defs _ _).mono (fun r h => ⟨fun c => (h c).2.2.2.2.2.2.2, sem_eq_zero_of_no_sems (by decide) r.2⟩)
    (Cert.MixRefIdeal.Value.run (F := Ideal) m ρ)

section
open Cert.MixBwdIdeal Cert.MixBwdIdeal.Val Cert.MixBwdIdeal.Gen

theorem algebraic : Cert.algebraic_MixBwdIdeal_MixRefIdeal_pre_finite_mix := by
  pair_intro
  · run_from Cert.MixBwdIdeal.Run.run_blocks m g
  · have hr : ∀ c, Reals m c := fun c => by
      obtain ⟨h1, h2, h4, h5, h6, h7, h8, h9⟩ := hpre c
      obtain ⟨s, hs⟩ := Cert.Finite.exists_reals _ _ h4
      obtain ⟨g, hg⟩ := Cert.Finite.exists_reals _ _ h5
      exact ⟨Cert.Finite.exists_reals _ _ h1, Cert.Finite.exists_reals _ _ h2,
        ⟨fun j => s (ix1 j), fun j => (Cert.Finite.row_at 2 (by omega) _ _ _ j).symm.trans (hs (ix1 j))⟩,
        ⟨fun j => g (ix1 j), fun j => (Cert.Finite.row_at 1 (by omega) _ _ _ j).symm.trans (hg (ix1 j))⟩,
        Cert.Finite.exists_reals _ _ h6, Cert.Finite.exists_reals _ _ h7, Cert.Finite.exists_reals _ _ h8, Cert.Finite.exists_reals _ _ h9⟩
    run_from ref_run m' g'
    · rw [final9]
      funext q
      exact (congrArg _ (ix2_eta q).symm).trans (dmx_ref _ (hr c) (q 0) (q 1)).symm
    · rw [final10]
      funext q
      exact (congrArg _ (ix2_eta q).symm).trans (dpa_ref _ (hr c) (q 0) (q 1)).symm
    · rw [final11]
      funext q
      exact (congrArg _ (ix2_eta q).symm).trans (dpb_ref _ (hr c) (q 0) (q 1)).symm
    · rw [final12]
      funext q
      exact (congrArg _ (ix2_eta q).symm).trans (dg_ref _ (hr c) (q 0) (q 1)).symm
    · rw [final13]
      funext q
      exact (congrArg _ (ix2_eta q).symm).trans (dya_ref _ (hr c) (q 0) (q 1)).symm
    · rw [final14]
      funext q
      exact (congrArg _ (ix2_eta q).symm).trans (dym_ref _ (hr c) (q 0) (q 1)).symm
    · rw [final15]
      funext q
      exact (congrArg _ (ix2_eta q).symm).trans (add_ref _ (q 0) (q 1)).symm

end

end Cert.Proof.Mix

end
-- ==== Proof.Ffn.Value.lean ====
/- What the blocks of the feed-forward gradient kernel hold, as functions of the arguments. -/
module

public import proofs.«01_k».proof.Proof.Gen.FfnBwdIdeal.Value
public import Idealize.ShloMosaic.Lib.Pipeline.ValueKit
public import Idealize.ShloMosaic.Lib.Claim
public import Idealize.ShloMosaic.Lib.StableHlo.ReadAt
public import proofs.«01_k».proof.Proof.RealArith
public import proofs.«01_k».proof.Proof.RowPieces

@[expose] public section

set_option maxRecDepth 16384

noncomputable section

open Idealize.ShloMosaic Idealize.ShloMosaic.TcCoe Idealize.SL.Sem
open Idealize.ShloMosaic.Pipeline (Dat)

namespace Cert.FfnBwdIdeal.Val

open Cert.FfnBwdIdeal Cert.FfnBwdIdeal.Gen Cert.RowPieces Cert.RealArith

variable (m : (ℓ : Loc nD τ sig) → Buf (Elt Ideal) ℓ)

/-- The arguments, typed: the rows, the targets, the modulation, the gains and the three weights. -/
abbrev X (c : Dev nD) : FVec Ideal S8192x1024 .f32 := m ((c : Thread nD τ).loc main_arg0)
abbrev Tg (c : Dev nD) : FVec Ideal S8192x1024 .f32 := m ((c : Thread nD τ).loc main_arg1)
abbrev Md (c : Dev nD) : FVec Ideal S6x1024 .f32 := m ((c : Thread nD τ).loc main_arg2)
abbrev Gn (c : Dev nD) : FVec Ideal S4x1024 .f32 := m ((c : Thread nD τ).loc main_arg3)
abbrev Wg (c : Dev nD) : FVec Ideal S1024x2816 .f32 := m ((c : Thread nD τ).loc main_arg4)
abbrev Wu (c : Dev nD) : FVec Ideal S1024x2816 .f32 := m ((c : Thread nD τ).loc main_arg5)
abbrev Wd (c : Dev nD) : FVec Ideal S2816x1024 .f32 := m ((c : Thread nD τ).loc main_arg6)

/-! ## What the kernel is given -/

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0] ∧ win0_10.index t = ![0, 0] ∧ t.val < 32 :=
  (by decide +kernel : ∀ t : Fin grid0.N, _)

theorem lt32 (t : Fin cfg0.N) : t.val < 32 := (idx t).2.2.2.2.2.2.2.2.2.2.2

/-- Row `i` of point `t`'s blocks is this row of the arrays. -/
abbrev row (t : Fin cfg0.N) (i : Fin 256) : Fin 8192 := ⟨t.val * 256 + i.val, by have := lt32 t; omega⟩

theorem blk0 (c : Dev nD) (t : Fin cfg0.N) (i : Fin 256) (j : Fin 1024) :
    (iblk m c 0 t : FVec Ideal S256x1024 .f32) (ix2 i j) = X m c (ix2 (row t i) j) := by
  blk_ext [iblk, V, idx t]

theorem blk1 (c : Dev nD) (t : Fin cfg0.N) (i : Fin 256) (j : Fin 1024) :
    (iblk m c 1 t : FVec Ideal S256x1024 .f32) (ix2 i j) = Tg m c (ix2 (row t i) j) := by
  blk_ext [iblk, V, idx t]

theorem blk2 (c : Dev nD) (t : Fin cfg0.N) (i : Fin 16) (j : Fin 1024) :
    (iblk m c 2 t : FVec Ideal S16x1024 .f32) (ix2 i j) = (V m c main_v1 : FVec Ideal S16x1024 .f32) (ix2 i j) := by
  blk_ext [iblk, V, idx t]

theorem ent_mod (c : Dev nD) (i : Fin 6) (j : Fin 1024) :
    (V m c main_v1 : FVec Ideal S16x1024 .f32) (ix2 ⟨i.val, by omega⟩ j) = Md m c (ix2 i j) := by
  unfold V
  after_reads_at

theorem ent_gain (c : Dev nD) (i : Fin 4) (j : Fin 1024) :
    (V m c main_v1 : FVec Ideal S16x1024 .f32) (ix2 ⟨6 + i.val, by omega⟩ j) = Gn m c (ix2 i j) := by
  unfold V
  after_reads_at

theorem ent_gate (c : Dev nD) (i : Fin 2816) (j : Fin 1024) :
    (V m c main_v3 : FVec Ideal S2816x1024 .bf16) (ix2 i j) = Wg m c (ix2 j i) := by
  unfold V
  after_reads_at

theorem ent_up (c : Dev nD) (i : Fin 2816) (j : Fin 1024) :
    (V m c main_v5 : FVec Ideal S2816x1024 .bf16) (ix2 i j) = Wu m c (ix2 j i) := by
  unfold V
  after_reads_at

theorem ent_down (c : Dev nD) (i : Fin 2816) (j : Fin 1024) :
    (V m c main_v6 : FVec Ideal S2816x1024 .bf16) (ix2 i j) = Wd m c (ix2 i j) := by
  unfold V
  after_reads_at

/-- The rows of the modulation and the gains that the body loads. -/
abbrev ldp (c : Dev nD) (t : Fin cfg0.N) (r : Nat) (h : ∀ a, (![r, 0] : Fin 2 → Nat) a + (![1, 1024] : Fin 2 → Nat) a ≤ S16x1024.size a) :
    Vec Ideal S1x1024 .f32 := View.ld (iblk m c 2 t : FVec Ideal S16x1024 .f32) (Rect.unit (s := S16x1024) ![r, 0] ![1, 1024] h)

theorem p3 (c : Dev nD) (t : Fin cfg0.N) (j : Fin 1024) : ldp m c t 3 inb_S16x1024_S1x1024_3_0 (ix2 0 j) = Md m c (ix2 3 j) := by
  refine (ld_row (iblk m c 2 t : FVec Ideal S16x1024 .f32) 3 inb_S16x1024_S1x1024_3_0 (by omega) j).trans ?_
  rw [blk2]
  exact ent_mod m c 3 j
theorem p4 (c : Dev nD) (t : Fin cfg0.N) (j : Fin 1024) : ldp m c t 4 inb_S16x1024_S1x1024_4_0 (ix2 0 j) = Md m c (ix2 4 j) := by
  refine (ld_row (iblk m c 2 t : FVec Ideal S16x1024 .f32) 4 inb_S16x1024_S1x1024_4_0 (by omega) j).trans ?_
  rw [blk2]
  exact ent_mod m c 4 j
theorem p5 (c : Dev nD) (t : Fin cfg0.N) (j : Fin 1024) : ldp m c t 5 inb_S16x1024_S1x1024_5_0 (ix2 0 j) = Md m c (ix2 5 j) := by
  refine (ld_row (iblk m c 2 t : FVec Ideal S16x1024 .f32) 5 inb_S16x1024_S1x1024_5_0 (by omega) j).trans ?_
  rw [blk2]
  exact ent_mod m c 5 j
theorem p8 (c : Dev nD) (t : Fin cfg0.N) (j : Fin 1024) : ldp m c t 8 inb_S16x1024_S1x1024_8_0 (ix2 0 j) = Gn m c (ix2 2 j) := by
  refine (ld_row (iblk m c 2 t : FVec Ideal S16x1024 .f32) 8 inb_S16x1024_S1x1024_8_0 (by omega) j).trans ?_
  rw [blk2]
  exact ent_gain m c 2 j
theorem p9 (c : Dev nD) (t : Fin cfg0.N) (j : Fin 1024) : ldp m c t 9 inb_S16x1024_S1x1024_9_0 (ix2 0 j) = Gn m c (ix2 3 j) := by
  refine (ld_row (iblk m c 2 t : FVec Ideal S16x1024 .f32) 9 inb_S16x1024_S1x1024_9_0 (by omega) j).trans ?_
  rw [blk2]
  exact ent_gain m c 3 j

/-! ## The weights in the scratch buffers -/

/-- What a copy of the whole left. -/
theorem canon_copy {R n : Nat} {e : EltTy} (w : (⟨2, ![R, n]⟩ : Shape).Idx → Elt Ideal e) :
    View.canon [(⟨Rect.whole (⟨2, ![R, n]⟩ : Shape), w⟩ : View.Piece (Elt Ideal) (⟨2, ![R, n]⟩ : Shape) e)] = w := by
  funext q
  have e : q = (Rect.whole (⟨2, ![R, n]⟩ : Shape)).emb q := by
    refine ix2_of ?_ ?_ |>.trans (eq_ix2 _).symm
    · show (q 0).val = 0 + 1 * (q 0).val; omega
    · show (q 1).val = 0 + 1 * (q 1).val; omega
  exact (congrArg (View.canon _) e).trans (View.canon_cons_emb (Rect.whole (⟨2, ![R, n]⟩ : Shape)) w [] q)

/-- Such a copy, read whole. -/
theorem cov_whole {R n : Nat} {e : EltTy} {κ : Kind} {sp : Space} (v : View sig κ sp (⟨2, ![R, n]⟩ : Shape) e)
    (w : (⟨2, ![R, n]⟩ : Shape).Idx → Elt Ideal e)
    (h : ∀ a, (![0, 0] : Fin 2 → Nat) a + (![R, n] : Fin 2 → Nat) a ≤ (⟨2, ![R, n]⟩ : Shape).size a) :
    v.readCov [⟨Rect.whole (⟨2, ![R, n]⟩ : Shape), w⟩] (Rect.unit (s := (⟨2, ![R, n]⟩ : Shape)) ![0, 0] ![R, n] h).toLoadRect = w := by
  rw [View.readCov_eq_canon', canon_copy]
  funext q
  refine congrArg w (ix2_of ?_ ?_ |>.trans (eq_ix2 q).symm)
  · show 0 + 1 * (q 0).val = (q 0).val; omega
  · show 0 + 1 * (q 1).val = (q 1).val; omega

/-- The three weights, in the scratch buffers, after every point. -/
theorem scr (c : Dev nD) : ∀ (k : ℕ) (h : k < cfg0.N), (outsAt0 m c k h).2.2.2.2.2.2.2.2 = (V m c main_v3, V m c main_v5, V m c main_v6)
  | 0, h => by
    rw [outsAt0_A m c ⟨0, h⟩ rfl]
    refine Prod.ext ?_ (Prod.ext ?_ ?_)
    · frame_out; exact canon_copy _
    · frame_out; exact canon_copy _
    · frame_out; exact canon_copy _
  | k + 1, h => by
    rw [outsAt0_B m c ⟨k + 1, h⟩ (by have := lt32 ⟨k + 1, h⟩; simp at this ⊢; omega)]
    have e := scr c k (by omega)
    refine Prod.ext ?_ (Prod.ext ?_ ?_)
    · dsimp only; unfold sout0_B_0; exact congrArg (fun p => p.1) e
    · dsimp only; unfold sout0_B_1; exact congrArg (fun p => p.2.1) e
    · dsimp only; unfold sout0_B_2; exact congrArg (fun p => p.2.2) e

theorem rd0 (c : Dev nD) : (View.whole cc0_scratch0).readCov
    [⟨Rect.whole S2816x1024, ReadAs.same.apply (View.read (Elt Ideal) (View.whole main_v3) (V m c main_v3))⟩]
    (Rect.unit ![0, 0] ![2816, 1024] inb_S2816x1024_S2816x1024_0_0).toLoadRect = V m c main_v3 := cov_whole _ _ _
theorem rd1 (c : Dev nD) : (View.whole cc0_scratch1).readCov
    [⟨Rect.whole S2816x1024, ReadAs.same.apply (View.read (Elt Ideal) (View.whole main_v5) (V m c main_v5))⟩]
    (Rect.unit ![0, 0] ![2816, 1024] inb_S2816x1024_S2816x1024_0_0).toLoadRect = V m c main_v5 := cov_whole _ _ _
theorem rd2 (c : Dev nD) : (View.whole cc0_scratch2).readCov
    [⟨Rect.whole S2816x1024, ReadAs.same.apply (View.read (Elt Ideal) (View.whole main_v6) (V m c main_v6))⟩]
    (Rect.unit ![0, 0] ![2816, 1024] inb_S2816x1024_S2816x1024_0_0).toLoadRect = V m c main_v6 := cov_whole _ _ _
theorem kp0 (c : Dev nD) (k : ℕ) (h : k < cfg0.N) : View.read (Elt Ideal) (View.whole cc0_scratch0)
    ((Memref.isWhole_whole cc0_scratch0).unread (outsAt0 m c k h).2.2.2.2.2.2.2.2.1) = V m c main_v3 :=
  ((Memref.isWhole_whole cc0_scratch0).read_unread _).trans (congrArg (fun p => p.1) (scr m c k h))
theorem kp1 (c : Dev nD) (k : ℕ) (h : k < cfg0.N) : View.read (Elt Ideal) (View.whole cc0_scratch1)
    ((Memref.isWhole_whole cc0_scratch1).unread (outsAt0 m c k h).2.2.2.2.2.2.2.2.2.1) = V m c main_v5 :=
  ((Memref.isWhole_whole cc0_scratch1).read_unread _).trans (congrArg (fun p => p.2.1) (scr m c k h))
theorem kp2 (c : Dev nD) (k : ℕ) (h : k < cfg0.N) : View.read (Elt Ideal) (View.whole cc0_scratch2)
    ((Memref.isWhole_whole cc0_scratch2).unread (outsAt0 m c k h).2.2.2.2.2.2.2.2.2.2) = V m c main_v6 :=
  ((Memref.isWhole_whole cc0_scratch2).read_unread _).trans (congrArg (fun p => p.2.2) (scr m c k h))

/-! ## The body's values at an index -/

/-- The constants of the mean square error: a half, and one, over the width. -/
abbrev cLoss : EReal := Ideal.ofBits .f32 0x3A000000#32
abbrev cGrad : EReal := Ideal.ofBits .f32 0x3A800000#32

theorem pay8_at (x : Vec Ideal S256x1024 .f32) (i : Fin 256) (j : Fin 1024) :
    k0_pay8 x (ix2 i j) = x (ix2 i j) * invE fun k => x (ix2 i k) := by
  pointwise [k0_pay8, k0_pay7]
  rfl

theorem pay9_at (x : Vec Ideal S256x1024 .f32) (g : Vec Ideal S1x1024 .f32) (i : Fin 256) (j : Fin 1024) :
    k0_pay9 x g (ix2 i j) = k0_pay8 x (ix2 i j) * g (ix2 0 j) := by
  pointwise [k0_pay9]

theorem pay10_at (x : Vec Ideal S256x1024 .f32) (g s b : Vec Ideal S1x1024 .f32) (i : Fin 256) (j : Fin 1024) :
    k0_pay10 x g s b (ix2 i j) = k0_pay9 x g (ix2 i j) * (1 + s (ix2 0 j)) + b (ix2 0 j) := by
  pointwise [k0_pay10]

theorem pay11_at (x : Vec Ideal S256x1024 .f32) (g s b : Vec Ideal S1x1024 .f32) (w : Vec Ideal S2816x1024 .bf16) (i : Fin 256) (q : Fin 2816) :
    k0_pay11 x g s b w (ix2 i q) = ∑ k, k0_pay10 x g s b (ix2 i k) * w (ix2 q k) := by
  pointwise [k0_pay11]

theorem pay12_at (x : Vec Ideal S256x1024 .f32) (g s b : Vec Ideal S1x1024 .f32) (w : Vec Ideal S2816x1024 .bf16) (i : Fin 256) (q : Fin 2816) :
    k0_pay12 x g s b w (ix2 i q) = ∑ k, k0_pay10 x g s b (ix2 i k) * w (ix2 q k) := by
  pointwise [k0_pay12]

theorem pay13_zero (a : FVec Ideal S256x2816 .f32) (i : Fin 256) (q : Fin 2816) : k0_pay13 a (0 : EReal) (ix2 i q) = sigm (a (ix2 i q)) := by
  pointwise [k0_pay13]
  rfl

theorem pay14_zero (a : FVec Ideal S256x2816 .f32) (i : Fin 256) (q : Fin 2816) :
    k0_pay14 a (0 : EReal) (ix2 i q) = a (ix2 i q) * sigm (a (ix2 i q)) := by
  pointwise [k0_pay14]
  rw [pay13_zero]

theorem pay15_zero (a u : FVec Ideal S256x2816 .f32) (i : Fin 256) (q : Fin 2816) :
    k0_pay15 a u (0 : EReal) (ix2 i q) = a (ix2 i q) * sigm (a (ix2 i q)) * u (ix2 i q) := by
  pointwise [k0_pay15]
  rw [pay14_zero]

theorem pay13_at (a : FVec Ideal S256x2816 .f32) (i : Fin 256) (q : Fin 2816) :
    k0_pay13 a (FloatOps.ofBits .f32 0#32) (ix2 i q) = sigm (a (ix2 i q)) := by
  pointwise [k0_pay13]
  rfl

theorem pay14_at (a : FVec Ideal S256x2816 .f32) (i : Fin 256) (q : Fin 2816) :
    k0_pay14 a (FloatOps.ofBits .f32 0#32) (ix2 i q) = a (ix2 i q) * sigm (a (ix2 i q)) := by
  pointwise [k0_pay14]
  rw [pay13_zero]

theorem pay15_at (a u : FVec Ideal S256x2816 .f32) (i : Fin 256) (q : Fin 2816) :
    k0_pay15 a u (FloatOps.ofBits .f32 0#32) (ix2 i q) = a (ix2 i q) * sigm (a (ix2 i q)) * u (ix2 i q) := by
  pointwise [k0_pay15]
  rw [pay14_zero]

theorem pay16_at (a u : FVec Ideal S256x2816 .f32) (w : Vec Ideal S2816x1024 .bf16) (i : Fin 256) (j : Fin 1024) :
    k0_pay16 a u (FloatOps.ofBits .f32 0#32) w (ix2 i j) = ∑ q, a (ix2 i q) * sigm (a (ix2 i q)) * u (ix2 i q) * w (ix2 q j) := by
  pointwise [k0_pay16]
  exact Finset.sum_congr rfl fun q _ => by rw [pay15_zero]

theorem pay17_at (a u : FVec Ideal S256x2816 .f32) (w : Vec Ideal S2816x1024 .bf16) (i : Fin 256) :
    k0_pay17 a u (FloatOps.ofBits .f32 0#32) w (ix2 i 0) = invE fun k => k0_pay16 a u (FloatOps.ofBits .f32 0#32) w (ix2 i k) := by
  pointwise [k0_pay17]
  rfl

theorem pay18_at (a u : FVec Ideal S256x2816 .f32) (w : Vec Ideal S2816x1024 .bf16) (i : Fin 256) (j : Fin 1024) :
    k0_pay18 a u (FloatOps.ofBits .f32 0#32) w (ix2 i j)
      = k0_pay16 a u (FloatOps.ofBits .f32 0#32) w (ix2 i j) * k0_pay17 a u (FloatOps.ofBits .f32 0#32) w (ix2 i 0) := by
  pointwise [k0_pay18]

theorem pay19_at (a u : FVec Ideal S256x2816 .f32) (w : Vec Ideal S2816x1024 .bf16) (g : Vec Ideal S1x1024 .f32) (i : Fin 256) (j : Fin 1024) :
    k0_pay19 a u (FloatOps.ofBits .f32 0#32) w g (ix2 i j) = k0_pay18 a u (FloatOps.ofBits .f32 0#32) w (ix2 i j) * g (ix2 0 j) := by
  pointwise [k0_pay19]

theorem pay20_at (x : Vec Ideal S256x1024 .f32) (a u : FVec Ideal S256x2816 .f32) (w : Vec Ideal S2816x1024 .bf16) (g z : Vec Ideal S1x1024 .f32)
    (y : Vec Ideal S256x1024 .f32) (i : Fin 256) (j : Fin 1024) :
    k0_pay20 x a u (FloatOps.ofBits .f32 0#32) w g z y (ix2 i j)
      = x (ix2 i j) + z (ix2 0 j) * k0_pay19 a u (FloatOps.ofBits .f32 0#32) w g (ix2 i j) - y (ix2 i j) := by
  pointwise [k0_pay20]

theorem pay24_at (d : FVec Ideal S256x1024 .f32) (i : Fin 256) (j : Fin 1024) : k0_pay24 d (ix2 i j) = d (ix2 i j) * cGrad := by
  pointwise [k0_pay24]

theorem pay25_at (p d : FVec Ideal S256x1024 .f32) (b : Vec Ideal S1x1024 .f32) (j : Fin 1024) :
    k0_pay25 p d b (ix2 0 j) = b (ix2 0 j) + ∑ i, d (ix2 i j) * cGrad * p (ix2 i j) := by
  pointwise [k0_pay25, pay24_at]

theorem pay26_at (d : FVec Ideal S256x1024 .f32) (z : Vec Ideal S1x1024 .f32) (i : Fin 256) (j : Fin 1024) :
    k0_pay26 d z (ix2 i j) = d (ix2 i j) * cGrad * z (ix2 0 j) := by
  pointwise [k0_pay26, pay24_at]

theorem pay27_at (h d : FVec Ideal S256x1024 .f32) (z b : Vec Ideal S1x1024 .f32) (j : Fin 1024) :
    k0_pay27 h d z b (ix2 0 j) = b (ix2 0 j) + ∑ i, d (ix2 i j) * cGrad * z (ix2 0 j) * h (ix2 i j) := by
  pointwise [k0_pay27, pay26_at]

theorem pay28_at (h d : FVec Ideal S256x1024 .f32) (z g : Vec Ideal S1x1024 .f32) (i : Fin 256) (j : Fin 1024) :
    k0_pay28 h d z g (ix2 i j) = d (ix2 i j) * cGrad * z (ix2 0 j) * g (ix2 0 j)
      - h (ix2 i j) * Ideal.div (∑ k, d (ix2 i k) * cGrad * z (ix2 0 k) * g (ix2 0 k) * h (ix2 i k)) (Ideal.ofBits .f32 0x44800000#32) := by
  pointwise [k0_pay28, pay26_at]

theorem pay29_at (r : FVec Ideal S256x1 .f32) (d : FVec Ideal S256x1024 .f32) (i : Fin 256) (j : Fin 1024) :
    k0_pay29 r d (ix2 i j) = r (ix2 i 0) * d (ix2 i j) := by
  pointwise [k0_pay29]

theorem pay30_at (r : FVec Ideal S256x1 .f32) (d : FVec Ideal S256x1024 .f32) (w : Vec Ideal S2816x1024 .bf16) (i : Fin 256) (q : Fin 2816) :
    k0_pay30 r d w (ix2 i q) = ∑ k, r (ix2 i 0) * d (ix2 i k) * w (ix2 q k) := by
  pointwise [k0_pay30, pay29_at]

theorem pay31_at (s : FVec Ideal S256x2816 .f32) (r : FVec Ideal S256x1 .f32) (d : FVec Ideal S256x1024 .f32) (w : Vec Ideal S2816x1024 .bf16)
    (i : Fin 256) (q : Fin 2816) :
    k0_pay31 s r d w (ix2 i q) = k0_pay30 r d w (ix2 i q) * s (ix2 i q) := by
  pointwise [k0_pay31]

theorem pay32_at (a u s : FVec Ideal S256x2816 .f32) (r : FVec Ideal S256x1 .f32) (d : FVec Ideal S256x1024 .f32) (w : Vec Ideal S2816x1024 .bf16)
    (i : Fin 256) (q : Fin 2816) :
    k0_pay32 a u s r d w (ix2 i q)
      = k0_pay30 r d w (ix2 i q) * u (ix2 i q) * (s (ix2 i q) * (1 + a (ix2 i q) * (1 - s (ix2 i q)))) := by
  pointwise [k0_pay32]

theorem pay33_at (a u s z : FVec Ideal S256x2816 .f32) (r : FVec Ideal S256x1 .f32) (d : FVec Ideal S256x1024 .f32) (w wg wu : Vec Ideal S2816x1024 .bf16)
    (i : Fin 256) (j : Fin 1024) :
    k0_pay33 a u s z r d w wg wu (ix2 i j)
      = ∑ q, k0_pay32 a u s r d w (ix2 i q) * wg (ix2 q j) + ∑ q, k0_pay31 z r d w (ix2 i q) * wu (ix2 q j) := by
  pointwise [k0_pay33]

theorem pay34_at (n : FVec Ideal S256x1024 .f32) (a u s z : FVec Ideal S256x2816 .f32) (r : FVec Ideal S256x1 .f32) (d : FVec Ideal S256x1024 .f32)
    (w wg wu : Vec Ideal S2816x1024 .bf16) (b : Vec Ideal S1x1024 .f32) (j : Fin 1024) :
    k0_pay34 n a u s z r d w wg wu b (ix2 0 j) = b (ix2 0 j) + ∑ i, k0_pay33 a u s z r d w wg wu (ix2 i j) * n (ix2 i j) := by
  pointwise [k0_pay34]

theorem pay1_at (d : FVec Ideal S256x1024 .f32) (b : Vec Ideal S1x1024 .f32) (j : Fin 1024) :
    k0_pay1 d b (ix2 0 j) = b (ix2 0 j) + ∑ i, d (ix2 i j) := by
  pointwise [k0_pay1]

theorem pay2_at (d : FVec Ideal S256x1024 .f32) (s : Vec Ideal S1x1024 .f32) (i : Fin 256) (j : Fin 1024) :
    k0_pay2 d s (ix2 i j) = d (ix2 i j) * (1 + s (ix2 0 j)) := by
  pointwise [k0_pay2]

theorem pay3_at (h d : FVec Ideal S256x1024 .f32) (s b : Vec Ideal S1x1024 .f32) (j : Fin 1024) :
    k0_pay3 h d s b (ix2 0 j) = b (ix2 0 j) + ∑ i, d (ix2 i j) * (1 + s (ix2 0 j)) * h (ix2 i j) := by
  pointwise [k0_pay3, pay2_at]

theorem pay4_at (x : Vec Ideal S256x1024 .f32) (h y d : FVec Ideal S256x1024 .f32) (s g : Vec Ideal S1x1024 .f32) (i : Fin 256) (j : Fin 1024) :
    k0_pay4 (k0_pay7 x) h y d s g (ix2 i j)
      = y (ix2 i j) + (invE fun k => x (ix2 i k)) * (d (ix2 i j) * (1 + s (ix2 0 j)) * g (ix2 0 j)
        - h (ix2 i j) * Ideal.div (∑ k, d (ix2 i k) * (1 + s (ix2 0 k)) * g (ix2 0 k) * h (ix2 i k)) (Ideal.ofBits .f32 0x44800000#32)) := by
  pointwise [k0_pay4, k0_pay7, pay2_at]
  rfl

theorem pay5_at (i : Fin 8) (j : Fin 1024) : k0_pay5 (F := Ideal) (ix2 i j) = 0 := by
  pointwise [k0_pay5]

theorem pay6_at (i : Fin 8) (j : Fin 128) : k0_pay6 (F := Ideal) (ix2 i j) = 0 := by
  pointwise [k0_pay6]

/-- A tile of the loss: what it held, and the rows' squares summed. -/
theorem pay23_at (x : Vec Ideal S256x1024 .f32) (a u : FVec Ideal S256x2816 .f32) (w : Vec Ideal S2816x1024 .bf16) (g z : Vec Ideal S1x1024 .f32)
    (y : Vec Ideal S256x1024 .f32) (b : Vec Ideal S8x128 .f32) (r : Fin 8) (l : Fin 128) :
    k0_pay23 (k0_pay21 b) (k0_pay22 x a u (FloatOps.ofBits .f32 0#32) w g z y) (ix2 r l)
      = b (ix2 r l) + (∑ i, ∑ j, k0_pay20 x a u (FloatOps.ofBits .f32 0#32) w g z y (ix2 i j)
        * k0_pay20 x a u (FloatOps.ofBits .f32 0#32) w g z y (ix2 i j)) * cLoss := by
  pointwise [k0_pay23, k0_pay21, k0_pay22]

/-! ## What the calls of the body compute, over all the rows -/

/-- The normalised rows, and with their gain. -/
def XH (c : Dev nD) (i : Fin 8192) (j : Fin 1024) : EReal := X m c (ix2 i j) * invE fun k => X m c (ix2 i k)
def HN (c : Dev nD) (i : Fin 8192) (j : Fin 1024) : EReal := XH m c i j * Gn m c (ix2 2 j)
/-- The modulated rows, the projections and the hidden rows. -/
def H (c : Dev nD) (i : Fin 8192) (j : Fin 1024) : EReal := HN m c i j * (1 + Md m c (ix2 4 j)) + Md m c (ix2 3 j)
def GA (c : Dev nD) (i : Fin 8192) (q : Fin 2816) : EReal := ∑ k, H m c i k * Wg m c (ix2 k q)
def UP (c : Dev nD) (i : Fin 8192) (q : Fin 2816) : EReal := ∑ k, H m c i k * Wu m c (ix2 k q)
def HID (c : Dev nD) (i : Fin 8192) (q : Fin 2816) : EReal := GA m c i q * sigm (GA m c i q) * UP m c i q
def FF (c : Dev nD) (i : Fin 8192) (j : Fin 1024) : EReal := ∑ q, HID m c i q * Wd m c (ix2 q j)
/-- The output's normalised rows, its error, and the error's gradient. -/
def FH (c : Dev nD) (i : Fin 8192) (j : Fin 1024) : EReal := FF m c i j * invE fun k => FF m c i k
def FN (c : Dev nD) (i : Fin 8192) (j : Fin 1024) : EReal := FH m c i j * Gn m c (ix2 3 j)
def DIFF (c : Dev nD) (i : Fin 8192) (j : Fin 1024) : EReal := X m c (ix2 i j) + Md m c (ix2 5 j) * FN m c i j - Tg m c (ix2 i j)
def DY (c : Dev nD) (i : Fin 8192) (j : Fin 1024) : EReal := DIFF m c i j * cGrad
def DF (c : Dev nD) (i : Fin 8192) (j : Fin 1024) : EReal := DY m c i j * Md m c (ix2 5 j)
def DN (c : Dev nD) (i : Fin 8192) (j : Fin 1024) : EReal :=
  DF m c i j * Gn m c (ix2 3 j) - FH m c i j * Ideal.div (∑ k, DF m c i k * Gn m c (ix2 3 k) * FH m c i k) (Ideal.ofBits .f32 0x44800000#32)
def DFF (c : Dev nD) (i : Fin 8192) (j : Fin 1024) : EReal := (invE fun k => FF m c i k) * DN m c i j
/-- The gradients of the hidden rows and of both projections. -/
def DHID (c : Dev nD) (i : Fin 8192) (q : Fin 2816) : EReal := ∑ k, DFF m c i k * Wd m c (ix2 q k)
def DU (c : Dev nD) (i : Fin 8192) (q : Fin 2816) : EReal := DHID m c i q * (GA m c i q * sigm (GA m c i q))
def DA (c : Dev nD) (i : Fin 8192) (q : Fin 2816) : EReal :=
  DHID m c i q * UP m c i q * (sigm (GA m c i q) * (1 + GA m c i q * (1 - sigm (GA m c i q))))
/-- The gradient of the modulated rows, of the normalised ones and of the rows. -/
def DH (c : Dev nD) (i : Fin 8192) (j : Fin 1024) : EReal := ∑ q, DA m c i q * Wg m c (ix2 j q) + ∑ q, DU m c i q * Wu m c (ix2 j q)
def DX (c : Dev nD) (i : Fin 8192) (j : Fin 1024) : EReal :=
  DY m c i j + (invE fun k => X m c (ix2 i k)) * (DH m c i j * (1 + Md m c (ix2 4 j)) * Gn m c (ix2 2 j)
    - XH m c i j * Ideal.div (∑ k, DH m c i k * (1 + Md m c (ix2 4 k)) * Gn m c (ix2 2 k) * XH m c i k) (Ideal.ofBits .f32 0x44800000#32))

/-! ## The same at a point -/

abbrev bA (c : Dev nD) (t : Fin cfg0.N) : FVec Ideal S256x2816 .f32 :=
  k0_pay11 (iblk m c 0 t) (ldp m c t 8 inb_S16x1024_S1x1024_8_0) (ldp m c t 4 inb_S16x1024_S1x1024_4_0) (ldp m c t 3 inb_S16x1024_S1x1024_3_0)
    (V m c main_v3)
abbrev bU (c : Dev nD) (t : Fin cfg0.N) : FVec Ideal S256x2816 .f32 :=
  k0_pay12 (iblk m c 0 t) (ldp m c t 8 inb_S16x1024_S1x1024_8_0) (ldp m c t 4 inb_S16x1024_S1x1024_4_0) (ldp m c t 3 inb_S16x1024_S1x1024_3_0)
    (V m c main_v5)
abbrev bS (c : Dev nD) (t : Fin cfg0.N) : FVec Ideal S256x2816 .f32 := k0_pay13 (bA m c t) (FloatOps.ofBits .f32 0#32)
abbrev bZ (c : Dev nD) (t : Fin cfg0.N) : FVec Ideal S256x2816 .f32 := k0_pay14 (bA m c t) (FloatOps.ofBits .f32 0#32)
abbrev bF (c : Dev nD) (t : Fin cfg0.N) : FVec Ideal S256x1024 .f32 := k0_pay16 (bA m c t) (bU m c t) (FloatOps.ofBits .f32 0#32) (V m c main_v6)
abbrev bR (c : Dev nD) (t : Fin cfg0.N) : FVec Ideal S256x1 .f32 := k0_pay17 (bA m c t) (bU m c t) (FloatOps.ofBits .f32 0#32) (V m c main_v6)
abbrev bH (c : Dev nD) (t : Fin cfg0.N) : FVec Ideal S256x1024 .f32 := k0_pay18 (bA m c t) (bU m c t) (FloatOps.ofBits .f32 0#32) (V m c main_v6)
abbrev bN (c : Dev nD) (t : Fin cfg0.N) : FVec Ideal S256x1024 .f32 :=
  k0_pay19 (bA m c t) (bU m c t) (FloatOps.ofBits .f32 0#32) (V m c main_v6) (ldp m c t 9 inb_S16x1024_S1x1024_9_0)
abbrev bE (c : Dev nD) (t : Fin cfg0.N) : FVec Ideal S256x1024 .f32 :=
  k0_pay20 (iblk m c 0 t) (bA m c t) (bU m c t) (FloatOps.ofBits .f32 0#32) (V m c main_v6) (ldp m c t 9 inb_S16x1024_S1x1024_9_0)
    (ldp m c t 5 inb_S16x1024_S1x1024_5_0) (iblk m c 1 t)
abbrev bD (c : Dev nD) (t : Fin cfg0.N) : FVec Ideal S256x1024 .f32 :=
  k0_pay28 (bH m c t) (bE m c t) (ldp m c t 5 inb_S16x1024_S1x1024_5_0) (ldp m c t 9 inb_S16x1024_S1x1024_9_0)
abbrev bG (c : Dev nD) (t : Fin cfg0.N) : FVec Ideal S256x1024 .f32 :=
  k0_pay33 (bA m c t) (bU m c t) (bS m c t) (bZ m c t) (bR m c t) (bD m c t) (V m c main_v6) (V m c main_v3) (V m c main_v5)

variable (c : Dev nD) (t : Fin cfg0.N) (i : Fin 256) (j : Fin 1024) (q : Fin 2816)

theorem bX_at : k0_pay8 (iblk m c 0 t) (ix2 i j) = XH m c (row t i) j := by
  refine (pay8_at _ i j).trans ?_
  simp only [blk0]
  rfl

theorem bX2_at : k0_pay9 (iblk m c 0 t) (ldp m c t 8 inb_S16x1024_S1x1024_8_0) (ix2 i j) = HN m c (row t i) j := by
  refine (pay9_at _ _ i j).trans ?_
  rw [bX_at, p8]
  rfl

theorem bM_at : k0_pay10 (iblk m c 0 t) (ldp m c t 8 inb_S16x1024_S1x1024_8_0) (ldp m c t 4 inb_S16x1024_S1x1024_4_0)
    (ldp m c t 3 inb_S16x1024_S1x1024_3_0) (ix2 i j) = H m c (row t i) j := by
  refine (pay10_at _ _ _ _ i j).trans ?_
  rw [bX2_at, p4, p3]
  rfl

theorem bA_at : bA m c t (ix2 i q) = GA m c (row t i) q :=
  (pay11_at _ _ _ _ _ i q).trans (Finset.sum_congr rfl fun k _ => congrArg₂ (· * ·) (bM_at m c t i k) (ent_gate m c q k))

theorem bU_at : bU m c t (ix2 i q) = UP m c (row t i) q :=
  (pay12_at _ _ _ _ _ i q).trans (Finset.sum_congr rfl fun k _ => congrArg₂ (· * ·) (bM_at m c t i k) (ent_up m c q k))

theorem bS_at : bS m c t (ix2 i q) = sigm (GA m c (row t i) q) := (pay13_at _ i q).trans (congrArg sigm (bA_at m c t i q))

theorem bZ_at : bZ m c t (ix2 i q) = GA m c (row t i) q * sigm (GA m c (row t i) q) := by
  refine (pay14_at _ i q).trans ?_
  rw [bA_at]

theorem bI_at : k0_pay15 (bA m c t) (bU m c t) (FloatOps.ofBits .f32 0#32) (ix2 i q) = HID m c (row t i) q := by
  refine (pay15_at _ _ i q).trans ?_
  rw [bA_at, bU_at]
  rfl

theorem bF_at : bF m c t (ix2 i j) = FF m c (row t i) j := by
  refine (pay16_at _ _ _ i j).trans (Finset.sum_congr rfl fun q _ => congrArg₂ (· * ·) ?_ (ent_down m c q j))
  rw [bA_at, bU_at]
  rfl

theorem bR_at : bR m c t (ix2 i 0) = invE fun k => FF m c (row t i) k :=
  (pay17_at _ _ _ i).trans (congrArg invE (funext fun k => bF_at m c t i k))

theorem bH_at : bH m c t (ix2 i j) = FH m c (row t i) j :=
  (pay18_at _ _ _ i j).trans (congrArg₂ (· * ·) (bF_at m c t i j) (bR_at m c t i))

theorem bN_at : bN m c t (ix2 i j) = FN m c (row t i) j :=
  (pay19_at _ _ _ _ i j).trans (congrArg₂ (· * ·) (bH_at m c t i j) (p9 m c t j))

theorem bE_at : bE m c t (ix2 i j) = DIFF m c (row t i) j :=
  (pay20_at _ _ _ _ _ _ _ i j).trans (congrArg₂ (· - ·)
    (congrArg₂ (· + ·) (blk0 m c t i j) (congrArg₂ (· * ·) (p5 m c t j) (bN_at m c t i j))) (blk1 m c t i j))

theorem bY_at : k0_pay24 (bE m c t) (ix2 i j) = DY m c (row t i) j :=
  (pay24_at _ i j).trans (congrArg (· * cGrad) (bE_at m c t i j))

theorem bD_at : bD m c t (ix2 i j) = DN m c (row t i) j := by
  refine (pay28_at _ _ _ _ i j).trans ?_
  refine congrArg₂ (· - ·) ?_ (congrArg₂ (· * ·) (bH_at m c t i j) (congrArg (fun s => Ideal.div s _) (Finset.sum_congr rfl fun k _ => ?_)))
  · rw [bE_at, p5, p9]; rfl
  · rw [bE_at, p5, p9, bH_at]; rfl

theorem bFF_at : k0_pay29 (bR m c t) (bD m c t) (ix2 i j) = DFF m c (row t i) j :=
  (pay29_at _ _ i j).trans (congrArg₂ (· * ·) (bR_at m c t i) (bD_at m c t i j))

theorem bHid_at : k0_pay30 (bR m c t) (bD m c t) (V m c main_v6) (ix2 i q) = DHID m c (row t i) q := by
  refine (pay30_at _ _ _ i q).trans (Finset.sum_congr rfl fun k _ => congrArg₂ (· * ·) ?_ (ent_down m c q k))
  rw [bR_at, bD_at]
  rfl

theorem bDu_at : k0_pay31 (bZ m c t) (bR m c t) (bD m c t) (V m c main_v6) (ix2 i q) = DU m c (row t i) q :=
  (pay31_at _ _ _ _ i q).trans (congrArg₂ (· * ·) (bHid_at m c t i q) (bZ_at m c t i q))

theorem bDa_at : k0_pay32 (bA m c t) (bU m c t) (bS m c t) (bR m c t) (bD m c t) (V m c main_v6) (ix2 i q) = DA m c (row t i) q := by
  refine (pay32_at _ _ _ _ _ _ i q).trans ?_
  rw [bHid_at, bU_at, bS_at, bA_at]
  rfl

theorem bG_at : bG m c t (ix2 i j) = DH m c (row t i) j :=
  (pay33_at _ _ _ _ _ _ _ _ _ i j).trans (congrArg₂ (· + ·)
    (Finset.sum_congr rfl fun q _ => congrArg₂ (· * ·) (bDa_at m c t i q) (ent_gate m c q j))
    (Finset.sum_congr rfl fun q _ => congrArg₂ (· * ·) (bDu_at m c t i q) (ent_up m c q j)))

theorem bDx_at : k0_pay4 (k0_pay7 (iblk m c 0 t)) (k0_pay8 (iblk m c 0 t)) (k0_pay24 (bE m c t)) (bG m c t)
    (ldp m c t 4 inb_S16x1024_S1x1024_4_0) (ldp m c t 8 inb_S16x1024_S1x1024_8_0) (ix2 i j) = DX m c (row t i) j := by
  refine (pay4_at _ _ _ _ _ _ i j).trans ?_
  refine congrArg₂ (· + ·) (bY_at m c t i j) (congrArg₂ (· * ·) (congrArg invE (funext fun k => blk0 m c t i k)) ?_)
  refine congrArg₂ (· - ·) ?_ (congrArg₂ (· * ·) (bX_at m c t i j) (congrArg (fun s => Ideal.div s _) (Finset.sum_congr rfl fun k _ => ?_)))
  · rw [bG_at, p4, p8]
  · rw [bG_at, p4, p8, bX_at]

end Cert.FfnBwdIdeal.Val

end
-- ==== Proof.Ffn.Results.lean ====
/- What the feed-forward gradient kernel leaves in its results. -/
module

public import proofs.«01_k».proof.Proof.Ffn.Value

@[expose] public section

set_option maxRecDepth 16384

noncomputable section

open Idealize.ShloMosaic Idealize.ShloMosaic.TcCoe Idealize.SL.Sem
open Idealize.ShloMosaic.Pipeline (Dat)

namespace Cert.FfnBwdIdeal.Val

open Cert.FfnBwdIdeal Cert.FfnBwdIdeal.Gen Cert.RowPieces Cert.RealArith

variable (m : (ℓ : Loc nD τ sig) → Buf (Elt Ideal) ℓ)

variable (m : (ℓ : Loc nD τ sig) → Buf (Elt Ideal) ℓ)
variable (c : Dev nD) (t : Fin cfg0.N) (i : Fin 256) (j : Fin 1024) (q : Fin 2816)

theorem pt3 : (outsAt0 m c t.val t.isLt).1 (ix2 i j) = DX m c (row t i) j := by
  by_cases h : t.val % 32 = 0
  · rw [outsAt0_A m c t h]
    frame_out
    rw [rd0, rd1, rd2]
    exact bDx_at m c t i j
  · rw [outsAt0_B m c t h]
    frame_out
    rw [kp0, kp1, kp2]
    exact bDx_at m c t i j

theorem pt4 : (outsAt0 m c t.val t.isLt).2.1 (ix2 i j) = H m c (row t i) j := by
  by_cases h : t.val % 32 = 0
  · rw [outsAt0_A m c t h]
    frame_out
    exact bM_at m c t i j
  · rw [outsAt0_B m c t h]
    frame_out
    exact bM_at m c t i j

theorem pt5 : (outsAt0 m c t.val t.isLt).2.2.1 (ix2 i q) = HID m c (row t i) q := by
  by_cases h : t.val % 32 = 0
  · rw [outsAt0_A m c t h]
    frame_out
    rw [rd0, rd1]
    exact bI_at m c t i q
  · rw [outsAt0_B m c t h]
    frame_out
    rw [kp0, kp1]
    exact bI_at m c t i q

theorem pt6 : (outsAt0 m c t.val t.isLt).2.2.2.1 (ix2 i q) = DA m c (row t i) q := by
  by_cases h : t.val % 32 = 0
  · rw [outsAt0_A m c t h]
    frame_out
    rw [rd0, rd1, rd2]
    exact bDa_at m c t i q
  · rw [outsAt0_B m c t h]
    frame_out
    rw [kp0, kp1, kp2]
    exact bDa_at m c t i q

theorem pt7 : (outsAt0 m c t.val t.isLt).2.2.2.2.1 (ix2 i q) = DU m c (row t i) q := by
  by_cases h : t.val % 32 = 0
  · rw [outsAt0_A m c t h]
    frame_out
    rw [rd0, rd1, rd2]
    exact bDu_at m c t i q
  · rw [outsAt0_B m c t h]
    frame_out
    rw [kp0, kp1, kp2]
    exact bDu_at m c t i q

theorem pt8 : (outsAt0 m c t.val t.isLt).2.2.2.2.2.1 (ix2 i j) = DFF m c (row t i) j := by
  by_cases h : t.val % 32 = 0
  · rw [outsAt0_A m c t h]
    frame_out
    rw [rd0, rd1, rd2]
    exact bFF_at m c t i j
  · rw [outsAt0_B m c t h]
    frame_out
    rw [kp0, kp1, kp2]
    exact bFF_at m c t i j

theorem final3 (c : Dev nD) : (dats m 0 c).arrAt 3 cfg0.N = (fun q => DX m c (q 0) (q 1) : FVec Ideal S8192x1024 .f32) := by
  refine (dats m 0 c).arrAt_eq_of_covers 3 _ (by decide +kernel) fun t hf y => ?_
  blk_simp
  rw [after0_3]
  refine (congrArg _ (ix2_eta y).symm).trans ((pt3 m c t _ _).trans ?_)
  have e : (win0_3.blk t).view.emb y = ix2 (row t (y 0)) (y 1) := by
    refine ix2_of ?_ ?_
    · show win0_3.index t 0 * 256 + 1 * (y 0).val = t.val * 256 + (y 0).val
      simp [idx t]
    · show win0_3.index t 1 * 1024 + 1 * (y 1).val = (y 1).val
      simp [idx t]
  exact at_ix2 (DX m c) e

theorem final4 (c : Dev nD) : (dats m 0 c).arrAt 4 cfg0.N = (fun q => H m c (q 0) (q 1) : FVec Ideal S8192x1024 .bf16) := by
  refine (dats m 0 c).arrAt_eq_of_covers 4 _ (by decide +kernel) fun t hf y => ?_
  blk_simp
  rw [after0_4]
  refine (congrArg _ (ix2_eta y).symm).trans ((pt4 m c t _ _).trans ?_)
  have e : (win0_4.blk t).view.emb y = ix2 (row t (y 0)) (y 1) := by
    refine ix2_of ?_ ?_
    · show win0_4.index t 0 * 256 + 1 * (y 0).val = t.val * 256 + (y 0).val
      simp [idx t]
    · show win0_4.index t 1 * 1024 + 1 * (y 1).val = (y 1).val
      simp [idx t]
  exact at_ix2 (H m c) e

theorem final5 (c : Dev nD) : (dats m 0 c).arrAt 5 cfg0.N = (fun q => HID m c (q 0) (q 1) : FVec Ideal S8192x2816 .bf16) := by
  refine (dats m 0 c).arrAt_eq_of_covers 5 _ (by decide +kernel) fun t hf y => ?_
  blk_simp
  rw [after0_5]
  refine (congrArg _ (ix2_eta y).symm).trans ((pt5 m c t _ _).trans ?_)
  have e : (win0_5.blk t).view.emb y = ix2 (row t (y 0)) (y 1) := by
    refine ix2_of ?_ ?_
    · show win0_5.index t 0 * 256 + 1 * (y 0).val = t.val * 256 + (y 0).val
      simp [idx t]
    · show win0_5.index t 1 * 2816 + 1 * (y 1).val = (y 1).val
      simp [idx t]
  exact at_ix2 (HID m c) e

theorem final6 (c : Dev nD) : (dats m 0 c).arrAt 6 cfg0.N = (fun q => DA m c (q 0) (q 1) : FVec Ideal S8192x2816 .bf16) := by
  refine (dats m 0 c).arrAt_eq_of_covers 6 _ (by decide +kernel) fun t hf y => ?_
  blk_simp
  rw [after0_6]
  refine (congrArg _ (ix2_eta y).symm).trans ((pt6 m c t _ _).trans ?_)
  have e : (win0_6.blk t).view.emb y = ix2 (row t (y 0)) (y 1) := by
    refine ix2_of ?_ ?_
    · show win0_6.index t 0 * 256 + 1 * (y 0).val = t.val * 256 + (y 0).val
      simp [idx t]
    · show win0_6.index t 1 * 2816 + 1 * (y 1).val = (y 1).val
      simp [idx t]
  exact at_ix2 (DA m c) e

theorem final7 (c : Dev nD) : (dats m 0 c).arrAt 7 cfg0.N = (fun q => DU m c (q 0) (q 1) : FVec Ideal S8192x2816 .bf16) := by
  refine (dats m 0 c).arrAt_eq_of_covers 7 _ (by decide +kernel) fun t hf y => ?_
  blk_simp
  rw [after0_7]
  refine (congrArg _ (ix2_eta y).symm).trans ((pt7 m c t _ _).trans ?_)
  have e : (win0_7.blk t).view.emb y = ix2 (row t (y 0)) (y 1) := by
    refine ix2_of ?_ ?_
    · show win0_7.index t 0 * 256 + 1 * (y 0).val = t.val * 256 + (y 0).val
      simp [idx t]
    · show win0_7.index t 1 * 2816 + 1 * (y 1).val = (y 1).val
      simp [idx t]
  exact at_ix2 (DU m c) e

theorem final8 (c : Dev nD) : (dats m 0 c).arrAt 8 cfg0.N = (fun q => DFF m c (q 0) (q 1) : FVec Ideal S8192x1024 .bf16) := by
  refine (dats m 0 c).arrAt_eq_of_covers 8 _ (by decide +kernel) fun t hf y => ?_
  blk_simp
  rw [after0_8]
  refine (congrArg _ (ix2_eta y).symm).trans ((pt8 m c t _ _).trans ?_)
  have e : (win0_8.blk t).view.emb y = ix2 (row t (y 0)) (y 1) := by
    refine ix2_of ?_ ?_
    · show win0_8.index t 0 * 256 + 1 * (y 0).val = t.val * 256 + (y 0).val
      simp [idx t]
    · show win0_8.index t 1 * 1024 + 1 * (y 1).val = (y 1).val
      simp [idx t]
  exact at_ix2 (DFF m c) e

/-! ## The sums over the rows -/

/-- What row `i` adds to entry (r, j) of the sums. -/
def add9 (c : Dev nD) (r : Fin 8) (j : Fin 1024) (i : Fin 8192) : EReal :=
  if r.val = 4 then DH m c i j * (1 + Md m c (ix2 4 j)) * XH m c i j
  else if r.val = 3 then DH m c i j
  else if r.val = 2 then DH m c i j * HN m c i j
  else if r.val = 1 then DF m c i j * FH m c i j
  else if r.val = 0 then DY m c i j * FN m c i j
  else 0

theorem row4 (b : Vec Ideal S1x1024 .f32) :
    k0_pay3 (k0_pay8 (iblk m c 0 t)) (bG m c t) (ldp m c t 4 inb_S16x1024_S1x1024_4_0) b (ix2 0 j) = b (ix2 0 j) + ∑ i, add9 m c 4 j (row t i) :=
  (pay3_at _ _ _ b j).trans (congrArg (b (ix2 0 j) + ·) (Finset.sum_congr rfl fun i _ => by
    rw [bG_at, bX_at, p4]; exact (if_pos rfl).symm))

theorem row3 (b : Vec Ideal S1x1024 .f32) : k0_pay1 (bG m c t) b (ix2 0 j) = b (ix2 0 j) + ∑ i, add9 m c 3 j (row t i) :=
  (pay1_at _ b j).trans (congrArg (b (ix2 0 j) + ·) (Finset.sum_congr rfl fun i _ => by
    rw [bG_at]; exact ((if_neg (by decide)).trans (if_pos rfl)).symm))

theorem row2 (b : Vec Ideal S1x1024 .f32) :
    k0_pay34 (k0_pay9 (iblk m c 0 t) (ldp m c t 8 inb_S16x1024_S1x1024_8_0)) (bA m c t) (bU m c t) (bS m c t) (bZ m c t) (bR m c t) (bD m c t)
      (V m c main_v6) (V m c main_v3) (V m c main_v5) b (ix2 0 j) = b (ix2 0 j) + ∑ i, add9 m c 2 j (row t i) :=
  (pay34_at _ _ _ _ _ _ _ _ _ _ b j).trans (congrArg (b (ix2 0 j) + ·) (Finset.sum_congr rfl fun i _ => by
    exact (congrArg₂ (· * ·) (bG_at m c t i j) (bX2_at m c t i j)).trans ((if_neg (by decide)).trans ((if_neg (by decide)).trans (if_pos rfl))).symm))

theorem row1 (b : Vec Ideal S1x1024 .f32) :
    k0_pay27 (bH m c t) (bE m c t) (ldp m c t 5 inb_S16x1024_S1x1024_5_0) b (ix2 0 j) = b (ix2 0 j) + ∑ i, add9 m c 1 j (row t i) :=
  (pay27_at _ _ _ b j).trans (congrArg (b (ix2 0 j) + ·) (Finset.sum_congr rfl fun i _ => by
    rw [bE_at, bH_at, p5]
    exact ((if_neg (by decide)).trans ((if_neg (by decide)).trans ((if_neg (by decide)).trans (if_pos rfl)))).symm))

theorem row0 (b : Vec Ideal S1x1024 .f32) : k0_pay25 (bN m c t) (bE m c t) b (ix2 0 j) = b (ix2 0 j) + ∑ i, add9 m c 0 j (row t i) :=
  (pay25_at _ _ b j).trans (congrArg (b (ix2 0 j) + ·) (Finset.sum_congr rfl fun i _ => by
    rw [bE_at, bN_at]
    exact ((if_neg (by decide)).trans ((if_neg (by decide)).trans ((if_neg (by decide)).trans ((if_neg (by decide)).trans (if_pos rfl))))).symm))

/-- The last point. -/
abbrev tEnd : Fin cfg0.N := ⟨31, by decide⟩

theorem row_rest (r : Fin 8) (h4 : ¬ r.val = 4) (h3 : ¬ r.val = 3) (h2 : ¬ r.val = 2) (h1 : ¬ r.val = 1) (h0 : ¬ r.val = 0) :
    ∑ i : Fin 256, add9 m c r j (row t i) = 0 :=
  Finset.sum_eq_zero fun i _ => by rw [add9, if_neg h4, if_neg h3, if_neg h2, if_neg h1, if_neg h0]

theorem pt9_A (h : t.val % 32 = 0) (r : Fin 8) : (outsAt0 m c t.val t.isLt).2.2.2.2.2.2.1 (ix2 r j) = 0 + ∑ i, add9 m c r j (row t i) := by
  rw [outsAt0_A m c t h]
  frame_out
  rw [rd0, rd1, rd2]
  rw [canon_row 4 inb_S8x1024_S1x1024_4_0, canon_row 3 inb_S8x1024_S1x1024_3_0, canon_row 2 inb_S8x1024_S1x1024_2_0,
    canon_row 1 inb_S8x1024_S1x1024_1_0, canon_row 0 inb_S8x1024_S1x1024_0_0, canon_whole inb_S8x1024_S8x1024_0_0]
  by_cases h4 : r.val = 4
  · obtain rfl : r = 4 := Fin.ext h4
    refine (if_pos rfl).trans ((row4 m c t j _).trans (congrArg (· + _) ?_))
    rw [readCov_row _ _ 4 inb_S8x1024_S1x1024_4_0 (by omega), canon_row 3 inb_S8x1024_S1x1024_3_0, canon_row 2 inb_S8x1024_S1x1024_2_0,
      canon_row 1 inb_S8x1024_S1x1024_1_0, canon_row 0 inb_S8x1024_S1x1024_0_0, canon_whole inb_S8x1024_S8x1024_0_0]
    exact (if_neg (show ¬ (4 : ℕ) = 3 by decide)).trans ((if_neg (show ¬ (4 : ℕ) = 2 by decide)).trans ((if_neg (show ¬ (4 : ℕ) = 1 by decide)).trans
      ((if_neg (show ¬ (4 : ℕ) = 0 by decide)).trans (pay5_at _ j))))
  rw [if_neg h4]
  by_cases h3 : r.val = 3
  · obtain rfl : r = 3 := Fin.ext h3
    refine (if_pos rfl).trans ((row3 m c t j _).trans (congrArg (· + _) ?_))
    rw [readCov_row _ _ 3 inb_S8x1024_S1x1024_3_0 (by omega), canon_row 2 inb_S8x1024_S1x1024_2_0,
      canon_row 1 inb_S8x1024_S1x1024_1_0, canon_row 0 inb_S8x1024_S1x1024_0_0, canon_whole inb_S8x1024_S8x1024_0_0]
    exact (if_neg (show ¬ (3 : ℕ) = 2 by decide)).trans ((if_neg (show ¬ (3 : ℕ) = 1 by decide)).trans
      ((if_neg (show ¬ (3 : ℕ) = 0 by decide)).trans (pay5_at _ j)))
  rw [if_neg h3]
  by_cases h2 : r.val = 2
  · obtain rfl : r = 2 := Fin.ext h2
    refine (if_pos rfl).trans ((row2 m c t j _).trans (congrArg (· + _) ?_))
    rw [readCov_row _ _ 2 inb_S8x1024_S1x1024_2_0 (by omega), canon_row 1 inb_S8x1024_S1x1024_1_0, canon_row 0 inb_S8x1024_S1x1024_0_0,
      canon_whole inb_S8x1024_S8x1024_0_0]
    exact (if_neg (show ¬ (2 : ℕ) = 1 by decide)).trans ((if_neg (show ¬ (2 : ℕ) = 0 by decide)).trans (pay5_at _ j))
  rw [if_neg h2]
  by_cases h1 : r.val = 1
  · obtain rfl : r = 1 := Fin.ext h1
    refine (if_pos rfl).trans ((row1 m c t j _).trans (congrArg (· + _) ?_))
    rw [readCov_row _ _ 1 inb_S8x1024_S1x1024_1_0 (by omega), canon_row 0 inb_S8x1024_S1x1024_0_0, canon_whole inb_S8x1024_S8x1024_0_0]
    exact (if_neg (show ¬ (1 : ℕ) = 0 by decide)).trans (pay5_at _ j)
  rw [if_neg h1]
  by_cases h0 : r.val = 0
  · obtain rfl : r = 0 := Fin.ext h0
    refine (if_pos rfl).trans ((row0 m c t j _).trans (congrArg (· + _) ?_))
    rw [readCov_row _ _ 0 inb_S8x1024_S1x1024_0_0 (by omega), canon_whole inb_S8x1024_S8x1024_0_0]
    exact pay5_at _ j
  rw [if_neg h0, row_rest m c t j r h4 h3 h2 h1 h0, add_zero]
  exact pay5_at _ j

theorem pt9_B (h : ¬ t.val % 32 = 0) (r : Fin 8) :
    (outsAt0 m c t.val t.isLt).2.2.2.2.2.2.1 (ix2 r j)
      = (outsAt0 m c (t.val - 1) (Nat.lt_of_le_of_lt (Nat.sub_le _ _) t.isLt)).2.2.2.2.2.2.1 (ix2 r j) + ∑ i, add9 m c r j (row t i) := by
  rw [outsAt0_B m c t h]
  frame_out
  rw [kp0, kp1, kp2]
  rw [writes_row _ _ 4 inb_S8x1024_S1x1024_4_0, writes_row _ _ 3 inb_S8x1024_S1x1024_3_0, writes_row _ _ 2 inb_S8x1024_S1x1024_2_0,
    writes_row _ _ 1 inb_S8x1024_S1x1024_1_0, writes_row _ _ 0 inb_S8x1024_S1x1024_0_0]
  by_cases h4 : r.val = 4
  · obtain rfl : r = 4 := Fin.ext h4
    exact (if_pos rfl).trans ((row4 m c t j _).trans (congrArg (· + _) (ld_row _ 4 inb_S8x1024_S1x1024_4_0 (by omega) j)))
  rw [if_neg h4]
  by_cases h3 : r.val = 3
  · obtain rfl : r = 3 := Fin.ext h3
    exact (if_pos rfl).trans ((row3 m c t j _).trans (congrArg (· + _) (ld_row _ 3 inb_S8x1024_S1x1024_3_0 (by omega) j)))
  rw [if_neg h3]
  by_cases h2 : r.val = 2
  · obtain rfl : r = 2 := Fin.ext h2
    exact (if_pos rfl).trans ((row2 m c t j _).trans (congrArg (· + _) (ld_row _ 2 inb_S8x1024_S1x1024_2_0 (by omega) j)))
  rw [if_neg h2]
  by_cases h1 : r.val = 1
  · obtain rfl : r = 1 := Fin.ext h1
    exact (if_pos rfl).trans ((row1 m c t j _).trans (congrArg (· + _) (ld_row _ 1 inb_S8x1024_S1x1024_1_0 (by omega) j)))
  rw [if_neg h1]
  by_cases h0 : r.val = 0
  · obtain rfl : r = 0 := Fin.ext h0
    exact (if_pos rfl).trans ((row0 m c t j _).trans (congrArg (· + _) (ld_row _ 0 inb_S8x1024_S1x1024_0_0 (by omega) j)))
  rw [if_neg h0, row_rest m c t j r h4 h3 h2 h1 h0, add_zero, View.writes_nil]
  exact congrFun ((hs0_9 t).read_unread _) _

/-- The rows of all the points are all the rows. -/
theorem sum_rows (f : Fin 8192 → EReal) : ∑ t : Fin cfg0.N, ∑ i : Fin 256, f (row t i) = ∑ i, f i := by
  refine (Fin.sum_points_lanes_congr (A := 1) (L := 8192) 32 (g := fun _ l => f l) (fun t k ha hl => ?_) N_0).trans (Fin.sum_univ_one _)
  refine congrArg f (Fin.ext ?_)
  show t.val * 256 + k.val = t.val % 32 * 256 + k.val
  rw [Nat.mod_eq_of_lt (lt32 t)]

theorem final9 (c : Dev nD) :
    (dats m 0 c).arrAt 9 cfg0.N = (fun q => ∑ i, add9 m c (q 0) (q 1) i : FVec Ideal S8x1024 .f32) := by
  refine (dats m 0 c).arrAt_eq_of_after_last 9 tEnd (by decide +kernel) _ fun q => ?_
  blk_simp
  rw [after0_9]
  have key := Pipeline.eq_sum_fin_of_reset_step_apply_last (fun n h => (outsAt0 m c n h).2.2.2.2.2.2.1) 32 (fun _ => 0)
    (fun t q => ∑ i, add9 m c (q 0) (q 1) (row t i))
    (fun t h q => by rw [show q = ix2 (q 0) (q 1) from (ix2_eta q).symm]; exact pt9_A m c t _ h _)
    (fun t h q => by rw [show q = ix2 (q 0) (q 1) from (ix2_eta q).symm]; exact pt9_B m c t _ h _) (le_of_eq N_0) tEnd rfl
  refine (key q).trans ?_
  rw [zero_add]
  exact sum_rows (add9 m c (q 0) (q 1))

/-! ## The loss -/

/-- What a point adds to every entry of the loss's tile. -/
def addL (c : Dev nD) (t : Fin cfg0.N) : EReal := (∑ i : Fin 256, ∑ j, DIFF m c (row t i) j * DIFF m c (row t i) j) * cLoss

theorem loss_at (b : Vec Ideal S8x128 .f32) (r : Fin 8) (l : Fin 128) :
    k0_pay23 (k0_pay21 b) (k0_pay22 (iblk m c 0 t) (bA m c t) (bU m c t) (FloatOps.ofBits .f32 0#32) (V m c main_v6)
      (ldp m c t 9 inb_S16x1024_S1x1024_9_0) (ldp m c t 5 inb_S16x1024_S1x1024_5_0) (iblk m c 1 t)) (ix2 r l) = b (ix2 r l) + addL m c t :=
  (pay23_at _ _ _ _ _ _ _ b r l).trans (congrArg (fun s => b (ix2 r l) + s * cLoss)
    (Finset.sum_congr rfl fun i _ => Finset.sum_congr rfl fun j _ => congrArg₂ (· * ·) (bE_at m c t i j) (bE_at m c t i j)))

theorem pt10_A (h : t.val % 32 = 0) (r : Fin 8) (l : Fin 128) : (outsAt0 m c t.val t.isLt).2.2.2.2.2.2.2.1 (ix2 r l) = 0 + addL m c t := by
  rw [outsAt0_A m c t h]
  frame_out
  rw [rd0, rd1, rd2]
  refine (loss_at m c t _ r l).trans (congrArg (· + _) ?_)
  exact pay6_at r l

theorem pt10_B (h : ¬ t.val % 32 = 0) (r : Fin 8) (l : Fin 128) :
    (outsAt0 m c t.val t.isLt).2.2.2.2.2.2.2.1 (ix2 r l)
      = (outsAt0 m c (t.val - 1) (Nat.lt_of_le_of_lt (Nat.sub_le _ _) t.isLt)).2.2.2.2.2.2.2.1 (ix2 r l) + addL m c t := by
  rw [outsAt0_B m c t h]
  frame_out
  rw [kp0, kp1, kp2]
  exact loss_at m c t _ r l

theorem final10 (c : Dev nD) : (dats m 0 c).arrAt 10 cfg0.N = (fun q => ∑ t, addL m c t : FVec Ideal S8x128 .f32) := by
  refine (dats m 0 c).arrAt_eq_of_after_last 10 tEnd (by decide +kernel) _ fun q => ?_
  blk_simp
  rw [after0_10]
  have key := Pipeline.eq_sum_fin_of_reset_step_apply_last (fun n h => (outsAt0 m c n h).2.2.2.2.2.2.2.1) 32 (fun _ => 0)
    (fun t q => addL m c t)
    (fun t h q => by rw [show q = ix2 (q 0) (q 1) from (ix2_eta q).symm]; exact pt10_A m c t h _ _)
    (fun t h q => by rw [show q = ix2 (q 0) (q 1) from (ix2_eta q).symm]; exact pt10_B m c t h _ _) (le_of_eq N_0) tEnd rfl
  refine (key q).trans ?_
  rw [zero_add]

end Cert.FfnBwdIdeal.Val

end
-- ==== Proof.Ffn.Reference.lean ====
module

public import proofs.«01_k».proof.Proof.Gen.FfnRefIdeal.Read
public import proofs.«01_k».proof.Proof.Ffn.Results

/-! The reference's results for the feed-forward layer at an index. -/

@[expose] public section

set_option maxRecDepth 16384

noncomputable section

namespace Cert.FfnRefIdeal.Val

open Idealize.ShloMosaic Idealize.ShloMosaic.TcCoe Idealize.SL.Sem Cert.FfnRefIdeal Cert.FfnRefIdeal.Read Cert.RealArith

variable (x0 x1 : FVec Ideal S8192x1024 .f32) (x2 : FVec Ideal S6x1024 .f32) (x3 : FVec Ideal S4x1024 .f32)
  (x4 x5 : FVec Ideal S1024x2816 .f32) (x6 : FVec Ideal S2816x1024 .f32)

theorem v18_at (i : Fin 8192) (j : Fin 1) : val_main_v18 (F := Ideal) x0 (ix2 i j)
    = Ideal.div (∑ k, x0 (ix2 i k) * x0 (ix2 i k)) (Ideal.ofBits .f32 0x44800000#32) + Ideal.ofBits .f32 0x358637BD#32 := by
  pointwise [val_main_v12, val_main_v13, val_main_v14, val_main_v15, val_main_v16, val_main_v17, val_main_v18, val_main_cst_1, val_main_cst_2, val_main_cst_3]

theorem v19_at (i : Fin 8192) (j : Fin 1) : val_main_v19 (F := Ideal) x0 (ix2 i j)
    = invE fun k => x0 (ix2 i k) := by
  pointwise [val_main_v19, v18_at]
  rfl

theorem v24_at (i : Fin 8192) (j : Fin 1024) : val_main_v24 (F := Ideal) x0 (ix2 i j)
    = x0 (ix2 i j) * invE fun k => x0 (ix2 i k) := by
  pointwise [val_main_v23, val_main_v24, v19_at]

theorem v27_at (i : Fin 8192) (j : Fin 1024) : val_main_v27 (F := Ideal) x0 x3 (ix2 i j)
    = (x0 (ix2 i j) * invE fun k => x0 (ix2 i k)) * x3 (ix2 2 j) := by
  pointwise [val_main_v7, val_main_v8, val_main_v25, val_main_v26, val_main_v27, v24_at]

theorem v35_at (i : Fin 8192) (j : Fin 1024) : val_main_v35 (F := Ideal) x0 x2 x3 (ix2 i j)
    = (x0 (ix2 i j) * invE fun k => x0 (ix2 i k)) * x3 (ix2 2 j) * (1 + x2 (ix2 4 j)) + x2 (ix2 3 j) := by
  pointwise [val_main_v1, val_main_v2, val_main_v3, val_main_v4, val_main_v28, val_main_v29, val_main_cst_5, val_main_v30, val_main_v31, val_main_v32, val_main_v33, val_main_v34, val_main_v35, v27_at]

theorem v37_at (i : Fin 8192) (q : Fin 2816) : val_main_v37 (F := Ideal) x0 x2 x3 x4 (ix2 i q)
    = ∑ k, val_main_v35 (F := Ideal) x0 x2 x3 (ix2 i k) * x4 (ix2 k q) := by
  pointwise [val_main_v36, val_main_v37, val_main_v0, val_main_cst]

theorem v40_at (i : Fin 8192) (q : Fin 2816) : val_main_v40 (F := Ideal) x0 x2 x3 x5 (ix2 i q)
    = ∑ k, val_main_v35 (F := Ideal) x0 x2 x3 (ix2 i k) * x5 (ix2 k q) := by
  pointwise [val_main_v39, val_main_v40, val_main_v0, val_main_cst]

theorem v38_2_at (i : Fin 8192) (q : Fin 2816) : val_main_v38_2 (F := Ideal) x0 x2 x3 x4 (ix2 i q)
    = sigm (val_main_v37 (F := Ideal) x0 x2 x3 x4 (ix2 i q)) := by
  pointwise [val_main_v38_2, val_main_call0_v0, val_main_call0_v1, val_main_call0_v2, val_main_call0_v3, val_main_call0_v4, val_main_call0_cst, val_main_call0_cst_0, sigm, zero_sub]

theorem v38_0_at (i : Fin 8192) (q : Fin 2816) : val_main_v38_0 (F := Ideal) x0 x2 x3 x4 (ix2 i q)
    = val_main_v37 (F := Ideal) x0 x2 x3 x4 (ix2 i q) * sigm (val_main_v37 (F := Ideal) x0 x2 x3 x4 (ix2 i q)) := by
  pointwise [val_main_v38_0, v38_2_at]

theorem v41_at (i : Fin 8192) (q : Fin 2816) : val_main_v41 (F := Ideal) x0 x2 x3 x4 x5 (ix2 i q)
    = val_main_v37 (F := Ideal) x0 x2 x3 x4 (ix2 i q) * sigm (val_main_v37 (F := Ideal) x0 x2 x3 x4 (ix2 i q)) * val_main_v40 (F := Ideal) x0 x2 x3 x5 (ix2 i q) := by
  pointwise [val_main_v41, v38_0_at]

theorem v43_at (i : Fin 8192) (j : Fin 1024) : val_main_v43 (F := Ideal) x0 x2 x3 x4 x5 x6 (ix2 i j)
    = ∑ q, val_main_v41 (F := Ideal) x0 x2 x3 x4 x5 (ix2 i q) * x6 (ix2 q j) := by
  pointwise [val_main_v42, val_main_v43, val_main_v11, val_main_cst_0]

theorem v51_at (i : Fin 8192) (j : Fin 1) : val_main_v51 (F := Ideal) x0 x2 x3 x4 x5 x6 (ix2 i j)
    = Ideal.div (∑ k, val_main_v43 (F := Ideal) x0 x2 x3 x4 x5 x6 (ix2 i k) * val_main_v43 (F := Ideal) x0 x2 x3 x4 x5 x6 (ix2 i k)) (Ideal.ofBits .f32 0x44800000#32) + Ideal.ofBits .f32 0x358637BD#32 := by
  pointwise [val_main_v45, val_main_v46, val_main_v47, val_main_v48, val_main_v49, val_main_v50, val_main_v51, val_main_cst_6, val_main_cst_7, val_main_cst_8]

theorem v52_at (i : Fin 8192) (j : Fin 1) : val_main_v52 (F := Ideal) x0 x2 x3 x4 x5 x6 (ix2 i j)
    = invE fun k => val_main_v43 (F := Ideal) x0 x2 x3 x4 x5 x6 (ix2 i k) := by
  pointwise [val_main_v52, v51_at]
  rfl

theorem v57_at (i : Fin 8192) (j : Fin 1024) : val_main_v57 (F := Ideal) x0 x2 x3 x4 x5 x6 (ix2 i j)
    = val_main_v43 (F := Ideal) x0 x2 x3 x4 x5 x6 (ix2 i j) * invE fun k => val_main_v43 (F := Ideal) x0 x2 x3 x4 x5 x6 (ix2 i k) := by
  pointwise [val_main_v56, val_main_v57, v52_at]

theorem v60_at (i : Fin 8192) (j : Fin 1024) : val_main_v60 (F := Ideal) x0 x2 x3 x4 x5 x6 (ix2 i j)
    = val_main_v57 (F := Ideal) x0 x2 x3 x4 x5 x6 (ix2 i j) * x3 (ix2 3 j) := by
  pointwise [val_main_v9, val_main_v10, val_main_v58, val_main_v59, val_main_v60]

theorem v64_at (i : Fin 8192) (j : Fin 1024) : val_main_v64 (F := Ideal) x0 x1 x2 x3 x4 x5 x6 (ix2 i j)
    = x0 (ix2 i j) + x2 (ix2 5 j) * val_main_v60 (F := Ideal) x0 x2 x3 x4 x5 x6 (ix2 i j) - x1 (ix2 i j) := by
  pointwise [val_main_v5, val_main_v6, val_main_v44, val_main_v61, val_main_v62, val_main_v63, val_main_v64]

theorem v78_at (i : Fin 8192) (j : Fin 1024) : val_main_v78 (F := Ideal) x0 x1 x2 x3 x4 x5 x6 (ix2 i j)
    = Ideal.div (Ideal.ofBits .f32 0x3F000000#32) (Ideal.ofBits .f32 0x44800000#32) * (Ideal.ofBits .f32 0x40000000#32 * val_main_v64 (F := Ideal) x0 x1 x2 x3 x4 x5 x6 (ix2 i j)) := by
  pointwise [val_main_v66, val_main_cst_10, val_main_v67, val_main_cst_15, val_main_cst_16, val_main_v73, val_main_v74, val_main_cst_17, val_main_v75, val_main_v76, val_main_v77, val_main_v78]

theorem v80_at (i : Fin 8192) (j : Fin 1024) : val_main_v80 (F := Ideal) x0 x1 x2 x3 x4 x5 x6 (ix2 i j)
    = x2 (ix2 5 j) * val_main_v78 (F := Ideal) x0 x1 x2 x3 x4 x5 x6 (ix2 i j) := by
  pointwise [val_main_v5, val_main_v6, val_main_v44, val_main_v79, val_main_v80]

theorem v88_at (i : Fin 8192) (j : Fin 1024) : val_main_v88 (F := Ideal) x0 x1 x2 x3 x4 x5 x6 (ix2 i j)
    = x2 (ix2 5 j) * val_main_v78 (F := Ideal) x0 x1 x2 x3 x4 x5 x6 (ix2 i j) * x3 (ix2 3 j) := by
  pointwise [v80_at, val_main_v9, val_main_v10, val_main_v58, val_main_v87, val_main_v88]

theorem v103_at (i : Fin 8192) (j : Fin 1024) : val_main_v103 (F := Ideal) x0 x1 x2 x3 x4 x5 x6 (ix2 i j)
    = val_main_v88 (F := Ideal) x0 x1 x2 x3 x4 x5 x6 (ix2 i j) * (invE fun k => val_main_v43 (F := Ideal) x0 x2 x3 x4 x5 x6 (ix2 i k)) + val_main_v43 (F := Ideal) x0 x2 x3 x4 x5 x6 (ix2 i j) * rootTerm (fun k => val_main_v43 (F := Ideal) x0 x2 x3 x4 x5 x6 (ix2 i k)) (∑ k, val_main_v43 (F := Ideal) x0 x2 x3 x4 x5 x6 (ix2 i k) * val_main_v88 (F := Ideal) x0 x1 x2 x3 x4 x5 x6 (ix2 i k))
      + rootTerm (fun k => val_main_v43 (F := Ideal) x0 x2 x3 x4 x5 x6 (ix2 i k)) (∑ k, val_main_v43 (F := Ideal) x0 x2 x3 x4 x5 x6 (ix2 i k) * val_main_v88 (F := Ideal) x0 x1 x2 x3 x4 x5 x6 (ix2 i k)) * val_main_v43 (F := Ideal) x0 x2 x3 x4 x5 x6 (ix2 i j) := by
  pointwise [v52_at, v51_at, val_main_v53, val_main_v54, val_main_v55, val_main_v90, val_main_v91, val_main_v92, val_main_v93, val_main_v94, val_main_v95, val_main_v96, val_main_v97, val_main_v98, val_main_v99, val_main_v100, val_main_v101, val_main_v102, val_main_v103, val_main_cst_9, val_main_cst_21, val_main_cst_22, val_main_cst_23]
  rw [Fin.sum_univ_one]
  rfl

theorem v105_at (i : Fin 8192) (q : Fin 2816) : val_main_v105 (F := Ideal) x0 x1 x2 x3 x4 x5 x6 (ix2 i q)
    = ∑ k, val_main_v103 (F := Ideal) x0 x1 x2 x3 x4 x5 x6 (ix2 i k) * x6 (ix2 q k) := by
  pointwise [val_main_v105]

theorem v106_at (i : Fin 8192) (q : Fin 2816) : val_main_v106 (F := Ideal) x0 x1 x2 x3 x4 x5 x6 (ix2 i q)
    = val_main_v37 (F := Ideal) x0 x2 x3 x4 (ix2 i q) * sigm (val_main_v37 (F := Ideal) x0 x2 x3 x4 (ix2 i q)) * val_main_v105 (F := Ideal) x0 x1 x2 x3 x4 x5 x6 (ix2 i q) := by
  pointwise [val_main_v106, v38_0_at]

theorem v109_at (i : Fin 8192) (q : Fin 2816) : val_main_v109 (F := Ideal) x0 x1 x2 x3 x4 x5 x6 (ix2 i q)
    = val_main_v105 (F := Ideal) x0 x1 x2 x3 x4 x5 x6 (ix2 i q) * val_main_v40 (F := Ideal) x0 x2 x3 x5 (ix2 i q) * sigm (val_main_v37 (F := Ideal) x0 x2 x3 x4 (ix2 i q))
      + val_main_v37 (F := Ideal) x0 x2 x3 x4 (ix2 i q) * (val_main_v105 (F := Ideal) x0 x1 x2 x3 x4 x5 x6 (ix2 i q) * val_main_v40 (F := Ideal) x0 x2 x3 x5 (ix2 i q)) * (sigm (val_main_v37 (F := Ideal) x0 x2 x3 x4 (ix2 i q)) * (1 - sigm (val_main_v37 (F := Ideal) x0 x2 x3 x4 (ix2 i q)))) := by
  pointwise [val_main_v107, val_main_v38_1, v38_2_at, val_main_call0_cst_1, val_main_call0_v6, val_main_call0_v7, val_main_call1_v0, val_main_call1_v1, val_main_call1_v2, val_main_v109]

theorem v111_at (i : Fin 8192) (j : Fin 1024) : val_main_v111 (F := Ideal) x0 x1 x2 x3 x4 x5 x6 (ix2 i j)
    = ∑ q, val_main_v106 (F := Ideal) x0 x1 x2 x3 x4 x5 x6 (ix2 i q) * x5 (ix2 j q) + ∑ q, val_main_v109 (F := Ideal) x0 x1 x2 x3 x4 x5 x6 (ix2 i q) * x4 (ix2 j q) := by
  pointwise [val_main_v108, val_main_v110, val_main_v111]

theorem v119_at (i : Fin 8192) (j : Fin 1024) : val_main_v119 (F := Ideal) x0 x1 x2 x3 x4 x5 x6 (ix2 i j)
    = val_main_v111 (F := Ideal) x0 x1 x2 x3 x4 x5 x6 (ix2 i j) * (1 + x2 (ix2 4 j)) := by
  pointwise [val_main_v3, val_main_v4, val_main_v28, val_main_v29, val_main_cst_5, val_main_v30, val_main_v118, val_main_v119]

theorem v125_at (i : Fin 8192) (j : Fin 1024) : val_main_v125 (F := Ideal) x0 x1 x2 x3 x4 x5 x6 (ix2 i j)
    = val_main_v111 (F := Ideal) x0 x1 x2 x3 x4 x5 x6 (ix2 i j) * (1 + x2 (ix2 4 j)) * x3 (ix2 2 j) := by
  pointwise [v119_at, val_main_v7, val_main_v8, val_main_v25, val_main_v124, val_main_v125]

theorem v141_at (i : Fin 8192) (j : Fin 1024) : val_main_v141 (F := Ideal) x0 x1 x2 x3 x4 x5 x6 (ix2 i j)
    = val_main_v78 (F := Ideal) x0 x1 x2 x3 x4 x5 x6 (ix2 i j) + val_main_v125 (F := Ideal) x0 x1 x2 x3 x4 x5 x6 (ix2 i j) * (invE fun k => x0 (ix2 i k)) + x0 (ix2 i j) * rootTerm (fun k => x0 (ix2 i k)) (∑ k, x0 (ix2 i k) * val_main_v125 (F := Ideal) x0 x1 x2 x3 x4 x5 x6 (ix2 i k))
      + rootTerm (fun k => x0 (ix2 i k)) (∑ k, x0 (ix2 i k) * val_main_v125 (F := Ideal) x0 x1 x2 x3 x4 x5 x6 (ix2 i k)) * x0 (ix2 i j) := by
  pointwise [v19_at, v18_at, val_main_v20, val_main_v21, val_main_v22, val_main_cst_4, val_main_v127, val_main_v128, val_main_v129, val_main_v130, val_main_v131, val_main_v132, val_main_v133, val_main_v134, val_main_v135, val_main_v136, val_main_v137, val_main_v138, val_main_v139, val_main_v140, val_main_v141, val_main_cst_31, val_main_cst_32, val_main_cst_33]
  rw [Fin.sum_univ_one]
  rfl

theorem v104_at (j : Fin 1024) : val_main_v104 (F := Ideal) x0 x1 x2 x3 x4 x5 x6 (ix1 j)
    = ∑ i, val_main_v78 (F := Ideal) x0 x1 x2 x3 x4 x5 x6 (ix2 i j) * val_main_v60 (F := Ideal) x0 x2 x3 x4 x5 x6 (ix2 i j) := by
  pointwise [val_main_v81, val_main_v82, val_main_v83, val_main_v104, val_main_cst_18, val_main_cst_24]
  exact Fin.sum_univ_one _

theorem v89_at (j : Fin 1024) : val_main_v89 (F := Ideal) x0 x1 x2 x3 x4 x5 x6 (ix1 j)
    = ∑ i, val_main_v57 (F := Ideal) x0 x2 x3 x4 x5 x6 (ix2 i j) * val_main_v80 (F := Ideal) x0 x1 x2 x3 x4 x5 x6 (ix2 i j) := by
  pointwise [val_main_v84, val_main_v85, val_main_v86, val_main_v89, val_main_cst_19, val_main_cst_20]
  exact Fin.sum_univ_one _

theorem v120_at (j : Fin 1024) : val_main_v120 (F := Ideal) x0 x1 x2 x3 x4 x5 x6 (ix1 j)
    = ∑ i, val_main_v27 (F := Ideal) x0 x3 (ix2 i j) * val_main_v111 (F := Ideal) x0 x1 x2 x3 x4 x5 x6 (ix2 i j) := by
  pointwise [val_main_v115, val_main_v116, val_main_v117, val_main_v120, val_main_cst_27, val_main_cst_28]
  exact Fin.sum_univ_one _

theorem v114_at (j : Fin 1024) : val_main_v114 (F := Ideal) x0 x1 x2 x3 x4 x5 x6 (ix1 j)
    = ∑ i, val_main_v111 (F := Ideal) x0 x1 x2 x3 x4 x5 x6 (ix2 i j) := by
  pointwise [val_main_v112, val_main_v113, val_main_v114, val_main_cst_25, val_main_cst_26]
  exact Fin.sum_univ_one _

theorem v126_at (j : Fin 1024) : val_main_v126 (F := Ideal) x0 x1 x2 x3 x4 x5 x6 (ix1 j)
    = ∑ i, val_main_v24 (F := Ideal) x0 (ix2 i j) * val_main_v119 (F := Ideal) x0 x1 x2 x3 x4 x5 x6 (ix2 i j) := by
  pointwise [val_main_v121, val_main_v122, val_main_v123, val_main_v126, val_main_cst_29, val_main_cst_30]
  exact Fin.sum_univ_one _

theorem v148_at (r : Fin 8) (j : Fin 1024) : val_main_v148 (F := Ideal) x0 x1 x2 x3 x4 x5 x6 (ix2 r j)
    = if r.val = 4 then val_main_v126 (F := Ideal) x0 x1 x2 x3 x4 x5 x6 (ix1 j) else if r.val = 3 then val_main_v114 (F := Ideal) x0 x1 x2 x3 x4 x5 x6 (ix1 j) else if r.val = 2 then val_main_v120 (F := Ideal) x0 x1 x2 x3 x4 x5 x6 (ix1 j)
      else if r.val = 1 then val_main_v89 (F := Ideal) x0 x1 x2 x3 x4 x5 x6 (ix1 j) else if r.val = 0 then val_main_v104 (F := Ideal) x0 x1 x2 x3 x4 x5 x6 (ix1 j) else 0 := by
  unfold val_main_v148
  fin_cases r
  all_goals
    simp
    pointwise [val_main_v142, val_main_v143, val_main_v144, val_main_v145, val_main_v146, val_main_v147, val_main_cst_34]

theorem v154_at (r : Fin 8) (l : Fin 128) : val_main_v154 (F := Ideal) x0 x1 x2 x3 x4 x5 x6 (ix2 r l)
    = Ideal.ofBits .f32 0x3F000000#32 * ∑ i : Fin 8192, Ideal.div (∑ j, val_main_v64 (F := Ideal) x0 x1 x2 x3 x4 x5 x6 (ix2 i j) * val_main_v64 (F := Ideal) x0 x1 x2 x3 x4 x5 x6 (ix2 i j)) (Ideal.ofBits .f32 0x44800000#32) := by
  pointwise [val_main_v65, val_main_cst_11, val_main_v68, val_main_cst_12, val_main_v69, val_main_v70, val_main_cst_13, val_main_v71, val_main_cst_14, val_main_v72, val_main_v154]

end Cert.FfnRefIdeal.Val

end
-- ==== Proof.Ffn.Agree.lean ====
/- The feed-forward gradient kernel computes what its reference computes. -/
module

public import proofs.«01_k».proof.Proof.Ffn.Results
public import proofs.«01_k».proof.Proof.Ffn.Reference

@[expose] public section

set_option maxRecDepth 16384

noncomputable section

open Idealize.ShloMosaic Idealize.ShloMosaic.TcCoe Idealize.SL.Sem

namespace Cert.FfnBwdIdeal.Val

open Cert.FfnBwdIdeal Cert.FfnBwdIdeal.Gen Cert.RealArith Cert.FfnRefIdeal.Read Cert.FfnRefIdeal.Val

variable (m : (ℓ : Loc nD τ Cert.FfnBwdIdeal.sig) → Buf (Elt Ideal) ℓ) (c : Dev nD)

/-! ## The forward half, in every case -/

theorem xh_ref (i : Fin 8192) (j : Fin 1024) : XH m c i j = val_main_v24 (F := Ideal) (X m c) (ix2 i j) := by rw [v24_at]; rfl
theorem hn_ref (i : Fin 8192) (j : Fin 1024) : HN m c i j = val_main_v27 (F := Ideal) (X m c) (Gn m c) (ix2 i j) := by rw [v27_at]; rfl
theorem h_ref (i : Fin 8192) (j : Fin 1024) : H m c i j = val_main_v35 (F := Ideal) (X m c) (Md m c) (Gn m c) (ix2 i j) := by rw [v35_at]; rfl
theorem ga_ref (i : Fin 8192) (q : Fin 2816) : GA m c i q = val_main_v37 (F := Ideal) (X m c) (Md m c) (Gn m c) (Wg m c) (ix2 i q) := by
  rw [v37_at]
  exact Finset.sum_congr rfl fun k _ => by rw [h_ref]
theorem up_ref (i : Fin 8192) (q : Fin 2816) : UP m c i q = val_main_v40 (F := Ideal) (X m c) (Md m c) (Gn m c) (Wu m c) (ix2 i q) := by
  rw [v40_at]
  exact Finset.sum_congr rfl fun k _ => by rw [h_ref]
theorem hid_ref (i : Fin 8192) (q : Fin 2816) : HID m c i q = val_main_v41 (F := Ideal) (X m c) (Md m c) (Gn m c) (Wg m c) (Wu m c) (ix2 i q) := by rw [v41_at, HID, ga_ref, up_ref]
theorem ff_ref (i : Fin 8192) (j : Fin 1024) : FF m c i j = val_main_v43 (F := Ideal) (X m c) (Md m c) (Gn m c) (Wg m c) (Wu m c) (Wd m c) (ix2 i j) := by
  rw [v43_at]
  exact Finset.sum_congr rfl fun k _ => by rw [hid_ref]
theorem fh_ref (i : Fin 8192) (j : Fin 1024) : FH m c i j = val_main_v57 (F := Ideal) (X m c) (Md m c) (Gn m c) (Wg m c) (Wu m c) (Wd m c) (ix2 i j) := by
  rw [v57_at, FH]
  simp only [← ff_ref]
theorem fn_ref (i : Fin 8192) (j : Fin 1024) : FN m c i j = val_main_v60 (F := Ideal) (X m c) (Md m c) (Gn m c) (Wg m c) (Wu m c) (Wd m c) (ix2 i j) := by rw [v60_at, FN, fh_ref]
theorem diff_ref (i : Fin 8192) (j : Fin 1024) : DIFF m c i j = val_main_v64 (F := Ideal) (X m c) (Tg m c) (Md m c) (Gn m c) (Wg m c) (Wu m c) (Wd m c) (ix2 i j) := by rw [v64_at, DIFF, fn_ref]

/-- A half over the width, times two, is one over the width. -/
theorem dy_ref (i : Fin 8192) (j : Fin 1024) : DY m c i j = val_main_v78 (F := Ideal) (X m c) (Tg m c) (Md m c) (Gn m c) (Wg m c) (Wu m c) (Wd m c) (ix2 i j) := by
  rw [v78_at, ← diff_ref, DY, c_half, c_1024, c_two, div_real (by norm_num), ← mul_assoc, ← EReal.coe_mul, mul_comm, cGrad, c_1024th]
  norm_num
theorem df_ref (i : Fin 8192) (j : Fin 1024) : DF m c i j = val_main_v80 (F := Ideal) (X m c) (Tg m c) (Md m c) (Gn m c) (Wg m c) (Wu m c) (Wd m c) (ix2 i j) := by rw [v80_at, DF, dy_ref, mul_comm]
theorem dg_ref (i : Fin 8192) (j : Fin 1024) : DF m c i j * Gn m c (ix2 3 j) = val_main_v88 (F := Ideal) (X m c) (Tg m c) (Md m c) (Gn m c) (Wg m c) (Wu m c) (Wd m c) (ix2 i j) := by
  rw [v88_at, DF, dy_ref, mul_comm (val_main_v78 (F := Ideal) _ _ _ _ _ _ _ _)]

/-! ## Where the arguments are real -/

/-- What the gradient is taken at holds real numbers. -/
structure Reals : Prop where
  x : ∀ i, IsR (X m c i)
  tg : ∀ i, IsR (Tg m c i)
  m3 : ∀ j, IsR (Md m c (ix2 3 j))
  m4 : ∀ j, IsR (Md m c (ix2 4 j))
  m5 : ∀ j, IsR (Md m c (ix2 5 j))
  g2 : ∀ j, IsR (Gn m c (ix2 2 j))
  g3 : ∀ j, IsR (Gn m c (ix2 3 j))
  wg : ∀ i, IsR (Wg m c i)
  wu : ∀ i, IsR (Wu m c i)
  wd : ∀ i, IsR (Wd m c i)

variable {m c} (R : Reals m c)
include R

theorem xh_real (i : Fin 8192) (j : Fin 1024) : IsR (XH m c i j) := (R.x _).mul (IsR.invE fun _ => R.x _)
theorem h_real (i : Fin 8192) (j : Fin 1024) : IsR (H m c i j) :=
  (((xh_real R i j).mul (R.g2 j)).mul (IsR.one.add (R.m4 j))).add (R.m3 j)
theorem ga_real (i : Fin 8192) (q : Fin 2816) : IsR (GA m c i q) := IsR.sum fun k => (h_real R i k).mul (R.wg _)
theorem up_real (i : Fin 8192) (q : Fin 2816) : IsR (UP m c i q) := IsR.sum fun k => (h_real R i k).mul (R.wu _)
theorem ff_real (i : Fin 8192) (j : Fin 1024) : IsR (FF m c i j) :=
  IsR.sum fun q => (((ga_real R i q).mul (IsR.sigm _)).mul (up_real R i q)).mul (R.wd _)
theorem fh_real (i : Fin 8192) (j : Fin 1024) : IsR (FH m c i j) := (ff_real R i j).mul (IsR.invE fun _ => ff_real R i _)
theorem diff_real (i : Fin 8192) (j : Fin 1024) : IsR (DIFF m c i j) :=
  ((R.x _).add ((R.m5 j).mul ((fh_real R i j).mul (R.g3 j)))).sub (R.tg _)
theorem df_real (i : Fin 8192) (j : Fin 1024) : IsR (DF m c i j) :=
  ((diff_real R i j).mul ⟨_, c_1024th⟩).mul (R.m5 j)

/-- The gradient of the output of the last product. -/
theorem dff_ref (i : Fin 8192) (j : Fin 1024) : DFF m c i j = val_main_v103 (F := Ideal) (X m c) (Tg m c) (Md m c) (Gn m c) (Wg m c) (Wu m c) (Wd m c) (ix2 i j) := by
  rw [v103_at]
  simp only [← ff_ref]
  simp only [← dg_ref]
  choose x hx using ff_real R i
  choose d hd using fun k => (df_real R i k).mul (R.g3 k)
  unfold DFF DN FH
  simp only [hd, hx, invE_real]
  simp only [← EReal.coe_mul, coe_sum]
  rw [c_1024, div_real (by norm_num), rootTerm_real]
  simp only [← EReal.coe_mul, ← EReal.coe_add, ← EReal.coe_sub]
  rw [rms_grad _ d (by norm_num)]

theorem dff_real (i : Fin 8192) (j : Fin 1024) : IsR (DFF m c i j) := by
  have h : IsR (∑ k, DF m c i k * Gn m c (ix2 3 k) * FH m c i k) := IsR.sum fun k => ((df_real R i k).mul (R.g3 k)).mul (fh_real R i k)
  obtain ⟨s, hs⟩ := h
  refine (IsR.invE fun _ => ff_real R i _).mul (((df_real R i j).mul (R.g3 j)).sub ((fh_real R i j).mul ?_))
  rw [hs, c_1024, div_real (by norm_num)]
  exact ⟨_, rfl⟩

theorem dhid_ref (i : Fin 8192) (q : Fin 2816) : DHID m c i q = val_main_v105 (F := Ideal) (X m c) (Tg m c) (Md m c) (Gn m c) (Wg m c) (Wu m c) (Wd m c) (ix2 i q) := by
  rw [v105_at]
  exact Finset.sum_congr rfl fun k _ => by rw [dff_ref R]

theorem dhid_real (i : Fin 8192) (q : Fin 2816) : IsR (DHID m c i q) := IsR.sum fun k => (dff_real R i k).mul (R.wd _)

theorem du_ref (i : Fin 8192) (q : Fin 2816) : DU m c i q = val_main_v106 (F := Ideal) (X m c) (Tg m c) (Md m c) (Gn m c) (Wg m c) (Wu m c) (Wd m c) (ix2 i q) := by
  rw [v106_at, DU, dhid_ref R, ga_ref, mul_comm]

/-- The derivative of the gated product. -/
theorem da_ref (i : Fin 8192) (q : Fin 2816) : DA m c i q = val_main_v109 (F := Ideal) (X m c) (Tg m c) (Md m c) (Gn m c) (Wg m c) (Wu m c) (Wd m c) (ix2 i q) := by
  rw [v109_at]
  simp only [← dhid_ref R, ← up_ref, ← ga_ref]
  obtain ⟨d, hd⟩ := dhid_real R i q
  obtain ⟨u, hu⟩ := up_real R i q
  obtain ⟨a, ha⟩ := ga_real R i q
  obtain ⟨s, hs⟩ := sigm_real (GA m c i q)
  rw [DA, hs, hd, hu, ha, show (1 : EReal) = ((1 : ℝ) : EReal) from rfl]
  simp only [← EReal.coe_mul, ← EReal.coe_add, ← EReal.coe_sub]
  congr 1
  ring

theorem da_real (i : Fin 8192) (q : Fin 2816) : IsR (DA m c i q) :=
  ((dhid_real R i q).mul (up_real R i q)).mul ((IsR.sigm _).mul (IsR.one.add ((ga_real R i q).mul (IsR.one.sub (IsR.sigm _)))))

theorem dh_ref (i : Fin 8192) (j : Fin 1024) : DH m c i j = val_main_v111 (F := Ideal) (X m c) (Tg m c) (Md m c) (Gn m c) (Wg m c) (Wu m c) (Wd m c) (ix2 i j) := by
  rw [v111_at, DH, add_comm]
  refine congrArg₂ (· + ·) (Finset.sum_congr rfl fun q _ => ?_) (Finset.sum_congr rfl fun q _ => ?_)
  · rw [du_ref R]
  · rw [da_ref R]

theorem dh_real (i : Fin 8192) (j : Fin 1024) : IsR (DH m c i j) :=
  (IsR.sum fun q => (da_real R i q).mul (R.wg _)).add
    (IsR.sum fun q => ((dhid_real R i q).mul ((ga_real R i q).mul (IsR.sigm _))).mul (R.wu _))

/-- The gradient of the rows. -/
theorem dx_ref (i : Fin 8192) (j : Fin 1024) : DX m c i j = val_main_v141 (F := Ideal) (X m c) (Tg m c) (Md m c) (Gn m c) (Wg m c) (Wu m c) (Wd m c) (ix2 i j) := by
  have hv : ∀ k, val_main_v125 (F := Ideal) (X m c) (Tg m c) (Md m c) (Gn m c) (Wg m c) (Wu m c) (Wd m c) (ix2 i k) = DH m c i k * (1 + Md m c (ix2 4 k)) * Gn m c (ix2 2 k) := fun k => by rw [v125_at, dh_ref R]
  rw [v141_at, ← dy_ref, add_assoc, add_assoc, ← add_assoc (_ * _)]
  simp only [hv]
  refine congrArg (DY m c i j + ·) ?_
  choose x hx using fun k => R.x (ix2 i k)
  choose d hd using fun k => ((dh_real R i k).mul (IsR.one.add (R.m4 k))).mul (R.g2 k)
  unfold XH
  simp only [hd, hx, invE_real]
  simp only [← EReal.coe_mul, coe_sum]
  rw [c_1024, div_real (by norm_num), rootTerm_real]
  simp only [← EReal.coe_mul, ← EReal.coe_add, ← EReal.coe_sub]
  rw [rms_grad _ d (by norm_num)]

/-- The sums over the rows. -/
theorem add_ref (r : Fin 8) (j : Fin 1024) : ∑ i, add9 m c r j i = val_main_v148 (F := Ideal) (X m c) (Tg m c) (Md m c) (Gn m c) (Wg m c) (Wu m c) (Wd m c) (ix2 r j) := by
  rw [v148_at]
  unfold add9
  split_ifs
  · rw [v126_at]
    exact Finset.sum_congr rfl fun i _ => by rw [v119_at, ← dh_ref R, ← xh_ref, mul_comm]
  · rw [v114_at]
    exact Finset.sum_congr rfl fun i _ => dh_ref R i j
  · rw [v120_at]
    exact Finset.sum_congr rfl fun i _ => by rw [← dh_ref R, ← hn_ref, mul_comm]
  · rw [v89_at]
    exact Finset.sum_congr rfl fun i _ => by rw [← fh_ref, ← df_ref, mul_comm]
  · rw [v104_at]
    exact Finset.sum_congr rfl fun i _ => by rw [← dy_ref, ← fn_ref]
  · exact Finset.sum_const_zero

/-- The loss. -/
theorem loss_ref (r : Fin 8) (l : Fin 128) : ∑ t, addL m c t = val_main_v154 (F := Ideal) (X m c) (Tg m c) (Md m c) (Gn m c) (Wg m c) (Wu m c) (Wd m c) (ix2 r l) := by
  rw [v154_at]
  simp only [← diff_ref]
  choose d hd using fun i j => diff_real R i j
  have e : ∀ i, ∑ j, DIFF m c i j * DIFF m c i j = ((∑ j, d i j * d i j : ℝ) : EReal) := fun i => by
    simp only [hd, ← EReal.coe_mul, coe_sum]
  have s := sum_rows fun i => ∑ j, DIFF m c i j * DIFF m c i j
  unfold addL cLoss
  simp only [e, c_1024, div_real (show (1024 : ℝ) ≠ 0 by norm_num), c_half, c_2048th, coe_sum, ← EReal.coe_mul] at s ⊢
  rw [← Finset.sum_mul, ← Finset.sum_div, EReal.coe_eq_coe_iff.mp s]
  congr 1
  ring

end Cert.FfnBwdIdeal.Val

end
-- ==== Proof.Ffn.Claim.lean ====
/- The gated layer's gradient with the loss: the two programs agree. -/
module

public import proofs.«01_k».proof.Defs
public import proofs.«01_k».proof.Proof.Gen.FfnRefIdeal.Run
public import proofs.«01_k».proof.Proof.Gen.Pre_finite_ffn
public import proofs.«01_k».proof.Proof.Finite
public import proofs.«01_k».proof.Proof.Ffn.Agree

@[expose] public section

set_option maxRecDepth 16384

noncomputable section

namespace Cert.Proof.Ffn

open Idealize.ShloMosaic Idealize.SL.Sem

section
open Cert.FfnRefIdeal Cert.FfnRefIdeal.Read

variable (m : (ℓ : Loc Cert.FfnRefIdeal.nD Cert.FfnRefIdeal.τ Cert.FfnRefIdeal.sig) → Buf (Elt Ideal) ℓ)

/-- The reference's arguments, as one application of a stage to them. -/
abbrev atArgs {α : Type} (f : FVec Ideal S8192x1024 .f32 → FVec Ideal S8192x1024 .f32 → FVec Ideal S6x1024 .f32 → FVec Ideal S4x1024 .f32
    → FVec Ideal S1024x2816 .f32 → FVec Ideal S1024x2816 .f32 → FVec Ideal S2816x1024 .f32 → α) (c : Dev Cert.FfnRefIdeal.nD) : α :=
  f (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- The reference leaves its results' stages. -/
theorem ref_run (ρ : Dev Cert.FfnRefIdeal.nD → PrngReg) :
    θ_run (Cert.FfnRefIdeal.defs (F := Ideal)) (onTc (τ := Cert.FfnRefIdeal.τ) (Cert.FfnRefIdeal.main (F := Ideal))) ⟨m, fun _ => 0, ρ⟩ fun r => ∀ c : Dev Cert.FfnRefIdeal.nD,
      r.2.mem ((c.tc : Thread nD τ).loc main_v141) = atArgs m (val_main_v141 (F := Ideal)) c
      ∧ r.2.mem ((c.tc : Thread nD τ).loc main_v149) = atArgs m (fun x _ md gn _ _ _ => val_main_v149 (F := Ideal) x md gn) c
      ∧ r.2.mem ((c.tc : Thread nD τ).loc main_v150) = atArgs m (fun x _ md gn wg wu _ => val_main_v150 (F := Ideal) x md gn wg wu) c
      ∧ r.2.mem ((c.tc : Thread nD τ).loc main_v151) = atArgs m (val_main_v151 (F := Ideal)) c
      ∧ r.2.mem ((c.tc : Thread nD τ).loc main_v152) = atArgs m (val_main_v152 (F := Ideal)) c
      ∧ r.2.mem ((c.tc : Thread nD τ).loc main_v153) = atArgs m (val_main_v153 (F := Ideal)) c
      ∧ r.2.mem ((c.tc : Thread nD τ).loc main_v148) = atArgs m (val_main_v148 (F := Ideal)) c
      ∧ r.2.mem ((c.tc : Thread nD τ).loc main_v154) = atArgs m (val_main_v154 (F := Ideal)) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun _ h c => by
    obtain ⟨r0, r1, r2, r3, r4, r5, r6, r7, ha⟩ := h c
    exact ⟨r0.trans (val_main_v141_eq _), r1.trans (val_main_v149_eq _), r2.trans (val_main_v150_eq _), r3.trans (val_main_v151_eq _), r4.trans (val_main_v152_eq _), r5.trans (val_main_v153_eq _), r6.trans (val_main_v148_eq _), r7.trans (val_main_v154_eq _), ha⟩)
    (Cert.FfnRefIdeal.Value.run m ρ)

end

theorem frame_reference : Cert.quiescent_FfnRefIdeal := fun m ρ _ =>
  (θ_run Cert.FfnRefIdeal.defs _ _).mono (fun r h => ⟨fun c => (h c).2.2.2.2.2.2.2.2, sem_eq_zero_of_no_sems (by decide) r.2⟩)
    (Cert.FfnRefIdeal.Value.run (F := Ideal) m ρ)

section
open Cert.FfnBwdIdeal Cert.FfnBwdIdeal.Val Cert.FfnBwdIdeal.Gen

theorem algebraic : Cert.algebraic_FfnBwdIdeal_FfnRefIdeal_pre_finite_ffn := by
  pair_intro
  · run_from Cert.FfnBwdIdeal.Value.run_blocks m g
  · have hr : ∀ c, Reals m c := fun c => by
      obtain ⟨h0, h1, h2, h3, h4, h5, h6, h7, h8, h9⟩ := hpre c
      have row : ∀ {n : ℕ} {S : Shape} {A : FVec Ideal S .f32} {f : Fin n → EReal}, (∃ r : S.Idx → ℝ, ∀ q, A q = (r q : EReal)) → (e : Fin n → S.Idx) →
          (∀ j, A (e j) = f j) → ∀ j, Cert.RealArith.IsR (f j) := fun h e he j => ⟨_, (he j).symm.trans (h.choose_spec _)⟩
      exact ⟨fun q => ⟨_, (Cert.Finite.exists_reals _ _ h0).choose_spec q⟩, fun q => ⟨_, (Cert.Finite.exists_reals _ _ h1).choose_spec q⟩,
        row (Cert.Finite.exists_reals _ _ h2) ix1 fun j => Cert.Finite.row_at 3 (by omega) _ _ _ j,
        row (Cert.Finite.exists_reals _ _ h3) ix1 fun j => Cert.Finite.row_at 4 (by omega) _ _ _ j,
        row (Cert.Finite.exists_reals _ _ h4) ix1 fun j => Cert.Finite.row_at 5 (by omega) _ _ _ j,
        row (Cert.Finite.exists_reals _ _ h5) ix1 fun j => Cert.Finite.row_at 2 (by omega) _ _ _ j,
        row (Cert.Finite.exists_reals _ _ h6) ix1 fun j => Cert.Finite.row_at 3 (by omega) _ _ _ j,
        fun q => ⟨_, (Cert.Finite.exists_reals _ _ h7).choose_spec q⟩, fun q => ⟨_, (Cert.Finite.exists_reals _ _ h8).choose_spec q⟩,
        fun q => ⟨_, (Cert.Finite.exists_reals _ _ h9).choose_spec q⟩⟩
    run_from ref_run m' g'
    · rw [final3]
      funext q
      exact (congrArg _ (ix2_eta q).symm).trans (dx_ref (hr c) (q 0) (q 1)).symm
    · rw [final4]
      funext q
      exact (congrArg _ (ix2_eta q).symm).trans (h_ref m c (q 0) (q 1)).symm
    · rw [final5]
      funext q
      exact (congrArg _ (ix2_eta q).symm).trans (hid_ref m c (q 0) (q 1)).symm
    · rw [final6]
      funext q
      exact (congrArg _ (ix2_eta q).symm).trans (da_ref (hr c) (q 0) (q 1)).symm
    · rw [final7]
      funext q
      exact (congrArg _ (ix2_eta q).symm).trans (du_ref (hr c) (q 0) (q 1)).symm
    · rw [final8]
      funext q
      exact (congrArg _ (ix2_eta q).symm).trans (dff_ref (hr c) (q 0) (q 1)).symm
    · rw [final9]
      funext q
      exact (congrArg _ (ix2_eta q).symm).trans (add_ref (hr c) (q 0) (q 1)).symm
    · rw [final10]
      funext q
      exact (congrArg _ (ix2_eta q).symm).trans (loss_ref (hr c) (q 0) (q 1)).symm

end

end Cert.Proof.Ffn

end
-- ==== Proof.Attn.Softmax.lean ====
/- The softmax over a window of keys with a sink: its saved sum, its weights, and its gradient, over real scores. -/
module

public import proofs.«01_k».proof.Proof.RealArith

@[expose] public section

noncomputable section

namespace Cert.Attn

open Idealize.ShloMosaic Cert.RealArith

variable {n : ℕ} (seen : Fin n → Prop) [DecidablePred seen] (s dp : Fin n → EReal) (snk M : EReal)

/-- The score of a key the query sees, and nothing for the others. -/
def masked (k : Fin n) : EReal := if seen k then s k else ⊥

/-- The exponential of the masked score against `M`. -/
def ex (k : Fin n) : EReal := Ideal.exp (masked seen s k - M)

/-- The exponential of the sink. -/
def exS : EReal := Ideal.exp (snk - M)

/-- The denominator: the window's exponentials and the sink's. -/
def den : EReal := ∑ k, ex seen s M k + exS snk M

/-- The logarithm of the denominator, as the forward pass saves it. -/
def lse : EReal := M + Ideal.log (den seen s snk M)

/-- The weight of a key. -/
def prob (k : Fin n) : EReal := Ideal.div (ex seen s M k) (den seen s snk M)

/-- The part of the gradient every key of a query shares. -/
def delta : EReal := ∑ k, prob seen s snk M k * dp k

/-- The score's gradient. -/
def dsc (k : Fin n) : EReal := prob seen s snk M k * (dp k - delta seen s dp snk M)

variable {seen s dp snk M}

theorem max_real (hs : ∀ k, IsR (s k)) (hk : IsR snk) :
    IsR (max (Finset.univ.fold max (⊥ : EReal) (masked seen s)) snk) := by
  obtain ⟨a, rfl⟩ := hk
  have h1 : Finset.univ.fold max (⊥ : EReal) (masked seen s) < ⊤ := (Finset.fold_max_lt _).2 ⟨bot_lt_top, fun k _ => by
    unfold masked
    obtain ⟨r, hr⟩ := hs k
    split_ifs
    · rw [hr]; exact EReal.coe_lt_top r
    · exact bot_lt_top⟩
  have h2 : max (Finset.univ.fold max (⊥ : EReal) (masked seen s)) (a : EReal) ≠ ⊤ := (max_lt h1 (EReal.coe_lt_top a)).ne
  have h3 : max (Finset.univ.fold max (⊥ : EReal) (masked seen s)) (a : EReal) ≠ ⊥ := (lt_of_lt_of_le (EReal.bot_lt_coe a) (le_max_right _ _)).ne'
  exact ⟨_, (EReal.coe_toReal h2 h3).symm⟩

theorem exists_ex (hs : ∀ k, IsR (s k)) (hM : IsR M) :
    ∃ e : Fin n → ℝ, (∀ k, 0 ≤ e k) ∧ (∀ k, ¬ seen k → e k = 0) ∧ ∀ k, ex seen s M k = (e k : EReal) := by
  obtain ⟨M, rfl⟩ := hM
  choose r hr using hs
  refine ⟨fun k => if seen k then Real.exp (r k - M) else 0, fun k => ?_, fun k h => if_neg h, fun k => ?_⟩
  · dsimp only; split_ifs
    · exact (Real.exp_pos _).le
    · exact le_rfl
  · unfold ex masked
    by_cases h : seen k
    · rw [if_pos h, hr k, ← EReal.coe_sub, Ideal.exp_coe]; dsimp only; rw [if_pos h]
    · rw [if_neg h, EReal.bot_sub, Ideal.exp_bot]; dsimp only; rw [if_neg h]; rfl

theorem exists_den (hs : ∀ k, IsR (s k)) (hk : IsR snk) (hM : IsR M) :
    ∃ (e : Fin n → ℝ) (E : ℝ), (∀ k, ¬ seen k → e k = 0) ∧ (∀ k, ex seen s M k = (e k : EReal)) ∧ exS snk M = (E : EReal)
      ∧ 0 < ∑ k, e k + E ∧ den seen s snk M = ((∑ k, e k + E : ℝ) : EReal) ∧ (∀ k, 0 ≤ e k) ∧ 0 < E := by
  obtain ⟨e, h0, h1, h2⟩ := exists_ex (seen := seen) hs hM
  obtain ⟨a, rfl⟩ := hk
  obtain ⟨M, rfl⟩ := hM
  have hE : exS (a : EReal) (M : EReal) = ((Real.exp (a - M) : ℝ) : EReal) := by rw [exS, ← EReal.coe_sub, Ideal.exp_coe]
  refine ⟨e, _, h1, h2, hE, add_pos_of_nonneg_of_pos (Finset.sum_nonneg fun k _ => h0 k) (Real.exp_pos _), ?_, h0, Real.exp_pos _⟩
  rw [den, hE, EReal.coe_add, ← coe_sum]
  exact congrArg (· + _) (Finset.sum_congr rfl fun k _ => h2 k)

theorem lse_real (hs : ∀ k, IsR (s k)) (hk : IsR snk) (hM : IsR M) : IsR (lse seen s snk M) := by
  obtain ⟨e, E, -, -, -, hD, hd, -⟩ := exists_den (seen := seen) hs hk hM
  obtain ⟨M, rfl⟩ := hM
  exact ⟨M + Real.log (∑ k, e k + E), by rw [lse, hd, Ideal.log_coe, if_neg hD.not_ge, ← EReal.coe_add]⟩

/-- The weight recomputed from the saved logarithm. -/
theorem prob_eq (hs : ∀ k, IsR (s k)) (hk : IsR snk) (hM : IsR M) (k : Fin n) :
    Ideal.exp (s k + (if seen k then 0 else ⊥) - lse seen s snk M) = prob seen s snk M k := by
  obtain ⟨e, E, h1, h2, -, hD, hd, -⟩ := exists_den (seen := seen) hs hk hM
  by_cases h : seen k
  · have h3 := h2 k
    obtain ⟨M, rfl⟩ := hM
    obtain ⟨r, hr⟩ := hs k
    rw [ex, masked, if_pos h, hr, ← EReal.coe_sub, Ideal.exp_coe] at h3
    rw [prob, hd, h2 k, div_real hD.ne', if_pos h, hr, add_zero, lse, hd, Ideal.log_coe, if_neg hD.not_ge, ← EReal.coe_add, ← EReal.coe_sub,
      Ideal.exp_coe, ← EReal.coe_eq_coe_iff.1 h3, sub_add_eq_sub_sub, Real.exp_sub, Real.exp_log hD]
  · obtain ⟨l, hl⟩ := lse_real (seen := seen) hs hk hM
    obtain ⟨r, hr⟩ := hs k
    rw [prob, hd, h2 k, h1 k h, div_real hD.ne', if_neg h, hr, hl, EReal.add_bot, EReal.bot_sub, Ideal.exp_bot, zero_div]; rfl

theorem prob_real (hs : ∀ k, IsR (s k)) (hk : IsR snk) (hM : IsR M) (k : Fin n) : IsR (prob seen s snk M k) := by
  obtain ⟨e, E, h1, h2, -, hD, hd, -⟩ := exists_den (seen := seen) hs hk hM
  exact ⟨_, by rw [prob, hd, h2 k, div_real hD.ne']⟩

theorem prob_unseen (hs : ∀ k, IsR (s k)) (hk : IsR snk) (hM : IsR M) (k : Fin n) (h : ¬ seen k) : prob seen s snk M k = 0 := by
  obtain ⟨e, E, h1, h2, -, hD, hd, -⟩ := exists_den (seen := seen) hs hk hM
  rw [prob, hd, h2 k, h1 k h, div_real hD.ne', zero_div]; rfl

theorem dsc_unseen (hs : ∀ k, IsR (s k)) (hk : IsR snk) (hM : IsR M) (k : Fin n) (h : ¬ seen k) : dsc seen s dp snk M k = 0 := by
  rw [dsc, prob_unseen hs hk hM k h, zero_mul]

theorem delta_real (hs : ∀ k, IsR (s k)) (hk : IsR snk) (hM : IsR M) (hd : ∀ k, IsR (dp k)) : IsR (delta seen s dp snk M) :=
  IsR.sum fun k => (prob_real hs hk hM k).mul (hd k)

theorem dsc_real (hs : ∀ k, IsR (s k)) (hk : IsR snk) (hM : IsR M) (hd : ∀ k, IsR (dp k)) (k : Fin n) : IsR (dsc seen s dp snk M k) :=
  (prob_real hs hk hM k).mul ((hd k).sub (delta_real hs hk hM hd))

/-- The sink's weight recomputed from the saved logarithm. -/
theorem sink_eq (hs : ∀ k, IsR (s k)) (hk : IsR snk) (hM : IsR M) :
    Ideal.exp (snk - lse seen s snk M) = Ideal.div (exS snk M) (den seen s snk M) := by
  obtain ⟨e, E, -, -, h3, hD, hd, -⟩ := exists_den (seen := seen) hs hk hM
  rw [hd, h3, div_real hD.ne']
  obtain ⟨M, rfl⟩ := hM
  obtain ⟨a, rfl⟩ := hk
  rw [exS, ← EReal.coe_sub, Ideal.exp_coe, EReal.coe_eq_coe_iff] at h3
  rw [lse, hd, Ideal.log_coe, if_neg hD.not_ge, ← EReal.coe_add, ← EReal.coe_sub, Ideal.exp_coe, sub_add_eq_sub_sub, Real.exp_sub, Real.exp_log hD, h3]

/-- The denominator's gradient, as the derivative of the quotient spells it. -/
def dden (seen : Fin n → Prop) [DecidablePred seen] (s dp : Fin n → EReal) (snk M : EReal) : EReal :=
  -∑ k, dp k * Ideal.div 1 (den seen s snk M * den seen s snk M) * ex seen s M k

/-- The quotient's derivative and the exponential's are the score's gradient. -/
theorem dsc_eq (hs : ∀ k, IsR (s k)) (hk : IsR snk) (hM : IsR M) (hd : ∀ k, IsR (dp k)) (k : Fin n) :
    (Ideal.div (dp k) (den seen s snk M) + dden seen s dp snk M) * ex seen s M k = dsc seen s dp snk M k := by
  obtain ⟨e, E, -, h2, -, hD, hdn, -⟩ := exists_den (seen := seen) hs hk hM
  choose d hd using hd
  unfold dsc delta dden prob
  simp only [hdn, h2, hd, div_real hD.ne', ← EReal.coe_mul, ← EReal.coe_one, div_real (mul_pos hD hD).ne', coe_sum, ← EReal.coe_neg, ← EReal.coe_add, ← EReal.coe_sub]
  rw [EReal.coe_eq_coe_iff]
  have h : ∑ k, d k * (1 / ((∑ k, e k + E) * (∑ k, e k + E))) * e k = (∑ k, e k / (∑ k, e k + E) * d k) / (∑ k, e k + E) := by
    rw [Finset.sum_div]; exact Finset.sum_congr rfl fun k _ => by field_simp
  rw [h]; field_simp; ring

/-- The denominator's gradient is the shared part over the denominator. -/
theorem dden_sink (hs : ∀ k, IsR (s k)) (hk : IsR snk) (hM : IsR M) (hd : ∀ k, IsR (dp k)) :
    dden seen s dp snk M * exS snk M = -(Ideal.exp (snk - lse seen s snk M) * delta seen s dp snk M) := by
  rw [sink_eq hs hk hM]
  obtain ⟨e, E, -, h2, h3, hD, hdn, -⟩ := exists_den (seen := seen) hs hk hM
  choose d hd using hd
  unfold delta dden prob
  simp only [hdn, h2, h3, hd, div_real hD.ne', ← EReal.coe_mul, ← EReal.coe_one, div_real (mul_pos hD hD).ne', coe_sum, ← EReal.coe_neg]
  rw [EReal.coe_eq_coe_iff]
  have h : ∑ k, d k * (1 / ((∑ k, e k + E) * (∑ k, e k + E))) * e k = (∑ k, e k / (∑ k, e k + E) * d k) / (∑ k, e k + E) := by
    rw [Finset.sum_div]; exact Finset.sum_congr rfl fun k _ => by field_simp
  rw [h]; field_simp

/-- Nothing flows through the maximum. -/
theorem max_zero (hs : ∀ k, IsR (s k)) (hk : IsR snk) (hM : IsR M) (hd : ∀ k, IsR (dp k)) :
    -(dden seen s dp snk M * exS snk M) + ∑ k, -((Ideal.div (dp k) (den seen s snk M) + dden seen s dp snk M) * ex seen s M k) = 0 := by
  obtain ⟨e, E, -, h2, h3, hD, hdn, -⟩ := exists_den (seen := seen) hs hk hM
  choose d hd using hd
  unfold dden
  simp only [hdn, h2, h3, hd, div_real hD.ne', ← EReal.coe_mul, ← EReal.coe_one, div_real (mul_pos hD hD).ne', coe_sum, ← EReal.coe_neg, ← EReal.coe_add]
  rw [← EReal.coe_zero, EReal.coe_eq_coe_iff]
  have h : ∑ k, d k * (1 / ((∑ k, e k + E) * (∑ k, e k + E))) * e k = (∑ k, e k * d k) / ((∑ k, e k + E) * (∑ k, e k + E)) := by
    rw [Finset.sum_div]; exact Finset.sum_congr rfl fun k _ => by field_simp
  have h' : ∀ c : ℝ, ∑ k, -((d k / (∑ k, e k + E) + -c) * e k) = -((∑ k, e k * d k) / (∑ k, e k + E)) + c * ∑ k, e k := fun c => by
    rw [Finset.sum_div, Finset.mul_sum, ← Finset.sum_neg_distrib, ← Finset.sum_add_distrib]
    exact Finset.sum_congr rfl fun k _ => by ring
  rw [h, h']; field_simp; ring

/-! ## The keys a query does not see do not matter -/

section
variable {s' dp' : Fin n → EReal}

theorem masked_congr (h : ∀ k, seen k → s k = s' k) : masked seen s = masked seen s' := by
  funext k
  unfold masked
  split_ifs with hk
  · exact h k hk
  · rfl

theorem ex_congr (h : ∀ k, seen k → s k = s' k) : ex seen s M = ex seen s' M := by
  unfold ex; rw [masked_congr h]

theorem den_congr (h : ∀ k, seen k → s k = s' k) : den seen s snk M = den seen s' snk M := by
  unfold den; rw [ex_congr h]

theorem lse_congr (h : ∀ k, seen k → s k = s' k) : lse seen s snk M = lse seen s' snk M := by
  unfold lse; rw [den_congr h]

theorem prob_congr (h : ∀ k, seen k → s k = s' k) : prob seen s snk M = prob seen s' snk M := by
  unfold prob; rw [ex_congr h, den_congr h]

theorem delta_congr (hs : ∀ k, IsR (s' k)) (hk : IsR snk) (hM : IsR M) (h : ∀ k, seen k → s k = s' k) (h' : ∀ k, seen k → dp k = dp' k) :
    delta seen s dp snk M = delta seen s' dp' snk M := by
  unfold delta
  rw [prob_congr h]
  refine Finset.sum_congr rfl fun k _ => ?_
  by_cases hx : seen k
  · rw [h' k hx]
  · rw [prob_unseen hs hk hM k hx, zero_mul, zero_mul]

theorem dsc_congr (hs : ∀ k, IsR (s' k)) (hk : IsR snk) (hM : IsR M) (h : ∀ k, seen k → s k = s' k) (h' : ∀ k, seen k → dp k = dp' k) (k : Fin n) :
    dsc seen s dp snk M k = dsc seen s' dp' snk M k := by
  unfold dsc
  rw [prob_congr h, delta_congr hs hk hM h h']
  by_cases hx : seen k
  · rw [h' k hx]
  · rw [prob_unseen hs hk hM k hx, zero_mul, zero_mul]

end

end Cert.Attn

end
-- ==== Proof.Attn.Model.lean ====
/- The gradient of the windowed attention with sinks, block by block, as both programs are compared with it. -/
module

public import proofs.«01_k».proof.Proof.Attn.Softmax

@[expose] public section

noncomputable section

namespace Cert.Attn

open Idealize.ShloMosaic Cert.RealArith

/-- The rotated and scaled queries, the rotated keys, the values, the result's cotangent and the sinks. -/
structure Data where
  q : Fin 8192 → Fin 8 → Fin 64 → EReal
  k : Fin 8192 → Fin 2 → Fin 64 → EReal
  v : Fin 8192 → Fin 2 → Fin 64 → EReal
  g : Fin 8192 → Fin 8 → Fin 64 → EReal
  s : Fin 8 → EReal

/-- All of them real. -/
structure Data.Real (D : Data) : Prop where
  q : ∀ i j d, IsR (D.q i j d)
  k : ∀ i j d, IsR (D.k i j d)
  v : ∀ i j d, IsR (D.v i j d)
  g : ∀ i j d, IsR (D.g i j d)
  s : ∀ j, IsR (D.s j)

/-- Row `r` of block `n`. -/
abbrev rw8 (n : Fin 64) (r : Fin 128) : Fin 8192 := ⟨128 * n.val + r.val, by omega⟩
/-- The key head of a query head, and the query heads of a key head. -/
abbrev grp (j : Fin 8) : Fin 2 := ⟨j.val / 4, by omega⟩
abbrev hd (g : Fin 2) (a : Fin 4) : Fin 8 := ⟨4 * g.val + a.val, by omega⟩

theorem grp_hd (g : Fin 2) (a : Fin 4) : grp (hd g a) = g := Fin.ext (by show (4 * g.val + a.val) / 4 = g.val; omega)

/-- Query `r` of block `n` sees key `k` of the block before and its own. -/
def seenAt (n : Fin 64) (r : Fin 128) (k : Fin 256) : Prop := (r.val < k.val ∧ k.val ≤ r.val + 128) ∧ (0 < n.val ∨ 128 ≤ k.val)

instance (n : Fin 64) (r : Fin 128) : DecidablePred (seenAt n r) := fun k => by unfold seenAt; infer_instance

/-- The block before and the block itself, with zeros before the first. -/
def win (X : Fin 8192 → Fin 2 → Fin 64 → EReal) (n : Fin 64) (k : Fin 256) (g : Fin 2) (d : Fin 64) : EReal :=
  if h : k.val < 128 then (if n.val = 0 then 0 else X ⟨128 * (n.val - 1) + k.val, by omega⟩ g d) else X ⟨128 * n.val + (k.val - 128), by omega⟩ g d

variable (D : Data)

def sc (n : Fin 64) (j : Fin 8) (r : Fin 128) (k : Fin 256) : EReal := ∑ d, win D.k n k (grp j) d * D.q (rw8 n r) j d
def dpr (n : Fin 64) (j : Fin 8) (r : Fin 128) (k : Fin 256) : EReal := ∑ d, D.g (rw8 n r) j d * win D.v n k (grp j) d
def mx (n : Fin 64) (j : Fin 8) (r : Fin 128) : EReal := max (Finset.univ.fold max ⊥ (masked (seenAt n r) (sc D n j r))) (D.s j)
def lseAt (n : Fin 64) (j : Fin 8) (r : Fin 128) : EReal := lse (seenAt n r) (sc D n j r) (D.s j) (mx D n j r)
def probAt (n : Fin 64) (j : Fin 8) (r : Fin 128) (k : Fin 256) : EReal := prob (seenAt n r) (sc D n j r) (D.s j) (mx D n j r) k
def deltaAt (n : Fin 64) (j : Fin 8) (r : Fin 128) : EReal := delta (seenAt n r) (sc D n j r) (dpr D n j r) (D.s j) (mx D n j r)
def dscAt (n : Fin 64) (j : Fin 8) (r : Fin 128) (k : Fin 256) : EReal := dsc (seenAt n r) (sc D n j r) (dpr D n j r) (D.s j) (mx D n j r) k

/-- A query row's gradient. -/
def dq (n : Fin 64) (j : Fin 8) (r : Fin 128) (d : Fin 64) : EReal := ∑ k, dscAt D n j r k * win D.k n k (grp j) d
/-- What block `n` adds to the gradient of the keys and of the values of its window. -/
def dk (n : Fin 64) (k : Fin 256) (g : Fin 2) (d : Fin 64) : EReal := ∑ a, ∑ r, dscAt D n (hd g a) r k * D.q (rw8 n r) (hd g a) d
def dv (n : Fin 64) (k : Fin 256) (g : Fin 2) (d : Fin 64) : EReal := ∑ a, ∑ r, probAt D n (hd g a) r k * D.g (rw8 n r) (hd g a) d

/-- A key row's gradient: its own block's part and the next block's. -/
def both (X : Fin 64 → Fin 256 → Fin 2 → Fin 64 → EReal) (n : Fin 64) (r : Fin 128) (g : Fin 2) (d : Fin 64) : EReal :=
  X n ⟨128 + r.val, by omega⟩ g d + if h : n.val < 63 then X ⟨n.val + 1, by omega⟩ ⟨r.val, by omega⟩ g d else 0

/-- The sinks' gradient of one block. -/
def dsk (n : Fin 64) (j : Fin 8) : EReal := ∑ r, -(Ideal.exp (D.s j - lseAt D n j r) * deltaAt D n j r)

/-- The transposed rotation of a head's row. -/
def rotT (x : Fin 64 → EReal) (c s : Fin 32 → EReal) (d : Fin 64) : EReal :=
  if h : d.val < 32 then x d * c ⟨d.val, h⟩ + x ⟨d.val + 32, by omega⟩ * s ⟨d.val, h⟩
  else x d * c ⟨d.val - 32, by omega⟩ + x ⟨d.val - 32, by omega⟩ * -s ⟨d.val - 32, by omega⟩

/-- The scale of the queries, an eighth. -/
abbrev cScale : EReal := Ideal.ofBits .f32 0x3E000000#32

/-- The gradient of the projected rows. -/
def dqkv (c s : Fin 8192 → Fin 32 → EReal) (n : Fin 64) (r : Fin 128) (l : Fin 768) : EReal :=
  if h : l.val < 512 then rotT (fun d => dq D n ⟨l.val / 64, by omega⟩ r d * cScale) (c (rw8 n r)) (s (rw8 n r)) ⟨l.val % 64, by omega⟩
  else if h' : l.val < 640 then rotT (both (dk D) n r ⟨l.val / 64 - 8, by omega⟩) (c (rw8 n r)) (s (rw8 n r)) ⟨l.val % 64, by omega⟩
  else both (dv D) n r ⟨l.val / 64 - 10, by omega⟩ ⟨l.val % 64, by omega⟩

variable {D}

theorem win_real {X : Fin 8192 → Fin 2 → Fin 64 → EReal} (h : ∀ i j d, IsR (X i j d)) (n k g d) : IsR (win X n k g d) := by
  unfold win
  split_ifs
  · exact ⟨0, rfl⟩
  · exact h _ _ _
  · exact h _ _ _

theorem sc_real (h : D.Real) (n j r k) : IsR (sc D n j r k) := IsR.sum fun d => (win_real h.k _ _ _ _).mul (h.q _ _ _)
theorem dpr_real (h : D.Real) (n j r k) : IsR (dpr D n j r k) := IsR.sum fun d => (h.g _ _ _).mul (win_real h.v _ _ _ _)
theorem mx_real (h : D.Real) (n j r) : IsR (mx D n j r) := max_real (sc_real h n j r) (h.s j)

end Cert.Attn

end
-- ==== Proof.Attn.Payloads.lean ====
/- What one block's arithmetic gives, entry by entry: the stacked heads, the weights, their gradients and the three products. -/
module

public import proofs.«01_k».proof.Proof.Gen.AttnBwdIdeal.Skeleton
public import Idealize.ShloMosaic.Lib.Pipeline.ValueKit
public import proofs.«01_k».proof.Proof.Attn.Model

@[expose] public section

set_option maxRecDepth 16384

noncomputable section

namespace Cert.AttnBwdIdeal.Val

open Idealize.ShloMosaic Idealize.ShloMosaic.TcCoe Cert.AttnBwdIdeal Cert.AttnBwdIdeal.Gen Cert.RealArith Cert.Attn

theorem lane0 : ∀ l : Fin 128, IntOp.cmpi CmpIPredicate.eq (IntOp.shrsi ArithUnit.vector (BitVec.ofNat 32 l.val) 6#32) 0#32
    = if l.val < 64 then 1#1 else 0#1 := by decide +kernel
theorem lane1 : ∀ l : Fin 128, IntOp.cmpi CmpIPredicate.eq (IntOp.shrsi ArithUnit.vector (BitVec.ofNat 32 l.val) 6#32) 1#32
    = if l.val < 64 then 0#1 else 1#1 := by decide +kernel
theorem lane32 : ∀ l : Fin 128, IntOp.cmpi CmpIPredicate.slt (IntOp.andi (BitVec.ofNat 32 l.val) 63#32) 32#32
    = if l.val % 64 < 32 then 1#1 else 0#1 := by decide +kernel
theorem lane64 : ∀ l : Fin 128, IntOp.cmpi CmpIPredicate.slt (BitVec.ofNat 32 l.val) 64#32 = if l.val < 64 then 1#1 else 0#1 := by decide +kernel
theorem win_mask : ∀ (r : Fin 128) (k : Fin 256), IntOp.andi (IntOp.cmpi CmpIPredicate.sgt (BitVec.ofNat 32 k.val) (BitVec.ofNat 32 r.val))
    (IntOp.cmpi CmpIPredicate.sle (BitVec.ofNat 32 k.val) (IntOp.addi (BitVec.ofNat 32 r.val) 128#32))
    = if r.val < k.val ∧ k.val ≤ r.val + 128 then 1#1 else 0#1 := by decide +kernel
theorem own_mask : ∀ k : Fin 256, IntOp.cmpi CmpIPredicate.sge (BitVec.ofNat 32 k.val) 128#32 = if 128 ≤ k.val then 1#1 else 0#1 := by decide +kernel
theorem sel_if {α : Type} (p : Prop) [Decidable p] (a b : α) : Scalar.select (if p then 1#1 else 0#1) a b = if p then a else b := by
  split_ifs <;> rfl
theorem sel_if' {α : Type} (p : Prop) [Decidable p] (a b : α) : Scalar.select (if p then 0#1 else 1#1) a b = if p then b else a := by
  split_ifs <;> rfl

/-- The mask of block `n`. -/
theorem mask_at (n : Fin 64) (a : BitVec 32) (ha : Scalar.cmpi CmpIPredicate.sgt a 0#32 = if 0 < n.val then 1#1 else 0#1) (r : Fin 128) (k : Fin 256) :
    Scalar.select (IntOp.andi (IntOp.andi (IntOp.cmpi CmpIPredicate.sgt (BitVec.ofNat 32 k.val) (BitVec.ofNat 32 r.val))
      (IntOp.cmpi CmpIPredicate.sle (BitVec.ofNat 32 k.val) (IntOp.addi (BitVec.ofNat 32 r.val) 128#32)))
      (IntOp.ori (Scalar.cmpi CmpIPredicate.sgt a 0#32) (IntOp.cmpi CmpIPredicate.sge (BitVec.ofNat 32 k.val) 128#32)))
      (0 : EReal) (Named.named (F := Ideal) κ "mask" (φ := .f32) 4048155338#32) = if seenAt n r k then 0 else ⊥ := by
  rw [win_mask, own_mask, ha]
  have hb : Named.named (F := Ideal) κ "mask" (φ := .f32) 4048155338#32 = (⊥ : EReal) := rfl
  rw [hb]
  by_cases h1 : r.val < k.val ∧ k.val ≤ r.val + 128 <;> by_cases h2 : 0 < n.val <;> by_cases h3 : 128 ≤ k.val <;>
    simp only [seenAt, h1, h2, h3, if_true, if_false, true_and, false_and, or_true, true_or, or_false, and_self, and_true, and_false] <;> rfl

/-- Row `r` of head `j` in the stacked rows; a lane of a key head; a lane within its half. -/
abbrev st (j : Fin 8) (r : Fin 128) : Fin 1024 := ⟨128 * j.val + r.val, by omega⟩
abbrev ln (g : Fin 2) (d : Fin 64) : Fin 128 := ⟨64 * g.val + d.val, by omega⟩
abbrev lo (l : Fin 128) : Fin 64 := ⟨l.val % 64, by omega⟩

theorem sum_ln (f : Fin 128 → EReal) : ∑ l, f l = ∑ g, ∑ d, f (ln g d) := by
  rw [← Fintype.sum_prod_type', ← Equiv.sum_comp (finProdFinEquiv : Fin 2 × Fin 64 ≃ Fin 128)]
  exact Finset.sum_congr rfl fun x _ => congrArg f (Fin.ext (by show x.2.val + 64 * x.1.val = 64 * x.1.val + x.2.val; omega))

theorem sum_half (g : Fin 2) (f : Fin 128 → EReal) (h : ∀ l : Fin 128, ¬ l.val / 64 = g.val → f l = 0) : ∑ l, f l = ∑ d, f (ln g d) := by
  rw [sum_ln, Finset.sum_eq_single g]
  · intro b _ hb
    refine Finset.sum_eq_zero fun d _ => h _ ?_
    have := Fin.val_ne_of_ne hb
    show ¬ (64 * b.val + d.val) / 64 = g.val
    omega
  · intro hg; exact absurd (Finset.mem_univ g) hg

theorem sum_512 (f : Fin 512 → EReal) : ∑ x, f x = ∑ a : Fin 4, ∑ r : Fin 128, f ⟨128 * a.val + r.val, by omega⟩ := by
  rw [← Fintype.sum_prod_type', ← Equiv.sum_comp (finProdFinEquiv : Fin 4 × Fin 128 ≃ Fin 512)]
  exact Finset.sum_congr rfl fun x _ => congrArg f (Fin.ext (by show x.2.val + 128 * x.1.val = 128 * x.1.val + x.2.val; omega))

/-- The stacked queries: a head's rows in the lanes of its key head, zeros in the others. -/
theorem qs_at (q0 q1 q2 q3 : FVec Ideal S128x128 .bf16) (q : Fin 128 → Fin 8 → Fin 64 → EReal)
    (h0 : ∀ r l, q0 (ix2 r l) = q r ⟨l.val / 64, by omega⟩ (lo l)) (h1 : ∀ r l, q1 (ix2 r l) = q r ⟨2 + l.val / 64, by omega⟩ (lo l))
    (h2 : ∀ r l, q2 (ix2 r l) = q r ⟨4 + l.val / 64, by omega⟩ (lo l)) (h3 : ∀ r l, q3 (ix2 r l) = q r ⟨6 + l.val / 64, by omega⟩ (lo l))
    (j : Fin 8) (r : Fin 128) (l : Fin 128) :
    k0_pay22 (F := Ideal) q2 q3 (k0_pay19 q0 q1) (k0_pay20 q2) k0_pay21 (ix2 (st j r) l) = if l.val / 64 = (grp j).val then q r j (lo l) else 0 := by
  pointwise [k0_pay22, k0_pay19, k0_pay20, k0_pay21]
  simp only [lane0, lane1, sel_if, sel_if', h0, h1, h2, h3]
  have hr := r.isLt
  have hl := l.isLt
  fin_cases j <;> simp (disch := omega) only [st, dif_pos, dif_neg, grp]
  all_goals
    by_cases hl : l.val < 64
    all_goals simp (disch := omega) only [hl, if_true, if_false, if_pos, if_neg]
    all_goals try rfl
    all_goals exact congr (congrArg₂ q (Fin.ext (by simp (disch := omega) only []; omega)) (Fin.ext (by simp (disch := omega) only []; omega))) (Fin.ext (by first | rfl | (simp only [lo]; done) | (simp only [lo]; omega)))

/-- The stacked cotangents, the same way. -/
theorem dos_at (q0 q1 q2 q3 : FVec Ideal S128x128 .bf16) (q : Fin 128 → Fin 8 → Fin 64 → EReal)
    (h0 : ∀ r l, q0 (ix2 r l) = q r ⟨l.val / 64, by omega⟩ (lo l)) (h1 : ∀ r l, q1 (ix2 r l) = q r ⟨2 + l.val / 64, by omega⟩ (lo l))
    (h2 : ∀ r l, q2 (ix2 r l) = q r ⟨4 + l.val / 64, by omega⟩ (lo l)) (h3 : ∀ r l, q3 (ix2 r l) = q r ⟨6 + l.val / 64, by omega⟩ (lo l))
    (j : Fin 8) (r : Fin 128) (l : Fin 128) :
    k0_pay30 (F := Ideal) (k0_pay17 (k0_pay16 q3)) (k0_pay25 (k0_pay14 q1) (k0_pay23 (k0_pay13 q0)) (k0_pay24 (k0_pay13 q0)) (iota Kind.tc S128x128 32 [1] iota_S128x128_d1_w32))
      (k0_pay26 (k0_pay15 q2)) (k0_pay27 (k0_pay15 q2)) (k0_pay28 (k0_pay17 (k0_pay16 q3))) (iota Kind.tc S128x128 32 [1] iota_S128x128_d1_w32) k0_pay29
      (ix2 (st j r) l) = if l.val / 64 = (grp j).val then q r j (lo l) else 0 := by
  pointwise [k0_pay30, k0_pay17, k0_pay16, k0_pay25, k0_pay14, k0_pay23, k0_pay13, k0_pay24, k0_pay26, k0_pay27, k0_pay28, k0_pay29, k0_pay15]
  simp only [lane0, lane1, sel_if, sel_if', h0, h1, h2, h3]
  have hr := r.isLt
  have hl := l.isLt
  fin_cases j <;> simp (disch := omega) only [st, dif_pos, dif_neg, grp]
  all_goals
    by_cases hl : l.val < 64
    all_goals simp (disch := omega) only [hl, if_true, if_false, if_pos, if_neg]
    all_goals try rfl
    all_goals exact congr (congrArg₂ q (Fin.ext (by simp (disch := omega) only []; omega)) (Fin.ext (by simp (disch := omega) only []; omega))) (Fin.ext (by first | rfl | (simp only [lo]; done) | (simp only [lo]; omega)))

set_option maxHeartbeats 1000000 in
/-- The saved logarithms, stacked. -/
theorem lse_at (L : FVec Ideal S128x128 .f32) (j : Fin 8) (r : Fin 128) : k0_pay31 (F := Ideal) L (ix2 (st j r) 0) = L (ix2 r ⟨j.val, by omega⟩) := by
  pointwise [k0_pay31]
  have hr := r.isLt
  fin_cases j <;> simp (disch := omega) only [st, dif_pos, dif_neg]
  all_goals exact congrArg L (congrArg₂ ix2 (Fin.ext (by simp (disch := omega) only []; omega)) rfl)

/-- One block's inputs as the body reads them, against the model's. -/
structure Blk (D : Data) (n : Fin 64) (a : BitVec 32) (kb vb : FVec Ideal S256x128 .bf16) (qs dos : FVec Ideal S1024x128 .bf16) (L : FVec Ideal S128x128 .f32) : Prop where
  a : Scalar.cmpi CmpIPredicate.sgt a 0#32 = if 0 < n.val then 1#1 else 0#1
  k : ∀ k g d, (0 < n.val ∨ 128 ≤ k.val) → kb (ix2 k (ln g d)) = win D.k n k g d
  kr : ∀ k l, IsR (kb (ix2 k l))
  v : ∀ k g d, (0 < n.val ∨ 128 ≤ k.val) → vb (ix2 k (ln g d)) = win D.v n k g d
  vr : ∀ k l, IsR (vb (ix2 k l))
  q : ∀ j r l, qs (ix2 (st j r) l) = if l.val / 64 = (grp j).val then D.q (rw8 n r) j (lo l) else 0
  g : ∀ j r l, dos (ix2 (st j r) l) = if l.val / 64 = (grp j).val then D.g (rw8 n r) j (lo l) else 0
  L : ∀ j r, L (ix2 r ⟨j.val, by omega⟩) = lseAt D n j r

section
variable {D : Data} (hD : D.Real) {n : Fin 64} {a : BitVec 32} {kb vb : FVec Ideal S256x128 .bf16} {qs dos : FVec Ideal S1024x128 .bf16} {L : FVec Ideal S128x128 .f32}
  (B : Blk D n a kb vb qs dos L)

theorem ln_div (g : Fin 2) (d : Fin 64) : (ln g d).val / 64 = g.val := by show (64 * g.val + d.val) / 64 = g.val; omega
theorem lo_ln (g : Fin 2) (d : Fin 64) : lo (ln g d) = d := Fin.ext (by show (64 * g.val + d.val) % 64 = d.val; omega)

include B in
theorem Blk.dotk (j : Fin 8) (r : Fin 128) (k : Fin 256) : ∑ l, qs (ix2 (st j r) l) * kb (ix2 k l) = ∑ d, kb (ix2 k (ln (grp j) d)) * D.q (rw8 n r) j d := by
  rw [sum_half (grp j) _ fun l hl => by rw [B.q, if_neg hl, zero_mul]]
  exact Finset.sum_congr rfl fun d _ => by rw [B.q, if_pos (ln_div _ _), lo_ln, mul_comm]
include B in
theorem Blk.dotv (j : Fin 8) (r : Fin 128) (k : Fin 256) : ∑ l, dos (ix2 (st j r) l) * vb (ix2 k l) = ∑ d, D.g (rw8 n r) j d * vb (ix2 k (ln (grp j) d)) := by
  rw [sum_half (grp j) _ fun l hl => by rw [B.g, if_neg hl, zero_mul]]
  exact Finset.sum_congr rfl fun d _ => by rw [B.g, if_pos (ln_div _ _), lo_ln]
include B in
theorem Blk.dotk_seen (j : Fin 8) (r : Fin 128) (k : Fin 256) (h : seenAt n r k) : ∑ l, qs (ix2 (st j r) l) * kb (ix2 k l) = sc D n j r k := by
  rw [B.dotk]; exact Finset.sum_congr rfl fun d _ => by rw [B.k _ _ _ h.2]
include B in
theorem Blk.dotv_seen (j : Fin 8) (r : Fin 128) (k : Fin 256) (h : seenAt n r k) : ∑ l, dos (ix2 (st j r) l) * vb (ix2 k l) = dpr D n j r k := by
  rw [B.dotv]; exact Finset.sum_congr rfl fun d _ => by rw [B.v _ _ _ h.2]

include hD B in
/-- The weights, recomputed from the saved logarithm. -/
theorem Blk.prob (j : Fin 8) (r : Fin 128) (k : Fin 256) : k0_pay32 (F := Ideal) a kb L qs (ix2 (st j r) k) = probAt D n j r k := by
  have hs : ∀ k, IsR (∑ l, qs (ix2 (st j r) l) * kb (ix2 k l)) := fun k => by
    rw [B.dotk]; exact IsR.sum fun d => (B.kr _ _).mul (hD.q _ _ _)
  have hc : ∀ k, seenAt n r k → ∑ l, qs (ix2 (st j r) l) * kb (ix2 k l) = sc D n j r k := fun k h => B.dotk_seen j r k h
  have e : k0_pay32 (F := Ideal) a kb L qs (ix2 (st j r) k)
      = Ideal.exp (∑ l, qs (ix2 (st j r) l) * kb (ix2 k l) + (if seenAt n r k then 0 else ⊥) - k0_pay31 (F := Ideal) L (ix2 (st j r) 0)) := by
    rw [← mask_at n a B.a r k]
    pointwise [k0_pay32]
    have hr := r.isLt
    fin_cases j <;> simp (disch := omega) only [st, dif_pos, dif_neg]
    all_goals
      first
      | done
      | exact congrArg₂ (fun (i : Fin 1024) (x : Nat) => Ideal.exp (∑ l, qs (ix2 i l) * kb (ix2 k l)
          + Scalar.select (IntOp.andi (IntOp.andi (IntOp.cmpi CmpIPredicate.sgt (BitVec.ofNat 32 k.val) (BitVec.ofNat 32 x))
            (IntOp.cmpi CmpIPredicate.sle (BitVec.ofNat 32 k.val) (IntOp.addi (BitVec.ofNat 32 x) 128#32)))
            (IntOp.ori (Scalar.cmpi CmpIPredicate.sgt a 0#32) (IntOp.cmpi CmpIPredicate.sge (BitVec.ofNat 32 k.val) 128#32)))
            (0 : EReal) (Named.named (F := Ideal) κ "mask" (φ := .f32) 4048155338#32) - _))
          (Fin.ext (by first | rfl | (simp only []; done) | (simp (disch := omega) only []; omega))) (by omega)
  rw [e, lse_at, B.L, lseAt, ← lse_congr hc, prob_eq hs (hD.s j) (mx_real hD n j r), probAt, prob_congr hc]

end

/-- The weights' gradient: the cotangents against the values. -/
theorem dpp_at (v12 : FVec Ideal S256x128 .bf16) (v32 : FVec Ideal S128x128 .f32) (v130 : FVec Ideal S512x128 .bf16) (v138 v145 v153 : FVec Ideal S128x128 .f32)
    (v154 v155 : IVec S128x128 32) (j : Fin 8) (r : Fin 128) (k : Fin 256) :
    k0_pay33 (F := Ideal) v12 v32 v130 v138 v145 v153 v154 v155 (ix2 (st j r) k)
      = ∑ l, k0_pay30 (F := Ideal) v32 v130 v138 v145 v153 v154 v155 (ix2 (st j r) l) * v12 (ix2 k l) := by
  pointwise [k0_pay33]
  split_ifs with h
  · rfl
  all_goals exact Finset.sum_congr rfl fun l _ => congrArg (fun i => k0_pay30 (F := Ideal) v32 v130 v138 v145 v153 v154 v155 (ix2 i l) * v12 (ix2 k l)) (Fin.ext (by show 512 + (128 * j.val + r.val - 512) = 128 * j.val + r.val; omega))

/-- The weights, their gradients and the products of both. -/
structure Wts (D : Data) (n : Fin 64) (vb : FVec Ideal S256x128 .bf16) (dos : FVec Ideal S1024x128 .bf16) (pp dpp pd : FVec Ideal S1024x256 .f32) : Prop where
  p : ∀ j r k, pp (ix2 (st j r) k) = probAt D n j r k
  d : ∀ j r k, dpp (ix2 (st j r) k) = ∑ l, dos (ix2 (st j r) l) * vb (ix2 k l)
  m : ∀ j r k, pd (ix2 (st j r) k) = pp (ix2 (st j r) k) * dpp (ix2 (st j r) k)

section
variable {D : Data} (hD : D.Real) {n : Fin 64} {a : BitVec 32} {kb vb : FVec Ideal S256x128 .bf16} {qs dos : FVec Ideal S1024x128 .bf16} {L : FVec Ideal S128x128 .f32}
  {pp dpp pd : FVec Ideal S1024x256 .f32} (B : Blk D n a kb vb qs dos L) (W : Wts D n vb dos pp dpp pd)

include hD B W in
theorem Wts.delta (j : Fin 8) (r : Fin 128) : k0_pay35 (F := Ideal) pd (ix2 (st j r) 0) = deltaAt D n j r := by
  have e : k0_pay35 (F := Ideal) pd (ix2 (st j r) 0) = ∑ k, pd (ix2 (st j r) k) := by pointwise [k0_pay35]
  rw [e, deltaAt, Cert.Attn.delta]
  refine Finset.sum_congr rfl fun k _ => ?_
  rw [W.m, W.p, W.d]
  by_cases h : seenAt n r k
  · rw [B.dotv_seen j r k h]; rfl
  · rw [probAt, prob_unseen (sc_real hD n j r) (hD.s j) (mx_real hD n j r) k h, zero_mul, zero_mul]

include hD B W in
theorem Wts.dsc (j : Fin 8) (r : Fin 128) (k : Fin 256) : k0_pay36 (F := Ideal) pp dpp pd (ix2 (st j r) k) = dscAt D n j r k := by
  have e : k0_pay36 (F := Ideal) pp dpp pd (ix2 (st j r) k) = pp (ix2 (st j r) k) * (dpp (ix2 (st j r) k) - k0_pay35 (F := Ideal) pd (ix2 (st j r) 0)) := by
    pointwise [k0_pay36]
  rw [e, W.delta hD B, W.p, W.d]
  by_cases h : seenAt n r k
  · rw [B.dotv_seen j r k h]; rfl
  · rw [probAt, dscAt, prob_unseen (sc_real hD n j r) (hD.s j) (mx_real hD n j r) k h, zero_mul, dsc_unseen (sc_real hD n j r) (hD.s j) (mx_real hD n j r) k h]

theorem dscAt_unseen (hD : D.Real) (j : Fin 8) (r : Fin 128) (k : Fin 256) (h : ¬ seenAt n r k) : dscAt D n j r k = 0 :=
  dsc_unseen (sc_real hD n j r) (hD.s j) (mx_real hD n j r) k h

include hD B W in
/-- The queries' gradient of one head, in the lanes of its key head. -/
theorem Wts.dq (j : Fin 8) (r : Fin 128) (d : Fin 64) : k0_pay37 (F := Ideal) kb pp dpp pd (ix2 (st j r) (ln (grp j) d)) = Cert.Attn.dq D n j r d := by
  have e : k0_pay37 (F := Ideal) kb pp dpp pd (ix2 (st j r) (ln (grp j) d)) = ∑ k, k0_pay36 (F := Ideal) pp dpp pd (ix2 (st j r) k) * kb (ix2 k (ln (grp j) d)) := by
    pointwise [k0_pay37]
    split_ifs with h
    · rfl
    all_goals exact Finset.sum_congr rfl fun k _ => congrArg (fun i => k0_pay36 (F := Ideal) pp dpp pd (ix2 i k) * kb (ix2 k (ln (grp j) d))) (Fin.ext (by show 512 + (128 * j.val + r.val - 512) = 128 * j.val + r.val; omega))
  rw [e, Cert.Attn.dq]
  refine Finset.sum_congr rfl fun k _ => ?_
  rw [W.dsc hD B]
  by_cases h : seenAt n r k
  · rw [B.k _ _ _ h.2]
  · rw [dscAt_unseen hD j r k h, zero_mul, zero_mul]

/-- A sum over the stacked rows of both halves, where only one key head's rows count. -/
theorem sum_stack (g : Fin 2) (F : Fin 1024 → EReal) (f : Fin 4 → Fin 128 → EReal) (h1 : ∀ a r, F (st (hd g a) r) = f a r)
    (h0 : ∀ j r, ¬ grp j = g → F (st j r) = 0) :
    ∑ x : Fin 512, F ⟨x.val, by omega⟩ + ∑ x : Fin 512, F ⟨512 + x.val, by omega⟩ = ∑ a, ∑ r, f a r := by
  rw [sum_512, sum_512]
  have lower : ∀ (a : Fin 4) (r : Fin 128), F ⟨128 * a.val + r.val, by omega⟩ = F (st (hd 0 a) r) := fun a r =>
    congrArg F (Fin.ext (by show 128 * a.val + r.val = 128 * (4 * 0 + a.val) + r.val; omega))
  have upper : ∀ (a : Fin 4) (r : Fin 128), F ⟨512 + (128 * a.val + r.val), by omega⟩ = F (st (hd 1 a) r) := fun a r =>
    congrArg F (Fin.ext (by show 512 + (128 * a.val + r.val) = 128 * (4 * 1 + a.val) + r.val; omega))
  simp only [lower, upper]
  fin_cases g
  · rw [Finset.sum_congr rfl fun a _ => Finset.sum_congr rfl fun r _ => h0 (hd 1 a) r (by rw [grp_hd]; exact Fin.ne_of_val_ne (by decide))]
    simp only [Finset.sum_const_zero, add_zero]
    exact Finset.sum_congr rfl fun a _ => Finset.sum_congr rfl fun r _ => h1 a r
  · rw [Finset.sum_congr rfl fun a _ => Finset.sum_congr rfl fun r _ => h0 (hd 0 a) r (by rw [grp_hd]; exact Fin.ne_of_val_ne (by decide))]
    simp only [Finset.sum_const_zero, zero_add]
    exact Finset.sum_congr rfl fun a _ => Finset.sum_congr rfl fun r _ => h1 a r

include hD B W in
/-- The keys' gradient of the window. -/
theorem Wts.dk (k : Fin 256) (g : Fin 2) (d : Fin 64) : k0_pay38 (F := Ideal) qs pp dpp pd (ix2 k (ln g d)) = Cert.Attn.dk D n k g d := by
  have e : k0_pay38 (F := Ideal) qs pp dpp pd (ix2 k (ln g d))
      = ∑ x : Fin 512, k0_pay36 (F := Ideal) pp dpp pd (ix2 ⟨x.val, by omega⟩ k) * qs (ix2 ⟨x.val, by omega⟩ (ln g d))
        + ∑ x : Fin 512, k0_pay36 (F := Ideal) pp dpp pd (ix2 ⟨512 + x.val, by omega⟩ k) * qs (ix2 ⟨512 + x.val, by omega⟩ (ln g d)) := by
    pointwise [k0_pay38]
  rw [e, Cert.Attn.dk]
  refine sum_stack g (fun i => k0_pay36 (F := Ideal) pp dpp pd (ix2 i k) * qs (ix2 i (ln g d))) _ (fun a r => ?_) (fun j r h => ?_)
  · rw [W.dsc hD B, B.q, if_pos (by rw [ln_div, grp_hd]), lo_ln]
  · rw [B.q, if_neg (by rw [ln_div]; exact fun h' => h (Fin.ext h'.symm)), mul_zero]

include B W in
/-- The values' gradient of the window. -/
theorem Wts.dv (k : Fin 256) (g : Fin 2) (d : Fin 64) : k0_pay39 (F := Ideal) dos pp (ix2 k (ln g d)) = Cert.Attn.dv D n k g d := by
  have e : k0_pay39 (F := Ideal) dos pp (ix2 k (ln g d))
      = ∑ x : Fin 512, pp (ix2 ⟨x.val, by omega⟩ k) * dos (ix2 ⟨x.val, by omega⟩ (ln g d))
        + ∑ x : Fin 512, pp (ix2 ⟨512 + x.val, by omega⟩ k) * dos (ix2 ⟨512 + x.val, by omega⟩ (ln g d)) := by
    pointwise [k0_pay39]
  rw [e, Cert.Attn.dv]
  refine sum_stack g (fun i => pp (ix2 i k) * dos (ix2 i (ln g d))) _ (fun a r => ?_) (fun j r h => ?_)
  · rw [W.p, B.g, if_pos (by rw [ln_div, grp_hd]), lo_ln]
  · rw [B.g, if_neg (by rw [ln_div]; exact fun h' => h (Fin.ext h'.symm)), mul_zero]

end

end Cert.AttnBwdIdeal.Val

end
-- ==== Proof.Attn.Lanes.lean ====
/- What one block's arithmetic gives, entry by entry: the transposed rotations and the sinks' gradient. -/
module

public import proofs.«01_k».proof.Proof.Attn.Payloads

@[expose] public section

set_option maxRecDepth 16384

noncomputable section

namespace Cert.AttnBwdIdeal.Val

open Idealize.ShloMosaic Idealize.ShloMosaic.TcCoe Cert.AttnBwdIdeal Cert.AttnBwdIdeal.Gen Cert.RealArith Cert.Attn

/-! ## The transposed rotation over the lanes of two heads -/

/-- The half of a lane. -/
abbrev hf (l : Fin 128) : Fin 2 := ⟨l.val / 64, by omega⟩
abbrev l32 (l : Fin 128) : Fin 32 := ⟨l.val % 32, by omega⟩

theorem rope_lane (y C S : Fin 128 → EReal) (X : Fin 2 → Fin 64 → EReal) (c s : Fin 32 → EReal) (hy : ∀ l, y l = X (hf l) (lo l))
    (hC : ∀ l, C l = c (l32 l)) (hS : ∀ l : Fin 128, S l = if l.val % 64 < 32 then -(s (l32 l)) else s (l32 l)) (l : Fin 128) :
    y l * C l + (if l.val % 64 < 32 then y ⟨(l.val + 128 - 96) % 128, by omega⟩ * S ⟨(l.val + 128 - 96) % 128, by omega⟩
      else y ⟨(l.val + 128 - 32) % 128, by omega⟩ * S ⟨(l.val + 128 - 32) % 128, by omega⟩) = rotT (X (hf l)) c s (lo l) := by
  have hl := l.isLt
  simp only [hy, hC, hS, rotT]
  by_cases h : l.val % 64 < 32
  · rw [if_pos h, dif_pos h, if_neg (by show ¬ (l.val + 128 - 96) % 128 % 64 < 32; omega)]
    exact congrArg₂ (· + ·) (congrArg (_ * ·) (congrArg c (Fin.ext (by show l.val % 32 = l.val % 64; omega))))
      (congrArg₂ (· * ·) (congrArg₂ X (Fin.ext (by show (l.val + 128 - 96) % 128 / 64 = l.val / 64; omega)) (Fin.ext (by show (l.val + 128 - 96) % 128 % 64 = l.val % 64 + 32; omega)))
        (congrArg s (Fin.ext (by show (l.val + 128 - 96) % 128 % 32 = l.val % 64; omega))))
  · rw [if_neg h, dif_neg h, if_pos (by show (l.val + 128 - 32) % 128 % 64 < 32; omega)]
    exact congrArg₂ (· + ·) (congrArg (_ * ·) (congrArg c (Fin.ext (by show l.val % 32 = l.val % 64 - 32; omega))))
      (congrArg₂ (· * ·) (congrArg₂ X (Fin.ext (by show (l.val + 128 - 32) % 128 / 64 = l.val / 64; omega)) (Fin.ext (by show (l.val + 128 - 32) % 128 % 64 = l.val % 64 - 32; omega)))
        (congrArg (fun z => -(s z)) (Fin.ext (by show (l.val + 128 - 32) % 128 % 32 = l.val % 64 - 32; omega))))

/-- The rotation's tables over a block's rows. -/
structure Tab (C S : FVec Ideal S128x128 .f32) (c s : Fin 128 → Fin 32 → EReal) : Prop where
  c : ∀ r l, C (ix2 r l) = c r (l32 l)
  s : ∀ r (l : Fin 128), S (ix2 r l) = if l.val % 64 < 32 then -(s r (l32 l)) else s r (l32 l)

section
variable {C S : FVec Ideal S128x128 .f32} {c s : Fin 128 → Fin 32 → EReal} (T : Tab C S c s) (h0 h1 : FVec Ideal S128x128 .f32) (X : Fin 2 → Fin 128 → Fin 64 → EReal)

/-- Two heads' rows side by side, each in its half of the lanes. -/
theorem pair_lo (e0 : ∀ r d, h0 (ix2 r (ln 0 d)) = X 0 r d) (e1 : ∀ r d, h1 (ix2 r (ln 0 d)) = X 1 r d) (r l : Fin 128) :
    (if l.val < 64 then h0 (ix2 r l) else h1 (ix2 r ⟨(l.val + 128 - 64) % 128, by omega⟩)) = X (hf l) r (lo l) := by
  have hl := l.isLt
  by_cases h : l.val < 64
  · rw [if_pos h]
    exact ((congrArg (fun x => h0 (ix2 r x)) (Fin.ext (by show l.val = 64 * 0 + l.val % 64; omega))).trans (e0 r (lo l))).trans
      (congrArg (fun g => X g r _) (Fin.ext (by show 0 = l.val / 64; omega)))
  · rw [if_neg h]
    exact ((congrArg (fun x => h1 (ix2 r x)) (Fin.ext (by show (l.val + 128 - 64) % 128 = 64 * 0 + l.val % 64; omega))).trans (e1 r (lo l))).trans
      (congrArg (fun g => X g r _) (Fin.ext (by show 1 = l.val / 64; omega)))

theorem pair_hi (e0 : ∀ r d, h0 (ix2 r (ln 1 d)) = X 0 r d) (e1 : ∀ r d, h1 (ix2 r (ln 1 d)) = X 1 r d) (r l : Fin 128) :
    (if l.val < 64 then h0 (ix2 r ⟨(l.val + 128 - 64) % 128, by omega⟩) else h1 (ix2 r l)) = X (hf l) r (lo l) := by
  have hl := l.isLt
  by_cases h : l.val < 64
  · rw [if_pos h]
    exact ((congrArg (fun x => h0 (ix2 r x)) (Fin.ext (by show (l.val + 128 - 64) % 128 = 64 * 1 + l.val % 64; omega))).trans (e0 r (lo l))).trans
      (congrArg (fun g => X g r _) (Fin.ext (by show 0 = l.val / 64; omega)))
  · rw [if_neg h]
    exact ((congrArg (fun x => h1 (ix2 r x)) (Fin.ext (by show l.val = 64 * 1 + l.val % 64; omega))).trans (e1 r (lo l))).trans
      (congrArg (fun g => X g r _) (Fin.ext (by show 1 = l.val / 64; omega)))

theorem lane64a (l : Fin 128) : IntOp.cmpi CmpIPredicate.slt (BitVec.ofNat 32 ((l.val + 128 - 96) % 128)) 64#32 = if (l.val + 128 - 96) % 128 < 64 then 1#1 else 0#1 :=
  lane64 ⟨(l.val + 128 - 96) % 128, by omega⟩
theorem lane64b (l : Fin 128) : IntOp.cmpi CmpIPredicate.slt (BitVec.ofNat 32 ((l.val + 128 - 32) % 128)) 64#32 = if (l.val + 128 - 32) % 128 < 64 then 1#1 else 0#1 :=
  lane64 ⟨(l.val + 128 - 32) % 128, by omega⟩

include T

/-- Heads 0 and 1. -/
theorem rope70 (e0 : ∀ r d, h0 (ix2 r (ln 0 d)) = X 0 r d) (e1 : ∀ r d, h1 (ix2 r (ln 0 d)) = X 1 r d) (r l : Fin 128) :
    k0_pay70 (F := Ideal) (k0_pay68 h0 h1 C) (k0_pay69 h0 h1 S) (ix2 r l) = rotT (fun d => X (hf l) r d * cScale) (c r) (s r) (lo l) := by
  pointwise [k0_pay70, k0_pay68, k0_pay69, k0_pay67]
  simp only [lane32, lane64, lane64a, lane64b, sel_if]
  exact rope_lane (fun l => (if l.val < 64 then h0 (ix2 r l) else h1 (ix2 r ⟨(l.val + 128 - 64) % 128, by omega⟩)) * cScale) (fun l => C (ix2 r l)) (fun l => S (ix2 r l))
    (fun g d => X g r d * cScale) (c r) (s r) (fun l => by rw [pair_lo h0 h1 X e0 e1]) (T.c r) (T.s r) l

/-- Heads 2 and 3. -/
theorem rope72 (e0 : ∀ r d, h0 (ix2 r (ln 0 d)) = X 0 r d) (e1 : ∀ r d, h1 (ix2 r (ln 0 d)) = X 1 r d) (r l : Fin 128) :
    k0_pay72 (F := Ideal) h0 h1 C S (ix2 r l) = rotT (fun d => X (hf l) r d * cScale) (c r) (s r) (lo l) := by
  pointwise [k0_pay72]
  simp only [lane32, lane64, lane64a, lane64b, sel_if]
  exact rope_lane (fun l => (if l.val < 64 then h0 (ix2 r l) else h1 (ix2 r ⟨(l.val + 128 - 64) % 128, by omega⟩)) * cScale) (fun l => C (ix2 r l)) (fun l => S (ix2 r l))
    (fun g d => X g r d * cScale) (c r) (s r) (fun l => by rw [pair_lo h0 h1 X e0 e1]) (T.c r) (T.s r) l

/-- Heads 4 and 5. -/
theorem rope77 (e0 : ∀ r d, h0 (ix2 r (ln 1 d)) = X 0 r d) (e1 : ∀ r d, h1 (ix2 r (ln 1 d)) = X 1 r d) (r l : Fin 128) :
    k0_pay77 (F := Ideal) (k0_pay75 h0 h1 C) (k0_pay76 h0 h1 S) (ix2 r l) = rotT (fun d => X (hf l) r d * cScale) (c r) (s r) (lo l) := by
  pointwise [k0_pay77, k0_pay75, k0_pay76, k0_pay74]
  simp only [lane32, lane64, lane64a, lane64b, sel_if]
  exact rope_lane (fun l => (if l.val < 64 then h0 (ix2 r ⟨(l.val + 128 - 64) % 128, by omega⟩) else h1 (ix2 r l)) * cScale) (fun l => C (ix2 r l)) (fun l => S (ix2 r l))
    (fun g d => X g r d * cScale) (c r) (s r) (fun l => by rw [pair_hi h0 h1 X e0 e1]) (T.c r) (T.s r) l

/-- Heads 6 and 7. -/
theorem rope79 (e0 : ∀ r d, h0 (ix2 r (ln 1 d)) = X 0 r d) (e1 : ∀ r d, h1 (ix2 r (ln 1 d)) = X 1 r d) (r l : Fin 128) :
    k0_pay79 (F := Ideal) h0 h1 C S (ix2 r l) = rotT (fun d => X (hf l) r d * cScale) (c r) (s r) (lo l) := by
  pointwise [k0_pay79]
  simp only [lane32, lane64, lane64a, lane64b, sel_if]
  exact rope_lane (fun l => (if l.val < 64 then h0 (ix2 r ⟨(l.val + 128 - 64) % 128, by omega⟩) else h1 (ix2 r l)) * cScale) (fun l => C (ix2 r l)) (fun l => S (ix2 r l))
    (fun g d => X g r d * cScale) (c r) (s r) (fun l => by rw [pair_hi h0 h1 X e0 e1]) (T.c r) (T.s r) l

/-- The keys: the rows the window's own half adds to what the block before left. -/
theorem rope63 (K : FVec Ideal S256x128 .f32) (P : FVec Ideal S128x128 .f32) (Y : Fin 2 → Fin 128 → Fin 64 → EReal)
    (e : ∀ (r : Fin 128) g d, K (ix2 (⟨r.val, by omega⟩ : Fin 256) (ln g d)) + P (ix2 r (ln g d)) = Y g r d) (r l : Fin 128) :
    k0_pay63 (F := Ideal) (k0_pay59 K P C) (k0_pay60 K P S) k0_pay61 k0_pay62 (ix2 r l) = rotT (Y (hf l) r) (c r) (s r) (lo l) := by
  pointwise [k0_pay63, k0_pay59, k0_pay60, k0_pay61, k0_pay62, k0_pay58]
  simp only [lane32, sel_if]
  exact rope_lane (fun l => K (ix2 (⟨r.val, by omega⟩ : Fin 256) l) + P (ix2 r l)) (fun l => C (ix2 r l)) (fun l => S (ix2 r l))
    (fun g => Y g r) (c r) (s r) (fun l => by
      have hl := l.isLt
      have h : l = ln (hf l) (lo l) := Fin.ext (by show l.val = 64 * (l.val / 64) + l.val % 64; omega)
      exact (congrArg (fun l => K (ix2 (⟨r.val, by omega⟩ : Fin 256) l) + P (ix2 r l)) h).trans (e r (hf l) (lo l))) (T.c r) (T.s r) l

/-- The keys of the last block, to which nothing is added. -/
theorem rope1 (K : FVec Ideal S256x128 .f32) (Y : Fin 2 → Fin 128 → Fin 64 → EReal)
    (e : ∀ (r : Fin 128) g d, K (ix2 (⟨128 + r.val, by omega⟩ : Fin 256) (ln g d)) = Y g r d) (r l : Fin 128) :
    k0_pay1 (F := Ideal) K C S (ix2 r l) = rotT (Y (hf l) r) (c r) (s r) (lo l) := by
  pointwise [k0_pay1]
  simp only [lane32, sel_if]
  exact rope_lane (fun l => K (ix2 (⟨128 + r.val, by omega⟩ : Fin 256) l)) (fun l => C (ix2 r l)) (fun l => S (ix2 r l))
    (fun g => Y g r) (c r) (s r) (fun l => by
      have hl := l.isLt
      have h : l = ln (hf l) (lo l) := Fin.ext (by show l.val = 64 * (l.val / 64) + l.val % 64; omega)
      exact (congrArg (fun l => K (ix2 (⟨128 + r.val, by omega⟩ : Fin 256) l)) h).trans (e r (hf l) (lo l))) (T.c r) (T.s r) l

end

/-! ## The sinks' gradient -/

theorem lane_is : ∀ (j : Fin 8) (l : Fin 128), IntOp.cmpi CmpIPredicate.eq (BitVec.ofNat 32 l.val) (BitVec.ofNat 32 j.val) = if l.val = j.val then 1#1 else 0#1 := by
  decide +kernel

/-- Head `j`'s sum in a block: the sink's weight times the shared part. -/
def skA (lc p0 : FVec Ideal S1024x1 .f32) (s : EReal) (j : Fin 8) : EReal :=
  ∑ r : Fin 128, Ideal.exp (s - lc (ix2 (st j r) 0)) * p0 (ix2 (st j r) 0)

theorem sum_unit (f : Fin 128 → EReal) : ∑ x, ∑ _y : Fin 1, f x = ∑ x, f x := by simp

theorem skA_at (lc p0 : FVec Ideal S1024x1 .f32) (s : EReal) (j : Fin 8) :
    skA lc p0 s j = ∑ r : Fin 128, Ideal.exp (s - lc (ix2 (⟨128 * j.val + r.val, by omega⟩ : Fin 1024) 0)) * p0 (ix2 (⟨128 * j.val + r.val, by omega⟩ : Fin 1024) 0) := rfl

set_option maxHeartbeats 1000000 in
/-- The sinks' accumulator after a block: head `j`'s sum is taken from lane `j`. -/
theorem sink_step (lc : FVec Ideal S1024x1 .f32) (pd : FVec Ideal S1024x256 .f32) (prev : FVec Ideal S8x128 .f32) (s : Fin 8 → EReal) (i : Fin 8) (l : Fin 128) :
    k0_pay55 (F := Ideal) (iota Kind.tc S8x128 32 [1] iota_S8x128_d1_w32) (k0_pay35 pd)
      (k0_pay52 (iota Kind.tc S8x128 32 [1] iota_S8x128_d1_w32) lc (k0_pay35 pd)
        (k0_pay51 (iota Kind.tc S8x128 32 [1] iota_S8x128_d1_w32) lc (k0_pay35 pd) k0_pay48 (k0_pay49 (iota Kind.tc S8x128 32 [1] iota_S8x128_d1_w32))
          (k0_pay50 lc pd (s 0)) (s 1) (s 2) (s 3)) (s 4) (s 5) (s 6)) (k0_pay53 lc) (k0_pay54 (s 7)) prev (ix2 i l)
      = prev (ix2 i l) + if h : l.val < 8 then 0 - skA lc (k0_pay35 (F := Ideal) pd) (s ⟨l.val, h⟩) ⟨l.val, h⟩ else 0 := by
  have q0 := fun l => lane_is 0 l
  have q1 := fun l => lane_is 1 l
  have q2 := fun l => lane_is 2 l
  have q3 := fun l => lane_is 3 l
  have q4 := fun l => lane_is 4 l
  have q5 := fun l => lane_is 5 l
  have q6 := fun l => lane_is 6 l
  have q7 := fun l => lane_is 7 l
  simp only [Fin.isValue, Fin.val_zero, Fin.val_one, Fin.val_two, Fin.coe_ofNat_eq_mod, Nat.reduceMod] at q0 q1 q2 q3 q4 q5 q6 q7
  have e1 : ∀ v : FVec Ideal S8x128 .f32, k0_pay55 (F := Ideal) (iota Kind.tc S8x128 32 [1] iota_S8x128_d1_w32) (k0_pay35 pd)
      (k0_pay52 (iota Kind.tc S8x128 32 [1] iota_S8x128_d1_w32) lc (k0_pay35 pd) v (s 4) (s 5) (s 6)) (k0_pay53 lc) (k0_pay54 (s 7)) prev (ix2 i l)
      = prev (ix2 i l) + if h : 4 ≤ l.val ∧ l.val < 8 then v (ix2 i l) - skA lc (k0_pay35 (F := Ideal) pd) (s ⟨l.val, h.2⟩) ⟨l.val, h.2⟩ else v (ix2 i l) := fun v => by
    pointwise [k0_pay55, k0_pay52, k0_pay53, k0_pay54]
    simp only [q4, q5, q6, q7, sel_if, sum_unit]
    refine congrArg (_ + ·) ?_
    rcases (by omega : l.val = 4 ∨ l.val = 5 ∨ l.val = 6 ∨ l.val = 7 ∨ ¬ (4 ≤ l.val ∧ l.val < 8)) with h | h | h | h | h
    · obtain rfl : l = ⟨4, by decide⟩ := Fin.ext h
      rfl
    · obtain rfl : l = ⟨5, by decide⟩ := Fin.ext h
      rfl
    · obtain rfl : l = ⟨6, by decide⟩ := Fin.ext h
      rfl
    · obtain rfl : l = ⟨7, by decide⟩ := Fin.ext h
      rfl
    · rw [dif_neg h]
      simp (disch := omega) only [if_neg]
  have e2 : k0_pay51 (F := Ideal) (iota Kind.tc S8x128 32 [1] iota_S8x128_d1_w32) lc (k0_pay35 pd) k0_pay48 (k0_pay49 (iota Kind.tc S8x128 32 [1] iota_S8x128_d1_w32))
        (k0_pay50 lc pd (s 0)) (s 1) (s 2) (s 3) (ix2 i l)
      = if h : l.val < 4 then 0 - skA lc (k0_pay35 (F := Ideal) pd) (s ⟨l.val, by omega⟩) ⟨l.val, by omega⟩ else 0 := by
    pointwise [k0_pay51, k0_pay48, k0_pay49, k0_pay50]
    simp only [q0, q1, q2, q3, sel_if, sum_unit]
    rcases (by omega : l.val = 0 ∨ l.val = 1 ∨ l.val = 2 ∨ l.val = 3 ∨ ¬ l.val < 4) with h | h | h | h | h
    · obtain rfl : l = ⟨0, by decide⟩ := Fin.ext h
      exact congrArg (fun x : EReal => 0 - x) (Finset.sum_congr rfl fun r _ => congrArg (fun i : Fin 1024 => Ideal.exp (s 0 - lc (ix2 i 0)) * k0_pay35 (F := Ideal) pd (ix2 i 0))
        (Fin.ext (by show r.val = 128 * 0 + r.val; omega)))
    · obtain rfl : l = ⟨1, by decide⟩ := Fin.ext h
      rfl
    · obtain rfl : l = ⟨2, by decide⟩ := Fin.ext h
      rfl
    · obtain rfl : l = ⟨3, by decide⟩ := Fin.ext h
      rfl
    · rw [dif_neg h]
      simp (disch := omega) only [if_neg]
  rw [e1, e2]
  refine congrArg (_ + ·) ?_
  by_cases h : l.val < 4
  · rw [dif_neg (by omega), dif_pos h, dif_pos (by omega)]
  · by_cases h' : l.val < 8
    · rw [dif_pos ⟨by omega, h'⟩, dif_neg h, dif_pos h']
    · rw [dif_neg (by omega), dif_neg h, dif_neg h']

end Cert.AttnBwdIdeal.Val

end
-- ==== Proof.Attn.Value.lean ====
/- What the windowed attention's gradient kernel reads at a point, and what it leaves there. -/
module

public import proofs.«01_k».proof.Proof.Gen.AttnBwdIdeal.Frame
public import Idealize.ShloMosaic.Lib.Pipeline.ValueKit
public import Idealize.ShloMosaic.Lib.Claim
public import proofs.«01_k».proof.Proof.RowPieces
public import proofs.«01_k».proof.Proof.Attn.Lanes

@[expose] public section

set_option maxRecDepth 16384

noncomputable section

open Idealize.ShloMosaic Idealize.ShloMosaic.TcCoe Idealize.SL.Sem
open Idealize.ShloMosaic.Pipeline (Dat)

namespace Cert.AttnBwdIdeal.Val

open Cert.AttnBwdIdeal Cert.AttnBwdIdeal.Gen Cert.RowPieces Cert.RealArith Cert.Attn

variable (m : (ℓ : Loc nD τ sig) → Buf (Elt Ideal) ℓ)

/-! ## The arrays the kernel is given -/

abbrev SK (c : Dev nD) : FVec Ideal S8 .f32 := V m c main_arg2
abbrev CT (c : Dev nD) : FVec Ideal S8192x512 .bf16 := V m c main_v161
abbrev QR (c : Dev nD) : FVec Ideal S8192x512 .bf16 := V m c main_v125
abbrev KR (c : Dev nD) : FVec Ideal S8192x128 .bf16 := V m c main_v127
abbrev VV (c : Dev nD) : FVec Ideal S8192x128 .bf16 := V m c main_v129
abbrev LS (c : Dev nD) : FVec Ideal S8192x128 .f32 := V m c main_v123
abbrev CO (c : Dev nD) : FVec Ideal S8192x128 .f32 := V m c main_v146
abbrev SI (c : Dev nD) : FVec Ideal S8192x128 .f32 := V m c main_v160

theorem lt64 (t : Fin cfg0.N) : t.val < 64 := lt_of_lt_of_eq t.isLt N_0

/-- The block of a point. -/
abbrev bn (t : Fin cfg0.N) : Fin 64 := ⟨t.val, lt64 t⟩
/-- The block before it, or the first. -/
abbrev bp (t : Fin cfg0.N) : Fin 64 := ⟨t.val - 1, by have := lt64 t; omega⟩

theorem idx : ∀ t : Fin cfg0.N, win0_0.index t = ![0] ∧ win0_1.index t = ![t.val, 0] ∧ win0_2.index t = ![t.val, 0]
    ∧ win0_3.index t = ![t.val, 0] ∧ win0_4.index t = ![t.val - 1, 0] ∧ win0_5.index t = ![t.val, 0] ∧ win0_6.index t = ![t.val - 1, 0]
    ∧ win0_7.index t = ![t.val, 0] ∧ win0_8.index t = ![t.val, 0] ∧ win0_9.index t = ![t.val, 0] ∧ win0_10.index t = ![t.val - 1, 0]
    ∧ win0_11.index t = ![t.val - 1, 0] ∧ win0_12.index t = ![t.val - 1, 0] ∧ win0_13.index t = ![0, 0] ∧ win0_14.index t = ![0, 0] :=
  (by decide +kernel : ∀ t : Fin grid0.N, _)

section
variable (c : Dev nD) (t : Fin cfg0.N)

theorem blk0 (j : Fin 8) : (iblk m c 0 t : FVec Ideal S8 .f32) (ix1 j) = SK m c (ix1 j) := by blk_ext [iblk, V, idx t]
theorem blk1 (r : Fin 128) (l : Fin 512) : (iblk m c 1 t : FVec Ideal S128x512 .bf16) (ix2 r l) = CT m c (ix2 (rw8 (bn t) r) l) := by blk_ext [iblk, V, idx t]
theorem blk2 (r : Fin 128) (l : Fin 512) : (iblk m c 2 t : FVec Ideal S128x512 .bf16) (ix2 r l) = QR m c (ix2 (rw8 (bn t) r) l) := by blk_ext [iblk, V, idx t]
theorem blk3 (r : Fin 128) (l : Fin 128) : (iblk m c 3 t : FVec Ideal S128x128 .bf16) (ix2 r l) = KR m c (ix2 (rw8 (bn t) r) l) := by blk_ext [iblk, V, idx t]
theorem blk4 (r : Fin 128) (l : Fin 128) : (iblk m c 4 t : FVec Ideal S128x128 .bf16) (ix2 r l) = KR m c (ix2 (rw8 (bp t) r) l) := by blk_ext [iblk, V, idx t]
theorem blk5 (r : Fin 128) (l : Fin 128) : (iblk m c 5 t : FVec Ideal S128x128 .bf16) (ix2 r l) = VV m c (ix2 (rw8 (bn t) r) l) := by blk_ext [iblk, V, idx t]
theorem blk6 (r : Fin 128) (l : Fin 128) : (iblk m c 6 t : FVec Ideal S128x128 .bf16) (ix2 r l) = VV m c (ix2 (rw8 (bp t) r) l) := by blk_ext [iblk, V, idx t]
theorem blk7 (r : Fin 128) (l : Fin 128) : (iblk m c 7 t : FVec Ideal S128x128 .f32) (ix2 r l) = LS m c (ix2 (rw8 (bn t) r) l) := by blk_ext [iblk, V, idx t]
theorem blk8 (r : Fin 128) (l : Fin 128) : (iblk m c 8 t : FVec Ideal S128x128 .f32) (ix2 r l) = CO m c (ix2 (rw8 (bn t) r) l) := by blk_ext [iblk, V, idx t]
theorem blk9 (r : Fin 128) (l : Fin 128) : (iblk m c 9 t : FVec Ideal S128x128 .f32) (ix2 r l) = SI m c (ix2 (rw8 (bn t) r) l) := by blk_ext [iblk, V, idx t]
theorem blk10 (r : Fin 128) (l : Fin 128) : (iblk m c 10 t : FVec Ideal S128x128 .f32) (ix2 r l) = CO m c (ix2 (rw8 (bp t) r) l) := by blk_ext [iblk, V, idx t]
theorem blk11 (r : Fin 128) (l : Fin 128) : (iblk m c 11 t : FVec Ideal S128x128 .f32) (ix2 r l) = SI m c (ix2 (rw8 (bp t) r) l) := by blk_ext [iblk, V, idx t]

end

/-- The model's data: the heads laid side by side in the arrays' columns. -/
def DD (c : Dev nD) : Data where
  q i j d := QR m c (ix2 i ⟨64 * j.val + d.val, by omega⟩)
  k i g d := KR m c (ix2 i ⟨64 * g.val + d.val, by omega⟩)
  v i g d := VV m c (ix2 i ⟨64 * g.val + d.val, by omega⟩)
  g i j d := CT m c (ix2 i ⟨64 * j.val + d.val, by omega⟩)
  s j := SK m c (ix1 j)

/-- The rotation's tables. -/
abbrev cosT (c : Dev nD) (i : Fin 8192) (e : Fin 32) : EReal := CO m c (ix2 i ⟨e.val, by omega⟩)
abbrev sinT (c : Dev nD) (i : Fin 8192) (e : Fin 32) : EReal := SI m c (ix2 i ⟨32 + e.val, by omega⟩)

/-- What the arrays hold when the kernel starts. -/
structure Given (c : Dev nD) : Prop where
  real : (DD m c).Real
  lse : ∀ n j r, LS m c (ix2 (rw8 n r) ⟨j.val, by omega⟩) = lseAt (DD m c) n j r
  cos : ∀ i l, CO m c (ix2 i l) = cosT m c i (l32 l)
  sin : ∀ i (l : Fin 128), SI m c (ix2 i l) = if l.val % 64 < 32 then -(sinT m c i (l32 l)) else sinT m c i (l32 l)

/-! ## The terms of one point -/

section
variable (c : Dev nD) (t : Fin cfg0.N)

abbrev bA : BitVec 32 := BitVec.ofNat 32 (grid0.coords t 0).val
abbrev bKB : FVec Ideal S256x128 .bf16 := k0_pay7 (iblk m c 4 t) (iblk m c 3 t)
abbrev bVB : FVec Ideal S256x128 .bf16 := k0_pay8 (iblk m c 6 t) (iblk m c 5 t)
abbrev ldq (o : Nat) (inb : ∀ a, (![0, o] : Fin 2 → Nat) a + (![128, 128] : Fin 2 → Nat) a ≤ S128x512.size a) : FVec Ideal S128x128 .bf16 := View.ld (iblk m c 2 t : FVec Ideal S128x512 .bf16) (Rect.unit (s := S128x512) ![0, o] ![128, 128] inb)
abbrev ldg (o : Nat) (inb : ∀ a, (![0, o] : Fin 2 → Nat) a + (![128, 128] : Fin 2 → Nat) a ≤ S128x512.size a) : FVec Ideal S128x128 .bf16 := View.ld (iblk m c 1 t : FVec Ideal S128x512 .bf16) (Rect.unit (s := S128x512) ![0, o] ![128, 128] inb)
abbrev bQS : FVec Ideal S1024x128 .bf16 :=
  k0_pay22 (k0_pay11 (ldq m c t 256 inb_S128x512_S128x128_0_256)) (k0_pay12 (ldq m c t 384 inb_S128x512_S128x128_0_384))
    (k0_pay19 (k0_pay9 (ldq m c t 0 inb_S128x512_S128x128_0_0)) (k0_pay10 (ldq m c t 128 inb_S128x512_S128x128_0_128)))
    (k0_pay20 (k0_pay11 (ldq m c t 256 inb_S128x512_S128x128_0_256))) k0_pay21
abbrev b32 : FVec Ideal S128x128 .f32 := k0_pay17 (k0_pay16 (ldg m c t 384 inb_S128x512_S128x128_0_384))
abbrev b25 : FVec Ideal S512x128 .bf16 :=
  k0_pay25 (k0_pay14 (ldg m c t 128 inb_S128x512_S128x128_0_128)) (k0_pay23 (k0_pay13 (ldg m c t 0 inb_S128x512_S128x128_0_0)))
    (k0_pay24 (k0_pay13 (ldg m c t 0 inb_S128x512_S128x128_0_0))) (iota Kind.tc S128x128 32 [1] iota_S128x128_d1_w32)
abbrev b26 : FVec Ideal S128x128 .f32 := k0_pay26 (k0_pay15 (ldg m c t 256 inb_S128x512_S128x128_0_256))
abbrev b27 : FVec Ideal S128x128 .f32 := k0_pay27 (k0_pay15 (ldg m c t 256 inb_S128x512_S128x128_0_256))
abbrev b28 : FVec Ideal S128x128 .f32 := k0_pay28 (b32 m c t)
abbrev bIO : IVec S128x128 32 := iota Kind.tc S128x128 32 [1] iota_S128x128_d1_w32
abbrev bDO : FVec Ideal S1024x128 .bf16 := k0_pay30 (b32 m c t) (b25 m c t) (b26 m c t) (b27 m c t) (b28 m c t) bIO k0_pay29
abbrev bLS : FVec Ideal S128x128 .f32 := k0_pay18 (iblk m c 7 t)
abbrev bPP : FVec Ideal S1024x256 .f32 := k0_pay32 (bA t) (bKB m c t) (bLS m c t) (bQS m c t)
abbrev bDP : FVec Ideal S1024x256 .f32 := k0_pay33 (bVB m c t) (b32 m c t) (b25 m c t) (b26 m c t) (b27 m c t) (b28 m c t) bIO k0_pay29
abbrev bPD : FVec Ideal S1024x256 .f32 :=
  k0_pay34 (bA t) (bKB m c t) (bVB m c t) (b32 m c t) (bLS m c t) (bQS m c t) (b25 m c t) (b26 m c t) (b27 m c t) (b28 m c t) bIO k0_pay29
abbrev bDK : FVec Ideal S256x128 .f32 := k0_pay38 (bQS m c t) (bPP m c t) (bDP m c t) (bPD m c t)
abbrev bDV : FVec Ideal S256x128 .f32 := k0_pay39 (bDO m c t) (bPP m c t)
abbrev bC : FVec Ideal S128x128 .f32 := k0_pay56 (iblk m c 8 t)
abbrev bS : FVec Ideal S128x128 .f32 := k0_pay57 (iblk m c 9 t)

theorem lo_split (x : Nat) (l : Fin 128) (h : 128 * x + l.val < 512) : (⟨128 * x + l.val, h⟩ : Fin 512) = ⟨64 * (2 * x + l.val / 64) + l.val % 64, by omega⟩ :=
  Fin.ext (by show 128 * x + l.val = 64 * (2 * x + l.val / 64) + l.val % 64; omega)

theorem bA_pos : ∀ t : Fin cfg0.N, Scalar.cmpi CmpIPredicate.sgt (bA t) 0#32 = if 0 < t.val then 1#1 else 0#1 :=
  (by decide +kernel : ∀ t : Fin grid0.N, _)

theorem pay7_at (a b : FVec Ideal S128x128 .bf16) (k : Fin 256) (l : Fin 128) :
    k0_pay7 (F := Ideal) a b (ix2 k l) = if h : k.val < 128 then a (ix2 ⟨k.val, h⟩ l) else b (ix2 ⟨k.val - 128, by omega⟩ l) := by
  pointwise [k0_pay7]
theorem pay8_at (a b : FVec Ideal S128x128 .bf16) (k : Fin 256) (l : Fin 128) :
    k0_pay8 (F := Ideal) a b (ix2 k l) = if h : k.val < 128 then a (ix2 ⟨k.val, h⟩ l) else b (ix2 ⟨k.val - 128, by omega⟩ l) := by
  pointwise [k0_pay8]

variable {m c} (G : Given m c)

include G in
theorem kr_real (i : Fin 8192) (l : Fin 128) : IsR (KR m c (ix2 i l)) :=
  (congrArg (fun l => IsR (KR m c (ix2 i l))) (Fin.ext (by show 64 * (l.val / 64) + l.val % 64 = l.val; omega))).mp (G.real.k i (hf l) (lo l))
include G in
theorem vv_real (i : Fin 8192) (l : Fin 128) : IsR (VV m c (ix2 i l)) :=
  (congrArg (fun l => IsR (VV m c (ix2 i l))) (Fin.ext (by show 64 * (l.val / 64) + l.val % 64 = l.val; omega))).mp (G.real.v i (hf l) (lo l))

theorem kb_at (k : Fin 256) (l : Fin 128) : bKB m c t (ix2 k l)
    = if h : k.val < 128 then KR m c (ix2 (rw8 (bp t) ⟨k.val, h⟩) l) else KR m c (ix2 (rw8 (bn t) ⟨k.val - 128, by omega⟩) l) := by
  refine (pay7_at _ _ k l).trans ?_
  by_cases hk : k.val < 128
  · rw [dif_pos hk, dif_pos hk]; exact blk4 m c t _ _
  · rw [dif_neg hk, dif_neg hk]; exact blk3 m c t _ _
theorem vb_at (k : Fin 256) (l : Fin 128) : bVB m c t (ix2 k l)
    = if h : k.val < 128 then VV m c (ix2 (rw8 (bp t) ⟨k.val, h⟩) l) else VV m c (ix2 (rw8 (bn t) ⟨k.val - 128, by omega⟩) l) := by
  refine (pay8_at _ _ k l).trans ?_
  by_cases hk : k.val < 128
  · rw [dif_pos hk, dif_pos hk]; exact blk6 m c t _ _
  · rw [dif_neg hk, dif_neg hk]; exact blk5 m c t _ _

theorem ldq_at (x o : Nat) (hx : x < 4) (ho : o = 128 * x) (inb : ∀ a, (![0, o] : Fin 2 → Nat) a + (![128, 128] : Fin 2 → Nat) a ≤ S128x512.size a) (r l : Fin 128) :
    ldq m c t o inb (ix2 r l) = (DD m c).q (rw8 (bn t) r) ⟨2 * x + l.val / 64, by omega⟩ (lo l) := by
  subst ho
  exact (ld_cols (q := 128) _ (128 * x) inb r l (by omega)).trans ((blk2 m c t r _).trans (congrArg (fun l => QR m c (ix2 (rw8 (bn t) r) l)) (lo_split x l (by omega))))
theorem ldg_at (x o : Nat) (hx : x < 4) (ho : o = 128 * x) (inb : ∀ a, (![0, o] : Fin 2 → Nat) a + (![128, 128] : Fin 2 → Nat) a ≤ S128x512.size a) (r l : Fin 128) :
    ldg m c t o inb (ix2 r l) = (DD m c).g (rw8 (bn t) r) ⟨2 * x + l.val / 64, by omega⟩ (lo l) := by
  subst ho
  exact (ld_cols (q := 128) _ (128 * x) inb r l (by omega)).trans ((blk1 m c t r _).trans (congrArg (fun l => CT m c (ix2 (rw8 (bn t) r) l)) (lo_split x l (by omega))))

theorem pay9_at (x : FVec Ideal S128x128 .bf16) (r l : Fin 128) : k0_pay9 (F := Ideal) x (ix2 r l) = x (ix2 r l) := by pointwise [k0_pay9]
theorem pay10_at (x : FVec Ideal S128x128 .bf16) (r l : Fin 128) : k0_pay10 (F := Ideal) x (ix2 r l) = x (ix2 r l) := by pointwise [k0_pay10]
theorem pay11_at (x : FVec Ideal S128x128 .bf16) (r l : Fin 128) : k0_pay11 (F := Ideal) x (ix2 r l) = x (ix2 r l) := by pointwise [k0_pay11]
theorem pay12_at (x : FVec Ideal S128x128 .bf16) (r l : Fin 128) : k0_pay12 (F := Ideal) x (ix2 r l) = x (ix2 r l) := by pointwise [k0_pay12]
theorem pay18_at (x : FVec Ideal S128x128 .f32) (r l : Fin 128) : k0_pay18 (F := Ideal) x (ix2 r l) = x (ix2 r l) := by pointwise [k0_pay18]
theorem pay56_at (x : FVec Ideal S128x128 .f32) (r l : Fin 128) : k0_pay56 (F := Ideal) x (ix2 r l) = x (ix2 r l) := by pointwise [k0_pay56]
theorem pay57_at (x : FVec Ideal S128x128 .f32) (r l : Fin 128) : k0_pay57 (F := Ideal) x (ix2 r l) = x (ix2 r l) := by pointwise [k0_pay57]

theorem zero_add' (l : Fin 128) : (⟨2 * 0 + l.val / 64, by omega⟩ : Fin 8) = ⟨l.val / 64, by omega⟩ :=
  Fin.ext (by show 2 * 0 + l.val / 64 = l.val / 64; omega)

theorem q_at (j : Fin 8) (r l : Fin 128) : bQS m c t (ix2 (st j r) l) = if l.val / 64 = (grp j).val then (DD m c).q (rw8 (bn t) r) j (lo l) else 0 :=
  qs_at _ _ _ _ (fun r => (DD m c).q (rw8 (bn t) r))
    (fun r l => (pay9_at _ r l).trans ((ldq_at t 0 0 (by omega) rfl _ r l).trans (congrArg (fun j => (DD m c).q (rw8 (bn t) r) j (lo l)) (zero_add' l))))
    (fun r l => (pay10_at _ r l).trans (ldq_at t 1 128 (by omega) rfl _ r l))
    (fun r l => (pay11_at _ r l).trans (ldq_at t 2 256 (by omega) rfl _ r l))
    (fun r l => (pay12_at _ r l).trans (ldq_at t 3 384 (by omega) rfl _ r l)) j r l

theorem g_at (j : Fin 8) (r l : Fin 128) : bDO m c t (ix2 (st j r) l) = if l.val / 64 = (grp j).val then (DD m c).g (rw8 (bn t) r) j (lo l) else 0 :=
  dos_at _ _ _ _ (fun r => (DD m c).g (rw8 (bn t) r))
    (fun r l => (ldg_at t 0 0 (by omega) rfl _ r l).trans (congrArg (fun j => (DD m c).g (rw8 (bn t) r) j (lo l)) (zero_add' l)))
    (fun r l => ldg_at t 1 128 (by omega) rfl _ r l) (fun r l => ldg_at t 2 256 (by omega) rfl _ r l) (fun r l => ldg_at t 3 384 (by omega) rfl _ r l) j r l

include G in
/-- What the body reads at a point is the model's. -/
theorem blk : Blk (DD m c) (bn t) (bA t) (bKB m c t) (bVB m c t) (bQS m c t) (bDO m c t) (bLS m c t) where
  a := bA_pos t
  k k g d h := by
    refine (kb_at t k _).trans ?_
    have h' : 0 < t.val ∨ 128 ≤ k.val := h
    unfold win
    by_cases hk : k.val < 128
    · rw [dif_pos hk, dif_pos hk, if_neg (by show ¬ t.val = 0; omega)]; rfl
    · rw [dif_neg hk, dif_neg hk]; rfl
  kr k l := by
    refine (congrArg IsR (kb_at t k l)).mpr ?_
    split_ifs <;> exact kr_real G _ _
  v k g d h := by
    refine (vb_at t k _).trans ?_
    have h' : 0 < t.val ∨ 128 ≤ k.val := h
    unfold win
    by_cases hk : k.val < 128
    · rw [dif_pos hk, dif_pos hk, if_neg (by show ¬ t.val = 0; omega)]; rfl
    · rw [dif_neg hk, dif_neg hk]; rfl
  vr k l := by
    refine (congrArg IsR (vb_at t k l)).mpr ?_
    split_ifs <;> exact vv_real G _ _
  q := q_at t
  g := g_at t
  L j r := (pay18_at _ r _).trans ((blk7 m c t r _).trans (G.lse (bn t) j r))

include G in
theorem wts : Wts (DD m c) (bn t) (bVB m c t) (bDO m c t) (bPP m c t) (bDP m c t) (bPD m c t) where
  p j r k := (blk t G).prob G.real j r k
  d j r k := dpp_at _ _ _ _ _ _ _ _ j r k
  m j r k := by pointwise [k0_pay34]

include G in
theorem tab : Tab (bC m c t) (bS m c t) (fun r => cosT m c (rw8 (bn t) r)) (fun r => sinT m c (rw8 (bn t) r)) where
  c r l := (pay56_at _ r l).trans ((blk8 m c t r l).trans (G.cos _ l))
  s r l := (pay57_at _ r l).trans ((blk9 m c t r l).trans (G.sin _ l))

include G in
theorem tabp : Tab (iblk m c 10 t : FVec Ideal S128x128 .f32) (iblk m c 11 t : FVec Ideal S128x128 .f32) (fun r => cosT m c (rw8 (bp t) r)) (fun r => sinT m c (rw8 (bp t) r)) where
  c r l := (blk10 m c t r l).trans (G.cos _ l)
  s r l := (blk11 m c t r l).trans (G.sin _ l)

end

end Cert.AttnBwdIdeal.Val

end
-- ==== Proof.Attn.RefScores.lean ====
/- The reference's windowed attention: its scores, its mask and their maximum. -/
module

public import proofs.«01_k».proof.Proof.Gen.AttnRefIdeal.Read
public import Idealize.ShloMosaic.Lib.Pointwise
public import Idealize.ShloMosaic.Lib.Claim
public import proofs.«01_k».proof.Proof.Attn.Model

@[expose] public section

set_option maxRecDepth 16384

noncomputable section

namespace Cert.AttnRefIdeal.Val

open Idealize.ShloMosaic Idealize.ShloMosaic.TcCoe Idealize.SL.Sem Cert.AttnRefIdeal Cert.AttnRefIdeal.Read Cert.RealArith Cert.Attn

variable (x0 : FVec Ideal S8192x768 .f32) (x1 : IVec S8192 32) (x2 : FVec Ideal S8 .f32) (x3 : FVec Ideal S8192x512 .f32)

/-- The attention's data as the reference computes them. -/
def RD : Data where
  q i j d := val_main_v31 (F := Ideal) x0 x1 (ix3 i j d) * cScale
  k i g d := val_main_v63 (F := Ideal) x0 x1 (ix3 i g d)
  v i g d := x0 (ix2 i ⟨640 + 64 * g.val + d.val, by omega⟩)
  g i j d := x3 (ix2 i ⟨64 * j.val + d.val, by omega⟩)
  s j := x2 (ix1 j)

theorem ix3_of {n0 n1 n2 : ℕ} {q : (⟨3, ![n0, n1, n2]⟩ : Shape).Idx} {a : Fin n0} {b : Fin n1} {c : Fin n2} (h0 : (q 0).val = a.val)
    (h1 : (q 1).val = b.val) (h2 : (q 2).val = c.val) : q = ix3 a b c := by
  funext x
  match x with
  | 0 => exact Fin.ext h0
  | 1 => exact Fin.ext h1
  | 2 => exact Fin.ext h2

theorem v68_at (n : Fin 64) (r : Fin 128) (g : Fin 2) (a : Fin 4) (d : Fin 64) :
    val_main_v68 (F := Ideal) x0 x1 (ix5 n r g a d) = (RD x0 x1 x2 x3).q (rw8 n r) (hd g a) d := by
  have e : idx_main_v66 (ix5 n r g a d) = ix3 (rw8 n r) (hd g a) d :=
    ix3_of (show ((((n.val * 128 + r.val) * 2 + g.val) * 4 + a.val) * 64 + d.val) / 512 = 128 * n.val + r.val by omega)
      (show ((((n.val * 128 + r.val) * 2 + g.val) * 4 + a.val) * 64 + d.val) / 64 % 8 = 4 * g.val + a.val by omega)
      (show ((((n.val * 128 + r.val) * 2 + g.val) * 4 + a.val) * 64 + d.val) % 64 = d.val by omega)
  show val_main_v66 (F := Ideal) x0 x1 (ix5 n r g a d) * cScale = _
  rw [val_main_v66_apply, e]
  rfl

theorem v69_at (n : Fin 64) (r : Fin 128) (g : Fin 2) (d : Fin 64) :
    val_main_v69 (F := Ideal) x0 x1 (ix4 n r g d) = (RD x0 x1 x2 x3).k (rw8 n r) g d := by
  have e : idx_main_v69 (ix4 n r g d) = ix3 (rw8 n r) g d :=
    ix3_of (show (((n.val * 128 + r.val) * 2 + g.val) * 64 + d.val) / 128 = 128 * n.val + r.val by omega)
      (show (((n.val * 128 + r.val) * 2 + g.val) * 64 + d.val) / 64 % 2 = g.val by omega)
      (show (((n.val * 128 + r.val) * 2 + g.val) * 64 + d.val) % 64 = d.val by omega)
  rw [val_main_v69_apply, e]
  rfl

theorem v75_at (n : Fin 64) (r : Fin 128) (g : Fin 2) (d : Fin 64) :
    val_main_v75 (F := Ideal) x0 (ix4 n r g d) = (RD x0 x1 x2 x3).v (rw8 n r) g d := by
  have e : idx_main_v75 (ix4 n r g d) = ix3 (rw8 n r) g d :=
    ix3_of (show (((n.val * 128 + r.val) * 2 + g.val) * 64 + d.val) / 128 = 128 * n.val + r.val by omega)
      (show (((n.val * 128 + r.val) * 2 + g.val) * 64 + d.val) / 64 % 2 = g.val by omega)
      (show (((n.val * 128 + r.val) * 2 + g.val) * 64 + d.val) % 64 = d.val by omega)
  have e2 : ∀ i : Fin 8192, val_main_v65 (F := Ideal) x0 (ix3 i g d) = x0 (ix2 i ⟨640 + 64 * g.val + d.val, by omega⟩) := fun i => by
    rw [val_main_v65_apply, val_main_v64_apply]
    refine congrArg x0 ?_
    funext x
    match x with
    | 0 => exact Fin.ext (show ((i.val * 2 + g.val) * 64 + d.val) / 128 = i.val by omega)
    | 1 => exact Fin.ext (show 640 + ((i.val * 2 + g.val) * 64 + d.val) % 128 = 640 + 64 * g.val + d.val by omega)
  rw [val_main_v75_apply, e]
  exact e2 _

theorem v74_at (n : Fin 64) (k : Fin 256) (g : Fin 2) (d : Fin 64) :
    val_main_v74 (F := Ideal) x0 x1 (ix4 n k g d) = win (RD x0 x1 x2 x3).k n k g d := by
  pointwise [val_main_v74, val_main_v72, val_main_v71, val_main_v70, val_main_cst_6, v69_at x0 x1 x2 x3]
  simp only [Nat.lt_one_iff]
  rfl

theorem v80_at (n : Fin 64) (k : Fin 256) (g : Fin 2) (d : Fin 64) :
    val_main_v80 (F := Ideal) x0 (ix4 n k g d) = win (RD x0 x1 x2 x3).v n k g d := by
  pointwise [val_main_v80, val_main_v78, val_main_v77, val_main_v76, val_main_cst_8, v75_at x0 x1 x2 x3]
  simp only [Nat.lt_one_iff]
  rfl

/-! ## The mask -/

theorem win_word : ∀ (r : Fin 128) (k : Fin 256), IntOp.andi (IntOp.cmpi CmpIPredicate.sle (IntOp.subi (BitVec.ofNat 32 k.val) 128#32) (BitVec.ofNat 32 r.val))
    (IntOp.cmpi CmpIPredicate.slt (IntOp.subi (BitVec.ofNat 32 r.val) (IntOp.subi (BitVec.ofNat 32 k.val) 128#32)) 128#32)
    = if r.val < k.val ∧ k.val ≤ r.val + 128 then 1#1 else 0#1 := by decide +kernel
theorem own_word : ∀ k : Fin 256, IntOp.cmpi CmpIPredicate.sge (BitVec.ofNat 32 k.val) 128#32 = if 128 ≤ k.val then 1#1 else 0#1 := by decide +kernel
theorem first_word : ∀ n : Fin 64, IntOp.cmpi CmpIPredicate.sgt (BitVec.ofNat 32 n.val) 0#32 = if 0 < n.val then 1#1 else 0#1 := by decide +kernel

theorem v111_at (n : Fin 64) (r : Fin 128) (k : Fin 256) :
    val_main_v111 (F := Ideal) (ix3 n r k) = if seenAt n r k then 1#1 else 0#1 := by
  pointwise [val_main_v111, val_main_v109, val_main_v110, val_main_v108, val_main_v107, val_main_v106, val_main_v105, val_main_v104, val_main_c_12, val_main_v103, val_main_v102, val_main_v101,
    val_main_c_11, val_main_v100, val_main_v99, val_main_v98, val_main_v97, val_main_v96, val_main_v95, val_main_c_10, val_main_v94, val_main_v93, val_main_v92, val_main_v91, val_main_v90, val_main_v89, val_main_v88, val_main_v87, val_main_c, val_main_v86, val_main_v85, val_main_v84, val_main_v83]
  rw [win_word, own_word, first_word]
  by_cases h1 : (r.val < k.val ∧ k.val ≤ r.val + 128) <;> by_cases h2 : 0 < n.val <;> by_cases h3 : 128 ≤ k.val <;>
    simp only [seenAt, h1, h2, h3, if_true, if_false, true_and, false_and, or_true, true_or, or_false, and_self, and_true, and_false] <;> rfl

theorem sel_if {α : Type} (p : Prop) [Decidable p] (a b : α) : Scalar.select (if p then 1#1 else 0#1) a b = if p then a else b := by
  split_ifs <;> rfl

theorem c_bot : Ideal.ofBits .f32 0xFF800000#32 = (⊥ : EReal) := by
  simp [Ideal.ofBits, Ideal.ieee]

/-! ## The softmax -/

theorem v82_at (n : Fin 64) (g : Fin 2) (a : Fin 4) (r : Fin 128) (k : Fin 256) :
    val_main_v82 (F := Ideal) x0 x1 (ix5 n g a r k) = sc (RD x0 x1 x2 x3) n (hd g a) r k := by
  pointwise [val_main_v82, val_main_v81, v74_at x0 x1 x2 x3, v68_at x0 x1 x2 x3]
  rw [sc, grp_hd]

theorem v113_at (n : Fin 64) (g : Fin 2) (a : Fin 4) (r : Fin 128) (k : Fin 256) :
    val_main_v113_0 (F := Ideal) x0 x1 (ix5 n g a r k) = masked (seenAt n r) (sc (RD x0 x1 x2 x3) n (hd g a) r) k := by
  pointwise [val_main_v113_0, val_main_v113_1, val_main_v112, val_main_call0_v2, val_main_call0_v0, val_main_cst_13, v111_at, v82_at x0 x1 x2 x3]
  rw [sel_if, masked]
  exact congrArg (fun z => if seenAt n r k then sc (RD x0 x1 x2 x3) n (hd g a) r k else z) c_bot

theorem v116_at (n : Fin 64) (g : Fin 2) (a : Fin 4) (r : Fin 128) :
    val_main_v116 (F := Ideal) x0 x1 (ix4 n g a r) = Finset.univ.fold max ⊥ (masked (seenAt n r) (sc (RD x0 x1 x2 x3) n (hd g a) r)) := by
  pointwise [val_main_v116, val_main_cst_14, v113_at x0 x1 x2 x3]
  rw [c_bot]

theorem v115_at (g : Fin 2) (a : Fin 4) (i j k : Fin 1) :
    val_main_v115 (F := Ideal) x2 (ix5 i g a j k) = (RD x0 x1 x2 x3).s (hd g a) := by
  pointwise [val_main_v115, val_main_v114]
  refine congrArg x2 ?_
  funext x
  match x with
  | 0 => exact Fin.ext (show g.val * 4 + a.val = 4 * g.val + a.val by omega)

theorem v124_at (n : Fin 64) (g : Fin 2) (a : Fin 4) (r : Fin 128) (j : Fin 1) :
    val_main_v124 (F := Ideal) x0 x1 x2 (ix5 n g a r j) = mx (RD x0 x1 x2 x3) n (hd g a) r := by
  have e1 : val_main_v122 (F := Ideal) x0 x1 (ix5 n g a r j) = Finset.univ.fold max ⊥ (masked (seenAt n r) (sc (RD x0 x1 x2 x3) n (hd g a) r)) :=
    Eq.trans (by pointwise [val_main_v122]) (v116_at x0 x1 x2 x3 n g a r)
  have e2 : val_main_v123 (F := Ideal) x2 (ix5 n g a r j) = (RD x0 x1 x2 x3).s (hd g a) :=
    Eq.trans (by pointwise [val_main_v123]) (v115_at x0 x1 x2 x3 g a 0 0 0)
  rw [val_main_v124_apply, e1, e2, mx]
  generalize Finset.univ.fold max ⊥ (masked (seenAt n r) (sc (RD x0 x1 x2 x3) n (hd g a) r)) = y
  rfl

end Cert.AttnRefIdeal.Val

end
-- ==== Proof.Attn.RefGrad.lean ====
/- The reference's windowed attention: its softmax and the gradient of the scores. -/
module

public import proofs.«01_k».proof.Proof.Attn.RefScores

@[expose] public section

set_option maxRecDepth 16384

noncomputable section

namespace Cert.AttnRefIdeal.Val

open Idealize.ShloMosaic Idealize.ShloMosaic.TcCoe Idealize.SL.Sem Cert.AttnRefIdeal Cert.AttnRefIdeal.Read Cert.RealArith Cert.Attn

variable (x0 : FVec Ideal S8192x768 .f32) (x1 : IVec S8192 32) (x2 : FVec Ideal S8 .f32) (x3 : FVec Ideal S8192x512 .f32)

theorem v145_at (n : Fin 64) (g : Fin 2) (a : Fin 4) (r : Fin 128) (k : Fin 256) :
    val_main_v145 (F := Ideal) x0 x1 x2 (ix5 n g a r k) = ex (seenAt n r) (sc (RD x0 x1 x2 x3) n (hd g a) r) (mx (RD x0 x1 x2 x3) n (hd g a) r) k := by
  pointwise [val_main_v145, val_main_v144, val_main_v143, v124_at x0 x1 x2 x3, v113_at x0 x1 x2 x3]
  rw [ex]

theorem v150_at (n : Fin 64) (g : Fin 2) (a : Fin 4) (r : Fin 128) (j : Fin 1) :
    val_main_v150 (F := Ideal) x0 x1 x2 (ix5 n g a r j) = exS ((RD x0 x1 x2 x3).s (hd g a)) (mx (RD x0 x1 x2 x3) n (hd g a) r) := by
  pointwise [val_main_v150, val_main_v149, val_main_v148, v124_at x0 x1 x2 x3, v115_at x0 x1 x2 x3]
  rw [exS]

theorem v151_at (n : Fin 64) (g : Fin 2) (a : Fin 4) (r : Fin 128) (j : Fin 1) :
    val_main_v151 (F := Ideal) x0 x1 x2 (ix5 n g a r j)
      = den (seenAt n r) (sc (RD x0 x1 x2 x3) n (hd g a) r) ((RD x0 x1 x2 x3).s (hd g a)) (mx (RD x0 x1 x2 x3) n (hd g a) r) := by
  pointwise [val_main_v151, val_main_v147, val_main_v146, val_main_cst_22, v145_at x0 x1 x2 x3, v150_at x0 x1 x2 x3]
  rw [den]

theorem v153_at (n : Fin 64) (g : Fin 2) (a : Fin 4) (r : Fin 128) (k : Fin 256) :
    val_main_v153 (F := Ideal) x0 x1 x2 (ix5 n g a r k) = probAt (RD x0 x1 x2 x3) n (hd g a) r k := by
  pointwise [val_main_v153, val_main_v152, v151_at x0 x1 x2 x3, v145_at x0 x1 x2 x3]
  rw [probAt, prob]

theorem v160_at (n : Fin 64) (r : Fin 128) (g : Fin 2) (a : Fin 4) (d : Fin 64) :
    val_main_v160 (F := Ideal) x3 (ix5 n r g a d) = (RD x0 x1 x2 x3).g (rw8 n r) (hd g a) d := by
  rw [val_main_v160_apply]
  refine congrArg x3 ?_
  funext x
  match x with
  | 0 => exact Fin.ext (show ((((n.val * 128 + r.val) * 2 + g.val) * 4 + a.val) * 64 + d.val) / 512 = 128 * n.val + r.val by omega)
  | 1 => exact Fin.ext (show ((((n.val * 128 + r.val) * 2 + g.val) * 4 + a.val) * 64 + d.val) % 512 = 64 * (4 * g.val + a.val) + d.val by omega)

theorem v162_at (n : Fin 64) (g : Fin 2) (a : Fin 4) (r : Fin 128) (k : Fin 256) :
    val_main_v162 (F := Ideal) x0 x3 (ix5 n g a r k) = dpr (RD x0 x1 x2 x3) n (hd g a) r k := by
  pointwise [val_main_v162, val_main_v161, v160_at x0 x1 x2 x3, v80_at x0 x1 x2 x3]
  rw [dpr, grp_hd]

theorem e183 (n : Fin 64) (g : Fin 2) (a : Fin 4) (r : Fin 128) (j : Fin 1) : idx_main_v169 (ix5 n g a r j) = ix4 n g a r := by
  funext x
  have := j.isLt
  match x with
  | 0 => exact Fin.ext (show ((((n.val * 2 + g.val) * 4 + a.val) * 128 + r.val) * 1 + j.val) / 1024 = n.val by omega)
  | 1 => exact Fin.ext (show ((((n.val * 2 + g.val) * 4 + a.val) * 128 + r.val) * 1 + j.val) / 512 % 2 = g.val by omega)
  | 2 => exact Fin.ext (show ((((n.val * 2 + g.val) * 4 + a.val) * 128 + r.val) * 1 + j.val) / 128 % 4 = a.val by omega)
  | 3 => exact Fin.ext (show ((((n.val * 2 + g.val) * 4 + a.val) * 128 + r.val) * 1 + j.val) % 128 = r.val by omega)

theorem v170_at (n : Fin 64) (g : Fin 2) (a : Fin 4) (r : Fin 128) (j : Fin 1) :
    val_main_v170 (F := Ideal) x0 x1 x2 x3 (ix5 n g a r j)
      = dden (seenAt n r) (sc (RD x0 x1 x2 x3) n (hd g a) r) (dpr (RD x0 x1 x2 x3) n (hd g a) r) ((RD x0 x1 x2 x3).s (hd g a)) (mx (RD x0 x1 x2 x3) n (hd g a) r) := by
  show -(val_main_v169 (F := Ideal) x0 x1 x2 x3 (ix5 n g a r j)) = _
  rw [val_main_v169_apply, e183]
  pointwise [val_main_v168, val_main_v167, val_main_v166, val_main_v165, val_main_v156, val_main_v155, val_main_cst_23, val_main_cst_24, val_main_v154, v151_at x0 x1 x2 x3, v145_at x0 x1 x2 x3, v162_at x0 x1 x2 x3]
  rw [dden]

/-- The gradient of the denominator. -/
abbrev ddenAt (D : Data) (n : Fin 64) (j : Fin 8) (r : Fin 128) : EReal := dden (seenAt n r) (sc D n j r) (dpr D n j r) (D.s j) (mx D n j r)

theorem v180_raw (n : Fin 64) (g : Fin 2) (a : Fin 4) (r : Fin 128) (k : Fin 256) :
    val_main_v180 (F := Ideal) x0 x1 x2 x3 (ix5 n g a r k)
      = (Ideal.div (dpr (RD x0 x1 x2 x3) n (hd g a) r k) (den (seenAt n r) (sc (RD x0 x1 x2 x3) n (hd g a) r) ((RD x0 x1 x2 x3).s (hd g a)) (mx (RD x0 x1 x2 x3) n (hd g a) r))
          + ddenAt (RD x0 x1 x2 x3) n (hd g a) r) * ex (seenAt n r) (sc (RD x0 x1 x2 x3) n (hd g a) r) (mx (RD x0 x1 x2 x3) n (hd g a) r) k := by
  pointwise [val_main_v180, val_main_v179, val_main_v178, val_main_v177, val_main_cst_25, val_main_cst_26, val_main_v172, val_main_v171, v170_at x0 x1 x2 x3, v151_at x0 x1 x2 x3, v145_at x0 x1 x2 x3, v162_at x0 x1 x2 x3]
  rw [Fin.sum_univ_one]

theorem v173_raw (n : Fin 64) (g : Fin 2) (a : Fin 4) (r : Fin 128) (j : Fin 1) :
    val_main_v173 (F := Ideal) x0 x1 x2 x3 (ix5 n g a r j) = ddenAt (RD x0 x1 x2 x3) n (hd g a) r * exS ((RD x0 x1 x2 x3).s (hd g a)) (mx (RD x0 x1 x2 x3) n (hd g a) r) := by
  rw [val_main_v173_apply, v170_at x0 x1 x2 x3, v150_at x0 x1 x2 x3]
  rfl

/-- A key's being the maximum, as a number. -/
theorem v120_real (i : S64x2x4x128x256.Idx) : ∃ x : ℝ, 0 ≤ x ∧ val_main_v120 (F := Ideal) x0 x1 i = (x : EReal) := by
  rw [val_main_v120_apply]
  generalize val_main_v119 (F := Ideal) x0 x1 i = b
  exact ⟨((b.toNat : ℕ) : ℝ), Nat.cast_nonneg _, rfl⟩

theorem v121_at (n : Fin 64) (g : Fin 2) (a : Fin 4) (r : Fin 128) :
    val_main_v121 (F := Ideal) x0 x1 (ix4 n g a r) = ∑ k, val_main_v120 (F := Ideal) x0 x1 (ix5 n g a r k) := by
  unfold val_main_v121
  generalize val_main_v120 (F := Ideal) x0 x1 = u
  pointwise [val_main_cst_15]

/-- Nothing is shared out between the keys that attain the maximum. -/
theorem share_zero {n : ℕ} (u : Fin n → EReal) (h : ∀ k, ∃ x : ℝ, 0 ≤ x ∧ u k = (x : EReal)) (k : Fin n) : Ideal.div 0 (∑ k, u k) * u k = 0 := by
  choose x hx hu using h
  rw [Finset.sum_congr rfl fun k _ => hu k, coe_sum, hu k]
  by_cases h0 : ∑ k, x k = 0
  · rw [(Finset.sum_eq_zero_iff_of_nonneg fun k _ => hx k).1 h0 k (Finset.mem_univ k)]
    exact mul_zero _
  · rw [← EReal.coe_zero, div_real h0, zero_div, EReal.coe_zero, zero_mul]

/-- The data are real. -/
abbrev RR : Prop := (RD x0 x1 x2 x3).Real

variable {x0 x1 x2 x3} (H : RR x0 x1 x2 x3)
include H

theorem v180_at (n : Fin 64) (g : Fin 2) (a : Fin 4) (r : Fin 128) (k : Fin 256) :
    val_main_v180 (F := Ideal) x0 x1 x2 x3 (ix5 n g a r k) = dscAt (RD x0 x1 x2 x3) n (hd g a) r k :=
  (v180_raw x0 x1 x2 x3 n g a r k).trans (dsc_eq (sc_real H n (hd g a) r) (H.s _) (mx_real H n (hd g a) r) (dpr_real H n (hd g a) r) k)

theorem v173_at (n : Fin 64) (g : Fin 2) (a : Fin 4) (r : Fin 128) (j : Fin 1) :
    val_main_v173 (F := Ideal) x0 x1 x2 x3 (ix5 n g a r j) = -(Ideal.exp ((RD x0 x1 x2 x3).s (hd g a) - lseAt (RD x0 x1 x2 x3) n (hd g a) r) * deltaAt (RD x0 x1 x2 x3) n (hd g a) r) :=
  (v173_raw x0 x1 x2 x3 n g a r j).trans (dden_sink (sc_real H n (hd g a) r) (H.s _) (mx_real H n (hd g a) r) (dpr_real H n (hd g a) r))

theorem v184_at (n : Fin 64) (g : Fin 2) (a : Fin 4) (r : Fin 128) (j : Fin 1) :
    val_main_v184 (F := Ideal) x0 x1 x2 x3 (ix5 n g a r j) = 0 := by
  have e : idx_main_v183 (ix5 n g a r j) = ix4 n g a r := e183 n g a r j
  have e1 : val_main_v182 (F := Ideal) x0 x1 x2 x3 (ix4 n g a r) = ∑ k, -(val_main_v180 (F := Ideal) x0 x1 x2 x3 (ix5 n g a r k)) := by
    unfold val_main_v182 val_main_v181
    generalize val_main_v180 (F := Ideal) x0 x1 x2 x3 = u
    pointwise [val_main_cst_27]
  rw [val_main_v184_apply, val_main_v183_apply, e, e1, val_main_v176_apply, v173_raw, Finset.sum_congr rfl fun k _ => congrArg Neg.neg (v180_raw x0 x1 x2 x3 n g a r k)]
  exact max_zero (seen := seenAt n r) (sc_real H n (hd g a) r) (H.s _) (mx_real H n (hd g a) r) (dpr_real H n (hd g a) r)

theorem v193_at (n : Fin 64) (g : Fin 2) (a : Fin 4) (r : Fin 128) (k : Fin 256) :
    val_main_v193 (F := Ideal) x0 x1 x2 x3 (ix5 n g a r k) = 0 := by
  have e1 : val_main_v190 (F := Ideal) x0 x1 x2 x3 (ix4 n g a r) = 0 := by
    have h : ∀ j, val_main_v189 (F := Ideal) x0 x1 x2 x3 (ix5 n g a r j) = 0 := fun j => by
      rw [val_main_v189_apply, v184_at H]
      exact zero_mul _
    unfold val_main_v190
    revert h
    generalize val_main_v189 (F := Ideal) x0 x1 x2 x3 = u
    intro h
    pointwise [val_main_cst_29, h]
    exact Finset.sum_const_zero
  have e2 : val_main_v192 (F := Ideal) x0 x1 x2 x3 (ix5 n g a r k) = val_main_v191 (F := Ideal) x0 x1 x2 x3 (ix4 n g a r) := by
    unfold val_main_v192
    generalize val_main_v191 (F := Ideal) x0 x1 x2 x3 = u
    pointwise
  rw [val_main_v193_apply, e2, val_main_v191_apply, e1, v121_at]
  exact share_zero (fun k => val_main_v120 (F := Ideal) x0 x1 (ix5 n g a r k)) (fun k => v120_real x0 x1 _) k

theorem v197_at (n : Fin 64) (g : Fin 2) (a : Fin 4) (r : Fin 128) (k : Fin 256) :
    val_main_v197 (F := Ideal) x0 x1 x2 x3 (ix5 n g a r k) = dscAt (RD x0 x1 x2 x3) n (hd g a) r k := by
  have e : val_main_v113_1 (F := Ideal) (ix5 n g a r k) = if seenAt n r k then 1#1 else 0#1 := by
    pointwise [val_main_v113_1, val_main_v112, v111_at]
  have e0 : val_main_call1_v0 (F := Ideal) (ix5 n g a r k) = (0 : EReal) := by pointwise [val_main_call1_v0, val_main_call1_cst]
  rw [val_main_v197_apply, e, e0, sel_if, val_main_v194_apply, v180_at H, v193_at H]
  split_ifs with h
  · exact add_zero _
  · exact (dsc_unseen (sc_real H n (hd g a) r) (H.s _) (mx_real H n (hd g a) r) k h).symm

end Cert.AttnRefIdeal.Val

end
-- ==== Proof.Attn.RefRows.lean ====
/- The reference's windowed attention: the gradient of its rows. -/
module

public import proofs.«01_k».proof.Proof.Attn.RefGrad

@[expose] public section

set_option maxRecDepth 16384

noncomputable section

namespace Cert.AttnRefIdeal.Val

open Idealize.ShloMosaic Idealize.ShloMosaic.TcCoe Idealize.SL.Sem Cert.AttnRefIdeal Cert.AttnRefIdeal.Read Cert.RealArith Cert.Attn

variable (x0 : FVec Ideal S8192x768 .f32) (x1 : IVec S8192 32) (x2 : FVec Ideal S8 .f32) (x3 : FVec Ideal S8192x512 .f32)

theorem sum_rows (h : S64x2x4x128x1.ReducesTo [0, 3] S2x4x1) (hs : 0 < S_.numel) (g : Fin 2) (a : Fin 4) (j : Fin 1) (u : FVec Ideal S64x2x4x128x1 .f32) (z : FVec Ideal S_ .f32) :
    Host.reduceAdd u z h hs (ix3 g a j) = z ix0 + ∑ n, ∑ r, u (ix5 n g a r 0) := by
  refine (show Host.reduceAdd u z h hs (ix3 g a j) = z (Shape.Idx.first hs) + ∑ i ∈ Finset.univ.filter (fun i => h.drop i = ix3 g a j), u i from rfl).trans ?_
  refine congrArg₂ (· + ·) (congrArg z (funext fun a => a.elim0)) ?_
  rw [← Fintype.sum_prod_type fun p : Fin 64 × Fin 128 => u (ix5 p.1 g a p.2 0)]
  refine Finset.sum_filter_eq_sum_of_fiber _ (fun p : Fin 64 × Fin 128 => (ix5 p.1 g a p.2 0 : S64x2x4x128x1.Idx)) (fun p q e => Prod.ext (congrFun e 0) (congrFun e 3)) (fun i => ⟨fun e => ?_, ?_⟩) u
  · refine ⟨(i 0, i 3), ?_⟩
    funext x
    match x with
    | 0 => rfl
    | 1 => exact Fin.ext (congrArg Fin.val (congrFun e 0)).symm
    | 2 => exact Fin.ext (congrArg Fin.val (congrFun e 1)).symm
    | 3 => rfl
    | 4 => exact Fin.ext (by have : (i 4).val < 1 := (i 4).isLt; show 0 = (i 4).val; omega)
  · rintro ⟨p, rfl⟩
    funext x
    match x with
    | 0 => rfl
    | 1 => rfl
    | 2 => exact Fin.ext (by have := j.isLt; show 0 = j.val; omega)

theorem sum_one (h : S1x2x4x1x1.ReducesTo [0, 3, 4] S2x4) (hs : 0 < S_.numel) (g : Fin 2) (a : Fin 4) (u : FVec Ideal S1x2x4x1x1 .f32) (z : FVec Ideal S_ .f32) :
    Host.reduceAdd u z h hs (ix2 g a) = z ix0 + u (ix5 0 g a 0 0) := by
  refine (show Host.reduceAdd u z h hs (ix2 g a) = z (Shape.Idx.first hs) + ∑ i ∈ Finset.univ.filter (fun i => h.drop i = ix2 g a), u i from rfl).trans ?_
  refine congrArg₂ (· + ·) (congrArg z (funext fun a => a.elim0)) ?_
  refine (Finset.sum_filter_eq_sum_of_fiber _ (fun _ : Fin 1 => (ix5 0 g a 0 0 : S1x2x4x1x1.Idx)) (fun p q e => Subsingleton.elim _ _) (fun i => ⟨fun e => ?_, ?_⟩) u).trans (Fin.sum_univ_one _)
  · refine ⟨0, ?_⟩
    funext x
    match x with
    | 0 => exact Fin.ext (by have : (i 0).val < 1 := (i 0).isLt; show 0 = (i 0).val; omega)
    | 1 => exact Fin.ext (congrArg Fin.val (congrFun e 0)).symm
    | 2 => exact Fin.ext (congrArg Fin.val (congrFun e 1)).symm
    | 3 => exact Fin.ext (by have : (i 3).val < 1 := (i 3).isLt; show 0 = (i 3).val; omega)
    | 4 => exact Fin.ext (by have : (i 4).val < 1 := (i 4).isLt; show 0 = (i 4).val; omega)
  · rintro ⟨p, rfl⟩
    funext x
    match x with
    | 0 => rfl
    | 1 => rfl

/-- The cosines and the sines of the reference's rotation. -/
abbrev rC (x1 : IVec S8192 32) (i : Fin 8192) (e : Fin 32) : EReal := val_main_v15 (F := Ideal) x1 (ix2 i e)
abbrev rS (x1 : IVec S8192 32) (i : Fin 8192) (e : Fin 32) : EReal := val_main_v17 (F := Ideal) x1 (ix2 i e)

theorem v16_at (i : Fin 8192) (j : Fin 1) (e : Fin 32) : val_main_v16 (F := Ideal) x1 (ix3 i j e) = rC x1 i e := by
  unfold val_main_v16 rC; generalize val_main_v15 (F := Ideal) x1 = u; pointwise
theorem v18_at (i : Fin 8192) (j : Fin 1) (e : Fin 32) : val_main_v18 (F := Ideal) x1 (ix3 i j e) = rS x1 i e := by
  unfold val_main_v18 rS; generalize val_main_v17 (F := Ideal) x1 = u; pointwise
theorem v48_eq : val_main_v48 (F := Ideal) x1 = val_main_v16 (F := Ideal) x1 := rfl
theorem v50_eq : val_main_v50 (F := Ideal) x1 = val_main_v18 (F := Ideal) x1 := rfl

/-- The transposed rotation as the reference spells it. -/
theorem rot_spell (x : Fin 64 → EReal) (c s : Fin 32 → EReal) (d : Fin 64) :
    ((if h : 32 ≤ d.val ∧ d.val - 32 < 32 then x ⟨32 + (d.val - 32), by omega⟩ * c ⟨d.val - 32, h.2⟩ + -x ⟨d.val - 32, by omega⟩ * s ⟨d.val - 32, h.2⟩ else 0)
      + if h : d.val < 32 then x ⟨32 + d.val, by omega⟩ * s ⟨d.val, h⟩ + x d * c ⟨d.val, h⟩ else 0) = rotT x c s d := by
  rw [rotT]
  by_cases h : d.val < 32
  · rw [dif_neg (by omega), dif_pos h, dif_pos h, zero_add, add_comm]
    exact congrArg (fun e => x d * c ⟨d.val, h⟩ + x e * s ⟨d.val, h⟩) (Fin.ext (Nat.add_comm _ _))
  · rw [dif_pos ⟨by omega, by omega⟩, dif_neg h, dif_neg h, add_zero]
    exact congrArg₂ (· + ·) (congrArg (fun e => x e * c ⟨d.val - 32, by omega⟩) (Fin.ext (show 32 + (d.val - 32) = d.val by omega))) (by rw [EReal.neg_mul, mul_neg])

theorem v237_at (i : Fin 8192) (g : Fin 2) (d : Fin 64) :
    val_main_v237 (F := Ideal) x0 x1 x2 x3 (ix3 i g d) = rotT (fun d => val_main_v216 (F := Ideal) x0 x1 x2 x3 (ix3 i g d)) (rC x1 i) (rS x1 i) d := by
  refine Eq.trans ?_ (rot_spell _ _ _ d)
  pointwise [val_main_v237, val_main_v236, val_main_v235, val_main_v234, val_main_v233, val_main_v232, val_main_v231, val_main_v230, val_main_v229, val_main_v228, val_main_v227, val_main_v226, val_main_v225, val_main_v224, val_main_v223, val_main_v222,
    val_main_cst_35, val_main_cst_36, v48_eq, v50_eq, v16_at, v18_at]

theorem v256_at (i : Fin 8192) (j : Fin 8) (d : Fin 64) :
    val_main_v256 (F := Ideal) x0 x1 x2 x3 (ix3 i j d) = rotT (fun d => val_main_v219 (F := Ideal) x0 x1 x2 x3 (ix3 i j d)) (rC x1 i) (rS x1 i) d := by
  refine Eq.trans ?_ (rot_spell _ _ _ d)
  pointwise [val_main_v256, val_main_v255, val_main_v254, val_main_v253, val_main_v252, val_main_v251, val_main_v250, val_main_v249, val_main_v248, val_main_v247, val_main_v246, val_main_v245, val_main_v244, val_main_v243, val_main_v242, val_main_v241,
    val_main_cst_38, val_main_cst_39, v16_at, v18_at]

theorem v198_at (n : Fin 64) (g : Fin 2) (k : Fin 256) (r : Fin 128) (a : Fin 4) :
    val_main_v198 (F := Ideal) x0 x1 x2 x3 (ix5 n g k r a) = val_main_v197 (F := Ideal) x0 x1 x2 x3 (ix5 n g a r k) := by
  unfold val_main_v198; generalize val_main_v197 (F := Ideal) x0 x1 x2 x3 = u; pointwise
theorem v161_at (n : Fin 64) (g : Fin 2) (d : Fin 64) (a : Fin 4) (r : Fin 128) :
    val_main_v161 (F := Ideal) x3 (ix5 n g d a r) = val_main_v160 (F := Ideal) x3 (ix5 n r g a d) := by
  unfold val_main_v161; generalize val_main_v160 (F := Ideal) x3 = u; pointwise
theorem v200_dot (n : Fin 64) (r : Fin 128) (g : Fin 2) (a : Fin 4) (d : Fin 64) : val_main_v200 (F := Ideal) x0 x1 x2 x3 (ix5 n r g a d)
    = ∑ k, val_main_v198 (F := Ideal) x0 x1 x2 x3 (ix5 n g k r a) * val_main_v74 (F := Ideal) x0 x1 (ix4 n k g d) := by
  unfold val_main_v200 val_main_v199; generalize val_main_v198 (F := Ideal) x0 x1 x2 x3 = u; generalize val_main_v74 (F := Ideal) x0 x1 = w; pointwise
theorem v202_dot (n : Fin 64) (k : Fin 256) (g : Fin 2) (d : Fin 64) : val_main_v202 (F := Ideal) x0 x1 x2 x3 (ix4 n k g d)
    = ∑ a, ∑ r, val_main_v198 (F := Ideal) x0 x1 x2 x3 (ix5 n g k r a) * val_main_v68 (F := Ideal) x0 x1 (ix5 n r g a d) := by
  unfold val_main_v202 val_main_v201; generalize val_main_v198 (F := Ideal) x0 x1 x2 x3 = u; generalize val_main_v68 (F := Ideal) x0 x1 = w; pointwise
  exact Finset.sum_comm
theorem v164_dot (n : Fin 64) (k : Fin 256) (g : Fin 2) (d : Fin 64) : val_main_v164 (F := Ideal) x0 x1 x2 x3 (ix4 n k g d)
    = ∑ a, ∑ r, val_main_v161 (F := Ideal) x3 (ix5 n g d a r) * val_main_v153 (F := Ideal) x0 x1 x2 (ix5 n g a r k) := by
  unfold val_main_v164 val_main_v163; generalize val_main_v161 (F := Ideal) x3 = u; generalize val_main_v153 (F := Ideal) x0 x1 x2 = w; pointwise

variable {x0 x1 x2 x3} (H : RR x0 x1 x2 x3)
include H

theorem v200_at (n : Fin 64) (r : Fin 128) (g : Fin 2) (a : Fin 4) (d : Fin 64) :
    val_main_v200 (F := Ideal) x0 x1 x2 x3 (ix5 n r g a d) = dq (RD x0 x1 x2 x3) n (hd g a) r d := by
  refine (v200_dot x0 x1 x2 x3 n r g a d).trans ?_
  rw [dq, grp_hd]
  exact Finset.sum_congr rfl fun k _ => congrArg₂ (· * ·) ((v198_at x0 x1 x2 x3 n g k r a).trans (v197_at H n g a r k)) (v74_at x0 x1 x2 x3 n k g d)

theorem v202_at (n : Fin 64) (k : Fin 256) (g : Fin 2) (d : Fin 64) :
    val_main_v202 (F := Ideal) x0 x1 x2 x3 (ix4 n k g d) = dk (RD x0 x1 x2 x3) n k g d := by
  refine (v202_dot x0 x1 x2 x3 n k g d).trans ?_
  exact Finset.sum_congr rfl fun a _ => Finset.sum_congr rfl fun r _ => congrArg₂ (· * ·) ((v198_at x0 x1 x2 x3 n g k r a).trans (v197_at H n g a r k)) (v68_at x0 x1 x2 x3 n r g a d)

omit H in
theorem v164_at (n : Fin 64) (k : Fin 256) (g : Fin 2) (d : Fin 64) :
    val_main_v164 (F := Ideal) x0 x1 x2 x3 (ix4 n k g d) = dv (RD x0 x1 x2 x3) n k g d := by
  refine (v164_dot x0 x1 x2 x3 n k g d).trans ?_
  exact Finset.sum_congr rfl fun a _ => Finset.sum_congr rfl fun r _ => (congrArg₂ (· * ·) ((v161_at x3 n g d a r).trans (v160_at x0 x1 x2 x3 n r g a d)) (v153_at x0 x1 x2 x3 n g a r k)).trans (mul_comm _ _)

theorem v219_at (n : Fin 64) (r : Fin 128) (j : Fin 8) (d : Fin 64) :
    val_main_v219 (F := Ideal) x0 x1 x2 x3 (ix3 (rw8 n r) j d) = dq (RD x0 x1 x2 x3) n j r d * cScale := by
  have e : idx_main_v219 (ix3 (rw8 n r) j d) = ix5 n r (grp j) ⟨j.val % 4, by omega⟩ d := by
    funext x
    match x with
    | 0 => exact Fin.ext (show (((128 * n.val + r.val) * 8 + j.val) * 64 + d.val) / 65536 = n.val by omega)
    | 1 => exact Fin.ext (show (((128 * n.val + r.val) * 8 + j.val) * 64 + d.val) / 512 % 128 = r.val by omega)
    | 2 => exact Fin.ext (show (((128 * n.val + r.val) * 8 + j.val) * 64 + d.val) / 256 % 2 = j.val / 4 by omega)
    | 3 => exact Fin.ext (show (((128 * n.val + r.val) * 8 + j.val) * 64 + d.val) / 64 % 4 = j.val % 4 by omega)
    | 4 => exact Fin.ext (show (((128 * n.val + r.val) * 8 + j.val) * 64 + d.val) % 64 = d.val by omega)
  have e2 : hd (grp j) ⟨j.val % 4, by omega⟩ = j := Fin.ext (by show 4 * (j.val / 4) + j.val % 4 = j.val; omega)
  rw [val_main_v219_apply, e, val_main_v218_apply, v200_at H, e2]
  rfl

omit H in
theorem idx216 (n : Fin 64) (r : Fin 128) (g : Fin 2) (d : Fin 64) : idx_main_v216 (ix3 (rw8 n r) g d) = ix4 n r g d := by
  funext x
  match x with
  | 0 => exact Fin.ext (show (((128 * n.val + r.val) * 2 + g.val) * 64 + d.val) / 16384 = n.val by omega)
  | 1 => exact Fin.ext (show (((128 * n.val + r.val) * 2 + g.val) * 64 + d.val) / 128 % 128 = r.val by omega)
  | 2 => exact Fin.ext (show (((128 * n.val + r.val) * 2 + g.val) * 64 + d.val) / 64 % 2 = g.val by omega)
  | 3 => exact Fin.ext (show (((128 * n.val + r.val) * 2 + g.val) * 64 + d.val) % 64 = d.val by omega)

theorem v216_at (n : Fin 64) (r : Fin 128) (g : Fin 2) (d : Fin 64) :
    val_main_v216 (F := Ideal) x0 x1 x2 x3 (ix3 (rw8 n r) g d) = both (dk (RD x0 x1 x2 x3)) n r g d := by
  rw [val_main_v216_apply, idx216, both]
  pointwise [val_main_v215, val_main_v214, val_main_cst_32, val_main_v213, val_main_v212, val_main_v211, val_main_v210, v202_at H]
  simp only [Nat.add_comm 1]

omit H in
theorem v209_at (n : Fin 64) (r : Fin 128) (g : Fin 2) (d : Fin 64) :
    val_main_v209 (F := Ideal) x0 x1 x2 x3 (ix3 (rw8 n r) g d) = both (dv (RD x0 x1 x2 x3)) n r g d := by
  rw [val_main_v209_apply, show idx_main_v209 (ix3 (rw8 n r) g d) = ix4 n r g d from idx216 n r g d, both]
  pointwise [val_main_v208, val_main_v207, val_main_cst_31, val_main_v206, val_main_v205, val_main_v204, val_main_v203, v164_at]
  simp only [Nat.add_comm 1]

theorem v260_at (n : Fin 64) (r : Fin 128) (l : Fin 768) :
    val_main_v260 (F := Ideal) x0 x1 x2 x3 (ix2 (rw8 n r) l) = dqkv (RD x0 x1 x2 x3) (rC x1) (rS x1) n r l := by
  pointwise [val_main_v260, val_main_v259, val_main_v258, val_main_cst_40, val_main_v257, v256_at, val_main_v240, val_main_v239, val_main_cst_37, val_main_v238, v237_at, val_main_v221, val_main_v220, val_main_cst_34]
  have hi : 128 * n.val + r.val < 8192 := (rw8 n r).isLt
  have hl := l.isLt
  rw [dqkv]
  by_cases h : l.val < 512
  · rw [dif_neg (by omega), dif_neg (by omega), dif_pos ⟨hi, h⟩, dif_pos h, zero_add, zero_add]
    exact congrArg (fun y => rotT y (rC x1 (rw8 n r)) (rS x1 (rw8 n r)) ⟨l.val % 64, by omega⟩) (funext fun d => v219_at H n r ⟨l.val / 64, by omega⟩ d)
  · by_cases h' : l.val < 640
    · rw [dif_neg (by omega), dif_pos ⟨hi, by omega, by omega⟩, dif_neg (by omega), dif_neg h, dif_pos h', zero_add, add_zero]
      refine (congrArg₂ (fun (a : Fin 2) (b : Fin 64) => rotT (fun d => val_main_v216 (F := Ideal) x0 x1 x2 x3 (ix3 (rw8 n r) a d)) (rC x1 (rw8 n r)) (rS x1 (rw8 n r)) b)
        (Fin.ext (show (l.val - 512) / 64 = l.val / 64 - 8 by omega) : _ = (⟨l.val / 64 - 8, by omega⟩ : Fin 2)) (Fin.ext (show (l.val - 512) % 64 = l.val % 64 by omega) : _ = (⟨l.val % 64, by omega⟩ : Fin 64))).trans ?_
      exact congrArg (fun y => rotT y (rC x1 (rw8 n r)) (rS x1 (rw8 n r)) ⟨l.val % 64, by omega⟩) (funext fun d => v216_at H n r _ d)
    · rw [dif_pos ⟨hi, by omega, by omega⟩, dif_neg (by omega), dif_neg (by omega), dif_neg h, dif_neg h', add_zero, add_zero]
      refine (congrArg₂ (fun (a : Fin 2) (b : Fin 64) => val_main_v209 (F := Ideal) x0 x1 x2 x3 (ix3 (rw8 n r) a b))
        (Fin.ext (show (l.val - 640) / 64 = l.val / 64 - 10 by omega) : _ = (⟨l.val / 64 - 10, by omega⟩ : Fin 2)) (Fin.ext (show (l.val - 640) % 64 = l.val % 64 by omega) : _ = (⟨l.val % 64, by omega⟩ : Fin 64))).trans ?_
      exact v209_at n r _ _

theorem v188_at (i : Fin 1) (g : Fin 2) (a : Fin 4) (j k : Fin 1) :
    val_main_v188 (F := Ideal) x0 x1 x2 x3 (ix5 i g a j k) = ∑ n, dsk (RD x0 x1 x2 x3) n (hd g a) := by
  have e1 : val_main_v174 (F := Ideal) x0 x1 x2 x3 (ix3 g a 0) = ∑ n, dsk (RD x0 x1 x2 x3) n (hd g a) := by
    refine (sum_rows _ _ g a 0 _ _).trans ?_
    rw [show val_main_cst_25 (F := Ideal) ix0 = (0 : EReal) by pointwise [val_main_cst_25], zero_add]
    exact Finset.sum_congr rfl fun n _ => Finset.sum_congr rfl fun r _ => v173_at H n g a r 0
  have e2 : val_main_v186 (F := Ideal) x0 x1 x2 x3 (ix3 g a 0) = 0 := by
    refine (sum_rows _ _ g a 0 _ _).trans ?_
    rw [show val_main_cst_28 (F := Ideal) ix0 = (0 : EReal) by pointwise [val_main_cst_28], zero_add]
    refine Finset.sum_eq_zero fun n _ => Finset.sum_eq_zero fun r _ => ?_
    rw [val_main_v185_apply, v184_at H]
    exact zero_mul _
  have x : idx_main_v175 (ix5 i g a j k) = ix3 g a 0 := by
    have := i.isLt
    have := j.isLt
    have := k.isLt
    funext x
    match x with
    | 0 => exact Fin.ext (show ((((i.val * 2 + g.val) * 4 + a.val) * 1 + j.val) * 1 + k.val) / 4 = g.val by omega)
    | 1 => exact Fin.ext (show ((((i.val * 2 + g.val) * 4 + a.val) * 1 + j.val) * 1 + k.val) / 1 % 4 = a.val by omega)
    | 2 => exact Subsingleton.elim (α := Fin 1) _ _
  rw [val_main_v188_apply, val_main_v175_apply, val_main_v187_apply, x, show idx_main_v187 (ix5 i g a j k) = ix3 g a 0 from x, e1, e2]
  exact add_zero _

theorem v263_at (i : Fin 8) (l : Fin 128) :
    val_main_v263 (F := Ideal) x0 x1 x2 x3 (ix2 i l) = ∑ n, if h : l.val < 8 then dsk (RD x0 x1 x2 x3) n ⟨l.val, h⟩ else 0 := by
  pointwise [val_main_v263, val_main_v262, val_main_v261, val_main_call2_v0, val_main_c_41, val_main_v196]
  have e : ∀ (g : Fin 2) (a : Fin 4), val_main_v195 (F := Ideal) x0 x1 x2 x3 (ix2 g a) = ∑ n, dsk (RD x0 x1 x2 x3) n (hd g a) := fun g a => by
    refine (sum_one _ _ g a _ _).trans ?_
    rw [show val_main_cst_30 (F := Ideal) ix0 = (0 : EReal) by pointwise [val_main_cst_30], zero_add]
    exact v188_at H 0 g a 0 0
  by_cases h : l.val < 8
  · rw [dif_pos h, e]
    refine Finset.sum_congr rfl fun n _ => ?_
    rw [dif_pos h]
    exact congrArg (dsk (RD x0 x1 x2 x3) n) (Fin.ext (show 4 * (l.val / 4) + l.val % 4 = l.val by omega))
  · rw [dif_neg h, Finset.sum_eq_zero fun n _ => dif_neg h]
    show (((0#32 : BitVec 32).toInt : ℝ) : EReal) = 0
    simp

end Cert.AttnRefIdeal.Val

end
-- ==== Proof.Attn.Host.lean ====
/- The windowed attention: the host's forward lines before the region compute the reference's rotated rows and scores,
   and from them the softmax's saved sum. -/
module

public import proofs.«01_k».proof.Proof.Attn.Value
public import proofs.«01_k».proof.Proof.Attn.RefRows
public import Idealize.ShloMosaic.Lib.StableHlo.ReadAt

@[expose] public section

set_option maxRecDepth 16384

noncomputable section

open Idealize.ShloMosaic Idealize.ShloMosaic.TcCoe Idealize.SL.Sem

namespace Cert.AttnBwdIdeal.Val

open Cert.AttnBwdIdeal Cert.AttnBwdIdeal.Gen Cert.RowPieces Cert.RealArith Cert.Attn Cert.AttnRefIdeal.Read Cert.AttnRefIdeal.Val

variable (m : (ℓ : Loc nD τ Cert.AttnBwdIdeal.sig) → Buf (Elt Ideal) ℓ) (c : Dev nD)

abbrev A0 : FVec Ideal S8192x768 .f32 := m ((c.tc : Thread nD τ).loc main_arg0)
abbrev A1 : (⟨S8192, .i32⟩ : BufTy).Contents (Elt Ideal) := m ((c.tc : Thread nD τ).loc main_arg1)
abbrev A2 : FVec Ideal S8 .f32 := m ((c.tc : Thread nD τ).loc main_arg2)
abbrev A3 : FVec Ideal S8192x512 .f32 := m ((c.tc : Thread nD τ).loc main_arg3)

theorem h13 : (V m c main_v143 : FVec Ideal S8192x32 .f32) = val_main_v15 (F := Ideal) (A1 m c) := by
  unfold V
  after_reads_simp
  rfl

theorem h62 : (V m c main_v31 : FVec Ideal S8192x8x64 .f32) = val_main_v31 (F := Ideal) (A0 m c) (A1 m c) := by
  unfold V
  after_reads_simp
  refine congrArg₂ (fun (a b : FVec Ideal S8192x8x32 .f32) => concatenate S8192x8x64 2 [⟨_, a⟩, ⟨_, b⟩] concatenates_S8192x8x32_S8192x8x32_S8192x8x64_d2)
    (?_ : _ = val_main_v25 (F := Ideal) (A0 m c) (A1 m c)) (?_ : _ = val_main_v30 (F := Ideal) (A0 m c) (A1 m c))
  · after_reads_simp
    rfl
  · after_reads_simp
    rfl
theorem h96 : (V m c main_v65 : FVec Ideal S8192x2x64 .f32) = val_main_v63 (F := Ideal) (A0 m c) (A1 m c) := by
  unfold V
  after_reads_simp
  refine congrArg₂ (fun (a b : FVec Ideal S8192x2x32 .f32) => concatenate S8192x2x64 2 [⟨_, a⟩, ⟨_, b⟩] concatenates_S8192x2x32_S8192x2x32_S8192x2x64_d2)
    (?_ : _ = val_main_v57 (F := Ideal) (A0 m c) (A1 m c)) (?_ : _ = val_main_v62 (F := Ideal) (A0 m c) (A1 m c))
  · after_reads_simp
    rfl
  · after_reads_simp
    rfl

abbrev DR : Data := RD (A0 m c) (A1 m c) (A2 m c) (A3 m c)

theorem e97 : @Eq (FVec Ideal S64x128x2x4x64 .f32) (V m c main_v66) (shapeCast S64x128x2x4x64 (mulf (V m c main_v31 : FVec Ideal S8192x8x64 .f32) (broadcastInDim S8192x8x64 ![] bcast_S_S8192x8x64 (constant S_ .f32 0x3E000000#32))) shapeCasts_S8192x8x64_S64x128x2x4x64) := by
  unfold V
  after_reads_simp
  rfl
theorem h97 : (V m c main_v66 : FVec Ideal S64x128x2x4x64 .f32) = val_main_v68 (F := Ideal) (A0 m c) (A1 m c) := by
  rw [e97, h62]
  rfl
theorem h98 : (V m c main_v67 : FVec Ideal S64x128x2x64 .f32) = val_main_v69 (F := Ideal) (A0 m c) (A1 m c) := by
  rw [val_main_v69, ← h96]
  unfold V
  after_reads_simp
  rfl
theorem h103 : (V m c main_v72 : FVec Ideal S64x256x2x64 .f32) = val_main_v74 (F := Ideal) (A0 m c) (A1 m c) := by
  rw [val_main_v74, ← h98, val_main_v72, val_main_v71, ← h98]
  unfold V
  after_reads_simp
  refine congrArg₂ (fun (a : FVec Ideal S64x128x2x64 .f32) (b : FVec Ideal S64x128x2x64 .f32) => concatenate S64x256x2x64 1 [⟨_, a⟩, ⟨_, b⟩] concatenates_S64x128x2x64_S64x128x2x64_S64x256x2x64_d1) ?_ ?_
  · after_reads_simp
    refine congrArg₂ (fun (a : FVec Ideal S1x128x2x64 .f32) (b : FVec Ideal S63x128x2x64 .f32) => concatenate S64x128x2x64 0 [⟨_, a⟩, ⟨_, b⟩] concatenates_S1x128x2x64_S63x128x2x64_S64x128x2x64_d0) ?_ ?_
    · after_reads_simp
      rfl
    · after_reads_simp
  · after_reads_simp
theorem h133 : (V m c main_v102 : FVec Ideal S64x2x4x128x256 .f32) = val_main_v82 (F := Ideal) (A0 m c) (A1 m c) := by
  rw [val_main_v82, val_main_v81, ← h103, ← h97]
  unfold V
  after_reads_simp
  rfl

theorem h131 (n : Fin 64) (i j : Fin 1) (r : Fin 128) (k : Fin 256) : (V m c main_v100 : IVec S64x1x1x128x256 1) (ix5 n i j r k)
  = IntOp.andi (IntOp.andi (IntOp.cmpi CmpIPredicate.sgt (BitVec.ofNat 32 k.val) (BitVec.ofNat 32 r.val)) (IntOp.cmpi CmpIPredicate.sle (BitVec.ofNat 32 k.val) (IntOp.addi (BitVec.ofNat 32 r.val) 128#32)))
    (IntOp.ori (IntOp.cmpi CmpIPredicate.sgt (BitVec.ofNat 32 n.val) 0#32) (IntOp.cmpi CmpIPredicate.sge (BitVec.ofNat 32 k.val) 128#32)) := by
  unfold V
  after_reads_at

theorem word2 : ∀ (r : Fin 128) (k : Fin 256), IntOp.andi (IntOp.cmpi CmpIPredicate.sgt (BitVec.ofNat 32 k.val) (BitVec.ofNat 32 r.val)) (IntOp.cmpi CmpIPredicate.sle (BitVec.ofNat 32 k.val) (IntOp.addi (BitVec.ofNat 32 r.val) 128#32))
    = if r.val < k.val ∧ k.val ≤ r.val + 128 then 1#1 else 0#1 := by decide +kernel

abbrev H131 : IVec S64x1x1x128x256 1 := V m c main_v100
abbrev H134 : FVec Ideal S64x2x4x128x256 .f32 := V m c main_v103
abbrev H137 : FVec Ideal S64x2x4x128 .f32 := V m c main_v106
abbrev H136 : FVec Ideal S1x2x4x1 .f32 := V m c main_v105
abbrev H139 : FVec Ideal S64x2x4x128 .f32 := V m c main_v108
abbrev H143 : FVec Ideal S64x2x4x128x256 .f32 := V m c main_v112
abbrev H148 : FVec Ideal S64x2x4x128 .f32 := V m c main_v117
abbrev H150 : FVec Ideal S64x2x4x128 .f32 := V m c main_v119
abbrev H152 : FVec Ideal S8192x8 .f32 := V m c main_v121

theorem seen_at (n : Fin 64) (i j : Fin 1) (r : Fin 128) (k : Fin 256) : H131 m c (ix5 n i j r k) = if seenAt n r k then 1#1 else 0#1 := by
  rw [H131, h131, word2, own_word, first_word]
  by_cases h1 : (r.val < k.val ∧ k.val ≤ r.val + 128) <;> by_cases h2 : 0 < n.val <;> by_cases h3 : 128 ≤ k.val <;>
    simp only [seenAt, h1, h2, h3, if_true, if_false, true_and, false_and, or_true, true_or, or_false, and_self, and_true, and_false] <;> rfl

theorem e134 : H134 m c = select (broadcastInDim S64x2x4x128x256 ![0, 1, 2, 3, 4] bcast_S64x1x1x128x256_S64x2x4x128x256_0_1_2_3_4 (H131 m c))
   (V m c main_v102 : FVec Ideal S64x2x4x128x256 .f32) (broadcastInDim S64x2x4x128x256 ![] bcast_S_S64x2x4x128x256 (constant (F := Ideal) S_ .f32 0xFF800000#32)) := by
  unfold H134 H131 V
  after_reads_simp
  rfl
theorem e137 : H137 m c = Host.reduce FloatOps.maximumf (H134 m c) (constant (F := Ideal) S_ .f32 0xFF800000#32) reducesTo_S64x2x4x128x256_S64x2x4x128_d4 h_S_ := by
  unfold H134 H137 V
  after_reads_simp
theorem e139 : H139 m c = maximumf (H137 m c) (broadcastInDim S64x2x4x128 ![0, 1, 2, 3] bcast_S1x2x4x1_S64x2x4x128_0_1_2_3 (H136 m c)) := by
  unfold H139 H137 H136 V
  after_reads_simp
theorem e143 : H143 m c = Host.exp (subf (H134 m c) (broadcastInDim S64x2x4x128x256 ![0, 1, 2, 3, 4] bcast_S64x2x4x128x1_S64x2x4x128x256_0_1_2_3_4 (broadcastInDim S64x2x4x128x1 ![0, 1, 2, 3] bcast_S64x2x4x128_S64x2x4x128x1_0_1_2_3 (H139 m c)))) := by
  unfold H143 H134 H139 V
  after_reads_simp
theorem e148 : H148 m c = addf (Host.reduceAdd (H143 m c) (constant (F := Ideal) S_ .f32 0x00000000#32) reducesTo_S64x2x4x128x256_S64x2x4x128_d4 h_S_)
    (Host.exp (subf (broadcastInDim S64x2x4x128 ![0, 1, 2, 3] bcast_S1x2x4x1_S64x2x4x128_0_1_2_3 (H136 m c)) (H139 m c))) := by
  unfold H148 H143 H136 H139 V
  after_reads_simp
theorem e150 : H150 m c = addf (H139 m c) (Host.log (H148 m c)) := by
  unfold H150 H148 H139 V
  after_reads_simp
theorem e152 : H152 m c = shapeCast S8192x8 (transpose S64x128x2x4 [0, 3, 1, 2] (H150 m c) transposes_S64x2x4x128_S64x128x2x4_0_3_1_2) shapeCasts_S64x128x2x4_S8192x8 := by
  unfold H152 H150 V
  after_reads_simp
  rfl
theorem e154 : LS m c = concatenate S8192x128 1 [⟨S8192x8, H152 m c⟩, ⟨S8192x120, broadcastInDim S8192x120 ![] bcast_S_S8192x120 (constant (F := Ideal) S_ .f32 0x00000000#32)⟩] concatenates_S8192x8_S8192x120_S8192x128_d1 := by
  unfold LS H152 V
  after_reads_simp
  refine congrArg₂ (fun (a : FVec Ideal S8192x8 .f32) (b : FVec Ideal S8192x120 .f32) => concatenate S8192x128 1 [⟨_, a⟩, ⟨_, b⟩] concatenates_S8192x8_S8192x120_S8192x128_d1) ?_ ?_
  · after_reads_simp
  · after_reads_simp

end Cert.AttnBwdIdeal.Val

end
-- ==== Proof.Attn.HostLse.lean ====
/- The windowed attention: the host's forward lines leave the softmax's saved sum. -/
module

public import proofs.«01_k».proof.Proof.Attn.Host

@[expose] public section

set_option maxRecDepth 16384

noncomputable section

open Idealize.ShloMosaic Idealize.ShloMosaic.TcCoe Idealize.SL.Sem

namespace Cert.AttnBwdIdeal.Val

open Cert.AttnBwdIdeal Cert.AttnBwdIdeal.Gen Cert.RowPieces Cert.RealArith Cert.Attn Cert.AttnRefIdeal.Read Cert.AttnRefIdeal.Val

variable (m : (ℓ : Loc nD τ Cert.AttnBwdIdeal.sig) → Buf (Elt Ideal) ℓ) (c : Dev nD)

theorem h134_at (n : Fin 64) (g : Fin 2) (a : Fin 4) (r : Fin 128) (k : Fin 256) :
    H134 m c (ix5 n g a r k) = masked (seenAt n r) (sc (DR m c) n (hd g a) r) k := by
  have hb := seen_at m c n 0 0 r k
  have hs := v82_at (A0 m c) (A1 m c) (A2 m c) (A3 m c) n g a r k
  rw [e134, h133]
  generalize H131 m c = u at hb ⊢
  generalize val_main_v82 (F := Ideal) (A0 m c) (A1 m c) = w at hs ⊢
  pointwise [hb, hs]
  rw [sel_if, masked]
  exact congrArg (fun z => if seenAt n r k then sc (DR m c) n (hd g a) r k else z) c_bot

theorem h136_at (i j : Fin 1) (g : Fin 2) (a : Fin 4) : H136 m c (ix4 i g a j) = (DR m c).s (hd g a) := by
  have e : H136 m c = broadcastInDim S1x2x4x1 ![1, 2] bcast_S2x4_S1x2x4x1_1_2 (shapeCast S2x4 (A2 m c) shapeCasts_S8_S2x4) := by
    unfold H136 V
    after_reads_simp
    rfl
  show _ = A2 m c (ix1 (hd g a))
  rw [e]
  generalize A2 m c = u
  pointwise []
  refine congrArg u ?_
  funext x
  match x with
  | 0 => exact Fin.ext (show g.val * 4 + a.val = 4 * g.val + a.val by omega)

theorem h137_at (n : Fin 64) (g : Fin 2) (a : Fin 4) (r : Fin 128) :
    H137 m c (ix4 n g a r) = Finset.univ.fold max ⊥ (masked (seenAt n r) (sc (DR m c) n (hd g a) r)) := by
  have h := h134_at m c n g a r
  rw [e137]
  generalize H134 m c = u at h ⊢
  pointwise [h]
  rw [c_bot]

theorem h139_at (n : Fin 64) (g : Fin 2) (a : Fin 4) (r : Fin 128) : H139 m c (ix4 n g a r) = mx (DR m c) n (hd g a) r := by
  have h1 := h137_at m c n g a r
  have h2 := h136_at m c 0 0 g a
  rw [e139, mx]
  generalize H137 m c = u at h1 ⊢
  generalize H136 m c = v at h2 ⊢
  generalize Finset.univ.fold max ⊥ (masked (seenAt n r) (sc (DR m c) n (hd g a) r)) = y at h1 ⊢
  generalize (DR m c).s (hd g a) = z at h2 ⊢
  have e : (broadcastInDim S64x2x4x128 ![0, 1, 2, 3] bcast_S1x2x4x1_S64x2x4x128_0_1_2_3 v : FVec Ideal S64x2x4x128 .f32) (ix4 n g a r) = z := Eq.trans (by pointwise []) h2
  generalize (broadcastInDim S64x2x4x128 ![0, 1, 2, 3] bcast_S1x2x4x1_S64x2x4x128_0_1_2_3 v : FVec Ideal S64x2x4x128 .f32) = w at e ⊢
  rw [← h1, ← e]
  exact maximumf_apply u w _

theorem h143_at (n : Fin 64) (g : Fin 2) (a : Fin 4) (r : Fin 128) (k : Fin 256) :
    H143 m c (ix5 n g a r k) = ex (seenAt n r) (sc (DR m c) n (hd g a) r) (mx (DR m c) n (hd g a) r) k := by
  have h1 := h134_at m c n g a r k
  have h2 := h139_at m c n g a r
  rw [e143, ex]
  generalize H134 m c = u at h1 ⊢
  generalize H139 m c = v at h2 ⊢
  pointwise [h1, h2]

theorem h148_at (n : Fin 64) (g : Fin 2) (a : Fin 4) (r : Fin 128) :
    H148 m c (ix4 n g a r) = den (seenAt n r) (sc (DR m c) n (hd g a) r) ((DR m c).s (hd g a)) (mx (DR m c) n (hd g a) r) := by
  have h1 := h143_at m c n g a r
  have h2 := h139_at m c n g a r
  have h3 := h136_at m c 0 0 g a
  rw [e148, den, exS]
  generalize H143 m c = u at h1 ⊢
  generalize H139 m c = v at h2 ⊢
  generalize H136 m c = w at h3 ⊢
  pointwise [h1, h2, h3]

theorem add_log {S : Shape} (u v : FVec Ideal S .f32) (q : S.Idx) : addf u (Host.log v) q = u q + Ideal.log (v q) := rfl

theorem h150_at (n : Fin 64) (g : Fin 2) (a : Fin 4) (r : Fin 128) : H150 m c (ix4 n g a r) = lseAt (DR m c) n (hd g a) r := by
  have h1 := h139_at m c n g a r
  have h2 := h148_at m c n g a r
  rw [e150, lseAt, lse, ← h2, ← h1]
  exact add_log _ _ _

theorem lse_host (n : Fin 64) (j : Fin 8) (r : Fin 128) : LS m c (ix2 (rw8 n r) ⟨j.val, by omega⟩) = lseAt (DR m c) n j r := by
  have h := h150_at m c n ⟨j.val / 4, by omega⟩ ⟨j.val % 4, by omega⟩ r
  rw [show hd ⟨j.val / 4, by omega⟩ ⟨j.val % 4, by omega⟩ = j from Fin.ext (show 4 * (j.val / 4) + j.val % 4 = j.val by omega)] at h
  rw [← h, e154, e152]
  generalize H150 m c = u
  pointwise []

end Cert.AttnBwdIdeal.Val

end
-- ==== Proof.Attn.HostTables.lean ====
/- The windowed attention: the rotation's tables and the rotated rows the region is given. -/
module

public import proofs.«01_k».proof.Proof.Attn.Host

@[expose] public section

set_option maxRecDepth 16384

noncomputable section

open Idealize.ShloMosaic Idealize.ShloMosaic.TcCoe Idealize.SL.Sem

namespace Cert.AttnBwdIdeal.Val

open Cert.AttnBwdIdeal Cert.AttnBwdIdeal.Gen Cert.RowPieces Cert.RealArith Cert.Attn Cert.AttnRefIdeal.Read Cert.AttnRefIdeal.Val

variable (m : (ℓ : Loc nD τ Cert.AttnBwdIdeal.sig) → Buf (Elt Ideal) ℓ) (c : Dev nD)

abbrev H13 : FVec Ideal S8192x32 .f32 := V m c main_v143
abbrev H24 : FVec Ideal S8192x32 .f32 := V m c main_v154
abbrev H27 : FVec Ideal S8192x128 .f32 := V m c main_v157

theorem h24 : H24 m c = val_main_v17 (F := Ideal) (A1 m c) := by
  unfold H24 V
  after_reads_simp
  rfl

/-- A table of 32 columns laid four times side by side. -/
theorem tiled (u : FVec Ideal S8192x32 .f32) (i : Fin 8192) (l : Fin 128) :
    (shapeCast S8192x128 (broadcastInDim S1x8192x4x32 ![0, 1, 2, 3] bcast_S1x8192x1x32_S1x8192x4x32_0_1_2_3
      (shapeCast S1x8192x1x32 u shapeCasts_S8192x32_S1x8192x1x32)) shapeCasts_S1x8192x4x32_S8192x128 : FVec Ideal S8192x128 .f32) (ix2 i l) = u (ix2 i (l32 l)) := by
  pointwise []

theorem e16 : CO m c = shapeCast S8192x128 (broadcastInDim S1x8192x4x32 ![0, 1, 2, 3] bcast_S1x8192x1x32_S1x8192x4x32_0_1_2_3
      (shapeCast S1x8192x1x32 (H13 m c) shapeCasts_S8192x32_S1x8192x1x32)) shapeCasts_S1x8192x4x32_S8192x128 := by
  unfold CO H13 V
  after_reads_simp
  rfl
theorem e27 : H27 m c = shapeCast S8192x128 (broadcastInDim S1x8192x4x32 ![0, 1, 2, 3] bcast_S1x8192x1x32_S1x8192x4x32_0_1_2_3
      (shapeCast S1x8192x1x32 (H24 m c) shapeCasts_S8192x32_S1x8192x1x32)) shapeCasts_S1x8192x4x32_S8192x128 := by
  unfold H27 H24 V
  after_reads_simp
  rfl
theorem pick {p : Prop} [Decidable p] {a b : EReal} (A : p → EReal) (B : ¬p → EReal) (hA : ∀ h, A h = a) (hB : ∀ h, B h = b) : dite p A B = if p then a else b := by
  split_ifs with h
  · exact hA h
  · exact hB h
theorem neg_one_word {n : ℕ} (q : (⟨1, ![n]⟩ : Shape).Idx) : Host.negf (fun _ => Ideal.ofBits .f32 0x3F800000#32 : FVec Ideal ⟨1, ![n]⟩ .f32) q = ((-1 : ℝ) : EReal) := by
  show -(Ideal.ofBits .f32 0x3F800000#32) = _
  rw [c_one]
  rfl
theorem h29 (i : Fin 8192) (l : Fin 128) : (V m c main_v159 : FVec Ideal S8192x128 .f32) (ix2 i l) = if l.val % 64 < 32 then ((-1 : ℝ) : EReal) else ((1 : ℝ) : EReal) := by
  unfold V
  after_reads_at
  refine pick _ _ (fun h => ?_) (fun h => ?_)
  · after_reads_simp
    exact neg_one_word _
  · after_reads_simp
    exact c_one
theorem e30 (i : Fin 8192) (l : Fin 128) : SI m c (ix2 i l) = H27 m c (ix2 i l) * (V m c main_v159 : FVec Ideal S8192x128 .f32) (ix2 i l) := by
  unfold SI H27 V
  after_reads_simp
  rfl
theorem q_host (i : Fin 8192) (j : Fin 8) (d : Fin 64) : QR m c (ix2 i ⟨64 * j.val + d.val, by omega⟩) = val_main_v31 (F := Ideal) (A0 m c) (A1 m c) (ix3 i j d) * cScale := by
  have e : QR m c = truncf .bf16 (shapeCast S8192x512 (mulf (V m c main_v31 : FVec Ideal S8192x8x64 .f32) (broadcastInDim S8192x8x64 ![] bcast_S_S8192x8x64 (constant (F := Ideal) S_ .f32 0x3E000000#32))) shapeCasts_S8192x8x64_S8192x512) bitsLt_bf16_f32 := by
    unfold QR V
    after_reads_simp
    rfl
  rw [e, h62]
  generalize val_main_v31 (F := Ideal) (A0 m c) (A1 m c) = u
  pointwise []
theorem k_host (i : Fin 8192) (g : Fin 2) (d : Fin 64) : KR m c (ix2 i ⟨64 * g.val + d.val, by omega⟩) = val_main_v63 (F := Ideal) (A0 m c) (A1 m c) (ix3 i g d) := by
  have e : KR m c = truncf .bf16 (shapeCast S8192x128 (V m c main_v65 : FVec Ideal S8192x2x64 .f32) shapeCasts_S8192x2x64_S8192x128) bitsLt_bf16_f32 := by
    unfold KR V
    after_reads_simp
    rfl
  rw [e, h96]
  generalize val_main_v63 (F := Ideal) (A0 m c) (A1 m c) = u
  pointwise []
theorem v_host (i : Fin 8192) (l : Fin 128) : VV m c (ix2 i l) = A0 m c (ix2 i ⟨640 + l.val, by omega⟩) := by
  unfold VV V
  after_reads_at
theorem g_host (i : Fin 8192) (l : Fin 512) : CT m c (ix2 i l) = A3 m c (ix2 i l) := by
  unfold CT V
  after_reads_at
theorem s_host (j : Fin 8) : SK m c (ix1 j) = A2 m c (ix1 j) := by
  unfold SK V
  after_reads_simp

end Cert.AttnBwdIdeal.Val

end
-- ==== Proof.Attn.Points.lean ====
/- What the windowed attention's gradient kernel has written after every point. -/
module

public import proofs.«01_k».proof.Proof.Attn.Value

@[expose] public section

set_option pp.maxSteps 120
set_option maxRecDepth 16384

noncomputable section

open Idealize.ShloMosaic Idealize.ShloMosaic.TcCoe Idealize.SL.Sem
open Idealize.ShloMosaic.Pipeline (Dat)

namespace Cert.AttnBwdIdeal.Val

open Cert.AttnBwdIdeal Cert.AttnBwdIdeal.Gen Cert.RowPieces Cert.RealArith Cert.Attn

variable (m : (ℓ : Loc nD τ sig) → Buf (Elt Ideal) ℓ)

section
variable (kb : FVec Ideal S256x128 .bf16) (pp dpp pd : FVec Ideal S1024x256 .f32)

theorem pay40_at (r l : Fin 128) : k0_pay40 (F := Ideal) kb pp dpp pd (ix2 r l) = k0_pay37 (F := Ideal) kb pp dpp pd (ix2 (st 0 r) l) := by
  pointwise [k0_pay40]
  exact congrArg (fun i => k0_pay37 (F := Ideal) kb pp dpp pd (ix2 i l)) (Fin.ext (by show r.val = 128 * 0 + r.val; omega))
theorem pay41_at (r l : Fin 128) : k0_pay41 (F := Ideal) kb pp dpp pd (ix2 r l) = k0_pay37 (F := Ideal) kb pp dpp pd (ix2 (st 1 r) l) := by
  pointwise [k0_pay41]
  rfl
theorem pay42_at (r l : Fin 128) : k0_pay42 (F := Ideal) kb pp dpp pd (ix2 r l) = k0_pay37 (F := Ideal) kb pp dpp pd (ix2 (st 2 r) l) := by
  pointwise [k0_pay42]
  rfl
theorem pay43_at (r l : Fin 128) : k0_pay43 (F := Ideal) kb pp dpp pd (ix2 r l) = k0_pay37 (F := Ideal) kb pp dpp pd (ix2 (st 3 r) l) := by
  pointwise [k0_pay43]
  rfl
theorem pay44_at (r l : Fin 128) : k0_pay44 (F := Ideal) kb pp dpp pd (ix2 r l) = k0_pay37 (F := Ideal) kb pp dpp pd (ix2 (st 4 r) l) := by
  pointwise [k0_pay44]
  rfl
theorem pay45_at (r l : Fin 128) : k0_pay45 (F := Ideal) kb pp dpp pd (ix2 r l) = k0_pay37 (F := Ideal) kb pp dpp pd (ix2 (st 5 r) l) := by
  pointwise [k0_pay45]
  rfl
theorem pay46_at (r l : Fin 128) : k0_pay46 (F := Ideal) kb pp dpp pd (ix2 r l) = k0_pay37 (F := Ideal) kb pp dpp pd (ix2 (st 6 r) l) := by
  pointwise [k0_pay46]
  rfl
theorem pay47_at (r l : Fin 128) : k0_pay47 (F := Ideal) kb pp dpp pd (ix2 r l) = k0_pay37 (F := Ideal) kb pp dpp pd (ix2 (st 7 r) l) := by
  pointwise [k0_pay47]
  rfl

end

theorem pay64_at (a : FVec Ideal S256x128 .f32) (b : FVec Ideal S128x128 .f32) (r l : Fin 128) :
    k0_pay64 (F := Ideal) a b (ix2 r l) = a (ix2 (⟨r.val, by omega⟩ : Fin 256) l) + b (ix2 r l) := by
  pointwise [k0_pay64]
theorem pay2_at (a : FVec Ideal S256x128 .f32) (r l : Fin 128) : k0_pay2 (F := Ideal) a (ix2 r l) = a (ix2 (⟨128 + r.val, by omega⟩ : Fin 256) l) := by
  pointwise [k0_pay2]
theorem pay65_at (a : FVec Ideal S256x128 .f32) (r l : Fin 128) : k0_pay65 (F := Ideal) a (ix2 r l) = a (ix2 (⟨128 + r.val, by omega⟩ : Fin 256) l) := by
  pointwise [k0_pay65]
theorem pay66_at (a : FVec Ideal S256x128 .f32) (r l : Fin 128) : k0_pay66 (F := Ideal) a (ix2 r l) = a (ix2 (⟨128 + r.val, by omega⟩ : Fin 256) l) := by
  pointwise [k0_pay66]
theorem pay71_at (a b : FVec Ideal S128x128 .f32) (r l : Fin 128) : k0_pay71 (F := Ideal) a b (ix2 r l) = k0_pay70 (F := Ideal) a b (ix2 r l) := by
  pointwise [k0_pay71]
theorem pay73_at (a b x y : FVec Ideal S128x128 .f32) (r l : Fin 128) : k0_pay73 (F := Ideal) a b x y (ix2 r l) = k0_pay72 (F := Ideal) a b x y (ix2 r l) := by
  pointwise [k0_pay73]
theorem pay78_at (a b : FVec Ideal S128x128 .f32) (r l : Fin 128) : k0_pay78 (F := Ideal) a b (ix2 r l) = k0_pay77 (F := Ideal) a b (ix2 r l) := by
  pointwise [k0_pay78]
theorem pay80_at (a b x y : FVec Ideal S128x128 .f32) (r l : Fin 128) : k0_pay80 (F := Ideal) a b x y (ix2 r l) = k0_pay79 (F := Ideal) a b x y (ix2 r l) := by
  pointwise [k0_pay80]

/-! ## The scratch buffers after a point -/

section
variable (c : Dev nD) (t : Fin cfg0.N)

abbrev oDQ : FVec Ideal S128x768 .bf16 := (outsAt0 m c t.val t.isLt).1
abbrev oLA : FVec Ideal S128x768 .bf16 := (outsAt0 m c t.val t.isLt).2.1
abbrev oSK : FVec Ideal S8x128 .f32 := (outsAt0 m c t.val t.isLt).2.2.1
abbrev oCK : FVec Ideal S128x128 .f32 := (outsAt0 m c t.val t.isLt).2.2.2.1
abbrev oCV : FVec Ideal S128x128 .f32 := (outsAt0 m c t.val t.isLt).2.2.2.2.1
abbrev oCQ : FVec Ideal S128x512 .bf16 := (outsAt0 m c t.val t.isLt).2.2.2.2.2

/-- The rotated query rows of one pair of heads. -/
abbrev bQ0 : FVec Ideal S128x128 .bf16 :=
  k0_pay70 (k0_pay68 (k0_pay40 (bKB m c t) (bPP m c t) (bDP m c t) (bPD m c t)) (k0_pay41 (bKB m c t) (bPP m c t) (bDP m c t) (bPD m c t)) (bC m c t))
    (k0_pay69 (k0_pay40 (bKB m c t) (bPP m c t) (bDP m c t) (bPD m c t)) (k0_pay41 (bKB m c t) (bPP m c t) (bDP m c t) (bPD m c t)) (bS m c t))
abbrev bQ1 : FVec Ideal S128x128 .bf16 :=
  k0_pay72 (k0_pay42 (bKB m c t) (bPP m c t) (bDP m c t) (bPD m c t)) (k0_pay43 (bKB m c t) (bPP m c t) (bDP m c t) (bPD m c t)) (bC m c t) (bS m c t)
abbrev bQ2 : FVec Ideal S128x128 .bf16 :=
  k0_pay77 (k0_pay75 (k0_pay44 (bKB m c t) (bPP m c t) (bDP m c t) (bPD m c t)) (k0_pay45 (bKB m c t) (bPP m c t) (bDP m c t) (bPD m c t)) (bC m c t))
    (k0_pay76 (k0_pay44 (bKB m c t) (bPP m c t) (bDP m c t) (bPD m c t)) (k0_pay45 (bKB m c t) (bPP m c t) (bDP m c t) (bPD m c t)) (bS m c t))
abbrev bQ3 : FVec Ideal S128x128 .bf16 :=
  k0_pay79 (k0_pay46 (bKB m c t) (bPP m c t) (bDP m c t) (bPD m c t)) (k0_pay47 (bKB m c t) (bPP m c t) (bDP m c t) (bPD m c t)) (bC m c t) (bS m c t)

theorem ck_val : oCK m c t = k0_pay65 (bDK m c t) := by
  by_cases h : t.val % 64 = 0
  · show (outsAt0 m c t.val t.isLt).2.2.2.1 = _
    rw [outsAt0_A m c t h]; frame_out; rfl
  · show (outsAt0 m c t.val t.isLt).2.2.2.1 = _
    rw [outsAt0_B m c t h]; frame_out; rfl

theorem cv_val : oCV m c t = k0_pay66 (bDV m c t) := by
  by_cases h : t.val % 64 = 0
  · show (outsAt0 m c t.val t.isLt).2.2.2.2.1 = _
    rw [outsAt0_A m c t h]; frame_out; rfl
  · show (outsAt0 m c t.val t.isLt).2.2.2.2.1 = _
    rw [outsAt0_B m c t h]; frame_out; rfl

/-- The pieces of a block's query rows. -/
abbrev cqL (L : List (View.Piece (Elt Ideal) S128x512 .bf16)) : List (View.Piece (Elt Ideal) S128x512 .bf16) :=
  ⟨Rect.unit (s := S128x512) ![0, 384] ![128, 128] inb_S128x512_S128x128_0_384,
      k0_pay80 (k0_pay46 (bKB m c t) (bPP m c t) (bDP m c t) (bPD m c t)) (k0_pay47 (bKB m c t) (bPP m c t) (bDP m c t) (bPD m c t)) (bC m c t) (bS m c t)⟩ ::
    ⟨Rect.unit (s := S128x512) ![0, 256] ![128, 128] inb_S128x512_S128x128_0_256,
      k0_pay78 (k0_pay75 (k0_pay44 (bKB m c t) (bPP m c t) (bDP m c t) (bPD m c t)) (k0_pay45 (bKB m c t) (bPP m c t) (bDP m c t) (bPD m c t)) (bC m c t))
        (k0_pay76 (k0_pay44 (bKB m c t) (bPP m c t) (bDP m c t) (bPD m c t)) (k0_pay45 (bKB m c t) (bPP m c t) (bDP m c t) (bPD m c t)) (bS m c t))⟩ ::
    ⟨Rect.unit (s := S128x512) ![0, 128] ![128, 128] inb_S128x512_S128x128_0_128,
      k0_pay73 (k0_pay42 (bKB m c t) (bPP m c t) (bDP m c t) (bPD m c t)) (k0_pay43 (bKB m c t) (bPP m c t) (bDP m c t) (bPD m c t)) (bC m c t) (bS m c t)⟩ ::
    ⟨Rect.unit (s := S128x512) ![0, 0] ![128, 128] inb_S128x512_S128x128_0_0,
      k0_pay71 (k0_pay68 (k0_pay40 (bKB m c t) (bPP m c t) (bDP m c t) (bPD m c t)) (k0_pay41 (bKB m c t) (bPP m c t) (bDP m c t) (bPD m c t)) (bC m c t))
        (k0_pay69 (k0_pay40 (bKB m c t) (bPP m c t) (bDP m c t) (bPD m c t)) (k0_pay41 (bKB m c t) (bPP m c t) (bDP m c t) (bPD m c t)) (bS m c t))⟩ :: L

theorem cq_val : ∃ L, oCQ m c t = View.canon (cqL m c t L) := by
  by_cases h : t.val % 64 = 0
  · refine ⟨[⟨Rect.unit (s := S128x512) ![0, 0] ![128, 512] inb_S128x512_S128x512_0_0, k0_pay5 (F := Ideal)⟩], ?_⟩
    show (outsAt0 m c t.val t.isLt).2.2.2.2.2 = _
    rw [outsAt0_A m c t h]; frame_out; exact congrArg View.canon (congrArg₂ List.cons rfl (congrArg₂ List.cons rfl (congrArg₂ List.cons rfl (congrArg₂ List.cons rfl rfl))))
  · refine ⟨[], ?_⟩
    show (outsAt0 m c t.val t.isLt).2.2.2.2.2 = _
    rw [outsAt0_B m c t h]; frame_out; exact congrArg View.canon (congrArg₂ List.cons rfl (congrArg₂ List.cons rfl (congrArg₂ List.cons rfl (congrArg₂ List.cons rfl rfl))))

variable {m c} (G : Given m c)

include G in
theorem dk_at (k : Fin 256) (g : Fin 2) (d : Fin 64) : bDK m c t (ix2 k (ln g d)) = dk (DD m c) (bn t) k g d := (wts t G).dk G.real (blk t G) k g d
include G in
theorem dv_at (k : Fin 256) (g : Fin 2) (d : Fin 64) : bDV m c t (ix2 k (ln g d)) = dv (DD m c) (bn t) k g d := (wts t G).dv (blk t G) k g d
include G in
theorem dq_at (j : Fin 8) (r : Fin 128) (d : Fin 64) :
    k0_pay37 (F := Ideal) (bKB m c t) (bPP m c t) (bDP m c t) (bPD m c t) (ix2 (st j r) (ln (grp j) d)) = dq (DD m c) (bn t) j r d :=
  (wts t G).dq G.real (blk t G) j r d

include G in
theorem ck_at (r : Fin 128) (g : Fin 2) (d : Fin 64) : oCK m c t (ix2 r (ln g d)) = dk (DD m c) (bn t) ⟨128 + r.val, by omega⟩ g d :=
  ((congrFun (ck_val m c t) _).trans (pay65_at _ _ _)).trans (dk_at t G _ g d)
include G in
theorem cv_at (r : Fin 128) (g : Fin 2) (d : Fin 64) : oCV m c t (ix2 r (ln g d)) = dv (DD m c) (bn t) ⟨128 + r.val, by omega⟩ g d :=
  ((congrFun (cv_val m c t) _).trans (pay66_at _ _ _)).trans (dv_at t G _ g d)

/-- The rotated query row of a head, at a lane of its pair. -/
abbrev qrow (D : Data) (c s : Fin 8192 → Fin 32 → EReal) (n : Fin 64) (r : Fin 128) (j : Fin 8) (d : Fin 64) : EReal :=
  rotT (fun d => dq D n j r d * cScale) (c (rw8 n r)) (s (rw8 n r)) d

include G in
theorem q0_at (r l : Fin 128) : bQ0 m c t (ix2 r l) = qrow (DD m c) (cosT m c) (sinT m c) (bn t) r ⟨0 + l.val / 64, by omega⟩ (lo l) :=
  rope70 (tab t G) _ _ (fun g r d => dq (DD m c) (bn t) ⟨0 + g.val, by omega⟩ r d)
    (fun r d => (pay40_at _ _ _ _ r _).trans (dq_at t G 0 r d)) (fun r d => (pay41_at _ _ _ _ r _).trans (dq_at t G 1 r d)) r l
include G in
theorem q1_at (r l : Fin 128) : bQ1 m c t (ix2 r l) = qrow (DD m c) (cosT m c) (sinT m c) (bn t) r ⟨2 + l.val / 64, by omega⟩ (lo l) :=
  rope72 (tab t G) _ _ (fun g r d => dq (DD m c) (bn t) ⟨2 + g.val, by omega⟩ r d)
    (fun r d => (pay42_at _ _ _ _ r _).trans (dq_at t G 2 r d)) (fun r d => (pay43_at _ _ _ _ r _).trans (dq_at t G 3 r d)) r l
include G in
theorem q2_at (r l : Fin 128) : bQ2 m c t (ix2 r l) = qrow (DD m c) (cosT m c) (sinT m c) (bn t) r ⟨4 + l.val / 64, by omega⟩ (lo l) :=
  rope77 (tab t G) _ _ (fun g r d => dq (DD m c) (bn t) ⟨4 + g.val, by omega⟩ r d)
    (fun r d => (pay44_at _ _ _ _ r _).trans (dq_at t G 4 r d)) (fun r d => (pay45_at _ _ _ _ r _).trans (dq_at t G 5 r d)) r l
include G in
theorem q3_at (r l : Fin 128) : bQ3 m c t (ix2 r l) = qrow (DD m c) (cosT m c) (sinT m c) (bn t) r ⟨6 + l.val / 64, by omega⟩ (lo l) :=
  rope79 (tab t G) _ _ (fun g r d => dq (DD m c) (bn t) ⟨6 + g.val, by omega⟩ r d)
    (fun r d => (pay46_at _ _ _ _ r _).trans (dq_at t G 6 r d)) (fun r d => (pay47_at _ _ _ _ r _).trans (dq_at t G 7 r d)) r l

/-- A head's lane in the row of all heads. -/
theorem qrow_lane (D : Data) (c s : Fin 8192 → Fin 32 → EReal) (n : Fin 64) (r : Fin 128) (o x : Nat) (ho : o = 64 * x) (l : Nat) (k : Fin 128) (h : l = o + k.val) (hx : x + k.val / 64 < 8) :
    qrow D c s n r ⟨x + k.val / 64, hx⟩ (lo k) = qrow D c s n r ⟨l / 64, by omega⟩ ⟨l % 64, by omega⟩ :=
  congrArg₂ (qrow D c s n r) (Fin.ext (by show x + k.val / 64 = l / 64; omega)) (Fin.ext (by show k.val % 64 = l % 64; omega))

include G in
theorem cq_at (r : Fin 128) (l : Fin 512) : oCQ m c t (ix2 r l)
    = qrow (DD m c) (cosT m c) (sinT m c) (bn t) r ⟨l.val / 64, by omega⟩ ⟨l.val % 64, by omega⟩ := by
  obtain ⟨L, hL⟩ := cq_val m c t
  refine (congrFun hL _).trans ?_
  have hl := l.isLt
  refine (canon_cols 384 inb_S128x512_S128x128_0_384 _ _ r l).trans ?_
  split_ifs with h
  · exact (pay80_at _ _ _ _ _ _).trans ((q3_at t G r _).trans (qrow_lane _ _ _ _ r 384 6 rfl l.val _ (by simp only []; omega) _))
  refine (canon_cols 256 inb_S128x512_S128x128_0_256 _ _ r l).trans ?_
  split_ifs with h
  · exact (pay78_at _ _ _ _).trans ((q2_at t G r _).trans (qrow_lane _ _ _ _ r 256 4 rfl l.val _ (by simp only []; omega) _))
  refine (canon_cols 128 inb_S128x512_S128x128_0_128 _ _ r l).trans ?_
  split_ifs with h
  · exact (pay73_at _ _ _ _ _ _).trans ((q1_at t G r _).trans (qrow_lane _ _ _ _ r 128 2 rfl l.val _ (by simp only []; omega) _))
  refine (canon_cols 0 inb_S128x512_S128x128_0_0 _ _ r l).trans ?_
  rw [dif_pos (by omega)]
  exact (pay71_at _ _ _ _).trans ((q0_at t G r _).trans (qrow_lane _ _ _ _ r 0 0 rfl l.val _ (by simp only []; omega) _))

end

end Cert.AttnBwdIdeal.Val

end
-- ==== Proof.Attn.Results.lean ====
/- What the windowed attention's gradient kernel leaves in its result arrays. -/
module

public import proofs.«01_k».proof.Proof.Attn.Points

@[expose] public section

set_option pp.maxSteps 120
set_option maxRecDepth 16384

noncomputable section

open Idealize.ShloMosaic Idealize.ShloMosaic.TcCoe Idealize.SL.Sem
open Idealize.ShloMosaic.Pipeline (Dat)

namespace Cert.AttnBwdIdeal.Val

open Cert.AttnBwdIdeal Cert.AttnBwdIdeal.Gen Cert.RowPieces Cert.RealArith Cert.Attn

variable (m : (ℓ : Loc nD τ sig) → Buf (Elt Ideal) ℓ)

/-- The point before. -/
abbrev pt (t : Fin cfg0.N) : Fin cfg0.N := ⟨t.val - 1, Nat.lt_of_le_of_lt (Nat.sub_le _ _) t.isLt⟩

section
variable (c : Dev nD) (t : Fin cfg0.N)

/-! ## The rows of a block -/

theorem dqkv_val (h : ¬ t.val % 64 = 0) : oDQ m c t = View.canon
    [(⟨Rect.unit (s := S128x768) ![0, 640] ![128, 128] inb_S128x768_S128x128_0_640, k0_pay64 (F := Ideal) (bDV m c t) (oCV m c (pt t))⟩ : View.Piece (Elt Ideal) S128x768 .bf16),
      ⟨Rect.unit (s := S128x768) ![0, 512] ![128, 128] inb_S128x768_S128x128_0_512,
        k0_pay63 (F := Ideal) (k0_pay59 (bDK m c t) (oCK m c (pt t)) (iblk m c 10 t)) (k0_pay60 (bDK m c t) (oCK m c (pt t)) (iblk m c 11 t)) k0_pay61 k0_pay62⟩,
      ⟨Rect.unit (s := S128x768) ![0, 0] ![128, 512] inb_S128x768_S128x512_0_0, oCQ m c (pt t)⟩] := by
  show (outsAt0 m c t.val t.isLt).1 = _
  rw [outsAt0_B m c t h]; frame_out
  rw [(Memref.isWhole_whole cc0_scratch0).read_unread, (Memref.isWhole_whole cc0_scratch1).read_unread, (Memref.isWhole_whole cc0_scratch2).read_unread]
  exact congrArg View.canon (congrArg₂ List.cons rfl (congrArg₂ List.cons rfl (congrArg₂ List.cons rfl rfl)))

theorem last_val (h : ¬ t.val % 64 = 0) : oLA m c t = View.canon
    [(⟨Rect.unit (s := S128x768) ![0, 640] ![128, 128] inb_S128x768_S128x128_0_640, k0_pay2 (F := Ideal) (bDV m c t)⟩ : View.Piece (Elt Ideal) S128x768 .bf16),
      ⟨Rect.unit (s := S128x768) ![0, 512] ![128, 128] inb_S128x768_S128x128_0_512, k0_pay1 (F := Ideal) (bDK m c t) (bC m c t) (bS m c t)⟩,
      ⟨Rect.unit (s := S128x768) ![0, 384] ![128, 128] inb_S128x768_S128x128_0_384, bQ3 m c t⟩,
      ⟨Rect.unit (s := S128x768) ![0, 256] ![128, 128] inb_S128x768_S128x128_0_256, bQ2 m c t⟩,
      ⟨Rect.unit (s := S128x768) ![0, 128] ![128, 128] inb_S128x768_S128x128_0_128, bQ1 m c t⟩,
      ⟨Rect.unit (s := S128x768) ![0, 0] ![128, 128] inb_S128x768_S128x128_0_0, bQ0 m c t⟩] := by
  show (outsAt0 m c t.val t.isLt).2.1 = _
  rw [outsAt0_B m c t h]; frame_out
  exact congrArg View.canon (congrArg₂ List.cons rfl (congrArg₂ List.cons rfl (congrArg₂ List.cons rfl (congrArg₂ List.cons rfl
    (congrArg₂ List.cons rfl (congrArg₂ List.cons rfl rfl))))))

variable {m c} (G : Given m c)

/-- A lane of the keys' or the values' part, as a head and a place in it. -/
theorem lane_ln (o : Nat) (l : Fin 768) (h : o ≤ l.val ∧ l.val < o + 128) (ho : o % 64 = 0) :
    (⟨l.val - o, by omega⟩ : Fin 128) = ln ⟨l.val / 64 - o / 64, by omega⟩ ⟨l.val % 64, by omega⟩ :=
  Fin.ext (by show l.val - o = 64 * (l.val / 64 - o / 64) + l.val % 64; omega)

include G in
theorem dqkv_at (h : ¬ t.val % 64 = 0) (r : Fin 128) (l : Fin 768) :
    oDQ m c t (ix2 r l) = dqkv (DD m c) (cosT m c) (sinT m c) (bp t) r l := by
  refine (congrFun (dqkv_val m c t h) _).trans ?_
  have hl := l.isLt
  have ht := lt64 t
  have h0 : 0 < t.val := by omega
  have e : (⟨(bp t).val + 1, by show t.val - 1 + 1 < 64; omega⟩ : Fin 64) = bn t := Fin.ext (by show t.val - 1 + 1 = t.val; omega)
  have hb : ∀ (X : Fin 64 → Fin 256 → Fin 2 → Fin 64 → EReal) (r : Fin 128) g d,
      X (bn t) ⟨r.val, by omega⟩ g d + X (bp t) ⟨128 + r.val, by omega⟩ g d = both X (bp t) r g d := fun X r g d => by
    rw [both, dif_pos (by show t.val - 1 < 63; omega), e, add_comm]
  unfold dqkv
  refine (canon_cols 640 inb_S128x768_S128x128_0_640 _ _ r l).trans ?_
  by_cases h1 : 640 ≤ l.val ∧ l.val < 640 + 128
  · rw [dif_pos h1, dif_neg (by omega), dif_neg (by omega), lane_ln 640 l h1 rfl]
    refine (pay64_at _ _ r _).trans ?_
    exact (congrArg₂ (· + ·) (dv_at t G _ _ _) (cv_at (pt t) G r _ _)).trans (hb (dv (DD m c)) r _ _)
  rw [dif_neg h1]
  refine (canon_cols 512 inb_S128x768_S128x128_0_512 _ _ r l).trans ?_
  by_cases h2 : 512 ≤ l.val ∧ l.val < 512 + 128
  · rw [dif_pos h2, dif_neg (show ¬ l.val < 512 by omega), dif_pos (show l.val < 640 by omega)]
    refine (rope63 (tabp t G) (bDK m c t) (oCK m c (pt t)) (fun g r d => both (dk (DD m c)) (bp t) r g d) (fun r g d =>
      (congrArg₂ (· + ·) (dk_at t G _ g d) (ck_at (pt t) G r g d)).trans (hb (dk (DD m c)) r g d)) r _).trans ?_
    exact congrArg₂ (fun g d => rotT (both (dk (DD m c)) (bp t) r g) _ _ d) (Fin.ext (by show (l.val - 512) / 64 = l.val / 64 - 8; omega))
      (Fin.ext (by show (l.val - 512) % 64 = l.val % 64; omega))
  rw [dif_neg h2, dif_pos (show l.val < 512 by omega)]
  refine (canon_cols 0 inb_S128x768_S128x512_0_0 _ _ r l).trans ?_
  rw [dif_pos (by omega)]
  exact cq_at (pt t) G r _

include G in
theorem last_at (h : t.val = 63) (r : Fin 128) (l : Fin 768) :
    oLA m c t (ix2 r l) = dqkv (DD m c) (cosT m c) (sinT m c) (bn t) r l := by
  refine (congrFun (last_val m c t (by omega)) _).trans ?_
  have hl := l.isLt
  have hb : ∀ (X : Fin 64 → Fin 256 → Fin 2 → Fin 64 → EReal) (r : Fin 128) g d,
      X (bn t) ⟨128 + r.val, by omega⟩ g d = both X (bn t) r g d := fun X r g d => by
    rw [both, dif_neg (by show ¬ t.val < 63; omega), add_zero]
  unfold dqkv
  refine (canon_cols 640 inb_S128x768_S128x128_0_640 _ _ r l).trans ?_
  by_cases h1 : 640 ≤ l.val ∧ l.val < 640 + 128
  · rw [dif_pos h1, dif_neg (by omega), dif_neg (by omega), lane_ln 640 l h1 rfl]
    exact (pay2_at _ r _).trans ((dv_at t G _ _ _).trans (hb (dv (DD m c)) r _ _))
  rw [dif_neg h1]
  refine (canon_cols 512 inb_S128x768_S128x128_0_512 _ _ r l).trans ?_
  by_cases h2 : 512 ≤ l.val ∧ l.val < 512 + 128
  · rw [dif_pos h2, dif_neg (show ¬ l.val < 512 by omega), dif_pos (show l.val < 640 by omega)]
    refine (rope1 (tab t G) (bDK m c t) (fun g r d => both (dk (DD m c)) (bn t) r g d) (fun r g d =>
      (dk_at t G _ g d).trans (hb (dk (DD m c)) r g d)) r _).trans ?_
    exact congrArg₂ (fun g d => rotT (both (dk (DD m c)) (bn t) r g) _ _ d) (Fin.ext (by show (l.val - 512) / 64 = l.val / 64 - 8; omega))
      (Fin.ext (by show (l.val - 512) % 64 = l.val % 64; omega))
  rw [dif_neg h2, dif_pos (show l.val < 512 by omega)]
  refine (canon_cols 384 inb_S128x768_S128x128_0_384 _ _ r l).trans ?_
  split_ifs with h
  · exact (q3_at t G r _).trans (qrow_lane _ _ _ _ r 384 6 rfl l.val _ (by simp only []; omega) _)
  refine (canon_cols 256 inb_S128x768_S128x128_0_256 _ _ r l).trans ?_
  split_ifs with h
  · exact (q2_at t G r _).trans (qrow_lane _ _ _ _ r 256 4 rfl l.val _ (by simp only []; omega) _)
  refine (canon_cols 128 inb_S128x768_S128x128_0_128 _ _ r l).trans ?_
  split_ifs with h
  · exact (q1_at t G r _).trans (qrow_lane _ _ _ _ r 128 2 rfl l.val _ (by simp only []; omega) _)
  refine (canon_cols 0 inb_S128x768_S128x128_0_0 _ _ r l).trans ?_
  rw [dif_pos (by omega)]
  exact (q0_at t G r _).trans (qrow_lane _ _ _ _ r 0 0 rfl l.val _ (by simp only []; omega) _)

/-! ## The sinks -/

/-- What a point adds to the sinks' accumulator. -/
def addS (m : (ℓ : Loc nD τ sig) → Buf (Elt Ideal) ℓ) (c : Dev nD) (l : Fin 128) (t : Fin cfg0.N) : EReal := if h : l.val < 8 then dsk (DD m c) (bn t) ⟨l.val, h⟩ else 0

abbrev lds (m : (ℓ : Loc nD τ sig) → Buf (Elt Ideal) ℓ) (c : Dev nD) (t : Fin cfg0.N) (j : Nat) (inb : ∀ a, (![j] : Fin 1 → Nat) a + (![1] : Fin 1 → Nat) a ≤ S8.size a) : EReal :=
  View.ld (iblk m c 0 t : FVec Ideal S8 .f32) (Rect.unit (s := S8) ![j] ![1] inb) (Shape.Idx.first (show 0 < (⟨1, ![1]⟩ : Shape).numel by decide))

theorem lds_at (j : Nat) (hj : j < 8) (inb : ∀ a, (![j] : Fin 1 → Nat) a + (![1] : Fin 1 → Nat) a ≤ S8.size a) : lds m c t j inb = (DD m c).s ⟨j, hj⟩ := by
  refine Eq.trans (congrArg (iblk m c 0 t : FVec Ideal S8 .f32) ?_) (blk0 m c t ⟨j, hj⟩)
  funext a; apply Fin.ext
  fin_cases a
  show j + 1 * _ = j
  rfl

include G in
theorem neg_sum (j : Fin 8) : 0 - skA (k0_pay31 (F := Ideal) (bLS m c t)) (k0_pay35 (F := Ideal) (bPD m c t)) ((DD m c).s j) j = dsk (DD m c) (bn t) j := by
  have hr : ∀ r, IsR (Ideal.exp ((DD m c).s j - lseAt (DD m c) (bn t) j r) * deltaAt (DD m c) (bn t) j r) := fun r => by
    have h1 := (G.real.s j).sub (lse_real (sc_real G.real (bn t) j r) (G.real.s j) (mx_real G.real (bn t) j r) (seen := seenAt (bn t) r))
    have h2 : IsR (Ideal.exp ((DD m c).s j - lseAt (DD m c) (bn t) j r)) := by
      obtain ⟨x, hx⟩ := h1
      exact ⟨Real.exp x, by rw [lseAt, hx]; rfl⟩
    exact h2.mul (delta_real (sc_real G.real (bn t) j r) (G.real.s j) (mx_real G.real (bn t) j r) (dpr_real G.real (bn t) j r))
  have e : skA (k0_pay31 (F := Ideal) (bLS m c t)) (k0_pay35 (F := Ideal) (bPD m c t)) ((DD m c).s j) j
      = ∑ r, Ideal.exp ((DD m c).s j - lseAt (DD m c) (bn t) j r) * deltaAt (DD m c) (bn t) j r :=
    Finset.sum_congr rfl fun r _ => by
      rw [lse_at, (wts t G).delta G.real (blk t G)]
      exact congrArg (fun x => Ideal.exp ((DD m c).s j - x) * _) ((blk t G).L j r)
  rw [e, dsk]
  choose f hf using hr
  simp only [hf, ← EReal.coe_neg, coe_sum]
  rw [← EReal.coe_zero, ← EReal.coe_sub, zero_sub, Finset.sum_neg_distrib]

include G in
theorem sink_at (prev : FVec Ideal S8x128 .f32) (i : Fin 8) (l : Fin 128) :
    k0_pay55 (F := Ideal) (iota Kind.tc S8x128 32 [1] iota_S8x128_d1_w32) (k0_pay35 (bPD m c t))
      (k0_pay52 (iota Kind.tc S8x128 32 [1] iota_S8x128_d1_w32) (k0_pay31 (bLS m c t)) (k0_pay35 (bPD m c t))
        (k0_pay51 (iota Kind.tc S8x128 32 [1] iota_S8x128_d1_w32) (k0_pay31 (bLS m c t)) (k0_pay35 (bPD m c t)) k0_pay48 (k0_pay49 (iota Kind.tc S8x128 32 [1] iota_S8x128_d1_w32))
          (k0_pay50 (k0_pay31 (bLS m c t)) (bPD m c t) (lds m c t 0 inb_S8_S1_0)) (lds m c t 1 inb_S8_S1_1) (lds m c t 2 inb_S8_S1_2) (lds m c t 3 inb_S8_S1_3))
        (lds m c t 4 inb_S8_S1_4) (lds m c t 5 inb_S8_S1_5) (lds m c t 6 inb_S8_S1_6)) (k0_pay53 (k0_pay31 (bLS m c t))) (k0_pay54 (lds m c t 7 inb_S8_S1_7)) prev (ix2 i l)
      = prev (ix2 i l) + addS m c l t := by
  rw [lds_at t 0 (by omega), lds_at t 1 (by omega), lds_at t 2 (by omega), lds_at t 3 (by omega), lds_at t 4 (by omega), lds_at t 5 (by omega),
    lds_at t 6 (by omega), lds_at t 7 (by omega)]
  refine (sink_step (k0_pay31 (bLS m c t)) (bPD m c t) prev (DD m c).s i l).trans ?_
  refine congrArg (prev (ix2 i l) + ·) ?_
  unfold addS
  split_ifs with h
  · exact neg_sum t G ⟨l.val, h⟩
  · rfl

theorem pay6_at (i : Fin 8) (l : Fin 128) : k0_pay6 (F := Ideal) (ix2 i l) = 0 := by pointwise [k0_pay6]

include G in
theorem sk_A (h : t.val % 64 = 0) (i : Fin 8) (l : Fin 128) : oSK m c t (ix2 i l) = 0 + addS m c l t := by
  show (outsAt0 m c t.val t.isLt).2.2.1 (ix2 i l) = _
  rw [outsAt0_A m c t h]; frame_out
  refine (sink_at t G _ i l).trans (congrArg (· + addS m c l t) ?_)
  exact pay6_at i l

include G in
theorem sk_B (h : ¬ t.val % 64 = 0) (i : Fin 8) (l : Fin 128) : oSK m c t (ix2 i l) = oSK m c (pt t) (ix2 i l) + addS m c l t := by
  show (outsAt0 m c t.val t.isLt).2.2.1 (ix2 i l) = _
  rw [outsAt0_B m c t h]; frame_out
  exact sink_at t G _ i l

end

/-! ## The arrays at the end -/

section
variable {m} {c : Dev nD} (G : Given m c)

/-- The last point. -/
abbrev tEnd : Fin cfg0.N := ⟨63, by rw [show cfg0.N = 64 from N_0]; omega⟩

theorem flush12 : ∀ t : Fin cfg0.N, win0_12.flush t = true → ¬ t.val % 64 = 0 :=
  (by decide +kernel : ∀ t : Fin grid0.N, _)

theorem emb12 (t : Fin cfg0.N) (y : S128x768.Idx) : (win0_12.blk t).view.emb y = ix2 (rw8 (bp t) (y 0)) (y 1) := by
  refine ix2_of ?_ ?_
  · show win0_12.index t 0 * 128 + 1 * (y 0).val = 128 * (t.val - 1) + (y 0).val
    simp [idx t, Nat.mul_comm]
  · show win0_12.index t 1 * 768 + 1 * (y 1).val = (y 1).val
    simp [idx t]

/-- The rows written back before the last point. -/
theorem rows12 (W : FVec Ideal S8192x768 .bf16) (hW : ∀ t : Fin cfg0.N, ¬ t.val % 64 = 0 → ∀ y : S128x768.Idx, oDQ m c t y = W (ix2 (rw8 (bp t) (y 0)) (y 1)))
    (q : S8192x768.Idx) (hq : (q 0).val / 128 < 63) : ((dats m 0 c).arrAt 12 cfg0.N : FVec Ideal S8192x768 .bf16) q = W q := by
  refine ((dats m 0 c).arrAt_apply_of_coversWhere 12 W (P := fun q => (q 0).val / 128 < 63) (fun β => β (0 : Fin _) < 63) (by decide +kernel) (fun t hf y => ?_) (fun j => Iff.rfl) q).trans (if_pos hq)
  blk_simp
  exact ((congrFun (after0_12 m c t) y).trans (hW t (flush12 t hf) y)).trans (congrArg W (emb12 t y).symm)

theorem rows13 (W : FVec Ideal S128x768 .bf16) (hW : ∀ q, (dats m 0 c).after 13 tEnd q = W q) : ((dats m 0 c).arrAt 13 cfg0.N : FVec Ideal S128x768 .bf16) = W := by
  refine (dats m 0 c).arrAt_eq_of_after_last 13 tEnd (by decide +kernel) _ fun q => ?_
  blk_simp
  exact hW q

/-- The gradient of the projected rows, as an array. -/
def ROWS (m : (ℓ : Loc nD τ sig) → Buf (Elt Ideal) ℓ) (c : Dev nD) : FVec Ideal S8192x768 .bf16 :=
  fun q => dqkv (DD m c) (cosT m c) (sinT m c) ⟨(q 0).val / 128, by have : (q 0).val < 8192 := (q 0).isLt; omega⟩ ⟨(q 0).val % 128, by omega⟩ (q 1)

theorem rows_rw8 (n : Fin 64) (r : Fin 128) (l : Fin 768) : ROWS m c (ix2 (rw8 n r) l) = dqkv (DD m c) (cosT m c) (sinT m c) n r l := by
  have hr := r.isLt
  exact congrArg₂ (fun n r => dqkv (DD m c) (cosT m c) (sinT m c) n r l) (Fin.ext (by show (128 * n.val + r.val) / 128 = n.val; omega))
    (Fin.ext (by show (128 * n.val + r.val) % 128 = r.val; omega))

include G in
theorem final12 (q : S8192x768.Idx) (hq : (q 0).val / 128 < 63) : ((dats m 0 c).arrAt 12 cfg0.N : FVec Ideal S8192x768 .bf16) q = ROWS m c q :=
  rows12 (ROWS m c) (fun t h y => (congrArg (oDQ m c t) (ix2_eta y).symm).trans ((dqkv_at t G h (y 0) (y 1)).trans (rows_rw8 _ _ _).symm)) q hq

include G in
theorem after13 (t : Fin cfg0.N) (h : t.val = 63) (q : S128x768.Idx) :
    ((dats m 0 c).after 13 t : FVec Ideal S128x768 .bf16) q = ROWS m c (ix2 (rw8 (bn t) (q 0)) (q 1)) :=
  ((congrFun (after0_13 m c t) q).trans (congrArg (oLA m c t) (ix2_eta q).symm)).trans ((last_at t G h (q 0) (q 1)).trans (rows_rw8 _ _ _).symm)

include G in
theorem final13 : ((dats m 0 c).arrAt 13 cfg0.N : FVec Ideal S128x768 .bf16) = fun q => ROWS m c (ix2 (rw8 (bn tEnd) (q 0)) (q 1)) :=
  rows13 _ fun q => after13 G tEnd rfl q

include G in
theorem final14 : ((dats m 0 c).arrAt 14 cfg0.N : FVec Ideal S8x128 .f32) = fun q => ∑ n, if h : (q 1).val < 8 then dsk (DD m c) n ⟨(q 1).val, h⟩ else 0 := by
  refine (dats m 0 c).arrAt_eq_of_after_last 14 tEnd (by decide +kernel) _ fun q => ?_
  blk_simp
  rw [after0_14]
  have key := Pipeline.eq_sum_fin_of_reset_step_apply_last (fun n h => (outsAt0 m c n h).2.2.1) 64 (fun _ => 0)
    (fun t q => addS m c (q 1) t)
    (fun t h q => by rw [show q = ix2 (q 0) (q 1) from (ix2_eta q).symm]; exact sk_A t G h _ _)
    (fun t h q => by rw [show q = ix2 (q 0) (q 1) from (ix2_eta q).symm]; exact sk_B t G h _ _) (le_of_eq N_0) tEnd rfl
  refine (key q).trans ?_
  rw [zero_add]
  exact Fintype.sum_equiv (finCongr N_0) _ _ fun t => rfl

end

end Cert.AttnBwdIdeal.Val

end
-- ==== Proof.Attn.Run.lean ====
/- The windowed attention's gradient program run whole: what its results hold. -/
module

public import proofs.«01_k».proof.Proof.Attn.Results
public import Idealize.ShloMosaic.Lib.StableHlo.ReadAt

@[expose] public section

set_option pp.maxSteps 120
set_option maxRecDepth 16384

noncomputable section

open Idealize.ShloMosaic Idealize.ShloMosaic.TcCoe Idealize.SL.Sem
open Idealize.ShloMosaic.Pipeline (Dat)

namespace Cert.AttnBwdIdeal.Val

open Cert.AttnBwdIdeal Cert.AttnBwdIdeal.Gen Cert.RowPieces Cert.RealArith Cert.Attn

variable (m : (ℓ : Loc nD τ sig) → Buf (Elt Ideal) ℓ)

/-- The rows with the last block's put in place. -/
abbrev joined (A : FVec Ideal S8192x768 .bf16) (B : FVec Ideal S128x768 .bf16) : FVec Ideal S8192x768 .bf16 :=
  updateSlice A B ![8064, 0] (by decide)

theorem joined_eq (A W : FVec Ideal S8192x768 .bf16) (B : FVec Ideal S128x768 .bf16) (hA : ∀ q : S8192x768.Idx, (q 0).val / 128 < 63 → A q = W q)
    (hB : ∀ q : S128x768.Idx, B q = W (ix2 ⟨8064 + (q 0).val, by have : (q 0).val < 128 := (q 0).isLt; omega⟩ (q 1))) : joined A B = W := by
  funext q
  have h0 : (q 0).val < 8192 := (q 0).isLt
  have h1 : (q 1).val < 768 := (q 1).isLt
  unfold joined updateSlice
  split
  · next h =>
    refine (hB _).trans (congrArg W (ix2_of ?_ ?_).symm)
    · have := (h 0).1
      show (q 0).val = 8064 + ((q 0).val - 8064)
      have : 8064 ≤ (q 0).val := this
      omega
    · show (q 1).val = (q 1).val - 0
      rfl
  · next h =>
    refine hA q ?_
    by_contra hn
    refine h fun a => ?_
    fin_cases a
    · show 8064 ≤ (q 0).val ∧ (q 0).val < 8064 + 128
      omega
    · show 0 ≤ (q 1).val ∧ (q 1).val < 0 + 768
      omega

theorem tail_eq (c : Dev nD) (Wv : Valuation τ sig (Elt Ideal)) :
    StableHlo.after (hostOps1 (F := Ideal)) Wv (Proc.devRef .tc main_v163)
      = joined (Wv (Proc.devRef .tc main_v162_0)) (Wv (Proc.devRef .tc main_v162_1)) := by
  after_reads_simp
  refine Host.dynamicUpdateSlice_eq_updateSlice (s := S8192x768) (u := S128x768) _ _ _ _ ![8064, 0] (fun a => ?_) (by decide)
  fin_cases a
  · show (min (max (BitVec.toInt ((StableHlo.upto hostOps1 Wv 2 (Proc.devRef .tc main_c_18) : S_.Idx → BitVec 32) (Shape.Idx.first h_S_))) 0) (((8192 - 128 : ℕ) : ℤ))).toNat = 8064
    after_reads_simp
    decide
  · show (min (max (BitVec.toInt ((StableHlo.upto hostOps1 Wv 2 (Proc.devRef .tc main_c_19) : S_.Idx → BitVec 32) (Shape.Idx.first h_S_))) 0) (((768 - 768 : ℕ) : ℤ))).toNat = 0
    after_reads_simp
    decide

theorem rows_res (c : Dev nD) : Pipeline.afterTail₀ cfgs (dats m) 0 (V0 m) [hostOps1] c main_v163
    = joined ((dats m 0 c).arrAt 12 cfg0.N) ((dats m 0 c).arrAt 13 cfg0.N) := by
  refine (tail_eq c _).trans ?_
  exact congrArg₂ joined ((dats m 0 c).withArrays_arrAt sharedIn0 (V0 m c) (A_eq m c) 12) ((dats m 0 c).withArrays_arrAt sharedIn0 (V0 m c) (A_eq m c) 13)

theorem run_results (ρ : Dev nD → PrngReg) (G : ∀ c, Given m c) : θ_run defs (onTc (τ := τ) (main (F := Ideal))) ⟨m, fun _ => 0, ρ⟩ (fun r => ∀ c : Dev nD,
      r.2.mem ((c.tc : Thread nD τ).loc main_v163) = ROWS m c
      ∧ r.2.mem ((c.tc : Thread nD τ).loc main_v162_2) = (fun q => ∑ n, if h : (q 1).val < 8 then dsk (DD m c) n ⟨(q 1).val, h⟩ else 0 : FVec Ideal S8x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, ?_, h.1 c⟩) (θ_run_and (unchanged m ρ) (run_main m ρ))
  · refine (Pipeline.FramePost.rest_eq h.2 c main_v163 (by decide)).trans ((rows_res m c).trans ?_)
    refine joined_eq _ _ _ (final12 (G c)) fun q => ?_
    rw [final13 (G c)]
    exact congrArg (ROWS m c) (ix2_of rfl rfl)
  · exact (Pipeline.FramePost.out_eq h.2 c 14).trans (final14 (G c))

end Cert.AttnBwdIdeal.Val

end
-- ==== Proof.Attn.Agree.lean ====
/- The windowed attention's gradient: the region is given what the reference computes, and its two results are the reference's. -/
module

public import proofs.«01_k».proof.Proof.Attn.HostLse
public import proofs.«01_k».proof.Proof.Attn.HostTables
public import proofs.«01_k».proof.Proof.Attn.Run

@[expose] public section

set_option maxRecDepth 16384

noncomputable section

open Idealize.ShloMosaic Idealize.ShloMosaic.TcCoe Idealize.SL.Sem

namespace Cert.AttnRefIdeal.Val

open Cert.AttnRefIdeal Cert.AttnRefIdeal.Read Cert.RealArith Cert.Attn

variable (x0 : FVec Ideal S8192x768 .f32) (x1 : IVec S8192 32) (x2 : FVec Ideal S8 .f32) (x3 : FVec Ideal S8192x512 .f32)

/-! ## The rotation's tables and the rotated rows are real -/

theorem word_real (z : BitVec 32) (h : ∃ r : ℝ, Ideal.ofBits .f32 z = (r : EReal)) : IsR (Ideal.ofBits .f32 z) := h

theorem c_neg_two : Ideal.ofBits .f32 0xC0000000#32 = ((-2 : ℝ) : EReal) := by
  simp [Ideal.ofBits, Ideal.ieee]; norm_num; rw [← EReal.coe_mul]; norm_num
theorem c_64 : Ideal.ofBits .f32 0x42800000#32 = ((64 : ℝ) : EReal) := by
  simp [Ideal.ofBits, Ideal.ieee]; norm_num; rw [← EReal.coe_mul]; norm_num
theorem c_10000 : Ideal.ofBits .f32 0x461C4000#32 = ((10000 : ℝ) : EReal) := by
  simp [Ideal.ofBits, Ideal.ieee]; norm_num; rw [← EReal.coe_mul]; norm_num
theorem c_eighth : Ideal.ofBits .f32 0x3E000000#32 = ((1 / 8 : ℝ) : EReal) := by
  simp [Ideal.ofBits, Ideal.ieee]; norm_num; rw [← EReal.coe_mul]; norm_num

theorem freq_real (e : Fin 32) : IsR (val_main_v8 (F := Ideal) (ix1 e)) := by
  have h : val_main_v8 (F := Ideal) (ix1 e) = Ideal.pow (Ideal.ofBits .f32 0x461C4000#32)
      (Ideal.div (Ideal.ofBits .f32 0xC0000000#32 * (((BitVec.ofNat 32 e.val).toInt : ℝ) : EReal)) (Ideal.ofBits .f32 0x42800000#32)) := rfl
  rw [h, c_10000, c_neg_two, c_64, ← EReal.coe_mul, div_real (by norm_num)]
  exact ⟨_, rfl⟩

theorem angle_real (i : Fin 8192) (e : Fin 32) : IsR (val_main_v14 (F := Ideal) x1 (ix2 i e)) := by
  have h1 : val_main_v12 (F := Ideal) x1 (ix2 i e) = (((x1 (ix1 i)).toInt : ℝ) : EReal) := by
    pointwise [val_main_v12, val_main_v10, val_main_v9]
    rfl
  have h2 : val_main_v13 (F := Ideal) (ix2 i e) = val_main_v8 (F := Ideal) (ix1 e) := by
    unfold val_main_v13 val_main_v11
    generalize val_main_v8 (F := Ideal) = u
    pointwise []
  rw [val_main_v14_apply, h1, h2]
  exact IsR.mul ⟨_, rfl⟩ (freq_real e)

theorem rC_real (i : Fin 8192) (e : Fin 32) : IsR (rC x1 i e) := by
  obtain ⟨r, h⟩ := angle_real x1 i e
  refine ⟨Real.cos r, ?_⟩
  rw [rC, val_main_v15_apply, h]
  rfl
theorem rS_real (i : Fin 8192) (e : Fin 32) : IsR (rS x1 i e) := by
  obtain ⟨r, h⟩ := angle_real x1 i e
  refine ⟨Real.sin r, ?_⟩
  rw [rS, val_main_v17_apply, h]
  rfl

theorem dite_real {p : Prop} [Decidable p] {A : p → EReal} {B : ¬p → EReal} (hA : ∀ h, IsR (A h)) (hB : ∀ h, IsR (B h)) : IsR (dite p A B) := by
  split_ifs with h
  · exact hA h
  · exact hB h

variable (h0 : ∀ q, IsR (x0 q))
include h0

theorem v1_real (q : S8192x8x64.Idx) : IsR (val_main_v1 (F := Ideal) x0 q) := by
  rw [val_main_v1_apply, val_main_v0_apply]
  exact h0 _
theorem v33_real (q : S8192x2x64.Idx) : IsR (val_main_v33 (F := Ideal) x0 q) := by
  rw [val_main_v33_apply, val_main_v32_apply]
  exact h0 _

theorem v31_real (i : Fin 8192) (j : Fin 8) (d : Fin 64) : IsR (val_main_v31 (F := Ideal) x0 x1 (ix3 i j d)) := by
  have hv := v1_real x0 h0
  have hc := rC_real x1 i
  have hs := rS_real x1 i
  unfold val_main_v31 val_main_v25 val_main_v30 val_main_v22 val_main_v24 val_main_v27 val_main_v29 val_main_v19 val_main_v20
  generalize val_main_v1 (F := Ideal) x0 = u at hv ⊢
  pointwise [val_main_v21, val_main_v23, val_main_v26, val_main_v28, v16_at, v18_at]
  exact dite_real (fun _ => ((hv _).mul (hc _)).sub ((hv _).mul (hs _))) (fun _ => ((hv _).mul (hc _)).add ((hv _).mul (hs _)))
theorem v63_real (i : Fin 8192) (g : Fin 2) (d : Fin 64) : IsR (val_main_v63 (F := Ideal) x0 x1 (ix3 i g d)) := by
  have hv := v33_real x0 h0
  have hc := rC_real x1 i
  have hs := rS_real x1 i
  unfold val_main_v63 val_main_v57 val_main_v62 val_main_v54 val_main_v56 val_main_v59 val_main_v61 val_main_v51 val_main_v52
  generalize val_main_v33 (F := Ideal) x0 = u at hv ⊢
  pointwise [val_main_v53, val_main_v55, val_main_v58, val_main_v60, v48_eq, v50_eq, v16_at, v18_at]
  exact dite_real (fun _ => ((hv _).mul (hc _)).sub ((hv _).mul (hs _))) (fun _ => ((hv _).mul (hc _)).add ((hv _).mul (hs _)))

theorem data_real (h2 : ∀ q, IsR (x2 q)) (h3 : ∀ q, IsR (x3 q)) : RR x0 x1 x2 x3 where
  q i j d := (v31_real x0 x1 h0 i j d).mul ⟨_, c_eighth⟩
  k i g d := v63_real x0 x1 h0 i g d
  v i g d := h0 _
  g i j d := h3 _
  s j := h2 _

end Cert.AttnRefIdeal.Val

namespace Cert.AttnBwdIdeal.Val

open Cert.AttnBwdIdeal Cert.AttnBwdIdeal.Gen Cert.RowPieces Cert.RealArith Cert.Attn Cert.AttnRefIdeal.Read Cert.AttnRefIdeal.Val

variable (m : (ℓ : Loc nD τ Cert.AttnBwdIdeal.sig) → Buf (Elt Ideal) ℓ) (c : Dev nD)

/-! ## What the region is given -/

theorem data_eq {a b : Data} (hq : ∀ i j d, a.q i j d = b.q i j d) (hk : ∀ i j d, a.k i j d = b.k i j d) (hv : ∀ i j d, a.v i j d = b.v i j d)
    (hg : ∀ i j d, a.g i j d = b.g i j d) (hs : ∀ j, a.s j = b.s j) : a = b := by
  obtain ⟨q, k, v, g, s⟩ := a
  obtain ⟨q', k', v', g', s'⟩ := b
  obtain rfl : q = q' := funext fun i => funext fun j => funext fun d => hq i j d
  obtain rfl : k = k' := funext fun i => funext fun j => funext fun d => hk i j d
  obtain rfl : v = v' := funext fun i => funext fun j => funext fun d => hv i j d
  obtain rfl : g = g' := funext fun i => funext fun j => funext fun d => hg i j d
  obtain rfl : s = s' := funext fun j => hs j
  rfl

theorem v_lane (i : Fin 8192) (g : Fin 2) (d : Fin 64) : VV m c (ix2 i ⟨64 * g.val + d.val, by omega⟩) = A0 m c (ix2 i ⟨640 + 64 * g.val + d.val, by omega⟩) := by
  rw [v_host]
  exact congrArg (fun l => A0 m c (ix2 i l)) (Fin.ext (Nat.add_assoc 640 (64 * g.val) d.val).symm)

theorem dd_q (i : Fin 8192) (j : Fin 8) (d : Fin 64) : (DD m c).q i j d = (DR m c).q i j d := q_host m c i j d
theorem dd_k (i : Fin 8192) (g : Fin 2) (d : Fin 64) : (DD m c).k i g d = (DR m c).k i g d := k_host m c i g d
theorem dd_v (i : Fin 8192) (g : Fin 2) (d : Fin 64) : (DD m c).v i g d = (DR m c).v i g d := v_lane m c i g d
theorem dd_g (i : Fin 8192) (j : Fin 8) (d : Fin 64) : (DD m c).g i j d = (DR m c).g i j d := g_host m c i ⟨64 * j.val + d.val, by omega⟩
theorem dd_s (j : Fin 8) : (DD m c).s j = (DR m c).s j := s_host m c j
theorem DD_eq : DD m c = DR m c := data_eq (dd_q m c) (dd_k m c) (dd_v m c) (dd_g m c) (dd_s m c)

theorem co_at (i : Fin 8192) (l : Fin 128) : CO m c (ix2 i l) = rC (A1 m c) i (l32 l) := by
  rw [e16, tiled, H13, h13]
theorem si_at (i : Fin 8192) (l : Fin 128) : SI m c (ix2 i l) = rS (A1 m c) i (l32 l) * if l.val % 64 < 32 then ((-1 : ℝ) : EReal) else ((1 : ℝ) : EReal) := by
  rw [e30, h29, e27, tiled, h24]
theorem cos_eq : cosT m c = rC (A1 m c) := by
  funext i e
  exact (co_at m c i _).trans (congrArg (rC (A1 m c) i) (Fin.ext (Nat.mod_eq_of_lt e.isLt)))
theorem sin_eq : sinT m c = rS (A1 m c) := by
  funext i e
  refine (si_at m c i _).trans ?_
  rw [if_neg (show ¬ (32 + e.val) % 64 < 32 by omega), EReal.coe_one, mul_one]
  exact congrArg (rS (A1 m c) i) (Fin.ext (show (32 + e.val) % 32 = e.val by omega))

theorem dqkv_same (n : Fin 64) (r : Fin 128) (l : Fin 768) :
    dqkv (DD m c) (cosT m c) (sinT m c) n r l = dqkv (DR m c) (rC (A1 m c)) (rS (A1 m c)) n r l := by
  rw [DD_eq, cos_eq, sin_eq]

variable (H : RR (A0 m c) (A1 m c) (A2 m c) (A3 m c))
include H

theorem given : Given m c where
  real := by rw [DD_eq]; exact H
  lse n j r := by rw [DD_eq]; exact lse_host m c n j r
  cos i l := by rw [cos_eq, co_at]
  sin i l := by
    rw [sin_eq, si_at]
    split_ifs
    · rw [EReal.coe_neg, EReal.coe_one, mul_neg, mul_one]
    · rw [EReal.coe_one, mul_one]

theorem rows_ref (i : Fin 8192) (l : Fin 768) : ROWS m c (ix2 i l) = val_main_v260 (F := Ideal) (A0 m c) (A1 m c) (A2 m c) (A3 m c) (ix2 i l) := by
  obtain ⟨n, r, rfl⟩ : ∃ (n : Fin 64) (r : Fin 128), i = rw8 n r :=
    ⟨⟨i.val / 128, by omega⟩, ⟨i.val % 128, by omega⟩, Fin.ext (show i.val = 128 * (i.val / 128) + i.val % 128 by omega)⟩
  exact (rows_rw8 n r l).trans ((dqkv_same m c n r l).trans (v260_at H n r l).symm)

theorem sinks_ref (i : Fin 8) (l : Fin 128) : (∑ n, if h : l.val < 8 then dsk (DD m c) n ⟨l.val, h⟩ else 0)
    = val_main_v263 (F := Ideal) (A0 m c) (A1 m c) (A2 m c) (A3 m c) (ix2 i l) := by
  rw [DD_eq]
  exact (v263_at H i l).symm

end Cert.AttnBwdIdeal.Val

end
-- ==== Proof.Attn.Claim.lean ====
/- The windowed attention's gradient: the two programs agree. -/
module

public import proofs.«01_k».proof.Defs
public import proofs.«01_k».proof.Proof.Gen.AttnRefIdeal.Run
public import proofs.«01_k».proof.Proof.Gen.Pre_finite_attn
public import proofs.«01_k».proof.Proof.Finite
public import proofs.«01_k».proof.Proof.Attn.Agree

@[expose] public section

set_option maxRecDepth 16384

noncomputable section

namespace Cert.Proof.Attn

open Idealize.ShloMosaic Idealize.SL.Sem

section
open Cert.AttnRefIdeal Cert.AttnRefIdeal.Read

variable (m : (ℓ : Loc Cert.AttnRefIdeal.nD Cert.AttnRefIdeal.τ Cert.AttnRefIdeal.sig) → Buf (Elt Ideal) ℓ)

/-- The reference leaves its results' stages. -/
theorem ref_run (ρ : Dev Cert.AttnRefIdeal.nD → PrngReg) :
    θ_run (Cert.AttnRefIdeal.defs (F := Ideal)) (onTc (τ := Cert.AttnRefIdeal.τ) (Cert.AttnRefIdeal.main (F := Ideal))) ⟨m, fun _ => 0, ρ⟩ fun r => ∀ c : Dev Cert.AttnRefIdeal.nD,
      r.2.mem ((c.tc : Thread nD τ).loc main_v260) = val_main_v260 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v263) = val_main_v263 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => by
    obtain ⟨r0, r1, ha⟩ := h c
    exact ⟨r0.trans (val_main_v260_eq _), r1.trans (val_main_v263_eq _), ha⟩)
    (Cert.AttnRefIdeal.Value.run m ρ)

end

theorem frame_reference : Cert.quiescent_AttnRefIdeal := fun m ρ _ =>
  (θ_run Cert.AttnRefIdeal.defs _ _).mono (fun r h => ⟨fun c => (h c).2.2, sem_eq_zero_of_no_sems (by decide) r.2⟩)
    (Cert.AttnRefIdeal.Value.run (F := Ideal) m ρ)

/-- The mask's word is read as minus infinity. -/
theorem preserves : Cert.preserves_AttnBwd_AttnBwdIdeal :=
  IdealRules.named_const.statement Cert.AttnBwdIdeal.κ "mask" .f32 0xF149F2CA#32 ⊥ rfl

section
open Cert.AttnBwdIdeal Cert.AttnBwdIdeal.Val Cert.AttnBwdIdeal.Gen

variable (m : (ℓ : Loc Cert.AttnBwdIdeal.nD Cert.AttnBwdIdeal.τ Cert.AttnBwdIdeal.sig) → Buf (Elt Ideal) ℓ)

/-- Under the precondition the arguments are real. -/
theorem reals (hpre : Cert.Pre_AttnBwdIdeal_finite_attn m) (c : Dev Cert.AttnBwdIdeal.nD) :
    Cert.AttnRefIdeal.Val.RR (A0 m c) (A1 m c) (A2 m c) (A3 m c) := by
  obtain ⟨h0, h1, h2⟩ := hpre c
  exact Cert.AttnRefIdeal.Val.data_real _ _ _ _ (fun q => ⟨_, (Cert.Finite.exists_reals _ _ h0).choose_spec q⟩)
    (fun q => ⟨_, (Cert.Finite.exists_reals _ _ h1).choose_spec q⟩) (fun q => ⟨_, (Cert.Finite.exists_reals _ _ h2).choose_spec q⟩)

theorem algebraic : Cert.algebraic_AttnBwdIdeal_AttnRefIdeal_pre_finite_attn := by
  pair_intro
  · run_from run_results m g (fun c => given m c (reals m hpre c))
  · run_from ref_run m' g'
    · funext q
      exact (congrArg _ (ix2_eta q).symm).trans ((rows_ref m c (reals m hpre c) (q 0) (q 1)).symm.trans (congrArg _ (ix2_eta q)))
    · funext q
      exact (congrArg _ (ix2_eta q).symm).trans (sinks_ref m c (reals m hpre c) (q 0) (q 1)).symm

end

end Cert.Proof.Attn

end
-- ==== Proof.Mixed.Value.lean ====
/- What the mixing layer's forward kernel leaves, as functions of the arguments. -/
module

public import proofs.«01_k».proof.Proof.Gen.MixedFwdIdeal.Value
public import Idealize.ShloMosaic.Lib.Pipeline.ValueKit
public import Idealize.ShloMosaic.Lib.Claim
public import Idealize.ShloMosaic.Lib.StableHlo.ReadAt
public import proofs.«01_k».proof.Proof.RealArith
public import proofs.«01_k».proof.Proof.RowPieces

@[expose] public section

set_option maxRecDepth 16384

noncomputable section

open Idealize.ShloMosaic Idealize.ShloMosaic.TcCoe Idealize.SL.Sem
open Idealize.ShloMosaic.Pipeline (Dat)

namespace Cert.MixedFwdIdeal.Val

open Cert.MixedFwdIdeal Cert.MixedFwdIdeal.Gen Cert.RowPieces Cert.RealArith

variable (m : (ℓ : Loc nD τ sig) → Buf (Elt Ideal) ℓ)

/-- The arguments, typed: the rows, the heads of both branches, the gates, the modulation, the gains and the weights. -/
abbrev X (c : Dev nD) : FVec Ideal S8192x1024 .f32 := m ((c : Thread nD τ).loc main_arg0)
abbrev HdA (c : Dev nD) : FVec Ideal S8192x512 .f32 := m ((c : Thread nD τ).loc main_arg1)
abbrev HdM (c : Dev nD) : FVec Ideal S8192x512 .f32 := m ((c : Thread nD τ).loc main_arg2)
abbrev Gt (c : Dev nD) : FVec Ideal S8192x2048 .f32 := m ((c : Thread nD τ).loc main_arg3)
abbrev Md (c : Dev nD) : FVec Ideal S6x1024 .f32 := m ((c : Thread nD τ).loc main_arg4)
abbrev Gn (c : Dev nD) : FVec Ideal S4x1024 .f32 := m ((c : Thread nD τ).loc main_arg5)
abbrev WtA (c : Dev nD) : FVec Ideal S512x1024 .f32 := m ((c : Thread nD τ).loc main_arg6)
abbrev WtM (c : Dev nD) : FVec Ideal S512x1024 .f32 := m ((c : Thread nD τ).loc main_arg7)
abbrev WtO (c : Dev nD) : FVec Ideal S1024x1024 .f32 := m ((c : Thread nD τ).loc main_arg8)

/-! ## What the kernel is given -/

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![t.val, 0] ∧ t.val < 16 :=
  (by decide +kernel : ∀ t : Fin grid0.N, _)

theorem lt16 (t : Fin cfg0.N) : t.val < 16 := (idx t).2.2.2.2.2.2.2.2.2.2.2.2.2

/-- Row `i` of point `t`'s blocks is this row of the arrays. -/
abbrev row (t : Fin cfg0.N) (i : Fin 512) : Fin 8192 := ⟨t.val * 512 + i.val, by have := lt16 t; omega⟩

/-- The arrays the host hands over: both lists of vectors in one, and the rounded heads, gates and weights. -/
theorem ent_mod (c : Dev nD) (i : Fin 6) (j : Fin 1024) :
    (V m c main_v1 : FVec Ideal S16x1024 .f32) (ix2 ⟨i.val, by omega⟩ j) = Md m c (ix2 i j) := by
  unfold V
  after_reads_at
theorem ent_gain (c : Dev nD) (i : Fin 4) (j : Fin 1024) :
    (V m c main_v1 : FVec Ideal S16x1024 .f32) (ix2 ⟨6 + i.val, by omega⟩ j) = Gn m c (ix2 i j) := by
  unfold V
  after_reads_at
theorem ent_wa (c : Dev nD) (i : Fin 512) (j : Fin 1024) : (V m c main_v2 : FVec Ideal S512x1024 .bf16) (ix2 i j) = WtA m c (ix2 i j) := by
  unfold V
  after_reads_at
theorem ent_wm (c : Dev nD) (i : Fin 512) (j : Fin 1024) : (V m c main_v3 : FVec Ideal S512x1024 .bf16) (ix2 i j) = WtM m c (ix2 i j) := by
  unfold V
  after_reads_at
theorem ent_wo (c : Dev nD) (i : Fin 1024) (j : Fin 1024) : (V m c main_v4 : FVec Ideal S1024x1024 .bf16) (ix2 i j) = WtO m c (ix2 i j) := by
  unfold V
  after_reads_at
theorem ent_ya (c : Dev nD) (i : Fin 8192) (j : Fin 512) : (V m c main_v5 : FVec Ideal S8192x512 .bf16) (ix2 i j) = HdA m c (ix2 i j) := by
  unfold V
  after_reads_at
theorem ent_ym (c : Dev nD) (i : Fin 8192) (j : Fin 512) : (V m c main_v6 : FVec Ideal S8192x512 .bf16) (ix2 i j) = HdM m c (ix2 i j) := by
  unfold V
  after_reads_at
theorem ent_gt (c : Dev nD) (i : Fin 8192) (j : Fin 2048) : (V m c main_v7 : FVec Ideal S8192x2048 .bf16) (ix2 i j) = Gt m c (ix2 i j) := by
  unfold V
  after_reads_at

theorem blk0 (c : Dev nD) (t : Fin cfg0.N) (i : Fin 512) (j : Fin 1024) :
    (iblk m c 0 t : FVec Ideal S512x1024 .f32) (ix2 i j) = X m c (ix2 (row t i) j) := by
  blk_ext [iblk, V, idx t]
theorem blk1 (c : Dev nD) (t : Fin cfg0.N) (i : Fin 512) (j : Fin 512) :
    (iblk m c 1 t : FVec Ideal S512x512 .bf16) (ix2 i j) = (V m c main_v5 : FVec Ideal S8192x512 .bf16) (ix2 (row t i) j) := by
  blk_ext [iblk, V, idx t]
theorem blk2 (c : Dev nD) (t : Fin cfg0.N) (i : Fin 512) (j : Fin 512) :
    (iblk m c 2 t : FVec Ideal S512x512 .bf16) (ix2 i j) = (V m c main_v6 : FVec Ideal S8192x512 .bf16) (ix2 (row t i) j) := by
  blk_ext [iblk, V, idx t]
theorem blk3 (c : Dev nD) (t : Fin cfg0.N) (i : Fin 512) (j : Fin 2048) :
    (iblk m c 3 t : FVec Ideal S512x2048 .bf16) (ix2 i j) = (V m c main_v7 : FVec Ideal S8192x2048 .bf16) (ix2 (row t i) j) := by
  blk_ext [iblk, V, idx t]
theorem blk4 (c : Dev nD) (t : Fin cfg0.N) (i : Fin 16) (j : Fin 1024) :
    (iblk m c 4 t : FVec Ideal S16x1024 .f32) (ix2 i j) = (V m c main_v1 : FVec Ideal S16x1024 .f32) (ix2 i j) := by
  blk_ext [iblk, V, idx t]
theorem blk5 (c : Dev nD) (t : Fin cfg0.N) (i : Fin 512) (j : Fin 1024) :
    (iblk m c 5 t : FVec Ideal S512x1024 .bf16) (ix2 i j) = (V m c main_v2 : FVec Ideal S512x1024 .bf16) (ix2 i j) := by
  blk_ext [iblk, V, idx t]
theorem blk6 (c : Dev nD) (t : Fin cfg0.N) (i : Fin 512) (j : Fin 1024) :
    (iblk m c 6 t : FVec Ideal S512x1024 .bf16) (ix2 i j) = (V m c main_v3 : FVec Ideal S512x1024 .bf16) (ix2 i j) := by
  blk_ext [iblk, V, idx t]
theorem blk7 (c : Dev nD) (t : Fin cfg0.N) (i : Fin 1024) (j : Fin 1024) :
    (iblk m c 7 t : FVec Ideal S1024x1024 .bf16) (ix2 i j) = (V m c main_v4 : FVec Ideal S1024x1024 .bf16) (ix2 i j) := by
  blk_ext [iblk, V, idx t]

/-! ## The body's values at an index -/

theorem pay6_at (a : Vec Ideal S512x512 .bf16) (w : Vec Ideal S512x1024 .bf16) (i : Fin 512) (j : Fin 1024) :
    k0_pay6 a w (ix2 i j) = ∑ k, a (ix2 i k) * w (ix2 k j) := by
  pointwise [k0_pay6]

theorem pay7_at (a : Vec Ideal S512x512 .bf16) (w : Vec Ideal S512x1024 .bf16) (i : Fin 512) (j : Fin 1024) :
    k0_pay7 a w (ix2 i j) = ∑ k, a (ix2 i k) * w (ix2 k j) := by
  pointwise [k0_pay7]

theorem pay8_at (a : Vec Ideal S512x512 .bf16) (w : Vec Ideal S512x1024 .bf16) (b : Vec Ideal S512x512 .bf16) (v : Vec Ideal S512x1024 .bf16)
    (g h : Vec Ideal S512x1024 .bf16) (i : Fin 512) (j : Fin 1024) :
    k0_pay8 a w b v g h (ix2 i j) = sigm (g (ix2 i j)) * k0_pay6 a w (ix2 i j) + sigm (h (ix2 i j)) * k0_pay7 b v (ix2 i j) := by
  pointwise [k0_pay8, sigm]

theorem pay1_at (a : FVec Ideal S512x1024 .bf16) (w : FVec Ideal S1024x1024 .bf16) (i : Fin 512) (j : Fin 1024) :
    k0_pay1 a (k0_pay9 w) (constant S512x1024 .f32 0x00000000#32) (ix2 i j) = ∑ k, a (ix2 i k) * w (ix2 k j) := by
  pointwise [k0_pay1, k0_pay9]

theorem pay2_at (a : FVec Ideal S512x1024 .bf16) (w : FVec Ideal S1024x1024 .bf16) (z : FVec Ideal S512x1024 .f32) (x : Vec Ideal S512x1024 .f32)
    (p q : Vec Ideal S1x1024 .f32) (i : Fin 512) (j : Fin 1024) :
    k0_pay2 a w z x p q (ix2 i j)
      = x (ix2 i j) + p (ix2 0 j) * (k0_pay1 a w z (ix2 i j) * (invE fun k => k0_pay1 a w z (ix2 i k)) * q (ix2 0 j)) := by
  pointwise [k0_pay2]
  rfl

/-! ## The results, as functions of the arguments -/

/-- The two branches' projections, what the gates mix of them, the mixed heads, and the rows after the layer. -/
def PA (c : Dev nD) (i : Fin 8192) (j : Fin 1024) : EReal := ∑ k, HdA m c (ix2 i k) * WtA m c (ix2 k j)
def PM (c : Dev nD) (i : Fin 8192) (j : Fin 1024) : EReal := ∑ k, HdM m c (ix2 i k) * WtM m c (ix2 k j)
def MG (c : Dev nD) (i : Fin 8192) (j : Fin 1024) : EReal :=
  sigm (Gt m c (ix2 i ⟨j.val, by omega⟩)) * PA m c i j + sigm (Gt m c (ix2 i ⟨1024 + j.val, by omega⟩)) * PM m c i j
def MX (c : Dev nD) (i : Fin 8192) (j : Fin 1024) : EReal := ∑ k, MG m c i k * WtO m c (ix2 k j)
def X1 (c : Dev nD) (i : Fin 8192) (j : Fin 1024) : EReal :=
  X m c (ix2 i j) + Md m c (ix2 2 j) * (MX m c i j * (invE fun k => MX m c i k) * Gn m c (ix2 1 j))

theorem pa_at (c : Dev nD) (t : Fin cfg0.N) (i : Fin 512) (j : Fin 1024) :
    k0_pay6 (iblk m c 1 t) (iblk m c 5 t) (ix2 i j) = PA m c (row t i) j := by
  refine (pay6_at _ _ i j).trans ?_
  simp only [blk1, blk5, ent_ya, ent_wa]
  rfl
theorem pm_at (c : Dev nD) (t : Fin cfg0.N) (i : Fin 512) (j : Fin 1024) :
    k0_pay7 (iblk m c 2 t) (iblk m c 6 t) (ix2 i j) = PM m c (row t i) j := by
  refine (pay7_at _ _ i j).trans ?_
  simp only [blk2, blk6, ent_ym, ent_wm]
  rfl

/-- The two halves of the gates. -/
theorem ga_at (c : Dev nD) (t : Fin cfg0.N) (i : Fin 512) (j : Fin 1024) :
    View.ld (iblk m c 3 t : FVec Ideal S512x2048 .bf16) (Rect.unit ![0, 0] ![512, 1024] inb_S512x2048_S512x1024_0_0) (ix2 i j)
      = Gt m c (ix2 (row t i) ⟨j.val, by omega⟩) := by
  refine (ld_cols (iblk m c 3 t : FVec Ideal S512x2048 .bf16) 0 inb_S512x2048_S512x1024_0_0 i j (by omega)).trans
    ((blk3 m c t i _).trans ((ent_gt m c _ _).trans ?_))
  exact congrArg (Gt m c) (congrArg (ix2 _) (Fin.ext (Nat.zero_add j.val)))
theorem gb_at (c : Dev nD) (t : Fin cfg0.N) (i : Fin 512) (j : Fin 1024) :
    View.ld (iblk m c 3 t : FVec Ideal S512x2048 .bf16) (Rect.unit ![0, 1024] ![512, 1024] inb_S512x2048_S512x1024_0_1024) (ix2 i j)
      = Gt m c (ix2 (row t i) ⟨1024 + j.val, by omega⟩) :=
  (ld_cols (iblk m c 3 t : FVec Ideal S512x2048 .bf16) 1024 inb_S512x2048_S512x1024_0_1024 i j (by omega)).trans
    ((blk3 m c t i _).trans (ent_gt m c _ _))

theorem mg_at (c : Dev nD) (t : Fin cfg0.N) (i : Fin 512) (j : Fin 1024) :
    k0_pay8 (iblk m c 1 t) (iblk m c 5 t) (iblk m c 2 t) (iblk m c 6 t)
      (View.ld (iblk m c 3 t : FVec Ideal S512x2048 .bf16) (Rect.unit ![0, 0] ![512, 1024] inb_S512x2048_S512x1024_0_0))
      (View.ld (iblk m c 3 t : FVec Ideal S512x2048 .bf16) (Rect.unit ![0, 1024] ![512, 1024] inb_S512x2048_S512x1024_0_1024)) (ix2 i j)
      = MG m c (row t i) j := by
  refine (pay8_at _ _ _ _ _ _ i j).trans ?_
  rw [pa_at, pm_at, ga_at, gb_at]
  rfl

/-- The gated sum the later products read. -/
abbrev mgB (c : Dev nD) (t : Fin cfg0.N) : FVec Ideal S512x1024 .bf16 :=
  k0_pay8 (iblk m c 1 t) (iblk m c 5 t) (iblk m c 2 t) (iblk m c 6 t)
      (View.ld (iblk m c 3 t : FVec Ideal S512x2048 .bf16) (Rect.unit ![0, 0] ![512, 1024] inb_S512x2048_S512x1024_0_0))
      (View.ld (iblk m c 3 t : FVec Ideal S512x2048 .bf16) (Rect.unit ![0, 1024] ![512, 1024] inb_S512x2048_S512x1024_0_1024))

theorem mx_at (c : Dev nD) (t : Fin cfg0.N) (i : Fin 512) (j : Fin 1024) :
    k0_pay1 (mgB m c t) (k0_pay9 (iblk m c 7 t)) (constant S512x1024 .f32 0x00000000#32) (ix2 i j) = MX m c (row t i) j :=
  (pay1_at _ _ i j).trans (Finset.sum_congr rfl fun k _ => congrArg₂ (· * ·) (mg_at m c t i k) ((blk7 m c t k j).trans (ent_wo m c k j)))

/-- The rows of the modulation and the gains that the body loads. -/
theorem p2 (c : Dev nD) (t : Fin cfg0.N) (j : Fin 1024) :
    View.ld (iblk m c 4 t : FVec Ideal S16x1024 .f32) (Rect.unit (s := S16x1024) ![2, 0] ![1, 1024] inb_S16x1024_S1x1024_2_0) (ix2 0 j) = Md m c (ix2 2 j) := by
  refine (ld_row (iblk m c 4 t : FVec Ideal S16x1024 .f32) 2 inb_S16x1024_S1x1024_2_0 (by omega) j).trans ?_
  rw [blk4]
  exact ent_mod m c 2 j
theorem p7 (c : Dev nD) (t : Fin cfg0.N) (j : Fin 1024) :
    View.ld (iblk m c 4 t : FVec Ideal S16x1024 .f32) (Rect.unit (s := S16x1024) ![7, 0] ![1, 1024] inb_S16x1024_S1x1024_7_0) (ix2 0 j) = Gn m c (ix2 1 j) := by
  refine (ld_row (iblk m c 4 t : FVec Ideal S16x1024 .f32) 7 inb_S16x1024_S1x1024_7_0 (by omega) j).trans ?_
  rw [blk4]
  exact ent_gain m c 1 j

/-! ## What each result's window holds after a point, and the results -/

theorem pt8 (c : Dev nD) (t : Fin cfg0.N) (i : Fin 512) (j : Fin 1024) :
    out0_8 (iblk m c 0 t) (iblk m c 1 t) (iblk m c 2 t) (iblk m c 3 t) (iblk m c 4 t) (iblk m c 5 t) (iblk m c 6 t) (iblk m c 7 t) (ix2 i j)
      = X1 m c (row t i) j := by
  frame_out
  unfold k0_pay10 k0_pay11 k0_pay12
  simp (disch := decide) only [View.ld_unit_lit']
  refine (pay2_at _ _ _ _ _ _ i j).trans ?_
  refine congrArg₂ (· + ·) (blk0 m c t i j) (congrArg₂ (· * ·) (p2 m c t j) (congrArg₂ (· * ·) ?_ (p7 m c t j)))
  exact congrArg₂ (· * ·) (mx_at m c t i j) (congrArg invE (funext fun k => mx_at m c t i k))

theorem pt9 (c : Dev nD) (t : Fin cfg0.N) (i : Fin 512) (j : Fin 1024) :
    out0_9 (iblk m c 0 t) (iblk m c 1 t) (iblk m c 2 t) (iblk m c 3 t) (iblk m c 4 t) (iblk m c 5 t) (iblk m c 6 t) (iblk m c 7 t) (ix2 i j)
      = MG m c (row t i) j := by
  frame_out
  unfold k0_pay11
  simp (disch := decide) only [View.ld_unit_lit']
  exact mg_at m c t i j

theorem pt10 (c : Dev nD) (t : Fin cfg0.N) (i : Fin 512) (j : Fin 1024) :
    out0_10 (iblk m c 0 t) (iblk m c 1 t) (iblk m c 2 t) (iblk m c 3 t) (iblk m c 4 t) (iblk m c 5 t) (iblk m c 6 t) (iblk m c 7 t) (ix2 i j)
      = MX m c (row t i) j := by
  frame_out
  unfold k0_pay10 k0_pay11 k0_pay12
  simp (disch := decide) only [View.ld_unit_lit']
  exact mx_at m c t i j

theorem final8 (c : Dev nD) : (dats m 0 c).arrAt 8 cfg0.N = (fun q => X1 m c (q 0) (q 1) : FVec Ideal S8192x1024 .f32) := by
  refine (dats m 0 c).arrAt_eq_of_covers 8 _ (by decide +kernel) fun t hf y => ?_
  blk_simp
  rw [after0_8]
  refine (congrArg _ (ix2_eta y).symm).trans ((pt8 m c t _ _).trans ?_)
  refine at_ix2 (X1 m c) (ix2_of (a := row t (y 0)) (b := y 1) ?_ ?_)
  · show win0_8.index t 0 * 512 + 1 * (y 0).val = t.val * 512 + (y 0).val
    simp [idx t]
  · show win0_8.index t 1 * 1024 + 1 * (y 1).val = (y 1).val
    simp [idx t]

theorem final9 (c : Dev nD) : (dats m 0 c).arrAt 9 cfg0.N = (fun q => MG m c (q 0) (q 1) : FVec Ideal S8192x1024 .bf16) := by
  refine (dats m 0 c).arrAt_eq_of_covers 9 _ (by decide +kernel) fun t hf y => ?_
  blk_simp
  rw [after0_9]
  refine (congrArg _ (ix2_eta y).symm).trans ((pt9 m c t _ _).trans ?_)
  refine at_ix2 (MG m c) (ix2_of (a := row t (y 0)) (b := y 1) ?_ ?_)
  · show win0_9.index t 0 * 512 + 1 * (y 0).val = t.val * 512 + (y 0).val
    simp [idx t]
  · show win0_9.index t 1 * 1024 + 1 * (y 1).val = (y 1).val
    simp [idx t]

theorem final10 (c : Dev nD) : (dats m 0 c).arrAt 10 cfg0.N = (fun q => MX m c (q 0) (q 1) : FVec Ideal S8192x1024 .bf16) := by
  refine (dats m 0 c).arrAt_eq_of_covers 10 _ (by decide +kernel) fun t hf y => ?_
  blk_simp
  rw [after0_10]
  refine (congrArg _ (ix2_eta y).symm).trans ((pt10 m c t _ _).trans ?_)
  refine at_ix2 (MX m c) (ix2_of (a := row t (y 0)) (b := y 1) ?_ ?_)
  · show win0_10.index t 0 * 512 + 1 * (y 0).val = t.val * 512 + (y 0).val
    simp [idx t]
  · show win0_10.index t 1 * 1024 + 1 * (y 1).val = (y 1).val
    simp [idx t]

theorem final11 (c : Dev nD) : (dats m 0 c).arrAt 11 cfg0.N = (fun q => PA m c (q 0) (q 1) : FVec Ideal S8192x1024 .bf16) := by
  refine (dats m 0 c).arrAt_eq_of_covers 11 _ (by decide +kernel) fun t hf y => ?_
  blk_simp
  rw [after0_11]
  frame_out
  refine (congrArg _ (ix2_eta y).symm).trans ((pa_at m c t _ _).trans ?_)
  refine at_ix2 (PA m c) (ix2_of (a := row t (y 0)) (b := y 1) ?_ ?_)
  · show win0_11.index t 0 * 512 + 1 * (y 0).val = t.val * 512 + (y 0).val
    simp [idx t]
  · show win0_11.index t 1 * 1024 + 1 * (y 1).val = (y 1).val
    simp [idx t]

theorem final12 (c : Dev nD) : (dats m 0 c).arrAt 12 cfg0.N = (fun q => PM m c (q 0) (q 1) : FVec Ideal S8192x1024 .bf16) := by
  refine (dats m 0 c).arrAt_eq_of_covers 12 _ (by decide +kernel) fun t hf y => ?_
  blk_simp
  rw [after0_12]
  frame_out
  refine (congrArg _ (ix2_eta y).symm).trans ((pm_at m c t _ _).trans ?_)
  refine at_ix2 (PM m c) (ix2_of (a := row t (y 0)) (b := y 1) ?_ ?_)
  · show win0_12.index t 0 * 512 + 1 * (y 0).val = t.val * 512 + (y 0).val
    simp [idx t]
  · show win0_12.index t 1 * 1024 + 1 * (y 1).val = (y 1).val
    simp [idx t]

end Cert.MixedFwdIdeal.Val

end
-- ==== Proof.Mixed.Claim.lean ====
/- The mixing layer's forward call: the reference's results at an index, and the two programs agree. -/
module

public import proofs.«01_k».proof.Defs
public import proofs.«01_k».proof.Proof.Gen.MixedRefIdeal.Read
public import proofs.«01_k».proof.Proof.Gen.MixedRefIdeal.Run
public import proofs.«01_k».proof.Proof.Mixed.Value

@[expose] public section

set_option maxRecDepth 16384

noncomputable section

open Idealize.ShloMosaic Idealize.ShloMosaic.TcCoe Idealize.SL.Sem

namespace Cert.MixedRefIdeal.Val

open Cert.MixedRefIdeal Cert.MixedRefIdeal.Read Cert.RealArith

variable (x0 : FVec Ideal S8192x1024 .f32) (x1 x2 : FVec Ideal S8192x512 .f32) (x3 : FVec Ideal S8192x2048 .f32) (x4 : FVec Ideal S6x1024 .f32)
  (x5 : FVec Ideal S4x1024 .f32) (x6 x7 : FVec Ideal S512x1024 .f32) (x8 : FVec Ideal S1024x1024 .f32)

theorem v0_at (i : Fin 8192) (j : Fin 1024) : val_main_v0 (F := Ideal) x1 x6 (ix2 i j) = ∑ k, x1 (ix2 i k) * x6 (ix2 k j) := by
  pointwise [val_main_v0]

theorem v1_at (i : Fin 8192) (j : Fin 1024) : val_main_v1 (F := Ideal) x2 x7 (ix2 i j) = ∑ k, x2 (ix2 i k) * x7 (ix2 k j) := by
  pointwise [val_main_v1]

theorem v8_at (i : Fin 8192) (j : Fin 1024) : val_main_v8 (F := Ideal) x3 (ix2 i j) = sigm (x3 (ix2 i ⟨j.val, by omega⟩)) := by
  pointwise [val_main_v2, val_main_v3, val_main_v4, val_main_v5, val_main_v6, val_main_v7, val_main_v8, val_main_cst, val_main_cst_0, sigm, zero_sub]

theorem v16_at (i : Fin 8192) (j : Fin 1024) : val_main_v16 (F := Ideal) x3 (ix2 i j) = sigm (x3 (ix2 i ⟨1024 + j.val, by omega⟩)) := by
  pointwise [val_main_v10, val_main_v11, val_main_v12, val_main_v13, val_main_v14, val_main_v15, val_main_v16, val_main_cst_1, val_main_cst_2, sigm, zero_sub]

theorem v18_at (i : Fin 8192) (j : Fin 1024) : val_main_v18 (F := Ideal) x1 x2 x3 x6 x7 (ix2 i j)
    = sigm (x3 (ix2 i ⟨j.val, by omega⟩)) * val_main_v0 (F := Ideal) x1 x6 (ix2 i j)
      + sigm (x3 (ix2 i ⟨1024 + j.val, by omega⟩)) * val_main_v1 (F := Ideal) x2 x7 (ix2 i j) := by
  pointwise [val_main_v9, val_main_v17, val_main_v18, v8_at, v16_at]

theorem v19_at (i : Fin 8192) (j : Fin 1024) : val_main_v19 (F := Ideal) x1 x2 x3 x6 x7 x8 (ix2 i j)
    = ∑ k, val_main_v18 (F := Ideal) x1 x2 x3 x6 x7 (ix2 i k) * x8 (ix2 k j) := by
  pointwise [val_main_v19]

theorem v32_at (i : Fin 8192) (j : Fin 1) : val_main_v32 (F := Ideal) x1 x2 x3 x6 x7 x8 (ix2 i j)
    = invE fun k => val_main_v19 (F := Ideal) x1 x2 x3 x6 x7 x8 (ix2 i k) := by
  pointwise [val_main_v25, val_main_v26, val_main_v27, val_main_v28, val_main_v29, val_main_v30, val_main_v31, val_main_v32, val_main_cst_3, val_main_cst_4, val_main_cst_5]
  rfl

theorem v40_at (i : Fin 8192) (j : Fin 1024) : val_main_v40 (F := Ideal) x0 x1 x2 x3 x4 x5 x6 x7 x8 (ix2 i j)
    = x0 (ix2 i j) + x4 (ix2 2 j) * (val_main_v19 (F := Ideal) x1 x2 x3 x6 x7 x8 (ix2 i j)
      * (invE fun k => val_main_v19 (F := Ideal) x1 x2 x3 x6 x7 x8 (ix2 i k)) * x5 (ix2 1 j)) := by
  pointwise [val_main_v20, val_main_v21, val_main_v22, val_main_v23, val_main_v24, val_main_v33, val_main_v34, val_main_v35, val_main_v36, val_main_v37, val_main_v38, val_main_v39, val_main_v40, v32_at]

theorem v41_at (i : Fin 8192) (j : Fin 1024) : val_main_v41 (F := Ideal) x1 x2 x3 x6 x7 (ix2 i j) = val_main_v18 (F := Ideal) x1 x2 x3 x6 x7 (ix2 i j) := by
  pointwise [val_main_v41]
theorem v42_at (i : Fin 8192) (j : Fin 1024) : val_main_v42 (F := Ideal) x1 x2 x3 x6 x7 x8 (ix2 i j) = val_main_v19 (F := Ideal) x1 x2 x3 x6 x7 x8 (ix2 i j) := by
  pointwise [val_main_v42]
theorem v43_at (i : Fin 8192) (j : Fin 1024) : val_main_v43 (F := Ideal) x1 x6 (ix2 i j) = val_main_v0 (F := Ideal) x1 x6 (ix2 i j) := by
  pointwise [val_main_v43]
theorem v44_at (i : Fin 8192) (j : Fin 1024) : val_main_v44 (F := Ideal) x2 x7 (ix2 i j) = val_main_v1 (F := Ideal) x2 x7 (ix2 i j) := by
  pointwise [val_main_v44]

end Cert.MixedRefIdeal.Val

namespace Cert.Proof.Mixed

section
open Cert.MixedRefIdeal Cert.MixedRefIdeal.Read

variable (m : (ℓ : Loc Cert.MixedRefIdeal.nD Cert.MixedRefIdeal.τ Cert.MixedRefIdeal.sig) → Buf (Elt Ideal) ℓ)

/-- The reference's arguments, as one application of a stage to them. -/
abbrev atArgs {α : Type} (f : FVec Ideal S8192x1024 .f32 → FVec Ideal S8192x512 .f32 → FVec Ideal S8192x512 .f32 → FVec Ideal S8192x2048 .f32
    → FVec Ideal S6x1024 .f32 → FVec Ideal S4x1024 .f32 → FVec Ideal S512x1024 .f32 → FVec Ideal S512x1024 .f32 → FVec Ideal S1024x1024 .f32 → α)
    (c : Dev Cert.MixedRefIdeal.nD) : α :=
  f (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- The reference leaves its results' stages. -/
theorem ref_run (ρ : Dev Cert.MixedRefIdeal.nD → PrngReg) :
    θ_run (Cert.MixedRefIdeal.defs (F := Ideal)) (onTc (τ := Cert.MixedRefIdeal.τ) (Cert.MixedRefIdeal.main (F := Ideal))) ⟨m, fun _ => 0, ρ⟩ fun r => ∀ c : Dev Cert.MixedRefIdeal.nD,
      r.2.mem ((c.tc : Thread nD τ).loc main_v40) = atArgs m (val_main_v40 (F := Ideal)) c
      ∧ r.2.mem ((c.tc : Thread nD τ).loc main_v41) = atArgs m (fun _ a b g _ _ u v _ => val_main_v41 (F := Ideal) a b g u v) c
      ∧ r.2.mem ((c.tc : Thread nD τ).loc main_v42) = atArgs m (fun _ a b g _ _ u v w => val_main_v42 (F := Ideal) a b g u v w) c
      ∧ r.2.mem ((c.tc : Thread nD τ).loc main_v43) = atArgs m (fun _ a _ _ _ _ u _ _ => val_main_v43 (F := Ideal) a u) c
      ∧ r.2.mem ((c.tc : Thread nD τ).loc main_v44) = atArgs m (fun _ _ b _ _ _ _ v _ => val_main_v44 (F := Ideal) b v) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run _ _ _).mono (fun _ h c => by
    obtain ⟨r0, r1, r2, r3, r4, ha⟩ := h c
    exact ⟨r0.trans (val_main_v40_eq m c), r1.trans (val_main_v41_eq _ _ _ _ _), r2.trans (val_main_v42_eq _ _ _ _ _ _), r3.trans (val_main_v43_eq _ _), r4.trans (val_main_v44_eq _ _), ha⟩)
    (Cert.MixedRefIdeal.Value.run m ρ)

end

theorem frame_reference : Cert.quiescent_MixedRefIdeal := fun m ρ _ =>
  (θ_run Cert.MixedRefIdeal.defs _ _).mono (fun r h => ⟨fun c => (h c).2.2.2.2.2, sem_eq_zero_of_no_sems (by decide) r.2⟩)
    (Cert.MixedRefIdeal.Value.run (F := Ideal) m ρ)

section
open Cert.MixedFwdIdeal Cert.MixedFwdIdeal.Val Cert.MixedFwdIdeal.Gen Cert.RealArith

variable (m : (ℓ : Loc Cert.MixedFwdIdeal.nD Cert.MixedFwdIdeal.τ Cert.MixedFwdIdeal.sig) → Buf (Elt Ideal) ℓ) (c : Dev Cert.MixedFwdIdeal.nD)

/-- Each result of the kernel is the reference's, of the same arguments. -/
theorem pa_ref (i : Fin 8192) (j : Fin 1024) : Cert.MixedRefIdeal.Read.val_main_v0 (F := Ideal) (HdA m c) (WtA m c) (ix2 i j) = PA m c i j :=
  Cert.MixedRefIdeal.Val.v0_at _ _ i j
theorem pm_ref (i : Fin 8192) (j : Fin 1024) : Cert.MixedRefIdeal.Read.val_main_v1 (F := Ideal) (HdM m c) (WtM m c) (ix2 i j) = PM m c i j :=
  Cert.MixedRefIdeal.Val.v1_at _ _ i j
theorem mg_ref (i : Fin 8192) (j : Fin 1024) :
    Cert.MixedRefIdeal.Read.val_main_v18 (F := Ideal) (HdA m c) (HdM m c) (Gt m c) (WtA m c) (WtM m c) (ix2 i j) = MG m c i j := by
  refine (Cert.MixedRefIdeal.Val.v18_at _ _ _ _ _ i j).trans ?_
  rw [pa_ref, pm_ref]
  rfl
theorem mx_ref (i : Fin 8192) (j : Fin 1024) :
    Cert.MixedRefIdeal.Read.val_main_v19 (F := Ideal) (HdA m c) (HdM m c) (Gt m c) (WtA m c) (WtM m c) (WtO m c) (ix2 i j) = MX m c i j :=
  (Cert.MixedRefIdeal.Val.v19_at _ _ _ _ _ _ i j).trans (Finset.sum_congr rfl fun k _ => congrArg (· * _) (mg_ref m c i k))
theorem x1_ref (i : Fin 8192) (j : Fin 1024) :
    Cert.MixedRefIdeal.Read.val_main_v40 (F := Ideal) (X m c) (HdA m c) (HdM m c) (Gt m c) (Md m c) (Gn m c) (WtA m c) (WtM m c) (WtO m c) (ix2 i j)
      = X1 m c i j := by
  refine (Cert.MixedRefIdeal.Val.v40_at _ _ _ _ _ _ _ _ _ i j).trans ?_
  simp only [mx_ref]
  rfl

theorem algebraic : Cert.algebraic_MixedFwdIdeal_MixedRefIdeal := by
  pair_intro
  · run_from Cert.MixedFwdIdeal.Value.run_blocks m g
  · run_from ref_run m' g'
    · rw [final8]
      funext q
      exact (congrArg _ (ix2_eta q).symm).trans (x1_ref m c (q 0) (q 1))
    · rw [final9]
      funext q
      exact (congrArg _ (ix2_eta q).symm).trans ((Cert.MixedRefIdeal.Val.v41_at _ _ _ _ _ (q 0) (q 1)).trans (mg_ref m c (q 0) (q 1)))
    · rw [final10]
      funext q
      exact (congrArg _ (ix2_eta q).symm).trans ((Cert.MixedRefIdeal.Val.v42_at _ _ _ _ _ _ (q 0) (q 1)).trans (mx_ref m c (q 0) (q 1)))
    · rw [final11]
      funext q
      exact (congrArg _ (ix2_eta q).symm).trans ((Cert.MixedRefIdeal.Val.v43_at _ _ (q 0) (q 1)).trans (pa_ref m c (q 0) (q 1)))
    · rw [final12]
      funext q
      exact (congrArg _ (ix2_eta q).symm).trans ((Cert.MixedRefIdeal.Val.v44_at _ _ (q 0) (q 1)).trans (pm_ref m c (q 0) (q 1)))

end

end Cert.Proof.Mixed

end
-- ==== Proof.Proj.Value.lean ====
/- What the pre-norm's forward kernel with its projections leaves, as functions of the arguments. -/
module

public import proofs.«01_k».proof.Proof.Gen.ProjFwdIdeal.Value
public import Idealize.ShloMosaic.Lib.Pipeline.ValueKit
public import Idealize.ShloMosaic.Lib.Claim
public import Idealize.ShloMosaic.Lib.StableHlo.ReadAt
public import proofs.«01_k».proof.Proof.RealArith
public import proofs.«01_k».proof.Proof.RowPieces

@[expose] public section

set_option maxRecDepth 16384

noncomputable section

open Idealize.ShloMosaic Idealize.ShloMosaic.TcCoe Idealize.SL.Sem
open Idealize.ShloMosaic.Pipeline (Dat)

namespace Cert.ProjFwdIdeal.Val

open Cert.ProjFwdIdeal Cert.ProjFwdIdeal.Gen Cert.RowPieces Cert.RealArith

variable (m : (ℓ : Loc nD τ sig) → Buf (Elt Ideal) ℓ)

/-- The arguments, typed: the rows, the modulation, the gains and the weight. -/
abbrev X (c : Dev nD) : FVec Ideal S8192x1024 .f32 := m ((c : Thread nD τ).loc main_arg0)
abbrev Md (c : Dev nD) : FVec Ideal S6x1024 .f32 := m ((c : Thread nD τ).loc main_arg1)
abbrev Gn (c : Dev nD) : FVec Ideal S4x1024 .f32 := m ((c : Thread nD τ).loc main_arg2)
abbrev W (c : Dev nD) : FVec Ideal S1024x4872 .f32 := m ((c : Thread nD τ).loc main_arg3)

/-! ## What the kernel is given -/

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ t.val < 16 :=
  (by decide +kernel : ∀ t : Fin grid0.N, _)

theorem lt16 (t : Fin cfg0.N) : t.val < 16 := (idx t).2.2.2.2.2.2.2.2

/-- Row `i` of point `t`'s blocks is this row of the arrays. -/
abbrev row (t : Fin cfg0.N) (i : Fin 512) : Fin 8192 := ⟨t.val * 512 + i.val, by have := lt16 t; omega⟩

/-- The weight as the kernel reads it: columns of zeros between the gates of the recurrence and the other gates. -/
def WK (c : Dev nD) (i : Fin 1024) (n : ℕ) : EReal :=
  if h : n < 2824 then W m c (ix2 i ⟨n, by omega⟩) else
    if h' : n < 2944 then 0 else if h'' : n < 4992 then W m c (ix2 i ⟨n - 120, by omega⟩) else 0

theorem ent_w (c : Dev nD) (i : Fin 1024) (j : Fin 4992) :
    (V m c main_v6 : FVec Ideal S1024x4992 .bf16) (ix2 i j) = WK m c i j.val := by
  unfold V WK
  after_reads_at
  after_reads_at
  by_cases h1 : j.val < 2824
  · simp only [dif_pos h1]
  · by_cases h2 : j.val < 2944
    · have h3 : j.val - 2824 < 120 := by omega
      simp [h1, h2, h3]
    · have h3 : ¬ j.val - 2824 < 120 := by omega
      simp only [dif_neg h1, dif_neg h2, dif_neg h3, dif_pos j.isLt]
      exact congrArg (W m c) (congrArg (ix2 i) (Fin.ext (show 2824 + (j.val - 2824 - 120) = j.val - 120 by omega)))

theorem ent_mod (c : Dev nD) (i : Fin 6) (j : Fin 1024) :
    (V m c main_v1 : FVec Ideal S16x1024 .f32) (ix2 ⟨i.val, by omega⟩ j) = Md m c (ix2 i j) := by
  unfold V
  after_reads_at
theorem ent_gain (c : Dev nD) (i : Fin 4) (j : Fin 1024) :
    (V m c main_v1 : FVec Ideal S16x1024 .f32) (ix2 ⟨6 + i.val, by omega⟩ j) = Gn m c (ix2 i j) := by
  unfold V
  after_reads_at

theorem blk0 (c : Dev nD) (t : Fin cfg0.N) (i : Fin 512) (j : Fin 1024) :
    (iblk m c 0 t : FVec Ideal S512x1024 .f32) (ix2 i j) = X m c (ix2 (row t i) j) := by
  blk_ext [iblk, V, idx t]
theorem blk1 (c : Dev nD) (t : Fin cfg0.N) (i : Fin 16) (j : Fin 1024) :
    (iblk m c 1 t : FVec Ideal S16x1024 .f32) (ix2 i j) = (V m c main_v1 : FVec Ideal S16x1024 .f32) (ix2 i j) := by
  blk_ext [iblk, V, idx t]
theorem blk2 (c : Dev nD) (t : Fin cfg0.N) (i : Fin 1024) (j : Fin 4992) :
    (iblk m c 2 t : FVec Ideal S1024x4992 .bf16) (ix2 i j) = (V m c main_v6 : FVec Ideal S1024x4992 .bf16) (ix2 i j) := by
  blk_ext [iblk, V, idx t]

/-- The rows of the modulation and the gains that the body loads, and some columns of the weight. -/
abbrev ldp (c : Dev nD) (t : Fin cfg0.N) (r : Nat) (h : ∀ a, (![r, 0] : Fin 2 → Nat) a + (![1, 1024] : Fin 2 → Nat) a ≤ S16x1024.size a) :
    Vec Ideal S1x1024 .f32 := View.ld (iblk m c 1 t : FVec Ideal S16x1024 .f32) (Rect.unit (s := S16x1024) ![r, 0] ![1, 1024] h)

theorem p0 (c : Dev nD) (t : Fin cfg0.N) (j : Fin 1024) : ldp m c t 0 inb_S16x1024_S1x1024_0_0 (ix2 0 j) = Md m c (ix2 0 j) := by
  refine (ld_row (iblk m c 1 t : FVec Ideal S16x1024 .f32) 0 inb_S16x1024_S1x1024_0_0 (by omega) j).trans ?_
  rw [blk1]
  exact ent_mod m c 0 j
theorem p1 (c : Dev nD) (t : Fin cfg0.N) (j : Fin 1024) : ldp m c t 1 inb_S16x1024_S1x1024_1_0 (ix2 0 j) = Md m c (ix2 1 j) := by
  refine (ld_row (iblk m c 1 t : FVec Ideal S16x1024 .f32) 1 inb_S16x1024_S1x1024_1_0 (by omega) j).trans ?_
  rw [blk1]
  exact ent_mod m c 1 j
theorem p6 (c : Dev nD) (t : Fin cfg0.N) (j : Fin 1024) : ldp m c t 6 inb_S16x1024_S1x1024_6_0 (ix2 0 j) = Gn m c (ix2 0 j) := by
  refine (ld_row (iblk m c 1 t : FVec Ideal S16x1024 .f32) 6 inb_S16x1024_S1x1024_6_0 (by omega) j).trans ?_
  rw [blk1]
  exact ent_gain m c 0 j

theorem w_at {q : Nat} (c : Dev nD) (t : Fin cfg0.N) (o : Nat)
    (h : ∀ a, (![0, o] : Fin 2 → Nat) a + (![1024, q] : Fin 2 → Nat) a ≤ S1024x4992.size a) (k : Fin 1024) (j : Fin q) (ho : o + j.val < 4992) :
    View.ld (iblk m c 2 t : FVec Ideal S1024x4992 .bf16) (Rect.unit (s := S1024x4992) ![0, o] ![1024, q] h) (ix2 k j) = WK m c k (o + j.val) :=
  (ld_cols (iblk m c 2 t : FVec Ideal S1024x4992 .bf16) o h k j ho).trans ((blk2 m c t k _).trans (ent_w m c k _))

/-! ## The body's values at an index -/

theorem pay3_at (x : Vec Ideal S512x1024 .f32) (g s b : Vec Ideal S1x1024 .f32) (i : Fin 512) (j : Fin 1024) :
    k0_pay3 x g s b (ix2 i j) = x (ix2 i j) * (invE fun k => x (ix2 i k)) * g (ix2 0 j) * (1 + s (ix2 0 j)) + b (ix2 0 j) := by
  pointwise [k0_pay3]
  rfl

theorem pay4_at (x : Vec Ideal S512x1024 .f32) (g s b : Vec Ideal S1x1024 .f32) (w : Vec Ideal S1024x768 .bf16) (i : Fin 512) (j : Fin 768) :
    k0_pay4 x g s b w (ix2 i j) = ∑ k, k0_pay3 x g s b (ix2 i k) * w (ix2 k j) := by
  pointwise [k0_pay4]

theorem pay5_at (x : Vec Ideal S512x1024 .f32) (g s b : Vec Ideal S1x1024 .f32) (w : Vec Ideal S1024x2048 .bf16) (i : Fin 512) (j : Fin 2048) :
    k0_pay5 x g s b w (ix2 i j) = ∑ k, k0_pay3 x g s b (ix2 i k) * w (ix2 k j) := by
  pointwise [k0_pay5]

theorem pay1_at (h : FVec Ideal S512x1024 .bf16) (w : Vec Ideal S1024x128 .bf16) (i : Fin 512) (j : Fin 128) :
    k0_pay1 h w (ix2 i j) = ∑ k, h (ix2 i k) * w (ix2 k j) := by
  pointwise [k0_pay1]

theorem pay2_at (h : FVec Ideal S512x1024 .bf16) (w : Vec Ideal S1024x2048 .bf16) (i : Fin 512) (j : Fin 2048) :
    k0_pay2 h w (ix2 i j) = ∑ k, h (ix2 i k) * w (ix2 k j) := by
  pointwise [k0_pay2]

/-! ## The results, as functions of the arguments -/

/-- The normalised and modulated rows, and one column of their product with the weight the kernel reads. -/
def H (c : Dev nD) (i : Fin 8192) (j : Fin 1024) : EReal :=
  X m c (ix2 i j) * (invE fun k => X m c (ix2 i k)) * Gn m c (ix2 0 j) * (1 + Md m c (ix2 1 j)) + Md m c (ix2 0 j)
def P (c : Dev nD) (i : Fin 8192) (n : ℕ) : EReal := ∑ k, H m c i k * WK m c k n

/-- The rows a point computes. -/
abbrev hB (c : Dev nD) (t : Fin cfg0.N) : FVec Ideal S512x1024 .bf16 :=
  k0_pay3 (iblk m c 0 t) (ldp m c t 6 inb_S16x1024_S1x1024_6_0) (ldp m c t 1 inb_S16x1024_S1x1024_1_0) (ldp m c t 0 inb_S16x1024_S1x1024_0_0)

theorem h_at (c : Dev nD) (t : Fin cfg0.N) (i : Fin 512) (j : Fin 1024) : hB m c t (ix2 i j) = H m c (row t i) j := by
  refine (pay3_at _ _ _ _ i j).trans ?_
  simp only [p0, p1, p6, blk0]
  rfl

/-- A column of the product, of any width of columns starting at `o`. -/
theorem p_at {q : Nat} (c : Dev nD) (t : Fin cfg0.N) (o : Nat)
    (h : ∀ a, (![0, o] : Fin 2 → Nat) a + (![1024, q] : Fin 2 → Nat) a ≤ S1024x4992.size a) (i : Fin 512) (j : Fin q) (ho : o + j.val < 4992) :
    ∑ k, hB m c t (ix2 i k) * View.ld (iblk m c 2 t : FVec Ideal S1024x4992 .bf16) (Rect.unit (s := S1024x4992) ![0, o] ![1024, q] h) (ix2 k j)
      = P m c (row t i) (o + j.val) :=
  Finset.sum_congr rfl fun k _ => congrArg₂ (· * ·) (h_at m c t i k) (w_at m c t o h k j ho)

/-- The projection's columns from `o` on, `q` of them. -/
def cols (c : Dev nD) (o q : Nat) (i : Fin 8192) (j : Fin q) : EReal := P m c i (o + j.val)

/-! ## What each result's window holds after a point, and the results -/

theorem pt3 (c : Dev nD) (t : Fin cfg0.N) (i : Fin 512) (j : Fin 1024) : (outsAt0 m c t).1 (ix2 i j) = H m c (row t i) j := by
  unfold outsAt0
  frame_out
  exact h_at m c t i j

theorem pt4 (c : Dev nD) (t : Fin cfg0.N) (i : Fin 512) (j : Fin 768) : (outsAt0 m c t).2.1 (ix2 i j) = cols m c 0 768 (row t i) j := by
  unfold outsAt0
  frame_out
  exact (pay4_at _ _ _ _ _ i j).trans (p_at m c t 0 inb_S1024x4992_S1024x768_0_0 i j (by omega))

theorem pt5 (c : Dev nD) (t : Fin cfg0.N) (i : Fin 512) (j : Fin 2048) : (outsAt0 m c t).2.2.1 (ix2 i j) = cols m c 768 2048 (row t i) j := by
  unfold outsAt0
  frame_out
  exact (pay5_at _ _ _ _ _ i j).trans (p_at m c t 768 inb_S1024x4992_S1024x2048_0_768 i j (by omega))

theorem pt6 (c : Dev nD) (t : Fin cfg0.N) (i : Fin 512) (j : Fin 128) : (outsAt0 m c t).2.2.2.1 (ix2 i j) = cols m c 2816 128 (row t i) j := by
  unfold outsAt0
  frame_out
  exact (pay1_at _ _ i j).trans (p_at m c t 2816 inb_S1024x4992_S1024x128_0_2816 i j (by omega))

theorem pt7 (c : Dev nD) (t : Fin cfg0.N) (i : Fin 512) (j : Fin 2048) : (outsAt0 m c t).2.2.2.2 (ix2 i j) = cols m c 2944 2048 (row t i) j := by
  unfold outsAt0
  frame_out
  exact (pay2_at _ _ i j).trans (p_at m c t 2944 inb_S1024x4992_S1024x2048_0_2944 i j (by omega))

theorem final3 (c : Dev nD) : (dats m 0 c).arrAt 3 cfg0.N = (fun q => H m c (q 0) (q 1) : FVec Ideal S8192x1024 .bf16) := by
  refine (dats m 0 c).arrAt_eq_of_covers 3 _ (by decide +kernel) fun t hf y => ?_
  blk_simp
  rw [after0_3]
  refine (congrArg _ (ix2_eta y).symm).trans ((pt3 m c t _ _).trans ?_)
  refine at_ix2 (H m c) (ix2_of (a := row t (y 0)) (b := y 1) ?_ ?_)
  · show win0_3.index t 0 * 512 + 1 * (y 0).val = t.val * 512 + (y 0).val
    simp [idx t]
  · show win0_3.index t 1 * 1024 + 1 * (y 1).val = (y 1).val
    simp [idx t]

theorem final4 (c : Dev nD) : (dats m 0 c).arrAt 4 cfg0.N = (fun q => cols m c 0 768 (q 0) (q 1) : FVec Ideal S8192x768 .f32) := by
  refine (dats m 0 c).arrAt_eq_of_covers 4 _ (by decide +kernel) fun t hf y => ?_
  blk_simp
  rw [after0_4]
  refine (congrArg _ (ix2_eta y).symm).trans ((pt4 m c t _ _).trans ?_)
  refine at_ix2 (cols m c 0 768) (ix2_of (a := row t (y 0)) (b := y 1) ?_ ?_)
  · show win0_4.index t 0 * 512 + 1 * (y 0).val = t.val * 512 + (y 0).val
    simp [idx t]
  · show win0_4.index t 1 * 768 + 1 * (y 1).val = (y 1).val
    simp [idx t]

theorem final5 (c : Dev nD) : (dats m 0 c).arrAt 5 cfg0.N = (fun q => cols m c 768 2048 (q 0) (q 1) : FVec Ideal S8192x2048 .f32) := by
  refine (dats m 0 c).arrAt_eq_of_covers 5 _ (by decide +kernel) fun t hf y => ?_
  blk_simp
  rw [after0_5]
  refine (congrArg _ (ix2_eta y).symm).trans ((pt5 m c t _ _).trans ?_)
  refine at_ix2 (cols m c 768 2048) (ix2_of (a := row t (y 0)) (b := y 1) ?_ ?_)
  · show win0_5.index t 0 * 512 + 1 * (y 0).val = t.val * 512 + (y 0).val
    simp [idx t]
  · show win0_5.index t 1 * 2048 + 1 * (y 1).val = (y 1).val
    simp [idx t]

theorem final6 (c : Dev nD) : (dats m 0 c).arrAt 6 cfg0.N = (fun q => cols m c 2816 128 (q 0) (q 1) : FVec Ideal S8192x128 .f32) := by
  refine (dats m 0 c).arrAt_eq_of_covers 6 _ (by decide +kernel) fun t hf y => ?_
  blk_simp
  rw [after0_6]
  refine (congrArg _ (ix2_eta y).symm).trans ((pt6 m c t _ _).trans ?_)
  refine at_ix2 (cols m c 2816 128) (ix2_of (a := row t (y 0)) (b := y 1) ?_ ?_)
  · show win0_6.index t 0 * 512 + 1 * (y 0).val = t.val * 512 + (y 0).val
    simp [idx t]
  · show win0_6.index t 1 * 128 + 1 * (y 1).val = (y 1).val
    simp [idx t]

theorem final7 (c : Dev nD) : (dats m 0 c).arrAt 7 cfg0.N = (fun q => cols m c 2944 2048 (q 0) (q 1) : FVec Ideal S8192x2048 .bf16) := by
  refine (dats m 0 c).arrAt_eq_of_covers 7 _ (by decide +kernel) fun t hf y => ?_
  blk_simp
  rw [after0_7]
  refine (congrArg _ (ix2_eta y).symm).trans ((pt7 m c t _ _).trans ?_)
  refine at_ix2 (cols m c 2944 2048) (ix2_of (a := row t (y 0)) (b := y 1) ?_ ?_)
  · show win0_7.index t 0 * 512 + 1 * (y 0).val = t.val * 512 + (y 0).val
    simp [idx t]
  · show win0_7.index t 1 * 2048 + 1 * (y 1).val = (y 1).val
    simp [idx t]

end Cert.ProjFwdIdeal.Val

end
-- ==== Proof.Proj.Claim.lean ====
/- The pre-norm's forward call with its projections: the reference's results at an index, and the two programs agree. -/
module

public import proofs.«01_k».proof.Defs
public import proofs.«01_k».proof.Proof.Gen.ProjRefIdeal.Read
public import proofs.«01_k».proof.Proof.Gen.ProjRefIdeal.Run
public import proofs.«01_k».proof.Proof.Proj.Value

@[expose] public section

set_option maxRecDepth 16384

noncomputable section

open Idealize.ShloMosaic Idealize.ShloMosaic.TcCoe Idealize.SL.Sem

namespace Cert.ProjRefIdeal.Val

open Cert.ProjRefIdeal Cert.ProjRefIdeal.Read Cert.RealArith

variable (x0 : FVec Ideal S8192x1024 .f32) (x1 : FVec Ideal S6x1024 .f32) (x2 : FVec Ideal S4x1024 .f32) (x3 : FVec Ideal S1024x4872 .f32)

theorem v9_at (i : Fin 8192) (j : Fin 1) : val_main_v9 (F := Ideal) x0 (ix2 i j) = invE fun k => x0 (ix2 i k) := by
  pointwise [val_main_v2, val_main_v3, val_main_v4, val_main_v5, val_main_v6, val_main_v7, val_main_v8, val_main_v9, val_main_cst, val_main_cst_0, val_main_cst_1]
  rfl

theorem v26_at (i : Fin 8192) (j : Fin 1024) : val_main_v26 (F := Ideal) x0 x1 x2 (ix2 i j)
    = x0 (ix2 i j) * (invE fun k => x0 (ix2 i k)) * x2 (ix2 0 j) * (1 + x1 (ix2 1 j)) + x1 (ix2 0 j) := by
  pointwise [val_main_v0, val_main_v1, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst_2, v9_at]

theorem v27_at (i : Fin 8192) (j : Fin 4872) : val_main_v27 (F := Ideal) x0 x1 x2 x3 (ix2 i j)
    = ∑ k, val_main_v26 (F := Ideal) x0 x1 x2 (ix2 i k) * x3 (ix2 k j) := by
  pointwise [val_main_v27]

theorem v31_at (i : Fin 8192) (j : Fin 1024) : val_main_v31 (F := Ideal) x0 x1 x2 (ix2 i j) = val_main_v26 (F := Ideal) x0 x1 x2 (ix2 i j) := by
  pointwise [val_main_v31]

theorem v32_at (i : Fin 8192) (j : Fin 768) : val_main_v32 (F := Ideal) x0 x1 x2 x3 (ix2 i j)
    = val_main_v27 (F := Ideal) x0 x1 x2 x3 (ix2 i ⟨j.val, by omega⟩) := by
  pointwise [val_main_v32]

theorem v33_at (i : Fin 8192) (j : Fin 2048) : val_main_v33 (F := Ideal) x0 x1 x2 x3 (ix2 i j)
    = val_main_v27 (F := Ideal) x0 x1 x2 x3 (ix2 i ⟨768 + j.val, by omega⟩) := by
  pointwise [val_main_v33]

theorem v30_at (i : Fin 8192) (j : Fin 128) : val_main_v30 (F := Ideal) x0 x1 x2 x3 (ix2 i j)
    = if h : j.val < 8 then val_main_v27 (F := Ideal) x0 x1 x2 x3 (ix2 i ⟨2816 + j.val, by omega⟩) else 0 := by
  pointwise [val_main_v28, val_main_v29, val_main_v30, val_main_cst_3]

theorem v35_at (i : Fin 8192) (j : Fin 2048) : val_main_v35 (F := Ideal) x0 x1 x2 x3 (ix2 i j)
    = val_main_v27 (F := Ideal) x0 x1 x2 x3 (ix2 i ⟨2824 + j.val, by omega⟩) := by
  pointwise [val_main_v34, val_main_v35]

end Cert.ProjRefIdeal.Val

namespace Cert.Proof.Proj

section
open Cert.ProjRefIdeal Cert.ProjRefIdeal.Read

variable (m : (ℓ : Loc Cert.ProjRefIdeal.nD Cert.ProjRefIdeal.τ Cert.ProjRefIdeal.sig) → Buf (Elt Ideal) ℓ)

/-- The reference's arguments, as one application of a stage to them. -/
abbrev atArgs {α : Type} (f : FVec Ideal S8192x1024 .f32 → FVec Ideal S6x1024 .f32 → FVec Ideal S4x1024 .f32 → FVec Ideal S1024x4872 .f32 → α)
    (c : Dev Cert.ProjRefIdeal.nD) : α :=
  f (m ((c.tc : Thread nD τ).loc main_arg0)) (m ((c.tc : Thread nD τ).loc main_arg1)) (m ((c.tc : Thread nD τ).loc main_arg2)) (m ((c.tc : Thread nD τ).loc main_arg3))

/-- The reference leaves its results' stages. -/
theorem ref_run (ρ : Dev Cert.ProjRefIdeal.nD → PrngReg) :
    θ_run (Cert.ProjRefIdeal.defs (F := Ideal)) (onTc (τ := Cert.ProjRefIdeal.τ) (Cert.ProjRefIdeal.main (F := Ideal))) ⟨m, fun _ => 0, ρ⟩ fun r => ∀ c : Dev Cert.ProjRefIdeal.nD,
      r.2.mem ((c.tc : Thread nD τ).loc main_v31) = atArgs m (fun x md gn _ => val_main_v31 (F := Ideal) x md gn) c
      ∧ r.2.mem ((c.tc : Thread nD τ).loc main_v32) = atArgs m (val_main_v32 (F := Ideal)) c
      ∧ r.2.mem ((c.tc : Thread nD τ).loc main_v33) = atArgs m (val_main_v33 (F := Ideal)) c
      ∧ r.2.mem ((c.tc : Thread nD τ).loc main_v30) = atArgs m (val_main_v30 (F := Ideal)) c
      ∧ r.2.mem ((c.tc : Thread nD τ).loc main_v35) = atArgs m (val_main_v35 (F := Ideal)) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => by
    obtain ⟨r0, r1, r2, r3, r4, ha⟩ := h c
    exact ⟨r0.trans (val_main_v31_eq _ _ _), r1.trans (val_main_v32_eq _ _ _ _), r2.trans (val_main_v33_eq _ _ _ _), r3.trans (val_main_v30_eq _ _ _ _), r4.trans (val_main_v35_eq _ _ _ _), ha⟩)
    (Cert.ProjRefIdeal.Value.run m ρ)

end

theorem frame_reference : Cert.quiescent_ProjRefIdeal := fun m ρ _ =>
  (θ_run Cert.ProjRefIdeal.defs _ _).mono (fun r h => ⟨fun c => (h c).2.2.2.2.2, sem_eq_zero_of_no_sems (by decide) r.2⟩)
    (Cert.ProjRefIdeal.Value.run (F := Ideal) m ρ)

section
open Cert.ProjFwdIdeal Cert.ProjFwdIdeal.Val Cert.ProjFwdIdeal.Gen Cert.RealArith

variable (m : (ℓ : Loc Cert.ProjFwdIdeal.nD Cert.ProjFwdIdeal.τ Cert.ProjFwdIdeal.sig) → Buf (Elt Ideal) ℓ) (c : Dev Cert.ProjFwdIdeal.nD)

theorem h_ref (i : Fin 8192) (j : Fin 1024) : Cert.ProjRefIdeal.Read.val_main_v26 (F := Ideal) (X m c) (Md m c) (Gn m c) (ix2 i j) = H m c i j :=
  Cert.ProjRefIdeal.Val.v26_at _ _ _ i j

/-- A column of the reference's product is the kernel's column that the weight's column was put in. -/
theorem p_ref (i : Fin 8192) (j : Fin 4872) (n : ℕ) (hn : ∀ k, WK m c k n = W m c (ix2 k j)) :
    Cert.ProjRefIdeal.Read.val_main_v27 (F := Ideal) (X m c) (Md m c) (Gn m c) (W m c) (ix2 i j) = P m c i n :=
  (Cert.ProjRefIdeal.Val.v27_at _ _ _ _ i j).trans (Finset.sum_congr rfl fun k _ => congrArg₂ (· * ·) (h_ref m c i k) (hn k).symm)

theorem wk_lo (k : Fin 1024) (j : Fin 4872) (n : ℕ) (hj : j.val = n) (hn : n < 2824) : WK m c k n = W m c (ix2 k j) := by
  unfold WK
  rw [dif_pos hn]
  exact congrArg (W m c) (congrArg (ix2 k) (Fin.ext hj.symm))

theorem wk_hi (k : Fin 1024) (j : Fin 4872) (n : ℕ) (hj : j.val = n - 120) (hn : 2944 ≤ n) (hn' : n < 4992) : WK m c k n = W m c (ix2 k j) := by
  unfold WK
  rw [dif_neg (by omega), dif_neg (by omega), dif_pos hn']
  exact congrArg (W m c) (congrArg (ix2 k) (Fin.ext hj.symm))

/-- The columns of zeros give zero. -/
theorem p_zero (i : Fin 8192) (n : ℕ) (hn : 2824 ≤ n) (hn' : n < 2944) : P m c i n = 0 := by
  unfold P
  refine Finset.sum_eq_zero fun k _ => ?_
  unfold WK
  rw [dif_neg (by omega), dif_pos hn', mul_zero]

theorem r32 (i : Fin 8192) (j : Fin 768) :
    Cert.ProjRefIdeal.Read.val_main_v32 (F := Ideal) (X m c) (Md m c) (Gn m c) (W m c) (ix2 i j) = P m c i (0 + j.val) :=
  (Cert.ProjRefIdeal.Val.v32_at _ _ _ _ i j).trans (p_ref m c i _ _ fun k => wk_lo m c k _ _ (Nat.zero_add _).symm (by omega))

theorem r33 (i : Fin 8192) (j : Fin 2048) :
    Cert.ProjRefIdeal.Read.val_main_v33 (F := Ideal) (X m c) (Md m c) (Gn m c) (W m c) (ix2 i j) = P m c i (768 + j.val) :=
  (Cert.ProjRefIdeal.Val.v33_at _ _ _ _ i j).trans (p_ref m c i _ _ fun k => wk_lo m c k _ _ rfl (by omega))

theorem r30 (i : Fin 8192) (j : Fin 128) :
    Cert.ProjRefIdeal.Read.val_main_v30 (F := Ideal) (X m c) (Md m c) (Gn m c) (W m c) (ix2 i j) = P m c i (2816 + j.val) := by
  refine (Cert.ProjRefIdeal.Val.v30_at _ _ _ _ i j).trans ?_
  by_cases h : j.val < 8
  · rw [dif_pos h]
    exact p_ref m c i _ _ fun k => wk_lo m c k _ _ rfl (by omega)
  · rw [dif_neg h]
    exact (p_zero m c i _ (by omega) (by omega)).symm

theorem r35 (i : Fin 8192) (j : Fin 2048) :
    Cert.ProjRefIdeal.Read.val_main_v35 (F := Ideal) (X m c) (Md m c) (Gn m c) (W m c) (ix2 i j) = P m c i (2944 + j.val) :=
  (Cert.ProjRefIdeal.Val.v35_at _ _ _ _ i j).trans
    (p_ref m c i _ _ fun k => wk_hi m c k _ _ (show 2824 + j.val = 2944 + j.val - 120 by omega) (by omega) (by omega))

theorem algebraic : Cert.algebraic_ProjFwdIdeal_ProjRefIdeal := by
  pair_intro
  · run_from Cert.ProjFwdIdeal.Value.run_blocks m g
  · run_from ref_run m' g'
    · rw [final3]
      funext q
      exact (congrArg _ (ix2_eta q).symm).trans ((Cert.ProjRefIdeal.Val.v31_at _ _ _ (q 0) (q 1)).trans (h_ref m c (q 0) (q 1)))
    · rw [final4]
      funext q
      exact (congrArg _ (ix2_eta q).symm).trans (r32 m c (q 0) (q 1))
    · rw [final5]
      funext q
      exact (congrArg _ (ix2_eta q).symm).trans (r33 m c (q 0) (q 1))
    · rw [final6]
      funext q
      exact (congrArg _ (ix2_eta q).symm).trans (r30 m c (q 0) (q 1))
    · rw [final7]
      funext q
      exact (congrArg _ (ix2_eta q).symm).trans (r35 m c (q 0) (q 1))

end

end Cert.Proof.Proj

end
-- ==== Proof.Rot.Value.lean ====
/- What the attention's forward kernel saves: the rotated queries and keys, and the values, as functions of the arguments. -/
module

public import proofs.«01_k».proof.Proof.Gen.RotFwdIdeal.Value
public import proofs.«01_k».proof.Proof.Gen.RotRefIdeal.Read
public import Idealize.ShloMosaic.Lib.Pipeline.ValueKit
public import Idealize.ShloMosaic.Lib.Claim
public import Idealize.ShloMosaic.Lib.StableHlo.ReadAt
public import proofs.«01_k».proof.Proof.Attn.HostTables

@[expose] public section

set_option maxRecDepth 16384

noncomputable section

open Idealize.ShloMosaic Idealize.ShloMosaic.TcCoe Idealize.SL.Sem
open Idealize.ShloMosaic.Pipeline (Dat)

namespace Cert.RotFwdIdeal.Val

open Cert.RotFwdIdeal Cert.RotFwdIdeal.Gen Cert.RowPieces Cert.RealArith Cert.RotRefIdeal.Read
open Cert.Attn (cScale rw8)
open Cert.AttnBwdIdeal.Val (lane32 sel_if l32 pick neg_one_word)

/-! ## The rotation of a row of heads -/

/-- Lane `l` of a row of heads of 64 lanes, each rotated: its lower half against its upper half. -/
def rotated (x : Fin 768 → EReal) (c s : Fin 32 → EReal) (l : ℕ) (h : l < 640) : EReal :=
  if l % 64 < 32 then x ⟨l, by omega⟩ * c ⟨l % 32, by omega⟩ - x ⟨l + 32, by omega⟩ * s ⟨l % 32, by omega⟩
  else x ⟨l, by omega⟩ * c ⟨l % 32, by omega⟩ + x ⟨l - 32, by omega⟩ * s ⟨l % 32, by omega⟩

theorem rot_lane (x : Fin 768 → EReal) (y C S : Fin 128 → EReal) (c s : Fin 32 → EReal) (o : ℕ) (ho : o + 128 ≤ 640) (ho' : o % 64 = 0)
    (hy : ∀ l : Fin 128, y l = x ⟨o + l.val, by omega⟩) (hC : ∀ l, C l = c (l32 l))
    (hS : ∀ l : Fin 128, S l = s (l32 l) * if l.val % 64 < 32 then ((-1 : ℝ) : EReal) else ((1 : ℝ) : EReal)) (l : Fin 128) :
    y l * C l + (if l.val % 64 < 32 then y ⟨(l.val + 128 - 96) % 128, by omega⟩ else y ⟨(l.val + 128 - 32) % 128, by omega⟩) * S l
      = rotated x c s (o + l.val) (by omega) := by
  have hl := l.isLt
  have e : (⟨(o + l.val) % 32, by omega⟩ : Fin 32) = l32 l := Fin.ext (by show (o + l.val) % 32 = l.val % 32; omega)
  unfold rotated
  rw [hC, hS, e, hy l]
  by_cases h : l.val % 64 < 32
  · rw [if_pos h, if_pos h, if_pos (by omega), hy, EReal.coe_neg, EReal.coe_one, mul_neg, mul_one, mul_neg, sub_eq_add_neg]
    exact congrArg (fun z => _ + -(x z * _)) (Fin.ext (by show o + (l.val + 128 - 96) % 128 = o + l.val + 32; omega))
  · rw [if_neg h, if_neg h, if_neg (by omega), hy, EReal.coe_one, mul_one]
    exact congrArg (fun z => _ + x z * _) (Fin.ext (by show o + (l.val + 128 - 32) % 128 = o + l.val - 32; omega))

/-! ## The payloads, entry by entry -/

section
variable (C S X : FVec Ideal S128x128 .f32) (r l : Fin 128)

/-- A chunk of two heads, rotated by the tables' rows. -/
abbrev turned : EReal := X (ix2 r l) * C (ix2 r l)
  + (if l.val % 64 < 32 then X (ix2 r ⟨(l.val + 128 - 96) % 128, by omega⟩) else X (ix2 r ⟨(l.val + 128 - 32) % 128, by omega⟩)) * S (ix2 r l)

theorem pay12_at : k0_pay12 (F := Ideal) (k0_pay6 C S X) (ix2 r l) = turned C S X r l * cScale := by
  pointwise [k0_pay12, k0_pay6, k0_pay4, k0_pay5]
  simp only [lane32, sel_if]
theorem pay13_at : k0_pay13 (F := Ideal) (k0_pay7 C S X) (ix2 r l) = turned C S X r l * cScale := by
  pointwise [k0_pay13, k0_pay7, k0_pay4, k0_pay5]
  simp only [lane32, sel_if]
theorem pay14_at : k0_pay14 (F := Ideal) (k0_pay5 S) X (k0_pay8 C X) k0_pay9 32#32 (ix2 r l) = turned C S X r l * cScale := by
  pointwise [k0_pay14, k0_pay10, k0_pay9, k0_pay8, k0_pay4, k0_pay5]
  simp only [lane32, sel_if]
theorem pay15_at : k0_pay15 (F := Ideal) (k0_pay4 C) (k0_pay5 S) X (ix2 r l) = turned C S X r l * cScale := by
  pointwise [k0_pay15, k0_pay11, k0_pay4, k0_pay5]
  simp only [lane32, sel_if]
theorem pay18_at : k0_pay18 (F := Ideal) (k0_pay5 S) X (k0_pay16 (k0_pay4 C) X) (iota .tc S128x128 32 [1] iota_S128x128_d1_w32) k0_pay17 (ix2 r l) = turned C S X r l := by
  pointwise [k0_pay18, k0_pay16, k0_pay17, k0_pay4, k0_pay5]
  simp only [lane32, sel_if]
theorem pay19_at : k0_pay19 (F := Ideal) X (ix2 r l) = X (ix2 r l) := by
  pointwise [k0_pay19]
end

/-! ## What the kernel is given -/

variable (m : (ℓ : Loc nD τ sig) → Buf (Elt Ideal) ℓ)

/-- The projected rows and the positions, typed, and the rotation's tables as the kernel reads them. -/
abbrev A0 (c : Dev nD) : FVec Ideal S8192x768 .f32 := m ((c : Thread nD τ).loc main_arg0)
abbrev A1 (c : Dev nD) : IVec S8192 32 := m ((c : Thread nD τ).loc main_arg1)
abbrev CO (c : Dev nD) : FVec Ideal S8192x128 .f32 := V m c main_v16
abbrev SI (c : Dev nD) : FVec Ideal S8192x128 .f32 := V m c main_v30
abbrev H13 (c : Dev nD) : FVec Ideal S8192x32 .f32 := V m c main_v13
abbrev H24 (c : Dev nD) : FVec Ideal S8192x32 .f32 := V m c main_v24
abbrev H27 (c : Dev nD) : FVec Ideal S8192x128 .f32 := V m c main_v27

/-- The cosines and the sines of the angles. -/
abbrev cs (c : Dev nD) (i : Fin 8192) (e : Fin 32) : EReal := val_main_v15 (F := Ideal) (A1 m c) (ix2 i e)
abbrev sn (c : Dev nD) (i : Fin 8192) (e : Fin 32) : EReal := val_main_v17 (F := Ideal) (A1 m c) (ix2 i e)

section
variable (c : Dev nD)

theorem h13 : H13 m c = val_main_v15 (F := Ideal) (A1 m c) := by
  unfold H13 V
  after_reads_simp
  rfl
theorem h24 : H24 m c = val_main_v17 (F := Ideal) (A1 m c) := by
  unfold H24 V
  after_reads_simp
  rfl

/-- A table of 32 columns laid four times side by side. -/
abbrev fourfold (u : FVec Ideal S8192x32 .f32) : FVec Ideal S8192x128 .f32 :=
  shapeCast S8192x128 (broadcastInDim S1x8192x4x32 ![0, 1, 2, 3] bcast_S1x8192x1x32_S1x8192x4x32_0_1_2_3
    (shapeCast S1x8192x1x32 u shapeCasts_S8192x32_S1x8192x1x32)) shapeCasts_S1x8192x4x32_S8192x128

theorem fourfold_at (u : FVec Ideal S8192x32 .f32) (i : Fin 8192) (l : Fin 128) : fourfold u (ix2 i l) = u (ix2 i (l32 l)) := by
  pointwise []

theorem e16 : CO m c = fourfold (H13 m c) := by
  unfold CO H13 V
  after_reads_simp
  rfl
theorem e27 : H27 m c = fourfold (H24 m c) := by
  unfold H27 H24 V
  after_reads_simp
  rfl
theorem h29 (i : Fin 8192) (l : Fin 128) : (V m c main_v29 : FVec Ideal S8192x128 .f32) (ix2 i l) = if l.val % 64 < 32 then ((-1 : ℝ) : EReal) else ((1 : ℝ) : EReal) := by
  unfold V
  after_reads_at
  refine pick _ _ (fun h => ?_) (fun h => ?_)
  · after_reads_simp
    exact neg_one_word _
  · after_reads_simp
    exact c_one
theorem e30 (i : Fin 8192) (l : Fin 128) : SI m c (ix2 i l) = H27 m c (ix2 i l) * (V m c main_v29 : FVec Ideal S8192x128 .f32) (ix2 i l) := by
  unfold SI H27 V
  after_reads_simp
  rfl
theorem co_at (i : Fin 8192) (l : Fin 128) : CO m c (ix2 i l) = cs m c i (l32 l) := by
  rw [e16, h13]
  exact fourfold_at _ i l
theorem si_at (i : Fin 8192) (l : Fin 128) : SI m c (ix2 i l) = sn m c i (l32 l) * if l.val % 64 < 32 then ((-1 : ℝ) : EReal) else ((1 : ℝ) : EReal) := by
  rw [e30, h29, e27, h24]
  exact congrArg (· * _) (fourfold_at _ i l)
end

theorem idx : ∀ t : Fin cfg0.N, win0_0.index t = ![0] ∧ win0_1.index t = ![t.val, 0] ∧ win0_3.index t = ![t.val, 0] ∧ win0_4.index t = ![t.val, 0]
    ∧ win0_8.index t = ![t.val, 0] ∧ win0_9.index t = ![t.val, 0] ∧ win0_10.index t = ![t.val, 0] ∧ t.val < 64 :=
  (by decide +kernel : ∀ t : Fin grid0.N, _)

theorem lt64 (t : Fin cfg0.N) : t.val < 64 := (idx t).2.2.2.2.2.2.2
/-- Row `r` of point `t`'s blocks is this row of the arrays. -/
abbrev row (t : Fin cfg0.N) (r : Fin 128) : Fin 8192 := rw8 ⟨t.val, lt64 t⟩ r

variable (c : Dev nD) (t : Fin cfg0.N)

theorem blk1 (r : Fin 128) (l : Fin 768) : (iblk m c 1 t : FVec Ideal S128x768 .f32) (ix2 r l) = A0 m c (ix2 (row t r) l) := by blk_ext [iblk, V, idx t]
theorem blk3 (r : Fin 128) (l : Fin 128) : (iblk m c 3 t : FVec Ideal S128x128 .f32) (ix2 r l) = CO m c (ix2 (row t r) l) := by blk_ext [iblk, V, idx t]
theorem blk4 (r : Fin 128) (l : Fin 128) : (iblk m c 4 t : FVec Ideal S128x128 .f32) (ix2 r l) = SI m c (ix2 (row t r) l) := by blk_ext [iblk, V, idx t]

/-- The chunk of a point's rows from column `o` on. -/
abbrev chunk (o : ℕ) (h : ∀ a, (![0, o] : Fin 2 → Nat) a + (![128, 128] : Fin 2 → Nat) a ≤ S128x768.size a) : FVec Ideal S128x128 .f32 :=
  View.ld (iblk m c 1 t : FVec Ideal S128x768 .f32) (Rect.unit (s := S128x768) ![0, o] ![128, 128] h)

/-- Row `i`'s lane, rotated. -/
abbrev R (i : Fin 8192) (l : ℕ) (h : l < 640) : EReal := rotated (fun l => A0 m c (ix2 i l)) (cs m c i) (sn m c i) l h

theorem turn (o : ℕ) (h) (ho : o + 128 ≤ 640) (ho' : o % 64 = 0) (r l : Fin 128) :
    turned (iblk m c 3 t : FVec Ideal S128x128 .f32) (iblk m c 4 t : FVec Ideal S128x128 .f32) (chunk m c t o h) r l = R m c (row t r) (o + l.val) (by omega) :=
  rot_lane (fun l => A0 m c (ix2 (row t r) l)) (fun l => chunk m c t o h (ix2 r l)) (fun l => (iblk m c 3 t : FVec Ideal S128x128 .f32) (ix2 r l))
    (fun l => (iblk m c 4 t : FVec Ideal S128x128 .f32) (ix2 r l)) _ _ o ho ho'
    (fun l => (ld_cols (iblk m c 1 t : FVec Ideal S128x768 .f32) o h r l (by omega)).trans (blk1 m c t r _))
    (fun l => (blk3 m c t r l).trans (co_at m c _ l)) (fun l => (blk4 m c t r l).trans (si_at m c _ l)) l

/-! ## What each result's window holds after a point, and the results -/

theorem pt9 (r : Fin 128) (l : Fin 128) : (outsAt0 m c t).2.2.1 (ix2 r l) = R m c (row t r) (512 + l.val) (by omega) := by
  unfold outsAt0
  frame_out
  exact (pay18_at _ _ _ r l).trans (turn m c t 512 inb_S128x768_S128x128_0_512 (by omega) rfl r l)

theorem pt10 (r : Fin 128) (l : Fin 128) : (outsAt0 m c t).2.2.2.1 (ix2 r l) = A0 m c (ix2 (row t r) ⟨640 + l.val, by omega⟩) := by
  unfold outsAt0
  frame_out
  exact (pay19_at _ r l).trans ((ld_cols (iblk m c 1 t : FVec Ideal S128x768 .f32) 640 inb_S128x768_S128x128_0_640 r l (by omega)).trans (blk1 m c t r _))

theorem val8 : (outsAt0 m c t).2.1 = View.canon
    [(⟨Rect.unit (s := S128x512) ![0, 384] ![128, 128] inb_S128x512_S128x128_0_384,
        k0_pay15 (F := Ideal) (k0_pay4 (iblk m c 3 t)) (k0_pay5 (iblk m c 4 t)) (chunk m c t 384 inb_S128x768_S128x128_0_384)⟩ : View.Piece (Elt Ideal) S128x512 .bf16),
      ⟨Rect.unit (s := S128x512) ![0, 256] ![128, 128] inb_S128x512_S128x128_0_256,
        k0_pay14 (F := Ideal) (k0_pay5 (iblk m c 4 t)) (chunk m c t 256 inb_S128x768_S128x128_0_256) (k0_pay8 (iblk m c 3 t) (chunk m c t 256 inb_S128x768_S128x128_0_256)) k0_pay9 32#32⟩,
      ⟨Rect.unit (s := S128x512) ![0, 128] ![128, 128] inb_S128x512_S128x128_0_128,
        k0_pay13 (F := Ideal) (k0_pay7 (iblk m c 3 t) (iblk m c 4 t) (chunk m c t 128 inb_S128x768_S128x128_0_128))⟩,
      ⟨Rect.unit (s := S128x512) ![0, 0] ![128, 128] inb_S128x512_S128x128_0_0,
        k0_pay12 (F := Ideal) (k0_pay6 (iblk m c 3 t) (iblk m c 4 t) (chunk m c t 0 inb_S128x768_S128x128_0_0))⟩] := by
  unfold outsAt0
  frame_out
  exact congrArg View.canon (congrArg₂ List.cons rfl (congrArg₂ List.cons rfl (congrArg₂ List.cons rfl (congrArg₂ List.cons rfl rfl))))

/-- A rotated and scaled lane. -/
abbrev Q (i : Fin 8192) (l : Fin 512) : EReal := R m c i l.val (by omega) * cScale

theorem q_lane (i : Fin 8192) (o : ℕ) (l : Fin 512) (ho : o ≤ l.val) (h : o + (l.val - o) < 640) : R m c i (o + (l.val - o)) h * cScale = Q m c i l := by
  have e : o + (l.val - o) = l.val := by omega
  unfold Q R
  simp only [e]

theorem pt8 (r : Fin 128) (l : Fin 512) : (outsAt0 m c t).2.1 (ix2 r l) = Q m c (row t r) l := by
  refine (congrFun (val8 m c t) _).trans ?_
  have hl := l.isLt
  refine (canon_cols 384 inb_S128x512_S128x128_0_384 _ _ r l).trans ?_
  split_ifs with h
  · exact ((pay15_at _ _ _ r _).trans (congrArg (· * _) (turn m c t 384 _ (by omega) rfl r _))).trans (q_lane m c _ 384 l h.1 _)
  refine (canon_cols 256 inb_S128x512_S128x128_0_256 _ _ r l).trans ?_
  split_ifs with h
  · exact ((pay14_at _ _ _ r _).trans (congrArg (· * _) (turn m c t 256 _ (by omega) rfl r _))).trans (q_lane m c _ 256 l h.1 _)
  refine (canon_cols 128 inb_S128x512_S128x128_0_128 _ _ r l).trans ?_
  split_ifs with h
  · exact ((pay13_at _ _ _ r _).trans (congrArg (· * _) (turn m c t 128 _ (by omega) rfl r _))).trans (q_lane m c _ 128 l h.1 _)
  refine (canon_cols 0 inb_S128x512_S128x128_0_0 _ _ r l).trans ?_
  rw [dif_pos (by omega)]
  exact ((pay12_at _ _ _ r _).trans (congrArg (· * _) (turn m c t 0 _ (by omega) rfl r _))).trans (q_lane m c _ 0 l (by omega) _)

/-- The rotated keys and the values. -/
def K (i : Fin 8192) (l : Fin 128) : EReal := R m c i (512 + l.val) (by omega)
def VB (i : Fin 8192) (l : Fin 128) : EReal := A0 m c (ix2 i ⟨640 + l.val, by omega⟩)

theorem final8 : (dats m 0 c).arrAt 8 cfg0.N = (fun q => Q m c (q 0) (q 1) : FVec Ideal S8192x512 .bf16) := by
  refine (dats m 0 c).arrAt_eq_of_covers 8 _ (by decide +kernel) fun t hf y => ?_
  blk_simp
  rw [after0_8]
  refine (congrArg _ (ix2_eta y).symm).trans ((pt8 m c t _ _).trans ?_)
  refine at_ix2 (Q m c) (ix2_of (a := row t (y 0)) (b := y 1) ?_ ?_)
  · show win0_8.index t 0 * 128 + 1 * (y 0).val = 128 * t.val + (y 0).val
    simp [idx t, mul_comm]
  · show win0_8.index t 1 * 512 + 1 * (y 1).val = (y 1).val
    simp [idx t]

theorem final9 : (dats m 0 c).arrAt 9 cfg0.N = (fun q => K m c (q 0) (q 1) : FVec Ideal S8192x128 .bf16) := by
  refine (dats m 0 c).arrAt_eq_of_covers 9 _ (by decide +kernel) fun t hf y => ?_
  blk_simp
  rw [after0_9]
  refine (congrArg _ (ix2_eta y).symm).trans ((pt9 m c t _ _).trans ?_)
  refine at_ix2 (K m c) (ix2_of (a := row t (y 0)) (b := y 1) ?_ ?_)
  · show win0_9.index t 0 * 128 + 1 * (y 0).val = 128 * t.val + (y 0).val
    simp [idx t, mul_comm]
  · show win0_9.index t 1 * 128 + 1 * (y 1).val = (y 1).val
    simp [idx t]

theorem final10 : (dats m 0 c).arrAt 10 cfg0.N = (fun q => VB m c (q 0) (q 1) : FVec Ideal S8192x128 .bf16) := by
  refine (dats m 0 c).arrAt_eq_of_covers 10 _ (by decide +kernel) fun t hf y => ?_
  blk_simp
  rw [after0_10]
  refine (congrArg _ (ix2_eta y).symm).trans ((pt10 m c t _ _).trans ?_)
  refine at_ix2 (VB m c) (ix2_of (a := row t (y 0)) (b := y 1) ?_ ?_)
  · show win0_10.index t 0 * 128 + 1 * (y 0).val = 128 * t.val + (y 0).val
    simp [idx t, mul_comm]
  · show win0_10.index t 1 * 128 + 1 * (y 1).val = (y 1).val
    simp [idx t]

end Cert.RotFwdIdeal.Val

end
-- ==== Proof.Rot.Claim.lean ====
/- What the attention's forward kernel saves: the reference's results at an index, and the two programs agree. -/
module

public import proofs.«01_k».proof.Defs
public import proofs.«01_k».proof.Proof.Gen.RotRefIdeal.Read
public import proofs.«01_k».proof.Proof.Gen.RotRefIdeal.Run
public import proofs.«01_k».proof.Proof.Rot.Value

@[expose] public section

set_option maxRecDepth 16384

noncomputable section

open Idealize.ShloMosaic Idealize.ShloMosaic.TcCoe Idealize.SL.Sem

namespace Cert.RotRefIdeal.Val

open Cert.RotRefIdeal Cert.RotRefIdeal.Read Cert.RealArith Cert.RowPieces
open Cert.RotFwdIdeal.Val (rotated)
open Cert.Attn (cScale)

theorem rotated_lo (x : Fin 768 → EReal) (c s : Fin 32 → EReal) (l : ℕ) (h : l < 640) (hl : l % 64 < 32) (a b : Fin 768) (e : Fin 32)
    (ha : a.val = l) (hb : b.val = l + 32) (he : e.val = l % 32) : x a * c e - x b * s e = rotated x c s l h := by
  unfold rotated
  rw [if_pos hl]
  exact congrArg₂ (· - ·) (congrArg₂ (· * ·) (congrArg x (Fin.ext ha)) (congrArg c (Fin.ext he))) (congrArg₂ (· * ·) (congrArg x (Fin.ext hb)) (congrArg s (Fin.ext he)))

theorem rotated_hi (x : Fin 768 → EReal) (c s : Fin 32 → EReal) (l : ℕ) (h : l < 640) (hl : ¬ l % 64 < 32) (a b : Fin 768) (e : Fin 32)
    (ha : a.val = l) (hb : b.val = l - 32) (he : e.val = l % 32) : x a * c e + x b * s e = rotated x c s l h := by
  unfold rotated
  rw [if_neg hl]
  exact congrArg₂ (· + ·) (congrArg₂ (· * ·) (congrArg x (Fin.ext ha)) (congrArg c (Fin.ext he))) (congrArg₂ (· * ·) (congrArg x (Fin.ext hb)) (congrArg s (Fin.ext he)))

/-- Equal lanes give equal values. -/
theorem rotated_congr (x : Fin 768 → EReal) (c s : Fin 32 → EReal) {l l' : ℕ} (e : l = l') (h : l < 640) (h' : l' < 640) : rotated x c s l h = rotated x c s l' h' := by
  subst e
  rfl

variable (x0 : FVec Ideal S8192x768 .f32) (x1 : IVec S8192 32)

theorem v1_at (i : Fin 8192) (j : Fin 8) (d : Fin 64) : val_main_v1 (F := Ideal) x0 (ix3 i j d) = x0 (ix2 i ⟨64 * j.val + d.val, by omega⟩) := by
  rw [val_main_v1_apply, val_main_v0_apply]
  exact congrArg x0 (ix2_of (show (((i.val * 8 + j.val) * 64 + d.val) / 512) = i.val by omega) (show ((i.val * 8 + j.val) * 64 + d.val) % 512 = 64 * j.val + d.val by omega))

theorem v35_at (i : Fin 8192) (j : Fin 2) (d : Fin 64) : val_main_v35 (F := Ideal) x0 (ix3 i j d) = x0 (ix2 i ⟨512 + (64 * j.val + d.val), by omega⟩) := by
  rw [val_main_v35_apply, val_main_v34_apply]
  exact congrArg x0 (ix2_of (show (((i.val * 2 + j.val) * 64 + d.val) / 128) = i.val by omega) (show 512 + ((i.val * 2 + j.val) * 64 + d.val) % 128 = 512 + (64 * j.val + d.val) by omega))

theorem v31_at (i : Fin 8192) (j : Fin 8) (d : Fin 64) : val_main_v31 (F := Ideal) x0 x1 (ix3 i j d)
    = rotated (fun l => x0 (ix2 i l)) (fun e => val_main_v15 (F := Ideal) x1 (ix2 i e)) (fun e => val_main_v17 (F := Ideal) x1 (ix2 i e)) (64 * j.val + d.val) (by omega) := by
  have hv := v1_at x0
  unfold val_main_v31 val_main_v25 val_main_v30 val_main_v22 val_main_v24 val_main_v27 val_main_v29 val_main_v19 val_main_v20
  generalize val_main_v1 (F := Ideal) x0 = u at hv ⊢
  pointwise [val_main_v21, val_main_v23, val_main_v26, val_main_v28, val_main_v16, val_main_v18, hv]
  split_ifs with h
  · refine rotated_lo (fun l => x0 (ix2 i l)) (fun e => val_main_v15 (F := Ideal) x1 (ix2 i e)) (fun e => val_main_v17 (F := Ideal) x1 (ix2 i e)) _ _ (by omega) _ _ _ ?_ ?_ ?_ <;> simp only <;> omega
  · refine rotated_hi (fun l => x0 (ix2 i l)) (fun e => val_main_v15 (F := Ideal) x1 (ix2 i e)) (fun e => val_main_v17 (F := Ideal) x1 (ix2 i e)) _ _ (by omega) _ _ _ ?_ ?_ ?_ <;> simp only <;> omega
  · exact absurd rfl ‹_›

theorem v65_at (i : Fin 8192) (j : Fin 2) (d : Fin 64) : val_main_v65 (F := Ideal) x0 x1 (ix3 i j d)
    = rotated (fun l => x0 (ix2 i l)) (fun e => val_main_v15 (F := Ideal) x1 (ix2 i e)) (fun e => val_main_v17 (F := Ideal) x1 (ix2 i e)) (512 + (64 * j.val + d.val)) (by omega) := by
  have hv := v35_at x0
  have e49 : val_main_v49 (F := Ideal) x1 = val_main_v15 x1 := rfl
  have e51 : val_main_v51 (F := Ideal) x1 = val_main_v17 x1 := rfl
  unfold val_main_v65 val_main_v59 val_main_v64 val_main_v56 val_main_v58 val_main_v61 val_main_v63 val_main_v53 val_main_v54
  generalize val_main_v35 (F := Ideal) x0 = u at hv ⊢
  pointwise [val_main_v55, val_main_v57, val_main_v60, val_main_v62, val_main_v50, val_main_v52, e49, e51, hv]
  split_ifs with h
  · refine rotated_lo (fun l => x0 (ix2 i l)) (fun e => val_main_v15 (F := Ideal) x1 (ix2 i e)) (fun e => val_main_v17 (F := Ideal) x1 (ix2 i e)) _ _ (by omega) _ _ _ ?_ ?_ ?_ <;> simp only <;> omega
  · refine rotated_hi (fun l => x0 (ix2 i l)) (fun e => val_main_v15 (F := Ideal) x1 (ix2 i e)) (fun e => val_main_v17 (F := Ideal) x1 (ix2 i e)) _ _ (by omega) _ _ _ ?_ ?_ ?_ <;> simp only <;> omega
  · exact absurd rfl ‹_›

/-- A row's lane, rotated. -/
abbrev R (i : Fin 8192) (l : ℕ) (h : l < 640) : EReal :=
  rotated (fun l => x0 (ix2 i l)) (fun e => val_main_v15 (F := Ideal) x1 (ix2 i e)) (fun e => val_main_v17 (F := Ideal) x1 (ix2 i e)) l h

theorem v67_at (i : Fin 8192) (l : Fin 512) : val_main_v67 (F := Ideal) x0 x1 (ix2 i l) = R x0 x1 i l.val (by omega) * cScale := by
  have hl := l.isLt
  have e : idx_main_v66 (ix2 i l) = ix3 i ⟨l.val / 64, by omega⟩ ⟨l.val % 64, by omega⟩ :=
    Cert.AttnRefIdeal.Val.ix3_of (show (i.val * 512 + l.val) / 512 = i.val by omega) (show (i.val * 512 + l.val) / 64 % 8 = l.val / 64 by omega)
      (show (i.val * 512 + l.val) % 64 = l.val % 64 by omega)
  show val_main_v66 (F := Ideal) x0 x1 (ix2 i l) = _
  rw [val_main_v66_apply, e]
  exact congrArg (· * cScale) ((v31_at x0 x1 i _ _).trans (rotated_congr _ _ _ (show 64 * (l.val / 64) + l.val % 64 = l.val by omega) _ _))

theorem v69_at (i : Fin 8192) (l : Fin 128) : val_main_v69 (F := Ideal) x0 x1 (ix2 i l) = R x0 x1 i (512 + l.val) (by omega) := by
  have hl := l.isLt
  have e : idx_main_v68 (ix2 i l) = ix3 i ⟨l.val / 64, by omega⟩ ⟨l.val % 64, by omega⟩ :=
    Cert.AttnRefIdeal.Val.ix3_of (show (i.val * 128 + l.val) / 128 = i.val by omega) (show (i.val * 128 + l.val) / 64 % 2 = l.val / 64 by omega)
      (show (i.val * 128 + l.val) % 64 = l.val % 64 by omega)
  show val_main_v68 (F := Ideal) x0 x1 (ix2 i l) = _
  rw [val_main_v68_apply, e]
  exact (v65_at x0 x1 i _ _).trans (rotated_congr _ _ _ (show 512 + (64 * (l.val / 64) + l.val % 64) = 512 + l.val by omega) _ _)

theorem v71_at (i : Fin 8192) (l : Fin 128) : val_main_v71 (F := Ideal) x0 (ix2 i l) = x0 (ix2 i ⟨640 + l.val, by omega⟩) := by
  pointwise [val_main_v70, val_main_v71]

end Cert.RotRefIdeal.Val

namespace Cert.Proof.Rot

section
open Cert.RotRefIdeal Cert.RotRefIdeal.Read

variable (m : (ℓ : Loc Cert.RotRefIdeal.nD Cert.RotRefIdeal.τ Cert.RotRefIdeal.sig) → Buf (Elt Ideal) ℓ)

/-- The reference leaves its results' stages. -/
theorem ref_run (ρ : Dev Cert.RotRefIdeal.nD → PrngReg) :
    θ_run (Cert.RotRefIdeal.defs (F := Ideal)) (onTc (τ := Cert.RotRefIdeal.τ) (Cert.RotRefIdeal.main (F := Ideal))) ⟨m, fun _ => 0, ρ⟩ fun r => ∀ c : Dev Cert.RotRefIdeal.nD,
      r.2.mem ((c.tc : Thread nD τ).loc main_v67) = val_main_v67 (F := Ideal) (m ((c.tc : Thread nD τ).loc main_arg0)) (m ((c.tc : Thread nD τ).loc main_arg1))
      ∧ r.2.mem ((c.tc : Thread nD τ).loc main_v69) = val_main_v69 (F := Ideal) (m ((c.tc : Thread nD τ).loc main_arg0)) (m ((c.tc : Thread nD τ).loc main_arg1))
      ∧ r.2.mem ((c.tc : Thread nD τ).loc main_v71) = val_main_v71 (F := Ideal) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => by
    obtain ⟨r0, r1, r2, ha⟩ := h c
    exact ⟨r0.trans (val_main_v67_eq _ _), r1.trans (val_main_v69_eq _ _), r2.trans (val_main_v71_eq _), ha⟩)
    (Cert.RotRefIdeal.Value.run m ρ)

end

theorem frame_reference : Cert.quiescent_RotRefIdeal := fun m ρ _ =>
  (θ_run Cert.RotRefIdeal.defs _ _).mono (fun r h => ⟨fun c => (h c).2.2.2, sem_eq_zero_of_no_sems (by decide) r.2⟩)
    (Cert.RotRefIdeal.Value.run (F := Ideal) m ρ)

/-- The mask's word is read as minus infinity. -/
theorem preserves : Cert.preserves_RotFwd_RotFwdIdeal :=
  IdealRules.named_const.statement Cert.RotFwdIdeal.κ "mask" .f32 0xF149F2CA#32 ⊥ rfl

section
open Cert.RotFwdIdeal Cert.RotFwdIdeal.Val Cert.RotFwdIdeal.Gen Cert.RowPieces

theorem algebraic : Cert.algebraic_RotFwdIdeal_RotRefIdeal := by
  pair_intro
  · run_from Cert.RotFwdIdeal.Value.run_blocks m g
  · run_from ref_run m' g'
    · rw [final8]
      funext q
      exact (congrArg _ (ix2_eta q).symm).trans (Cert.RotRefIdeal.Val.v67_at _ _ (q 0) (q 1))
    · rw [final9]
      funext q
      exact (congrArg _ (ix2_eta q).symm).trans (Cert.RotRefIdeal.Val.v69_at _ _ (q 0) (q 1))
    · rw [final10]
      funext q
      exact (congrArg _ (ix2_eta q).symm).trans (Cert.RotRefIdeal.Val.v71_at _ (q 0) (q 1))

end

end Cert.Proof.Rot

end
-- ==== Proof.lean ====
module

public import proofs.«01_k».proof.Defs
public import proofs.«01_k».proof.Proof.Gen.PreBwd
public import proofs.«01_k».proof.Proof.Gen.PreBwd.Skeleton
public import proofs.«01_k».proof.Proof.Gen.PreBwd.Launch
public import proofs.«01_k».proof.Proof.Gen.PreBwd.Points
public import proofs.«01_k».proof.Proof.Gen.PreBwd.Frame
public import proofs.«01_k».proof.Proof.Gen.PreBwdIdeal
public import proofs.«01_k».proof.Proof.Gen.PreBwdIdeal.Skeleton
public import proofs.«01_k».proof.Proof.Gen.PreBwdIdeal.Launch
public import proofs.«01_k».proof.Proof.Gen.PreBwdIdeal.Points
public import proofs.«01_k».proof.Proof.Gen.PreBwdIdeal.Frame
public import proofs.«01_k».proof.Proof.Gen.PreRefIdeal
public import proofs.«01_k».proof.Proof.Gen.Pre_finite_pre
public import proofs.«01_k».proof.Proof.Gen.PreBwdIdeal.Value
public import proofs.«01_k».proof.Proof.Gen.MixBwd
public import proofs.«01_k».proof.Proof.Gen.MixBwd.Frame
public import proofs.«01_k».proof.Proof.Gen.MixBwdIdeal
public import proofs.«01_k».proof.Proof.Gen.MixBwdIdeal.Frame
public import proofs.«01_k».proof.Proof.Gen.MixRefIdeal
public import proofs.«01_k».proof.Proof.Gen.Pre_finite_mix
public import proofs.«01_k».proof.Proof.Gen.FfnBwd
public import proofs.«01_k».proof.Proof.Gen.FfnBwd.Frame
public import proofs.«01_k».proof.Proof.Gen.FfnBwdIdeal
public import proofs.«01_k».proof.Proof.Gen.FfnBwdIdeal.Frame
public import proofs.«01_k».proof.Proof.Gen.FfnRefIdeal
public import proofs.«01_k».proof.Proof.Gen.Pre_finite_ffn
public import proofs.«01_k».proof.Proof.Gen.PreRefIdeal.Run
public import proofs.«01_k».proof.Proof.Gen.PreRefIdeal.Read
public import proofs.«01_k».proof.Proof.Gen.FfnRefIdeal.Read
public import proofs.«01_k».proof.Proof.Gen.FfnRefIdeal.Run
public import proofs.«01_k».proof.Proof.Gen.FfnBwdIdeal.Value
public import proofs.«01_k».proof.Proof.Gen.MixRefIdeal.Read
public import proofs.«01_k».proof.Proof.Gen.MixRefIdeal.Run
public import proofs.«01_k».proof.Proof.Gen.AttnBwd
public import proofs.«01_k».proof.Proof.Gen.AttnBwd.Frame
public import proofs.«01_k».proof.Proof.Gen.AttnBwdIdeal
public import proofs.«01_k».proof.Proof.Gen.AttnBwdIdeal.Frame
public import proofs.«01_k».proof.Proof.Gen.AttnRefIdeal
public import proofs.«01_k».proof.Proof.Gen.Pre_finite_attn
public import proofs.«01_k».proof.Proof.Gen.AttnRefIdeal.Read
public import proofs.«01_k».proof.Proof.Gen.AttnRefIdeal.Run
public import proofs.«01_k».proof.Proof.Gen.MlstmBwd
public import proofs.«01_k».proof.Proof.Gen.MlstmBwd.Frame
public import proofs.«01_k».proof.Proof.Gen.MlstmBwdIdeal
public import proofs.«01_k».proof.Proof.Gen.MlstmBwdIdeal.Frame
public import proofs.«01_k».proof.Proof.Gen.MixedFwd
public import proofs.«01_k».proof.Proof.Gen.MixedFwd.Frame
public import proofs.«01_k».proof.Proof.Gen.MixedFwdIdeal
public import proofs.«01_k».proof.Proof.Gen.MixedFwdIdeal.Frame
public import proofs.«01_k».proof.Proof.Gen.MixedFwdIdeal.Value
public import proofs.«01_k».proof.Proof.Gen.MixedRefIdeal
public import proofs.«01_k».proof.Proof.Gen.MixedRefIdeal.Read
public import proofs.«01_k».proof.Proof.Gen.MixedRefIdeal.Run
public import proofs.«01_k».proof.Proof.Gen.ProjFwd
public import proofs.«01_k».proof.Proof.Gen.ProjFwd.Frame
public import proofs.«01_k».proof.Proof.Gen.ProjFwdIdeal
public import proofs.«01_k».proof.Proof.Gen.ProjFwdIdeal.Frame
public import proofs.«01_k».proof.Proof.Gen.ProjFwdIdeal.Value
public import proofs.«01_k».proof.Proof.Gen.ProjRefIdeal
public import proofs.«01_k».proof.Proof.Gen.ProjRefIdeal.Read
public import proofs.«01_k».proof.Proof.Gen.ProjRefIdeal.Run
public import proofs.«01_k».proof.Proof.Gen.RotFwd
public import proofs.«01_k».proof.Proof.Gen.RotFwd.Frame
public import proofs.«01_k».proof.Proof.Gen.RotFwdIdeal
public import proofs.«01_k».proof.Proof.Gen.RotFwdIdeal.Frame
public import proofs.«01_k».proof.Proof.Gen.RotFwdIdeal.Value
public import proofs.«01_k».proof.Proof.Gen.RotRefIdeal
public import proofs.«01_k».proof.Proof.Gen.RotRefIdeal.Read
public import proofs.«01_k».proof.Proof.Gen.RotRefIdeal.Run
public import proofs.«01_k».proof.Proof.Pre.Claim
public import proofs.«01_k».proof.Proof.Mix.Claim
public import proofs.«01_k».proof.Proof.Ffn.Claim
public import proofs.«01_k».proof.Proof.Attn.Claim
public import proofs.«01_k».proof.Proof.Mixed.Claim
public import proofs.«01_k».proof.Proof.Proj.Claim
public import proofs.«01_k».proof.Proof.Rot.Claim
public import Idealize.ShloMosaic.Adequacy
public import Idealize.ShloMosaic.Init

@[expose] public section

noncomputable section

namespace Cert.Proof

open Idealize.ShloMosaic Idealize.SL.Sem Cert.PreBwd

theorem claim : Cert.Claim := ⟨Cert.PreBwd.Gen.facts, Cert.PreBwdIdeal.Gen.facts, Cert.PreRefIdeal.Gen.facts,
  Cert.MixBwd.Gen.facts, Cert.MixBwdIdeal.Gen.facts, Cert.MixRefIdeal.Gen.facts,
  Cert.FfnBwd.Gen.facts, Cert.FfnBwdIdeal.Gen.facts, Cert.FfnRefIdeal.Gen.facts,
  Cert.AttnBwd.Gen.facts, Cert.AttnBwdIdeal.Gen.facts, Cert.AttnRefIdeal.Gen.facts,
  Cert.MlstmBwd.Gen.facts, Cert.MlstmBwdIdeal.Gen.facts,
  Cert.MixedFwd.Gen.facts, Cert.MixedFwdIdeal.Gen.facts, Cert.MixedRefIdeal.Gen.facts,
  Cert.ProjFwd.Gen.facts, Cert.ProjFwdIdeal.Gen.facts, Cert.ProjRefIdeal.Gen.facts,
  Cert.RotFwd.Gen.facts, Cert.RotFwdIdeal.Gen.facts, Cert.RotRefIdeal.Gen.facts,
  Cert.Pre_finite_pre.Gen.facts, Cert.Pre_finite_mix.Gen.facts, Cert.Pre_finite_ffn.Gen.facts, Cert.Pre_finite_attn.Gen.facts,
  fun m ρ _ => Cert.PreBwd.Gen.frame m ρ, fun m ρ _ => Cert.PreBwdIdeal.Gen.frame m ρ, fun m ρ _ => Cert.PreBwdIdeal.Gen.frame m ρ,
  Pre.frame_reference, fun m ρ _ => Pre.frame_reference m ρ ⟨⟩,
  fun m ρ _ => Cert.MixBwd.Gen.frame m ρ, fun m ρ _ => Cert.MixBwdIdeal.Gen.frame m ρ, fun m ρ _ => Cert.MixBwdIdeal.Gen.frame m ρ,
  Mix.frame_reference, fun m ρ _ => Mix.frame_reference m ρ ⟨⟩,
  fun m ρ _ => Cert.FfnBwd.Gen.frame m ρ, fun m ρ _ => Cert.FfnBwdIdeal.Gen.frame m ρ, fun m ρ _ => Cert.FfnBwdIdeal.Gen.frame m ρ,
  Ffn.frame_reference, fun m ρ _ => Ffn.frame_reference m ρ ⟨⟩,
  fun m ρ _ => Cert.AttnBwd.Gen.frame m ρ, fun m ρ _ => Cert.AttnBwdIdeal.Gen.frame m ρ, fun m ρ _ => Cert.AttnBwdIdeal.Gen.frame m ρ,
  Attn.frame_reference, fun m ρ _ => Attn.frame_reference m ρ ⟨⟩,
  fun m ρ _ => Cert.MlstmBwd.Gen.frame m ρ, fun m ρ _ => Cert.MlstmBwdIdeal.Gen.frame m ρ,
  fun m ρ _ => Cert.MixedFwd.Gen.frame m ρ, fun m ρ _ => Cert.MixedFwdIdeal.Gen.frame m ρ, Mixed.frame_reference,
  fun m ρ _ => Cert.ProjFwd.Gen.frame m ρ, fun m ρ _ => Cert.ProjFwdIdeal.Gen.frame m ρ, Proj.frame_reference,
  fun m ρ _ => Cert.RotFwd.Gen.frame m ρ, fun m ρ _ => Cert.RotFwdIdeal.Gen.frame m ρ, Rot.frame_reference,
  trivial, Pre.algebraic, trivial, Mix.algebraic, trivial, Ffn.algebraic, Attn.preserves, Attn.algebraic,
  Idealize.ShloMosaic.IdealRules.named_const.statement Cert.MlstmBwdIdeal.κ "mask" .f32 0xF149F2CA#32 ⊥ rfl,
  trivial, Mixed.algebraic, trivial, Proj.algebraic, Rot.preserves, Rot.algebraic⟩

end Cert.Proof

end
